-- ==== Defs.lean ====
def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_attn_finite [hPre_attn_finite : Cert.Pre_attn_finite.Facts] (m : (ℓ : Loc Cert.AttnIdeal.nD Cert.AttnIdeal.τ Cert.AttnIdeal.sig) → Buf (Elt Ideal) ℓ) : Prop :=
  ∀ c : Dev Cert.AttnIdeal.nD,
    (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_attn_finite [hPre_attn_finite : Cert.Pre_attn_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))) = (fun _ => 1#1)

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdIdeal_forward_finite [hPre_forward_finite : Cert.Pre_forward_finite.Facts] (m : (ℓ : Loc Cert.AttnFwdIdeal.nD Cert.AttnFwdIdeal.τ Cert.AttnFwdIdeal.sig) → Buf (Elt Ideal) ℓ) : Prop :=
  ∀ c : Dev Cert.AttnFwdIdeal.nD,
    (Cert.Pre_forward_finite.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2)) (m ((c.tc : Thread Cert.AttnFwdIdeal.nD Cert.AttnFwdIdeal.τ).loc Cert.AttnFwdIdeal.main_arg3))) = (fun _ => 1#1)

def Pre_AttnFwdRefIdeal (m : (ℓ : Loc Cert.AttnFwdRefIdeal.nD Cert.AttnFwdRefIdeal.τ Cert.AttnFwdRefIdeal.sig) → Buf (Elt Ideal) ℓ) : Prop :=
  True

def Pre_AttnFwdRefIdeal_forward_finite [hPre_forward_finite : Cert.Pre_forward_finite.Facts] (m : (ℓ : Loc Cert.AttnFwdRefIdeal.nD Cert.AttnFwdRefIdeal.τ Cert.AttnFwdRefIdeal.sig) → Buf (Elt Ideal) ℓ) : Prop :=
  ∀ c : Dev Cert.AttnFwdRefIdeal.nD,
    (Cert.Pre_forward_finite.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2)) (m ((c.tc : Thread Cert.AttnFwdRefIdeal.nD Cert.AttnFwdRefIdeal.τ).loc Cert.AttnFwdRefIdeal.main_arg3))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjIdeal_inproj_finite [hPre_inproj_finite : Cert.Pre_inproj_finite.Facts] (m : (ℓ : Loc Cert.InProjIdeal.nD Cert.InProjIdeal.τ Cert.InProjIdeal.sig) → Buf (Elt Ideal) ℓ) : Prop :=
  ∀ c : Dev Cert.InProjIdeal.nD,
    (Cert.Pre_inproj_finite.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3)) (m ((c.tc : Thread Cert.InProjIdeal.nD Cert.InProjIdeal.τ).loc Cert.InProjIdeal.main_arg4))) = (fun _ => 1#1)

def Pre_InProjRefIdeal (m : (ℓ : Loc Cert.InProjRefIdeal.nD Cert.InProjRefIdeal.τ Cert.InProjRefIdeal.sig) → Buf (Elt Ideal) ℓ) : Prop :=
  True

def Pre_InProjRefIdeal_inproj_finite [hPre_inproj_finite : Cert.Pre_inproj_finite.Facts] (m : (ℓ : Loc Cert.InProjRefIdeal.nD Cert.InProjRefIdeal.τ Cert.InProjRefIdeal.sig) → Buf (Elt Ideal) ℓ) : Prop :=
  ∀ c : Dev Cert.InProjRefIdeal.nD,
    (Cert.Pre_inproj_finite.fn (F := Ideal) (m ((c.tc : Thread Cert.InProjRefIdeal.nD Cert.InProjRefIdeal.τ).loc Cert.InProjRefIdeal.main_arg0)) (m ((c.tc : Thread Cert.InProjRefIdeal.nD Cert.InProjRefIdeal.τ).loc Cert.InProjRefIdeal.main_arg1)) (m ((c.tc : Thread Cert.InProjRefIdeal.nD Cert.InProjRefIdeal.τ).loc Cert.InProjRefIdeal.main_arg2)) (m ((c.tc : Thread Cert.InProjRefIdeal.nD Cert.InProjRefIdeal.τ).loc Cert.InProjRefIdeal.main_arg3)) (m ((c.tc : Thread Cert.InProjRefIdeal.nD Cert.InProjRefIdeal.τ).loc Cert.InProjRefIdeal.main_arg4))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_ffn_finite [hPre_ffn_finite : Cert.Pre_ffn_finite.Facts] (m : (ℓ : Loc Cert.FfnIdeal.nD Cert.FfnIdeal.τ Cert.FfnIdeal.sig) → Buf (Elt Ideal) ℓ) : Prop :=
  ∀ c : Dev Cert.FfnIdeal.nD,
    (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4))) = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_ffn_finite [hPre_ffn_finite : Cert.Pre_ffn_finite.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4))) = (fun _ => 1#1)

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostIdeal_post_finite [hPre_post_finite : Cert.Pre_post_finite.Facts] (m : (ℓ : Loc Cert.PostIdeal.nD Cert.PostIdeal.τ Cert.PostIdeal.sig) → Buf (Elt Ideal) ℓ) : Prop :=
  ∀ c : Dev Cert.PostIdeal.nD,
    (Cert.Pre_post_finite.fn (F := Ideal) (m ((c.tc : Thread Cert.PostIdeal.nD Cert.PostIdeal.τ).loc Cert.PostIdeal.main_arg0)) (m ((c.tc : Thread Cert.PostIdeal.nD Cert.PostIdeal.τ).loc Cert.PostIdeal.main_arg1)) (m ((c.tc : Thread Cert.PostIdeal.nD Cert.PostIdeal.τ).loc Cert.PostIdeal.main_arg2)) (m ((c.tc : Thread Cert.PostIdeal.nD Cert.PostIdeal.τ).loc Cert.PostIdeal.main_arg3)) (m ((c.tc : Thread Cert.PostIdeal.nD Cert.PostIdeal.τ).loc Cert.PostIdeal.main_arg4)) (m ((c.tc : Thread Cert.PostIdeal.nD Cert.PostIdeal.τ).loc Cert.PostIdeal.main_arg5)) (m ((c.tc : Thread Cert.PostIdeal.nD Cert.PostIdeal.τ).loc Cert.PostIdeal.main_arg6)) (m ((c.tc : Thread Cert.PostIdeal.nD Cert.PostIdeal.τ).loc Cert.PostIdeal.main_arg7)) (m ((c.tc : Thread Cert.PostIdeal.nD Cert.PostIdeal.τ).loc Cert.PostIdeal.main_arg8))) = (fun _ => 1#1)

def Pre_PostRefIdeal (m : (ℓ : Loc Cert.PostRefIdeal.nD Cert.PostRefIdeal.τ Cert.PostRefIdeal.sig) → Buf (Elt Ideal) ℓ) : Prop :=
  True

def Pre_PostRefIdeal_post_finite [hPre_post_finite : Cert.Pre_post_finite.Facts] (m : (ℓ : Loc Cert.PostRefIdeal.nD Cert.PostRefIdeal.τ Cert.PostRefIdeal.sig) → Buf (Elt Ideal) ℓ) : Prop :=
  ∀ c : Dev Cert.PostRefIdeal.nD,
    (Cert.Pre_post_finite.fn (F := Ideal) (m ((c.tc : Thread Cert.PostRefIdeal.nD Cert.PostRefIdeal.τ).loc Cert.PostRefIdeal.main_arg0)) (m ((c.tc : Thread Cert.PostRefIdeal.nD Cert.PostRefIdeal.τ).loc Cert.PostRefIdeal.main_arg1)) (m ((c.tc : Thread Cert.PostRefIdeal.nD Cert.PostRefIdeal.τ).loc Cert.PostRefIdeal.main_arg2)) (m ((c.tc : Thread Cert.PostRefIdeal.nD Cert.PostRefIdeal.τ).loc Cert.PostRefIdeal.main_arg3)) (m ((c.tc : Thread Cert.PostRefIdeal.nD Cert.PostRefIdeal.τ).loc Cert.PostRefIdeal.main_arg4)) (m ((c.tc : Thread Cert.PostRefIdeal.nD Cert.PostRefIdeal.τ).loc Cert.PostRefIdeal.main_arg5)) (m ((c.tc : Thread Cert.PostRefIdeal.nD Cert.PostRefIdeal.τ).loc Cert.PostRefIdeal.main_arg6)) (m ((c.tc : Thread Cert.PostRefIdeal.nD Cert.PostRefIdeal.τ).loc Cert.PostRefIdeal.main_arg7)) (m ((c.tc : Thread Cert.PostRefIdeal.nD Cert.PostRefIdeal.τ).loc Cert.PostRefIdeal.main_arg8))) = (fun _ => 1#1)

def Pre_InFwd (m : (ℓ : Loc Cert.InFwd.nD Cert.InFwd.τ Cert.InFwd.sig) → Buf (Elt Bits) ℓ) : Prop :=
  True

def Pre_InFwdIdeal (m : (ℓ : Loc Cert.InFwdIdeal.nD Cert.InFwdIdeal.τ Cert.InFwdIdeal.sig) → Buf (Elt Ideal) ℓ) : Prop :=
  True

def Pre_InFwdRefIdeal (m : (ℓ : Loc Cert.InFwdRefIdeal.nD Cert.InFwdRefIdeal.τ Cert.InFwdRefIdeal.sig) → Buf (Elt Ideal) ℓ) : Prop :=
  True

def Pre_FfnFwd (m : (ℓ : Loc Cert.FfnFwd.nD Cert.FfnFwd.τ Cert.FfnFwd.sig) → Buf (Elt Bits) ℓ) : Prop :=
  True

def Pre_FfnFwdIdeal (m : (ℓ : Loc Cert.FfnFwdIdeal.nD Cert.FfnFwdIdeal.τ Cert.FfnFwdIdeal.sig) → Buf (Elt Ideal) ℓ) : Prop :=
  True

def Pre_FfnFwdRefIdeal (m : (ℓ : Loc Cert.FfnFwdRefIdeal.nD Cert.FfnFwdRefIdeal.τ Cert.FfnFwdRefIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def Pre_Wgrad (m : (ℓ : Loc Cert.Wgrad.nD Cert.Wgrad.τ Cert.Wgrad.sig) → Buf (Elt Bits) ℓ) : Prop :=
  True

def Pre_WgradIdeal (m : (ℓ : Loc Cert.WgradIdeal.nD Cert.WgradIdeal.τ Cert.WgradIdeal.sig) → Buf (Elt Ideal) ℓ) : Prop :=
  True

def Pre_WgradRefIdeal (m : (ℓ : Loc Cert.WgradRefIdeal.nD Cert.WgradRefIdeal.τ Cert.WgradRefIdeal.sig) → Buf (Elt Ideal) ℓ) : Prop :=
  True

def Pre_Total (m : (ℓ : Loc Cert.Total.nD Cert.Total.τ Cert.Total.sig) → Buf (Elt Bits) ℓ) : Prop :=
  True

def Pre_TotalIdeal (m : (ℓ : Loc Cert.TotalIdeal.nD Cert.TotalIdeal.τ Cert.TotalIdeal.sig) → Buf (Elt Ideal) ℓ) : Prop :=
  True

def Pre_TotalRefIdeal (m : (ℓ : Loc Cert.TotalRefIdeal.nD Cert.TotalRefIdeal.τ Cert.TotalRefIdeal.sig) → Buf (Elt Ideal) ℓ) : Prop :=
  True

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepRefIdeal (m : (ℓ : Loc Cert.PrepRefIdeal.nD Cert.PrepRefIdeal.τ Cert.PrepRefIdeal.sig) → Buf (Elt Ideal) ℓ) : Prop :=
  True

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnIdeal_pre_attn_finite [hAttnIdeal : Cert.AttnIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_attn_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_AttnRefIdeal_pre_attn_finite [hAttnRefIdeal : Cert.AttnRefIdeal.Facts] [hPre_attn_finite : Cert.Pre_attn_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_attn_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1)
      ∧ r.2.mem ((c.tc : Thread Cert.AttnFwd.nD Cert.AttnFwd.τ).loc Cert.AttnFwd.main_arg2) = m ((c.tc : Thread Cert.AttnFwd.nD Cert.AttnFwd.τ).loc Cert.AttnFwd.main_arg2)
      ∧ r.2.mem ((c.tc : Thread Cert.AttnFwd.nD Cert.AttnFwd.τ).loc Cert.AttnFwd.main_arg3) = m ((c.tc : Thread Cert.AttnFwd.nD Cert.AttnFwd.τ).loc Cert.AttnFwd.main_arg3))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2)
      ∧ r.2.mem ((c.tc : Thread Cert.AttnFwdIdeal.nD Cert.AttnFwdIdeal.τ).loc Cert.AttnFwdIdeal.main_arg3) = m ((c.tc : Thread Cert.AttnFwdIdeal.nD Cert.AttnFwdIdeal.τ).loc Cert.AttnFwdIdeal.main_arg3))
      ∧ r.2.sem = fun _ => 0)

def quiescent_AttnFwdIdeal_pre_forward_finite [hAttnFwdIdeal : Cert.AttnFwdIdeal.Facts] [hPre_forward_finite : Cert.Pre_forward_finite.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal_forward_finite m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2)
      ∧ r.2.mem ((c.tc : Thread Cert.AttnFwdIdeal.nD Cert.AttnFwdIdeal.τ).loc Cert.AttnFwdIdeal.main_arg3) = m ((c.tc : Thread Cert.AttnFwdIdeal.nD Cert.AttnFwdIdeal.τ).loc Cert.AttnFwdIdeal.main_arg3))
      ∧ r.2.sem = fun _ => 0)

def quiescent_AttnFwdRefIdeal [hAttnFwdRefIdeal : Cert.AttnFwdRefIdeal.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2)
      ∧ r.2.mem ((c.tc : Thread Cert.AttnFwdRefIdeal.nD Cert.AttnFwdRefIdeal.τ).loc Cert.AttnFwdRefIdeal.main_arg3) = m ((c.tc : Thread Cert.AttnFwdRefIdeal.nD Cert.AttnFwdRefIdeal.τ).loc Cert.AttnFwdRefIdeal.main_arg3))
      ∧ r.2.sem = fun _ => 0)

def quiescent_AttnFwdRefIdeal_pre_forward_finite [hAttnFwdRefIdeal : Cert.AttnFwdRefIdeal.Facts] [hPre_forward_finite : Cert.Pre_forward_finite.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal_forward_finite m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2)
      ∧ r.2.mem ((c.tc : Thread Cert.AttnFwdRefIdeal.nD Cert.AttnFwdRefIdeal.τ).loc Cert.AttnFwdRefIdeal.main_arg3) = m ((c.tc : Thread Cert.AttnFwdRefIdeal.nD Cert.AttnFwdRefIdeal.τ).loc Cert.AttnFwdRefIdeal.main_arg3))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ r.2.sem = fun _ => 0)

def quiescent_InProjIdeal_pre_inproj_finite [hInProjIdeal : Cert.InProjIdeal.Facts] [hPre_inproj_finite : Cert.Pre_inproj_finite.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal_inproj_finite m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4))
      ∧ r.2.sem = fun _ => 0)

def quiescent_InProjRefIdeal_pre_inproj_finite [hInProjRefIdeal : Cert.InProjRefIdeal.Facts] [hPre_inproj_finite : Cert.Pre_inproj_finite.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal_inproj_finite m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnIdeal_pre_ffn_finite [hFfnIdeal : Cert.FfnIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_ffn_finite m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_FfnRefIdeal_pre_ffn_finite [hFfnRefIdeal : Cert.FfnRefIdeal.Facts] [hPre_ffn_finite : Cert.Pre_ffn_finite.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_ffn_finite m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4)
      ∧ r.2.mem ((c.tc : Thread Cert.Post.nD Cert.Post.τ).loc Cert.Post.main_arg5) = m ((c.tc : Thread Cert.Post.nD Cert.Post.τ).loc Cert.Post.main_arg5)
      ∧ r.2.mem ((c.tc : Thread Cert.Post.nD Cert.Post.τ).loc Cert.Post.main_arg6) = m ((c.tc : Thread Cert.Post.nD Cert.Post.τ).loc Cert.Post.main_arg6)
      ∧ r.2.mem ((c.tc : Thread Cert.Post.nD Cert.Post.τ).loc Cert.Post.main_arg7) = m ((c.tc : Thread Cert.Post.nD Cert.Post.τ).loc Cert.Post.main_arg7)
      ∧ r.2.mem ((c.tc : Thread Cert.Post.nD Cert.Post.τ).loc Cert.Post.main_arg8) = m ((c.tc : Thread Cert.Post.nD Cert.Post.τ).loc Cert.Post.main_arg8))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
      ∧ r.2.mem ((c.tc : Thread Cert.PostIdeal.nD Cert.PostIdeal.τ).loc Cert.PostIdeal.main_arg8) = m ((c.tc : Thread Cert.PostIdeal.nD Cert.PostIdeal.τ).loc Cert.PostIdeal.main_arg8))
      ∧ r.2.sem = fun _ => 0)

def quiescent_PostIdeal_pre_post_finite [hPostIdeal : Cert.PostIdeal.Facts] [hPre_post_finite : Cert.Pre_post_finite.Facts] : Prop :=
  ∀ (m : (ℓ : Loc Cert.PostIdeal.nD Cert.PostIdeal.τ Cert.PostIdeal.sig) → Buf (Elt Ideal) ℓ) (g : Dev Cert.PostIdeal.nD → PrngReg), Pre_PostIdeal_post_finite m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
      ∧ r.2.mem ((c.tc : Thread Cert.PostIdeal.nD Cert.PostIdeal.τ).loc Cert.PostIdeal.main_arg8) = m ((c.tc : Thread Cert.PostIdeal.nD Cert.PostIdeal.τ).loc Cert.PostIdeal.main_arg8))
      ∧ r.2.sem = fun _ => 0)

def quiescent_PostRefIdeal [hPostRefIdeal : Cert.PostRefIdeal.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5)
      ∧ r.2.mem ((c.tc : Thread Cert.PostRefIdeal.nD Cert.PostRefIdeal.τ).loc Cert.PostRefIdeal.main_arg6) = m ((c.tc : Thread Cert.PostRefIdeal.nD Cert.PostRefIdeal.τ).loc Cert.PostRefIdeal.main_arg6)
      ∧ r.2.mem ((c.tc : Thread Cert.PostRefIdeal.nD Cert.PostRefIdeal.τ).loc Cert.PostRefIdeal.main_arg7) = m ((c.tc : Thread Cert.PostRefIdeal.nD Cert.PostRefIdeal.τ).loc Cert.PostRefIdeal.main_arg7)
      ∧ r.2.mem ((c.tc : Thread Cert.PostRefIdeal.nD Cert.PostRefIdeal.τ).loc Cert.PostRefIdeal.main_arg8) = m ((c.tc : Thread Cert.PostRefIdeal.nD Cert.PostRefIdeal.τ).loc Cert.PostRefIdeal.main_arg8))
      ∧ r.2.sem = fun _ => 0)

def quiescent_PostRefIdeal_pre_post_finite [hPostRefIdeal : Cert.PostRefIdeal.Facts] [hPre_post_finite : Cert.Pre_post_finite.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal_post_finite m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5)
      ∧ r.2.mem ((c.tc : Thread Cert.PostRefIdeal.nD Cert.PostRefIdeal.τ).loc Cert.PostRefIdeal.main_arg6) = m ((c.tc : Thread Cert.PostRefIdeal.nD Cert.PostRefIdeal.τ).loc Cert.PostRefIdeal.main_arg6)
      ∧ r.2.mem ((c.tc : Thread Cert.PostRefIdeal.nD Cert.PostRefIdeal.τ).loc Cert.PostRefIdeal.main_arg7) = m ((c.tc : Thread Cert.PostRefIdeal.nD Cert.PostRefIdeal.τ).loc Cert.PostRefIdeal.main_arg7)
      ∧ r.2.mem ((c.tc : Thread Cert.PostRefIdeal.nD Cert.PostRefIdeal.τ).loc Cert.PostRefIdeal.main_arg8) = m ((c.tc : Thread Cert.PostRefIdeal.nD Cert.PostRefIdeal.τ).loc Cert.PostRefIdeal.main_arg8))
      ∧ r.2.sem = fun _ => 0)

def quiescent_InFwd [hInFwd : Cert.InFwd.Facts] : Prop :=
  ∀ (m : (ℓ : Loc Cert.InFwd.nD Cert.InFwd.τ Cert.InFwd.sig) → Buf (Elt Bits) ℓ) (g : Dev Cert.InFwd.nD → PrngReg), Pre_InFwd m →
    θ_run (Cert.InFwd.defs (F := Bits)) (onTc (τ := Cert.InFwd.τ) (Cert.InFwd.main (F := Bits))) ⟨m, fun _ => 0, g⟩ (fun r => (∀ c : Dev Cert.InFwd.nD,
      r.2.mem ((c.tc : Thread Cert.InFwd.nD Cert.InFwd.τ).loc Cert.InFwd.main_arg0) = m ((c.tc : Thread Cert.InFwd.nD Cert.InFwd.τ).loc Cert.InFwd.main_arg0)
      ∧ r.2.mem ((c.tc : Thread Cert.InFwd.nD Cert.InFwd.τ).loc Cert.InFwd.main_arg1) = m ((c.tc : Thread Cert.InFwd.nD Cert.InFwd.τ).loc Cert.InFwd.main_arg1)
      ∧ r.2.mem ((c.tc : Thread Cert.InFwd.nD Cert.InFwd.τ).loc Cert.InFwd.main_arg2) = m ((c.tc : Thread Cert.InFwd.nD Cert.InFwd.τ).loc Cert.InFwd.main_arg2))
      ∧ r.2.sem = fun _ => 0)

def quiescent_InFwdIdeal [hInFwdIdeal : Cert.InFwdIdeal.Facts] : Prop :=
  ∀ (m : (ℓ : Loc Cert.InFwdIdeal.nD Cert.InFwdIdeal.τ Cert.InFwdIdeal.sig) → Buf (Elt Ideal) ℓ) (g : Dev Cert.InFwdIdeal.nD → PrngReg), Pre_InFwdIdeal m →
    θ_run (Cert.InFwdIdeal.defs (F := Ideal)) (onTc (τ := Cert.InFwdIdeal.τ) (Cert.InFwdIdeal.main (F := Ideal))) ⟨m, fun _ => 0, g⟩ (fun r => (∀ c : Dev Cert.InFwdIdeal.nD,
      r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
      ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1)
      ∧ r.2.mem ((c.tc : Thread Cert.InFwdIdeal.nD Cert.InFwdIdeal.τ).loc Cert.InFwdIdeal.main_arg2) = m ((c.tc : Thread Cert.InFwdIdeal.nD Cert.InFwdIdeal.τ).loc Cert.InFwdIdeal.main_arg2))
      ∧ r.2.sem = fun _ => 0)

def quiescent_InFwdRefIdeal [hInFwdRefIdeal : Cert.InFwdRefIdeal.Facts] : Prop :=
  ∀ (m : (ℓ : Loc Cert.InFwdRefIdeal.nD Cert.InFwdRefIdeal.τ Cert.InFwdRefIdeal.sig) → Buf (Elt Ideal) ℓ) (g : Dev Cert.InFwdRefIdeal.nD → PrngReg), Pre_InFwdRefIdeal m →
    θ_run (Cert.InFwdRefIdeal.defs (F := Ideal)) (onTc (τ := Cert.InFwdRefIdeal.τ) (Cert.InFwdRefIdeal.main (F := Ideal))) ⟨m, fun _ => 0, g⟩ (fun r => (∀ c : Dev Cert.InFwdRefIdeal.nD,
      r.2.mem ((c.tc : Thread Cert.InFwdRefIdeal.nD Cert.InFwdRefIdeal.τ).loc Cert.InFwdRefIdeal.main_arg0) = m ((c.tc : Thread Cert.InFwdRefIdeal.nD Cert.InFwdRefIdeal.τ).loc Cert.InFwdRefIdeal.main_arg0)
      ∧ r.2.mem ((c.tc : Thread Cert.InFwdRefIdeal.nD Cert.InFwdRefIdeal.τ).loc Cert.InFwdRefIdeal.main_arg1) = m ((c.tc : Thread Cert.InFwdRefIdeal.nD Cert.InFwdRefIdeal.τ).loc Cert.InFwdRefIdeal.main_arg1)
      ∧ r.2.mem ((c.tc : Thread Cert.InFwdRefIdeal.nD Cert.InFwdRefIdeal.τ).loc Cert.InFwdRefIdeal.main_arg2) = m ((c.tc : Thread Cert.InFwdRefIdeal.nD Cert.InFwdRefIdeal.τ).loc Cert.InFwdRefIdeal.main_arg2))
      ∧ r.2.sem = fun _ => 0)

def quiescent_FfnFwd [hFfnFwd : Cert.FfnFwd.Facts] : Prop :=
  ∀ (m : (ℓ : Loc Cert.FfnFwd.nD Cert.FfnFwd.τ Cert.FfnFwd.sig) → Buf (Elt Bits) ℓ) (g : Dev Cert.FfnFwd.nD → PrngReg), Pre_FfnFwd m →
    θ_run (Cert.FfnFwd.defs (F := Bits)) (onTc (τ := Cert.FfnFwd.τ) (Cert.FfnFwd.main (F := Bits))) ⟨m, fun _ => 0, g⟩ (fun r => (∀ c : Dev Cert.FfnFwd.nD,
      r.2.mem ((c.tc : Thread Cert.FfnFwd.nD Cert.FfnFwd.τ).loc Cert.FfnFwd.main_arg0) = m ((c.tc : Thread Cert.FfnFwd.nD Cert.FfnFwd.τ).loc Cert.FfnFwd.main_arg0)
      ∧ r.2.mem ((c.tc : Thread Cert.FfnFwd.nD Cert.FfnFwd.τ).loc Cert.FfnFwd.main_arg1) = m ((c.tc : Thread Cert.FfnFwd.nD Cert.FfnFwd.τ).loc Cert.FfnFwd.main_arg1)
      ∧ r.2.mem ((c.tc : Thread Cert.FfnFwd.nD Cert.FfnFwd.τ).loc Cert.FfnFwd.main_arg2) = m ((c.tc : Thread Cert.FfnFwd.nD Cert.FfnFwd.τ).loc Cert.FfnFwd.main_arg2)
      ∧ r.2.mem ((c.tc : Thread Cert.FfnFwd.nD Cert.FfnFwd.τ).loc Cert.FfnFwd.main_arg3) = m ((c.tc : Thread Cert.FfnFwd.nD Cert.FfnFwd.τ).loc Cert.FfnFwd.main_arg3))
      ∧ r.2.sem = fun _ => 0)

def quiescent_FfnFwdIdeal [hFfnFwdIdeal : Cert.FfnFwdIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
      ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
      ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3))
      ∧ r.2.sem = fun _ => 0)

def quiescent_FfnFwdRefIdeal [hFfnFwdRefIdeal : Cert.FfnFwdRefIdeal.Facts] : Prop :=
  ∀ (m : (ℓ : Loc Cert.FfnFwdRefIdeal.nD Cert.FfnFwdRefIdeal.τ Cert.FfnFwdRefIdeal.sig) → Buf (Elt Ideal) ℓ) (g : Dev Cert.FfnFwdRefIdeal.nD → PrngReg), Pre_FfnFwdRefIdeal m →
    θ_run (Cert.FfnFwdRefIdeal.defs (F := Ideal)) (onTc (τ := Cert.FfnFwdRefIdeal.τ) (Cert.FfnFwdRefIdeal.main (F := Ideal))) ⟨m, fun _ => 0, g⟩ (fun r => (∀ c : Dev Cert.FfnFwdRefIdeal.nD,
      r.2.mem ((c.tc : Thread Cert.FfnFwdRefIdeal.nD Cert.FfnFwdRefIdeal.τ).loc Cert.FfnFwdRefIdeal.main_arg0) = m ((c.tc : Thread Cert.FfnFwdRefIdeal.nD Cert.FfnFwdRefIdeal.τ).loc Cert.FfnFwdRefIdeal.main_arg0)
      ∧ r.2.mem ((c.tc : Thread Cert.FfnFwdRefIdeal.nD Cert.FfnFwdRefIdeal.τ).loc Cert.FfnFwdRefIdeal.main_arg1) = m ((c.tc : Thread Cert.FfnFwdRefIdeal.nD Cert.FfnFwdRefIdeal.τ).loc Cert.FfnFwdRefIdeal.main_arg1)
      ∧ r.2.mem ((c.tc : Thread Cert.FfnFwdRefIdeal.nD Cert.FfnFwdRefIdeal.τ).loc Cert.FfnFwdRefIdeal.main_arg2) = m ((c.tc : Thread Cert.FfnFwdRefIdeal.nD Cert.FfnFwdRefIdeal.τ).loc Cert.FfnFwdRefIdeal.main_arg2)
      ∧ r.2.mem ((c.tc : Thread Cert.FfnFwdRefIdeal.nD Cert.FfnFwdRefIdeal.τ).loc Cert.FfnFwdRefIdeal.main_arg3) = m ((c.tc : Thread Cert.FfnFwdRefIdeal.nD Cert.FfnFwdRefIdeal.τ).loc Cert.FfnFwdRefIdeal.main_arg3))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3))
      ∧ r.2.sem = fun _ => 0)

def quiescent_Wgrad [hWgrad : Cert.Wgrad.Facts] : Prop :=
  ∀ (m : (ℓ : Loc Cert.Wgrad.nD Cert.Wgrad.τ Cert.Wgrad.sig) → Buf (Elt Bits) ℓ) (g : Dev Cert.Wgrad.nD → PrngReg), Pre_Wgrad m →
    θ_run (Cert.Wgrad.defs (F := Bits)) (onTc (τ := Cert.Wgrad.τ) (Cert.Wgrad.main (F := Bits))) ⟨m, fun _ => 0, g⟩ (fun r => (∀ c : Dev Cert.Wgrad.nD,
      r.2.mem ((c.tc : Thread Cert.Wgrad.nD Cert.Wgrad.τ).loc Cert.Wgrad.main_arg0) = m ((c.tc : Thread Cert.Wgrad.nD Cert.Wgrad.τ).loc Cert.Wgrad.main_arg0)
      ∧ r.2.mem ((c.tc : Thread Cert.Wgrad.nD Cert.Wgrad.τ).loc Cert.Wgrad.main_arg1) = m ((c.tc : Thread Cert.Wgrad.nD Cert.Wgrad.τ).loc Cert.Wgrad.main_arg1))
      ∧ r.2.sem = fun _ => 0)

def quiescent_WgradIdeal [hWgradIdeal : Cert.WgradIdeal.Facts] : Prop :=
  ∀ (m : (ℓ : Loc Cert.WgradIdeal.nD Cert.WgradIdeal.τ Cert.WgradIdeal.sig) → Buf (Elt Ideal) ℓ) (g : Dev Cert.WgradIdeal.nD → PrngReg), Pre_WgradIdeal m →
    θ_run (Cert.WgradIdeal.defs (F := Ideal)) (onTc (τ := Cert.WgradIdeal.τ) (Cert.WgradIdeal.main (F := Ideal))) ⟨m, fun _ => 0, g⟩ (fun r => (∀ c : Dev Cert.WgradIdeal.nD,
      r.2.mem ((c.tc : Thread Cert.WgradIdeal.nD Cert.WgradIdeal.τ).loc Cert.WgradIdeal.main_arg0) = m ((c.tc : Thread Cert.WgradIdeal.nD Cert.WgradIdeal.τ).loc Cert.WgradIdeal.main_arg0)
      ∧ r.2.mem ((c.tc : Thread Cert.WgradIdeal.nD Cert.WgradIdeal.τ).loc Cert.WgradIdeal.main_arg1) = m ((c.tc : Thread Cert.WgradIdeal.nD Cert.WgradIdeal.τ).loc Cert.WgradIdeal.main_arg1))
      ∧ r.2.sem = fun _ => 0)

def quiescent_WgradRefIdeal [hWgradRefIdeal : Cert.WgradRefIdeal.Facts] : Prop :=
  ∀ (m : (ℓ : Loc Cert.WgradRefIdeal.nD Cert.WgradRefIdeal.τ Cert.WgradRefIdeal.sig) → Buf (Elt Ideal) ℓ) (g : Dev Cert.WgradRefIdeal.nD → PrngReg), Pre_WgradRefIdeal m →
    θ_run (Cert.WgradRefIdeal.defs (F := Ideal)) (onTc (τ := Cert.WgradRefIdeal.τ) (Cert.WgradRefIdeal.main (F := Ideal))) ⟨m, fun _ => 0, g⟩ (fun r => (∀ c : Dev Cert.WgradRefIdeal.nD,
      r.2.mem ((c.tc : Thread Cert.WgradRefIdeal.nD Cert.WgradRefIdeal.τ).loc Cert.WgradRefIdeal.main_arg0) = m ((c.tc : Thread Cert.WgradRefIdeal.nD Cert.WgradRefIdeal.τ).loc Cert.WgradRefIdeal.main_arg0)
      ∧ r.2.mem ((c.tc : Thread Cert.WgradRefIdeal.nD Cert.WgradRefIdeal.τ).loc Cert.WgradRefIdeal.main_arg1) = m ((c.tc : Thread Cert.WgradRefIdeal.nD Cert.WgradRefIdeal.τ).loc Cert.WgradRefIdeal.main_arg1))
      ∧ r.2.sem = fun _ => 0)

def quiescent_Total [hTotal : Cert.Total.Facts] : Prop :=
  ∀ (m : (ℓ : Loc Cert.Total.nD Cert.Total.τ Cert.Total.sig) → Buf (Elt Bits) ℓ) (g : Dev Cert.Total.nD → PrngReg), Pre_Total m →
    θ_run (Cert.Total.defs (F := Bits)) (onTc (τ := Cert.Total.τ) (Cert.Total.main (F := Bits))) ⟨m, fun _ => 0, g⟩ (fun r => (∀ c : Dev Cert.Total.nD,
      r.2.mem ((c.tc : Thread Cert.Total.nD Cert.Total.τ).loc Cert.Total.main_arg0) = m ((c.tc : Thread Cert.Total.nD Cert.Total.τ).loc Cert.Total.main_arg0))
      ∧ r.2.sem = fun _ => 0)

def quiescent_TotalIdeal [hTotalIdeal : Cert.TotalIdeal.Facts] : Prop :=
  ∀ (m : (ℓ : Loc Cert.TotalIdeal.nD Cert.TotalIdeal.τ Cert.TotalIdeal.sig) → Buf (Elt Ideal) ℓ) (g : Dev Cert.TotalIdeal.nD → PrngReg), Pre_TotalIdeal m →
    θ_run (Cert.TotalIdeal.defs (F := Ideal)) (onTc (τ := Cert.TotalIdeal.τ) (Cert.TotalIdeal.main (F := Ideal))) ⟨m, fun _ => 0, g⟩ (fun r => (∀ c : Dev Cert.TotalIdeal.nD,
      r.2.mem ((c.tc : Thread Cert.TotalIdeal.nD Cert.TotalIdeal.τ).loc Cert.TotalIdeal.main_arg0) = m ((c.tc : Thread Cert.TotalIdeal.nD Cert.TotalIdeal.τ).loc Cert.TotalIdeal.main_arg0))
      ∧ r.2.sem = fun _ => 0)

def quiescent_TotalRefIdeal [hTotalRefIdeal : Cert.TotalRefIdeal.Facts] : Prop :=
  ∀ (m : (ℓ : Loc Cert.TotalRefIdeal.nD Cert.TotalRefIdeal.τ Cert.TotalRefIdeal.sig) → Buf (Elt Ideal) ℓ) (g : Dev Cert.TotalRefIdeal.nD → PrngReg), Pre_TotalRefIdeal m →
    θ_run (Cert.TotalRefIdeal.defs (F := Ideal)) (onTc (τ := Cert.TotalRefIdeal.τ) (Cert.TotalRefIdeal.main (F := Ideal))) ⟨m, fun _ => 0, g⟩ (fun r => (∀ c : Dev Cert.TotalRefIdeal.nD,
      r.2.mem ((c.tc : Thread Cert.TotalRefIdeal.nD Cert.TotalRefIdeal.τ).loc Cert.TotalRefIdeal.main_arg0) = m ((c.tc : Thread Cert.TotalRefIdeal.nD Cert.TotalRefIdeal.τ).loc Cert.TotalRefIdeal.main_arg0))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0))
      ∧ r.2.sem = fun _ => 0)

def quiescent_PrepRefIdeal [hPrepRefIdeal : Cert.PrepRefIdeal.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0))
      ∧ r.2.sem = fun _ => 0)

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v9) = v0 c
          ∧ r.2.mem ((c.tc : Thread Cert.LossRefIdeal.nD Cert.LossRefIdeal.τ).loc Cert.LossRefIdeal.main_v15) = v1 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1))

def preserves_Attn_AttnIdeal : Prop :=
  IdealRules.named_const.Statement Cert.AttnIdeal.κ "mask" .f32 0xF149F2CA#32 ⊥

def algebraic_AttnIdeal_AttnRefIdeal_pre_attn_finite [hAttnIdeal : Cert.AttnIdeal.Facts] [hAttnRefIdeal : Cert.AttnRefIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_attn_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)) →
    ∃ (v0 : (c : Dev Cert.AttnIdeal.nD) → Buf (Elt Ideal) ((c.tc : Thread Cert.AttnIdeal.nD Cert.AttnIdeal.τ).loc Cert.AttnIdeal.main_v91)) (v1 : (c : Dev Cert.AttnIdeal.nD) → Buf (Elt Ideal) ((c.tc : Thread Cert.AttnIdeal.nD Cert.AttnIdeal.τ).loc Cert.AttnIdeal.main_v95)) (v2 : (c : Dev Cert.AttnIdeal.nD) → Buf (Elt Ideal) ((c.tc : Thread Cert.AttnIdeal.nD Cert.AttnIdeal.τ).loc Cert.AttnIdeal.main_v96)) (v3 : (c : Dev Cert.AttnIdeal.nD) → Buf (Elt Ideal) ((c.tc : Thread Cert.AttnIdeal.nD Cert.AttnIdeal.τ).loc Cert.AttnIdeal.main_v101)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v91) = v0 c
          ∧ r.2.mem ((c.tc : Thread Cert.AttnIdeal.nD Cert.AttnIdeal.τ).loc Cert.AttnIdeal.main_v95) = v1 c
          ∧ r.2.mem ((c.tc : Thread Cert.AttnIdeal.nD Cert.AttnIdeal.τ).loc Cert.AttnIdeal.main_v96) = v2 c
          ∧ r.2.mem ((c.tc : Thread Cert.AttnIdeal.nD Cert.AttnIdeal.τ).loc Cert.AttnIdeal.main_v101) = v3 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v73) = v0 c
          ∧ r.2.mem ((c.tc : Thread Cert.AttnRefIdeal.nD Cert.AttnRefIdeal.τ).loc Cert.AttnRefIdeal.main_v72) = v1 c
          ∧ r.2.mem ((c.tc : Thread Cert.AttnRefIdeal.nD Cert.AttnRefIdeal.τ).loc Cert.AttnRefIdeal.main_v47) = v2 c
          ∧ r.2.mem ((c.tc : Thread Cert.AttnRefIdeal.nD Cert.AttnRefIdeal.τ).loc Cert.AttnRefIdeal.main_v69) = v3 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4))

def preserves_AttnFwd_AttnFwdIdeal : Prop :=
  IdealRules.named_const.Statement Cert.AttnFwdIdeal.κ "mask" .f32 0xF149F2CA#32 ⊥
  ∧ IdealRules.named_const.Statement Cert.AttnFwdIdeal.κ "log2e" .f32 0x3FB8AA3B#32 (((Real.log 2)⁻¹ : ℝ) : EReal)

def algebraic_AttnFwdIdeal_AttnFwdRefIdeal_pre_forward_finite [hAttnFwdIdeal : Cert.AttnFwdIdeal.Facts] [hAttnFwdRefIdeal : Cert.AttnFwdRefIdeal.Facts] [hPre_forward_finite : Cert.Pre_forward_finite.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnFwdRefIdeal.nD Cert.AttnFwdRefIdeal.τ Cert.AttnFwdRefIdeal.sig) → Buf (Elt Ideal) ℓ) (g' : Dev Cert.AttnFwdRefIdeal.nD → PrngReg), Pre_AttnFwdIdeal_forward_finite m →
    (∀ c : Dev Cert.AttnFwdIdeal.nD,
      m' ((c.tc : Thread Cert.AttnFwdRefIdeal.nD Cert.AttnFwdRefIdeal.τ).loc Cert.AttnFwdRefIdeal.main_arg0) = m ((c.tc : Thread Cert.AttnFwdIdeal.nD Cert.AttnFwdIdeal.τ).loc Cert.AttnFwdIdeal.main_arg0)
      ∧ m' ((c.tc : Thread Cert.AttnFwdRefIdeal.nD Cert.AttnFwdRefIdeal.τ).loc Cert.AttnFwdRefIdeal.main_arg1) = m ((c.tc : Thread Cert.AttnFwdIdeal.nD Cert.AttnFwdIdeal.τ).loc Cert.AttnFwdIdeal.main_arg1)
      ∧ m' ((c.tc : Thread Cert.AttnFwdRefIdeal.nD Cert.AttnFwdRefIdeal.τ).loc Cert.AttnFwdRefIdeal.main_arg2) = m ((c.tc : Thread Cert.AttnFwdIdeal.nD Cert.AttnFwdIdeal.τ).loc Cert.AttnFwdIdeal.main_arg2)
      ∧ m' ((c.tc : Thread Cert.AttnFwdRefIdeal.nD Cert.AttnFwdRefIdeal.τ).loc Cert.AttnFwdRefIdeal.main_arg3) = m ((c.tc : Thread Cert.AttnFwdIdeal.nD Cert.AttnFwdIdeal.τ).loc Cert.AttnFwdIdeal.main_arg3)) →
    ∃ (v0 : (c : Dev Cert.AttnFwdIdeal.nD) → Buf (Elt Ideal) ((c.tc : Thread Cert.AttnFwdIdeal.nD Cert.AttnFwdIdeal.τ).loc Cert.AttnFwdIdeal.main_v32)) (v1 : (c : Dev Cert.AttnFwdIdeal.nD) → Buf (Elt Ideal) ((c.tc : Thread Cert.AttnFwdIdeal.nD Cert.AttnFwdIdeal.τ).loc Cert.AttnFwdIdeal.main_v39)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v32) = v0 c
          ∧ r.2.mem ((c.tc : Thread Cert.AttnFwdIdeal.nD Cert.AttnFwdIdeal.τ).loc Cert.AttnFwdIdeal.main_v39) = v1 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
          ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2)
          ∧ r.2.mem ((c.tc : Thread Cert.AttnFwdIdeal.nD Cert.AttnFwdIdeal.τ).loc Cert.AttnFwdIdeal.main_arg3) = m ((c.tc : Thread Cert.AttnFwdIdeal.nD Cert.AttnFwdIdeal.τ).loc Cert.AttnFwdIdeal.main_arg3))
      ∧ θ_run (Cert.AttnFwdRefIdeal.defs (F := Ideal)) (onTc (τ := Cert.AttnFwdRefIdeal.τ) (Cert.AttnFwdRefIdeal.main (F := Ideal))) ⟨m', fun _ => 0, g'⟩ (fun r => ∀ c : Dev Cert.AttnFwdRefIdeal.nD,
          r.2.mem ((c.tc : Thread Cert.AttnFwdRefIdeal.nD Cert.AttnFwdRefIdeal.τ).loc Cert.AttnFwdRefIdeal.main_v28) = v0 c
          ∧ r.2.mem ((c.tc : Thread Cert.AttnFwdRefIdeal.nD Cert.AttnFwdRefIdeal.τ).loc Cert.AttnFwdRefIdeal.main_v48) = v1 c
          ∧ r.2.mem ((c.tc : Thread Cert.AttnFwdRefIdeal.nD Cert.AttnFwdRefIdeal.τ).loc Cert.AttnFwdRefIdeal.main_arg0) = m' ((c.tc : Thread Cert.AttnFwdRefIdeal.nD Cert.AttnFwdRefIdeal.τ).loc Cert.AttnFwdRefIdeal.main_arg0)
          ∧ r.2.mem ((c.tc : Thread Cert.AttnFwdRefIdeal.nD Cert.AttnFwdRefIdeal.τ).loc Cert.AttnFwdRefIdeal.main_arg1) = m' ((c.tc : Thread Cert.AttnFwdRefIdeal.nD Cert.AttnFwdRefIdeal.τ).loc Cert.AttnFwdRefIdeal.main_arg1)
          ∧ r.2.mem ((c.tc : Thread Cert.AttnFwdRefIdeal.nD Cert.AttnFwdRefIdeal.τ).loc Cert.AttnFwdRefIdeal.main_arg2) = m' ((c.tc : Thread Cert.AttnFwdRefIdeal.nD Cert.AttnFwdRefIdeal.τ).loc Cert.AttnFwdRefIdeal.main_arg2)
          ∧ r.2.mem ((c.tc : Thread Cert.AttnFwdRefIdeal.nD Cert.AttnFwdRefIdeal.τ).loc Cert.AttnFwdRefIdeal.main_arg3) = m' ((c.tc : Thread Cert.AttnFwdRefIdeal.nD Cert.AttnFwdRefIdeal.τ).loc Cert.AttnFwdRefIdeal.main_arg3))

def preserves_InProj_InProjIdeal : Prop :=
  True

def algebraic_InProjIdeal_InProjRefIdeal_pre_inproj_finite [hInProjIdeal : Cert.InProjIdeal.Facts] [hInProjRefIdeal : Cert.InProjRefIdeal.Facts] [hPre_inproj_finite : Cert.Pre_inproj_finite.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal_inproj_finite m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)
      ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4)) →
    ∃ (v0 : (c : Dev Cert.InProjIdeal.nD) → Buf (Elt Ideal) ((c.tc : Thread Cert.InProjIdeal.nD Cert.InProjIdeal.τ).loc Cert.InProjIdeal.main_v11_0)) (v1 : (c : Dev Cert.InProjIdeal.nD) → Buf (Elt Ideal) ((c.tc : Thread Cert.InProjIdeal.nD Cert.InProjIdeal.τ).loc Cert.InProjIdeal.main_v12)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v11_0) = v0 c
          ∧ r.2.mem ((c.tc : Thread Cert.InProjIdeal.nD Cert.InProjIdeal.τ).loc Cert.InProjIdeal.main_v12) = v1 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v38) = v0 c
          ∧ r.2.mem ((c.tc : Thread Cert.InProjRefIdeal.nD Cert.InProjRefIdeal.τ).loc Cert.InProjRefIdeal.main_v23) = v1 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4))

def preserves_Ffn_FfnIdeal : Prop :=
  True

def algebraic_FfnIdeal_FfnRefIdeal_pre_ffn_finite [hFfnIdeal : Cert.FfnIdeal.Facts] [hFfnRefIdeal : Cert.FfnRefIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_ffn_finite m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v23_0)) (v1 : (c : Dev Cert.FfnIdeal.nD) → Buf (Elt Ideal) ((c.tc : Thread Cert.FfnIdeal.nD Cert.FfnIdeal.τ).loc Cert.FfnIdeal.main_v24)) (v2 : (c : Dev Cert.FfnIdeal.nD) → Buf (Elt Ideal) ((c.tc : Thread Cert.FfnIdeal.nD Cert.FfnIdeal.τ).loc Cert.FfnIdeal.main_v25)) (v3 : (c : Dev Cert.FfnIdeal.nD) → Buf (Elt Ideal) ((c.tc : Thread Cert.FfnIdeal.nD Cert.FfnIdeal.τ).loc Cert.FfnIdeal.main_v26)) (v4 : (c : Dev Cert.FfnIdeal.nD) → Buf (Elt Ideal) ((c.tc : Thread Cert.FfnIdeal.nD Cert.FfnIdeal.τ).loc Cert.FfnIdeal.main_v27)) (v5 : (c : Dev Cert.FfnIdeal.nD) → Buf (Elt Ideal) ((c.tc : Thread Cert.FfnIdeal.nD Cert.FfnIdeal.τ).loc Cert.FfnIdeal.main_v28)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v23_0) = v0 c
          ∧ r.2.mem ((c.tc : Thread Cert.FfnIdeal.nD Cert.FfnIdeal.τ).loc Cert.FfnIdeal.main_v24) = v1 c
          ∧ r.2.mem ((c.tc : Thread Cert.FfnIdeal.nD Cert.FfnIdeal.τ).loc Cert.FfnIdeal.main_v25) = v2 c
          ∧ r.2.mem ((c.tc : Thread Cert.FfnIdeal.nD Cert.FfnIdeal.τ).loc Cert.FfnIdeal.main_v26) = v3 c
          ∧ r.2.mem ((c.tc : Thread Cert.FfnIdeal.nD Cert.FfnIdeal.τ).loc Cert.FfnIdeal.main_v27) = v4 c
          ∧ r.2.mem ((c.tc : Thread Cert.FfnIdeal.nD Cert.FfnIdeal.τ).loc Cert.FfnIdeal.main_v28) = v5 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v64) = v0 c
          ∧ r.2.mem ((c.tc : Thread Cert.FfnRefIdeal.nD Cert.FfnRefIdeal.τ).loc Cert.FfnRefIdeal.main_v74) = v1 c
          ∧ r.2.mem ((c.tc : Thread Cert.FfnRefIdeal.nD Cert.FfnRefIdeal.τ).loc Cert.FfnRefIdeal.main_v78) = v2 c
          ∧ r.2.mem ((c.tc : Thread Cert.FfnRefIdeal.nD Cert.FfnRefIdeal.τ).loc Cert.FfnRefIdeal.main_v12) = v3 c
          ∧ r.2.mem ((c.tc : Thread Cert.FfnRefIdeal.nD Cert.FfnRefIdeal.τ).loc Cert.FfnRefIdeal.main_arg4) = v4 c
          ∧ r.2.mem ((c.tc : Thread Cert.FfnRefIdeal.nD Cert.FfnRefIdeal.τ).loc Cert.FfnRefIdeal.main_v49) = v5 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Post_PostIdeal : Prop :=
  IdealRules.named_const.Statement Cert.PostIdeal.κ "ln2" .f32 0x3F317218#32 ((Real.log 2 : ℝ) : EReal)

def algebraic_PostIdeal_PostRefIdeal_pre_post_finite [hPostIdeal : Cert.PostIdeal.Facts] [hPostRefIdeal : Cert.PostRefIdeal.Facts] [hPre_post_finite : Cert.Pre_post_finite.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostRefIdeal.nD Cert.PostRefIdeal.τ Cert.PostRefIdeal.sig) → Buf (Elt Ideal) ℓ) (g' : Dev Cert.PostRefIdeal.nD → PrngReg), Pre_PostIdeal_post_finite m →
    (∀ c : Dev Cert.PostIdeal.nD,
      m' ((c.tc : Thread Cert.PostRefIdeal.nD Cert.PostRefIdeal.τ).loc Cert.PostRefIdeal.main_arg0) = m ((c.tc : Thread Cert.PostIdeal.nD Cert.PostIdeal.τ).loc Cert.PostIdeal.main_arg0)
      ∧ m' ((c.tc : Thread Cert.PostRefIdeal.nD Cert.PostRefIdeal.τ).loc Cert.PostRefIdeal.main_arg1) = m ((c.tc : Thread Cert.PostIdeal.nD Cert.PostIdeal.τ).loc Cert.PostIdeal.main_arg1)
      ∧ m' ((c.tc : Thread Cert.PostRefIdeal.nD Cert.PostRefIdeal.τ).loc Cert.PostRefIdeal.main_arg2) = m ((c.tc : Thread Cert.PostIdeal.nD Cert.PostIdeal.τ).loc Cert.PostIdeal.main_arg2)
      ∧ m' ((c.tc : Thread Cert.PostRefIdeal.nD Cert.PostRefIdeal.τ).loc Cert.PostRefIdeal.main_arg3) = m ((c.tc : Thread Cert.PostIdeal.nD Cert.PostIdeal.τ).loc Cert.PostIdeal.main_arg3)
      ∧ m' ((c.tc : Thread Cert.PostRefIdeal.nD Cert.PostRefIdeal.τ).loc Cert.PostRefIdeal.main_arg4) = m ((c.tc : Thread Cert.PostIdeal.nD Cert.PostIdeal.τ).loc Cert.PostIdeal.main_arg4)
      ∧ m' ((c.tc : Thread Cert.PostRefIdeal.nD Cert.PostRefIdeal.τ).loc Cert.PostRefIdeal.main_arg5) = m ((c.tc : Thread Cert.PostIdeal.nD Cert.PostIdeal.τ).loc Cert.PostIdeal.main_arg5)
      ∧ m' ((c.tc : Thread Cert.PostRefIdeal.nD Cert.PostRefIdeal.τ).loc Cert.PostRefIdeal.main_arg6) = m ((c.tc : Thread Cert.PostIdeal.nD Cert.PostIdeal.τ).loc Cert.PostIdeal.main_arg6)
      ∧ m' ((c.tc : Thread Cert.PostRefIdeal.nD Cert.PostRefIdeal.τ).loc Cert.PostRefIdeal.main_arg7) = m ((c.tc : Thread Cert.PostIdeal.nD Cert.PostIdeal.τ).loc Cert.PostIdeal.main_arg7)
      ∧ m' ((c.tc : Thread Cert.PostRefIdeal.nD Cert.PostRefIdeal.τ).loc Cert.PostRefIdeal.main_arg8) = m ((c.tc : Thread Cert.PostIdeal.nD Cert.PostIdeal.τ).loc Cert.PostIdeal.main_arg8)) →
    ∃ (v0 : (c : Dev Cert.PostIdeal.nD) → Buf (Elt Ideal) ((c.tc : Thread Cert.PostIdeal.nD Cert.PostIdeal.τ).loc Cert.PostIdeal.main_v47)) (v1 : (c : Dev Cert.PostIdeal.nD) → Buf (Elt Ideal) ((c.tc : Thread Cert.PostIdeal.nD Cert.PostIdeal.τ).loc Cert.PostIdeal.main_v49)) (v2 : (c : Dev Cert.PostIdeal.nD) → Buf (Elt Ideal) ((c.tc : Thread Cert.PostIdeal.nD Cert.PostIdeal.τ).loc Cert.PostIdeal.main_v51)) (v3 : (c : Dev Cert.PostIdeal.nD) → Buf (Elt Ideal) ((c.tc : Thread Cert.PostIdeal.nD Cert.PostIdeal.τ).loc Cert.PostIdeal.main_v53)) (v4 : (c : Dev Cert.PostIdeal.nD) → Buf (Elt Ideal) ((c.tc : Thread Cert.PostIdeal.nD Cert.PostIdeal.τ).loc Cert.PostIdeal.main_v55)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v47) = v0 c
          ∧ r.2.mem ((c.tc : Thread Cert.PostIdeal.nD Cert.PostIdeal.τ).loc Cert.PostIdeal.main_v49) = v1 c
          ∧ r.2.mem ((c.tc : Thread Cert.PostIdeal.nD Cert.PostIdeal.τ).loc Cert.PostIdeal.main_v51) = v2 c
          ∧ r.2.mem ((c.tc : Thread Cert.PostIdeal.nD Cert.PostIdeal.τ).loc Cert.PostIdeal.main_v53) = v3 c
          ∧ r.2.mem ((c.tc : Thread Cert.PostIdeal.nD Cert.PostIdeal.τ).loc Cert.PostIdeal.main_v55) = v4 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
          ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
          ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
          ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
          ∧ r.2.mem ((c.tc : Thread Cert.PostIdeal.nD Cert.PostIdeal.τ).loc Cert.PostIdeal.main_arg8) = m ((c.tc : Thread Cert.PostIdeal.nD Cert.PostIdeal.τ).loc Cert.PostIdeal.main_arg8))
      ∧ θ_run (Cert.PostRefIdeal.defs (F := Ideal)) (onTc (τ := Cert.PostRefIdeal.τ) (Cert.PostRefIdeal.main (F := Ideal))) ⟨m', fun _ => 0, g'⟩ (fun r => ∀ c : Dev Cert.PostRefIdeal.nD,
          r.2.mem ((c.tc : Thread Cert.PostRefIdeal.nD Cert.PostRefIdeal.τ).loc Cert.PostRefIdeal.main_v99) = v0 c
          ∧ r.2.mem ((c.tc : Thread Cert.PostRefIdeal.nD Cert.PostRefIdeal.τ).loc Cert.PostRefIdeal.main_v95) = v1 c
          ∧ r.2.mem ((c.tc : Thread Cert.PostRefIdeal.nD Cert.PostRefIdeal.τ).loc Cert.PostRefIdeal.main_v77) = v2 c
          ∧ r.2.mem ((c.tc : Thread Cert.PostRefIdeal.nD Cert.PostRefIdeal.τ).loc Cert.PostRefIdeal.main_v55) = v3 c
          ∧ r.2.mem ((c.tc : Thread Cert.PostRefIdeal.nD Cert.PostRefIdeal.τ).loc Cert.PostRefIdeal.main_v98) = v4 c
          ∧ r.2.mem ((c.tc : Thread Cert.PostRefIdeal.nD Cert.PostRefIdeal.τ).loc Cert.PostRefIdeal.main_arg0) = m' ((c.tc : Thread Cert.PostRefIdeal.nD Cert.PostRefIdeal.τ).loc Cert.PostRefIdeal.main_arg0)
          ∧ r.2.mem ((c.tc : Thread Cert.PostRefIdeal.nD Cert.PostRefIdeal.τ).loc Cert.PostRefIdeal.main_arg1) = m' ((c.tc : Thread Cert.PostRefIdeal.nD Cert.PostRefIdeal.τ).loc Cert.PostRefIdeal.main_arg1)
          ∧ r.2.mem ((c.tc : Thread Cert.PostRefIdeal.nD Cert.PostRefIdeal.τ).loc Cert.PostRefIdeal.main_arg2) = m' ((c.tc : Thread Cert.PostRefIdeal.nD Cert.PostRefIdeal.τ).loc Cert.PostRefIdeal.main_arg2)
          ∧ r.2.mem ((c.tc : Thread Cert.PostRefIdeal.nD Cert.PostRefIdeal.τ).loc Cert.PostRefIdeal.main_arg3) = m' ((c.tc : Thread Cert.PostRefIdeal.nD Cert.PostRefIdeal.τ).loc Cert.PostRefIdeal.main_arg3)
          ∧ r.2.mem ((c.tc : Thread Cert.PostRefIdeal.nD Cert.PostRefIdeal.τ).loc Cert.PostRefIdeal.main_arg4) = m' ((c.tc : Thread Cert.PostRefIdeal.nD Cert.PostRefIdeal.τ).loc Cert.PostRefIdeal.main_arg4)
          ∧ r.2.mem ((c.tc : Thread Cert.PostRefIdeal.nD Cert.PostRefIdeal.τ).loc Cert.PostRefIdeal.main_arg5) = m' ((c.tc : Thread Cert.PostRefIdeal.nD Cert.PostRefIdeal.τ).loc Cert.PostRefIdeal.main_arg5)
          ∧ r.2.mem ((c.tc : Thread Cert.PostRefIdeal.nD Cert.PostRefIdeal.τ).loc Cert.PostRefIdeal.main_arg6) = m' ((c.tc : Thread Cert.PostRefIdeal.nD Cert.PostRefIdeal.τ).loc Cert.PostRefIdeal.main_arg6)
          ∧ r.2.mem ((c.tc : Thread Cert.PostRefIdeal.nD Cert.PostRefIdeal.τ).loc Cert.PostRefIdeal.main_arg7) = m' ((c.tc : Thread Cert.PostRefIdeal.nD Cert.PostRefIdeal.τ).loc Cert.PostRefIdeal.main_arg7)
          ∧ r.2.mem ((c.tc : Thread Cert.PostRefIdeal.nD Cert.PostRefIdeal.τ).loc Cert.PostRefIdeal.main_arg8) = m' ((c.tc : Thread Cert.PostRefIdeal.nD Cert.PostRefIdeal.τ).loc Cert.PostRefIdeal.main_arg8))

def preserves_InFwd_InFwdIdeal : Prop :=
  True

def algebraic_InFwdIdeal_InFwdRefIdeal [hInFwdIdeal : Cert.InFwdIdeal.Facts] [hInFwdRefIdeal : Cert.InFwdRefIdeal.Facts] : Prop :=
  ∀ (m : (ℓ : Loc Cert.InFwdIdeal.nD Cert.InFwdIdeal.τ Cert.InFwdIdeal.sig) → Buf (Elt Ideal) ℓ) (g : Dev Cert.InFwdIdeal.nD → PrngReg)
    (m' : (ℓ : Loc Cert.InFwdRefIdeal.nD Cert.InFwdRefIdeal.τ Cert.InFwdRefIdeal.sig) → Buf (Elt Ideal) ℓ) (g' : Dev Cert.InFwdRefIdeal.nD → PrngReg), Pre_InFwdIdeal m →
    (∀ c : Dev Cert.InFwdIdeal.nD,
      m' ((c.tc : Thread Cert.InFwdRefIdeal.nD Cert.InFwdRefIdeal.τ).loc Cert.InFwdRefIdeal.main_arg0) = m ((c.tc : Thread Cert.InFwdIdeal.nD Cert.InFwdIdeal.τ).loc Cert.InFwdIdeal.main_arg0)
      ∧ m' ((c.tc : Thread Cert.InFwdRefIdeal.nD Cert.InFwdRefIdeal.τ).loc Cert.InFwdRefIdeal.main_arg1) = m ((c.tc : Thread Cert.InFwdIdeal.nD Cert.InFwdIdeal.τ).loc Cert.InFwdIdeal.main_arg1)
      ∧ m' ((c.tc : Thread Cert.InFwdRefIdeal.nD Cert.InFwdRefIdeal.τ).loc Cert.InFwdRefIdeal.main_arg2) = m ((c.tc : Thread Cert.InFwdIdeal.nD Cert.InFwdIdeal.τ).loc Cert.InFwdIdeal.main_arg2)) →
    ∃ (v0 : (c : Dev Cert.InFwdIdeal.nD) → Buf (Elt Ideal) ((c.tc : Thread Cert.InFwdIdeal.nD Cert.InFwdIdeal.τ).loc Cert.InFwdIdeal.main_v7)) (v1 : (c : Dev Cert.InFwdIdeal.nD) → Buf (Elt Ideal) ((c.tc : Thread Cert.InFwdIdeal.nD Cert.InFwdIdeal.τ).loc Cert.InFwdIdeal.main_v8)) (v2 : (c : Dev Cert.InFwdIdeal.nD) → Buf (Elt Ideal) ((c.tc : Thread Cert.InFwdIdeal.nD Cert.InFwdIdeal.τ).loc Cert.InFwdIdeal.main_v9)) (v3 : (c : Dev Cert.InFwdIdeal.nD) → Buf (Elt Ideal) ((c.tc : Thread Cert.InFwdIdeal.nD Cert.InFwdIdeal.τ).loc Cert.InFwdIdeal.main_v10)),
      θ_run (Cert.InFwdIdeal.defs (F := Ideal)) (onTc (τ := Cert.InFwdIdeal.τ) (Cert.InFwdIdeal.main (F := Ideal))) ⟨m, fun _ => 0, g⟩ (fun r => ∀ c : Dev Cert.InFwdIdeal.nD,
          r.2.mem ((c.tc : Thread Cert.InFwdIdeal.nD Cert.InFwdIdeal.τ).loc Cert.InFwdIdeal.main_v7) = v0 c
          ∧ r.2.mem ((c.tc : Thread Cert.InFwdIdeal.nD Cert.InFwdIdeal.τ).loc Cert.InFwdIdeal.main_v8) = v1 c
          ∧ r.2.mem ((c.tc : Thread Cert.InFwdIdeal.nD Cert.InFwdIdeal.τ).loc Cert.InFwdIdeal.main_v9) = v2 c
          ∧ r.2.mem ((c.tc : Thread Cert.InFwdIdeal.nD Cert.InFwdIdeal.τ).loc Cert.InFwdIdeal.main_v10) = v3 c
          ∧ r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
          ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1)
          ∧ r.2.mem ((c.tc : Thread Cert.InFwdIdeal.nD Cert.InFwdIdeal.τ).loc Cert.InFwdIdeal.main_arg2) = m ((c.tc : Thread Cert.InFwdIdeal.nD Cert.InFwdIdeal.τ).loc Cert.InFwdIdeal.main_arg2))
      ∧ θ_run (Cert.InFwdRefIdeal.defs (F := Ideal)) (onTc (τ := Cert.InFwdRefIdeal.τ) (Cert.InFwdRefIdeal.main (F := Ideal))) ⟨m', fun _ => 0, g'⟩ (fun r => ∀ c : Dev Cert.InFwdRefIdeal.nD,
          r.2.mem ((c.tc : Thread Cert.InFwdRefIdeal.nD Cert.InFwdRefIdeal.τ).loc Cert.InFwdRefIdeal.main_v12) = v0 c
          ∧ r.2.mem ((c.tc : Thread Cert.InFwdRefIdeal.nD Cert.InFwdRefIdeal.τ).loc Cert.InFwdRefIdeal.main_v14) = v1 c
          ∧ r.2.mem ((c.tc : Thread Cert.InFwdRefIdeal.nD Cert.InFwdRefIdeal.τ).loc Cert.InFwdRefIdeal.main_v15) = v2 c
          ∧ r.2.mem ((c.tc : Thread Cert.InFwdRefIdeal.nD Cert.InFwdRefIdeal.τ).loc Cert.InFwdRefIdeal.main_v16) = v3 c
          ∧ r.2.mem ((c.tc : Thread Cert.InFwdRefIdeal.nD Cert.InFwdRefIdeal.τ).loc Cert.InFwdRefIdeal.main_arg0) = m' ((c.tc : Thread Cert.InFwdRefIdeal.nD Cert.InFwdRefIdeal.τ).loc Cert.InFwdRefIdeal.main_arg0)
          ∧ r.2.mem ((c.tc : Thread Cert.InFwdRefIdeal.nD Cert.InFwdRefIdeal.τ).loc Cert.InFwdRefIdeal.main_arg1) = m' ((c.tc : Thread Cert.InFwdRefIdeal.nD Cert.InFwdRefIdeal.τ).loc Cert.InFwdRefIdeal.main_arg1)
          ∧ r.2.mem ((c.tc : Thread Cert.InFwdRefIdeal.nD Cert.InFwdRefIdeal.τ).loc Cert.InFwdRefIdeal.main_arg2) = m' ((c.tc : Thread Cert.InFwdRefIdeal.nD Cert.InFwdRefIdeal.τ).loc Cert.InFwdRefIdeal.main_arg2))

def preserves_FfnFwd_FfnFwdIdeal : Prop :=
  True

def algebraic_FfnFwdIdeal_FfnFwdRefIdeal [hFfnFwdIdeal : Cert.FfnFwdIdeal.Facts] [hFfnFwdRefIdeal : Cert.FfnFwdRefIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg)
    (m' : (ℓ : Loc Cert.FfnFwdRefIdeal.nD Cert.FfnFwdRefIdeal.τ Cert.FfnFwdRefIdeal.sig) → Buf (Elt Ideal) ℓ) (g' : Dev Cert.FfnFwdRefIdeal.nD → PrngReg), Pre_FfnFwdIdeal m →
    (∀ c : Dev Cert.FfnFwdIdeal.nD,
      m' ((c.tc : Thread Cert.FfnFwdRefIdeal.nD Cert.FfnFwdRefIdeal.τ).loc Cert.FfnFwdRefIdeal.main_arg0) = m ((c.tc : Thread Cert.FfnFwdIdeal.nD Cert.FfnFwdIdeal.τ).loc Cert.FfnFwdIdeal.main_arg0)
      ∧ m' ((c.tc : Thread Cert.FfnFwdRefIdeal.nD Cert.FfnFwdRefIdeal.τ).loc Cert.FfnFwdRefIdeal.main_arg1) = m ((c.tc : Thread Cert.FfnFwdIdeal.nD Cert.FfnFwdIdeal.τ).loc Cert.FfnFwdIdeal.main_arg1)
      ∧ m' ((c.tc : Thread Cert.FfnFwdRefIdeal.nD Cert.FfnFwdRefIdeal.τ).loc Cert.FfnFwdRefIdeal.main_arg2) = m ((c.tc : Thread Cert.FfnFwdIdeal.nD Cert.FfnFwdIdeal.τ).loc Cert.FfnFwdIdeal.main_arg2)
      ∧ m' ((c.tc : Thread Cert.FfnFwdRefIdeal.nD Cert.FfnFwdRefIdeal.τ).loc Cert.FfnFwdRefIdeal.main_arg3) = m ((c.tc : Thread Cert.FfnFwdIdeal.nD Cert.FfnFwdIdeal.τ).loc Cert.FfnFwdIdeal.main_arg3)) →
    ∃ (v0 : (c : Dev Cert.FfnFwdIdeal.nD) → Buf (Elt Ideal) ((c.tc : Thread Cert.FfnFwdIdeal.nD Cert.FfnFwdIdeal.τ).loc Cert.FfnFwdIdeal.main_v8_0)) (v1 : (c : Dev Cert.FfnFwdIdeal.nD) → Buf (Elt Ideal) ((c.tc : Thread Cert.FfnFwdIdeal.nD Cert.FfnFwdIdeal.τ).loc Cert.FfnFwdIdeal.main_v9)),
      θ_run (Cert.FfnFwdIdeal.defs (F := Ideal)) (onTc (τ := Cert.FfnFwdIdeal.τ) (Cert.FfnFwdIdeal.main (F := Ideal))) ⟨m, fun _ => 0, g⟩ (fun r => ∀ c : Dev Cert.FfnFwdIdeal.nD,
          r.2.mem ((c.tc : Thread Cert.FfnFwdIdeal.nD Cert.FfnFwdIdeal.τ).loc Cert.FfnFwdIdeal.main_v8_0) = v0 c
          ∧ r.2.mem ((c.tc : Thread Cert.FfnFwdIdeal.nD Cert.FfnFwdIdeal.τ).loc Cert.FfnFwdIdeal.main_v9) = v1 c
          ∧ r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
          ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
          ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
          ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3))
      ∧ θ_run (Cert.FfnFwdRefIdeal.defs (F := Ideal)) (onTc (τ := Cert.FfnFwdRefIdeal.τ) (Cert.FfnFwdRefIdeal.main (F := Ideal))) ⟨m', fun _ => 0, g'⟩ (fun r => ∀ c : Dev Cert.FfnFwdRefIdeal.nD,
          r.2.mem ((c.tc : Thread Cert.FfnFwdRefIdeal.nD Cert.FfnFwdRefIdeal.τ).loc Cert.FfnFwdRefIdeal.main_v19) = v0 c
          ∧ r.2.mem ((c.tc : Thread Cert.FfnFwdRefIdeal.nD Cert.FfnFwdRefIdeal.τ).loc Cert.FfnFwdRefIdeal.main_v13) = v1 c
          ∧ r.2.mem ((c.tc : Thread Cert.FfnFwdRefIdeal.nD Cert.FfnFwdRefIdeal.τ).loc Cert.FfnFwdRefIdeal.main_arg0) = m' ((c.tc : Thread Cert.FfnFwdRefIdeal.nD Cert.FfnFwdRefIdeal.τ).loc Cert.FfnFwdRefIdeal.main_arg0)
          ∧ r.2.mem ((c.tc : Thread Cert.FfnFwdRefIdeal.nD Cert.FfnFwdRefIdeal.τ).loc Cert.FfnFwdRefIdeal.main_arg1) = m' ((c.tc : Thread Cert.FfnFwdRefIdeal.nD Cert.FfnFwdRefIdeal.τ).loc Cert.FfnFwdRefIdeal.main_arg1)
          ∧ r.2.mem ((c.tc : Thread Cert.FfnFwdRefIdeal.nD Cert.FfnFwdRefIdeal.τ).loc Cert.FfnFwdRefIdeal.main_arg2) = m' ((c.tc : Thread Cert.FfnFwdRefIdeal.nD Cert.FfnFwdRefIdeal.τ).loc Cert.FfnFwdRefIdeal.main_arg2)
          ∧ r.2.mem ((c.tc : Thread Cert.FfnFwdRefIdeal.nD Cert.FfnFwdRefIdeal.τ).loc Cert.FfnFwdRefIdeal.main_arg3) = m' ((c.tc : Thread Cert.FfnFwdRefIdeal.nD Cert.FfnFwdRefIdeal.τ).loc Cert.FfnFwdRefIdeal.main_arg3))

def preserves_Adam_AdamIdeal : Prop :=
  True

def algebraic_AdamIdeal_AdamRefIdeal [hAdamIdeal : Cert.AdamIdeal.Facts] [hAdamRefIdeal : Cert.AdamRefIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamIdeal m →
    (∀ c : Dev Cert.AdamIdeal.nD,
      m' ((c.tc : Thread Cert.AdamRefIdeal.nD Cert.AdamRefIdeal.τ).loc Cert.AdamRefIdeal.main_arg0) = m ((c.tc : Thread Cert.AdamIdeal.nD Cert.AdamIdeal.τ).loc Cert.AdamIdeal.main_arg0)
      ∧ m' ((c.tc : Thread Cert.AdamRefIdeal.nD Cert.AdamRefIdeal.τ).loc Cert.AdamRefIdeal.main_arg1) = m ((c.tc : Thread Cert.AdamIdeal.nD Cert.AdamIdeal.τ).loc Cert.AdamIdeal.main_arg1)
      ∧ m' ((c.tc : Thread Cert.AdamRefIdeal.nD Cert.AdamRefIdeal.τ).loc Cert.AdamRefIdeal.main_arg2) = m ((c.tc : Thread Cert.AdamIdeal.nD Cert.AdamIdeal.τ).loc Cert.AdamIdeal.main_arg2)
      ∧ m' ((c.tc : Thread Cert.AdamRefIdeal.nD Cert.AdamRefIdeal.τ).loc Cert.AdamRefIdeal.main_arg3) = m ((c.tc : Thread Cert.AdamIdeal.nD Cert.AdamIdeal.τ).loc Cert.AdamIdeal.main_arg3)) →
    ∃ (v0 : (c : Dev Cert.AdamIdeal.nD) → Buf (Elt Ideal) ((c.tc : Thread Cert.AdamIdeal.nD Cert.AdamIdeal.τ).loc Cert.AdamIdeal.main_v0_0)) (v1 : (c : Dev Cert.AdamIdeal.nD) → Buf (Elt Ideal) ((c.tc : Thread Cert.AdamIdeal.nD Cert.AdamIdeal.τ).loc Cert.AdamIdeal.main_v0_1)) (v2 : (c : Dev Cert.AdamIdeal.nD) → Buf (Elt Ideal) ((c.tc : Thread Cert.AdamIdeal.nD Cert.AdamIdeal.τ).loc Cert.AdamIdeal.main_v0_2)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v0_0) = v0 c
          ∧ r.2.mem ((c.tc : Thread Cert.AdamIdeal.nD Cert.AdamIdeal.τ).loc Cert.AdamIdeal.main_v0_1) = v1 c
          ∧ r.2.mem ((c.tc : Thread Cert.AdamIdeal.nD Cert.AdamIdeal.τ).loc Cert.AdamIdeal.main_v0_2) = v2 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_v23) = v0 c
          ∧ r.2.mem ((c.tc : Thread Cert.AdamRefIdeal.nD Cert.AdamRefIdeal.τ).loc Cert.AdamRefIdeal.main_v4) = v1 c
          ∧ r.2.mem ((c.tc : Thread Cert.AdamRefIdeal.nD Cert.AdamRefIdeal.τ).loc Cert.AdamRefIdeal.main_v10) = v2 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3))

def preserves_Wgrad_WgradIdeal : Prop :=
  True

def algebraic_WgradIdeal_WgradRefIdeal [hWgradIdeal : Cert.WgradIdeal.Facts] [hWgradRefIdeal : Cert.WgradRefIdeal.Facts] : Prop :=
  ∀ (m : (ℓ : Loc Cert.WgradIdeal.nD Cert.WgradIdeal.τ Cert.WgradIdeal.sig) → Buf (Elt Ideal) ℓ) (g : Dev Cert.WgradIdeal.nD → PrngReg)
    (m' : (ℓ : Loc Cert.WgradRefIdeal.nD Cert.WgradRefIdeal.τ Cert.WgradRefIdeal.sig) → Buf (Elt Ideal) ℓ) (g' : Dev Cert.WgradRefIdeal.nD → PrngReg), Pre_WgradIdeal m →
    (∀ c : Dev Cert.WgradIdeal.nD,
      m' ((c.tc : Thread Cert.WgradRefIdeal.nD Cert.WgradRefIdeal.τ).loc Cert.WgradRefIdeal.main_arg0) = m ((c.tc : Thread Cert.WgradIdeal.nD Cert.WgradIdeal.τ).loc Cert.WgradIdeal.main_arg0)
      ∧ m' ((c.tc : Thread Cert.WgradRefIdeal.nD Cert.WgradRefIdeal.τ).loc Cert.WgradRefIdeal.main_arg1) = m ((c.tc : Thread Cert.WgradIdeal.nD Cert.WgradIdeal.τ).loc Cert.WgradIdeal.main_arg1)) →
    ∃ (v0 : (c : Dev Cert.WgradIdeal.nD) → Buf (Elt Ideal) ((c.tc : Thread Cert.WgradIdeal.nD Cert.WgradIdeal.τ).loc Cert.WgradIdeal.main_v2)),
      θ_run (Cert.WgradIdeal.defs (F := Ideal)) (onTc (τ := Cert.WgradIdeal.τ) (Cert.WgradIdeal.main (F := Ideal))) ⟨m, fun _ => 0, g⟩ (fun r => ∀ c : Dev Cert.WgradIdeal.nD,
          r.2.mem ((c.tc : Thread Cert.WgradIdeal.nD Cert.WgradIdeal.τ).loc Cert.WgradIdeal.main_v2) = v0 c
          ∧ r.2.mem ((c.tc : Thread Cert.WgradIdeal.nD Cert.WgradIdeal.τ).loc Cert.WgradIdeal.main_arg0) = m ((c.tc : Thread Cert.WgradIdeal.nD Cert.WgradIdeal.τ).loc Cert.WgradIdeal.main_arg0)
          ∧ r.2.mem ((c.tc : Thread Cert.WgradIdeal.nD Cert.WgradIdeal.τ).loc Cert.WgradIdeal.main_arg1) = m ((c.tc : Thread Cert.WgradIdeal.nD Cert.WgradIdeal.τ).loc Cert.WgradIdeal.main_arg1))
      ∧ θ_run (Cert.WgradRefIdeal.defs (F := Ideal)) (onTc (τ := Cert.WgradRefIdeal.τ) (Cert.WgradRefIdeal.main (F := Ideal))) ⟨m', fun _ => 0, g'⟩ (fun r => ∀ c : Dev Cert.WgradRefIdeal.nD,
          r.2.mem ((c.tc : Thread Cert.WgradRefIdeal.nD Cert.WgradRefIdeal.τ).loc Cert.WgradRefIdeal.main_v3) = v0 c
          ∧ r.2.mem ((c.tc : Thread Cert.WgradRefIdeal.nD Cert.WgradRefIdeal.τ).loc Cert.WgradRefIdeal.main_arg0) = m' ((c.tc : Thread Cert.WgradRefIdeal.nD Cert.WgradRefIdeal.τ).loc Cert.WgradRefIdeal.main_arg0)
          ∧ r.2.mem ((c.tc : Thread Cert.WgradRefIdeal.nD Cert.WgradRefIdeal.τ).loc Cert.WgradRefIdeal.main_arg1) = m' ((c.tc : Thread Cert.WgradRefIdeal.nD Cert.WgradRefIdeal.τ).loc Cert.WgradRefIdeal.main_arg1))

def preserves_Total_TotalIdeal : Prop :=
  True

def algebraic_TotalIdeal_TotalRefIdeal [hTotalIdeal : Cert.TotalIdeal.Facts] [hTotalRefIdeal : Cert.TotalRefIdeal.Facts] : Prop :=
  ∀ (m : (ℓ : Loc Cert.TotalIdeal.nD Cert.TotalIdeal.τ Cert.TotalIdeal.sig) → Buf (Elt Ideal) ℓ) (g : Dev Cert.TotalIdeal.nD → PrngReg)
    (m' : (ℓ : Loc Cert.TotalRefIdeal.nD Cert.TotalRefIdeal.τ Cert.TotalRefIdeal.sig) → Buf (Elt Ideal) ℓ) (g' : Dev Cert.TotalRefIdeal.nD → PrngReg), Pre_TotalIdeal m →
    (∀ c : Dev Cert.TotalIdeal.nD,
      m' ((c.tc : Thread Cert.TotalRefIdeal.nD Cert.TotalRefIdeal.τ).loc Cert.TotalRefIdeal.main_arg0) = m ((c.tc : Thread Cert.TotalIdeal.nD Cert.TotalIdeal.τ).loc Cert.TotalIdeal.main_arg0)) →
    ∃ (v0 : (c : Dev Cert.TotalIdeal.nD) → Buf (Elt Ideal) ((c.tc : Thread Cert.TotalIdeal.nD Cert.TotalIdeal.τ).loc Cert.TotalIdeal.main_v0)),
      θ_run (Cert.TotalIdeal.defs (F := Ideal)) (onTc (τ := Cert.TotalIdeal.τ) (Cert.TotalIdeal.main (F := Ideal))) ⟨m, fun _ => 0, g⟩ (fun r => ∀ c : Dev Cert.TotalIdeal.nD,
          r.2.mem ((c.tc : Thread Cert.TotalIdeal.nD Cert.TotalIdeal.τ).loc Cert.TotalIdeal.main_v0) = v0 c
          ∧ r.2.mem ((c.tc : Thread Cert.TotalIdeal.nD Cert.TotalIdeal.τ).loc Cert.TotalIdeal.main_arg0) = m ((c.tc : Thread Cert.TotalIdeal.nD Cert.TotalIdeal.τ).loc Cert.TotalIdeal.main_arg0))
      ∧ θ_run (Cert.TotalRefIdeal.defs (F := Ideal)) (onTc (τ := Cert.TotalRefIdeal.τ) (Cert.TotalRefIdeal.main (F := Ideal))) ⟨m', fun _ => 0, g'⟩ (fun r => ∀ c : Dev Cert.TotalRefIdeal.nD,
          r.2.mem ((c.tc : Thread Cert.TotalRefIdeal.nD Cert.TotalRefIdeal.τ).loc Cert.TotalRefIdeal.main_v0) = v0 c
          ∧ r.2.mem ((c.tc : Thread Cert.TotalRefIdeal.nD Cert.TotalRefIdeal.τ).loc Cert.TotalRefIdeal.main_arg0) = m' ((c.tc : Thread Cert.TotalRefIdeal.nD Cert.TotalRefIdeal.τ).loc Cert.TotalRefIdeal.main_arg0))

def preserves_Prep_PrepIdeal : Prop :=
  True

def algebraic_PrepIdeal_PrepRefIdeal [hPrepIdeal : Cert.PrepIdeal.Facts] [hPrepRefIdeal : Cert.PrepRefIdeal.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepRefIdeal.nD Cert.PrepRefIdeal.τ Cert.PrepRefIdeal.sig) → Buf (Elt Ideal) ℓ) (g' : Dev Cert.PrepRefIdeal.nD → PrngReg), Pre_PrepIdeal m →
    (∀ c : Dev Cert.PrepIdeal.nD,
      m' ((c.tc : Thread Cert.PrepRefIdeal.nD Cert.PrepRefIdeal.τ).loc Cert.PrepRefIdeal.main_arg0) = m ((c.tc : Thread Cert.PrepIdeal.nD Cert.PrepIdeal.τ).loc Cert.PrepIdeal.main_arg0)) →
    ∃ (v0 : (c : Dev Cert.PrepIdeal.nD) → Buf (Elt Ideal) ((c.tc : Thread Cert.PrepIdeal.nD Cert.PrepIdeal.τ).loc Cert.PrepIdeal.main_v5)) (v1 : (c : Dev Cert.PrepIdeal.nD) → Buf (Elt Ideal) ((c.tc : Thread Cert.PrepIdeal.nD Cert.PrepIdeal.τ).loc Cert.PrepIdeal.main_v7)) (v2 : (c : Dev Cert.PrepIdeal.nD) → Buf (Elt Ideal) ((c.tc : Thread Cert.PrepIdeal.nD Cert.PrepIdeal.τ).loc Cert.PrepIdeal.main_v8)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v5) = v0 c
          ∧ r.2.mem ((c.tc : Thread Cert.PrepIdeal.nD Cert.PrepIdeal.τ).loc Cert.PrepIdeal.main_v7) = v1 c
          ∧ r.2.mem ((c.tc : Thread Cert.PrepIdeal.nD Cert.PrepIdeal.τ).loc Cert.PrepIdeal.main_v8) = v2 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0))
      ∧ θ_run (Cert.PrepRefIdeal.defs (F := Ideal)) (onTc (τ := Cert.PrepRefIdeal.τ) (Cert.PrepRefIdeal.main (F := Ideal))) ⟨m', fun _ => 0, g'⟩ (fun r => ∀ c : Dev Cert.PrepRefIdeal.nD,
          r.2.mem ((c.tc : Thread Cert.PrepRefIdeal.nD Cert.PrepRefIdeal.τ).loc Cert.PrepRefIdeal.main_v0) = v0 c
          ∧ r.2.mem ((c.tc : Thread Cert.PrepRefIdeal.nD Cert.PrepRefIdeal.τ).loc Cert.PrepRefIdeal.main_v1) = v1 c
          ∧ r.2.mem ((c.tc : Thread Cert.PrepRefIdeal.nD Cert.PrepRefIdeal.τ).loc Cert.PrepRefIdeal.main_v2) = v2 c
          ∧ r.2.mem ((c.tc : Thread Cert.PrepRefIdeal.nD Cert.PrepRefIdeal.τ).loc Cert.PrepRefIdeal.main_arg0) = m' ((c.tc : Thread Cert.PrepRefIdeal.nD Cert.PrepRefIdeal.τ).loc Cert.PrepRefIdeal.main_arg0))

def Claim : Prop :=
  ∃ (hLoss : Cert.Loss.Facts) (hLossIdeal : Cert.LossIdeal.Facts) (hLossRefIdeal : Cert.LossRefIdeal.Facts) (hAttn : Cert.Attn.Facts) (hAttnIdeal : Cert.AttnIdeal.Facts) (hAttnRefIdeal : Cert.AttnRefIdeal.Facts) (hAttnFwd : Cert.AttnFwd.Facts) (hAttnFwdIdeal : Cert.AttnFwdIdeal.Facts) (hAttnFwdRefIdeal : Cert.AttnFwdRefIdeal.Facts) (hInProj : Cert.InProj.Facts) (hInProjIdeal : Cert.InProjIdeal.Facts) (hInProjRefIdeal : Cert.InProjRefIdeal.Facts) (hFfn : Cert.Ffn.Facts) (hFfnIdeal : Cert.FfnIdeal.Facts) (hFfnRefIdeal : Cert.FfnRefIdeal.Facts) (hPost : Cert.Post.Facts) (hPostIdeal : Cert.PostIdeal.Facts) (hPostRefIdeal : Cert.PostRefIdeal.Facts) (hInFwd : Cert.InFwd.Facts) (hInFwdIdeal : Cert.InFwdIdeal.Facts) (hInFwdRefIdeal : Cert.InFwdRefIdeal.Facts) (hFfnFwd : Cert.FfnFwd.Facts) (hFfnFwdIdeal : Cert.FfnFwdIdeal.Facts) (hFfnFwdRefIdeal : Cert.FfnFwdRefIdeal.Facts) (hAdam : Cert.Adam.Facts) (hAdamIdeal : Cert.AdamIdeal.Facts) (hAdamRefIdeal : Cert.AdamRefIdeal.Facts) (hWgrad : Cert.Wgrad.Facts) (hWgradIdeal : Cert.WgradIdeal.Facts) (hWgradRefIdeal : Cert.WgradRefIdeal.Facts) (hTotal : Cert.Total.Facts) (hTotalIdeal : Cert.TotalIdeal.Facts) (hTotalRefIdeal : Cert.TotalRefIdeal.Facts) (hPrep : Cert.Prep.Facts) (hPrepIdeal : Cert.PrepIdeal.Facts) (hPrepRefIdeal : Cert.PrepRefIdeal.Facts) (hPre_attn_finite : Cert.Pre_attn_finite.Facts) (hPre_forward_finite : Cert.Pre_forward_finite.Facts) (hPre_inproj_finite : Cert.Pre_inproj_finite.Facts) (hPre_ffn_finite : Cert.Pre_ffn_finite.Facts) (hPre_post_finite : Cert.Pre_post_finite.Facts),
    quiescent_Loss (hLoss := hLoss)
    ∧ quiescent_LossIdeal (hLossIdeal := hLossIdeal)
    ∧ quiescent_LossRefIdeal (hLossRefIdeal := hLossRefIdeal)
    ∧ quiescent_Attn (hAttn := hAttn)
    ∧ quiescent_AttnIdeal (hAttnIdeal := hAttnIdeal)
    ∧ quiescent_AttnIdeal_pre_attn_finite (hAttnIdeal := hAttnIdeal) (hPre_attn_finite := hPre_attn_finite)
    ∧ quiescent_AttnRefIdeal (hAttnRefIdeal := hAttnRefIdeal)
    ∧ quiescent_AttnRefIdeal_pre_attn_finite (hAttnRefIdeal := hAttnRefIdeal) (hPre_attn_finite := hPre_attn_finite)
    ∧ quiescent_AttnFwd (hAttnFwd := hAttnFwd)
    ∧ quiescent_AttnFwdIdeal (hAttnFwdIdeal := hAttnFwdIdeal)
    ∧ quiescent_AttnFwdIdeal_pre_forward_finite (hAttnFwdIdeal := hAttnFwdIdeal) (hPre_forward_finite := hPre_forward_finite)
    ∧ quiescent_AttnFwdRefIdeal (hAttnFwdRefIdeal := hAttnFwdRefIdeal)
    ∧ quiescent_AttnFwdRefIdeal_pre_forward_finite (hAttnFwdRefIdeal := hAttnFwdRefIdeal) (hPre_forward_finite := hPre_forward_finite)
    ∧ quiescent_InProj (hInProj := hInProj)
    ∧ quiescent_InProjIdeal (hInProjIdeal := hInProjIdeal)
    ∧ quiescent_InProjIdeal_pre_inproj_finite (hInProjIdeal := hInProjIdeal) (hPre_inproj_finite := hPre_inproj_finite)
    ∧ quiescent_InProjRefIdeal (hInProjRefIdeal := hInProjRefIdeal)
    ∧ quiescent_InProjRefIdeal_pre_inproj_finite (hInProjRefIdeal := hInProjRefIdeal) (hPre_inproj_finite := hPre_inproj_finite)
    ∧ quiescent_Ffn (hFfn := hFfn)
    ∧ quiescent_FfnIdeal (hFfnIdeal := hFfnIdeal)
    ∧ quiescent_FfnIdeal_pre_ffn_finite (hFfnIdeal := hFfnIdeal) (hPre_ffn_finite := hPre_ffn_finite)
    ∧ quiescent_FfnRefIdeal (hFfnRefIdeal := hFfnRefIdeal)
    ∧ quiescent_FfnRefIdeal_pre_ffn_finite (hFfnRefIdeal := hFfnRefIdeal) (hPre_ffn_finite := hPre_ffn_finite)
    ∧ quiescent_Post (hPost := hPost)
    ∧ quiescent_PostIdeal (hPostIdeal := hPostIdeal)
    ∧ quiescent_PostIdeal_pre_post_finite (hPostIdeal := hPostIdeal) (hPre_post_finite := hPre_post_finite)
    ∧ quiescent_PostRefIdeal (hPostRefIdeal := hPostRefIdeal)
    ∧ quiescent_PostRefIdeal_pre_post_finite (hPostRefIdeal := hPostRefIdeal) (hPre_post_finite := hPre_post_finite)
    ∧ quiescent_InFwd (hInFwd := hInFwd)
    ∧ quiescent_InFwdIdeal (hInFwdIdeal := hInFwdIdeal)
    ∧ quiescent_InFwdRefIdeal (hInFwdRefIdeal := hInFwdRefIdeal)
    ∧ quiescent_FfnFwd (hFfnFwd := hFfnFwd)
    ∧ quiescent_FfnFwdIdeal (hFfnFwdIdeal := hFfnFwdIdeal)
    ∧ quiescent_FfnFwdRefIdeal (hFfnFwdRefIdeal := hFfnFwdRefIdeal)
    ∧ quiescent_Adam (hAdam := hAdam)
    ∧ quiescent_AdamIdeal (hAdamIdeal := hAdamIdeal)
    ∧ quiescent_AdamRefIdeal (hAdamRefIdeal := hAdamRefIdeal)
    ∧ quiescent_Wgrad (hWgrad := hWgrad)
    ∧ quiescent_WgradIdeal (hWgradIdeal := hWgradIdeal)
    ∧ quiescent_WgradRefIdeal (hWgradRefIdeal := hWgradRefIdeal)
    ∧ quiescent_Total (hTotal := hTotal)
    ∧ quiescent_TotalIdeal (hTotalIdeal := hTotalIdeal)
    ∧ quiescent_TotalRefIdeal (hTotalRefIdeal := hTotalRefIdeal)
    ∧ quiescent_Prep (hPrep := hPrep)
    ∧ quiescent_PrepIdeal (hPrepIdeal := hPrepIdeal)
    ∧ quiescent_PrepRefIdeal (hPrepRefIdeal := hPrepRefIdeal)
    ∧ preserves_Loss_LossIdeal
    ∧ algebraic_LossIdeal_LossRefIdeal (hLossIdeal := hLossIdeal) (hLossRefIdeal := hLossRefIdeal)
    ∧ preserves_Attn_AttnIdeal
    ∧ algebraic_AttnIdeal_AttnRefIdeal_pre_attn_finite (hAttnIdeal := hAttnIdeal) (hAttnRefIdeal := hAttnRefIdeal) (hPre_attn_finite := hPre_attn_finite)
    ∧ preserves_AttnFwd_AttnFwdIdeal
    ∧ algebraic_AttnFwdIdeal_AttnFwdRefIdeal_pre_forward_finite (hAttnFwdIdeal := hAttnFwdIdeal) (hAttnFwdRefIdeal := hAttnFwdRefIdeal) (hPre_forward_finite := hPre_forward_finite)
    ∧ preserves_InProj_InProjIdeal
    ∧ algebraic_InProjIdeal_InProjRefIdeal_pre_inproj_finite (hInProjIdeal := hInProjIdeal) (hInProjRefIdeal := hInProjRefIdeal) (hPre_inproj_finite := hPre_inproj_finite)
    ∧ preserves_Ffn_FfnIdeal
    ∧ algebraic_FfnIdeal_FfnRefIdeal_pre_ffn_finite (hFfnIdeal := hFfnIdeal) (hFfnRefIdeal := hFfnRefIdeal) (hPre_ffn_finite := hPre_ffn_finite)
    ∧ preserves_Post_PostIdeal
    ∧ algebraic_PostIdeal_PostRefIdeal_pre_post_finite (hPostIdeal := hPostIdeal) (hPostRefIdeal := hPostRefIdeal) (hPre_post_finite := hPre_post_finite)
    ∧ preserves_InFwd_InFwdIdeal
    ∧ algebraic_InFwdIdeal_InFwdRefIdeal (hInFwdIdeal := hInFwdIdeal) (hInFwdRefIdeal := hInFwdRefIdeal)
    ∧ preserves_FfnFwd_FfnFwdIdeal
    ∧ algebraic_FfnFwdIdeal_FfnFwdRefIdeal (hFfnFwdIdeal := hFfnFwdIdeal) (hFfnFwdRefIdeal := hFfnFwdRefIdeal)
    ∧ preserves_Adam_AdamIdeal
    ∧ algebraic_AdamIdeal_AdamRefIdeal (hAdamIdeal := hAdamIdeal) (hAdamRefIdeal := hAdamRefIdeal)
    ∧ preserves_Wgrad_WgradIdeal
    ∧ algebraic_WgradIdeal_WgradRefIdeal (hWgradIdeal := hWgradIdeal) (hWgradRefIdeal := hWgradRefIdeal)
    ∧ preserves_Total_TotalIdeal
    ∧ algebraic_TotalIdeal_TotalRefIdeal (hTotalIdeal := hTotalIdeal) (hTotalRefIdeal := hTotalRefIdeal)
    ∧ preserves_Prep_PrepIdeal
    ∧ algebraic_PrepIdeal_PrepRefIdeal (hPrepIdeal := hPrepIdeal) (hPrepRefIdeal := hPrepRefIdeal)
-- ==== Pre_attn_finite.lean ====
abbrev S8x4096x64 : Shape := ⟨3, ![8, 4096, 64]⟩
abbrev S8x4096 : Shape := ⟨2, ![8, 4096]⟩
abbrev S_ : Shape := ⟨0, ![]⟩

class Facts : Prop where
  bcast_S_S8x4096x64 : S_.BroadcastsInDim S8x4096x64 (![] : Fin 0 → Fin S8x4096x64.rank)
  reducesTo_S8x4096x64_S_d0_1_2 : S8x4096x64.ReducesTo [0, 1, 2] S_
  h_S_ : 0 < S_.numel
  bcast_S_S8x4096 : S_.BroadcastsInDim S8x4096 (![] : Fin 0 → Fin S8x4096.rank)
  reducesTo_S8x4096_S_d0_1 : S8x4096.ReducesTo [0, 1] S_

variable [Facts]

def fn_part1 {F : FTy → Type} [FloatOps F] (main_arg4 : FVec F S8x4096x64 .f32) (main_v3 : IVec S_ 1) (main_v7 : IVec S_ 1) (main_v11 : IVec S_ 1) (main_v15 : IVec S_ 1) : IVec S_ 1 :=
  let main_v16 : FVec F S8x4096x64 .f32 := Host.absf main_arg4
  let main_cst_6 : FVec F S_ .f32 := constant S_ .f32 0x7F800000#32
  let main_v17 : FVec F S8x4096x64 .f32 := broadcastInDim S8x4096x64 ![] bcast_S_S8x4096x64 main_cst_6
  let main_v18 : IVec S8x4096x64 1 := cmpf .olt main_v16 main_v17
  let main_c_7 : IVec S_ 1 := constantI S_ 1 1#1
  let main_v19 : IVec S_ 1 := (fun x v => Host.reduce IntOp.andi x v reducesTo_S8x4096x64_S_d0_1_2 h_S_) main_v18 main_c_7
  let main_v20 : IVec S_ 1 := andi main_v3 main_v7
  let main_v21 : IVec S_ 1 := andi main_v20 main_v11
  let main_v22 : IVec S_ 1 := andi main_v21 main_v15
  let main_v23 : IVec S_ 1 := andi main_v22 main_v19
  main_v23

def fn {F : FTy → Type} [FloatOps F] (main_arg0 : FVec F S8x4096x64 .f32) (main_arg1 : FVec F S8x4096x64 .f32) (main_arg2 : FVec F S8x4096x64 .f32) (main_arg3 : FVec F S8x4096 .f32) (main_arg4 : FVec F S8x4096x64 .f32) : IVec S_ 1 :=
  let main_v0 : FVec F S8x4096x64 .f32 := Host.absf main_arg0
  let main_cst : FVec F S_ .f32 := constant S_ .f32 0x7F800000#32
  let main_v1 : FVec F S8x4096x64 .f32 := broadcastInDim S8x4096x64 ![] bcast_S_S8x4096x64 main_cst
  let main_v2 : IVec S8x4096x64 1 := cmpf .olt main_v0 main_v1
  let main_c : IVec S_ 1 := constantI S_ 1 1#1
  let main_v3 : IVec S_ 1 := (fun x v => Host.reduce IntOp.andi x v reducesTo_S8x4096x64_S_d0_1_2 h_S_) main_v2 main_c
  let main_v4 : FVec F S8x4096x64 .f32 := Host.absf main_arg1
  let main_cst_0 : FVec F S_ .f32 := constant S_ .f32 0x7F800000#32
  let main_v5 : FVec F S8x4096x64 .f32 := broadcastInDim S8x4096x64 ![] bcast_S_S8x4096x64 main_cst_0
  let main_v6 : IVec S8x4096x64 1 := cmpf .olt main_v4 main_v5
  let main_c_1 : IVec S_ 1 := constantI S_ 1 1#1
  let main_v7 : IVec S_ 1 := (fun x v => Host.reduce IntOp.andi x v reducesTo_S8x4096x64_S_d0_1_2 h_S_) main_v6 main_c_1
  let main_v8 : FVec F S8x4096x64 .f32 := Host.absf main_arg2
  let main_cst_2 : FVec F S_ .f32 := constant S_ .f32 0x7F800000#32
  let main_v9 : FVec F S8x4096x64 .f32 := broadcastInDim S8x4096x64 ![] bcast_S_S8x4096x64 main_cst_2
  let main_v10 : IVec S8x4096x64 1 := cmpf .olt main_v8 main_v9
  let main_c_3 : IVec S_ 1 := constantI S_ 1 1#1
  let main_v11 : IVec S_ 1 := (fun x v => Host.reduce IntOp.andi x v reducesTo_S8x4096x64_S_d0_1_2 h_S_) main_v10 main_c_3
  let main_v12 : FVec F S8x4096 .f32 := Host.absf main_arg3
  let main_cst_4 : FVec F S_ .f32 := constant S_ .f32 0x7F800000#32
  let main_v13 : FVec F S8x4096 .f32 := broadcastInDim S8x4096 ![] bcast_S_S8x4096 main_cst_4
  let main_v14 : IVec S8x4096 1 := cmpf .olt main_v12 main_v13
  let main_c_5 : IVec S_ 1 := constantI S_ 1 1#1
  let main_v15 : IVec S_ 1 := (fun x v => Host.reduce IntOp.andi x v reducesTo_S8x4096_S_d0_1 h_S_) main_v14 main_c_5
  fn_part1 (F := F) main_arg4 main_v3 main_v7 main_v11 main_v15
-- ==== Pre_ffn_finite.lean ====
abbrev S4096x1024 : Shape := ⟨2, ![4096, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x5632 : S_.BroadcastsInDim S1024x5632 (![] : Fin 0 → Fin S1024x5632.rank)
  reducesTo_S1024x5632_S_d0_1 : S1024x5632.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S4096x1024 .f32) (main_v3 : IVec S_ 1) (main_v7 : IVec S_ 1) (main_v11 : IVec S_ 1) (main_v15 : IVec S_ 1) : IVec S_ 1 :=
  let main_v16 : FVec F S4096x1024 .f32 := Host.absf main_arg4
  let main_cst_6 : FVec F S_ .f32 := constant S_ .f32 0x7F800000#32
  let main_v17 : FVec F S4096x1024 .f32 := broadcastInDim S4096x1024 ![] bcast_S_S4096x1024 main_cst_6
  let main_v18 : IVec S4096x1024 1 := cmpf .olt main_v16 main_v17
  let main_c_7 : IVec S_ 1 := constantI S_ 1 1#1
  let main_v19 : IVec S_ 1 := (fun x v => Host.reduce IntOp.andi x v reducesTo_S4096x1024_S_d0_1 h_S_) main_v18 main_c_7
  let main_v20 : IVec S_ 1 := andi main_v3 main_v7
  let main_v21 : IVec S_ 1 := andi main_v20 main_v11
  let main_v22 : IVec S_ 1 := andi main_v21 main_v15
  let main_v23 : IVec S_ 1 := andi main_v22 main_v19
  main_v23

def fn {F : FTy → Type} [FloatOps F] (main_arg0 : FVec F S4096x1024 .f32) (main_arg1 : FVec F S1024 .f32) (main_arg2 : FVec F S1024x5632 .f32) (main_arg3 : FVec F S2816x1024 .f32) (main_arg4 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : FVec F S1024x5632 .f32 := Host.absf main_arg2
  let main_cst_2 : FVec F S_ .f32 := constant S_ .f32 0x7F800000#32
  let main_v9 : FVec F S1024x5632 .f32 := broadcastInDim S1024x5632 ![] bcast_S_S1024x5632 main_cst_2
  let main_v10 : IVec S1024x5632 1 := cmpf .olt main_v8 main_v9
  let main_c_3 : IVec S_ 1 := constantI S_ 1 1#1
  let main_v11 : IVec S_ 1 := (fun x v => Host.reduce IntOp.andi x v reducesTo_S1024x5632_S_d0_1 h_S_) main_v10 main_c_3
  let main_v12 : FVec F S2816x1024 .f32 := Host.absf main_arg3
  let main_cst_4 : FVec F S_ .f32 := constant S_ .f32 0x7F800000#32
  let main_v13 : FVec F S2816x1024 .f32 := broadcastInDim S2816x1024 ![] bcast_S_S2816x1024 main_cst_4
  let main_v14 : IVec S2816x1024 1 := cmpf .olt main_v12 main_v13
  let main_c_5 : IVec S_ 1 := constantI S_ 1 1#1
  let main_v15 : IVec S_ 1 := (fun x v => Host.reduce IntOp.andi x v reducesTo_S2816x1024_S_d0_1 h_S_) main_v14 main_c_5
  fn_part1 (F := F) main_arg4 main_v3 main_v7 main_v11 main_v15
-- ==== Pre_forward_finite.lean ====
abbrev S8x4096x64 : Shape := ⟨3, ![8, 4096, 64]⟩
abbrev S8x4096 : Shape := ⟨2, ![8, 4096]⟩
abbrev S_ : Shape := ⟨0, ![]⟩

class Facts : Prop where
  bcast_S_S8x4096x64 : S_.BroadcastsInDim S8x4096x64 (![] : Fin 0 → Fin S8x4096x64.rank)
  reducesTo_S8x4096x64_S_d0_1_2 : S8x4096x64.ReducesTo [0, 1, 2] S_
  h_S_ : 0 < S_.numel
  bcast_S_S8x4096 : S_.BroadcastsInDim S8x4096 (![] : Fin 0 → Fin S8x4096.rank)
  reducesTo_S8x4096_S_d0_1 : S8x4096.ReducesTo [0, 1] S_

variable [Facts]

def fn_part1 {F : FTy → Type} [FloatOps F] (main_v3 : IVec S_ 1) (main_v7 : IVec S_ 1) (main_v11 : IVec S_ 1) (main_v15 : IVec S_ 1) : IVec S_ 1 :=
  let main_v16 : IVec S_ 1 := andi main_v3 main_v7
  let main_v17 : IVec S_ 1 := andi main_v16 main_v11
  let main_v18 : IVec S_ 1 := andi main_v17 main_v15
  main_v18

def fn {F : FTy → Type} [FloatOps F] (main_arg0 : FVec F S8x4096x64 .f32) (main_arg1 : FVec F S8x4096x64 .f32) (main_arg2 : FVec F S8x4096x64 .f32) (main_arg3 : FVec F S8x4096 .f32) : IVec S_ 1 :=
  let main_v0 : FVec F S8x4096x64 .f32 := Host.absf main_arg0
  let main_cst : FVec F S_ .f32 := constant S_ .f32 0x7F800000#32
  let main_v1 : FVec F S8x4096x64 .f32 := broadcastInDim S8x4096x64 ![] bcast_S_S8x4096x64 main_cst
  let main_v2 : IVec S8x4096x64 1 := cmpf .olt main_v0 main_v1
  let main_c : IVec S_ 1 := constantI S_ 1 1#1
  let main_v3 : IVec S_ 1 := (fun x v => Host.reduce IntOp.andi x v reducesTo_S8x4096x64_S_d0_1_2 h_S_) main_v2 main_c
  let main_v4 : FVec F S8x4096x64 .f32 := Host.absf main_arg1
  let main_cst_0 : FVec F S_ .f32 := constant S_ .f32 0x7F800000#32
  let main_v5 : FVec F S8x4096x64 .f32 := broadcastInDim S8x4096x64 ![] bcast_S_S8x4096x64 main_cst_0
  let main_v6 : IVec S8x4096x64 1 := cmpf .olt main_v4 main_v5
  let main_c_1 : IVec S_ 1 := constantI S_ 1 1#1
  let main_v7 : IVec S_ 1 := (fun x v => Host.reduce IntOp.andi x v reducesTo_S8x4096x64_S_d0_1_2 h_S_) main_v6 main_c_1
  let main_v8 : FVec F S8x4096x64 .f32 := Host.absf main_arg2
  let main_cst_2 : FVec F S_ .f32 := constant S_ .f32 0x7F800000#32
  let main_v9 : FVec F S8x4096x64 .f32 := broadcastInDim S8x4096x64 ![] bcast_S_S8x4096x64 main_cst_2
  let main_v10 : IVec S8x4096x64 1 := cmpf .olt main_v8 main_v9
  let main_c_3 : IVec S_ 1 := constantI S_ 1 1#1
  let main_v11 : IVec S_ 1 := (fun x v => Host.reduce IntOp.andi x v reducesTo_S8x4096x64_S_d0_1_2 h_S_) main_v10 main_c_3
  let main_v12 : FVec F S8x4096 .f32 := Host.absf main_arg3
  let main_cst_4 : FVec F S_ .f32 := constant S_ .f32 0x7F800000#32
  let main_v13 : FVec F S8x4096 .f32 := broadcastInDim S8x4096 ![] bcast_S_S8x4096 main_cst_4
  let main_v14 : IVec S8x4096 1 := cmpf .olt main_v12 main_v13
  let main_c_5 : IVec S_ 1 := constantI S_ 1 1#1
  let main_v15 : IVec S_ 1 := (fun x v => Host.reduce IntOp.andi x v reducesTo_S8x4096_S_d0_1 h_S_) main_v14 main_c_5
  fn_part1 (F := F) main_v3 main_v7 main_v11 main_v15
-- ==== Pre_inproj_finite.lean ====
abbrev S4096x1024 : Shape := ⟨2, ![4096, 1024]⟩
abbrev S1024 : Shape := ⟨1, ![1024]⟩
abbrev S1024x5640 : Shape := ⟨2, ![1024, 5640]⟩
abbrev S4096x5640 : Shape := ⟨2, ![4096, 5640]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x5640 : S_.BroadcastsInDim S1024x5640 (![] : Fin 0 → Fin S1024x5640.rank)
  reducesTo_S1024x5640_S_d0_1 : S1024x5640.ReducesTo [0, 1] S_
  bcast_S_S4096x5640 : S_.BroadcastsInDim S4096x5640 (![] : Fin 0 → Fin S4096x5640.rank)
  reducesTo_S4096x5640_S_d0_1 : S4096x5640.ReducesTo [0, 1] S_

variable [Facts]

def fn_part1 {F : FTy → Type} [FloatOps F] (main_v3 : IVec S_ 1) (main_v7 : IVec S_ 1) (main_v11 : IVec S_ 1) (main_v15 : IVec S_ 1) : IVec S_ 1 :=
  let main_v16 : IVec S_ 1 := andi main_v3 main_v7
  let main_v17 : IVec S_ 1 := andi main_v16 main_v11
  let main_v18 : IVec S_ 1 := andi main_v17 main_v15
  main_v18

def fn {F : FTy → Type} [FloatOps F] (main_arg0 : FVec F S4096x1024 .f32) (main_arg1 : FVec F S1024 .f32) (main_arg2 : FVec F S1024x5640 .f32) (main_arg3 : FVec F S4096x1024 .f32) (main_arg4 : FVec F S4096x5640 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : FVec F S1024x5640 .f32 := Host.absf main_arg2
  let main_cst_2 : FVec F S_ .f32 := constant S_ .f32 0x7F800000#32
  let main_v9 : FVec F S1024x5640 .f32 := broadcastInDim S1024x5640 ![] bcast_S_S1024x5640 main_cst_2
  let main_v10 : IVec S1024x5640 1 := cmpf .olt main_v8 main_v9
  let main_c_3 : IVec S_ 1 := constantI S_ 1 1#1
  let main_v11 : IVec S_ 1 := (fun x v => Host.reduce IntOp.andi x v reducesTo_S1024x5640_S_d0_1 h_S_) main_v10 main_c_3
  let main_v12 : FVec F S4096x5640 .f32 := Host.absf main_arg4
  let main_cst_4 : FVec F S_ .f32 := constant S_ .f32 0x7F800000#32
  let main_v13 : FVec F S4096x5640 .f32 := broadcastInDim S4096x5640 ![] bcast_S_S4096x5640 main_cst_4
  let main_v14 : IVec S4096x5640 1 := cmpf .olt main_v12 main_v13
  let main_c_5 : IVec S_ 1 := constantI S_ 1 1#1
  let main_v15 : IVec S_ 1 := (fun x v => Host.reduce IntOp.andi x v reducesTo_S4096x5640_S_d0_1 h_S_) main_v14 main_c_5
  fn_part1 (F := F) main_v3 main_v7 main_v11 main_v15
-- ==== Pre_post_finite.lean ====
abbrev S4096x1536 : Shape := ⟨2, ![4096, 1536]⟩
abbrev S4096x8 : Shape := ⟨2, ![4096, 8]⟩
abbrev S64 : Shape := ⟨1, ![64]⟩
abbrev S8 : Shape := ⟨1, ![8]⟩
abbrev S8x4096x64 : Shape := ⟨3, ![8, 4096, 64]⟩
abbrev S8x4096 : Shape := ⟨2, ![8, 4096]⟩
abbrev S_ : Shape := ⟨0, ![]⟩

class Facts : Prop where
  bcast_S_S4096x1536 : S_.BroadcastsInDim S4096x1536 (![] : Fin 0 → Fin S4096x1536.rank)
  reducesTo_S4096x1536_S_d0_1 : S4096x1536.ReducesTo [0, 1] S_
  h_S_ : 0 < S_.numel
  bcast_S_S4096x8 : S_.BroadcastsInDim S4096x8 (![] : Fin 0 → Fin S4096x8.rank)
  reducesTo_S4096x8_S_d0_1 : S4096x8.ReducesTo [0, 1] S_
  bcast_S_S64 : S_.BroadcastsInDim S64 (![] : Fin 0 → Fin S64.rank)
  reducesTo_S64_S_d0 : S64.ReducesTo [0] S_
  bcast_S_S8 : S_.BroadcastsInDim S8 (![] : Fin 0 → Fin S8.rank)
  reducesTo_S8_S_d0 : S8.ReducesTo [0] S_
  bcast_S_S8x4096x64 : S_.BroadcastsInDim S8x4096x64 (![] : Fin 0 → Fin S8x4096x64.rank)
  reducesTo_S8x4096x64_S_d0_1_2 : S8x4096x64.ReducesTo [0, 1, 2] S_
  bcast_S_S8x4096 : S_.BroadcastsInDim S8x4096 (![] : Fin 0 → Fin S8x4096.rank)
  reducesTo_S8x4096_S_d0_1 : S8x4096.ReducesTo [0, 1] S_

variable [Facts]

def fn_part2 {F : FTy → Type} [FloatOps F] (main_arg8 : FVec F S8x4096 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S8x4096 .f32 := Host.absf main_arg8
  let main_cst_14 : FVec F S_ .f32 := constant S_ .f32 0x7F800000#32
  let main_v33 : FVec F S8x4096 .f32 := broadcastInDim S8x4096 ![] bcast_S_S8x4096 main_cst_14
  let main_v34 : IVec S8x4096 1 := cmpf .olt main_v32 main_v33
  let main_c_15 : IVec S_ 1 := constantI S_ 1 1#1
  let main_v35 : IVec S_ 1 := (fun x v => Host.reduce IntOp.andi x v reducesTo_S8x4096_S_d0_1 h_S_) main_v34 main_c_15
  let main_v36 : IVec S_ 1 := andi main_v3 main_v7
  let main_v37 : IVec S_ 1 := andi main_v36 main_v11
  let main_v38 : IVec S_ 1 := andi main_v37 main_v15
  let main_v39 : IVec S_ 1 := andi main_v38 main_v19
  let main_v40 : IVec S_ 1 := andi main_v39 main_v23
  let main_v41 : IVec S_ 1 := andi main_v40 main_v27
  let main_v42 : IVec S_ 1 := andi main_v41 main_v31
  let main_v43 : IVec S_ 1 := andi main_v42 main_v35
  main_v43

def fn_part1 {F : FTy → Type} [FloatOps F] (main_arg4 : FVec F S8 .f32) (main_arg5 : FVec F S8x4096x64 .f32) (main_arg6 : FVec F S8x4096x64 .f32) (main_arg7 : FVec F S8x4096x64 .f32) (main_arg8 : FVec F S8x4096 .f32) (main_v3 : IVec S_ 1) (main_v7 : IVec S_ 1) (main_v11 : IVec S_ 1) (main_v15 : IVec S_ 1) : IVec S_ 1 :=
  let main_v16 : FVec F S8 .f32 := Host.absf main_arg4
  let main_cst_6 : FVec F S_ .f32 := constant S_ .f32 0x7F800000#32
  let main_v17 : FVec F S8 .f32 := broadcastInDim S8 ![] bcast_S_S8 main_cst_6
  let main_v18 : IVec S8 1 := cmpf .olt main_v16 main_v17
  let main_c_7 : IVec S_ 1 := constantI S_ 1 1#1
  let main_v19 : IVec S_ 1 := (fun x v => Host.reduce IntOp.andi x v reducesTo_S8_S_d0 h_S_) main_v18 main_c_7
  let main_v20 : FVec F S8x4096x64 .f32 := Host.absf main_arg5
  let main_cst_8 : FVec F S_ .f32 := constant S_ .f32 0x7F800000#32
  let main_v21 : FVec F S8x4096x64 .f32 := broadcastInDim S8x4096x64 ![] bcast_S_S8x4096x64 main_cst_8
  let main_v22 : IVec S8x4096x64 1 := cmpf .olt main_v20 main_v21
  let main_c_9 : IVec S_ 1 := constantI S_ 1 1#1
  let main_v23 : IVec S_ 1 := (fun x v => Host.reduce IntOp.andi x v reducesTo_S8x4096x64_S_d0_1_2 h_S_) main_v22 main_c_9
  let main_v24 : FVec F S8x4096x64 .f32 := Host.absf main_arg6
  let main_cst_10 : FVec F S_ .f32 := constant S_ .f32 0x7F800000#32
  let main_v25 : FVec F S8x4096x64 .f32 := broadcastInDim S8x4096x64 ![] bcast_S_S8x4096x64 main_cst_10
  let main_v26 : IVec S8x4096x64 1 := cmpf .olt main_v24 main_v25
  let main_c_11 : IVec S_ 1 := constantI S_ 1 1#1
  let main_v27 : IVec S_ 1 := (fun x v => Host.reduce IntOp.andi x v reducesTo_S8x4096x64_S_d0_1_2 h_S_) main_v26 main_c_11
  let main_v28 : FVec F S8x4096x64 .f32 := Host.absf main_arg7
  let main_cst_12 : FVec F S_ .f32 := constant S_ .f32 0x7F800000#32
  let main_v29 : FVec F S8x4096x64 .f32 := broadcastInDim S8x4096x64 ![] bcast_S_S8x4096x64 main_cst_12
  let main_v30 : IVec S8x4096x64 1 := cmpf .olt main_v28 main_v29
  let main_c_13 : IVec S_ 1 := constantI S_ 1 1#1
  let main_v31 : IVec S_ 1 := (fun x v => Host.reduce IntOp.andi x v reducesTo_S8x4096x64_S_d0_1_2 h_S_) main_v30 main_c_13
  fn_part2 (F := F) main_arg8 main_v3 main_v7 main_v11 main_v15 main_v19 main_v23 main_v27 main_v31

def fn {F : FTy → Type} [FloatOps F] (main_arg0 : FVec F S4096x1536 .f32) (main_arg1 : FVec F S4096x8 .f32) (main_arg2 : FVec F S64 .f32) (main_arg3 : FVec F S64 .f32) (main_arg4 : FVec F S8 .f32) (main_arg5 : FVec F S8x4096x64 .f32) (main_arg6 : FVec F S8x4096x64 .f32) (main_arg7 : FVec F S8x4096x64 .f32) (main_arg8 : FVec F S8x4096 .f32) : IVec S_ 1 :=
  let main_v0 : FVec F S4096x1536 .f32 := Host.absf main_arg0
  let main_cst : FVec F S_ .f32 := constant S_ .f32 0x7F800000#32
  let main_v1 : FVec F S4096x1536 .f32 := broadcastInDim S4096x1536 ![] bcast_S_S4096x1536 main_cst
  let main_v2 : IVec S4096x1536 1 := cmpf .olt main_v0 main_v1
  let main_c : IVec S_ 1 := constantI S_ 1 1#1
  let main_v3 : IVec S_ 1 := (fun x v => Host.reduce IntOp.andi x v reducesTo_S4096x1536_S_d0_1 h_S_) main_v2 main_c
  let main_v4 : FVec F S4096x8 .f32 := Host.absf main_arg1
  let main_cst_0 : FVec F S_ .f32 := constant S_ .f32 0x7F800000#32
  let main_v5 : FVec F S4096x8 .f32 := broadcastInDim S4096x8 ![] bcast_S_S4096x8 main_cst_0
  let main_v6 : IVec S4096x8 1 := cmpf .olt main_v4 main_v5
  let main_c_1 : IVec S_ 1 := constantI S_ 1 1#1
  let main_v7 : IVec S_ 1 := (fun x v => Host.reduce IntOp.andi x v reducesTo_S4096x8_S_d0_1 h_S_) main_v6 main_c_1
  let main_v8 : FVec F S64 .f32 := Host.absf main_arg2
  let main_cst_2 : FVec F S_ .f32 := constant S_ .f32 0x7F800000#32
  let main_v9 : FVec F S64 .f32 := broadcastInDim S64 ![] bcast_S_S64 main_cst_2
  let main_v10 : IVec S64 1 := cmpf .olt main_v8 main_v9
  let main_c_3 : IVec S_ 1 := constantI S_ 1 1#1
  let main_v11 : IVec S_ 1 := (fun x v => Host.reduce IntOp.andi x v reducesTo_S64_S_d0 h_S_) main_v10 main_c_3
  let main_v12 : FVec F S64 .f32 := Host.absf main_arg3
  let main_cst_4 : FVec F S_ .f32 := constant S_ .f32 0x7F800000#32
  let main_v13 : FVec F S64 .f32 := broadcastInDim S64 ![] bcast_S_S64 main_cst_4
  let main_v14 : IVec S64 1 := cmpf .olt main_v12 main_v13
  let main_c_5 : IVec S_ 1 := constantI S_ 1 1#1
  let main_v15 : IVec S_ 1 := (fun x v => Host.reduce IntOp.andi x v reducesTo_S64_S_d0 h_S_) main_v14 main_c_5
  fn_part1 (F := F) main_arg4 main_arg5 main_arg6 main_arg7 main_arg8 main_v3 main_v7 main_v11 main_v15
-- ==== Loss.lean ====
abbrev S4096x1024 : Shape := ⟨2, ![4096, 1024]⟩
abbrev S1x1 : Shape := ⟨2, ![1, 1]⟩
abbrev S256x1024 : Shape := ⟨2, ![256, 1024]⟩
abbrev S256 : Shape := ⟨1, ![256]⟩
abbrev S1x256 : Shape := ⟨2, ![1, 256]⟩
abbrev S1 : Shape := ⟨1, ![1]⟩

abbrev nBuf : Space → Nat
  | .hbm => 4
  | .vmem => 6
  | .smem => 1
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1, .f32⟩
  | .hbm, ⟨3, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .smem, ⟨0, _⟩ => ⟨S1x1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg2_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .smem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== LossRefIdeal.lean ====
abbrev S4096x1024 : Shape := ⟨2, ![4096, 1024]⟩
abbrev S_ : Shape := ⟨0, ![]⟩
abbrev S4096 : Shape := ⟨1, ![4096]⟩
abbrev S1x1 : Shape := ⟨2, ![1, 1]⟩

abbrev nBuf : Space → Nat
  | .hbm => 26
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S1x1, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S4096, .f32⟩
  | .hbm, ⟨21, _⟩ => ⟨S_, .f32⟩
  | .hbm, ⟨22, _⟩ => ⟨S4096, .f32⟩
  | .hbm, ⟨23, _⟩ => ⟨S4096, .f32⟩
  | .hbm, ⟨24, _⟩ => ⟨S4096x1024, .f32⟩
  | .hbm, ⟨25, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_v9 : Ref sig .tc := ⟨.hbm, 16, rfl⟩
abbrev main_cst_4 : Ref sig .tc := ⟨.hbm, 17, rfl⟩
abbrev main_cst_5 : Ref sig .tc := ⟨.hbm, 18, rfl⟩
abbrev main_v10 : Ref sig .tc := ⟨.hbm, 19, rfl⟩
abbrev main_v11 : Ref sig .tc := ⟨.hbm, 20, rfl⟩
abbrev main_cst_6 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== Attn.lean ====
abbrev S8x4096x64 : Shape := ⟨3, ![8, 4096, 64]⟩
abbrev S8x4096 : Shape := ⟨2, ![8, 4096]⟩
abbrev S8x4096x4096 : Shape := ⟨3, ![8, 4096, 4096]⟩
abbrev S_ : Shape := ⟨0, ![]⟩
abbrev S8x4096x1 : Shape := ⟨3, ![8, 4096, 1]⟩
abbrev S8x1x4096 : Shape := ⟨3, ![8, 1, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S8x4096x3 : Shape := ⟨3, ![8, 4096, 3]⟩
abbrev S8x4096x55 : Shape := ⟨3, ![8, 4096, 55]⟩
abbrev S8x4096x128 : Shape := ⟨3, ![8, 4096, 128]⟩
abbrev S8x4096x60 : Shape := ⟨3, ![8, 4096, 60]⟩
abbrev S2x4096x128 : Shape := ⟨3, ![2, 4096, 128]⟩
abbrev S2x1024x128 : Shape := ⟨3, ![2, 1024, 128]⟩
abbrev S1x1024x128 : Shape := ⟨3, ![1, 1024, 128]⟩
abbrev S1024x128 : Shape := ⟨2, ![1024, 128]⟩
abbrev S512x128 : Shape := ⟨2, ![512, 128]⟩
abbrev S1024x512 : Shape := ⟨2, ![1024, 512]⟩
abbrev S1x512x128 : Shape := ⟨3, ![1, 512, 128]⟩
abbrev S512x512 : Shape := ⟨2, ![512, 512]⟩
abbrev S1024x1024 : Shape := ⟨2, ![1024, 1024]⟩

abbrev nBuf : Space → Nat
  | .hbm => 128
  | .vmem => 14
  | .smem => 0
  | _ => 0

abbrev bufTy : (tb : Table) → Fin (tcTables nBuf tb) → BufTy
  | .hbm, ⟨0, _⟩ => ⟨S8x4096x64, .f32⟩
  | .hbm, ⟨1, _⟩ => ⟨S8x4096x64, .f32⟩
  | .hbm, ⟨2, _⟩ => ⟨S8x4096x64, .f32⟩
  | .hbm, ⟨3, _⟩ => ⟨S8x4096, .f32⟩
  | .hbm, ⟨4, _⟩ => ⟨S8x4096x64, .f32⟩
  | .hbm, ⟨5, _⟩ => ⟨S8x4096x4096, .f32⟩
  | .hbm, ⟨6, _⟩ => ⟨S_, .f32⟩
  | .hbm, ⟨7, _⟩ => ⟨S8x4096x4096, .f32⟩
  | .hbm, ⟨8, _⟩ => ⟨S8x4096x4096, .f32⟩
  | .hbm, ⟨9, _⟩ => ⟨S8x4096x1, .f32⟩
  | .hbm, ⟨10, _⟩ => ⟨S8x1x4096, .f32⟩
  | .hbm, ⟨11, _⟩ => ⟨S8x4096x4096, .f32⟩
  | .hbm, ⟨12, _⟩ => ⟨S8x4096x4096, .f32⟩
  | .hbm, ⟨13, _⟩ => ⟨S8x4096x4096, .f32⟩
  | .hbm, ⟨14, _⟩ => ⟨S8x4096x4096, .f32⟩
  | .hbm, ⟨15, _⟩ => ⟨S4096, .i32⟩
  | .hbm, ⟨16, _⟩ => ⟨S4096x1, .i32⟩
  | .hbm, ⟨17, _⟩ => ⟨S4096, .i32⟩
  | .hbm, ⟨18, _⟩ => ⟨S1x4096, .i32⟩
  | .hbm, ⟨19, _⟩ => ⟨S4096x4096, .i32⟩
  | .hbm, ⟨20, _⟩ => ⟨S4096x4096, .i32⟩
  | .hbm, ⟨21, _⟩ => ⟨S4096x4096, .i1⟩
  | .hbm, ⟨22, _⟩ => ⟨S_, .f32⟩
  | .hbm, ⟨23, _⟩ => ⟨S_, .f32⟩
  | .hbm, ⟨24, _⟩ => ⟨S8x4096x4096, .i1⟩
  | .hbm, ⟨25, _⟩ => ⟨S8x4096x4096, .f32⟩
  | .hbm, ⟨26, _⟩ => ⟨S8x4096x4096, .f32⟩
  | .hbm, ⟨27, _⟩ => ⟨S_, .f32⟩
  | .hbm, ⟨28, _⟩ => ⟨S8x4096, .f32⟩
  | .hbm, ⟨29, _⟩ => ⟨S8x4096x1, .f32⟩
  | .hbm, ⟨30, _⟩ => ⟨S8x4096x4096, .f32⟩
  | .hbm, ⟨31, _⟩ => ⟨S8x4096x4096, .f32⟩
  | .hbm, ⟨32, _⟩ => ⟨S8x4096x4096, .f32⟩
  | .hbm, ⟨33, _⟩ => ⟨S_, .f32⟩
  | .hbm, ⟨34, _⟩ => ⟨S8x4096, .f32⟩
  | .hbm, ⟨35, _⟩ => ⟨S8x4096x1, .f32⟩
  | .hbm, ⟨36, _⟩ => ⟨S8x4096x1, .f32⟩
  | .hbm, ⟨37, _⟩ => ⟨S8x4096x1, .f32⟩
  | .hbm, ⟨38, _⟩ => ⟨S8x4096x4096, .f32⟩
  | .hbm, ⟨39, _⟩ => ⟨S8x4096x4096, .f32⟩
  | .hbm, ⟨40, _⟩ => ⟨S8x4096x64, .f32⟩
  | .hbm, ⟨41, _⟩ => ⟨S_, .bf16⟩
  | .hbm, ⟨42, _⟩ => ⟨S8x4096x3, .bf16⟩
  | .hbm, ⟨43, _⟩ => ⟨S_, .bf16⟩
  | .hbm, ⟨44, _⟩ => ⟨S8x4096x1, .bf16⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S8x4096x1, .f32⟩
  | .hbm, ⟨50, _⟩ => ⟨S_, .f32⟩
  | .hbm, ⟨51, _⟩ => ⟨S8x4096x1, .f32⟩
  | .hbm, ⟨52, _⟩ => ⟨S8x4096x1, .f32⟩
  | .hbm, ⟨53, _⟩ => ⟨S8x4096x1, .bf16⟩
  | .hbm, ⟨54, _⟩ => ⟨S8x4096x1, .f32⟩
  | .hbm, ⟨55, _⟩ => ⟨S8x4096x1, .f32⟩
  | .hbm, ⟨56, _⟩ => ⟨S8x4096x1, .bf16⟩
  | .hbm, ⟨57, _⟩ => ⟨S8x4096x1, .f32⟩
  | .hbm, ⟨58, _⟩ => ⟨S8x4096x1, .f32⟩
  | .hbm, ⟨59, _⟩ => ⟨S8x4096x1, .bf16⟩
  | .hbm, ⟨60, _⟩ => ⟨S8x4096x64, .bf16⟩
  | .hbm, ⟨61, _⟩ => ⟨S8x4096x64, .f32⟩
  | .hbm, ⟨62, _⟩ => ⟨S8x4096x64, .f32⟩
  | .hbm, ⟨63, _⟩ => ⟨S_, .f32⟩
  | .hbm, ⟨64, _⟩ => ⟨S8x4096, .f32⟩
  | .hbm, ⟨65, _⟩ => ⟨S8x4096x1, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S8x4096x64, .f32⟩
  | .hbm, ⟨70, _⟩ => ⟨S8x4096x64, .f32⟩
  | .hbm, ⟨71, _⟩ => ⟨S_, .f32⟩
  | .hbm, ⟨72, _⟩ => ⟨S8x4096x1, .f32⟩
  | .hbm, ⟨73, _⟩ => ⟨S8x4096x1, .f32⟩
  | .hbm, ⟨74, _⟩ => ⟨S8x4096x1, .f32⟩
  | .hbm, ⟨75, _⟩ => ⟨S8x4096x1, .bf16⟩
  | .hbm, ⟨76, _⟩ => ⟨S8x4096x1, .f32⟩
  | .hbm, ⟨77, _⟩ => ⟨S8x4096x1, .f32⟩
  | .hbm, ⟨78, _⟩ => ⟨S8x4096x1, .bf16⟩
  | .hbm, ⟨79, _⟩ => ⟨S8x4096x1, .f32⟩
  | .hbm, ⟨80, _⟩ => ⟨S8x4096x1, .f32⟩
  | .hbm, ⟨81, _⟩ => ⟨S8x4096x1, .bf16⟩
  | .hbm, ⟨82, _⟩ => ⟨S_, .bf16⟩
  | .hbm, ⟨83, _⟩ => ⟨S8x4096x55, .bf16⟩
  | .hbm, ⟨84, _⟩ => ⟨S8x4096x64, .bf16⟩
  | .hbm, ⟨85, _⟩ => ⟨S8x4096x128, .bf16⟩
  | .hbm, ⟨86, _⟩ => ⟨S8x4096x1, .bf16⟩
  | .hbm, ⟨87, _⟩ => ⟨S8x4096x1, .bf16⟩
  | .hbm, ⟨88, _⟩ => ⟨S8x4096x1, .bf16⟩
  | .hbm, ⟨89, _⟩ => ⟨S_, .bf16⟩
  | .hbm, ⟨90, _⟩ => ⟨S8x4096x55, .bf16⟩
  | .hbm, ⟨91, _⟩ => ⟨S8x4096x64, .bf16⟩
  | .hbm, ⟨92, _⟩ => ⟨S8x4096x128, .bf16⟩
  | .hbm, ⟨93, _⟩ => ⟨S_, .bf16⟩
  | .hbm, ⟨94, _⟩ => ⟨S8x4096x60, .bf16⟩
  | .hbm, ⟨95, _⟩ => ⟨S8x4096x64, .bf16⟩
  | .hbm, ⟨96, _⟩ => ⟨S8x4096x128, .bf16⟩
  | .hbm, ⟨97, _⟩ => ⟨S_, .bf16⟩
  | .hbm, ⟨98, _⟩ => ⟨S8x4096x1, .bf16⟩
  | .hbm, ⟨99, _⟩ => ⟨S8x4096x1, .f32⟩
  | .hbm, ⟨100, _⟩ => ⟨S8x4096x1, .bf16⟩
  | .hbm, ⟨101, _⟩ => ⟨S8x4096x1, .f32⟩
  | .hbm, ⟨102, _⟩ => ⟨S8x4096x1, .f32⟩
  | .hbm, ⟨103, _⟩ => ⟨S8x4096x1, .bf16⟩
  | .hbm, ⟨104, _⟩ => ⟨S8x4096x1, .f32⟩
  | .hbm, ⟨105, _⟩ => ⟨S8x4096x1, .f32⟩
  | .hbm, ⟨106, _⟩ => ⟨S8x4096x1, .bf16⟩
  | .hbm, ⟨107, _⟩ => ⟨S_, .bf16⟩
  | .hbm, ⟨108, _⟩ => ⟨S8x4096x60, .bf16⟩
  | .hbm, ⟨109, _⟩ => ⟨S8x4096x64, .bf16⟩
  | .hbm, ⟨110, _⟩ => ⟨S8x4096x128, .bf16⟩
  | .hbm, ⟨111, _⟩ => ⟨S8x4096x128, .f32⟩
  | .hbm, ⟨112, _⟩ => ⟨S8x4096x128, .f32⟩
  | .hbm, ⟨113, _⟩ => ⟨S8x4096x128, .f32⟩
  | .hbm, ⟨114, _⟩ => ⟨S8x4096x64, .f32⟩
  | .hbm, ⟨115, _⟩ => ⟨S_, .f32⟩
  | .hbm, ⟨116, _⟩ => ⟨S8x4096x64, .f32⟩
  | .hbm, ⟨117, _⟩ => ⟨S8x4096x64, .f32⟩
  | .hbm, ⟨118, _⟩ => ⟨S8x4096x64, .f32⟩
  | .hbm, ⟨119, _⟩ => ⟨S_, .f32⟩
  | .hbm, ⟨120, _⟩ => ⟨S8x4096x64, .f32⟩
  | .hbm, ⟨121, _⟩ => ⟨S8x4096x64, .f32⟩
  | .hbm, ⟨122, _⟩ => ⟨S8x4096x64, .f32⟩
  | .hbm, ⟨123, _⟩ => ⟨S8x4096x1, .f32⟩
  | .hbm, ⟨124, _⟩ => ⟨S8x4096, .f32⟩
  | .hbm, ⟨125, _⟩ => ⟨S8x4096x1, .f32⟩
  | .hbm, ⟨126, _⟩ => ⟨S8x4096, .f32⟩
  | .hbm, ⟨127, _⟩ => ⟨S8x4096, .f32⟩
  | .local _ .vmem, ⟨0, _⟩ => ⟨S2x4096x128, .bf16⟩
  | .local _ .vmem, ⟨1, _⟩ => ⟨S2x4096x128, .bf16⟩
  | .local _ .vmem, ⟨2, _⟩ => ⟨S2x1024x128, .bf16⟩
  | .local _ .vmem, ⟨3, _⟩ => ⟨S2x1024x128, .bf16⟩
  | .local _ .vmem, ⟨4, _⟩ => ⟨S2x1024x128, .bf16⟩
  | .local _ .vmem, ⟨5, _⟩ => ⟨S2x1024x128, .bf16⟩
  | .local _ .vmem, ⟨6, _⟩ => ⟨S2x4096x128, .bf16⟩
  | .local _ .vmem, ⟨7, _⟩ => ⟨S2x4096x128, .bf16⟩
  | .local _ .vmem, ⟨8, _⟩ => ⟨S2x4096x128, .f32⟩
  | .local _ .vmem, ⟨9, _⟩ => ⟨S2x4096x128, .f32⟩
  | .local _ .vmem, ⟨10, _⟩ => ⟨S2x1024x128, .f32⟩
  | .local _ .vmem, ⟨11, _⟩ => ⟨S2x1024x128, .f32⟩
  | .local _ .vmem, ⟨12, _⟩ => ⟨S2x1024x128, .f32⟩
  | .local _ .vmem, ⟨13, _⟩ => ⟨S2x1024x128, .f32⟩
  | _, _ => ⟨S8x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_3 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_cst_5 : Ref sig .tc := ⟨.hbm, 45, rfl⟩
abbrev main_v31 : Ref sig .tc := ⟨.hbm, 46, rfl⟩
abbrev main_cst_6 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_7 : Ref sig .tc := ⟨.hbm, 63, rfl⟩
abbrev main_v47 : Ref sig .tc := ⟨.hbm, 64, rfl⟩
abbrev main_v48 : Ref sig .tc := ⟨.hbm, 65, rfl⟩
abbrev main_cst_8 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_cst_9 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_cst_10 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_cst_11 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_cst_12 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_cst_13 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88_0 : Ref sig .tc := ⟨.hbm, 111, rfl⟩
abbrev main_v88_1 : Ref sig .tc := ⟨.hbm, 112, rfl⟩
abbrev main_v88_2 : Ref sig .tc := ⟨.hbm, 113, rfl⟩
abbrev main_v89 : Ref sig .tc := ⟨.hbm, 114, rfl⟩
abbrev main_cst_14 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 4], ![false, false]⟩

def k0_mult1 (i : grid0.Coords) : BitVec 32 :=
  let arg1 : BitVec 32 := BitVec.ofNat 32 (i 1).val
  let c1024_i32 : BitVec 32 := 1024#32
  let v11 : BitVec 32 := Scalar.muli arg1 c1024_i32
  v11
def k0_off1 (i : grid0.Coords) : Fin 3 → Nat :=
  let c0_11 : Index := 0#32
  let arg1 : BitVec 32 := BitVec.ofNat 32 (i 1).val
  let c1024_i32 : BitVec 32 := 1024#32
  let v11 : BitVec 32 := Scalar.muli arg1 c1024_i32
  let v12 : BitVec 32 := v11
  let v13 : Index := Scalar.indexCast v12
  let c0_12 : Index := 0#32
  ![0, v13.toNat, 0]
def k0_mult2 (i : grid0.Coords) : BitVec 32 :=
  let arg1 : BitVec 32 := BitVec.ofNat 32 (i 1).val
  let c1024_i32 : BitVec 32 := 1024#32
  let v11 : BitVec 32 := Scalar.muli arg1 c1024_i32
  let v12 : BitVec 32 := v11
  let c512_i32 : BitVec 32 := 512#32
  let v43 : BitVec 32 := Scalar.addi v12 c512_i32
  v43
def k0_off2 (i : grid0.Coords) : Fin 3 → Nat :=
  let c0_24 : Index := 0#32
  let arg1 : BitVec 32 := BitVec.ofNat 32 (i 1).val
  let c1024_i32 : BitVec 32 := 1024#32
  let v11 : BitVec 32 := Scalar.muli arg1 c1024_i32
  let v12 : BitVec 32 := v11
  let c512_i32 : BitVec 32 := 512#32
  let v43 : BitVec 32 := Scalar.addi v12 c512_i32
  let v44 : BitVec 32 := v43
  let v45 : Index := Scalar.indexCast v44
  let c0_25 : Index := 0#32
  ![0, v45.toNat, 0]
def k0_off3 (i : grid0.Coords) : Fin 3 → Nat :=
  let c1_38 : Index := 1#32
  let arg1 : BitVec 32 := BitVec.ofNat 32 (i 1).val
  let c1024_i32 : BitVec 32 := 1024#32
  let v11 : BitVec 32 := Scalar.muli arg1 c1024_i32
  let v12 : BitVec 32 := v11
  let v77 : Index := Scalar.indexCast v12
  let c0_39 : Index := 0#32
  ![1, v77.toNat, 0]
def k0_mult3 (i : grid0.Coords) : BitVec 32 :=
  let arg1 : BitVec 32 := BitVec.ofNat 32 (i 1).val
  let c1024_i32 : BitVec 32 := 1024#32
  let v11 : BitVec 32 := Scalar.muli arg1 c1024_i32
  let v12 : BitVec 32 := v11
  let c512_i32_52 : BitVec 32 := 512#32
  let v107 : BitVec 32 := Scalar.addi v12 c512_i32_52
  v107
def k0_off4 (i : grid0.Coords) : Fin 3 → Nat :=
  let c1_53 : Index := 1#32
  let arg1 : BitVec 32 := BitVec.ofNat 32 (i 1).val
  let c1024_i32 : BitVec 32 := 1024#32
  let v11 : BitVec 32 := Scalar.muli arg1 c1024_i32
  let v12 : BitVec 32 := v11
  let c512_i32_52 : BitVec 32 := 512#32
  let v107 : BitVec 32 := Scalar.addi v12 c512_i32_52
  let v108 : BitVec 32 := v107
  let v109 : Index := Scalar.indexCast v108
  let c0_54 : Index := 0#32
  ![1, v109.toNat, 0]
@[reducible] def k0_t1_loop (i : grid0.Coords) : Scf.Loop 32 :=
  let arg1 : BitVec 32 := BitVec.ofNat 32 (i 1).val
  let c1_i32 : BitVec 32 := 1#32
  let v141 : BitVec 32 := Scalar.addi arg1 c1_i32
  let c4_i32 : BitVec 32 := 4#32
  let v142 : BitVec 32 := Scalar.subi c4_i32 v141
  let c1_i32_67 : BitVec 32 := 1#32
  let v144 : BitVec 32 := Scalar.divsi v142 c1_i32_67
  let v145 : BitVec 32 := Scalar.muli v144 c1_i32_67
  let v146 : BitVec 32 := Scalar.addi v141 v145
  let c1_i32_68 : BitVec 32 := 1#32
  ⟨v141, v146, c1_i32_68⟩
def k0_mult4 (i : grid0.Coords) (k0_t1 : Fin (k0_t1_loop i).trips) : BitVec 32 :=
  let arg1 : BitVec 32 := BitVec.ofNat 32 (i 1).val
  let c1_i32 : BitVec 32 := 1#32
  let v141 : BitVec 32 := Scalar.addi arg1 c1_i32
  let c1_i32_68 : BitVec 32 := 1#32
  let arg9 : BitVec 32 := Scf.iv v141 c1_i32_68 k0_t1
  let c1024_i32_82 : BitVec 32 := 1024#32
  let v161 : BitVec 32 := Scalar.muli arg9 c1024_i32_82
  v161
def k0_off5 (i : grid0.Coords) (k0_t1 : Fin (k0_t1_loop i).trips) : Fin 3 → Nat :=
  let c0_83 : Index := 0#32
  let arg1 : BitVec 32 := BitVec.ofNat 32 (i 1).val
  let c1_i32 : BitVec 32 := 1#32
  let v141 : BitVec 32 := Scalar.addi arg1 c1_i32
  let c1_i32_68 : BitVec 32 := 1#32
  let arg9 : BitVec 32 := Scf.iv v141 c1_i32_68 k0_t1
  let c1024_i32_82 : BitVec 32 := 1024#32
  let v161 : BitVec 32 := Scalar.muli arg9 c1024_i32_82
  let v162 : BitVec 32 := v161
  let v163 : Index := Scalar.indexCast v162
  let c0_84 : Index := 0#32
  ![0, v163.toNat, 0]
def k0_off6 (i : grid0.Coords) (k0_t1 : Fin (k0_t1_loop i).trips) : Fin 3 → Nat :=
  let c1_96 : Index := 1#32
  let arg1 : BitVec 32 := BitVec.ofNat 32 (i 1).val
  let c1_i32 : BitVec 32 := 1#32
  let v141 : BitVec 32 := Scalar.addi arg1 c1_i32
  let c1_i32_68 : BitVec 32 := 1#32
  let arg9 : BitVec 32 := Scf.iv v141 c1_i32_68 k0_t1
  let c1024_i32_82 : BitVec 32 := 1024#32
  let v161 : BitVec 32 := Scalar.muli arg9 c1024_i32_82
  let v162 : BitVec 32 := v161
  let v188 : Index := Scalar.indexCast v162
  let c0_97 : Index := 0#32
  ![1, v188.toNat, 0]
@[reducible] def k0_t2_loop (i : grid0.Coords) : Scf.Loop 32 :=
  let arg1 : BitVec 32 := BitVec.ofNat 32 (i 1).val
  let c1_i32 : BitVec 32 := 1#32
  let v141 : BitVec 32 := Scalar.addi arg1 c1_i32
  let c4_i32 : BitVec 32 := 4#32
  let v142 : BitVec 32 := Scalar.subi c4_i32 v141
  let c1_i32_67 : BitVec 32 := 1#32
  let v144 : BitVec 32 := Scalar.divsi v142 c1_i32_67
  let v145 : BitVec 32 := Scalar.muli v144 c1_i32_67
  let v146 : BitVec 32 := Scalar.addi v141 v145
  let v143 : BitVec 32 := Scalar.addi v141 v142
  let c1_i32_69 : BitVec 32 := 1#32
  ⟨v146, v143, c1_i32_69⟩
def k0_mult5 (i : grid0.Coords) (k0_t2 : Fin (k0_t2_loop i).trips) : BitVec 32 :=
  let arg1 : BitVec 32 := BitVec.ofNat 32 (i 1).val
  let c1_i32 : BitVec 32 := 1#32
  let v141 : BitVec 32 := Scalar.addi arg1 c1_i32
  let c4_i32 : BitVec 32 := 4#32
  let v142 : BitVec 32 := Scalar.subi c4_i32 v141
  let c1_i32_67 : BitVec 32 := 1#32
  let v144 : BitVec 32 := Scalar.divsi v142 c1_i32_67
  let v145 : BitVec 32 := Scalar.muli v144 c1_i32_67
  let v146 : BitVec 32 := Scalar.addi v141 v145
  let c1_i32_69 : BitVec 32 := 1#32
  let arg9 : BitVec 32 := Scf.iv v146 c1_i32_69 k0_t2
  let c1024_i32_82 : BitVec 32 := 1024#32
  let v161 : BitVec 32 := Scalar.muli arg9 c1024_i32_82
  v161
def k0_off7 (i : grid0.Coords) (k0_t2 : Fin (k0_t2_loop i).trips) : Fin 3 → Nat :=
  let c0_83 : Index := 0#32
  let arg1 : BitVec 32 := BitVec.ofNat 32 (i 1).val
  let c1_i32 : BitVec 32 := 1#32
  let v141 : BitVec 32 := Scalar.addi arg1 c1_i32
  let c4_i32 : BitVec 32 := 4#32
  let v142 : BitVec 32 := Scalar.subi c4_i32 v141
  let c1_i32_67 : BitVec 32 := 1#32
  let v144 : BitVec 32 := Scalar.divsi v142 c1_i32_67
  let v145 : BitVec 32 := Scalar.muli v144 c1_i32_67
  let v146 : BitVec 32 := Scalar.addi v141 v145
  let c1_i32_69 : BitVec 32 := 1#32
  let arg9 : BitVec 32 := Scf.iv v146 c1_i32_69 k0_t2
  let c1024_i32_82 : BitVec 32 := 1024#32
  let v161 : BitVec 32 := Scalar.muli arg9 c1024_i32_82
  let v162 : BitVec 32 := v161
  let v163 : Index := Scalar.indexCast v162
  let c0_84 : Index := 0#32
  ![0, v163.toNat, 0]
def k0_off8 (i : grid0.Coords) (k0_t2 : Fin (k0_t2_loop i).trips) : Fin 3 → Nat :=
  let c1_96 : Index := 1#32
  let arg1 : BitVec 32 := BitVec.ofNat 32 (i 1).val
  let c1_i32 : BitVec 32 := 1#32
  let v141 : BitVec 32 := Scalar.addi arg1 c1_i32
  let c4_i32 : BitVec 32 := 4#32
  let v142 : BitVec 32 := Scalar.subi c4_i32 v141
  let c1_i32_67 : BitVec 32 := 1#32
  let v144 : BitVec 32 := Scalar.divsi v142 c1_i32_67
  let v145 : BitVec 32 := Scalar.muli v144 c1_i32_67
  let v146 : BitVec 32 := Scalar.addi v141 v145
  let c1_i32_69 : BitVec 32 := 1#32
  let arg9 : BitVec 32 := Scf.iv v146 c1_i32_69 k0_t2
  let c1024_i32_82 : BitVec 32 := 1024#32
  let v161 : BitVec 32 := Scalar.muli arg9 c1024_i32_82
  let v162 : BitVec 32 := v161
  let v188 : Index := Scalar.indexCast v162
  let c0_97 : Index := 0#32
  ![1, v188.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2x4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2x1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2x4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2x1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AttnIdeal.lean ====
variable {F : FTy → Type} [FloatOps F] [Named F]
def κ : String → Option EReal := fun
  | "mask" => some ⊥
  | _ => none
-- ==== AttnRefIdeal.lean ====
abbrev S8x4096x64 : Shape := ⟨3, ![8, 4096, 64]⟩
abbrev S8x4096 : Shape := ⟨2, ![8, 4096]⟩
abbrev S8x4096x4096 : Shape := ⟨3, ![8, 4096, 4096]⟩
abbrev S_ : Shape := ⟨0, ![]⟩
abbrev S8x4096x1 : Shape := ⟨3, ![8, 4096, 1]⟩
abbrev S8x1x4096 : Shape := ⟨3, ![8, 1, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S8x64x4096 : Shape := ⟨3, ![8, 64, 4096]⟩

abbrev nBuf : Space → Nat
  | .hbm => 105
  | .vmem => 0
  | .smem => 0
  | _ => 0

abbrev bufTy : (tb : Table) → Fin (tcTables nBuf tb) → BufTy
  | .hbm, ⟨0, _⟩ => ⟨S8x4096x64, .f32⟩
  | .hbm, ⟨1, _⟩ => ⟨S8x4096x64, .f32⟩
  | .hbm, ⟨2, _⟩ => ⟨S8x4096x64, .f32⟩
  | .hbm, ⟨3, _⟩ => ⟨S8x4096, .f32⟩
  | .hbm, ⟨4, _⟩ => ⟨S8x4096x64, .f32⟩
  | .hbm, ⟨5, _⟩ => ⟨S8x4096x4096, .f32⟩
  | .hbm, ⟨6, _⟩ => ⟨S_, .f32⟩
  | .hbm, ⟨7, _⟩ => ⟨S8x4096x4096, .f32⟩
  | .hbm, ⟨8, _⟩ => ⟨S8x4096x4096, .f32⟩
  | .hbm, ⟨9, _⟩ => ⟨S8x4096x1, .f32⟩
  | .hbm, ⟨10, _⟩ => ⟨S8x1x4096, .f32⟩
  | .hbm, ⟨11, _⟩ => ⟨S8x4096x4096, .f32⟩
  | .hbm, ⟨12, _⟩ => ⟨S8x4096x4096, .f32⟩
  | .hbm, ⟨13, _⟩ => ⟨S8x4096x4096, .f32⟩
  | .hbm, ⟨14, _⟩ => ⟨S8x4096x4096, .f32⟩
  | .hbm, ⟨15, _⟩ => ⟨S4096, .i32⟩
  | .hbm, ⟨16, _⟩ => ⟨S4096x1, .i32⟩
  | .hbm, ⟨17, _⟩ => ⟨S4096, .i32⟩
  | .hbm, ⟨18, _⟩ => ⟨S1x4096, .i32⟩
  | .hbm, ⟨19, _⟩ => ⟨S4096x4096, .i32⟩
  | .hbm, ⟨20, _⟩ => ⟨S4096x4096, .i32⟩
  | .hbm, ⟨21, _⟩ => ⟨S4096x4096, .i1⟩
  | .hbm, ⟨22, _⟩ => ⟨S_, .f32⟩
  | .hbm, ⟨23, _⟩ => ⟨S_, .f32⟩
  | .hbm, ⟨24, _⟩ => ⟨S8x4096x4096, .i1⟩
  | .hbm, ⟨25, _⟩ => ⟨S8x4096x4096, .f32⟩
  | .hbm, ⟨26, _⟩ => ⟨S8x4096x4096, .f32⟩
  | .hbm, ⟨27, _⟩ => ⟨S_, .f32⟩
  | .hbm, ⟨28, _⟩ => ⟨S8x4096x4096, .f32⟩
  | .hbm, ⟨29, _⟩ => ⟨S_, .f32⟩
  | .hbm, ⟨30, _⟩ => ⟨S8x4096, .f32⟩
  | .hbm, ⟨31, _⟩ => ⟨S8x4096x1, .f32⟩
  | .hbm, ⟨32, _⟩ => ⟨S8x4096x4096, .f32⟩
  | .hbm, ⟨33, _⟩ => ⟨S8x4096x4096, .i1⟩
  | .hbm, ⟨34, _⟩ => ⟨S8x4096x4096, .f32⟩
  | .hbm, ⟨35, _⟩ => ⟨S_, .f32⟩
  | .hbm, ⟨36, _⟩ => ⟨S8x4096, .f32⟩
  | .hbm, ⟨37, _⟩ => ⟨S_, .f32⟩
  | .hbm, ⟨38, _⟩ => ⟨S8x4096, .f32⟩
  | .hbm, ⟨39, _⟩ => ⟨S8x4096, .f32⟩
  | .hbm, ⟨40, _⟩ => ⟨S_, .f32⟩
  | .hbm, ⟨41, _⟩ => ⟨S8x4096, .f32⟩
  | .hbm, ⟨42, _⟩ => ⟨S8x4096, .i1⟩
  | .hbm, ⟨43, _⟩ => ⟨S_, .f32⟩
  | .hbm, ⟨44, _⟩ => ⟨S8x4096, .f32⟩
  | .hbm, ⟨45, _⟩ => ⟨S8x4096, .i1⟩
  | .hbm, ⟨46, _⟩ => ⟨S_, .f32⟩
  | .hbm, ⟨47, _⟩ => ⟨S8x4096, .f32⟩
  | .hbm, ⟨48, _⟩ => ⟨S_, .f32⟩
  | .hbm, ⟨49, _⟩ => ⟨S8x4096, .f32⟩
  | .hbm, ⟨50, _⟩ => ⟨S_, .f32⟩
  | .hbm, ⟨51, _⟩ => ⟨S8x4096, .f32⟩
  | .hbm, ⟨52, _⟩ => ⟨S8x4096, .f32⟩
  | .hbm, ⟨53, _⟩ => ⟨S8x4096, .f32⟩
  | .hbm, ⟨54, _⟩ => ⟨S8x4096x1, .f32⟩
  | .hbm, ⟨55, _⟩ => ⟨S8x4096x4096, .f32⟩
  | .hbm, ⟨56, _⟩ => ⟨S8x4096x4096, .f32⟩
  | .hbm, ⟨57, _⟩ => ⟨S8x4096x4096, .f32⟩
  | .hbm, ⟨58, _⟩ => ⟨S_, .f32⟩
  | .hbm, ⟨59, _⟩ => ⟨S8x4096, .f32⟩
  | .hbm, ⟨60, _⟩ => ⟨S8x4096x1, .f32⟩
  | .hbm, ⟨61, _⟩ => ⟨S8x4096x4096, .f32⟩
  | .hbm, ⟨62, _⟩ => ⟨S8x4096x4096, .f32⟩
  | .hbm, ⟨63, _⟩ => ⟨S8x4096x1, .f32⟩
  | .hbm, ⟨64, _⟩ => ⟨S_, .f32⟩
  | .hbm, ⟨65, _⟩ => ⟨S8x4096x1, .f32⟩
  | .hbm, ⟨66, _⟩ => ⟨S8x4096x1, .f32⟩
  | .hbm, ⟨67, _⟩ => ⟨S8x4096x64, .f32⟩
  | .hbm, ⟨68, _⟩ => ⟨S8x64x4096, .f32⟩
  | .hbm, ⟨69, _⟩ => ⟨S8x4096x64, .f32⟩
  | .hbm, ⟨70, _⟩ => ⟨S8x4096x4096, .f32⟩
  | .hbm, ⟨71, _⟩ => ⟨S8x4096x4096, .f32⟩
  | .hbm, ⟨72, _⟩ => ⟨S8x4096x4096, .f32⟩
  | .hbm, ⟨73, _⟩ => ⟨S8x4096x4096, .f32⟩
  | .hbm, ⟨74, _⟩ => ⟨S_, .f32⟩
  | .hbm, ⟨75, _⟩ => ⟨S8x4096, .f32⟩
  | .hbm, ⟨76, _⟩ => ⟨S8x4096x1, .f32⟩
  | .hbm, ⟨77, _⟩ => ⟨S8x4096x1, .f32⟩
  | .hbm, ⟨78, _⟩ => ⟨S8x4096x4096, .f32⟩
  | .hbm, ⟨79, _⟩ => ⟨S8x4096x4096, .f32⟩
  | .hbm, ⟨80, _⟩ => ⟨S_, .f32⟩
  | .hbm, ⟨81, _⟩ => ⟨S8x4096, .f32⟩
  | .hbm, ⟨82, _⟩ => ⟨S8x4096x4096, .f32⟩
  | .hbm, ⟨83, _⟩ => ⟨S8x4096x4096, .f32⟩
  | .hbm, ⟨84, _⟩ => ⟨S8x4096x4096, .f32⟩
  | .hbm, ⟨85, _⟩ => ⟨S_, .f32⟩
  | .hbm, ⟨86, _⟩ => ⟨S8x4096x4096, .f32⟩
  | .hbm, ⟨87, _⟩ => ⟨S8x4096x4096, .f32⟩
  | .hbm, ⟨88, _⟩ => ⟨S_, .f32⟩
  | .hbm, ⟨89, _⟩ => ⟨S8x4096, .f32⟩
  | .hbm, ⟨90, _⟩ => ⟨S8x4096x1, .f32⟩
  | .hbm, ⟨91, _⟩ => ⟨S8x4096x4096, .f32⟩
  | .hbm, ⟨92, _⟩ => ⟨S_, .f32⟩
  | .hbm, ⟨93, _⟩ => ⟨S8x4096, .f32⟩
  | .hbm, ⟨94, _⟩ => ⟨S8x1x4096, .f32⟩
  | .hbm, ⟨95, _⟩ => ⟨S_, .f32⟩
  | .hbm, ⟨96, _⟩ => ⟨S8x4096, .f32⟩
  | .hbm, ⟨97, _⟩ => ⟨S_, .f32⟩
  | .hbm, ⟨98, _⟩ => ⟨S8x4096, .f32⟩
  | .hbm, ⟨99, _⟩ => ⟨S8x4096, .f32⟩
  | .hbm, ⟨100, _⟩ => ⟨S_, .f32⟩
  | .hbm, ⟨101, _⟩ => ⟨S8x4096x4096, .f32⟩
  | .hbm, ⟨102, _⟩ => ⟨S8x4096x4096, .f32⟩
  | .hbm, ⟨103, _⟩ => ⟨S8x4096x64, .f32⟩
  | .hbm, ⟨104, _⟩ => ⟨S8x4096x64, .f32⟩
  | _, _ => ⟨S8x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_call0_v0 : Ref sig .tc := ⟨.hbm, 23, rfl⟩
abbrev main_v16_1 : Ref sig .tc := ⟨.hbm, 24, rfl⟩
abbrev main_call0_v2 : Ref sig .tc := ⟨.hbm, 25, rfl⟩
abbrev main_v16_0 : Ref sig .tc := ⟨.hbm, 26, rfl⟩
abbrev main_call0_cst : Ref sig .tc := ⟨.hbm, 27, rfl⟩
abbrev main_v16_2 : Ref sig .tc := ⟨.hbm, 28, rfl⟩
abbrev main_cst_1 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_2 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_cst_5 : Ref sig .tc := ⟨.hbm, 43, rfl⟩
abbrev main_v27 : Ref sig .tc := ⟨.hbm, 44, rfl⟩
abbrev main_v28 : Ref sig .tc := ⟨.hbm, 45, rfl⟩
abbrev main_cst_6 : Ref sig .tc := ⟨.hbm, 46, rfl⟩
abbrev main_v29 : Ref sig .tc := ⟨.hbm, 47, rfl⟩
abbrev main_cst_7 : Ref sig .tc := ⟨.hbm, 48, rfl⟩
abbrev main_v30 : Ref sig .tc := ⟨.hbm, 49, rfl⟩
abbrev main_cst_8 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_9 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_10 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_11 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_12 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_call1_cst : Ref sig .tc := ⟨.hbm, 85, rfl⟩
abbrev main_call1_v0 : Ref sig .tc := ⟨.hbm, 86, rfl⟩
abbrev main_v61 : Ref sig .tc := ⟨.hbm, 87, rfl⟩
abbrev main_cst_13 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_14 : Ref sig .tc := ⟨.hbm, 92, rfl⟩
abbrev main_v65 : Ref sig .tc := ⟨.hbm, 93, rfl⟩
abbrev main_v66 : Ref sig .tc := ⟨.hbm, 94, rfl⟩
abbrev main_cst_15 : Ref sig .tc := ⟨.hbm, 95, rfl⟩
abbrev main_v67 : Ref sig .tc := ⟨.hbm, 96, rfl⟩
abbrev main_cst_16 : Ref sig .tc := ⟨.hbm, 97, rfl⟩
abbrev main_v68 : Ref sig .tc := ⟨.hbm, 98, rfl⟩
abbrev main_v69 : Ref sig .tc := ⟨.hbm, 99, rfl⟩
abbrev main_cst_17 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩

abbrev nD : Nat := 1
abbrev τ : Topo := Topo.v7x

variable {F : FTy → Type} [FloatOps F]
-- ==== AttnFwd.lean ====
abbrev S8x4096x64 : Shape := ⟨3, ![8, 4096, 64]⟩
abbrev S8x4096 : Shape := ⟨2, ![8, 4096]⟩
abbrev S_ : Shape := ⟨0, ![]⟩
abbrev S8x4096x3 : Shape := ⟨3, ![8, 4096, 3]⟩
abbrev S8x4096x1 : Shape := ⟨3, ![8, 4096, 1]⟩
abbrev S8x4096x58 : Shape := ⟨3, ![8, 4096, 58]⟩
abbrev S8x4096x128 : Shape := ⟨3, ![8, 4096, 128]⟩
abbrev S8x4096x55 : Shape := ⟨3, ![8, 4096, 55]⟩
abbrev S8x4096x60 : Shape := ⟨3, ![8, 4096, 60]⟩
abbrev S2x1024x128 : Shape := ⟨3, ![2, 1024, 128]⟩
abbrev S2x4096x128 : Shape := ⟨3, ![2, 4096, 128]⟩
abbrev S1024x128 : Shape := ⟨2, ![1024, 128]⟩
abbrev S1x1024x128 : Shape := ⟨3, ![1, 1024, 128]⟩
abbrev S1024x1 : Shape := ⟨2, ![1024, 1]⟩
abbrev S1024x1024 : Shape := ⟨2, ![1024, 1024]⟩
abbrev S1024 : Shape := ⟨1, ![1024]⟩

abbrev nBuf : Space → Nat
  | .hbm => 54
  | .vmem => 10
  | .smem => 0
  | _ => 0

abbrev bufTy : (tb : Table) → Fin (tcTables nBuf tb) → BufTy
  | .hbm, ⟨0, _⟩ => ⟨S8x4096x64, .f32⟩
  | .hbm, ⟨1, _⟩ => ⟨S8x4096x64, .f32⟩
  | .hbm, ⟨2, _⟩ => ⟨S8x4096x64, .f32⟩
  | .hbm, ⟨3, _⟩ => ⟨S8x4096, .f32⟩
  | .hbm, ⟨4, _⟩ => ⟨S_, .bf16⟩
  | .hbm, ⟨5, _⟩ => ⟨S8x4096x3, .bf16⟩
  | .hbm, ⟨6, _⟩ => ⟨S_, .bf16⟩
  | .hbm, ⟨7, _⟩ => ⟨S8x4096x1, .bf16⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S8x4096x1, .f32⟩
  | .hbm, ⟨13, _⟩ => ⟨S_, .f32⟩
  | .hbm, ⟨14, _⟩ => ⟨S8x4096x1, .f32⟩
  | .hbm, ⟨15, _⟩ => ⟨S8x4096x1, .f32⟩
  | .hbm, ⟨16, _⟩ => ⟨S8x4096x1, .bf16⟩
  | .hbm, ⟨17, _⟩ => ⟨S8x4096x1, .f32⟩
  | .hbm, ⟨18, _⟩ => ⟨S8x4096x1, .f32⟩
  | .hbm, ⟨19, _⟩ => ⟨S8x4096x1, .bf16⟩
  | .hbm, ⟨20, _⟩ => ⟨S8x4096x1, .f32⟩
  | .hbm, ⟨21, _⟩ => ⟨S8x4096x1, .f32⟩
  | .hbm, ⟨22, _⟩ => ⟨S8x4096x1, .bf16⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S8x4096x64, .f32⟩
  | .hbm, ⟨27, _⟩ => ⟨S8x4096x64, .f32⟩
  | .hbm, ⟨28, _⟩ => ⟨S_, .bf16⟩
  | .hbm, ⟨29, _⟩ => ⟨S8x4096x58, .bf16⟩
  | .hbm, ⟨30, _⟩ => ⟨S8x4096x64, .bf16⟩
  | .hbm, ⟨31, _⟩ => ⟨S8x4096x128, .bf16⟩
  | .hbm, ⟨32, _⟩ => ⟨S8x4096x1, .bf16⟩
  | .hbm, ⟨33, _⟩ => ⟨S8x4096x1, .bf16⟩
  | .hbm, ⟨34, _⟩ => ⟨S8x4096x1, .bf16⟩
  | .hbm, ⟨35, _⟩ => ⟨S_, .bf16⟩
  | .hbm, ⟨36, _⟩ => ⟨S8x4096x55, .bf16⟩
  | .hbm, ⟨37, _⟩ => ⟨S8x4096x64, .bf16⟩
  | .hbm, ⟨38, _⟩ => ⟨S8x4096x128, .bf16⟩
  | .hbm, ⟨39, _⟩ => ⟨S_, .bf16⟩
  | .hbm, ⟨40, _⟩ => ⟨S8x4096x60, .bf16⟩
  | .hbm, ⟨41, _⟩ => ⟨S8x4096x64, .bf16⟩
  | .hbm, ⟨42, _⟩ => ⟨S8x4096x128, .bf16⟩
  | .hbm, ⟨43, _⟩ => ⟨S8x4096x128, .f32⟩
  | .hbm, ⟨44, _⟩ => ⟨S8x4096x128, .bf16⟩
  | .hbm, ⟨45, _⟩ => ⟨S8x4096x64, .f32⟩
  | .hbm, ⟨46, _⟩ => ⟨S8x4096x3, .bf16⟩
  | .hbm, ⟨47, _⟩ => ⟨S8x4096x3, .f32⟩
  | .hbm, ⟨48, _⟩ => ⟨S_, .f32⟩
  | .hbm, ⟨49, _⟩ => ⟨S8x4096, .f32⟩
  | .hbm, ⟨50, _⟩ => ⟨S_, .f32⟩
  | .hbm, ⟨51, _⟩ => ⟨S8x4096, .f32⟩
  | .hbm, ⟨52, _⟩ => ⟨S8x4096, .f32⟩
  | .hbm, ⟨53, _⟩ => ⟨S8x4096, .f32⟩
  | .local _ .vmem, ⟨0, _⟩ => ⟨S2x1024x128, .bf16⟩
  | .local _ .vmem, ⟨1, _⟩ => ⟨S2x1024x128, .bf16⟩
  | .local _ .vmem, ⟨2, _⟩ => ⟨S2x4096x128, .bf16⟩
  | .local _ .vmem, ⟨3, _⟩ => ⟨S2x4096x128, .bf16⟩
  | .local _ .vmem, ⟨4, _⟩ => ⟨S2x4096x128, .bf16⟩
  | .local _ .vmem, ⟨5, _⟩ => ⟨S2x4096x128, .bf16⟩
  | .local _ .vmem, ⟨6, _⟩ => ⟨S2x1024x128, .f32⟩
  | .local _ .vmem, ⟨7, _⟩ => ⟨S2x1024x128, .f32⟩
  | .local _ .vmem, ⟨8, _⟩ => ⟨S2x1024x128, .bf16⟩
  | .local _ .vmem, ⟨9, _⟩ => ⟨S2x1024x128, .bf16⟩
  | _, _ => ⟨S8x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_cst_1 : Ref sig .tc := ⟨.hbm, 8, rfl⟩
abbrev main_v2 : Ref sig .tc := ⟨.hbm, 9, rfl⟩
abbrev main_cst_2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31_0 : Ref sig .tc := ⟨.hbm, 43, rfl⟩
abbrev main_v31_1 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 4], ![false, false]⟩

@[reducible] def k0_t1_loop (i : grid0.Coords) : Scf.Loop 32 :=
  let c0_i32 : BitVec 32 := 0#32
  let arg1 : BitVec 32 := BitVec.ofNat 32 (i 1).val
  let v9 : BitVec 32 := Scalar.subi arg1 c0_i32
  let c1_i32 : BitVec 32 := 1#32
  let v11 : BitVec 32 := Scalar.divsi v9 c1_i32
  let v12 : BitVec 32 := Scalar.muli v11 c1_i32
  let v13 : BitVec 32 := Scalar.addi c0_i32 v12
  let c1_i32_7 : BitVec 32 := 1#32
  ⟨c0_i32, v13, c1_i32_7⟩
def k0_mult1 (i : grid0.Coords) (k0_t1 : Fin (k0_t1_loop i).trips) : BitVec 32 :=
  let c0_i32 : BitVec 32 := 0#32
  let c1_i32_7 : BitVec 32 := 1#32
  let arg7 : BitVec 32 := Scf.iv c0_i32 c1_i32_7 k0_t1
  let c1024_i32_49 : BitVec 32 := 1024#32
  let v149 : BitVec 32 := Scalar.muli arg7 c1024_i32_49
  v149
def k0_off1 (i : grid0.Coords) (k0_t1 : Fin (k0_t1_loop i).trips) : Fin 3 → Nat :=
  let c0_50 : Index := 0#32
  let c0_i32 : BitVec 32 := 0#32
  let c1_i32_7 : BitVec 32 := 1#32
  let arg7 : BitVec 32 := Scf.iv c0_i32 c1_i32_7 k0_t1
  let c1024_i32_49 : BitVec 32 := 1024#32
  let v149 : BitVec 32 := Scalar.muli arg7 c1024_i32_49
  let v150 : BitVec 32 := v149
  let v151 : Index := Scalar.indexCast v150
  let c0_51 : Index := 0#32
  ![0, v151.toNat, 0]
def k0_off2 (i : grid0.Coords) (k0_t1 : Fin (k0_t1_loop i).trips) : Fin 3 → Nat :=
  let c1_57 : Index := 1#32
  let c0_i32 : BitVec 32 := 0#32
  let c1_i32_7 : BitVec 32 := 1#32
  let arg7 : BitVec 32 := Scf.iv c0_i32 c1_i32_7 k0_t1
  let c1024_i32_49 : BitVec 32 := 1024#32
  let v149 : BitVec 32 := Scalar.muli arg7 c1024_i32_49
  let v150 : BitVec 32 := v149
  let v171 : Index := Scalar.indexCast v150
  let c0_58 : Index := 0#32
  ![1, v171.toNat, 0]
@[reducible] def k0_t2_loop (i : grid0.Coords) : Scf.Loop 32 :=
  let c0_i32 : BitVec 32 := 0#32
  let arg1 : BitVec 32 := BitVec.ofNat 32 (i 1).val
  let v9 : BitVec 32 := Scalar.subi arg1 c0_i32
  let c1_i32 : BitVec 32 := 1#32
  let v11 : BitVec 32 := Scalar.divsi v9 c1_i32
  let v12 : BitVec 32 := Scalar.muli v11 c1_i32
  let v13 : BitVec 32 := Scalar.addi c0_i32 v12
  let v10 : BitVec 32 := Scalar.addi c0_i32 v9
  let c1_i32_8 : BitVec 32 := 1#32
  ⟨v13, v10, c1_i32_8⟩
def k0_mult2 (i : grid0.Coords) (k0_t2 : Fin (k0_t2_loop i).trips) : BitVec 32 :=
  let c0_i32 : BitVec 32 := 0#32
  let arg1 : BitVec 32 := BitVec.ofNat 32 (i 1).val
  let v9 : BitVec 32 := Scalar.subi arg1 c0_i32
  let c1_i32 : BitVec 32 := 1#32
  let v11 : BitVec 32 := Scalar.divsi v9 c1_i32
  let v12 : BitVec 32 := Scalar.muli v11 c1_i32
  let v13 : BitVec 32 := Scalar.addi c0_i32 v12
  let c1_i32_8 : BitVec 32 := 1#32
  let arg7 : BitVec 32 := Scf.iv v13 c1_i32_8 k0_t2
  let c1024_i32_49 : BitVec 32 := 1024#32
  let v149 : BitVec 32 := Scalar.muli arg7 c1024_i32_49
  v149
def k0_off3 (i : grid0.Coords) (k0_t2 : Fin (k0_t2_loop i).trips) : Fin 3 → Nat :=
  let c0_50 : Index := 0#32
  let c0_i32 : BitVec 32 := 0#32
  let arg1 : BitVec 32 := BitVec.ofNat 32 (i 1).val
  let v9 : BitVec 32 := Scalar.subi arg1 c0_i32
  let c1_i32 : BitVec 32 := 1#32
  let v11 : BitVec 32 := Scalar.divsi v9 c1_i32
  let v12 : BitVec 32 := Scalar.muli v11 c1_i32
  let v13 : BitVec 32 := Scalar.addi c0_i32 v12
  let c1_i32_8 : BitVec 32 := 1#32
  let arg7 : BitVec 32 := Scf.iv v13 c1_i32_8 k0_t2
  let c1024_i32_49 : BitVec 32 := 1024#32
  let v149 : BitVec 32 := Scalar.muli arg7 c1024_i32_49
  let v150 : BitVec 32 := v149
  let v151 : Index := Scalar.indexCast v150
  let c0_51 : Index := 0#32
  ![0, v151.toNat, 0]
def k0_off4 (i : grid0.Coords) (k0_t2 : Fin (k0_t2_loop i).trips) : Fin 3 → Nat :=
  let c1_57 : Index := 1#32
  let c0_i32 : BitVec 32 := 0#32
  let arg1 : BitVec 32 := BitVec.ofNat 32 (i 1).val
  let v9 : BitVec 32 := Scalar.subi arg1 c0_i32
  let c1_i32 : BitVec 32 := 1#32
  let v11 : BitVec 32 := Scalar.divsi v9 c1_i32
  let v12 : BitVec 32 := Scalar.muli v11 c1_i32
  let v13 : BitVec 32 := Scalar.addi c0_i32 v12
  let c1_i32_8 : BitVec 32 := 1#32
  let arg7 : BitVec 32 := Scf.iv v13 c1_i32_8 k0_t2
  let c1024_i32_49 : BitVec 32 := 1024#32
  let v149 : BitVec 32 := Scalar.muli arg7 c1024_i32_49
  let v150 : BitVec 32 := v149
  let v171 : Index := Scalar.indexCast v150
  let c0_58 : Index := 0#32
  ![1, v171.toNat, 0]
def k0_mult3 (i : grid0.Coords) : BitVec 32 :=
  let arg1 : BitVec 32 := BitVec.ofNat 32 (i 1).val
  let c1024_i32 : BitVec 32 := 1024#32
  let v16 : BitVec 32 := Scalar.muli arg1 c1024_i32
  v16
def k0_off5 (i : grid0.Coords) : Fin 3 → Nat :=
  let c0_9 : Index := 0#32
  let arg1 : BitVec 32 := BitVec.ofNat 32 (i 1).val
  let c1024_i32 : BitVec 32 := 1024#32
  let v16 : BitVec 32 := Scalar.muli arg1 c1024_i32
  let v17 : BitVec 32 := v16
  let v21 : Index := Scalar.indexCast v17
  let c0_10 : Index := 0#32
  ![0, v21.toNat, 0]
def k0_off6 (i : grid0.Coords) : Fin 3 → Nat :=
  let c1_17 : Index := 1#32
  let arg1 : BitVec 32 := BitVec.ofNat 32 (i 1).val
  let c1024_i32 : BitVec 32 := 1024#32
  let v16 : BitVec 32 := Scalar.muli arg1 c1024_i32
  let v17 : BitVec 32 := v16
  let v43 : Index := Scalar.indexCast v17
  let c0_18 : Index := 0#32
  ![1, v43.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== AttnFwdIdeal.lean ====
variable {F : FTy → Type} [FloatOps F] [Named F]
def κ : String → Option EReal := fun
  | "log2e" => some (((Real.log 2)⁻¹ : ℝ) : EReal)
  | "mask" => some ⊥
  | _ => none
-- ==== AttnFwdRefIdeal.lean ====
abbrev S8x4096x64 : Shape := ⟨3, ![8, 4096, 64]⟩
abbrev S8x4096 : Shape := ⟨2, ![8, 4096]⟩
abbrev S8x4096x4096 : Shape := ⟨3, ![8, 4096, 4096]⟩
abbrev S_ : Shape := ⟨0, ![]⟩
abbrev S8x4096x1 : Shape := ⟨3, ![8, 4096, 1]⟩
abbrev S8x1x4096 : Shape := ⟨3, ![8, 1, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩

abbrev nBuf : Space → Nat
  | .hbm => 67
  | .vmem => 0
  | .smem => 0
  | _ => 0

abbrev bufTy : (tb : Table) → Fin (tcTables nBuf tb) → BufTy
  | .hbm, ⟨0, _⟩ => ⟨S8x4096x64, .f32⟩
  | .hbm, ⟨1, _⟩ => ⟨S8x4096x64, .f32⟩
  | .hbm, ⟨2, _⟩ => ⟨S8x4096x64, .f32⟩
  | .hbm, ⟨3, _⟩ => ⟨S8x4096, .f32⟩
  | .hbm, ⟨4, _⟩ => ⟨S8x4096x4096, .f32⟩
  | .hbm, ⟨5, _⟩ => ⟨S_, .f32⟩
  | .hbm, ⟨6, _⟩ => ⟨S8x4096x4096, .f32⟩
  | .hbm, ⟨7, _⟩ => ⟨S8x4096x4096, .f32⟩
  | .hbm, ⟨8, _⟩ => ⟨S8x4096x1, .f32⟩
  | .hbm, ⟨9, _⟩ => ⟨S8x1x4096, .f32⟩
  | .hbm, ⟨10, _⟩ => ⟨S8x4096x4096, .f32⟩
  | .hbm, ⟨11, _⟩ => ⟨S8x4096x4096, .f32⟩
  | .hbm, ⟨12, _⟩ => ⟨S8x4096x4096, .f32⟩
  | .hbm, ⟨13, _⟩ => ⟨S8x4096x4096, .f32⟩
  | .hbm, ⟨14, _⟩ => ⟨S4096, .i32⟩
  | .hbm, ⟨15, _⟩ => ⟨S4096x1, .i32⟩
  | .hbm, ⟨16, _⟩ => ⟨S4096, .i32⟩
  | .hbm, ⟨17, _⟩ => ⟨S1x4096, .i32⟩
  | .hbm, ⟨18, _⟩ => ⟨S4096x4096, .i32⟩
  | .hbm, ⟨19, _⟩ => ⟨S4096x4096, .i32⟩
  | .hbm, ⟨20, _⟩ => ⟨S4096x4096, .i1⟩
  | .hbm, ⟨21, _⟩ => ⟨S_, .f32⟩
  | .hbm, ⟨22, _⟩ => ⟨S_, .f32⟩
  | .hbm, ⟨23, _⟩ => ⟨S8x4096x4096, .i1⟩
  | .hbm, ⟨24, _⟩ => ⟨S8x4096x4096, .f32⟩
  | .hbm, ⟨25, _⟩ => ⟨S8x4096x4096, .f32⟩
  | .hbm, ⟨26, _⟩ => ⟨S_, .f32⟩
  | .hbm, ⟨27, _⟩ => ⟨S8x4096, .f32⟩
  | .hbm, ⟨28, _⟩ => ⟨S_, .f32⟩
  | .hbm, ⟨29, _⟩ => ⟨S8x4096, .f32⟩
  | .hbm, ⟨30, _⟩ => ⟨S8x4096, .f32⟩
  | .hbm, ⟨31, _⟩ => ⟨S8x4096x1, .f32⟩
  | .hbm, ⟨32, _⟩ => ⟨S8x4096x4096, .f32⟩
  | .hbm, ⟨33, _⟩ => ⟨S8x4096x4096, .f32⟩
  | .hbm, ⟨34, _⟩ => ⟨S8x4096x4096, .f32⟩
  | .hbm, ⟨35, _⟩ => ⟨S_, .f32⟩
  | .hbm, ⟨36, _⟩ => ⟨S8x4096, .f32⟩
  | .hbm, ⟨37, _⟩ => ⟨S8x4096x1, .f32⟩
  | .hbm, ⟨38, _⟩ => ⟨S8x4096x4096, .f32⟩
  | .hbm, ⟨39, _⟩ => ⟨S8x4096x4096, .f32⟩
  | .hbm, ⟨40, _⟩ => ⟨S8x4096x64, .f32⟩
  | .hbm, ⟨41, _⟩ => ⟨S8x4096x4096, .f32⟩
  | .hbm, ⟨42, _⟩ => ⟨S_, .f32⟩
  | .hbm, ⟨43, _⟩ => ⟨S8x4096x4096, .f32⟩
  | .hbm, ⟨44, _⟩ => ⟨S8x4096x4096, .f32⟩
  | .hbm, ⟨45, _⟩ => ⟨S8x4096x1, .f32⟩
  | .hbm, ⟨46, _⟩ => ⟨S8x1x4096, .f32⟩
  | .hbm, ⟨47, _⟩ => ⟨S8x4096x4096, .f32⟩
  | .hbm, ⟨48, _⟩ => ⟨S8x4096x4096, .f32⟩
  | .hbm, ⟨49, _⟩ => ⟨S8x4096x4096, .f32⟩
  | .hbm, ⟨50, _⟩ => ⟨S8x4096x4096, .f32⟩
  | .hbm, ⟨51, _⟩ => ⟨S4096, .i32⟩
  | .hbm, ⟨52, _⟩ => ⟨S4096x1, .i32⟩
  | .hbm, ⟨53, _⟩ => ⟨S4096, .i32⟩
  | .hbm, ⟨54, _⟩ => ⟨S1x4096, .i32⟩
  | .hbm, ⟨55, _⟩ => ⟨S4096x4096, .i32⟩
  | .hbm, ⟨56, _⟩ => ⟨S4096x4096, .i32⟩
  | .hbm, ⟨57, _⟩ => ⟨S4096x4096, .i1⟩
  | .hbm, ⟨58, _⟩ => ⟨S_, .f32⟩
  | .hbm, ⟨59, _⟩ => ⟨S_, .f32⟩
  | .hbm, ⟨60, _⟩ => ⟨S8x4096x4096, .i1⟩
  | .hbm, ⟨61, _⟩ => ⟨S8x4096x4096, .f32⟩
  | .hbm, ⟨62, _⟩ => ⟨S8x4096x4096, .f32⟩
  | .hbm, ⟨63, _⟩ => ⟨S8x4096x4096, .f32⟩
  | .hbm, ⟨64, _⟩ => ⟨S_, .f32⟩
  | .hbm, ⟨65, _⟩ => ⟨S8x4096, .f32⟩
  | .hbm, ⟨66, _⟩ => ⟨S8x4096, .f32⟩
  | _, _ => ⟨S8x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_0 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_5 : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_v45 : Ref sig .tc := ⟨.hbm, 62, rfl⟩
abbrev main_v46 : Ref sig .tc := ⟨.hbm, 63, rfl⟩
abbrev main_cst_6 : Ref sig .tc := ⟨.hbm, 64, rfl⟩
abbrev main_v47 : Ref sig .tc := ⟨.hbm, 65, rfl⟩
abbrev main_v48 : Ref sig .tc := ⟨.hbm, 66, rfl⟩

abbrev nD : Nat := 1
abbrev τ : Topo := Topo.v7x

variable {F : FTy → Type} [FloatOps F]
-- ==== InProj.lean ====
abbrev S4096x1024 : Shape := ⟨2, ![4096, 1024]⟩
abbrev S1024 : Shape := ⟨1, ![1024]⟩
abbrev S1024x5640 : Shape := ⟨2, ![1024, 5640]⟩
abbrev S4096x5640 : Shape := ⟨2, ![4096, 5640]⟩
abbrev S1024x1536 : Shape := ⟨2, ![1024, 1536]⟩
abbrev S1024x8 : Shape := ⟨2, ![1024, 8]⟩
abbrev S1024x4096 : Shape := ⟨2, ![1024, 4096]⟩
abbrev S4096x1536 : Shape := ⟨2, ![4096, 1536]⟩
abbrev S4096x8 : Shape := ⟨2, ![4096, 8]⟩
abbrev S4096x4096 : Shape := ⟨2, ![4096, 4096]⟩
abbrev S1x1024 : Shape := ⟨2, ![1, 1024]⟩
abbrev S_ : Shape := ⟨0, ![]⟩
abbrev S4096x128 : Shape := ⟨2, ![4096, 128]⟩
abbrev S1024x128 : Shape := ⟨2, ![1024, 128]⟩
abbrev S256x1024 : Shape := ⟨2, ![256, 1024]⟩
abbrev S256x1536 : Shape := ⟨2, ![256, 1536]⟩
abbrev S256x128 : Shape := ⟨2, ![256, 128]⟩
abbrev S256x4096 : Shape := ⟨2, ![256, 4096]⟩
abbrev S256 : Shape := ⟨1, ![256]⟩
abbrev S256x1 : Shape := ⟨2, ![256, 1]⟩

abbrev nBuf : Space → Nat
  | .hbm => 23
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5640, .f32⟩
  | .hbm, ⟨3, _⟩ => ⟨S4096x1024, .f32⟩
  | .hbm, ⟨4, _⟩ => ⟨S4096x5640, .f32⟩
  | .hbm, ⟨5, _⟩ => ⟨S1024x5640, .bf16⟩
  | .hbm, ⟨6, _⟩ => ⟨S4096x5640, .bf16⟩
  | .hbm, ⟨7, _⟩ => ⟨S1024x1536, .bf16⟩
  | .hbm, ⟨8, _⟩ => ⟨S1024x8, .bf16⟩
  | .hbm, ⟨9, _⟩ => ⟨S1024x4096, .bf16⟩
  | .hbm, ⟨10, _⟩ => ⟨S4096x1536, .bf16⟩
  | .hbm, ⟨11, _⟩ => ⟨S4096x8, .bf16⟩
  | .hbm, ⟨12, _⟩ => ⟨S4096x4096, .bf16⟩
  | .hbm, ⟨13, _⟩ => ⟨S1x1024, .f32⟩
  | .hbm, ⟨14, _⟩ => ⟨S_, .i32⟩
  | .hbm, ⟨15, _⟩ => ⟨S_, .bf16⟩
  | .hbm, ⟨16, _⟩ => ⟨S4096x128, .bf16⟩
  | .hbm, ⟨17, _⟩ => ⟨S_, .i32⟩
  | .hbm, ⟨18, _⟩ => ⟨S_, .bf16⟩
  | .hbm, ⟨19, _⟩ => ⟨S1024x128, .bf16⟩
  | .hbm, ⟨20, _⟩ => ⟨S4096x1024, .f32⟩
  | .hbm, ⟨21, _⟩ => ⟨S1x1024, .f32⟩
  | .hbm, ⟨22, _⟩ => ⟨S1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .f32⟩
  | .local _ .vmem, ⟨4, _⟩ => ⟨S256x1024, .f32⟩
  | .local _ .vmem, ⟨5, _⟩ => ⟨S256x1536, .bf16⟩
  | .local _ .vmem, ⟨6, _⟩ => ⟨S256x1536, .bf16⟩
  | .local _ .vmem, ⟨7, _⟩ => ⟨S256x128, .bf16⟩
  | .local _ .vmem, ⟨8, _⟩ => ⟨S256x128, .bf16⟩
  | .local _ .vmem, ⟨9, _⟩ => ⟨S256x4096, .bf16⟩
  | .local _ .vmem, ⟨10, _⟩ => ⟨S256x4096, .bf16⟩
  | .local _ .vmem, ⟨11, _⟩ => ⟨S1024x1536, .bf16⟩
  | .local _ .vmem, ⟨12, _⟩ => ⟨S1024x128, .bf16⟩
  | .local _ .vmem, ⟨13, _⟩ => ⟨S1024x4096, .bf16⟩
  | .local _ .vmem, ⟨14, _⟩ => ⟨S256x1024, .f32⟩
  | .local _ .vmem, ⟨15, _⟩ => ⟨S256x1024, .f32⟩
  | .local _ .vmem, ⟨16, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_call0_v0 : Ref sig .tc := ⟨.hbm, 15, rfl⟩
abbrev main_v9 : Ref sig .tc := ⟨.hbm, 16, rfl⟩
abbrev main_c_0 : Ref sig .tc := ⟨.hbm, 17, rfl⟩
abbrev main_call1_v0 : Ref sig .tc := ⟨.hbm, 18, rfl⟩
abbrev main_v10 : Ref sig .tc := ⟨.hbm, 19, rfl⟩
abbrev main_v11_0 : Ref sig .tc := ⟨.hbm, 20, rfl⟩
abbrev main_v11_1 : Ref sig .tc := ⟨.hbm, 21, rfl⟩
abbrev main_v12 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1536 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x4096 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== InProjRefIdeal.lean ====
abbrev S4096x1024 : Shape := ⟨2, ![4096, 1024]⟩
abbrev S1024 : Shape := ⟨1, ![1024]⟩
abbrev S1024x5640 : Shape := ⟨2, ![1024, 5640]⟩
abbrev S4096x5640 : Shape := ⟨2, ![4096, 5640]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 53
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5640, .f32⟩
  | .hbm, ⟨3, _⟩ => ⟨S4096x1024, .f32⟩
  | .hbm, ⟨4, _⟩ => ⟨S4096x5640, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x5640, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩

abbrev nD : Nat := 1
abbrev τ : Topo := Topo.v7x

variable {F : FTy → Type} [FloatOps F]
-- ==== Ffn.lean ====
abbrev S4096x1024 : Shape := ⟨2, ![4096, 1024]⟩
abbrev S1024 : Shape := ⟨1, ![1024]⟩
abbrev S1024x5632 : Shape := ⟨2, ![1024, 5632]⟩
abbrev S2816x1024 : Shape := ⟨2, ![2816, 1024]⟩
abbrev S1024x4x1408 : Shape := ⟨3, ![1024, 4, 1408]⟩
abbrev S4x1024x1408 : Shape := ⟨3, ![4, 1024, 1408]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x5632 : Shape := ⟨2, ![4096, 5632]⟩
abbrev S1x4x1024x1408 : Shape := ⟨4, ![1, 4, 1024, 1408]⟩
abbrev S1x2816x1024 : Shape := ⟨3, ![1, 2816, 1024]⟩
abbrev S1 : Shape := ⟨1, ![1]⟩
abbrev S4096x2816 : Shape := ⟨2, ![4096, 2816]⟩
abbrev S256x1024 : Shape := ⟨2, ![256, 1024]⟩
abbrev S256x5632 : Shape := ⟨2, ![256, 5632]⟩
abbrev S256x2816 : Shape := ⟨2, ![256, 2816]⟩
abbrev S256x1408 : Shape := ⟨2, ![256, 1408]⟩
abbrev S1x1x1024x1408 : Shape := ⟨4, ![1, 1, 1024, 1408]⟩
abbrev S1024x1408 : Shape := ⟨2, ![1024, 1408]⟩
abbrev S256 : Shape := ⟨1, ![256]⟩
abbrev S256x1 : Shape := ⟨2, ![256, 1]⟩

abbrev nBuf : Space → Nat
  | .hbm => 42
  | .vmem => 20
  | .smem => 1
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S4096x1024, .f32⟩
  | .hbm, ⟨5, _⟩ => ⟨S1024x5632, .bf16⟩
  | .hbm, ⟨6, _⟩ => ⟨S1024x4x1408, .bf16⟩
  | .hbm, ⟨7, _⟩ => ⟨S4x1024x1408, .bf16⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x5632, .f32⟩
  | .hbm, ⟨25, _⟩ => ⟨S4096x5632, .bf16⟩
  | .hbm, ⟨26, _⟩ => ⟨S1x1024, .f32⟩
  | .hbm, ⟨27, _⟩ => ⟨S1x4x1024x1408, .bf16⟩
  | .hbm, ⟨28, _⟩ => ⟨S2816x1024, .bf16⟩
  | .hbm, ⟨29, _⟩ => ⟨S1x2816x1024, .bf16⟩
  | .hbm, ⟨30, _⟩ => ⟨S_, .i32⟩
  | .hbm, ⟨31, _⟩ => ⟨S4096x1024, .f32⟩
  | .hbm, ⟨32, _⟩ => ⟨S4096x5632, .bf16⟩
  | .hbm, ⟨33, _⟩ => ⟨S4096x2816, .bf16⟩
  | .hbm, ⟨34, _⟩ => ⟨S4096x1024, .bf16⟩
  | .hbm, ⟨35, _⟩ => ⟨S4096x1024, .bf16⟩
  | .hbm, ⟨36, _⟩ => ⟨S1x1024, .f32⟩
  | .hbm, ⟨37, _⟩ => ⟨S4096x5632, .f32⟩
  | .hbm, ⟨38, _⟩ => ⟨S4096x2816, .f32⟩
  | .hbm, ⟨39, _⟩ => ⟨S4096x1024, .f32⟩
  | .hbm, ⟨40, _⟩ => ⟨S4096x1024, .f32⟩
  | .hbm, ⟨41, _⟩ => ⟨S1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .f32⟩
  | .local _ .vmem, ⟨4, _⟩ => ⟨S256x1024, .f32⟩
  | .local _ .vmem, ⟨5, _⟩ => ⟨S256x5632, .bf16⟩
  | .local _ .vmem, ⟨6, _⟩ => ⟨S256x5632, .bf16⟩
  | .local _ .vmem, ⟨7, _⟩ => ⟨S1x4x1024x1408, .bf16⟩
  | .local _ .vmem, ⟨8, _⟩ => ⟨S1x2816x1024, .bf16⟩
  | .local _ .vmem, ⟨9, _⟩ => ⟨S256x1024, .f32⟩
  | .local _ .vmem, ⟨10, _⟩ => ⟨S256x1024, .f32⟩
  | .local _ .vmem, ⟨11, _⟩ => ⟨S256x5632, .bf16⟩
  | .local _ .vmem, ⟨12, _⟩ => ⟨S256x5632, .bf16⟩
  | .local _ .vmem, ⟨13, _⟩ => ⟨S256x2816, .bf16⟩
  | .local _ .vmem, ⟨14, _⟩ => ⟨S256x2816, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S1x1024, .f32⟩
  | .local _ .smem, ⟨0, _⟩ => ⟨S1, .i32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_c : Ref sig .tc := ⟨.hbm, 30, rfl⟩
abbrev main_v23_0 : Ref sig .tc := ⟨.hbm, 31, rfl⟩
abbrev main_v23_1 : Ref sig .tc := ⟨.hbm, 32, rfl⟩
abbrev main_v23_2 : Ref sig .tc := ⟨.hbm, 33, rfl⟩
abbrev main_v23_3 : Ref sig .tc := ⟨.hbm, 34, rfl⟩
abbrev main_v23_4 : Ref sig .tc := ⟨.hbm, 35, rfl⟩
abbrev main_v23_5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v22 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19

abbrev nD : Nat := 1
abbrev τ : Topo := Topo.v7x

variable {F : FTy → Type} [FloatOps F]

abbrev grid0 : Pipeline.Grid := ⟨1, ![16], ![false]⟩

abbrev pre0 : Pipeline.Prefetch sig := ⟨1, ![main_v22.idx], fun | 0 => main_v22.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_5 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  let c0_i32_1 : BitVec 32 := 0#32
  ![v0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x4x1024x1408 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x5632 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== FfnRefIdeal.lean ====
abbrev S4096x1024 : Shape := ⟨2, ![4096, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x5632 : Shape := ⟨2, ![4096, 5632]⟩
abbrev S4096x2816 : Shape := ⟨2, ![4096, 2816]⟩

abbrev nBuf : Space → Nat
  | .hbm => 134
  | .vmem => 0
  | .smem => 0
  | _ => 0

abbrev hbmTy0_0 (i : Nat) : BufTy := match i % 128 with
  | 0 => ⟨S4096x1024, .f32⟩
  | 1 => ⟨S1024, .f32⟩
  | 2 => ⟨S1024x5632, .f32⟩
  | 3 => ⟨S2816x1024, .f32⟩
  | 4 => ⟨S4096x1024, .f32⟩
  | 5 => ⟨S4096x1024, .f32⟩
  | 6 => ⟨S_, .f32⟩
  | 7 => ⟨S4096, .f32⟩
  | 8 => ⟨S4096x1, .f32⟩
  | 9 => ⟨S_, .f32⟩
  | 10 => ⟨S4096x1, .f32⟩
  | 11 => ⟨S4096x1, .f32⟩
  | 12 => ⟨S_, .f32⟩
  | 13 => ⟨S4096x1, .f32⟩
  | 14 => ⟨S4096x1, .f32⟩
  | 15 => ⟨S4096x1, .f32⟩
  | 16 => ⟨S4096x1024, .f32⟩
  | 17 => ⟨S4096x1024, .f32⟩
  | 18 => ⟨S1x1024, .f32⟩
  | 19 => ⟨S4096x1024, .f32⟩
  | 20 => ⟨S4096x1024, .f32⟩
  | 21 => ⟨S4096x5632, .f32⟩
  | 22 => ⟨S4096x1024, .f32⟩
  | 23 => ⟨S_, .f32⟩
  | 24 => ⟨S4096, .f32⟩
  | 25 => ⟨S4096x1, .f32⟩
  | 26 => ⟨S_, .f32⟩
  | 27 => ⟨S4096x1, .f32⟩
  | 28 => ⟨S4096x1, .f32⟩
  | 29 => ⟨S_, .f32⟩
  | 30 => ⟨S4096x1, .f32⟩
  | 31 => ⟨S4096x1, .f32⟩
  | 32 => ⟨S4096x1, .f32⟩
  | 33 => ⟨S4096x1, .f32⟩
  | 34 => ⟨S_, .f32⟩
  | 35 => ⟨S4096x1, .f32⟩
  | 36 => ⟨S4096x1, .f32⟩
  | 37 => ⟨S4096x1024, .f32⟩
  | 38 => ⟨S4096x1024, .f32⟩
  | 39 => ⟨S1x1024, .f32⟩
  | 40 => ⟨S4096x1024, .f32⟩
  | 41 => ⟨S4096x1024, .f32⟩
  | 42 => ⟨S4096x5632, .f32⟩
  | 43 => ⟨S4096x2816, .f32⟩
  | 44 => ⟨S4096x2816, .f32⟩
  | 45 => ⟨S4096x2816, .f32⟩
  | 46 => ⟨S4096x2816, .f32⟩
  | 47 => ⟨S_, .f32⟩
  | 48 => ⟨S4096x2816, .f32⟩
  | 49 => ⟨S4096x2816, .f32⟩
  | 50 => ⟨S_, .f32⟩
  | 51 => ⟨S4096x2816, .f32⟩
  | 52 => ⟨S4096x2816, .f32⟩
  | 53 => ⟨S_, .f32⟩
  | 54 => ⟨S4096x2816, .f32⟩
  | 55 => ⟨S4096x2816, .f32⟩
  | 56 => ⟨S4096x2816, .f32⟩
  | 57 => ⟨S4096x2816, .f32⟩
  | 58 => ⟨S4096x2816, .f32⟩
  | 59 => ⟨S4096x1024, .f32⟩
  | 60 => ⟨S4096x1024, .f32⟩
  | 61 => ⟨S4096x1024, .f32⟩
  | 62 => ⟨S4096x2816, .f32⟩
  | 63 => ⟨S4096x2816, .f32⟩
  | 64 => ⟨S4096x2816, .f32⟩
  | 65 => ⟨S4096x2816, .f32⟩
  | 66 => ⟨S4096x2816, .f32⟩
  | 67 => ⟨S4096x2816, .f32⟩
  | 68 => ⟨S4096x2816, .f32⟩
  | 69 => ⟨S4096x5632, .f32⟩
  | 70 => ⟨S4096x1024, .f32⟩
  | 71 => ⟨S4096x1024, .f32⟩
  | 72 => ⟨S_, .f32⟩
  | 73 => ⟨S1024, .f32⟩
  | 74 => ⟨S1x1024, .f32⟩
  | 75 => ⟨S4096x1024, .f32⟩
  | 76 => ⟨S4096x1024, .f32⟩
  | 77 => ⟨S_, .f32⟩
  | 78 => ⟨S1024, .f32⟩
  | 79 => ⟨S4096x1024, .f32⟩
  | 80 => ⟨S_, .f32⟩
  | 81 => ⟨S4096, .f32⟩
  | 82 => ⟨S4096x1, .f32⟩
  | 83 => ⟨S4096x1024, .f32⟩
  | 84 => ⟨S4096x1024, .f32⟩
  | 85 => ⟨S4096x1024, .f32⟩
  | 86 => ⟨S4096x1, .f32⟩
  | 87 => ⟨S_, .f32⟩
  | 88 => ⟨S4096x1, .f32⟩
  | 89 => ⟨S4096x1, .f32⟩
  | 90 => ⟨S_, .f32⟩
  | 91 => ⟨S4096, .f32⟩
  | 92 => ⟨S4096x1024, .f32⟩
  | 93 => ⟨S4096x1024, .f32⟩
  | 94 => ⟨S4096x1024, .f32⟩
  | 95 => ⟨S4096x1024, .f32⟩
  | 96 => ⟨S4096x1024, .f32⟩
  | 97 => ⟨S4096x2816, .f32⟩
  | 98 => ⟨S4096x2816, .f32⟩
  | 99 => ⟨S4096x2816, .f32⟩
  | 100 => ⟨S4096x2816, .f32⟩
  | 101 => ⟨S_, .f32⟩
  | 102 => ⟨S4096x2816, .f32⟩
  | 103 => ⟨S4096x2816, .f32⟩
  | 104 => ⟨S_, .f32⟩
  | 105 => ⟨S4096x2816, .f32⟩
  | 106 => ⟨S4096x2816, .f32⟩
  | 107 => ⟨S_, .f32⟩
  | 108 => ⟨S4096x2816, .f32⟩
  | 109 => ⟨S4096x2816, .f32⟩
  | 110 => ⟨S4096x2816, .f32⟩
  | 111 => ⟨S4096x2816, .f32⟩
  | 112 => ⟨S4096x2816, .f32⟩
  | 113 => ⟨S4096x1024, .f32⟩
  | 114 => ⟨S4096x2816, .f32⟩
  | 115 => ⟨S4096x2816, .f32⟩
  | 116 => ⟨S4096x2816, .f32⟩
  | 117 => ⟨S4096x2816, .f32⟩
  | 118 => ⟨S4096x2816, .f32⟩
  | 119 => ⟨S4096x2816, .f32⟩
  | 120 => ⟨S4096x2816, .f32⟩
  | 121 => ⟨S4096x5632, .f32⟩
  | 122 => ⟨S4096x2816, .f32⟩
  | 123 => ⟨S4096x2816, .f32⟩
  | 124 => ⟨S4096x2816, .f32⟩
  | 125 => ⟨S4096x2816, .f32⟩
  | 126 => ⟨S_, .f32⟩
  | 127 => ⟨S4096x2816, .f32⟩
  | _ => ⟨S4096x1024, .f32⟩

abbrev hbmTy0_1 (i : Nat) : BufTy := match i % 128 with
  | 0 => ⟨S4096x2816, .f32⟩
  | 1 => ⟨S_, .f32⟩
  | 2 => ⟨S4096x2816, .f32⟩
  | 3 => ⟨S4096x2816, .f32⟩
  | 4 => ⟨S4096x2816, .f32⟩
  | 5 => ⟨S4096x2816, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_call0_v0 : Ref sig .tc := ⟨.hbm, 45, rfl⟩
abbrev main_call0_v1 : Ref sig .tc := ⟨.hbm, 46, rfl⟩
abbrev main_call0_cst : Ref sig .tc := ⟨.hbm, 47, rfl⟩
abbrev main_call0_v2 : Ref sig .tc := ⟨.hbm, 48, rfl⟩
abbrev main_call0_v3 : Ref sig .tc := ⟨.hbm, 49, rfl⟩
abbrev main_call0_cst_0 : Ref sig .tc := ⟨.hbm, 50, rfl⟩
abbrev main_call0_v4 : Ref sig .tc := ⟨.hbm, 51, rfl⟩
abbrev main_v33_2 : Ref sig .tc := ⟨.hbm, 52, rfl⟩
abbrev main_call0_cst_1 : Ref sig .tc := ⟨.hbm, 53, rfl⟩
abbrev main_call0_v6 : Ref sig .tc := ⟨.hbm, 54, rfl⟩
abbrev main_call0_v7 : Ref sig .tc := ⟨.hbm, 55, rfl⟩
abbrev main_v33_1 : Ref sig .tc := ⟨.hbm, 56, rfl⟩
abbrev main_v33_0 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_call1_v0 : Ref sig .tc := ⟨.hbm, 65, rfl⟩
abbrev main_call1_v1 : Ref sig .tc := ⟨.hbm, 66, rfl⟩
abbrev main_call1_v2 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_6 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_7 : Ref sig .tc := ⟨.hbm, 77, rfl⟩
abbrev main_v49 : Ref sig .tc := ⟨.hbm, 78, rfl⟩
abbrev main_v50 : Ref sig .tc := ⟨.hbm, 79, rfl⟩
abbrev main_cst_8 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_cst_9 : Ref sig .tc := ⟨.hbm, 87, rfl⟩
abbrev main_v57 : Ref sig .tc := ⟨.hbm, 88, rfl⟩
abbrev main_v58 : Ref sig .tc := ⟨.hbm, 89, rfl⟩
abbrev main_cst_10 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_call2_v0 : Ref sig .tc := ⟨.hbm, 99, rfl⟩
abbrev main_call2_v1 : Ref sig .tc := ⟨.hbm, 100, rfl⟩
abbrev main_call2_cst : Ref sig .tc := ⟨.hbm, 101, rfl⟩
abbrev main_call2_v2 : Ref sig .tc := ⟨.hbm, 102, rfl⟩
abbrev main_call2_v3 : Ref sig .tc := ⟨.hbm, 103, rfl⟩
abbrev main_call2_cst_0 : Ref sig .tc := ⟨.hbm, 104, rfl⟩
abbrev main_call2_v4 : Ref sig .tc := ⟨.hbm, 105, rfl⟩
abbrev main_v67_2 : Ref sig .tc := ⟨.hbm, 106, rfl⟩
abbrev main_call2_cst_1 : Ref sig .tc := ⟨.hbm, 107, rfl⟩
abbrev main_call2_v6 : Ref sig .tc := ⟨.hbm, 108, rfl⟩
abbrev main_call2_v7 : Ref sig .tc := ⟨.hbm, 109, rfl⟩
abbrev main_v67_1 : Ref sig .tc := ⟨.hbm, 110, rfl⟩
abbrev main_v67_0 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_call3_v0 : Ref sig .tc := ⟨.hbm, 117, rfl⟩
abbrev main_call3_v1 : Ref sig .tc := ⟨.hbm, 118, rfl⟩
abbrev main_call3_v2 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_call4_v0 : Ref sig .tc := ⟨.hbm, 124, rfl⟩
abbrev main_call4_v1 : Ref sig .tc := ⟨.hbm, 125, rfl⟩
abbrev main_call4_cst : Ref sig .tc := ⟨.hbm, 126, rfl⟩
abbrev main_call4_v2 : Ref sig .tc := ⟨.hbm, 127, rfl⟩
abbrev main_call4_v3 : Ref sig .tc := ⟨.hbm, 128, rfl⟩
abbrev main_call4_cst_0 : Ref sig .tc := ⟨.hbm, 129, rfl⟩
abbrev main_call4_v4 : Ref sig .tc := ⟨.hbm, 130, rfl⟩
abbrev main_call4_v5 : Ref sig .tc := ⟨.hbm, 131, rfl⟩
abbrev main_v77 : Ref sig .tc := ⟨.hbm, 132, rfl⟩
abbrev main_v78 : Ref sig .tc := ⟨.hbm, 133, rfl⟩

abbrev nD : Nat := 1
abbrev τ : Topo := Topo.v7x

variable {F : FTy → Type} [FloatOps F]
-- ==== Post.lean ====
abbrev S4096x1536 : Shape := ⟨2, ![4096, 1536]⟩
abbrev S4096x8 : Shape := ⟨2, ![4096, 8]⟩
abbrev S64 : Shape := ⟨1, ![64]⟩
abbrev S8 : Shape := ⟨1, ![8]⟩
abbrev S8x4096x64 : Shape := ⟨3, ![8, 4096, 64]⟩
abbrev S8x4096 : Shape := ⟨2, ![8, 4096]⟩
abbrev S_ : Shape := ⟨0, ![]⟩
abbrev S1x8 : Shape := ⟨2, ![1, 8]⟩
abbrev S4096x120 : Shape := ⟨2, ![4096, 120]⟩
abbrev S4096x128 : Shape := ⟨2, ![4096, 128]⟩
abbrev S8x4096x1 : Shape := ⟨3, ![8, 4096, 1]⟩
abbrev S8x4096x63 : Shape := ⟨3, ![8, 4096, 63]⟩
abbrev S8x4096x128 : Shape := ⟨3, ![8, 4096, 128]⟩
abbrev S1x64 : Shape := ⟨2, ![1, 64]⟩
abbrev S8x64 : Shape := ⟨2, ![8, 64]⟩
abbrev S512 : Shape := ⟨1, ![512]⟩
abbrev S1x512 : Shape := ⟨2, ![1, 512]⟩
abbrev S120 : Shape := ⟨1, ![120]⟩
abbrev S128 : Shape := ⟨1, ![128]⟩
abbrev S1x128 : Shape := ⟨2, ![1, 128]⟩
abbrev S512x1 : Shape := ⟨2, ![512, 1]⟩
abbrev S512x512 : Shape := ⟨2, ![512, 512]⟩
abbrev S256 : Shape := ⟨1, ![256]⟩
abbrev S1x256 : Shape := ⟨2, ![1, 256]⟩
abbrev S256x1 : Shape := ⟨2, ![256, 1]⟩
abbrev S256x256 : Shape := ⟨2, ![256, 256]⟩
abbrev S256x512 : Shape := ⟨2, ![256, 512]⟩
abbrev S256x128 : Shape := ⟨2, ![256, 128]⟩
abbrev S8x256x128 : Shape := ⟨3, ![8, 256, 128]⟩
abbrev S256x1536 : Shape := ⟨2, ![256, 1536]⟩
abbrev S1x256x128 : Shape := ⟨3, ![1, 256, 128]⟩

abbrev nBuf : Space → Nat
  | .hbm => 81
  | .vmem => 25
  | .smem => 0
  | _ => 0

abbrev bufTy : (tb : Table) → Fin (tcTables nBuf tb) → BufTy
  | .hbm, ⟨0, _⟩ => ⟨S4096x1536, .f32⟩
  | .hbm, ⟨1, _⟩ => ⟨S4096x8, .f32⟩
  | .hbm, ⟨2, _⟩ => ⟨S64, .f32⟩
  | .hbm, ⟨3, _⟩ => ⟨S64, .f32⟩
  | .hbm, ⟨4, _⟩ => ⟨S8, .f32⟩
  | .hbm, ⟨5, _⟩ => ⟨S8x4096x64, .f32⟩
  | .hbm, ⟨6, _⟩ => ⟨S8x4096x64, .f32⟩
  | .hbm, ⟨7, _⟩ => ⟨S8x4096x64, .f32⟩
  | .hbm, ⟨8, _⟩ => ⟨S8x4096, .f32⟩
  | .hbm, ⟨9, _⟩ => ⟨S_, .f32⟩
  | .hbm, ⟨10, _⟩ => ⟨S1x8, .f32⟩
  | .hbm, ⟨11, _⟩ => ⟨S_, .f32⟩
  | .hbm, ⟨12, _⟩ => ⟨S4096x120, .f32⟩
  | .hbm, ⟨13, _⟩ => ⟨S4096x128, .f32⟩
  | .hbm, ⟨14, _⟩ => ⟨S_, .f32⟩
  | .hbm, ⟨15, _⟩ => ⟨S8x4096x64, .f32⟩
  | .hbm, ⟨16, _⟩ => ⟨S8x4096x64, .f32⟩
  | .hbm, ⟨17, _⟩ => ⟨S8x4096x1, .f32⟩
  | .hbm, ⟨18, _⟩ => ⟨S_, .f32⟩
  | .hbm, ⟨19, _⟩ => ⟨S8x4096x63, .f32⟩
  | .hbm, ⟨20, _⟩ => ⟨S8x4096x128, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S8x4096x64, .f32⟩
  | .hbm, ⟨25, _⟩ => ⟨S8x4096x64, .f32⟩
  | .hbm, ⟨26, _⟩ => ⟨S_, .f32⟩
  | .hbm, ⟨27, _⟩ => ⟨S8x4096x64, .f32⟩
  | .hbm, ⟨28, _⟩ => ⟨S8x4096x128, .f32⟩
  | .hbm, ⟨29, _⟩ => ⟨S_, .f32⟩
  | .hbm, ⟨30, _⟩ => ⟨S8x4096x64, .f32⟩
  | .hbm, ⟨31, _⟩ => ⟨S8x4096x128, .f32⟩
  | .hbm, ⟨32, _⟩ => ⟨S4096x1536, .bf16⟩
  | .hbm, ⟨33, _⟩ => ⟨S1x64, .f32⟩
  | .hbm, ⟨34, _⟩ => ⟨S8x64, .f32⟩
  | .hbm, ⟨35, _⟩ => ⟨S512, .f32⟩
  | .hbm, ⟨36, _⟩ => ⟨S1x512, .f32⟩
  | .hbm, ⟨37, _⟩ => ⟨S1x64, .f32⟩
  | .hbm, ⟨38, _⟩ => ⟨S8x64, .f32⟩
  | .hbm, ⟨39, _⟩ => ⟨S512, .f32⟩
  | .hbm, ⟨40, _⟩ => ⟨S1x512, .f32⟩
  | .hbm, ⟨41, _⟩ => ⟨S_, .f32⟩
  | .hbm, ⟨42, _⟩ => ⟨S120, .f32⟩
  | .hbm, ⟨43, _⟩ => ⟨S128, .f32⟩
  | .hbm, ⟨44, _⟩ => ⟨S1x128, .f32⟩
  | .hbm, ⟨45, _⟩ => ⟨S512, .i32⟩
  | .hbm, ⟨46, _⟩ => ⟨S_, .i32⟩
  | .hbm, ⟨47, _⟩ => ⟨S512, .i32⟩
  | .hbm, ⟨48, _⟩ => ⟨S512, .i32⟩
  | .hbm, ⟨49, _⟩ => ⟨S512x1, .i32⟩
  | .hbm, ⟨50, _⟩ => ⟨S1x512, .i32⟩
  | .hbm, ⟨51, _⟩ => ⟨S512x512, .i32⟩
  | .hbm, ⟨52, _⟩ => ⟨S512x512, .i32⟩
  | .hbm, ⟨53, _⟩ => ⟨S512x512, .i1⟩
  | .hbm, ⟨54, _⟩ => ⟨S512x512, .bf16⟩
  | .hbm, ⟨55, _⟩ => ⟨S_, .bf16⟩
  | .hbm, ⟨56, _⟩ => ⟨S512x512, .bf16⟩
  | .hbm, ⟨57, _⟩ => ⟨S512x512, .bf16⟩
  | .hbm, ⟨58, _⟩ => ⟨S256, .i32⟩
  | .hbm, ⟨59, _⟩ => ⟨S1x256, .i32⟩
  | .hbm, ⟨60, _⟩ => ⟨S256x1, .i32⟩
  | .hbm, ⟨61, _⟩ => ⟨S256x256, .i32⟩
  | .hbm, ⟨62, _⟩ => ⟨S256x256, .i32⟩
  | .hbm, ⟨63, _⟩ => ⟨S256x256, .i1⟩
  | .hbm, ⟨64, _⟩ => ⟨S256x256, .bf16⟩
  | .hbm, ⟨65, _⟩ => ⟨S4096x1536, .bf16⟩
  | .hbm, ⟨66, _⟩ => ⟨S4096x128, .bf16⟩
  | .hbm, ⟨67, _⟩ => ⟨S1x512, .f32⟩
  | .hbm, ⟨68, _⟩ => ⟨S1x512, .f32⟩
  | .hbm, ⟨69, _⟩ => ⟨S1x128, .f32⟩
  | .hbm, ⟨70, _⟩ => ⟨S4096x1536, .f32⟩
  | .hbm, ⟨71, _⟩ => ⟨S4096x8, .bf16⟩
  | .hbm, ⟨72, _⟩ => ⟨S4096x8, .f32⟩
  | .hbm, ⟨73, _⟩ => ⟨S8x64, .f32⟩
  | .hbm, ⟨74, _⟩ => ⟨S_, .f32⟩
  | .hbm, ⟨75, _⟩ => ⟨S64, .f32⟩
  | .hbm, ⟨76, _⟩ => ⟨S8x64, .f32⟩
  | .hbm, ⟨77, _⟩ => ⟨S_, .f32⟩
  | .hbm, ⟨78, _⟩ => ⟨S64, .f32⟩
  | .hbm, ⟨79, _⟩ => ⟨S1x8, .f32⟩
  | .hbm, ⟨80, _⟩ => ⟨S8, .f32⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x128, .f32⟩
  | .local _ .vmem, ⟨5, _⟩ => ⟨S256x128, .f32⟩
  | .local _ .vmem, ⟨6, _⟩ => ⟨S8x256x128, .f32⟩
  | .local _ .vmem, ⟨7, _⟩ => ⟨S8x256x128, .f32⟩
  | .local _ .vmem, ⟨8, _⟩ => ⟨S8x256x128, .f32⟩
  | .local _ .vmem, ⟨9, _⟩ => ⟨S8x256x128, .f32⟩
  | .local _ .vmem, ⟨10, _⟩ => ⟨S8x256x128, .f32⟩
  | .local _ .vmem, ⟨11, _⟩ => ⟨S8x256x128, .f32⟩
  | .local _ .vmem, ⟨12, _⟩ => ⟨S1x512, .f32⟩
  | .local _ .vmem, ⟨13, _⟩ => ⟨S1x512, .f32⟩
  | .local _ .vmem, ⟨14, _⟩ => ⟨S1x128, .f32⟩
  | .local _ .vmem, ⟨15, _⟩ => ⟨S512x512, .bf16⟩
  | .local _ .vmem, ⟨16, _⟩ => ⟨S256x256, .bf16⟩
  | .local _ .vmem, ⟨17, _⟩ => ⟨S256x1536, .bf16⟩
  | .local _ .vmem, ⟨18, _⟩ => ⟨S256x1536, .bf16⟩
  | .local _ .vmem, ⟨19, _⟩ => ⟨S256x128, .bf16⟩
  | .local _ .vmem, ⟨20, _⟩ => ⟨S256x128, .bf16⟩
  | .local _ .vmem, ⟨21, _⟩ => ⟨S1x512, .f32⟩
  | .local _ .vmem, ⟨22, _⟩ => ⟨S1x512, .f32⟩
  | .local _ .vmem, ⟨23, _⟩ => ⟨S1x128, .f32⟩
  | .local _ .vmem, ⟨24, _⟩ => ⟨S1x128, .f32⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_cst_1 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst_2 : Ref sig .tc := ⟨.hbm, 18, rfl⟩
abbrev main_v6 : Ref sig .tc := ⟨.hbm, 19, rfl⟩
abbrev main_v7 : Ref sig .tc := ⟨.hbm, 20, rfl⟩
abbrev main_cst_3 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_4 : Ref sig .tc := ⟨.hbm, 26, rfl⟩
abbrev main_v12 : Ref sig .tc := ⟨.hbm, 27, rfl⟩
abbrev main_v13 : Ref sig .tc := ⟨.hbm, 28, rfl⟩
abbrev main_cst_5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_6 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_7 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46_0 : Ref sig .tc := ⟨.hbm, 65, rfl⟩
abbrev main_v46_1 : Ref sig .tc := ⟨.hbm, 66, rfl⟩
abbrev main_v46_2 : Ref sig .tc := ⟨.hbm, 67, rfl⟩
abbrev main_v46_3 : Ref sig .tc := ⟨.hbm, 68, rfl⟩
abbrev main_v46_4 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_8 : Ref sig .tc := ⟨.hbm, 74, rfl⟩
abbrev main_v51 : Ref sig .tc := ⟨.hbm, 75, rfl⟩
abbrev main_v52 : Ref sig .tc := ⟨.hbm, 76, rfl⟩
abbrev main_cst_9 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem14_0 : DmaSem sig := 22
abbrev cc0_sem15_0 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c1_i32 : BitVec 32 := 1#32
  let c0_i32 : BitVec 32 := 0#32
  ![v0.toNat, c1_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_3 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc0_transform_4 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc0_transform_5 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1536 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== PostIdeal.lean ====
variable {F : FTy → Type} [FloatOps F] [Named F]
def κ : String → Option EReal := fun
  | "ln2" => some ((Real.log 2 : ℝ) : EReal)
  | _ => none
-- ==== PostRefIdeal.lean ====
abbrev S4096x1536 : Shape := ⟨2, ![4096, 1536]⟩
abbrev S4096x8 : Shape := ⟨2, ![4096, 8]⟩
abbrev S64 : Shape := ⟨1, ![64]⟩
abbrev S8 : Shape := ⟨1, ![8]⟩
abbrev S8x4096x64 : Shape := ⟨3, ![8, 4096, 64]⟩
abbrev S8x4096 : Shape := ⟨2, ![8, 4096]⟩
abbrev S4096x512 : Shape := ⟨2, ![4096, 512]⟩
abbrev S1x8 : Shape := ⟨2, ![1, 8]⟩
abbrev S_ : Shape := ⟨0, ![]⟩
abbrev S4096x8x64 : Shape := ⟨3, ![4096, 8, 64]⟩
abbrev S8x4096x1 : Shape := ⟨3, ![8, 4096, 1]⟩
abbrev S1x1x64 : Shape := ⟨3, ![1, 1, 64]⟩

abbrev nBuf : Space → Nat
  | .hbm => 182
  | .vmem => 0
  | .smem => 0
  | _ => 0

abbrev hbmTy0_0 (i : Nat) : BufTy := match i % 128 with
  | 0 => ⟨S4096x1536, .f32⟩
  | 1 => ⟨S4096x8, .f32⟩
  | 2 => ⟨S64, .f32⟩
  | 3 => ⟨S64, .f32⟩
  | 4 => ⟨S8, .f32⟩
  | 5 => ⟨S8x4096x64, .f32⟩
  | 6 => ⟨S8x4096x64, .f32⟩
  | 7 => ⟨S8x4096x64, .f32⟩
  | 8 => ⟨S8x4096, .f32⟩
  | 9 => ⟨S4096x512, .f32⟩
  | 10 => ⟨S4096x512, .f32⟩
  | 11 => ⟨S4096x512, .f32⟩
  | 12 => ⟨S1x8, .f32⟩
  | 13 => ⟨S4096x8, .f32⟩
  | 14 => ⟨S4096x8, .f32⟩
  | 15 => ⟨S4096x8, .f32⟩
  | 16 => ⟨S_, .f32⟩
  | 17 => ⟨S4096x8, .f32⟩
  | 18 => ⟨S4096x8, .f32⟩
  | 19 => ⟨S4096x8, .f32⟩
  | 20 => ⟨S4096x8, .f32⟩
  | 21 => ⟨S4096x8, .i1⟩
  | 22 => ⟨S4096x8, .f32⟩
  | 23 => ⟨S4096x8, .f32⟩
  | 24 => ⟨S4096x8, .f32⟩
  | 25 => ⟨S4096x8, .f32⟩
  | 26 => ⟨S4096x8, .f32⟩
  | 27 => ⟨S4096x8, .f32⟩
  | 28 => ⟨S4096x8, .f32⟩
  | 29 => ⟨S4096x8, .f32⟩
  | 30 => ⟨S_, .f32⟩
  | 31 => ⟨S4096x8, .f32⟩
  | 32 => ⟨S4096x8, .i1⟩
  | 33 => ⟨S_, .f32⟩
  | 34 => ⟨S4096x8, .f32⟩
  | 35 => ⟨S4096x8, .f32⟩
  | 36 => ⟨S_, .f32⟩
  | 37 => ⟨S4096x8, .f32⟩
  | 38 => ⟨S4096x8, .i1⟩
  | 39 => ⟨S_, .f32⟩
  | 40 => ⟨S4096x8, .f32⟩
  | 41 => ⟨S4096x8, .f32⟩
  | 42 => ⟨S4096x8, .f32⟩
  | 43 => ⟨S4096x8, .f32⟩
  | 44 => ⟨S_, .f32⟩
  | 45 => ⟨S_, .f32⟩
  | 46 => ⟨S_, .i1⟩
  | 47 => ⟨S_, .f32⟩
  | 48 => ⟨S_, .f32⟩
  | 49 => ⟨S_, .f32⟩
  | 50 => ⟨S_, .f32⟩
  | 51 => ⟨S4096x8, .f32⟩
  | 52 => ⟨S4096x8, .i1⟩
  | 53 => ⟨S_, .f32⟩
  | 54 => ⟨S4096x8, .f32⟩
  | 55 => ⟨S4096x8, .f32⟩
  | 56 => ⟨S4096x8, .f32⟩
  | 57 => ⟨S4096x8, .f32⟩
  | 58 => ⟨S4096x8, .f32⟩
  | 59 => ⟨S_, .f32⟩
  | 60 => ⟨S4096x8, .f32⟩
  | 61 => ⟨S4096x8, .f32⟩
  | 62 => ⟨S4096x8, .f32⟩
  | 63 => ⟨S8x4096, .f32⟩
  | 64 => ⟨S4096x8x64, .f32⟩
  | 65 => ⟨S8x4096x64, .f32⟩
  | 66 => ⟨S8x4096x64, .f32⟩
  | 67 => ⟨S_, .f32⟩
  | 68 => ⟨S8x4096, .f32⟩
  | 69 => ⟨S8x4096x1, .f32⟩
  | 70 => ⟨S_, .f32⟩
  | 71 => ⟨S8x4096x1, .f32⟩
  | 72 => ⟨S8x4096x1, .f32⟩
  | 73 => ⟨S_, .f32⟩
  | 74 => ⟨S8x4096x1, .f32⟩
  | 75 => ⟨S8x4096x1, .f32⟩
  | 76 => ⟨S8x4096x1, .f32⟩
  | 77 => ⟨S8x4096x1, .f32⟩
  | 78 => ⟨S_, .f32⟩
  | 79 => ⟨S8x4096x1, .f32⟩
  | 80 => ⟨S8x4096x1, .f32⟩
  | 81 => ⟨S8x4096x64, .f32⟩
  | 82 => ⟨S8x4096x64, .f32⟩
  | 83 => ⟨S1x1x64, .f32⟩
  | 84 => ⟨S8x4096x64, .f32⟩
  | 85 => ⟨S8x4096x64, .f32⟩
  | 86 => ⟨S4096x8x64, .f32⟩
  | 87 => ⟨S8x4096x64, .f32⟩
  | 88 => ⟨S8x4096x64, .f32⟩
  | 89 => ⟨S_, .f32⟩
  | 90 => ⟨S8x4096, .f32⟩
  | 91 => ⟨S8x4096x1, .f32⟩
  | 92 => ⟨S_, .f32⟩
  | 93 => ⟨S8x4096x1, .f32⟩
  | 94 => ⟨S8x4096x1, .f32⟩
  | 95 => ⟨S_, .f32⟩
  | 96 => ⟨S8x4096x1, .f32⟩
  | 97 => ⟨S8x4096x1, .f32⟩
  | 98 => ⟨S8x4096x1, .f32⟩
  | 99 => ⟨S8x4096x1, .f32⟩
  | 100 => ⟨S_, .f32⟩
  | 101 => ⟨S8x4096x1, .f32⟩
  | 102 => ⟨S8x4096x1, .f32⟩
  | 103 => ⟨S8x4096x64, .f32⟩
  | 104 => ⟨S8x4096x64, .f32⟩
  | 105 => ⟨S1x1x64, .f32⟩
  | 106 => ⟨S8x4096x64, .f32⟩
  | 107 => ⟨S8x4096x64, .f32⟩
  | 108 => ⟨S4096x8x64, .f32⟩
  | 109 => ⟨S8x4096x64, .f32⟩
  | 110 => ⟨S_, .f32⟩
  | 111 => ⟨S_, .f32⟩
  | 112 => ⟨S8x4096, .f32⟩
  | 113 => ⟨S_, .f32⟩
  | 114 => ⟨S_, .f32⟩
  | 115 => ⟨S8x4096, .f32⟩
  | 116 => ⟨S4096x8x64, .f32⟩
  | 117 => ⟨S4096x512, .f32⟩
  | 118 => ⟨S8x4096x64, .f32⟩
  | 119 => ⟨S_, .f32⟩
  | 120 => ⟨S64, .f32⟩
  | 121 => ⟨S1x1x64, .f32⟩
  | 122 => ⟨S8x4096x64, .f32⟩
  | 123 => ⟨S8x4096x64, .f32⟩
  | 124 => ⟨S_, .f32⟩
  | 125 => ⟨S64, .f32⟩
  | 126 => ⟨S8x4096x64, .f32⟩
  | 127 => ⟨S_, .f32⟩
  | _ => ⟨S4096x1536, .f32⟩

abbrev hbmTy0_1 (i : Nat) : BufTy := match i % 128 with
  | 0 => ⟨S8x4096, .f32⟩
  | 1 => ⟨S8x4096x1, .f32⟩
  | 2 => ⟨S8x4096x64, .f32⟩
  | 3 => ⟨S8x4096x64, .f32⟩
  | 4 => ⟨S8x4096x1, .f32⟩
  | 5 => ⟨S_, .f32⟩
  | 6 => ⟨S8x4096x1, .f32⟩
  | 7 => ⟨S8x4096x1, .f32⟩
  | 8 => ⟨S_, .f32⟩
  | 9 => ⟨S8x4096, .f32⟩
  | 10 => ⟨S8x4096x64, .f32⟩
  | 11 => ⟨S8x4096x64, .f32⟩
  | 12 => ⟨S8x4096x64, .f32⟩
  | 13 => ⟨S8x4096x64, .f32⟩
  | 14 => ⟨S8x4096x64, .f32⟩
  | 15 => ⟨S4096x8x64, .f32⟩
  | 16 => ⟨S4096x512, .f32⟩
  | 17 => ⟨S8x4096x64, .f32⟩
  | 18 => ⟨S_, .f32⟩
  | 19 => ⟨S64, .f32⟩
  | 20 => ⟨S1x1x64, .f32⟩
  | 21 => ⟨S8x4096x64, .f32⟩
  | 22 => ⟨S8x4096x64, .f32⟩
  | 23 => ⟨S_, .f32⟩
  | 24 => ⟨S64, .f32⟩
  | 25 => ⟨S8x4096x64, .f32⟩
  | 26 => ⟨S_, .f32⟩
  | 27 => ⟨S8x4096, .f32⟩
  | 28 => ⟨S8x4096x1, .f32⟩
  | 29 => ⟨S8x4096x64, .f32⟩
  | 30 => ⟨S8x4096x64, .f32⟩
  | 31 => ⟨S8x4096x1, .f32⟩
  | 32 => ⟨S_, .f32⟩
  | 33 => ⟨S8x4096x1, .f32⟩
  | 34 => ⟨S8x4096x1, .f32⟩
  | 35 => ⟨S_, .f32⟩
  | 36 => ⟨S8x4096, .f32⟩
  | 37 => ⟨S8x4096x64, .f32⟩
  | 38 => ⟨S8x4096x64, .f32⟩
  | 39 => ⟨S8x4096x64, .f32⟩
  | 40 => ⟨S8x4096x64, .f32⟩
  | 41 => ⟨S8x4096x64, .f32⟩
  | 42 => ⟨S4096x8x64, .f32⟩
  | 43 => ⟨S4096x512, .f32⟩
  | 44 => ⟨S4096x8, .f32⟩
  | 45 => ⟨S4096x8, .f32⟩
  | 46 => ⟨S4096x8, .f32⟩
  | 47 => ⟨S4096x8, .f32⟩
  | 48 => ⟨S_, .f32⟩
  | 49 => ⟨S8, .f32⟩
  | 50 => ⟨S1x8, .f32⟩
  | 51 => ⟨S_, .f32⟩
  | 52 => ⟨S8, .f32⟩
  | 53 => ⟨S4096x1536, .f32⟩
  | _ => ⟨S4096x1536, .f32⟩

abbrev hbmTy (i : Nat) : BufTy := match i / 128 with
  | 0 => hbmTy0_0 i
  | 1 => hbmTy0_1 i
  | _ => ⟨S4096x1536, .f32⟩

abbrev bufTy : (tb : Table) → Fin (tcTables nBuf tb) → BufTy
  | .hbm, ⟨i, _⟩ => hbmTy i
  | _, _ => ⟨S4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_call0_v0 : Ref sig .tc := ⟨.hbm, 15, rfl⟩
abbrev main_call0_call0_cst : Ref sig .tc := ⟨.hbm, 16, rfl⟩
abbrev main_call0_call0_v0 : Ref sig .tc := ⟨.hbm, 17, rfl⟩
abbrev main_call0_call0_v1 : Ref sig .tc := ⟨.hbm, 18, rfl⟩
abbrev main_call0_call0_v2 : Ref sig .tc := ⟨.hbm, 19, rfl⟩
abbrev main_call0_call0_v3 : Ref sig .tc := ⟨.hbm, 20, rfl⟩
abbrev main_call0_call0_v4 : Ref sig .tc := ⟨.hbm, 21, rfl⟩
abbrev main_call0_call0_v5 : Ref sig .tc := ⟨.hbm, 22, rfl⟩
abbrev main_call0_call0_v6 : Ref sig .tc := ⟨.hbm, 23, rfl⟩
abbrev main_call0_call0_v7 : Ref sig .tc := ⟨.hbm, 24, rfl⟩
abbrev main_call0_call0_v8 : Ref sig .tc := ⟨.hbm, 25, rfl⟩
abbrev main_call0_call0_v9 : Ref sig .tc := ⟨.hbm, 26, rfl⟩
abbrev main_call0_call0_v10 : Ref sig .tc := ⟨.hbm, 27, rfl⟩
abbrev main_call0_call0_v11 : Ref sig .tc := ⟨.hbm, 28, rfl⟩
abbrev main_call0_v1_0 : Ref sig .tc := ⟨.hbm, 29, rfl⟩
abbrev main_call0_call0_cst_0 : Ref sig .tc := ⟨.hbm, 30, rfl⟩
abbrev main_call0_call0_v13 : Ref sig .tc := ⟨.hbm, 31, rfl⟩
abbrev main_call0_call0_v14 : Ref sig .tc := ⟨.hbm, 32, rfl⟩
abbrev main_call0_call0_cst_1 : Ref sig .tc := ⟨.hbm, 33, rfl⟩
abbrev main_call0_call0_v15 : Ref sig .tc := ⟨.hbm, 34, rfl⟩
abbrev main_call0_call0_v16 : Ref sig .tc := ⟨.hbm, 35, rfl⟩
abbrev main_call0_call0_cst_2 : Ref sig .tc := ⟨.hbm, 36, rfl⟩
abbrev main_call0_call0_v17 : Ref sig .tc := ⟨.hbm, 37, rfl⟩
abbrev main_call0_call0_v18 : Ref sig .tc := ⟨.hbm, 38, rfl⟩
abbrev main_call0_call0_cst_3 : Ref sig .tc := ⟨.hbm, 39, rfl⟩
abbrev main_call0_call0_v19 : Ref sig .tc := ⟨.hbm, 40, rfl⟩
abbrev main_call0_call0_v20 : Ref sig .tc := ⟨.hbm, 41, rfl⟩
abbrev main_call0_call0_v21 : Ref sig .tc := ⟨.hbm, 42, rfl⟩
abbrev main_v6_1 : Ref sig .tc := ⟨.hbm, 43, rfl⟩
abbrev main_call0_call0_cst_4 : Ref sig .tc := ⟨.hbm, 44, rfl⟩
abbrev main_call0_call0_cst_5 : Ref sig .tc := ⟨.hbm, 45, rfl⟩
abbrev main_call0_call0_v23 : Ref sig .tc := ⟨.hbm, 46, rfl⟩
abbrev main_call0_call0_cst_6 : Ref sig .tc := ⟨.hbm, 47, rfl⟩
abbrev main_call0_call0_cst_7 : Ref sig .tc := ⟨.hbm, 48, rfl⟩
abbrev main_call0_call0_v24 : Ref sig .tc := ⟨.hbm, 49, rfl⟩
abbrev main_call0_call0_cst_8 : Ref sig .tc := ⟨.hbm, 50, rfl⟩
abbrev main_call0_call0_v25 : Ref sig .tc := ⟨.hbm, 51, rfl⟩
abbrev main_call0_call0_v26 : Ref sig .tc := ⟨.hbm, 52, rfl⟩
abbrev main_call0_call0_cst_9 : Ref sig .tc := ⟨.hbm, 53, rfl⟩
abbrev main_call0_call0_v27 : Ref sig .tc := ⟨.hbm, 54, rfl⟩
abbrev main_call0_call0_v28 : Ref sig .tc := ⟨.hbm, 55, rfl⟩
abbrev main_call0_call0_v29 : Ref sig .tc := ⟨.hbm, 56, rfl⟩
abbrev main_call0_call0_v30 : Ref sig .tc := ⟨.hbm, 57, rfl⟩
abbrev main_call0_call0_v31 : Ref sig .tc := ⟨.hbm, 58, rfl⟩
abbrev main_call0_call0_cst_10 : Ref sig .tc := ⟨.hbm, 59, rfl⟩
abbrev main_call0_call0_v32 : Ref sig .tc := ⟨.hbm, 60, rfl⟩
abbrev main_v6_2 : Ref sig .tc := ⟨.hbm, 61, rfl⟩
abbrev main_v6_0 : Ref sig .tc := ⟨.hbm, 62, rfl⟩
abbrev main_v7 : Ref sig .tc := ⟨.hbm, 63, rfl⟩
abbrev main_v8 : Ref sig .tc := ⟨.hbm, 64, rfl⟩
abbrev main_v9 : Ref sig .tc := ⟨.hbm, 65, rfl⟩
abbrev main_v10 : Ref sig .tc := ⟨.hbm, 66, rfl⟩
abbrev main_cst : Ref sig .tc := ⟨.hbm, 67, rfl⟩
abbrev main_v11 : Ref sig .tc := ⟨.hbm, 68, rfl⟩
abbrev main_v12 : Ref sig .tc := ⟨.hbm, 69, rfl⟩
abbrev main_cst_0 : Ref sig .tc := ⟨.hbm, 70, rfl⟩
abbrev main_v13 : Ref sig .tc := ⟨.hbm, 71, rfl⟩
abbrev main_v14 : Ref sig .tc := ⟨.hbm, 72, rfl⟩
abbrev main_cst_1 : Ref sig .tc := ⟨.hbm, 73, rfl⟩
abbrev main_v15 : Ref sig .tc := ⟨.hbm, 74, rfl⟩
abbrev main_v16 : Ref sig .tc := ⟨.hbm, 75, rfl⟩
abbrev main_v17 : Ref sig .tc := ⟨.hbm, 76, rfl⟩
abbrev main_v18 : Ref sig .tc := ⟨.hbm, 77, rfl⟩
abbrev main_cst_2 : Ref sig .tc := ⟨.hbm, 78, rfl⟩
abbrev main_v19 : Ref sig .tc := ⟨.hbm, 79, rfl⟩
abbrev main_v20 : Ref sig .tc := ⟨.hbm, 80, rfl⟩
abbrev main_v21 : Ref sig .tc := ⟨.hbm, 81, rfl⟩
abbrev main_v22 : Ref sig .tc := ⟨.hbm, 82, rfl⟩
abbrev main_v23 : Ref sig .tc := ⟨.hbm, 83, rfl⟩
abbrev main_v24 : Ref sig .tc := ⟨.hbm, 84, rfl⟩
abbrev main_v25 : Ref sig .tc := ⟨.hbm, 85, rfl⟩
abbrev main_v26 : Ref sig .tc := ⟨.hbm, 86, rfl⟩
abbrev main_v27 : Ref sig .tc := ⟨.hbm, 87, rfl⟩
abbrev main_v28 : Ref sig .tc := ⟨.hbm, 88, rfl⟩
abbrev main_cst_3 : Ref sig .tc := ⟨.hbm, 89, rfl⟩
abbrev main_v29 : Ref sig .tc := ⟨.hbm, 90, rfl⟩
abbrev main_v30 : Ref sig .tc := ⟨.hbm, 91, rfl⟩
abbrev main_cst_4 : Ref sig .tc := ⟨.hbm, 92, rfl⟩
abbrev main_v31 : Ref sig .tc := ⟨.hbm, 93, rfl⟩
abbrev main_v32 : Ref sig .tc := ⟨.hbm, 94, rfl⟩
abbrev main_cst_5 : Ref sig .tc := ⟨.hbm, 95, rfl⟩
abbrev main_v33 : Ref sig .tc := ⟨.hbm, 96, rfl⟩
abbrev main_v34 : Ref sig .tc := ⟨.hbm, 97, rfl⟩
abbrev main_v35 : Ref sig .tc := ⟨.hbm, 98, rfl⟩
abbrev main_v36 : Ref sig .tc := ⟨.hbm, 99, rfl⟩
abbrev main_cst_6 : Ref sig .tc := ⟨.hbm, 100, rfl⟩
abbrev main_v37 : Ref sig .tc := ⟨.hbm, 101, rfl⟩
abbrev main_v38 : Ref sig .tc := ⟨.hbm, 102, rfl⟩
abbrev main_v39 : Ref sig .tc := ⟨.hbm, 103, rfl⟩
abbrev main_v40 : Ref sig .tc := ⟨.hbm, 104, rfl⟩
abbrev main_v41 : Ref sig .tc := ⟨.hbm, 105, rfl⟩
abbrev main_v42 : Ref sig .tc := ⟨.hbm, 106, rfl⟩
abbrev main_v43 : Ref sig .tc := ⟨.hbm, 107, rfl⟩
abbrev main_v44 : Ref sig .tc := ⟨.hbm, 108, rfl⟩
abbrev main_v45 : Ref sig .tc := ⟨.hbm, 109, rfl⟩
abbrev main_call1_call0_cst : Ref sig .tc := ⟨.hbm, 110, rfl⟩
abbrev main_call1_call0_v0 : Ref sig .tc := ⟨.hbm, 111, rfl⟩
abbrev main_v46 : Ref sig .tc := ⟨.hbm, 112, rfl⟩
abbrev main_call2_call0_cst : Ref sig .tc := ⟨.hbm, 113, rfl⟩
abbrev main_call2_call0_v0 : Ref sig .tc := ⟨.hbm, 114, rfl⟩
abbrev main_v47 : Ref sig .tc := ⟨.hbm, 115, rfl⟩
abbrev main_v48 : Ref sig .tc := ⟨.hbm, 116, rfl⟩
abbrev main_v49 : Ref sig .tc := ⟨.hbm, 117, rfl⟩
abbrev main_v50 : Ref sig .tc := ⟨.hbm, 118, rfl⟩
abbrev main_cst_7 : Ref sig .tc := ⟨.hbm, 119, rfl⟩
abbrev main_v51 : Ref sig .tc := ⟨.hbm, 120, rfl⟩
abbrev main_v52 : Ref sig .tc := ⟨.hbm, 121, rfl⟩
abbrev main_v53 : Ref sig .tc := ⟨.hbm, 122, rfl⟩
abbrev main_v54 : Ref sig .tc := ⟨.hbm, 123, rfl⟩
abbrev main_cst_8 : Ref sig .tc := ⟨.hbm, 124, rfl⟩
abbrev main_v55 : Ref sig .tc := ⟨.hbm, 125, rfl⟩
abbrev main_v56 : Ref sig .tc := ⟨.hbm, 126, rfl⟩
abbrev main_cst_9 : Ref sig .tc := ⟨.hbm, 127, rfl⟩
abbrev main_v57 : Ref sig .tc := ⟨.hbm, 128, rfl⟩
abbrev main_v58 : Ref sig .tc := ⟨.hbm, 129, rfl⟩
abbrev main_v59 : Ref sig .tc := ⟨.hbm, 130, rfl⟩
abbrev main_v60 : Ref sig .tc := ⟨.hbm, 131, rfl⟩
abbrev main_v61 : Ref sig .tc := ⟨.hbm, 132, rfl⟩
abbrev main_cst_10 : Ref sig .tc := ⟨.hbm, 133, rfl⟩
abbrev main_v62 : Ref sig .tc := ⟨.hbm, 134, rfl⟩
abbrev main_v63 : Ref sig .tc := ⟨.hbm, 135, rfl⟩
abbrev main_cst_11 : Ref sig .tc := ⟨.hbm, 136, rfl⟩
abbrev main_v64 : Ref sig .tc := ⟨.hbm, 137, rfl⟩
abbrev main_v65 : Ref sig .tc := ⟨.hbm, 138, rfl⟩
abbrev main_v66 : Ref sig .tc := ⟨.hbm, 139, rfl⟩
abbrev main_v67 : Ref sig .tc := ⟨.hbm, 140, rfl⟩
abbrev main_v68 : Ref sig .tc := ⟨.hbm, 141, rfl⟩
abbrev main_v69 : Ref sig .tc := ⟨.hbm, 142, rfl⟩
abbrev main_v70 : Ref sig .tc := ⟨.hbm, 143, rfl⟩
abbrev main_v71 : Ref sig .tc := ⟨.hbm, 144, rfl⟩
abbrev main_v72 : Ref sig .tc := ⟨.hbm, 145, rfl⟩
abbrev main_cst_12 : Ref sig .tc := ⟨.hbm, 146, rfl⟩
abbrev main_v73 : Ref sig .tc := ⟨.hbm, 147, rfl⟩
abbrev main_v74 : Ref sig .tc := ⟨.hbm, 148, rfl⟩
abbrev main_v75 : Ref sig .tc := ⟨.hbm, 149, rfl⟩
abbrev main_v76 : Ref sig .tc := ⟨.hbm, 150, rfl⟩
abbrev main_cst_13 : Ref sig .tc := ⟨.hbm, 151, rfl⟩
abbrev main_v77 : Ref sig .tc := ⟨.hbm, 152, rfl⟩
abbrev main_v78 : Ref sig .tc := ⟨.hbm, 153, rfl⟩
abbrev main_cst_14 : Ref sig .tc := ⟨.hbm, 154, rfl⟩
abbrev main_v79 : Ref sig .tc := ⟨.hbm, 155, rfl⟩
abbrev main_v80 : Ref sig .tc := ⟨.hbm, 156, rfl⟩
abbrev main_v81 : Ref sig .tc := ⟨.hbm, 157, rfl⟩
abbrev main_v82 : Ref sig .tc := ⟨.hbm, 158, rfl⟩
abbrev main_v83 : Ref sig .tc := ⟨.hbm, 159, rfl⟩
abbrev main_cst_15 : Ref sig .tc := ⟨.hbm, 160, rfl⟩
abbrev main_v84 : Ref sig .tc := ⟨.hbm, 161, rfl⟩
abbrev main_v85 : Ref sig .tc := ⟨.hbm, 162, rfl⟩
abbrev main_cst_16 : Ref sig .tc := ⟨.hbm, 163, rfl⟩
abbrev main_v86 : Ref sig .tc := ⟨.hbm, 164, rfl⟩
abbrev main_v87 : Ref sig .tc := ⟨.hbm, 165, rfl⟩
abbrev main_v88 : Ref sig .tc := ⟨.hbm, 166, rfl⟩
abbrev main_v89 : Ref sig .tc := ⟨.hbm, 167, rfl⟩
abbrev main_v90 : Ref sig .tc := ⟨.hbm, 168, rfl⟩
abbrev main_v91 : Ref sig .tc := ⟨.hbm, 169, rfl⟩
abbrev main_v92 : Ref sig .tc := ⟨.hbm, 170, rfl⟩
abbrev main_v93 : Ref sig .tc := ⟨.hbm, 171, rfl⟩
abbrev main_v94 : Ref sig .tc := ⟨.hbm, 172, rfl⟩
abbrev main_call3_v0 : Ref sig .tc := ⟨.hbm, 173, rfl⟩
abbrev main_call3_v1 : Ref sig .tc := ⟨.hbm, 174, rfl⟩
abbrev main_v95 : Ref sig .tc := ⟨.hbm, 175, rfl⟩
abbrev main_cst_17 : Ref sig .tc := ⟨.hbm, 176, rfl⟩
abbrev main_v96 : Ref sig .tc := ⟨.hbm, 177, rfl⟩
abbrev main_v97 : Ref sig .tc := ⟨.hbm, 178, rfl⟩
abbrev main_cst_18 : Ref sig .tc := ⟨.hbm, 179, rfl⟩
abbrev main_v98 : Ref sig .tc := ⟨.hbm, 180, rfl⟩
abbrev main_v99 : Ref sig .tc := ⟨.hbm, 181, rfl⟩

abbrev nD : Nat := 1
abbrev τ : Topo := Topo.v7x

variable {F : FTy → Type} [FloatOps F]
-- ==== InFwd.lean ====
abbrev S4096x1024 : Shape := ⟨2, ![4096, 1024]⟩
abbrev S1024 : Shape := ⟨1, ![1024]⟩
abbrev S1024x5640 : Shape := ⟨2, ![1024, 5640]⟩
abbrev S1024x1536 : Shape := ⟨2, ![1024, 1536]⟩
abbrev S1024x8 : Shape := ⟨2, ![1024, 8]⟩
abbrev S1024x4096 : Shape := ⟨2, ![1024, 4096]⟩
abbrev S1x1024 : Shape := ⟨2, ![1, 1024]⟩
abbrev S_ : Shape := ⟨0, ![]⟩
abbrev S1024x128 : Shape := ⟨2, ![1024, 128]⟩
abbrev S4096x1536 : Shape := ⟨2, ![4096, 1536]⟩
abbrev S4096x128 : Shape := ⟨2, ![4096, 128]⟩
abbrev S4096x4096 : Shape := ⟨2, ![4096, 4096]⟩
abbrev S256x1024 : Shape := ⟨2, ![256, 1024]⟩
abbrev S256x1536 : Shape := ⟨2, ![256, 1536]⟩
abbrev S256x128 : Shape := ⟨2, ![256, 128]⟩
abbrev S256x4096 : Shape := ⟨2, ![256, 4096]⟩
abbrev S256 : Shape := ⟨1, ![256]⟩
abbrev S256x1 : Shape := ⟨2, ![256, 1]⟩
abbrev S4096x8 : Shape := ⟨2, ![4096, 8]⟩

abbrev nBuf : Space → Nat
  | .hbm => 19
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5640, .f32⟩
  | .hbm, ⟨3, _⟩ => ⟨S1024x5640, .bf16⟩
  | .hbm, ⟨4, _⟩ => ⟨S1024x1536, .bf16⟩
  | .hbm, ⟨5, _⟩ => ⟨S1024x8, .bf16⟩
  | .hbm, ⟨6, _⟩ => ⟨S1024x4096, .bf16⟩
  | .hbm, ⟨7, _⟩ => ⟨S1x1024, .f32⟩
  | .hbm, ⟨8, _⟩ => ⟨S_, .i32⟩
  | .hbm, ⟨9, _⟩ => ⟨S_, .bf16⟩
  | .hbm, ⟨10, _⟩ => ⟨S1024x128, .bf16⟩
  | .hbm, ⟨11, _⟩ => ⟨S4096x1024, .bf16⟩
  | .hbm, ⟨12, _⟩ => ⟨S4096x1536, .bf16⟩
  | .hbm, ⟨13, _⟩ => ⟨S4096x128, .f32⟩
  | .hbm, ⟨14, _⟩ => ⟨S4096x4096, .bf16⟩
  | .hbm, ⟨15, _⟩ => ⟨S4096x1024, .f32⟩
  | .hbm, ⟨16, _⟩ => ⟨S4096x1536, .f32⟩
  | .hbm, ⟨17, _⟩ => ⟨S4096x8, .f32⟩
  | .hbm, ⟨18, _⟩ => ⟨S4096x4096, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x1536, .bf16⟩
  | .local _ .vmem, ⟨4, _⟩ => ⟨S1024x128, .bf16⟩
  | .local _ .vmem, ⟨5, _⟩ => ⟨S1024x4096, .bf16⟩
  | .local _ .vmem, ⟨6, _⟩ => ⟨S256x1024, .bf16⟩
  | .local _ .vmem, ⟨7, _⟩ => ⟨S256x1024, .bf16⟩
  | .local _ .vmem, ⟨8, _⟩ => ⟨S256x1536, .bf16⟩
  | .local _ .vmem, ⟨9, _⟩ => ⟨S256x1536, .bf16⟩
  | .local _ .vmem, ⟨10, _⟩ => ⟨S256x128, .f32⟩
  | .local _ .vmem, ⟨11, _⟩ => ⟨S256x128, .f32⟩
  | .local _ .vmem, ⟨12, _⟩ => ⟨S256x4096, .bf16⟩
  | .local _ .vmem, ⟨13, _⟩ => ⟨S256x4096, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_call0_v0 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev main_v6_3 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== InFwdRefIdeal.lean ====
abbrev S4096x1024 : Shape := ⟨2, ![4096, 1024]⟩
abbrev S1024 : Shape := ⟨1, ![1024]⟩
abbrev S1024x5640 : Shape := ⟨2, ![1024, 5640]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x5640 : Shape := ⟨2, ![4096, 5640]⟩
abbrev S4096x1536 : Shape := ⟨2, ![4096, 1536]⟩
abbrev S4096x8 : Shape := ⟨2, ![4096, 8]⟩
abbrev S4096x4096 : Shape := ⟨2, ![4096, 4096]⟩

abbrev nBuf : Space → Nat
  | .hbm => 23
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5640, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x5640, .f32⟩
  | .hbm, ⟨20, _⟩ => ⟨S4096x1536, .f32⟩
  | .hbm, ⟨21, _⟩ => ⟨S4096x8, .f32⟩
  | .hbm, ⟨22, _⟩ => ⟨S4096x4096, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== FfnFwd.lean ====
abbrev S4096x1024 : Shape := ⟨2, ![4096, 1024]⟩
abbrev S1024 : Shape := ⟨1, ![1024]⟩
abbrev S1024x5632 : Shape := ⟨2, ![1024, 5632]⟩
abbrev S2816x1024 : Shape := ⟨2, ![2816, 1024]⟩
abbrev S1024x4x1408 : Shape := ⟨3, ![1024, 4, 1408]⟩
abbrev S4x1024x1408 : Shape := ⟨3, ![4, 1024, 1408]⟩
abbrev S1x1024 : Shape := ⟨2, ![1, 1024]⟩
abbrev S1x4x1024x1408 : Shape := ⟨4, ![1, 4, 1024, 1408]⟩
abbrev S1x2816x1024 : Shape := ⟨3, ![1, 2816, 1024]⟩
abbrev S_ : Shape := ⟨0, ![]⟩
abbrev S1 : Shape := ⟨1, ![1]⟩
abbrev S4096x5632 : Shape := ⟨2, ![4096, 5632]⟩
abbrev S256x1024 : Shape := ⟨2, ![256, 1024]⟩
abbrev S256x5632 : Shape := ⟨2, ![256, 5632]⟩
abbrev S256 : Shape := ⟨1, ![256]⟩
abbrev S256x1 : Shape := ⟨2, ![256, 1]⟩
abbrev S1x1x1024x1408 : Shape := ⟨4, ![1, 1, 1024, 1408]⟩
abbrev S1024x1408 : Shape := ⟨2, ![1024, 1408]⟩
abbrev S256x1408 : Shape := ⟨2, ![256, 1408]⟩
abbrev S256x2816 : Shape := ⟨2, ![256, 2816]⟩

abbrev nBuf : Space → Nat
  | .hbm => 15
  | .vmem => 9
  | .smem => 1
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024x5632, .bf16⟩
  | .hbm, ⟨5, _⟩ => ⟨S1024x4x1408, .bf16⟩
  | .hbm, ⟨6, _⟩ => ⟨S4x1024x1408, .bf16⟩
  | .hbm, ⟨7, _⟩ => ⟨S1x1024, .f32⟩
  | .hbm, ⟨8, _⟩ => ⟨S1x4x1024x1408, .bf16⟩
  | .hbm, ⟨9, _⟩ => ⟨S2816x1024, .bf16⟩
  | .hbm, ⟨10, _⟩ => ⟨S1x2816x1024, .bf16⟩
  | .hbm, ⟨11, _⟩ => ⟨S_, .i32⟩
  | .hbm, ⟨12, _⟩ => ⟨S4096x1024, .f32⟩
  | .hbm, ⟨13, _⟩ => ⟨S4096x5632, .bf16⟩
  | .hbm, ⟨14, _⟩ => ⟨S4096x5632, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x4x1024x1408, .bf16⟩
  | .local _ .vmem, ⟨4, _⟩ => ⟨S1x2816x1024, .bf16⟩
  | .local _ .vmem, ⟨5, _⟩ => ⟨S256x1024, .f32⟩
  | .local _ .vmem, ⟨6, _⟩ => ⟨S256x1024, .f32⟩
  | .local _ .vmem, ⟨7, _⟩ => ⟨S256x5632, .bf16⟩
  | .local _ .vmem, ⟨8, _⟩ => ⟨S256x5632, .bf16⟩
  | .local _ .smem, ⟨0, _⟩ => ⟨S1, .i32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v8_0 : Ref sig .tc := ⟨.hbm, 12, rfl⟩
abbrev main_v8_1 : Ref sig .tc := ⟨.hbm, 13, rfl⟩
abbrev main_v9 : Ref sig .tc := ⟨.hbm, 14, rfl⟩
abbrev main_v7 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

abbrev pre0 : Pipeline.Prefetch sig := ⟨1, ![main_v7.idx], fun | 0 => main_v7.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  let c0_i32_1 : BitVec 32 := 0#32
  ![v0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4x1024x1408 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x5632 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnFwdRefIdeal.lean ====
abbrev S4096x1024 : Shape := ⟨2, ![4096, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x5632 : Shape := ⟨2, ![4096, 5632]⟩
abbrev S4096x2816 : Shape := ⟨2, ![4096, 2816]⟩

abbrev nBuf : Space → Nat
  | .hbm => 35
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S4096x5632, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S_, .f32⟩
  | .hbm, ⟨26, _⟩ => ⟨S4096x2816, .f32⟩
  | .hbm, ⟨27, _⟩ => ⟨S4096x2816, .f32⟩
  | .hbm, ⟨28, _⟩ => ⟨S_, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x1024, .f32⟩
  | .hbm, ⟨34, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩

abbrev nD : Nat := 1
abbrev τ : Topo := Topo.v7x

variable {F : FTy → Type} [FloatOps F]
-- ==== Adam.lean ====
abbrev S4096x1410 : Shape := ⟨2, ![4096, 1410]⟩
abbrev S256x1410 : Shape := ⟨2, ![256, 1410]⟩

abbrev nBuf : Space → Nat
  | .hbm => 7
  | .vmem => 14
  | .smem => 0
  | _ => 0

abbrev bufTy : (tb : Table) → Fin (tcTables nBuf tb) → BufTy
  | .hbm, ⟨0, _⟩ => ⟨S4096x1410, .f32⟩
  | .hbm, ⟨1, _⟩ => ⟨S4096x1410, .f32⟩
  | .hbm, ⟨2, _⟩ => ⟨S4096x1410, .f32⟩
  | .hbm, ⟨3, _⟩ => ⟨S4096x1410, .f32⟩
  | .hbm, ⟨4, _⟩ => ⟨S4096x1410, .f32⟩
  | .hbm, ⟨5, _⟩ => ⟨S4096x1410, .f32⟩
  | .hbm, ⟨6, _⟩ => ⟨S4096x1410, .f32⟩
  | .local _ .vmem, ⟨0, _⟩ => ⟨S256x1410, .f32⟩
  | .local _ .vmem, ⟨1, _⟩ => ⟨S256x1410, .f32⟩
  | .local _ .vmem, ⟨2, _⟩ => ⟨S256x1410, .f32⟩
  | .local _ .vmem, ⟨3, _⟩ => ⟨S256x1410, .f32⟩
  | .local _ .vmem, ⟨4, _⟩ => ⟨S256x1410, .f32⟩
  | .local _ .vmem, ⟨5, _⟩ => ⟨S256x1410, .f32⟩
  | .local _ .vmem, ⟨6, _⟩ => ⟨S256x1410, .f32⟩
  | .local _ .vmem, ⟨7, _⟩ => ⟨S256x1410, .f32⟩
  | .local _ .vmem, ⟨8, _⟩ => ⟨S256x1410, .f32⟩
  | .local _ .vmem, ⟨9, _⟩ => ⟨S256x1410, .f32⟩
  | .local _ .vmem, ⟨10, _⟩ => ⟨S256x1410, .f32⟩
  | .local _ .vmem, ⟨11, _⟩ => ⟨S256x1410, .f32⟩
  | .local _ .vmem, ⟨12, _⟩ => ⟨S256x1410, .f32⟩
  | .local _ .vmem, ⟨13, _⟩ => ⟨S256x1410, .f32⟩
  | _, _ => ⟨S4096x1410, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1410 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1410 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1410 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1410 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1410 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1410 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1410 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamRefIdeal.lean ====
abbrev S4096x1410 : Shape := ⟨2, ![4096, 1410]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x1410, .f32⟩
  | .hbm, ⟨1, _⟩ => ⟨S4096x1410, .f32⟩
  | .hbm, ⟨2, _⟩ => ⟨S4096x1410, .f32⟩
  | .hbm, ⟨3, _⟩ => ⟨S4096x1410, .f32⟩
  | .hbm, ⟨4, _⟩ => ⟨S_, .f32⟩
  | .hbm, ⟨5, _⟩ => ⟨S4096x1410, .f32⟩
  | .hbm, ⟨6, _⟩ => ⟨S4096x1410, .f32⟩
  | .hbm, ⟨7, _⟩ => ⟨S_, .f32⟩
  | .hbm, ⟨8, _⟩ => ⟨S4096x1410, .f32⟩
  | .hbm, ⟨9, _⟩ => ⟨S4096x1410, .f32⟩
  | .hbm, ⟨10, _⟩ => ⟨S4096x1410, .f32⟩
  | .hbm, ⟨11, _⟩ => ⟨S_, .f32⟩
  | .hbm, ⟨12, _⟩ => ⟨S4096x1410, .f32⟩
  | .hbm, ⟨13, _⟩ => ⟨S4096x1410, .f32⟩
  | .hbm, ⟨14, _⟩ => ⟨S4096x1410, .f32⟩
  | .hbm, ⟨15, _⟩ => ⟨S_, .f32⟩
  | .hbm, ⟨16, _⟩ => ⟨S4096x1410, .f32⟩
  | .hbm, ⟨17, _⟩ => ⟨S4096x1410, .f32⟩
  | .hbm, ⟨18, _⟩ => ⟨S4096x1410, .f32⟩
  | .hbm, ⟨19, _⟩ => ⟨S_, .f32⟩
  | .hbm, ⟨20, _⟩ => ⟨S4096x1410, .f32⟩
  | .hbm, ⟨21, _⟩ => ⟨S4096x1410, .f32⟩
  | .hbm, ⟨22, _⟩ => ⟨S_, .f32⟩
  | .hbm, ⟨23, _⟩ => ⟨S4096x1410, .f32⟩
  | .hbm, ⟨24, _⟩ => ⟨S4096x1410, .f32⟩
  | .hbm, ⟨25, _⟩ => ⟨S4096x1410, .f32⟩
  | .hbm, ⟨26, _⟩ => ⟨S_, .f32⟩
  | .hbm, ⟨27, _⟩ => ⟨S4096x1410, .f32⟩
  | .hbm, ⟨28, _⟩ => ⟨S4096x1410, .f32⟩
  | .hbm, ⟨29, _⟩ => ⟨S4096x1410, .f32⟩
  | .hbm, ⟨30, _⟩ => ⟨S_, .f32⟩
  | .hbm, ⟨31, _⟩ => ⟨S4096x1410, .f32⟩
  | .hbm, ⟨32, _⟩ => ⟨S4096x1410, .f32⟩
  | .hbm, ⟨33, _⟩ => ⟨S4096x1410, .f32⟩
  | .hbm, ⟨34, _⟩ => ⟨S_, .f32⟩
  | .hbm, ⟨35, _⟩ => ⟨S4096x1410, .f32⟩
  | .hbm, ⟨36, _⟩ => ⟨S4096x1410, .f32⟩
  | _, _ => ⟨S4096x1410, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Wgrad.lean ====
abbrev S4096x1024 : Shape := ⟨2, ![4096, 1024]⟩
abbrev S4096x4096 : Shape := ⟨2, ![4096, 4096]⟩
abbrev S1024x4096 : Shape := ⟨2, ![1024, 4096]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S4096x1024, .bf16⟩
  | .hbm, ⟨3, _⟩ => ⟨S4096x4096, .bf16⟩
  | .hbm, ⟨4, _⟩ => ⟨S1024x4096, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WgradRefIdeal.lean ====
abbrev S4096x1024 : Shape := ⟨2, ![4096, 1024]⟩
abbrev S4096x4096 : Shape := ⟨2, ![4096, 4096]⟩
abbrev S_ : Shape := ⟨0, ![]⟩
abbrev S1024x4096 : Shape := ⟨2, ![1024, 4096]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S_, .f32⟩
  | .hbm, ⟨3, _⟩ => ⟨S1024x4096, .f32⟩
  | .hbm, ⟨4, _⟩ => ⟨S4096x4096, .f32⟩
  | .hbm, ⟨5, _⟩ => ⟨S4096x1024, .f32⟩
  | .hbm, ⟨6, _⟩ => ⟨S1024x4096, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Total.lean ====
abbrev S8x128x128 : Shape := ⟨3, ![8, 128, 128]⟩
abbrev S128x128 : Shape := ⟨2, ![128, 128]⟩
abbrev S1x128x128 : Shape := ⟨3, ![1, 128, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x128x128, .f32⟩
  | .hbm, ⟨1, _⟩ => ⟨S128x128, .f32⟩
  | .local _ .vmem, ⟨0, _⟩ => ⟨S8x128x128, .f32⟩
  | .local _ .vmem, ⟨1, _⟩ => ⟨S128x128, .f32⟩
  | _, _ => ⟨S8x128x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== TotalRefIdeal.lean ====
abbrev S8x128x128 : Shape := ⟨3, ![8, 128, 128]⟩
abbrev S_ : Shape := ⟨0, ![]⟩
abbrev S128x128 : Shape := ⟨2, ![128, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x128x128, .f32⟩
  | .hbm, ⟨1, _⟩ => ⟨S_, .f32⟩
  | .hbm, ⟨2, _⟩ => ⟨S128x128, .f32⟩
  | _, _ => ⟨S8x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Prep.lean ====
abbrev S1024x5640 : Shape := ⟨2, ![1024, 5640]⟩
abbrev S1024x4x1410 : Shape := ⟨3, ![1024, 4, 1410]⟩
abbrev S4x1024x1410 : Shape := ⟨3, ![4, 1024, 1410]⟩
abbrev S1x4x1024x1410 : Shape := ⟨4, ![1, 4, 1024, 1410]⟩
abbrev S1024x1536 : Shape := ⟨2, ![1024, 1536]⟩
abbrev S1024x128 : Shape := ⟨2, ![1024, 128]⟩
abbrev S1024x4096 : Shape := ⟨2, ![1024, 4096]⟩
abbrev S1x1x256x1410 : Shape := ⟨4, ![1, 1, 256, 1410]⟩
abbrev S256x1536 : Shape := ⟨2, ![256, 1536]⟩
abbrev S256x128 : Shape := ⟨2, ![256, 128]⟩
abbrev S256x4096 : Shape := ⟨2, ![256, 4096]⟩
abbrev S256x1410 : Shape := ⟨2, ![256, 1410]⟩
abbrev S256x126 : Shape := ⟨2, ![256, 126]⟩
abbrev S256x8 : Shape := ⟨2, ![256, 8]⟩
abbrev S256x120 : Shape := ⟨2, ![256, 120]⟩
abbrev S256x1276 : Shape := ⟨2, ![256, 1276]⟩
abbrev S1024x8 : Shape := ⟨2, ![1024, 8]⟩

abbrev nBuf : Space → Nat
  | .hbm => 12
  | .vmem => 14
  | .smem => 0
  | _ => 0

abbrev bufTy : (tb : Table) → Fin (tcTables nBuf tb) → BufTy
  | .hbm, ⟨0, _⟩ => ⟨S1024x5640, .f32⟩
  | .hbm, ⟨1, _⟩ => ⟨S1024x5640, .bf16⟩
  | .hbm, ⟨2, _⟩ => ⟨S1024x4x1410, .bf16⟩
  | .hbm, ⟨3, _⟩ => ⟨S4x1024x1410, .bf16⟩
  | .hbm, ⟨4, _⟩ => ⟨S1x4x1024x1410, .bf16⟩
  | .hbm, ⟨5, _⟩ => ⟨S1024x1536, .bf16⟩
  | .hbm, ⟨6, _⟩ => ⟨S1024x128, .bf16⟩
  | .hbm, ⟨7, _⟩ => ⟨S1024x4096, .bf16⟩
  | .hbm, ⟨8, _⟩ => ⟨S1024x1536, .f32⟩
  | .hbm, ⟨9, _⟩ => ⟨S1024x8, .bf16⟩
  | .hbm, ⟨10, _⟩ => ⟨S1024x8, .f32⟩
  | .hbm, ⟨11, _⟩ => ⟨S1024x4096, .f32⟩
  | .local _ .vmem, ⟨0, _⟩ => ⟨S1x1x256x1410, .bf16⟩
  | .local _ .vmem, ⟨1, _⟩ => ⟨S1x1x256x1410, .bf16⟩
  | .local _ .vmem, ⟨2, _⟩ => ⟨S1x1x256x1410, .bf16⟩
  | .local _ .vmem, ⟨3, _⟩ => ⟨S1x1x256x1410, .bf16⟩
  | .local _ .vmem, ⟨4, _⟩ => ⟨S1x1x256x1410, .bf16⟩
  | .local _ .vmem, ⟨5, _⟩ => ⟨S1x1x256x1410, .bf16⟩
  | .local _ .vmem, ⟨6, _⟩ => ⟨S1x1x256x1410, .bf16⟩
  | .local _ .vmem, ⟨7, _⟩ => ⟨S1x1x256x1410, .bf16⟩
  | .local _ .vmem, ⟨8, _⟩ => ⟨S256x1536, .bf16⟩
  | .local _ .vmem, ⟨9, _⟩ => ⟨S256x1536, .bf16⟩
  | .local _ .vmem, ⟨10, _⟩ => ⟨S256x128, .bf16⟩
  | .local _ .vmem, ⟨11, _⟩ => ⟨S256x128, .bf16⟩
  | .local _ .vmem, ⟨12, _⟩ => ⟨S256x4096, .bf16⟩
  | .local _ .vmem, ⟨13, _⟩ => ⟨S256x4096, .bf16⟩
  | _, _ => ⟨S1024x5640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4_0 : Ref sig .tc := ⟨.hbm, 5, rfl⟩
abbrev main_v4_1 : Ref sig .tc := ⟨.hbm, 6, rfl⟩
abbrev main_v4_2 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_1 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  ![c0_i32.toNat, c1_i32.toNat, arg0.toNat, c0_i32_0.toNat]

def cc0_transform_2 (i : grid0.Coords) : Fin 4 → Nat :=
  let arg0 : BitVec 32 := BitVec.ofNat 32 (i 0).val
  let c0_i32 : BitVec 32 := 0#32
  let c2_i32 : BitVec 32 := 2#32
  let c0_i32_0 : BitVec 32 := 0#32
  let c0_i32_1 : BitVec 32 := 0#32
  ![c0_i32.toNat, c2_i32.toNat, arg0.toNat, c0_i32_0.toNat]

def cc0_transform_3 (i : grid0.Coords) : Fin 4 → Nat :=
  let arg0 : BitVec 32 := BitVec.ofNat 32 (i 0).val
  let c0_i32 : BitVec 32 := 0#32
  let c3_i32 : BitVec 32 := 3#32
  let c0_i32_0 : BitVec 32 := 0#32
  let c0_i32_1 : BitVec 32 := 0#32
  ![c0_i32.toNat, c3_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x1x256x1410 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x256x1410 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x256x1410 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x256x1410 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== PrepRefIdeal.lean ====
abbrev S1024x5640 : Shape := ⟨2, ![1024, 5640]⟩
abbrev S1024x1536 : Shape := ⟨2, ![1024, 1536]⟩
abbrev S1024x8 : Shape := ⟨2, ![1024, 8]⟩
abbrev S1024x4096 : Shape := ⟨2, ![1024, 4096]⟩

abbrev nBuf : Space → Nat
  | .hbm => 4
  | .vmem => 0
  | .smem => 0
  | _ => 0

abbrev bufTy : (tb : Table) → Fin (tcTables nBuf tb) → BufTy
  | .hbm, ⟨0, _⟩ => ⟨S1024x5640, .f32⟩
  | .hbm, ⟨1, _⟩ => ⟨S1024x1536, .f32⟩
  | .hbm, ⟨2, _⟩ => ⟨S1024x8, .f32⟩
  | .hbm, ⟨3, _⟩ => ⟨S1024x4096, .f32⟩
  | _, _ => ⟨S1024x5640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]
-- ==== Proof.Consts.lean ====
/- The float constants the kernels and the references use, as real numbers, and small laws of the extended reals. -/
module

public import Idealize.ShloMosaic.Lib.IdealHost
public import Idealize.ShloMosaic.Lib.Pointwise

@[expose] public section

noncomputable section

namespace Cert.Consts

open Idealize.ShloMosaic

theorem half_f32 : Ideal.ofBits .f32 0x3F000000#32 = (((1 : ℝ) / 2 : ℝ) : EReal) := by
  simp [Ideal.ofBits, Ideal.ieee, -EReal.coe_mul]; norm_num
theorem two_f32 : Ideal.ofBits .f32 0x40000000#32 = ((2 : ℝ) : EReal) := by
  simp [Ideal.ofBits, Ideal.ieee, -EReal.coe_mul]; norm_num
theorem c1024_f32 : Ideal.ofBits .f32 0x44800000#32 = ((1024 : ℝ) : EReal) := by
  simp [Ideal.ofBits, Ideal.ieee, -EReal.coe_mul]; norm_num
theorem inv1024_f32 : Ideal.ofBits .f32 0x3A800000#32 = (((1 : ℝ) / 1024 : ℝ) : EReal) := by
  simp [Ideal.ofBits, Ideal.ieee, -EReal.coe_mul]; norm_num

/-- A real factor that is not negative goes into a sum of extended reals that are not negative. -/
theorem mul_sum_of_nonneg {ι : Type*} (s : Finset ι) (f : ι → EReal) (hf : ∀ i, 0 ≤ f i) (c : EReal) :
    c * ∑ i ∈ s, f i = ∑ i ∈ s, c * f i := by
  classical
  induction s using Finset.induction_on with
  | empty => simp
  | insert a s ha ih =>
    rw [Finset.sum_insert ha, Finset.sum_insert ha, EReal.left_distrib_of_nonneg (hf a) (Finset.sum_nonneg fun i _ => hf i), ih]

theorem mul_self_nonneg (x : EReal) : 0 ≤ x * x := by
  induction x with
  | bot => simp
  | top => simp
  | coe r => exact_mod_cast _root_.mul_self_nonneg r

end Cert.Consts

end
-- ==== Proof.LossValue.lean ====
/- The loss call: its two result arrays are the loss and the gradient the reference computes. -/
module

public import proofs.«01_k».proof.Defs
public import proofs.«01_k».proof.Proof.Gen.LossIdeal.Frame
public import proofs.«01_k».proof.Proof.Gen.LossRefIdeal.Run
public import proofs.«01_k».proof.Proof.Gen.LossRefIdeal.Read
public import Idealize.ShloMosaic.Lib.Pipeline.ValueKit
public import Idealize.ShloMosaic.Lib.Pointwise
public import proofs.«01_k».proof.Proof.Consts

@[expose] public section

set_option maxRecDepth 16384

noncomputable section

namespace Cert.LossIdeal.Value

open Idealize.ShloMosaic Idealize.ShloMosaic.TcCoe Idealize.SL.Sem
open Idealize.ShloMosaic.Pipeline (Dat)
open Cert.LossIdeal Cert.LossIdeal.Gen

variable (m : (ℓ : Loc nD τ sig) → Buf (Elt Ideal) ℓ)

/-- One row's squared error, summed and divided by the row length. -/
def row {n : Nat} (x y : (⟨2, ![n, 1024]⟩ : Shape).Idx → EReal) (r : Fin n) : EReal :=
  Ideal.div (∑ k : Fin 1024, (x (ix2 r k) - y (ix2 r k)) * (x (ix2 r k) - y (ix2 r k))) (Ideal.ofBits .f32 0x44800000#32)

theorem row_congr {n n' : Nat} (x y : (⟨2, ![n, 1024]⟩ : Shape).Idx → EReal) (x' y' : (⟨2, ![n', 1024]⟩ : Shape).Idx → EReal)
    (r : Fin n) (r' : Fin n') (hx : ∀ k, x (ix2 r k) = x' (ix2 r' k)) (hy : ∀ k, y (ix2 r k) = y' (ix2 r' k)) : row x y r = row x' y' r' := by
  unfold row; simp only [hx, hy]

theorem row_nonneg {n : Nat} (x y : (⟨2, ![n, 1024]⟩ : Shape).Idx → EReal) (r : Fin n) : 0 ≤ row x y r := by
  unfold row
  rw [Cert.Consts.c1024_f32, Ideal.div_coe (by norm_num)]
  exact mul_nonneg (Finset.sum_nonneg fun k _ => Cert.Consts.mul_self_nonneg _) (by norm_num)

/-- The factor one half goes into each grid point's sum over its rows. -/
theorem points_rows {N : Nat} (B0 B1 : Fin N → FVec Ideal S256x1024 .f32) (q : Fin 16 → Fin N) :
    ∑ s : Fin 16, Ideal.ofBits .f32 0x3F000000#32 * ∑ r : Fin 256, row (B0 (q s)) (B1 (q s)) r
      = ∑ s : Fin 16, ∑ r : Fin 256, Ideal.ofBits .f32 0x3F000000#32 * row (B0 (q s)) (B1 (q s)) r :=
  Finset.sum_congr rfl fun s _ => Cert.Consts.mul_sum_of_nonneg _ _ (fun r => row_nonneg _ _ r) _

theorem pay3 (x0 x1 : FVec Ideal S256x1024 .f32) (v : EReal) :
    k0_pay3 (F := Ideal) x0 x1 v = v + Ideal.ofBits .f32 0x3F000000#32 * ∑ r : Fin 256, row x0 x1 r := by
  unfold k0_pay3
  dsimp only
  pointwise [k0_pay1, row]

theorem idx : ∀ t : Fin cfg0.N, win0_0.index t = ![t.val, 0] ∧ win0_1.index t = ![t.val, 0] ∧ win0_2.index t = ![0, 0]
    ∧ win0_3.index t = ![t.val, 0] :=
  (by decide +kernel : ∀ t : Fin grid0.N, _)

theorem grad (c : Dev nD) : (dats m 0 c).arrAt 3 (cfgs 0).N
    = Cert.LossRefIdeal.Read.val_main_v15 (F := Ideal) (m ((c : Thread nD τ).loc main_arg0)) (m ((c : Thread nD τ).loc main_arg1)) := by
  refine (dats m 0 c).arrAt_eq_of_covers 3 _ (by decide +kernel) fun t _ y => ?_
  blk_simp
  rw [after0_3]
  have key : ∀ (x0 x1 : FVec Ideal S256x1024 .f32) (X Y : FVec Ideal S4096x1024 .f32) (i : S256x1024.Idx) (j : S4096x1024.Idx),
      x0 i = X j → x1 i = Y j → k0_pay2 (F := Ideal) x0 x1 i = Cert.LossRefIdeal.Read.val_main_v15 (F := Ideal) X Y j := by
    intro x0 x1 X Y i j h0 h1
    pointwise [k0_pay2, k0_pay1, Cert.LossRefIdeal.Read.val_main_v15, Cert.LossRefIdeal.Read.val_main_v14, Cert.LossRefIdeal.Read.val_main_v13,
      Cert.LossRefIdeal.Read.val_main_v12, Cert.LossRefIdeal.Read.val_main_v11, Cert.LossRefIdeal.Read.val_main_v10, Cert.LossRefIdeal.Read.val_main_v3,
      Cert.LossRefIdeal.Read.val_main_v2, Cert.LossRefIdeal.Read.val_main_v0, Cert.LossRefIdeal.Read.val_main_cst, Cert.LossRefIdeal.Read.val_main_cst_4,
      Cert.LossRefIdeal.Read.val_main_cst_5, Cert.LossRefIdeal.Read.val_main_cst_6]
    rw [h0, h1, Cert.Consts.inv1024_f32, Cert.Consts.half_f32, Cert.Consts.c1024_f32, Cert.Consts.two_f32,
      Ideal.div_coe (by norm_num), mul_comm (X j - Y j), ← mul_assoc, ← EReal.coe_mul, ← EReal.coe_mul]
    norm_num
  by_cases h : t.val % 16 = 0
  · rw [outsAt0_A m c t h]; frame_out
    exact key _ _ _ _ _ _ (by blk_point [iblk, V, idx t]) (by blk_point [iblk, V, idx t])
  · rw [outsAt0_B m c t h]; frame_out
    exact key _ _ _ _ _ _ (by blk_point [iblk, V, idx t]) (by blk_point [iblk, V, idx t])

theorem step_A (c : Dev nD) (t : Fin cfg0.N) (h : t.val % 16 = 0) (j) : (outsAt0 m c t.val t.isLt).1 j =
   0 +  Ideal.ofBits .f32 0x3F000000#32 * ∑ r : Fin 256, row (n := 256) (iblk m c 0 t) (iblk m c 1 t) r := by
  rw [outsAt0_A m c t h]; frame_out
  rw [pay3]
  congr 1
  exact Ideal.ofBits_zero_f32

theorem step_B (c : Dev nD) (t : Fin cfg0.N) (h : ¬ t.val % 16 = 0) (j) : (outsAt0 m c t.val t.isLt).1 j =
   (outsAt0 m c (t.val - 1) (Nat.lt_of_le_of_lt (Nat.sub_le _ _) t.isLt)).1 j +  Ideal.ofBits .f32 0x3F000000#32 * ∑ r : Fin 256, row (n := 256) (iblk m c 0 t) (iblk m c 1 t) r := by
  rw [outsAt0_B m c t h]; frame_out
  rw [pay3]
  congr 1
  pointwise
  blk_ext

theorem loss (c : Dev nD) : (dats m 0 c).arrAt 2 (cfgs 0).N
    = Cert.LossRefIdeal.Read.val_main_v9 (F := Ideal) (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => (outsAt0 m c n h).1) 16 (fun _ => (0 : EReal))
    (fun p j => Ideal.ofBits .f32 0x3F000000#32 * ∑ r : Fin 256, row (n := 256) (iblk m c 0 p) (iblk m c 1 p) r)
    (fun t h j => by rw [step_A m c t h]) (fun t h j => by rw [step_B m c t h]) t ((flush0_2 t).mp hf) _, zero_add]
  have key : ∀ (X Y : FVec Ideal S4096x1024 .f32) (i : S1x1.Idx), Cert.LossRefIdeal.Read.val_main_v9 (F := Ideal) X Y i
      = ∑ l : Fin 4096, Ideal.ofBits .f32 0x3F000000#32 * row X Y l := by
    intro X Y i
    pointwise [Cert.LossRefIdeal.Read.val_main_v9, Cert.LossRefIdeal.Read.val_main_v8, Cert.LossRefIdeal.Read.val_main_v7,
      Cert.LossRefIdeal.Read.val_main_v6, Cert.LossRefIdeal.Read.val_main_v5, Cert.LossRefIdeal.Read.val_main_v4,
      Cert.LossRefIdeal.Read.val_main_v1, Cert.LossRefIdeal.Read.val_main_v0, Cert.LossRefIdeal.Read.val_main_cst_0,
      Cert.LossRefIdeal.Read.val_main_cst_1, Cert.LossRefIdeal.Read.val_main_cst_2, Cert.LossRefIdeal.Read.val_main_cst_3]
    exact Cert.Consts.mul_sum_of_nonneg _ _ (fun r => row_nonneg X Y r) _
  rw [key, points_rows (fun p => iblk m c 0 p) (fun p => iblk m c 1 p)]
  have ht : t.val < 16 := lt_of_lt_of_eq t.isLt N_0
  refine Fin.sum_mul_add_congr fun s r hl => ?_
  refine congrArg (Ideal.ofBits .f32 0x3F000000#32 * ·) (row_congr _ _ _ _ _ _ (fun k => ?_) (fun k => ?_))
  · blk_ext [iblk, V, idx ⟨_, Pipeline.run_point_lt_of_flush t ((flush0_2 t).mp hf) s⟩]
  · blk_ext [iblk, V, idx ⟨_, Pipeline.run_point_lt_of_flush t ((flush0_2 t).mp hf) s⟩]

end Cert.LossIdeal.Value

end
-- ==== Proof.Loss.lean ====
/- The claims about the loss call. -/
module

public import proofs.«01_k».proof.Defs
public import proofs.«01_k».proof.Proof.Gen.Loss.Frame
public import proofs.«01_k».proof.Proof.LossValue
public import Idealize.ShloMosaic.Lib.Claim
public import Idealize.ShloMosaic.Lib.Quiescent

@[expose] public section

noncomputable section

namespace Cert.LossProof

open Idealize.ShloMosaic Idealize.SL.Sem

theorem frame : Cert.quiescent_Loss := fun m ρ _ => Cert.Loss.Gen.frame m ρ
theorem frame_ideal : Cert.quiescent_LossIdeal := fun m ρ _ => Cert.LossIdeal.Gen.frame m ρ
theorem frame_ref : Cert.quiescent_LossRefIdeal := fun m ρ _ =>
  (θ_run Cert.LossRefIdeal.defs _ _).mono (fun r h => ⟨fun c => (h c).2.2, sem_eq_zero_of_no_sems (by decide) r.2⟩)
    (Cert.LossRefIdeal.Value.run (F := Ideal) m ρ)

theorem algebraic : Cert.algebraic_LossIdeal_LossRefIdeal := by
  pair_intro
  · run_from Cert.LossIdeal.Gen.run_main m g
  · run_from Cert.LossRefIdeal.Value.run m' g'
    · exact (Cert.LossIdeal.Value.loss m c).symm
    · exact (Cert.LossIdeal.Value.grad m c).symm

theorem claims : (∃ (hLoss : Cert.Loss.Facts) (hLossIdeal : Cert.LossIdeal.Facts) (hLossRefIdeal : Cert.LossRefIdeal.Facts),
    Cert.quiescent_Loss (hLoss := hLoss) ∧ Cert.quiescent_LossIdeal (hLossIdeal := hLossIdeal)
    ∧ Cert.quiescent_LossRefIdeal (hLossRefIdeal := hLossRefIdeal) ∧ Cert.preserves_Loss_LossIdeal
    ∧ Cert.algebraic_LossIdeal_LossRefIdeal (hLossIdeal := hLossIdeal) (hLossRefIdeal := hLossRefIdeal)) :=
  ⟨Cert.Loss.Gen.facts, Cert.LossIdeal.Gen.facts, Cert.LossRefIdeal.Gen.facts, frame, frame_ideal, frame_ref, trivial, algebraic⟩

end Cert.LossProof

end
-- ==== Proof.Reals.lean ====
module

public import proofs.«01_k».proof.Proof.Consts
public import Idealize.ShloMosaic.Lib.ReduceAll

@[expose] public section

noncomputable section

namespace Cert.Reals

open Idealize.ShloMosaic

/-- A finite sum of real values is the real sum. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem div_real (a : ℝ) {b : ℝ} (hb : b ≠ 0) : Ideal.div (a : EReal) (b : EReal) = ((a / b : ℝ) : EReal) := by
  rw [Ideal.div_coe hb, ← EReal.coe_mul, mul_one_div]

theorem log_real {a : ℝ} (ha : 0 < a) : Ideal.log (a : EReal) = ((Real.log a : ℝ) : EReal) := by
  rw [Ideal.log_coe, if_neg (not_le.mpr ha)]

/-- The largest of finitely many values, each real or absent, is real when one of them is. -/
theorem fold_max_real {n : Nat} (f : Fin n → EReal) (hf : ∀ j, f j ≠ ⊤) (i : Fin n) (hi : f i ≠ ⊥) :
    ∃ M : ℝ, Finset.univ.fold max (⊥ : EReal) f = (M : EReal) := by
  have e : Finset.univ.fold max (⊥ : EReal) f = Finset.univ.sup f := rfl
  rw [e]
  obtain ⟨j, -, hj⟩ := Finset.exists_mem_eq_sup Finset.univ ⟨i, Finset.mem_univ i⟩ f
  have hle : f i ≤ f j := hj ▸ Finset.le_sup (Finset.mem_univ i)
  have hb : f j ≠ ⊥ := fun h => hi (le_bot_iff.mp (h ▸ hle))
  exact ⟨(f j).toReal, by rw [hj, EReal.coe_toReal (hf j) hb]⟩

/-- A value whose size is below infinity is real. -/
theorem real_of_abs {x : EReal} (h : FloatOps.cmpf (F := Ideal) (φ := .f32) .olt (FloatOps.absf (F := Ideal) (φ := .f32) x) (FloatOps.ofBits (F := Ideal) .f32 0x7F800000#32) = 1#1) :
    ∃ r : ℝ, x = (r : EReal) := by
  have hi : (FloatOps.ofBits (F := Ideal) .f32 0x7F800000#32 : EReal) = ⊤ := by
    simp [Ideal.ofBits_def, Ideal.ofBits, Ideal.ieee]
  rw [hi] at h
  induction x using EReal.rec with
  | bot => exact absurd h (by simp [Ideal.cmpf_def, Ideal.absf_def, Ideal.cmp])
  | coe r => exact ⟨r, rfl⟩
  | top => exact absurd h (by simp [Ideal.cmpf_def, Ideal.absf_def, Ideal.cmp])

end Cert.Reals

end
-- ==== Proof.NormGrad.lean ====
/- The gradient of a row scaled to unit mean square: the form the kernels compute and the form the reference's gradient has, on real rows. -/
module

public import proofs.«01_k».proof.Proof.Reals

@[expose] public section

noncomputable section

namespace Cert.NormGrad

open Idealize.ShloMosaic

section
variable {n : Nat} (C E H : EReal) (x h : Fin n → EReal)

/-- A row's mean square with the small constant added. -/
def ms : EReal := Ideal.div (∑ k, x k * x k) C + E
/-- The factor that scales a row. -/
def inv : EReal := Ideal.rsqrt (ms C E x)
/-- The gradient as a kernel computes it, from the gradient `h` of the scaled row. -/
def near (j : Fin n) : EReal := inv C E x * (h j - x j * inv C E x * Ideal.div (∑ k, x k * inv C E x * h k) C)
/-- The part of the gradient that goes through the factor. -/
def back : EReal := ∑ _i : Fin 1, Ideal.div ((∑ k, x k * h k) * (H * Ideal.div (inv C E x) (ms C E x))) C
/-- The gradient in three terms. -/
def far (j : Fin n) : EReal := h j * inv C E x + x j * back C E H x h + back C E H x h * x j
end

section
variable {n : Nat} (N e : ℝ) (hN : 0 < N) (he : 0 < e) (x h : Fin n → ℝ)

def msR : ℝ := (∑ k, x k * x k) / N + e
def invR : ℝ := (√(msR N e x))⁻¹
def nearR (j : Fin n) : ℝ := invR N e x * (h j - x j * invR N e x * ((∑ k, x k * invR N e x * h k) / N))

include hN he in
theorem msR_pos : 0 < msR N e x := by
  unfold msR
  have h : 0 ≤ ∑ k, x k * x k := Finset.sum_nonneg fun k _ => mul_self_nonneg _
  positivity
include hN in
theorem ms_real : ms (N : EReal) (e : EReal) (fun k => ((x k : ℝ) : EReal)) = ((msR N e x : ℝ) : EReal) := by
  unfold ms msR
  simp only [← EReal.coe_mul, Cert.Reals.coe_sum, Cert.Reals.div_real _ hN.ne', ← EReal.coe_add]
include hN he in
theorem inv_real : inv (N : EReal) (e : EReal) (fun k => ((x k : ℝ) : EReal)) = ((invR N e x : ℝ) : EReal) := by
  unfold inv invR
  rw [ms_real N e hN, Ideal.rsqrt_coe, if_neg (not_lt.mpr (msR_pos N e hN he x).le), if_neg (msR_pos N e hN he x).ne']
include hN he in
theorem near_real (j : Fin n) : near (N : EReal) (e : EReal) (fun k => ((x k : ℝ) : EReal)) (fun k => ((h k : ℝ) : EReal)) j = ((nearR N e x h j : ℝ) : EReal) := by
  unfold near nearR
  rw [inv_real N e hN he]
  simp only [← EReal.coe_mul, Cert.Reals.coe_sum, Cert.Reals.div_real _ hN.ne', ← EReal.coe_sub]
include hN he in
theorem invR_div : invR N e x / msR N e x = invR N e x * invR N e x * invR N e x := by
  have hp := msR_pos N e hN he x
  have hs : √(msR N e x) * √(msR N e x) = msR N e x := Real.mul_self_sqrt hp.le
  have hq : √(msR N e x) ≠ 0 := (Real.sqrt_pos.mpr hp).ne'
  unfold invR
  rw [mul_assoc, ← mul_inv, hs, div_eq_mul_inv]
include hN he in
theorem far_near (j : Fin n) : far (N : EReal) (e : EReal) (((-1 / 2 : ℝ)) : EReal) (fun k => ((x k : ℝ) : EReal)) (fun k => ((h k : ℝ) : EReal)) j
    = near (N : EReal) (e : EReal) (fun k => ((x k : ℝ) : EReal)) (fun k => ((h k : ℝ) : EReal)) j := by
  rw [near_real N e hN he]
  unfold far back
  rw [inv_real N e hN he, ms_real N e hN]
  simp only [Finset.univ_unique, Finset.sum_singleton, ← EReal.coe_mul, Cert.Reals.coe_sum, Cert.Reals.div_real _ hN.ne',
    Cert.Reals.div_real _ (msR_pos N e hN he x).ne', ← EReal.coe_add]
  congr 1
  rw [invR_div N e hN he]
  unfold nearR
  have hs : ∑ k, x k * invR N e x * h k = invR N e x * ∑ k, x k * h k := by
    rw [Finset.mul_sum]; exact Finset.sum_congr rfl fun k _ => by ring
  rw [hs]
  ring
end

/-- Minus one half. -/
theorem neg_half_f32 : Ideal.ofBits .f32 3204448256#32 = ((-1 / 2 : ℝ) : EReal) := by
  simp [Ideal.ofBits, Ideal.ieee, -EReal.coe_mul]; norm_num
/-- The small constant. -/
theorem eps_f32 : ∃ e : ℝ, 0 < e ∧ Ideal.ofBits .f32 897988541#32 = (e : EReal) := by
  refine ⟨_, ?_, by simp [Ideal.ofBits, Ideal.ieee, -EReal.coe_mul]; rfl⟩
  norm_num

end Cert.NormGrad

end
-- ==== Proof.InProjValue.lean ====
/- The input projection's gradient call: its two result arrays, over the arrays the region finds. -/
module

public import proofs.«01_k».proof.Proof.NormGrad
public import proofs.«01_k».proof.Proof.Gen.InProjIdeal.Frame
public import Idealize.ShloMosaic.Lib.Pipeline.ValueKit
public import Idealize.ShloMosaic.Lib.Pointwise

@[expose] public section

set_option maxRecDepth 16384

noncomputable section

namespace Cert.InProjIdeal.Val

open Idealize.ShloMosaic Idealize.ShloMosaic.TcCoe Idealize.SL.Sem
open Idealize.ShloMosaic.Pipeline (Dat)
open Cert.InProjIdeal Cert.InProjIdeal.Gen Cert.NormGrad

abbrev cN : EReal := Ideal.ofBits .f32 1149239296#32
abbrev cE : EReal := Ideal.ofBits .f32 897988541#32

/-- The gradient of the scaled row, gathered from the three parts of the projection. -/
def hs {n : Nat} (A : (⟨2, ![n, 1536]⟩ : Shape).Idx → EReal) (Wa : S1024x1536.Idx → EReal) (B : (⟨2, ![n, 128]⟩ : Shape).Idx → EReal)
    (Wb : S1024x128.Idx → EReal) (C : (⟨2, ![n, 4096]⟩ : Shape).Idx → EReal) (Wc : S1024x4096.Idx → EReal) (r : Fin n) (k : Fin 1024) : EReal :=
  ∑ x, A (ix2 r x) * Wa (ix2 k x) + ∑ x, B (ix2 r x) * Wb (ix2 k x) + ∑ x, C (ix2 r x) * Wc (ix2 k x)
/-- One entry of the first result. -/
def gx (x h g : Fin 1024 → EReal) (d : EReal) (j : Fin 1024) : EReal := d + near cN cE x (fun k => h k * g k) j
/-- One row's part of the second result. -/
def gg (x h : Fin 1024 → EReal) (j : Fin 1024) : EReal := h j * (x j * inv cN cE x)

theorem pay_dx (x0 x2 : FVec Ideal S256x1024 .f32) (x1 : FVec Ideal S1x1024 .f32) (v3 : Vec Ideal S256x1536 .bf16) (v5 : Vec Ideal S1024x1536 .bf16) (v8 : Vec Ideal S256x128 .bf16)
    (v10 : Vec Ideal S1024x128 .bf16) (v14 : Vec Ideal S256x4096 .bf16) (v16 : Vec Ideal S1024x4096 .bf16) (r : Fin 256) (j : Fin 1024) :
    k0_pay2 (F := Ideal) (k0_pay4 (F := Ideal) v3 v5 v8 v10 v14 v16) (k0_pay5 (F := Ideal) x0) (k0_pay6 (F := Ideal) x0) x1 x2 (ix2 r j)
      = gx (fun k => x0 (ix2 r k)) (fun k => hs v3 v5 v8 v10 v14 v16 r k) (fun k => x1 (ix2 0 k)) (x2 (ix2 r j)) j := by
  pointwise [k0_pay2, k0_pay4, k0_pay5, k0_pay6]
  rfl
theorem pay_dg (v : FVec Ideal S1x1024 .f32) (x0 : FVec Ideal S256x1024 .f32) (v3 : Vec Ideal S256x1536 .bf16) (v5 : Vec Ideal S1024x1536 .bf16) (v8 : Vec Ideal S256x128 .bf16)
    (v10 : Vec Ideal S1024x128 .bf16) (v14 : Vec Ideal S256x4096 .bf16) (v16 : Vec Ideal S1024x4096 .bf16) (i : Fin 1) (j : Fin 1024) :
    k0_pay1 (F := Ideal) (k0_pay7 (F := Ideal) v) (k0_pay8 (F := Ideal) v3 v5 v8 v10 v14 v16 x0) (ix2 i j)
      = v (ix2 i j) + ∑ r : Fin 256, gg (fun k => x0 (ix2 r k)) (fun k => hs v3 v5 v8 v10 v14 v16 r k) j := by
  pointwise [k0_pay1, k0_pay7, k0_pay8, k0_pay4, k0_pay5, k0_pay6]
  rfl
theorem pay_zero (i : Fin 1) (j : Fin 1024) : (k0_pay3 (F := Ideal) : FVec Ideal S1x1024 .f32) (ix2 i j) = 0 := by
  pointwise [k0_pay3]

variable (m : (ℓ : Loc nD τ sig) → Buf (Elt Ideal) ℓ) (c : Dev nD)

abbrev aX : S4096x1024.Idx → EReal := V m c main_arg0
abbrev aG : S1x1024.Idx → EReal := V m c main_v8
abbrev aD : S4096x1024.Idx → EReal := V m c main_arg3
abbrev aA : S4096x1536.Idx → EReal := V m c main_v5
abbrev aB : S4096x128.Idx → EReal := V m c main_v9
abbrev aC : S4096x4096.Idx → EReal := V m c main_v7
abbrev aWa : S1024x1536.Idx → EReal := V m c main_v2
abbrev aWb : S1024x128.Idx → EReal := V m c main_v10
abbrev aWc : S1024x4096.Idx → EReal := V m c main_v4

theorem idx : ∀ t : Fin cfg0.N, win0_0.index t = ![t.val, 0] ∧ win0_1.index t = ![0, 0] ∧ win0_2.index t = ![t.val, 0] ∧ win0_3.index t = ![t.val, 0]
    ∧ win0_4.index t = ![t.val, 0] ∧ win0_5.index t = ![t.val, 0] ∧ win0_6.index t = ![0, 0] ∧ win0_7.index t = ![0, 0] ∧ win0_8.index t = ![0, 0]
    ∧ win0_9.index t = ![t.val, 0] ∧ win0_10.index t = ![0, 0] :=
  (by decide +kernel : ∀ t : Fin grid0.N, _)

theorem lt16 (t : Fin cfg0.N) : t.val < 16 := t.isLt.trans_le (by decide +kernel)
/-- The row a tile's row sits at. -/
abbrev rw' (t : Fin cfg0.N) (s : Fin 256) : Fin 4096 := ⟨t.val * 256 + s.val, by have := lt16 t; omega⟩

theorem blk0 (t : Fin cfg0.N) (r : Fin 256) (k : Fin 1024) : (iblk m c 0 t : S256x1024.Idx → EReal) (ix2 r k) = aX m c (ix2 (rw' t r) k) := by
  blk_ext [iblk, idx t]
theorem blk1 (t : Fin cfg0.N) (k : Fin 1024) : (iblk m c 1 t : S1x1024.Idx → EReal) (ix2 0 k) = aG m c (ix2 0 k) := by
  blk_ext [iblk, idx t]
theorem blk2 (t : Fin cfg0.N) (r : Fin 256) (k : Fin 1024) : (iblk m c 2 t : S256x1024.Idx → EReal) (ix2 r k) = aD m c (ix2 (rw' t r) k) := by
  blk_ext [iblk, idx t]
theorem blk3 (t : Fin cfg0.N) (r : Fin 256) (k : Fin 1536) : (iblk m c 3 t : S256x1536.Idx → EReal) (ix2 r k) = aA m c (ix2 (rw' t r) k) := by
  blk_ext [iblk, idx t]
theorem blk4 (t : Fin cfg0.N) (r : Fin 256) (k : Fin 128) : (iblk m c 4 t : S256x128.Idx → EReal) (ix2 r k) = aB m c (ix2 (rw' t r) k) := by
  blk_ext [iblk, idx t]
theorem blk5 (t : Fin cfg0.N) (r : Fin 256) (k : Fin 4096) : (iblk m c 5 t : S256x4096.Idx → EReal) (ix2 r k) = aC m c (ix2 (rw' t r) k) := by
  blk_ext [iblk, idx t]
theorem blk6 (t : Fin cfg0.N) (r : Fin 1024) (k : Fin 1536) : (iblk m c 6 t : S1024x1536.Idx → EReal) (ix2 r k) = aWa m c (ix2 r k) := by
  blk_ext [iblk, idx t]
theorem blk7 (t : Fin cfg0.N) (r : Fin 1024) (k : Fin 128) : (iblk m c 7 t : S1024x128.Idx → EReal) (ix2 r k) = aWb m c (ix2 r k) := by
  blk_ext [iblk, idx t]
theorem blk8 (t : Fin cfg0.N) (r : Fin 1024) (k : Fin 4096) : (iblk m c 8 t : S1024x4096.Idx → EReal) (ix2 r k) = aWc m c (ix2 r k) := by
  blk_ext [iblk, idx t]

abbrev hA (r : Fin 4096) (k : Fin 1024) : EReal := hs (aA m c) (aWa m c) (aB m c) (aWb m c) (aC m c) (aWc m c) r k

theorem hs_at (t : Fin cfg0.N) (r : Fin 256) (k : Fin 1024) :
    hs (n := 256) (iblk m c 3 t) (iblk m c 6 t) (iblk m c 4 t) (iblk m c 7 t) (iblk m c 5 t) (iblk m c 8 t) r k = hA m c (rw' t r) k := by
  unfold hA hs
  refine congrArg₂ _ (congrArg₂ _ (Finset.sum_congr rfl fun x _ => ?_) (Finset.sum_congr rfl fun x _ => ?_)) (Finset.sum_congr rfl fun x _ => ?_)
  · exact congrArg₂ _ (blk3 m c t r x) (blk6 m c t k x)
  · exact congrArg₂ _ (blk4 m c t r x) (blk7 m c t k x)
  · exact congrArg₂ _ (blk5 m c t r x) (blk8 m c t k x)

/-- The first result over the arrays. -/
def dxf (r : Fin 4096) (j : Fin 1024) : EReal :=
  gx (fun k => aX m c (ix2 r k)) (fun k => hA m c r k) (fun k => aG m c (ix2 0 k)) (aD m c (ix2 r j)) j
/-- One row's part of the second result over the arrays. -/
def dgf (j : Fin 1024) (r : Fin 4096) : EReal := gg (fun k => aX m c (ix2 r k)) (fun k => hA m c r k) j

theorem gx_congr (x x' h h' g g' : Fin 1024 → EReal) (d d' : EReal) (j : Fin 1024) (e : ∀ k, x k = x' k) (e₁ : ∀ k, h k = h' k) (e₂ : ∀ k, g k = g' k) (e₃ : d = d') :
    gx x h g d j = gx x' h' g' d' j := by
  obtain rfl := funext e; obtain rfl := funext e₁; obtain rfl := funext e₂; rw [e₃]
theorem gg_congr (x x' h h' : Fin 1024 → EReal) (j : Fin 1024) (e : ∀ k, x k = x' k) (e₁ : ∀ k, h k = h' k) : gg x h j = gg x' h' j := by
  obtain rfl := funext e; obtain rfl := funext e₁; rfl

theorem outs_dx (t : Fin cfg0.N) (r : Fin 256) (j : Fin 1024) : (outsAt0 m c t.val t.isLt).1 (ix2 r j) = dxf m c (rw' t r) j := by
  have e := (pay_dx (iblk m c 0 t) (iblk m c 2 t) (iblk m c 1 t) (iblk m c 3 t) (iblk m c 6 t) (iblk m c 4 t) (iblk m c 7 t) (iblk m c 5 t) (iblk m c 8 t) r j).trans
    (gx_congr _ _ _ _ _ _ _ _ j (fun k => blk0 m c t r k) (fun k => hs_at m c t r k) (fun k => blk1 m c t k) (blk2 m c t r j))
  by_cases h : t.val % 16 = 0
  · rw [outsAt0_A m c t h]; frame_out
    exact e
  · rw [outsAt0_B m c t h]; frame_out
    exact e

/-- One point's part of the second result. -/
def part (t : Fin cfg0.N) (y : S1x1024.Idx) : EReal := ∑ r : Fin 256, dgf m c (y 1) (rw' t r)

theorem part_eq (t : Fin cfg0.N) (j : Fin 1024) :
    ∑ r : Fin 256, gg (fun k => (iblk m c 0 t : S256x1024.Idx → EReal) (ix2 r k)) (fun k => hs (n := 256) (iblk m c 3 t) (iblk m c 6 t) (iblk m c 4 t) (iblk m c 7 t) (iblk m c 5 t) (iblk m c 8 t) r k) j
      = ∑ r : Fin 256, dgf m c j (rw' t r) :=
  Finset.sum_congr rfl fun r _ => gg_congr _ _ _ _ j (fun k => blk0 m c t r k) (fun k => hs_at m c t r k)

theorem outs_dg_A (t : Fin cfg0.N) (h : t.val % 16 = 0) (y : S1x1024.Idx) : (outsAt0 m c t.val t.isLt).2 y = 0 + part m c t y := by
  rw [outsAt0_A m c t h, ← ix2_eta y]; frame_out
  refine (pay_dg _ (iblk m c 0 t) (iblk m c 3 t) (iblk m c 6 t) (iblk m c 4 t) (iblk m c 7 t) (iblk m c 5 t) (iblk m c 8 t) (y 0) (y 1)).trans ?_
  exact congrArg₂ _ (pay_zero (y 0) (y 1)) (part_eq m c t (y 1))
theorem outs_dg_B (t : Fin cfg0.N) (h : ¬t.val % 16 = 0) (y : S1x1024.Idx) :
    (outsAt0 m c t.val t.isLt).2 y = (outsAt0 m c (t.val - 1) (Nat.lt_of_le_of_lt (Nat.sub_le _ _) t.isLt)).2 y + part m c t y := by
  rw [outsAt0_B m c t h, ← ix2_eta y]; frame_out
  refine (pay_dg _ (iblk m c 0 t) (iblk m c 3 t) (iblk m c 6 t) (iblk m c 4 t) (iblk m c 7 t) (iblk m c 5 t) (iblk m c 8 t) (y 0) (y 1)).trans ?_
  exact congrArg₂ _ rfl (part_eq m c t (y 1))

theorem final_dx : (dats m 0 c).arrAt 9 (cfgs 0).N = fun y : S4096x1024.Idx => dxf m c (y 0) (y 1) := by
  refine (dats m 0 c).arrAt_eq_of_covers 9 _ (by decide +kernel) fun t hf y => ?_
  blk_simp
  rw [after0_9, ← ix2_eta y]
  refine (outs_dx m c t (y 0) (y 1)).trans (congrArg₂ (dxf m c) (Fin.ext ?_) (Fin.ext ?_)) <;> (blk_simp [idx t])

theorem final_dg : (dats m 0 c).arrAt 10 (cfgs 0).N = fun y : S1x1024.Idx => ∑ r : Fin 4096, dgf m c (y 1) r := by
  refine (dats m 0 c).arrAt_eq_of_covers 10 _ (by decide +kernel) fun t hf y => ?_
  blk_simp
  rw [after0_10, Pipeline.eq_sum_fin_of_reset_step_apply_of_flush (fun n h => (outsAt0 m c n h).2) 16 (fun _ => 0) _
    (fun t h y => outs_dg_A m c t h y) (fun t h y => outs_dg_B m c t h y) t ((flush0_10 t).mp hf) y, zero_add]
  have ht := lt16 t
  have hl := (flush0_10 t).mp hf
  refine Fin.sum_mul_add_congr fun s k hl => ?_
  refine congrArg₂ (dgf m c) (Fin.ext ?_) (Fin.ext ?_)
  · blk_simp [idx t]
  · show (16 * (t.val / 16) + s.val) * 256 + k.val = s.val * 256 + k.val
    omega

end Cert.InProjIdeal.Val

end
-- ==== Proof.InProjHost.lean ====
/- The input projection's gradient call: the arrays the host prepares, and the two results after the region. -/
module

public import proofs.«01_k».proof.Proof.InProjValue
public import Idealize.ShloMosaic.Lib.Pipeline.ValueKit
public import Idealize.ShloMosaic.Lib.Pointwise
public import Idealize.ShloMosaic.Lib.KernelVsHost

@[expose] public section

set_option maxRecDepth 16384

noncomputable section

namespace Cert.InProjIdeal.Val

open Idealize.ShloMosaic Idealize.ShloMosaic.TcCoe Idealize.SL.Sem
open Idealize.ShloMosaic.Pipeline (Dat)
open Cert.InProjIdeal Cert.InProjIdeal.Gen Cert.NormGrad

section
variable {α : Type} [AddCommMonoid α]
/-- The columns of the projection are its three parts. -/
theorem sum_parts (f : Fin 5640 → α) : ∑ x, f x
    = ∑ a : Fin 1536, f ⟨a.val, by omega⟩ + ∑ b : Fin 8, f ⟨1536 + b.val, by omega⟩ + ∑ a : Fin 4096, f ⟨1544 + a.val, by omega⟩ :=
  (Fin.sum_univ_add (a := 1536 + 8) (b := 4096) f).trans
    (congrArg (· + _) (Fin.sum_univ_add (a := 1536) (b := 8) fun i => f (Fin.castAdd 4096 i)))
/-- Padding with columns that contribute nothing leaves a sum alone. -/
theorem sum_padded (f : Fin 128 → α) (g : Fin 8 → α) (hi : ∀ b : Fin 8, f ⟨b.val, by omega⟩ = g b) (ho : ∀ b : Fin 120, f ⟨8 + b.val, by omega⟩ = 0) :
    ∑ x, f x = ∑ b, g b := by
  refine (Fin.sum_univ_add (a := 8) (b := 120) f).trans ?_
  have h2 : ∑ i : Fin 120, f (Fin.natAdd 8 i) = 0 := Finset.sum_eq_zero fun b _ => ho b
  rw [h2, add_zero]
  exact Finset.sum_congr rfl fun b _ => hi b
end

abbrev zero16 : FVec Ideal S_ .bf16 := sitofp (F := Ideal) .bf16 (constantI S_ 32 0#32)

variable (m : (ℓ : Loc nD τ sig) → Buf (Elt Ideal) ℓ) (c : Dev nD)

abbrev mx : FVec Ideal S4096x1024 .f32 := m ((c.tc : Thread nD τ).loc main_arg0)
abbrev mg : FVec Ideal S1024 .f32 := m ((c.tc : Thread nD τ).loc main_arg1)
abbrev mw : FVec Ideal S1024x5640 .f32 := m ((c.tc : Thread nD τ).loc main_arg2)
abbrev md : FVec Ideal S4096x1024 .f32 := m ((c.tc : Thread nD τ).loc main_arg3)
abbrev mp : FVec Ideal S4096x5640 .f32 := m ((c.tc : Thread nD τ).loc main_arg4)

theorem v_x : V m c main_arg0 = mx m c := by
  entry_read
  rfl
theorem v_d : V m c main_arg3 = md m c := by
  entry_read
  rfl
theorem v_g : V m c main_v8 = shapeCast S1x1024 (mg m c) shapeCasts_S1024_S1x1024 := by
  entry_read
  rfl
theorem v_wa : V m c main_v2 = extractStridedSlice S1024x1536 ![0, 0] (truncf .bf16 (mw m c) bitsLt_bf16_f32) slices_S1024x5640_S1024x1536_0_0 := by
  entry_read
  rfl
theorem v_wc : V m c main_v4 = extractStridedSlice S1024x4096 ![0, 1544] (truncf .bf16 (mw m c) bitsLt_bf16_f32) slices_S1024x5640_S1024x4096_0_1544 := by
  entry_read
  rfl
theorem v_a : V m c main_v5 = extractStridedSlice S4096x1536 ![0, 0] (truncf .bf16 (mp m c) bitsLt_bf16_f32) slices_S4096x5640_S4096x1536_0_0 := by
  entry_read
  rfl
theorem v_c : V m c main_v7 = extractStridedSlice S4096x4096 ![0, 1544] (truncf .bf16 (mp m c) bitsLt_bf16_f32) slices_S4096x5640_S4096x4096_0_1544 := by
  entry_read
  rfl
theorem v_b : V m c main_v9 = pad S4096x128 ![0, 0] ![0, 120] ![0, 0] (extractStridedSlice S4096x8 ![0, 1536] (truncf .bf16 (mp m c) bitsLt_bf16_f32) slices_S4096x5640_S4096x8_0_1536)
    zero16 pads_S4096x8_S4096x128_000_01200 h_S_ := by
  entry_read
  rfl
theorem v_wb : V m c main_v10 = pad S1024x128 ![0, 0] ![0, 120] ![0, 0] (extractStridedSlice S1024x8 ![0, 1536] (truncf .bf16 (mw m c) bitsLt_bf16_f32) slices_S1024x5640_S1024x8_0_1536)
    zero16 pads_S1024x8_S1024x128_000_01200 h_S_ := by
  entry_read
  rfl

theorem zero16_at (y : S_.Idx) : zero16 y = 0 := by
  show ((((0#32 : BitVec 32).toInt : ℝ)) : EReal) = 0
  simp

section
variable (p : FVec Ideal S4096x5640 .f32) (w : FVec Ideal S1024x5640 .f32)
theorem pad_b_in (r : Fin 4096) (b : Fin 8) : pad S4096x128 ![0, 0] ![0, 120] ![0, 0] (extractStridedSlice S4096x8 ![0, 1536] (truncf .bf16 p bitsLt_bf16_f32) slices_S4096x5640_S4096x8_0_1536)
    zero16 pads_S4096x8_S4096x128_000_01200 h_S_ (ix2 r (⟨b.val, by omega⟩ : Fin 128)) = p (ix2 r ⟨1536 + b.val, by omega⟩) := by
  refine (pad_apply_of_inside _ _ _ _ _ _ _ _ (ix2 r b) ?_).trans ?_
  · intro a; fin_cases a <;> simp
  · pointwise
theorem pad_b_out (r : Fin 4096) (b : Fin 120) : pad S4096x128 ![0, 0] ![0, 120] ![0, 0] (extractStridedSlice S4096x8 ![0, 1536] (truncf .bf16 p bitsLt_bf16_f32) slices_S4096x5640_S4096x8_0_1536)
    zero16 pads_S4096x8_S4096x128_000_01200 h_S_ (ix2 r (⟨8 + b.val, by omega⟩ : Fin 128)) = 0 := by
  refine (pad_apply_of_not_inside _ _ _ _ _ _ _ _ (1 : Fin 2) ?_).trans (zero16_at _)
  simp
theorem pad_wb_in (r : Fin 1024) (b : Fin 8) : pad S1024x128 ![0, 0] ![0, 120] ![0, 0] (extractStridedSlice S1024x8 ![0, 1536] (truncf .bf16 w bitsLt_bf16_f32) slices_S1024x5640_S1024x8_0_1536)
    zero16 pads_S1024x8_S1024x128_000_01200 h_S_ (ix2 r (⟨b.val, by omega⟩ : Fin 128)) = w (ix2 r ⟨1536 + b.val, by omega⟩) := by
  refine (pad_apply_of_inside _ _ _ _ _ _ _ _ (ix2 r b) ?_).trans ?_
  · intro a; fin_cases a <;> simp
  · pointwise
end

theorem a_at (r : Fin 4096) (a : Fin 1536) : aA m c (ix2 r a) = mp m c (ix2 r ⟨a.val, by omega⟩) := by
  unfold aA; rw [v_a]; pointwise
theorem wa_at (k : Fin 1024) (a : Fin 1536) : aWa m c (ix2 k a) = mw m c (ix2 k ⟨a.val, by omega⟩) := by
  unfold aWa; rw [v_wa]; pointwise
theorem c_at (r : Fin 4096) (a : Fin 4096) : aC m c (ix2 r a) = mp m c (ix2 r ⟨1544 + a.val, by omega⟩) := by
  unfold aC; rw [v_c]; pointwise
theorem wc_at (k : Fin 1024) (a : Fin 4096) : aWc m c (ix2 k a) = mw m c (ix2 k ⟨1544 + a.val, by omega⟩) := by
  unfold aWc; rw [v_wc]; pointwise
theorem g_at (k : Fin 1024) : aG m c (ix2 0 k) = mg m c (ix1 k) := by
  unfold aG; rw [v_g]; pointwise
theorem b_in (r : Fin 4096) (b : Fin 8) : aB m c (ix2 r (⟨b.val, by omega⟩ : Fin 128)) = mp m c (ix2 r ⟨1536 + b.val, by omega⟩) := by
  unfold aB; rw [v_b]; exact pad_b_in _ r b
theorem b_out (r : Fin 4096) (b : Fin 120) : aB m c (ix2 r (⟨8 + b.val, by omega⟩ : Fin 128)) = 0 := by
  unfold aB; rw [v_b]; exact pad_b_out _ r b
theorem wb_in (k : Fin 1024) (b : Fin 8) : aWb m c (ix2 k (⟨b.val, by omega⟩ : Fin 128)) = mw m c (ix2 k ⟨1536 + b.val, by omega⟩) := by
  unfold aWb; rw [v_wb]; exact pad_wb_in _ k b

/-- The three parts together are the whole projection. -/
theorem hA_eq (r : Fin 4096) (k : Fin 1024) : hA m c r k = ∑ a : Fin 5640, mp m c (ix2 r a) * mw m c (ix2 k a) := by
  rw [sum_parts]
  unfold hA hs
  refine congrArg₂ _ (congrArg₂ _ (Finset.sum_congr rfl fun a _ => ?_) ?_) (Finset.sum_congr rfl fun a _ => ?_)
  · exact congrArg₂ _ (a_at m c r a) (wa_at m c k a)
  · refine sum_padded _ _ (fun b => congrArg₂ _ (b_in m c r b) (wb_in m c k b)) (fun b => ?_)
    show aB m c _ * _ = 0
    rw [b_out, zero_mul]
  · exact congrArg₂ _ (c_at m c r a) (wc_at m c k a)

theorem dxf_eq (r : Fin 4096) (j : Fin 1024) : dxf m c r j = gx (fun k => mx m c (ix2 r k)) (fun k => ∑ a : Fin 5640, mp m c (ix2 r a) * mw m c (ix2 k a))
    (fun k => mg m c (ix1 k)) (md m c (ix2 r j)) j :=
  gx_congr _ _ _ _ _ _ _ _ j (fun k => congrFun (v_x m c) _) (fun k => hA_eq m c r k) (fun k => g_at m c k) (congrFun (v_d m c) _)
theorem dgf_eq (j : Fin 1024) (r : Fin 4096) : dgf m c j r = gg (fun k => mx m c (ix2 r k)) (fun k => ∑ a : Fin 5640, mp m c (ix2 r a) * mw m c (ix2 k a)) j :=
  gg_congr _ _ _ _ j (fun k => congrFun (v_x m c) _) (fun k => hA_eq m c r k)

abbrev dxA : FVec Ideal S4096x1024 .f32 := (dats m 0 c).arrAt 9 (cfgs 0).N
abbrev dgA : FVec Ideal S1x1024 .f32 := (dats m 0 c).arrAt 10 (cfgs 0).N
abbrev endV : Valuation τ sig (Elt Ideal) := Pipeline.withArrays (cfgs 0).spec c (V0 m c) fun w => (dats m 0 c).arrAt w (cfgs 0).N

theorem end_dx : endV m c (Proc.devRef .tc main_v11_0) = dxA m c := Pipeline.withArrays_arr (cfgs 0).spec (by decide) c _ _ 9
theorem end_dg : endV m c (Proc.devRef .tc main_v11_1) = dgA m c := Pipeline.withArrays_arr (cfgs 0).spec (by decide) c _ _ 10
theorem t_dg (σ : Valuation τ sig (Elt Ideal)) : StableHlo.after hostOps1 σ (Proc.devRef .tc main_v12) = shapeCast S1024 (σ (Proc.devRef .tc main_v11_1)) shapeCasts_S1x1024_S1024 := by
  entry_read
  rfl
theorem t_dx (σ : Valuation τ sig (Elt Ideal)) : StableHlo.after hostOps1 σ (Proc.devRef .tc main_v11_0) = σ (Proc.devRef .tc main_v11_0) := by
  entry_read
  rfl
theorem tail_dx : Pipeline.afterTail₀ cfgs (dats m) 0 (V0 m) [hostOps1] c main_v11_0 = dxA m c := by
  rw [← end_dx]; exact t_dx _
theorem tail_dg : Pipeline.afterTail₀ cfgs (dats m) 0 (V0 m) [hostOps1] c main_v12 = shapeCast S1024 (dgA m c) shapeCasts_S1x1024_S1024 := by
  rw [← end_dg]; exact t_dg _

end Cert.InProjIdeal.Val

end
-- ==== Proof.InProjRef.lean ====
/- The input projection's gradient call: the reference's two results, entry by entry. -/
module

public import proofs.«01_k».proof.Proof.NormGrad
public import proofs.«01_k».proof.Proof.Gen.InProjRefIdeal.Read
public import Idealize.ShloMosaic.Lib.Pointwise

@[expose] public section

set_option maxRecDepth 16384

noncomputable section

namespace Cert.InProjRefIdeal.Val

open Idealize.ShloMosaic Cert.InProjRefIdeal Cert.InProjRefIdeal.Read Cert.NormGrad

/-- The gradient of the scaled row. -/
def hr (w : S1024x5640.Idx → EReal) (p : S4096x5640.Idx → EReal) (r : Fin 4096) (k : Fin 1024) : EReal := ∑ a : Fin 5640, p (ix2 r a) * w (ix2 k a)

section
variable (x : FVec Ideal S4096x1024 .f32) (g : FVec Ideal S1024 .f32) (w : FVec Ideal S1024x5640 .f32) (d : FVec Ideal S4096x1024 .f32) (p : FVec Ideal S4096x5640 .f32)

theorem dx_at (r : Fin 4096) (j : Fin 1024) : val_main_v38 (F := Ideal) x g w d p (ix2 r j)
    = d (ix2 r j) + far (Ideal.ofBits .f32 1149239296#32) (Ideal.ofBits .f32 897988541#32) (Ideal.ofBits .f32 3204448256#32)
        (fun k => x (ix2 r k)) (fun k => hr w p r k * g (ix1 k)) j := by
  unfold far
  rw [← add_assoc, ← add_assoc]
  pointwise [val_main_v38, val_main_v37, val_main_v34, val_main_v33, val_main_cst_7, val_main_v32, val_main_v31, val_main_cst_6, val_main_v30, val_main_v10, val_main_v8, val_main_v6, val_main_v5, val_main_cst_1, val_main_v4, val_main_v3, val_main_cst_0, val_main_v2, val_main_v1, val_main_cst, val_main_v0, val_main_v7, val_main_v9, val_main_cst_2, val_main_v26, val_main_v25, val_main_cst_5, val_main_v24, val_main_v22, val_main_v21, val_main_v13, val_main_v17, val_main_v36, val_main_v35, val_main_v29, val_main_v28, val_main_v27]
  rfl
theorem dg_at (j : Fin 1024) : val_main_v23 (F := Ideal) x w p (ix1 j)
    = ∑ r : Fin 4096, hr w p r j * (x (ix2 r j) * inv (Ideal.ofBits .f32 1149239296#32) (Ideal.ofBits .f32 897988541#32) (fun k => x (ix2 r k))) := by
  pointwise [val_main_v23, val_main_cst_4, val_main_v20, val_main_v19, val_main_cst_3, val_main_v18, val_main_v17, val_main_v12, val_main_v11, val_main_v7, val_main_v6, val_main_v5, val_main_cst_1, val_main_v4, val_main_v3, val_main_cst_0, val_main_v2, val_main_v1, val_main_cst, val_main_v0]
  simp only [Finset.univ_unique, Finset.sum_singleton]
  exact Finset.sum_congr rfl fun r _ => mul_comm _ _
end

end Cert.InProjRefIdeal.Val

end
-- ==== Proof.InProjMain.lean ====
/- The claims about the input projection's gradient call. -/
module

public import proofs.«01_k».proof.Defs
public import proofs.«01_k».proof.Proof.InProjHost
public import proofs.«01_k».proof.Proof.InProjRef
public import proofs.«01_k».proof.Proof.Gen.InProj.Frame
public import proofs.«01_k».proof.Proof.Gen.InProjRefIdeal.Run
public import proofs.«01_k».proof.Proof.Gen.Pre_inproj_finite
public import Idealize.ShloMosaic.Lib.ReduceAll
public import Idealize.ShloMosaic.Lib.Claim
public import Idealize.ShloMosaic.Lib.Quiescent

@[expose] public section

set_option maxRecDepth 16384

noncomputable section

namespace Cert.InProjProof

open Idealize.ShloMosaic Idealize.ShloMosaic.TcCoe Idealize.SL.Sem
open Cert.Reals Cert.NormGrad

instance one_index : Subsingleton Cert.Pre_inproj_finite.S_.Idx := ⟨fun a b => funext fun x => x.elim0⟩

theorem both {a b : BitVec 1} (h : IntOp.andi a b = 1#1) : a = 1#1 ∧ b = 1#1 := by
  revert a b; decide

section
open Cert.Pre_inproj_finite Cert.Pre_inproj_finite.Gen
/-- What the precondition says: every element of every argument is real. -/
theorem real_args (x0 : FVec Ideal S4096x1024 .f32) (x1 : FVec Ideal S1024 .f32) (x2 : FVec Ideal S1024x5640 .f32) (x3 : FVec Ideal S4096x1024 .f32) (x4 : FVec Ideal S4096x5640 .f32)
    (h : fn (F := Ideal) x0 x1 x2 x3 x4 = fun _ => 1#1) :
    (∀ y, ∃ r : ℝ, x0 y = (r : EReal)) ∧ (∀ y, ∃ r : ℝ, x1 y = (r : EReal)) ∧ (∀ y, ∃ r : ℝ, x2 y = (r : EReal))
    ∧ (∀ y, ∃ r : ℝ, x4 y = (r : EReal)) := by
  have e := congrFun h ix0
  unfold fn fn_part1 at e
  dsimp only at e
  obtain ⟨e, e4⟩ := both e
  obtain ⟨e, e2⟩ := both e
  obtain ⟨e0, e1⟩ := both e
  exact ⟨fun y => real_of_abs (Host.reduce_andi_all _ _ _ _ _ e0 y), fun y => real_of_abs (Host.reduce_andi_all _ _ _ _ _ e1 y),
    fun y => real_of_abs (Host.reduce_andi_all _ _ _ _ _ e2 y), fun y => real_of_abs (Host.reduce_andi_all _ _ _ _ _ e4 y)⟩
end

theorem frame : Cert.quiescent_InProj := fun m ρ _ => Cert.InProj.Gen.frame m ρ
theorem frame_ideal : Cert.quiescent_InProjIdeal := fun m ρ _ => Cert.InProjIdeal.Gen.frame m ρ
theorem frame_ideal_finite : Cert.quiescent_InProjIdeal_pre_inproj_finite := fun m ρ _ => Cert.InProjIdeal.Gen.frame m ρ
theorem frame_ref : Cert.quiescent_InProjRefIdeal := fun m ρ _ =>
  (θ_run Cert.InProjRefIdeal.defs _ _).mono (fun r h => ⟨fun c => (h c).2.2, sem_eq_zero_of_no_sems (by decide) r.2⟩)
    (Cert.InProjRefIdeal.Value.run (F := Ideal) m ρ)
theorem frame_ref_finite : Cert.quiescent_InProjRefIdeal_pre_inproj_finite := fun m ρ _ => frame_ref m ρ trivial

theorem c1024 : Ideal.ofBits .f32 1149239296#32 = ((1024 : ℝ) : EReal) := by
  simp [Ideal.ofBits, Ideal.ieee, -EReal.coe_mul]; norm_num

/-- On real rows the two forms of the gradient agree. -/
theorem dx_forms (x h g : Fin 1024 → EReal) (d : EReal) (j : Fin 1024) (hx : ∀ k, ∃ r : ℝ, x k = (r : EReal)) (hh : ∀ k, ∃ r : ℝ, h k = (r : EReal))
    (hg : ∀ k, ∃ r : ℝ, g k = (r : EReal)) :
    d + far (Ideal.ofBits .f32 1149239296#32) (Ideal.ofBits .f32 897988541#32) (Ideal.ofBits .f32 3204448256#32) x (fun k => h k * g k) j
      = Cert.InProjIdeal.Val.gx x h g d j := by
  choose xr ex using hx
  choose hr eh using hh
  choose gr eg using hg
  obtain rfl := funext ex
  obtain rfl := funext eh
  obtain rfl := funext eg
  obtain ⟨e, he, ee⟩ := eps_f32
  unfold Cert.InProjIdeal.Val.gx Cert.InProjIdeal.Val.cN Cert.InProjIdeal.Val.cE
  rw [c1024, neg_half_f32, ee]
  simp only [← EReal.coe_mul]
  rw [far_near 1024 e (by norm_num) he]

open Cert.InProjIdeal Cert.InProjIdeal.Gen Cert.InProjIdeal.Val in
/-- The two results of the kernel are the reference's. -/
theorem values (m : (ℓ : Loc nD τ sig) → Buf (Elt Ideal) ℓ) (c : Dev nD)
    (h : Cert.Pre_inproj_finite.fn (F := Ideal) (mx m c) (mg m c) (mw m c) (md m c) (mp m c) = fun _ => 1#1) :
    Cert.InProjRefIdeal.Read.val_main_v38 (F := Ideal) (mx m c) (mg m c) (mw m c) (md m c) (mp m c) = dxA m c
    ∧ Cert.InProjRefIdeal.Read.val_main_v23 (F := Ideal) (mx m c) (mw m c) (mp m c) = shapeCast S1024 (dgA m c) shapeCasts_S1x1024_S1024 := by
  obtain ⟨hx, hg, hw, hp⟩ := real_args _ _ _ _ _ h
  constructor
  · unfold dxA
    rw [final_dx]
    refine funext fun y => ?_
    rw [← ix2_eta y]
    refine (Cert.InProjRefIdeal.Val.dx_at _ _ _ _ _ (y 0) (y 1)).trans (Eq.trans ?_ (dxf_eq m c (y 0) (y 1)).symm)
    refine dx_forms _ _ _ _ _ (fun k => hx _) (fun k => ?_) (fun k => hg _)
    choose pr ep using hp
    choose wr ew using hw
    refine ⟨∑ a : Fin 5640, pr (ix2 (y 0) a) * wr (ix2 k a), ?_⟩
    unfold Cert.InProjRefIdeal.Val.hr
    rw [← coe_sum]
    refine Finset.sum_congr rfl fun a _ => ?_
    rw [ep, ew, EReal.coe_mul]
  · unfold dgA
    rw [final_dg]
    refine funext fun y => ?_
    rw [← ix1_eta y]
    refine (Cert.InProjRefIdeal.Val.dg_at _ _ _ (y 0)).trans ?_
    pointwise
    exact Finset.sum_congr rfl fun r _ => (dgf_eq m c _ r).symm

open Cert.InProjIdeal Cert.InProjIdeal.Gen Cert.InProjIdeal.Val in
theorem run_results (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v11_0) = dxA m c ∧ r.2.mem ((c.tc : Thread nD τ).loc main_v12) = shapeCast S1024 (dgA m c) shapeCasts_S1x1024_S1024) := by
  run_from Cert.InProjIdeal.Gen.run_main m g
  · exact tail_dg m c

open Cert.InProjIdeal Cert.InProjIdeal.Gen Cert.InProjIdeal.Val in
theorem algebraic : Cert.algebraic_InProjIdeal_InProjRefIdeal_pre_inproj_finite := by
  intro m g m' g' hpre hagree
  refine ⟨fun c => dxA m c, fun c => shapeCast S1024 (dgA m c) shapeCasts_S1x1024_S1024, ?_, ?_⟩
  · refine θ_run_mono (θ_run_and (run_results m g) (Cert.InProjIdeal.Gen.frame m g)) ?_
    intro r h c
    obtain ⟨h1, h2⟩ := h.1 c
    exact ⟨h1, h2, h.2.1 c⟩
  · refine θ_run_mono (Cert.InProjRefIdeal.Value.run (F := Ideal) m' g') ?_
    intro r h c
    obtain ⟨h1, h2, h3⟩ := h c
    obtain ⟨a0, a1, a2, a3, a4⟩ := hagree c
    obtain ⟨r1, r2⟩ := values m c (hpre c)
    refine ⟨h1.trans ?_, h2.trans ?_, h3⟩
    · rw [Cert.InProjRefIdeal.Read.val_main_v38_eq, a0, a1, a2, a3, a4]; exact r1
    · rw [Cert.InProjRefIdeal.Read.val_main_v23_eq, a0, a2, a4]; exact r2

end Cert.InProjProof

end
-- ==== Proof.FfnBody.lean ====
module

public import proofs.«01_k».proof.Proof.Gen.FfnIdeal.Frame.RunB
public import Idealize.ShloMosaic.Lib.Claim

@[expose] public section

set_option maxRecDepth 16384

noncomputable section

namespace Cert.FfnIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FfnIdeal Cert.FfnIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The run of the body at the opening point, on the point's own buffers and blocks. -/
abbrev atA (hO : Ok m) (c : Dev nD) (t : Fin (cfgM m hO).N) (h : t.val % 16 = 0) :=
  kernelRun0_A c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) ((hcond0_0 t).mpr h) (iblk m hO c 0 t) (iblk m hO c 1 t) (iblk m hO c 2 t) (iblk m hO c 3 t) (iblk m hO c 4 t) (iblk m hO c 5 t) (tbl m 0)
/-- The same at a later point, the gain's gradient being at `xo`. -/
abbrev atB (hO : Ok m) (c : Dev nD) (t : Fin (cfgM m hO).N) (h : ¬t.val % 16 = 0) (xo : Vec F S1x1024 .f32) :=
  kernelRun0_B c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (fun e => h ((hcond0_0 t).mp e)) (iblk m hO c 0 t) (iblk m hO c 1 t) (iblk m hO c 2 t) (iblk m hO c 3 t) (iblk m hO c 4 t) (iblk m hO c 5 t) (tbl m 0) xo

/-! Every output is covered by its stores. -/
theorem coverA6 (hO : Ok m) (c : Dev nD) (t : Fin (cfgM m hO).N) (h : t.val % 16 = 0) (y : S256x1024.Idx) : ∃ pc ∈ (atA m hO c t h).1, y ∈ pc.1.set :=
  View.cover_of_tiledL (atA m hO c t h).1 S256x1024.size (by sl_kernel_rfl) y
theorem coverB6 (hO : Ok m) (c : Dev nD) (t : Fin (cfgM m hO).N) (h : ¬t.val % 16 = 0) (xo : Vec F S1x1024 .f32) (y : S256x1024.Idx) : ∃ pc ∈ (atB m hO c t h xo).1, y ∈ pc.1.set :=
  View.cover_of_tiledL (atB m hO c t h xo).1 S256x1024.size (by sl_kernel_rfl) y
theorem coverA7 (hO : Ok m) (c : Dev nD) (t : Fin (cfgM m hO).N) (h : t.val % 16 = 0) (y : S256x5632.Idx) : ∃ pc ∈ (atA m hO c t h).2.1, y ∈ pc.1.set :=
  View.cover_of_tiledL (atA m hO c t h).2.1 S256x2816.size (by sl_kernel_rfl) y
theorem coverB7 (hO : Ok m) (c : Dev nD) (t : Fin (cfgM m hO).N) (h : ¬t.val % 16 = 0) (xo : Vec F S1x1024 .f32) (y : S256x5632.Idx) : ∃ pc ∈ (atB m hO c t h xo).2.1, y ∈ pc.1.set :=
  View.cover_of_tiledL (atB m hO c t h xo).2.1 S256x2816.size (by sl_kernel_rfl) y
theorem coverA8 (hO : Ok m) (c : Dev nD) (t : Fin (cfgM m hO).N) (h : t.val % 16 = 0) (y : S256x2816.Idx) : ∃ pc ∈ (atA m hO c t h).2.2.1, y ∈ pc.1.set :=
  View.cover_of_tiledL (atA m hO c t h).2.2.1 S256x2816.size (by sl_kernel_rfl) y
theorem coverB8 (hO : Ok m) (c : Dev nD) (t : Fin (cfgM m hO).N) (h : ¬t.val % 16 = 0) (xo : Vec F S1x1024 .f32) (y : S256x2816.Idx) : ∃ pc ∈ (atB m hO c t h xo).2.2.1, y ∈ pc.1.set :=
  View.cover_of_tiledL (atB m hO c t h xo).2.2.1 S256x2816.size (by sl_kernel_rfl) y
theorem coverA9 (hO : Ok m) (c : Dev nD) (t : Fin (cfgM m hO).N) (h : t.val % 16 = 0) (y : S256x1024.Idx) : ∃ pc ∈ (atA m hO c t h).2.2.2.1, y ∈ pc.1.set :=
  View.cover_of_tiledL (atA m hO c t h).2.2.2.1 S256x1024.size (by sl_kernel_rfl) y
theorem coverB9 (hO : Ok m) (c : Dev nD) (t : Fin (cfgM m hO).N) (h : ¬t.val % 16 = 0) (xo : Vec F S1x1024 .f32) (y : S256x1024.Idx) : ∃ pc ∈ (atB m hO c t h xo).2.2.2.1, y ∈ pc.1.set :=
  View.cover_of_tiledL (atB m hO c t h xo).2.2.2.1 S256x1024.size (by sl_kernel_rfl) y
theorem coverA10 (hO : Ok m) (c : Dev nD) (t : Fin (cfgM m hO).N) (h : t.val % 16 = 0) (y : S256x1024.Idx) : ∃ pc ∈ (atA m hO c t h).2.2.2.2.1, y ∈ pc.1.set :=
  View.cover_of_tiledL (atA m hO c t h).2.2.2.2.1 S256x1024.size (by sl_kernel_rfl) y
theorem coverB10 (hO : Ok m) (c : Dev nD) (t : Fin (cfgM m hO).N) (h : ¬t.val % 16 = 0) (xo : Vec F S1x1024 .f32) (y : S256x1024.Idx) : ∃ pc ∈ (atB m hO c t h xo).2.2.2.2.1, y ∈ pc.1.set :=
  View.cover_of_tiledL (atB m hO c t h xo).2.2.2.2.1 S256x1024.size (by sl_kernel_rfl) y
theorem coverA11 (hO : Ok m) (c : Dev nD) (t : Fin (cfgM m hO).N) (h : t.val % 16 = 0) (y : S1x1024.Idx) : ∃ pc ∈ (atA m hO c t h).2.2.2.2.2.1, y ∈ pc.1.set :=
  View.cover_of_tiledL (atA m hO c t h).2.2.2.2.2.1 S1x1024.size (by sl_kernel_rfl) y
theorem coverB11 (hO : Ok m) (c : Dev nD) (t : Fin (cfgM m hO).N) (h : ¬t.val % 16 = 0) (xo : Vec F S1x1024 .f32) (y : S1x1024.Idx) : ∃ pc ∈ (atB m hO c t h xo).2.2.2.2.2.1, y ∈ pc.1.set :=
  View.cover_of_tiledL (atB m hO c t h xo).2.2.2.2.2.1 S1x1024.size (by sl_kernel_rfl) y

/-- The six outputs' blocks. -/
abbrev Six (F : FTy → Type) : Type := Vec F S256x1024 .f32 × Vec F S256x5632 .bf16 × Vec F S256x2816 .bf16 × Vec F S256x1024 .bf16 × Vec F S256x1024 .bf16 × Vec F S1x1024 .f32

/-- What the opening point leaves in the six outputs. -/
def outA (hO : Ok m) (c : Dev nD) (t : Fin (cfgM m hO).N) (h : t.val % 16 = 0) : Six F :=
  (VO0_6.read (Elt F) (VO0_6.writes (Elt F) VO0_6.junk (atA m hO c t h).1),
   VO0_7.read (Elt F) (VO0_7.writes (Elt F) VO0_7.junk (atA m hO c t h).2.1),
   VO0_8.read (Elt F) (VO0_8.writes (Elt F) VO0_8.junk (atA m hO c t h).2.2.1),
   VO0_9.read (Elt F) (VO0_9.writes (Elt F) VO0_9.junk (atA m hO c t h).2.2.2.1),
   VO0_10.read (Elt F) (VO0_10.writes (Elt F) VO0_10.junk (atA m hO c t h).2.2.2.2.1),
   VO0_11.read (Elt F) (VO0_11.writes (Elt F) VO0_11.junk (atA m hO c t h).2.2.2.2.2.1))
/-- What a later point leaves there. -/
def outB (hO : Ok m) (c : Dev nD) (t : Fin (cfgM m hO).N) (h : ¬t.val % 16 = 0) (xo : Vec F S1x1024 .f32) : Six F :=
  (VO0_6.read (Elt F) (VO0_6.writes (Elt F) VO0_6.junk (atB m hO c t h xo).1),
   VO0_7.read (Elt F) (VO0_7.writes (Elt F) VO0_7.junk (atB m hO c t h xo).2.1),
   VO0_8.read (Elt F) (VO0_8.writes (Elt F) VO0_8.junk (atB m hO c t h xo).2.2.1),
   VO0_9.read (Elt F) (VO0_9.writes (Elt F) VO0_9.junk (atB m hO c t h xo).2.2.2.1),
   VO0_10.read (Elt F) (VO0_10.writes (Elt F) VO0_10.junk (atB m hO c t h xo).2.2.2.2.1),
   VO0_11.read (Elt F) (VO0_11.writes (Elt F) VO0_11.junk (atB m hO c t h xo).2.2.2.2.2.1))

/-- The outputs' blocks after each point, the gain's gradient carried from the point before. -/
def outs (hO : Ok m) (c : Dev nD) : (n : ℕ) → n < (cfgM m hO).N → Six F
  | 0, hn => outA m hO c ⟨0, hn⟩ (Nat.zero_mod _)
  | n + 1, hn => if h : (n + 1) % 16 = 0 then outA m hO c ⟨n + 1, hn⟩ h
      else outB m hO c ⟨n + 1, hn⟩ h (outs hO c n (Nat.lt_of_succ_lt hn)).2.2.2.2.2

theorem outs_A (hO : Ok m) (c : Dev nD) (t : Fin (cfgM m hO).N) (h : t.val % 16 = 0) : outs m hO c t.val t.isLt = outA m hO c t h := by
  obtain ⟨n, hn⟩ := t
  cases n with
  | zero => exact rfl
  | succ n => exact (dif_pos h).trans rfl
theorem outs_B (hO : Ok m) (c : Dev nD) (t : Fin (cfgM m hO).N) (h : ¬t.val % 16 = 0) :
    outs m hO c t.val t.isLt = outB m hO c t h (outs m hO c (t.val - 1) (Nat.lt_of_le_of_lt (Nat.sub_le _ _) t.isLt)).2.2.2.2.2 := by
  obtain ⟨n, hn⟩ := t
  cases n with
  | zero => exact absurd (Nat.zero_mod _) h
  | succ n => exact (dif_neg h).trans rfl

/-- What the pipeline is proved over: the arrays as the host lines leave them, inputs kept, outputs at `outs`. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => (outs m hO c t.val t.isLt).1
    | ⟨7, _⟩ => (outs m hO c t.val t.isLt).2.1
    | ⟨8, _⟩ => (outs m hO c t.val t.isLt).2.2.1
    | ⟨9, _⟩ => (outs m hO c t.val t.isLt).2.2.2.1
    | ⟨10, _⟩ => (outs m hO c t.val t.isLt).2.2.2.2.1
    | ⟨11, _⟩ => (outs m hO c t.val t.isLt).2.2.2.2.2
  Φ _ := iprop(Pipeline.ΦA spec0 c ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by dsimp only [dats]

theorem after0 (hO : Ok m) (c : Dev nD) (t : Fin (cfgM m hO).N) : (dats m hO 0 c).after 0 t = iblk m hO c 0 t := by dsimp only [dats]; try rfl
theorem after1 (hO : Ok m) (c : Dev nD) (t : Fin (cfgM m hO).N) : (dats m hO 0 c).after 1 t = iblk m hO c 1 t := by dsimp only [dats]; try rfl
theorem after2 (hO : Ok m) (c : Dev nD) (t : Fin (cfgM m hO).N) : (dats m hO 0 c).after 2 t = iblk m hO c 2 t := by dsimp only [dats]; try rfl
theorem after3 (hO : Ok m) (c : Dev nD) (t : Fin (cfgM m hO).N) : (dats m hO 0 c).after 3 t = iblk m hO c 3 t := by dsimp only [dats]; try rfl
theorem after4 (hO : Ok m) (c : Dev nD) (t : Fin (cfgM m hO).N) : (dats m hO 0 c).after 4 t = iblk m hO c 4 t := by dsimp only [dats]; try rfl
theorem after5 (hO : Ok m) (c : Dev nD) (t : Fin (cfgM m hO).N) : (dats m hO 0 c).after 5 t = iblk m hO c 5 t := by dsimp only [dats]; try rfl
theorem after6 (hO : Ok m) (c : Dev nD) (t : Fin (cfgM m hO).N) : (dats m hO 0 c).after 6 t = (outs m hO c t.val t.isLt).1 := by dsimp only [dats]; try rfl
theorem after7 (hO : Ok m) (c : Dev nD) (t : Fin (cfgM m hO).N) : (dats m hO 0 c).after 7 t = (outs m hO c t.val t.isLt).2.1 := by dsimp only [dats]; try rfl
theorem after8 (hO : Ok m) (c : Dev nD) (t : Fin (cfgM m hO).N) : (dats m hO 0 c).after 8 t = (outs m hO c t.val t.isLt).2.2.1 := by dsimp only [dats]; try rfl
theorem after9 (hO : Ok m) (c : Dev nD) (t : Fin (cfgM m hO).N) : (dats m hO 0 c).after 9 t = (outs m hO c t.val t.isLt).2.2.2.1 := by dsimp only [dats]; try rfl
theorem after10 (hO : Ok m) (c : Dev nD) (t : Fin (cfgM m hO).N) : (dats m hO 0 c).after 10 t = (outs m hO c t.val t.isLt).2.2.2.2.1 := by dsimp only [dats]; try rfl
theorem after11 (hO : Ok m) (c : Dev nD) (t : Fin (cfgM m hO).N) : (dats m hO 0 c).after 11 t = (outs m hO c t.val t.isLt).2.2.2.2.2 := by dsimp only [dats]; try rfl
theorem before0 (hO : Ok m) (c : Dev nD) (t : Fin (cfgM m hO).N) (d) : (dats m hO 0 c).before 0 t d = iblk m hO c 0 t :=
  before0_0_of m hO (dats m hO 0 c) (A_eq m hO c 0) (after0 m hO c) t d
theorem before1 (hO : Ok m) (c : Dev nD) (t : Fin (cfgM m hO).N) (d) : (dats m hO 0 c).before 1 t d = iblk m hO c 1 t :=
  before0_1_of m hO (dats m hO 0 c) (A_eq m hO c 1) (after1 m hO c) t d
theorem before2 (hO : Ok m) (c : Dev nD) (t : Fin (cfgM m hO).N) (d) : (dats m hO 0 c).before 2 t d = iblk m hO c 2 t :=
  before0_2_of m hO (dats m hO 0 c) (A_eq m hO c 2) (after2 m hO c) t d
theorem before3 (hO : Ok m) (c : Dev nD) (t : Fin (cfgM m hO).N) (d) : (dats m hO 0 c).before 3 t d = iblk m hO c 3 t :=
  before0_3_of m hO (dats m hO 0 c) (A_eq m hO c 3) (after3 m hO c) t d
theorem before4 (hO : Ok m) (c : Dev nD) (t : Fin (cfgM m hO).N) (d) : (dats m hO 0 c).before 4 t d = iblk m hO c 4 t :=
  before0_4_of m hO (dats m hO 0 c) (A_eq m hO c 4) (after4 m hO c) t d
theorem before5 (hO : Ok m) (c : Dev nD) (t : Fin (cfgM m hO).N) (d) : (dats m hO 0 c).before 5 t d = iblk m hO c 5 t :=
  before0_5_of m hO (dats m hO 0 c) (A_eq m hO c 5) (after5 m hO c) t d
/-- At a later point the gain gradient's buffer holds what the point before left. -/
theorem before11 (hO : Ok m) (c : Dev nD) (t : Fin (cfgM m hO).N) (h : ¬t.val % 16 = 0) (d) :
    (dats m hO 0 c).before 11 t d = (outs m hO c (t.val - 1) (Nat.lt_of_le_of_lt (Nat.sub_le _ _) t.isLt)).2.2.2.2.2 := by
  have hN : t.val < 16 := lt_of_lt_of_eq t.isLt (show (cfgM m hO).N = 16 from N_0)
  rw [Dat.before_out_kept _ 11 rfl t (by omega) (Bool.eq_false_iff.mpr fun e => by have := (flush0_11 (adm m hO) _).mp e; dsimp only at this; omega)
    (fun _ => rfl) (fun _ _ => rfl)]
  dsimp only [dats]; try rfl

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d))
    ∗ (∃ d, owns (c : Thread nD τ) (ms0_9 m hO t) fullShare ((dats m hO 0 c).before 9 t d))
    ∗ (∃ d, owns (c : Thread nD τ) (ms0_10 m hO t) fullShare ((dats m hO 0 c).before 10 t d))
    ∗ (∃ d, owns (c : Thread nD τ) (ms0_11 m hO t) fullShare ((dats m hO 0 c).before 11 t d)))
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ owns (c : Thread nD τ) (ms0_7 m hO t) fullShare ((dats m hO 0 c).after 7 t)
    ∗ owns (c : Thread nD τ) (ms0_8 m hO t) fullShare ((dats m hO 0 c).after 8 t)
    ∗ owns (c : Thread nD τ) (ms0_9 m hO t) fullShare ((dats m hO 0 c).after 9 t)
    ∗ owns (c : Thread nD τ) (ms0_10 m hO t) fullShare ((dats m hO 0 c).after 10 t)
    ∗ owns (c : Thread nD τ) (ms0_11 m hO t) fullShare ((dats m hO 0 c).after 11 t))

set_option maxHeartbeats 2400000 in
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0, before1, before2, before3, before4, before5]
  rw [show (dats m hO 0 c).Φ t.succ = (dats m hO 0 c).Φ t.castSucc from rfl,
    show (dats m hO 0 c).owesAt () t.succ = (dats m hO 0 c).owesAt () t.castSucc from rfl,
    after0, after1, after2, after3, after4, after5, after6, after7, after8, after9, after10, after11]
  rw [show (dats m hO 0 c).Φ t.castSucc = iprop(Pipeline.ΦA spec0 c ∗ Pipeline.ΦT pre0 (tbl m) c) from rfl, PhiT0_eq]
  by_cases h : t.val % 16 = 0
  · rw [outs_A m hO c t h]
    unfold outA; (try dsimp only)
    iintro ⟨⟨HΦ, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((atA m hO c t h).2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [HT0]; · iexact HT0
    iintro ⟨H0, H1, H2, H3, H4, H5, ⟨%e6, H6⟩, ⟨%e7, H7⟩, ⟨%e8, H8⟩, ⟨%e9, H9⟩, ⟨%e10, H10⟩, ⟨%e11, H11⟩, HT0⟩
    isplitl [HΦ HT0]
    · isplitl [HΦ]
      · iexact HΦ
      iexact HT0
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (coverA6 m hO c t h)
    isplitl [H7]
    · unfold owns; iexists _; isplitr
      swap; · iexact H7
      ipureintro; exact View.read_writes_of_cover _ _ _ _ _ (coverA7 m hO c t h)
    isplitl [H8]
    · unfold owns; iexists _; isplitr
      swap; · iexact H8
      ipureintro; exact View.read_writes_of_cover _ _ _ _ _ (coverA8 m hO c t h)
    isplitl [H9]
    · unfold owns; iexists _; isplitr
      swap; · iexact H9
      ipureintro; exact View.read_writes_of_cover _ _ _ _ _ (coverA9 m hO c t h)
    isplitl [H10]
    · unfold owns; iexists _; isplitr
      swap; · iexact H10
      ipureintro; exact View.read_writes_of_cover _ _ _ _ _ (coverA10 m hO c t h)
    unfold owns; iexists _; isplitr
    swap; · iexact H11
    ipureintro; exact View.read_writes_of_cover _ _ _ _ _ (coverA11 m hO c t h)
  · rw [outs_B m hO c t h]
    simp only [before11 m hO c t h]
    generalize (outs m hO c (t.val - 1) (Nat.lt_of_le_of_lt (Nat.sub_le _ _) t.isLt)).2.2.2.2.2 = xo
    unfold outB; (try dsimp only)
    iintro ⟨⟨HΦ, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((atB m hO c t h xo).2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexact H11
    isplitl [HT0]; · iexact HT0
    iintro ⟨H0, H1, H2, H3, H4, H5, ⟨%e6, H6⟩, ⟨%e7, H7⟩, ⟨%e8, H8⟩, ⟨%e9, H9⟩, ⟨%e10, H10⟩, ⟨%e11, H11⟩, HT0⟩
    isplitl [HΦ HT0]
    · isplitl [HΦ]
      · iexact HΦ
      iexact HT0
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (coverB6 m hO c t h xo)
    isplitl [H7]
    · unfold owns; iexists _; isplitr
      swap; · iexact H7
      ipureintro; exact View.read_writes_of_cover _ _ _ _ _ (coverB7 m hO c t h xo)
    isplitl [H8]
    · unfold owns; iexists _; isplitr
      swap; · iexact H8
      ipureintro; exact View.read_writes_of_cover _ _ _ _ _ (coverB8 m hO c t h xo)
    isplitl [H9]
    · unfold owns; iexists _; isplitr
      swap; · iexact H9
      ipureintro; exact View.read_writes_of_cover _ _ _ _ _ (coverB9 m hO c t h xo)
    isplitl [H10]
    · unfold owns; iexists _; isplitr
      swap; · iexact H10
      ipureintro; exact View.read_writes_of_cover _ _ _ _ _ (coverB10 m hO c t h xo)
    unfold owns; iexists _; isplitr
    swap; · iexact H11
    ipureintro; exact View.read_writes_of_cover _ _ _ _ _ (coverB11 m hO c t h xo)

theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

set_option backward.isDefEq.respectTransparency.types false in
set_option maxHeartbeats 800000 in
/-- Every execution ends, with the arrays at what the data compute, the host lines after them run, and all counters at zero. -/
theorem run_quiescent (hO : Ok m) : θ_run defs (onTc (τ := τ) (main (F := F))) (s₀ m ρ)
    (fun r => Pipeline.FramePost (Pipeline.pin pcfgs fun _ => adm m hO) (dats m hO) 0 (Pipeline.afterTail pcfgs (fun _ => adm m hO) (dats m hO) 0 (V0 m) [hostOps1]) r ∧ r.2.sem = fun _ => 0) :=
  Pipeline.θ_run_frameP_around (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V₀ := V0 m) (opss := [hostOps1]) (hsub := sfx_sub) (hfresh := sfx_fresh) (hkeep := sfx_keeps)
    (hmain := hmain m Variants.none) (hA := A_eq m hO) (hpf := V_pre m) (hΦ := fun _ _ => rfl)

theorem run_main (hO : Ok m) : θ_run defs (onTc (τ := τ) (main (F := F))) (s₀ m ρ)
    (Pipeline.FramePost (Pipeline.pin pcfgs fun _ => adm m hO) (dats m hO) 0 (Pipeline.afterTail pcfgs (fun _ => adm m hO) (dats m hO) 0 (V0 m) [hostOps1])) :=
  (θ_run defs _ _).mono (fun _ h => h.1) (run_quiescent m ρ hO)

/-- The arguments end unchanged and every counter at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4))
      ∧ r.2.sem = fun _ => 0) :=
  θ_run_and (frame_of m ρ hO (dats m hO) (A_eq m hO) (run_main m ρ hO)) ((θ_run defs _ _).mono (fun _ h => h.2) (run_quiescent m ρ hO))

end Cert.FfnIdeal.Body

end
-- ==== Proof.FfnHost.lean ====
/- The feed-forward gradient call: the layer table, and the arrays the host prepares. -/
module

public import proofs.«01_k».proof.Proof.FfnBody
public import proofs.«01_k».proof.Proof.NormGrad
public import Idealize.ShloMosaic.Lib.Pipeline.ValueKit
public import Idealize.ShloMosaic.Lib.Pointwise
public import Idealize.ShloMosaic.Lib.KernelVsHost

@[expose] public section

set_option maxRecDepth 16384

noncomputable section

namespace Cert.FfnIdeal.Val

open Idealize.ShloMosaic Idealize.ShloMosaic.TcCoe Idealize.SL.Sem
open Idealize.ShloMosaic.Pipeline (Dat)
open Cert.FfnIdeal Cert.FfnIdeal.Gen Cert.FfnIdeal.Body Cert.NormGrad

section
variable {F : FTy → Type} [FloatOps F] (m : (ℓ : Loc nD τ sig) → Buf (Elt F) ℓ)

theorem v_t (c : Dev nD) : V m c main_v22 = broadcastInDim S1 ![] bcast_S_S1 (constantI S_ 32 0#32) := by
  entry_read
  rfl
/-- The layer table holds layer zero. -/
theorem tbl_zero : tbl m 0 = fun _ => (0#32 : BitVec 32) := (v_t m 0).trans rfl

theorem tr4 (pf : pre0.Contents (Elt F)) (h : pf 0 = fun _ => (0#32 : BitVec 32)) (i : grid0.Coords) : cc0_transform_4 inb_S1_S1_0 numel1_S1 pf i = ![0, 0, 0, 0] := by
  have e : pf.at 0 (Rect.unit (s := S1) ![0] S1.size inb_S1_S1_0) numel1_S1 = 0#32 := congrFun h _
  unfold cc0_transform_4
  rw [e]; rfl
theorem tr5 (pf : pre0.Contents (Elt F)) (h : pf 0 = fun _ => (0#32 : BitVec 32)) (i : grid0.Coords) : cc0_transform_5 inb_S1_S1_0 numel1_S1 pf i = ![0, 0, 0] := by
  have e : pf.at 0 (Rect.unit (s := S1) ![0] S1.size inb_S1_S1_0) numel1_S1 = 0#32 := congrFun h _
  unfold cc0_transform_5
  rw [e]; rfl

/-- Layer zero is in range, so the table is admissible. -/
theorem ok : Ok m := by
  refine ⟨fun i => ?_, fun i => ?_⟩
  · rw [tr4 (tbl m) (tbl_zero m) i]
    exact ⟨by decide, .inr (Affine.block_words_dvd (of_decide_eq_true rfl) (by decide))⟩
  · rw [tr5 (tbl m) (tbl_zero m) i]
    exact ⟨by decide, .inr (Affine.block_words_dvd (of_decide_eq_true rfl) (by decide))⟩
end

section
variable (m : (ℓ : Loc nD τ sig) → Buf (Elt Ideal) ℓ) (c : Dev nD)

abbrev mx : FVec Ideal S4096x1024 .f32 := m ((c.tc : Thread nD τ).loc main_arg0)
abbrev mg : FVec Ideal S1024 .f32 := m ((c.tc : Thread nD τ).loc main_arg1)
abbrev mw : FVec Ideal S1024x5632 .f32 := m ((c.tc : Thread nD τ).loc main_arg2)
abbrev mo : FVec Ideal S2816x1024 .f32 := m ((c.tc : Thread nD τ).loc main_arg3)
abbrev md : FVec Ideal S4096x1024 .f32 := m ((c.tc : Thread nD τ).loc main_arg4)

theorem v_x : V m c main_arg0 = mx m c := by
  entry_read
  rfl
theorem v_d : V m c main_arg4 = md m c := by
  entry_read
  rfl
theorem v_g : V m c main_v18 = shapeCast S1x1024 (mg m c) shapeCasts_S1024_S1x1024 := by
  entry_read
  rfl
theorem v_w : V m c main_v19 = broadcastInDim S1x4x1024x1408 ![1, 2, 3] bcast_S4x1024x1408_S1x4x1024x1408_1_2_3
    (transpose S4x1024x1408 [1, 0, 2] (shapeCast S1024x4x1408 (truncf (F := Ideal) .bf16 (mw m c) bitsLt_bf16_f32) shapeCasts_S1024x5632_S1024x4x1408) transposes_S1024x4x1408_S4x1024x1408_1_0_2) := by
  entry_read
  rfl
theorem v_o : V m c main_v21 = broadcastInDim S1x2816x1024 ![1, 2] bcast_S2816x1024_S1x2816x1024_1_2 (truncf (F := Ideal) .bf16 (mo m c) bitsLt_bf16_f32) := by
  entry_read
  rfl
/-- The scaled rows times the first weight, as the host computes it. -/
def uHost (x : FVec Ideal S4096x1024 .f32) (g : FVec Ideal S1024 .f32) (w : FVec Ideal S1024x5632 .f32) : FVec Ideal S4096x5632 .bf16 :=
  truncf .bf16 (Host.dotGeneral dot_S4096x1024_S1024x5632_S4096x5632_1_0_0_1_n_n none
    (mulf (mulf x (broadcastInDim S4096x1024 ![0, 1] bcast_S4096x1_S4096x1024_0_1 (Host.rsqrt (addf (Host.divf (broadcastInDim S4096x1 ![0] bcast_S4096_S4096x1_0
      (Host.reduceAdd (mulf x x) (constant S_ .f32 0x00000000#32) reducesTo_S4096x1024_S4096_d1 h_S_)) (broadcastInDim S4096x1 ![] bcast_S_S4096x1 (constant S_ .f32 0x44800000#32)))
      (broadcastInDim S4096x1 ![] bcast_S_S4096x1 (constant S_ .f32 0x358637BD#32))))))
      (broadcastInDim S4096x1024 ![0, 1] bcast_S1x1024_S4096x1024_0_1 (broadcastInDim S1x1024 ![1] bcast_S1024_S1x1024_1 g))) w) bitsLt_bf16_f32
theorem v_u : V m c main_v17 = uHost (mx m c) (mg m c) (mw m c) := by
  entry_read
  rfl

theorem uHost_at (x : FVec Ideal S4096x1024 .f32) (g : FVec Ideal S1024 .f32) (w : FVec Ideal S1024x5632 .f32) (r : Fin 4096) (f : Fin 5632) :
    uHost x g w (ix2 r f) = ∑ k : Fin 1024, x (ix2 r k) * inv (Ideal.ofBits .f32 1149239296#32) (Ideal.ofBits .f32 897988541#32) (fun k => x (ix2 r k)) * g (ix1 k) * w (ix2 k f) := by
  pointwise [uHost]
  rfl

theorem w_at (s : Fin 4) (k : Fin 1024) (f : Fin 1408) (w : FVec Ideal S1024x5632 .f32) : (broadcastInDim S1x4x1024x1408 ![1, 2, 3] bcast_S4x1024x1408_S1x4x1024x1408_1_2_3
    (transpose S4x1024x1408 [1, 0, 2] (shapeCast S1024x4x1408 (truncf (F := Ideal) .bf16 w bitsLt_bf16_f32) shapeCasts_S1024x5632_S1024x4x1408) transposes_S1024x4x1408_S4x1024x1408_1_0_2) : S1x4x1024x1408.Idx → EReal) (ix4 0 s k f)
      = w (ix2 k ⟨s.val * 1408 + f.val, by omega⟩) := by
  pointwise
theorem o_at (w : FVec Ideal S2816x1024 .f32) (f : Fin 2816) (k : Fin 1024) : (broadcastInDim S1x2816x1024 ![1, 2] bcast_S2816x1024_S1x2816x1024_1_2 (truncf (F := Ideal) .bf16 w bitsLt_bf16_f32) : S1x2816x1024.Idx → EReal) (ix3 0 f k) = w (ix2 f k) := by
  pointwise
end

end Cert.FfnIdeal.Val

end
-- ==== Proof.SiluGrad.lean ====
/- The gated activation and its gradient, row by row: the logistic function written with a hyperbolic tangent and with an exponential. -/
module

public import proofs.«01_k».proof.Proof.NormGrad
public import proofs.«01_k».proof.Proof.Reals

@[expose] public section

noncomputable section

namespace Cert.SiluGrad
open Idealize.ShloMosaic

def cH : EReal := Ideal.ofBits .f32 0x3F000000#32
def cO : EReal := 1

theorem half : cH = ((1 / 2 : ℝ) : EReal) := by simp [cH, Ideal.ofBits, Ideal.ieee, -EReal.coe_mul]; norm_num
theorem one : cO = ((1 : ℝ) : EReal) := by simp [cO]

/-- The logistic function by way of the hyperbolic tangent of half the argument. -/
def sgK (a : EReal) : EReal := cH * Ideal.tanh (cH * a) + cH
/-- The logistic function by way of the exponential. -/
def sgR (a : EReal) : EReal := Ideal.div cO (cO + Ideal.exp (-a))

theorem sgR_real (a : ℝ) : sgR a = ((1 / (1 + Real.exp (-a)) : ℝ) : EReal) := by
  have h : (1 + Real.exp (-a) : ℝ) ≠ 0 := by positivity
  rw [sgR, one, ← EReal.coe_neg, Ideal.exp_coe, ← EReal.coe_add, Cert.Reals.div_real _ h]

theorem sgK_real (a : ℝ) : sgK a = ((1 / (1 + Real.exp (-a)) : ℝ) : EReal) := by
  rw [sgK, half, ← EReal.coe_mul, Ideal.tanh_coe, ← EReal.coe_mul, ← EReal.coe_add]
  congr 1
  rw [Real.tanh_eq_sinh_div_cosh, Real.sinh_eq, Real.cosh_eq]
  have e : Real.exp (-a) = Real.exp (-(1 / 2 * a)) * Real.exp (-(1 / 2 * a)) := by rw [← Real.exp_add]; congr 1; ring
  have p : Real.exp (1 / 2 * a) * Real.exp (-(1 / 2 * a)) = 1 := by rw [← Real.exp_add]; simp
  have hp := Real.exp_pos (1 / 2 * a)
  have hq := Real.exp_pos (-(1 / 2 * a))
  rw [e]
  generalize Real.exp (1 / 2 * a) = s at *
  generalize Real.exp (-(1 / 2 * a)) = t at *
  have h1 : s + t ≠ 0 := by positivity
  have h2 : 1 + t * t ≠ 0 := by positivity
  field_simp
  nlinarith [p]

/-- The gradient at the gate, as the kernel and as the derivative has it. -/
def gK (d a b : EReal) : EReal := (d * b) * (sgK a * (cO + a * (cO - sgK a)))
def gR (d a b : EReal) : EReal := (d * b) * sgR a + (a * (d * b)) * (sgR a * (cO - sgR a))
/-- The gradient at the gated value. -/
def uK (d a : EReal) : EReal := d * (a * sgK a)
def uR (d a : EReal) : EReal := (a * sgR a) * d
/-- The activation itself. -/
def tK (a b : EReal) : EReal := a * sgK a * b
def tR (a b : EReal) : EReal := a * sgR a * b

theorem g_eq (d a b : ℝ) : gK d a b = gR d a b := by
  unfold gK gR
  rw [sgK_real, sgR_real, one]
  norm_cast
  ring

theorem g_real (d a b : ℝ) : ∃ r : ℝ, gK d a b = (r : EReal) := by
  unfold gK
  rw [sgK_real, one]
  exact ⟨_, by norm_cast⟩

theorem u_eq (d a : ℝ) : uK d a = uR d a := by
  unfold uK uR
  rw [sgK_real, sgR_real, mul_comm]

theorem u_real (d a : ℝ) : ∃ r : ℝ, uK d a = (r : EReal) := by
  unfold uK
  rw [sgK_real]
  exact ⟨_, by norm_cast⟩

theorem t_eq (a b : ℝ) : tK a b = tR a b := by
  unfold tK tR
  rw [sgK_real, sgR_real]

/-- A row of gradients: the gate's half first, the gated value's half after it. -/
def rowK (e : Fin 2816 → EReal) (u : Fin 5632 → EReal) (f : Fin 5632) : EReal :=
  if h : f.val < 2816 then gK (e ⟨f.val, h⟩) (u ⟨f.val, by omega⟩) (u ⟨2816 + f.val, by omega⟩)
  else uK (e ⟨f.val - 2816, by omega⟩) (u ⟨f.val - 2816, by omega⟩)
def rowR (e : Fin 2816 → EReal) (u : Fin 5632 → EReal) (f : Fin 5632) : EReal :=
  if h : f.val < 2816 then gR (e ⟨f.val, h⟩) (u ⟨f.val, by omega⟩) (u ⟨2816 + f.val, by omega⟩)
  else uR (e ⟨f.val - 2816, by omega⟩) (u ⟨f.val - 2816, by omega⟩)

theorem row_eq (e : Fin 2816 → ℝ) (u : Fin 5632 → ℝ) (f : Fin 5632) :
    rowK (fun k => (e k : EReal)) (fun k => (u k : EReal)) f = rowR (fun k => (e k : EReal)) (fun k => (u k : EReal)) f := by
  unfold rowK rowR
  split
  · exact g_eq _ _ _
  · exact u_eq _ _

theorem row_real (e : Fin 2816 → ℝ) (u : Fin 5632 → ℝ) (f : Fin 5632) :
    ∃ r : ℝ, rowK (fun k => (e k : EReal)) (fun k => (u k : EReal)) f = (r : EReal) := by
  unfold rowK
  split
  · exact g_real _ _ _
  · exact u_real _ _

/-- A sum over all columns, in four equal parts. -/
theorem quarters (f : Fin 5632 → EReal) :
    (∑ k : Fin 1408, f ⟨k.val, by omega⟩) + (∑ k : Fin 1408, f ⟨1408 + k.val, by omega⟩)
      + (∑ k : Fin 1408, f ⟨2816 + k.val, by omega⟩) + (∑ k : Fin 1408, f ⟨4224 + k.val, by omega⟩) = ∑ k, f k := by
  have h3 := Fin.sum_univ_add (a := 4224) (b := 1408) f
  have h2 := Fin.sum_univ_add (a := 2816) (b := 1408) fun k => f (Fin.castAdd 1408 k)
  have h1 := Fin.sum_univ_add (a := 1408) (b := 1408) fun k => f (Fin.castAdd 1408 (Fin.castAdd 1408 k))
  exact ((congrArg₂ _ (congrArg₂ _ h1 rfl) rfl).symm.trans ((congrArg₂ _ h2 rfl).symm.trans h3.symm))

end Cert.SiluGrad
-- ==== Proof.FfnPay.lean ====
/- The feed-forward gradient call: what one point of its grid computes, from the arrays it loads. -/
module

public import proofs.«01_k».proof.Proof.FfnHost
public import proofs.«01_k».proof.Proof.SiluGrad
public import proofs.«01_k».proof.Proof.InProjValue

@[expose] public section

set_option maxRecDepth 16384

noncomputable section

namespace Cert.FfnIdeal.Val

open Idealize.ShloMosaic Idealize.ShloMosaic.TcCoe Idealize.SL.Sem
open Cert.FfnIdeal Cert.FfnIdeal.Gen Cert.NormGrad Cert.SiluGrad
open Cert.InProjIdeal.Val (cN cE gx gg)

/-- The gradient at the activation: a row of the output's gradient against the second weight. -/
def es {n : Nat} (d : (⟨2, ![n, 1024]⟩ : Shape).Idx → EReal) (o : S1x2816x1024.Idx → EReal) (r : Fin n) (f : Fin 2816) : EReal :=
  ∑ k, d (ix2 r k) * o (ix3 0 f k)

theorem pay_dyb (v : Vec Ideal S256x1024 .f32) (r : Fin 256) (k : Fin 1024) : k0_pay3 (F := Ideal) v (ix2 r k) = v (ix2 r k) := by
  pointwise [k0_pay3]
theorem pay_gate (v6 : Vec Ideal S256x1024 .bf16) (v8 : Vec Ideal S1x2816x1024 .bf16) (v11 v14 : Vec Ideal S256x2816 .bf16) (r : Fin 256) (f : Fin 2816) :
    k0_pay13 (F := Ideal) (k0_pay7 v11) (k0_pay10 v6 v8 v14) (k0_pay11 v11) k0_pay12 (ix2 r f) = gK (es v6 v8 r f) (v11 (ix2 r f)) (v14 (ix2 r f)) := by
  pointwise [k0_pay13, k0_pay7, k0_pay5, k0_pay10, k0_pay4, k0_pay6, k0_pay11, k0_pay12]
  rfl
theorem pay_up (v6 : Vec Ideal S256x1024 .bf16) (v8 : Vec Ideal S1x2816x1024 .bf16) (v11 : Vec Ideal S256x2816 .bf16) (r : Fin 256) (f : Fin 2816) :
    k0_pay14 (F := Ideal) (k0_pay4 v6 v8) (k0_pay8 v11) (ix2 r f) = uK (es v6 v8 r f) (v11 (ix2 r f)) := by
  pointwise [k0_pay14, k0_pay4, k0_pay8, k0_pay7, k0_pay5]
  rfl
theorem pay_act (v11 v14 : Vec Ideal S256x2816 .bf16) (r : Fin 256) (f : Fin 2816) :
    k0_pay9 (F := Ideal) v11 v14 (ix2 r f) = tK (v11 (ix2 r f)) (v14 (ix2 r f)) := by
  pointwise [k0_pay9, k0_pay8, k0_pay7, k0_pay5, k0_pay6]
  rfl
theorem pay_h (x : Vec Ideal S256x1024 .f32) (g : Vec Ideal S1x1024 .f32) (r : Fin 256) (k : Fin 1024) :
    k0_pay20 (F := Ideal) x g (ix2 r k) = x (ix2 r k) * inv cN cE (fun k => x (ix2 r k)) * g (ix2 0 k) := by
  pointwise [k0_pay20, k0_pay19, k0_pay18]
  rfl
theorem pay_dh (a b d e : Vec Ideal S256x1408 .bf16) (wa wb wd we : Vec Ideal S1x1x1024x1408 .bf16) (r : Fin 256) (k : Fin 1024) :
    k0_pay17 (F := Ideal) (k0_pay15 a wa b wb d wd) (k0_pay16 e) we (ix2 r k)
      = (∑ f, a (ix2 r f) * wa (ix4 0 0 k f)) + (∑ f, b (ix2 r f) * wb (ix4 0 0 k f)) + (∑ f, d (ix2 r f) * wd (ix4 0 0 k f)) + (∑ f, e (ix2 r f) * we (ix4 0 0 k f)) := by
  pointwise [k0_pay17, k0_pay15, k0_pay16]
theorem pay_dx (v3 x : Vec Ideal S256x1024 .f32) (g : Vec Ideal S1x1024 .f32) (v57 : FVec Ideal S256x1024 .f32) (v59 : FVec Ideal S256x1408 .bf16) (v60 : Vec Ideal S1x1x1024x1408 .bf16)
    (r : Fin 256) (j : Fin 1024) :
    k0_pay1 (F := Ideal) v3 (k0_pay18 x) (k0_pay22 v57 v59 v60 g) (k0_pay23 v57 v59 v60 x g) (ix2 r j)
      = gx (fun k => x (ix2 r k)) (fun k => k0_pay17 (F := Ideal) v57 v59 v60 (ix2 r k)) (fun k => g (ix2 0 k)) (v3 (ix2 r j)) j := by
  pointwise [k0_pay1, k0_pay18, k0_pay22, k0_pay23, k0_pay19]
  rfl
theorem pay_dg (v57 : FVec Ideal S256x1024 .f32) (v59 : FVec Ideal S256x1408 .bf16) (v60 : Vec Ideal S1x1x1024x1408 .bf16) (x : Vec Ideal S256x1024 .f32) (v : Vec Ideal S1x1024 .f32)
    (i : Fin 1) (j : Fin 1024) :
    k0_pay21 (F := Ideal) v57 v59 v60 x v (ix2 i j)
      = v (ix2 i j) + ∑ r : Fin 256, gg (fun k => x (ix2 r k)) (fun k => k0_pay17 (F := Ideal) v57 v59 v60 (ix2 r k)) j := by
  pointwise [k0_pay21, k0_pay18, k0_pay19]
  rfl
theorem pay_zero (i : Fin 1) (j : Fin 1024) : (k0_pay2 (F := Ideal) : FVec Ideal S1x1024 .f32) (ix2 i j) = 0 := by
  pointwise [k0_pay2]

theorem halves_cover (p q : Vec Ideal S256x2816 .bf16) (i1 i2) (y : S256x5632.Idx) :
    ∃ pc ∈ [(⟨Rect.unit ![0, 2816] S256x2816.size i1, q⟩ : View.Piece (Elt Ideal) S256x5632 .bf16), ⟨Rect.unit ![0, 0] S256x2816.size i2, p⟩], y ∈ pc.1.set :=
  View.cover_of_tiledL (s := S256x5632) [(⟨Rect.unit ![0, 2816] S256x2816.size i1, q⟩ : View.Piece (Elt Ideal) S256x5632 .bf16), ⟨Rect.unit ![0, 0] S256x2816.size i2, p⟩] S256x2816.size (by sl_kernel_rfl) y
/-- The two stored halves, read at any column. -/
theorem halves (p q : Vec Ideal S256x2816 .bf16) (i1 i2) (y : S256x5632.Idx) :
    View.canon [(⟨Rect.unit ![0, 2816] S256x2816.size i1, q⟩ : View.Piece (Elt Ideal) S256x5632 .bf16), ⟨Rect.unit ![0, 0] S256x2816.size i2, p⟩] y
      = if h : (y 1).val < 2816 then p (ix2 (y 0) ⟨(y 1).val, h⟩) else q (ix2 (y 0) ⟨(y 1).val - 2816, by have := (y 1).isLt; change (y 1).val < 5632 at this; omega⟩) := by
  canon_tiles x h using halves_cover p q i1 i2 y
  · rw [dif_neg (by omega)]
    refine congrArg q (funext fun a => ?_)
    fin_cases a
    · exact Fin.ext (by simpa using h0.symm)
    · exact Fin.ext (by simp; omega)
  · rw [dif_pos (by omega)]
    refine congrArg p (funext fun a => ?_)
    fin_cases a
    · exact Fin.ext (by simpa using h0.symm)
    · exact Fin.ext (by simp; omega)

theorem at_tile {a b : Nat} (s r : Nat) (h : a = b) : a * s + r = b * s + r := by rw [h]
theorem at_zero {a : Nat} (s r : Nat) (h : a = 0) : a * s + r = r := by rw [h, Nat.zero_mul, Nat.zero_add]
theorem at_nil {a : Nat} (h : a = 0) : a + 0 = 0 := h

section
variable (m : (ℓ : Loc nD τ sig) → Buf (Elt Ideal) ℓ) (c : Dev nD)

theorem idx : ∀ t : Fin (cfgM m (ok m)).N, (pcfg0.win (adm m (ok m)) 0).index t = ![t.val, 0] ∧ (pcfg0.win (adm m (ok m)) 1).index t = ![0, 0]
    ∧ (pcfg0.win (adm m (ok m)) 2).index t = ![t.val, 0] ∧ (pcfg0.win (adm m (ok m)) 3).index t = ![t.val, 0]
    ∧ (pcfg0.win (adm m (ok m)) 6).index t = ![t.val, 0] ∧ (pcfg0.win (adm m (ok m)) 7).index t = ![t.val, 0] ∧ (pcfg0.win (adm m (ok m)) 8).index t = ![t.val, 0]
    ∧ (pcfg0.win (adm m (ok m)) 9).index t = ![t.val, 0] ∧ (pcfg0.win (adm m (ok m)) 10).index t = ![t.val, 0] ∧ (pcfg0.win (adm m (ok m)) 11).index t = ![0, 0] :=
  (by decide +kernel : ∀ t : Fin grid0.N, cc0_transform_0 (grid0.coords t) = ![t.val, 0] ∧ cc0_transform_1 (grid0.coords t) = ![0, 0]
    ∧ cc0_transform_2 (grid0.coords t) = ![t.val, 0] ∧ cc0_transform_3 (grid0.coords t) = ![t.val, 0]
    ∧ cc0_transform_6 (grid0.coords t) = ![t.val, 0] ∧ cc0_transform_7 (grid0.coords t) = ![t.val, 0] ∧ cc0_transform_8 (grid0.coords t) = ![t.val, 0]
    ∧ cc0_transform_9 (grid0.coords t) = ![t.val, 0] ∧ cc0_transform_10 (grid0.coords t) = ![t.val, 0] ∧ cc0_transform_11 (grid0.coords t) = ![0, 0])
theorem idx4 (t : Fin (cfgM m (ok m)).N) : (pcfg0.win (adm m (ok m)) 4).index t = ![0, 0, 0, 0] := tr4 (tbl m) (tbl_zero m) (grid0.coords t)
theorem idx5 (t : Fin (cfgM m (ok m)).N) : (pcfg0.win (adm m (ok m)) 5).index t = ![0, 0, 0] := tr5 (tbl m) (tbl_zero m) (grid0.coords t)

theorem lt16 (t : Fin (cfgM m (ok m)).N) : t.val < 16 := lt_of_lt_of_eq t.isLt (show (cfgM m (ok m)).N = 16 from N_0)
/-- The row a tile's row sits at. -/
abbrev rw' (t : Fin (cfgM m (ok m)).N) (s : Fin 256) : Fin 4096 := ⟨t.val * 256 + s.val, by have := lt16 m t; omega⟩

theorem blk0 (t : Fin (cfgM m (ok m)).N) (r : Fin 256) (k : Fin 1024) : (iblk m (ok m) c 0 t : S256x1024.Idx → EReal) (ix2 r k) = V m c main_arg0 (ix2 (rw' m t r) k) := by
  blk_ext [iblk]
  exacts [at_tile _ _ (congrFun (idx m t).1 0), at_zero _ _ (congrFun (idx m t).1 1)]
theorem blk1 (t : Fin (cfgM m (ok m)).N) (k : Fin 1024) : (iblk m (ok m) c 1 t : S1x1024.Idx → EReal) (ix2 0 k) = V m c main_v18 (ix2 0 k) := by
  blk_ext [iblk]
  exacts [at_nil (congrFun (idx m t).2.1 0), at_zero _ _ (congrFun (idx m t).2.1 1)]
theorem blk2 (t : Fin (cfgM m (ok m)).N) (r : Fin 256) (k : Fin 1024) : (iblk m (ok m) c 2 t : S256x1024.Idx → EReal) (ix2 r k) = V m c main_arg4 (ix2 (rw' m t r) k) := by
  blk_ext [iblk]
  exacts [at_tile _ _ (congrFun (idx m t).2.2.1 0), at_zero _ _ (congrFun (idx m t).2.2.1 1)]
theorem blk3 (t : Fin (cfgM m (ok m)).N) (r : Fin 256) (k : Fin 5632) : (iblk m (ok m) c 3 t : S256x5632.Idx → EReal) (ix2 r k) = V m c main_v17 (ix2 (rw' m t r) k) := by
  blk_ext [iblk]
  exacts [at_tile _ _ (congrFun (idx m t).2.2.2.1 0), at_zero _ _ (congrFun (idx m t).2.2.2.1 1)]
theorem blk4 (t : Fin (cfgM m (ok m)).N) (s : Fin 4) (k : Fin 1024) (f : Fin 1408) : (iblk m (ok m) c 4 t : S1x4x1024x1408.Idx → EReal) (ix4 0 s k f) = V m c main_v19 (ix4 0 s k f) := by
  blk_ext [iblk]
  exacts [at_nil (congrFun (idx4 m t) 0), at_zero _ _ (congrFun (idx4 m t) 1), at_zero _ _ (congrFun (idx4 m t) 2), at_zero _ _ (congrFun (idx4 m t) 3)]
theorem blk5 (t : Fin (cfgM m (ok m)).N) (f : Fin 2816) (k : Fin 1024) : (iblk m (ok m) c 5 t : S1x2816x1024.Idx → EReal) (ix3 0 f k) = V m c main_v21 (ix3 0 f k) := by
  blk_ext [iblk]
  exacts [at_nil (congrFun (idx5 m t) 0), at_zero _ _ (congrFun (idx5 m t) 1), at_zero _ _ (congrFun (idx5 m t) 2)]
end

end Cert.FfnIdeal.Val

end
-- ==== Proof.FfnValue.lean ====
/- The feed-forward gradient call: its six result arrays, over the arrays the region finds. -/
module

public import proofs.«01_k».proof.Proof.FfnPay

@[expose] public section

set_option maxRecDepth 16384

noncomputable section

namespace Cert.FfnIdeal.Val

open Idealize.ShloMosaic Idealize.ShloMosaic.TcCoe Idealize.SL.Sem
open Idealize.ShloMosaic.Pipeline (Dat)
open Cert.FfnIdeal Cert.FfnIdeal.Gen Cert.FfnIdeal.Body Cert.NormGrad Cert.SiluGrad
open Cert.InProjIdeal.Val (cN cE gx gg gx_congr gg_congr)

/-- The two halves of a block of gates. -/
def lo (u : Vec Ideal S256x5632 .bf16) : Vec Ideal S256x2816 .bf16 := View.ld u (Rect.unit ![0, 0] S256x2816.size inb_S256x5632_S256x2816_0_0)
def hi (u : Vec Ideal S256x5632 .bf16) : Vec Ideal S256x2816 .bf16 := View.ld u (Rect.unit ![0, 2816] S256x2816.size inb_S256x5632_S256x2816_0_2816)
theorem lo_at (u : Vec Ideal S256x5632 .bf16) (r : Fin 256) (f : Fin 2816) : lo u (ix2 r f) = u (ix2 r ⟨f.val, by omega⟩) :=
  View.ld_unit_apply_of _ _ _ _ _ _ fun a => by fin_cases a <;> simp [ix2]
theorem hi_at (u : Vec Ideal S256x5632 .bf16) (r : Fin 256) (f : Fin 2816) : hi u (ix2 r f) = u (ix2 r ⟨2816 + f.val, by omega⟩) :=
  View.ld_unit_apply_of _ _ _ _ _ _ fun a => by fin_cases a <;> simp [ix2]

/-- The two stores into the block of gradients. -/
def stores (d : Vec Ideal S256x1024 .f32) (o : Vec Ideal S1x2816x1024 .bf16) (u : Vec Ideal S256x5632 .bf16) : List (View.Piece (Elt Ideal) S256x5632 .bf16) :=
  [⟨Rect.unit ![0, 2816] S256x2816.size inb_S256x5632_S256x2816_0_2816, k0_pay14 (F := Ideal) (k0_pay4 (k0_pay3 d) o) (k0_pay8 (lo u))⟩,
   ⟨Rect.unit ![0, 0] S256x2816.size inb_S256x5632_S256x2816_0_0, k0_pay13 (F := Ideal) (k0_pay7 (lo u)) (k0_pay10 (k0_pay3 d) o (hi u)) (k0_pay11 (lo u)) k0_pay12⟩]

/-- A row of gradients at the gates. -/
def du {n : Nat} (d : (⟨2, ![n, 1024]⟩ : Shape).Idx → EReal) (o : S1x2816x1024.Idx → EReal) (u : (⟨2, ![n, 5632]⟩ : Shape).Idx → EReal) (r : Fin n) (f : Fin 5632) : EReal :=
  rowK (es d o r) (fun f => u (ix2 r f)) f

theorem es_b (d : Vec Ideal S256x1024 .f32) (o : Vec Ideal S1x2816x1024 .bf16) (r : Fin 256) (f : Fin 2816) : es (k0_pay3 (F := Ideal) d) o r f = es d o r f :=
  Finset.sum_congr rfl fun k _ => congrArg (· * _) (pay_dyb d r k)

theorem halves_at (p q : Vec Ideal S256x2816 .bf16) (i1 i2) (r : Fin 256) (f : Fin 5632) :
    View.canon [(⟨Rect.unit ![0, 2816] S256x2816.size i1, q⟩ : View.Piece (Elt Ideal) S256x5632 .bf16), ⟨Rect.unit ![0, 0] S256x2816.size i2, p⟩] (ix2 r f)
      = if h : f.val < 2816 then p (ix2 r ⟨f.val, h⟩) else q (ix2 r ⟨f.val - 2816, by omega⟩) := halves p q i1 i2 (ix2 r f)

theorem canon_at (d : Vec Ideal S256x1024 .f32) (o : Vec Ideal S1x2816x1024 .bf16) (u : Vec Ideal S256x5632 .bf16) (r : Fin 256) (f : Fin 5632) :
    View.canon (stores d o u) (ix2 r f) = du d o u r f := by
  unfold stores
  rw [halves_at]
  unfold du rowK
  refine dite_congr rfl (fun h => ?_) fun h => ?_
  · rw [pay_gate, es_b, lo_at, hi_at]
  · rw [pay_up, es_b, lo_at]
theorem canon_du (d : Vec Ideal S256x1024 .f32) (o : Vec Ideal S1x2816x1024 .bf16) (u : Vec Ideal S256x5632 .bf16) (y : S256x5632.Idx) (r : Fin 256) (f : Fin 5632)
    (hr : y 0 = r) (hf : y 1 = f) : View.canon (stores d o u) y = du d o u r f := by
  subst hr hf
  exact (congrArg _ (ix2_eta y).symm).trans (canon_at d o u (y 0) (y 1))

theorem load_du (v : View sig .tc .vmem S256x5632 .bf16) (d : Vec Ideal S256x1024 .f32) (o : Vec Ideal S1x2816x1024 .bf16) (u : Vec Ideal S256x5632 .bf16) (q : Nat) (inb)
    (r : Fin 256) (f : Fin 1408) (g : Fin 5632) (hg : g.val = q + f.val) :
    v.readCov (stores d o u) (Rect.unit (s := S256x5632) ![0, q] S256x1408.size inb).toLoadRect (ix2 r f) = du d o u r g := by
  rw [View.readCov_eq_canon']
  refine canon_du d o u _ r g (Fin.ext ?_) (Fin.ext ?_)
  · simp [ix2]
  · simp [ix2, hg]

/-- The gradient of the scaled row, gathered from the four parts of the first weight. -/
def dhs {n : Nat} (d : (⟨2, ![n, 1024]⟩ : Shape).Idx → EReal) (o : S1x2816x1024.Idx → EReal) (u : (⟨2, ![n, 5632]⟩ : Shape).Idx → EReal)
    (W : Fin 1024 → Fin 5632 → EReal) (r : Fin n) (k : Fin 1024) : EReal := ∑ f, du d o u r f * W k f

/-- The four loads of the stored gradients, and of the weight. -/
def q0 (v : View sig .tc .vmem S256x5632 .bf16) (d : Vec Ideal S256x1024 .f32) (o : Vec Ideal S1x2816x1024 .bf16) (u : Vec Ideal S256x5632 .bf16) : Vec Ideal S256x1408 .bf16 :=
  v.readCov (stores d o u) (Rect.unit (s := S256x5632) ![0, 0] S256x1408.size inb_S256x5632_S256x1408_0_0).toLoadRect
def q1 (v : View sig .tc .vmem S256x5632 .bf16) (d : Vec Ideal S256x1024 .f32) (o : Vec Ideal S1x2816x1024 .bf16) (u : Vec Ideal S256x5632 .bf16) : Vec Ideal S256x1408 .bf16 :=
  v.readCov (stores d o u) (Rect.unit (s := S256x5632) ![0, 1408] S256x1408.size inb_S256x5632_S256x1408_0_1408).toLoadRect
def q2 (v : View sig .tc .vmem S256x5632 .bf16) (d : Vec Ideal S256x1024 .f32) (o : Vec Ideal S1x2816x1024 .bf16) (u : Vec Ideal S256x5632 .bf16) : Vec Ideal S256x1408 .bf16 :=
  v.readCov (stores d o u) (Rect.unit (s := S256x5632) ![0, 2816] S256x1408.size inb_S256x5632_S256x1408_0_2816).toLoadRect
def q3 (v : View sig .tc .vmem S256x5632 .bf16) (d : Vec Ideal S256x1024 .f32) (o : Vec Ideal S1x2816x1024 .bf16) (u : Vec Ideal S256x5632 .bf16) : Vec Ideal S256x1408 .bf16 :=
  v.readCov (stores d o u) (Rect.unit (s := S256x5632) ![0, 4224] S256x1408.size inb_S256x5632_S256x1408_0_4224).toLoadRect
def w0 (w : Vec Ideal S1x4x1024x1408 .bf16) : Vec Ideal S1x1x1024x1408 .bf16 := View.ld w (Rect.unit ![0, 0, 0, 0] S1x1x1024x1408.size inb_S1x4x1024x1408_S1x1x1024x1408_0_0_0_0)
def w1 (w : Vec Ideal S1x4x1024x1408 .bf16) : Vec Ideal S1x1x1024x1408 .bf16 := View.ld w (Rect.unit ![0, 1, 0, 0] S1x1x1024x1408.size inb_S1x4x1024x1408_S1x1x1024x1408_0_1_0_0)
def w2 (w : Vec Ideal S1x4x1024x1408 .bf16) : Vec Ideal S1x1x1024x1408 .bf16 := View.ld w (Rect.unit ![0, 2, 0, 0] S1x1x1024x1408.size inb_S1x4x1024x1408_S1x1x1024x1408_0_2_0_0)
def w3 (w : Vec Ideal S1x4x1024x1408 .bf16) : Vec Ideal S1x1x1024x1408 .bf16 := View.ld w (Rect.unit ![0, 3, 0, 0] S1x1x1024x1408.size inb_S1x4x1024x1408_S1x1x1024x1408_0_3_0_0)

theorem ld_w (w : Vec Ideal S1x4x1024x1408 .bf16) (s : Fin 4) (n : Nat) (hn : n = s.val) (inb) (k : Fin 1024) (f : Fin 1408) :
    (View.ld w (Rect.unit ![0, n, 0, 0] S1x1x1024x1408.size inb) : Vec Ideal S1x1x1024x1408 .bf16) (ix4 0 0 k f) = w (ix4 0 s k f) :=
  View.ld_unit_apply_of _ _ _ _ _ _ fun a => by fin_cases a <;> simp [ix4, hn]

theorem dh_at (v : View sig .tc .vmem S256x5632 .bf16) (d : Vec Ideal S256x1024 .f32) (o : Vec Ideal S1x2816x1024 .bf16) (u : Vec Ideal S256x5632 .bf16) (w : Vec Ideal S1x4x1024x1408 .bf16)
    (W : Fin 1024 → Fin 5632 → EReal) (hW : ∀ (s : Fin 4) k (f : Fin 1408), w (ix4 0 s k f) = W k ⟨s.val * 1408 + f.val, by omega⟩) (r : Fin 256) (k : Fin 1024) :
    k0_pay17 (F := Ideal) (k0_pay15 (q0 v d o u) (w0 w) (q1 v d o u) (w1 w) (q2 v d o u) (w2 w)) (k0_pay16 (q3 v d o u)) (w3 w) (ix2 r k) = dhs d o u W r k := by
  rw [pay_dh]
  refine Eq.trans (congrArg₂ _ (congrArg₂ _ (congrArg₂ _ ?_ ?_) ?_) ?_) (quarters fun f => du d o u r f * W k f)
  · refine Finset.sum_congr rfl fun f _ => congrArg₂ _ (load_du v d o u _ _ r f _ (by simp)) ((ld_w w 0 _ rfl _ k f).trans ((hW 0 k f).trans (congrArg (W k) (Fin.ext (by simp)))))
  · refine Finset.sum_congr rfl fun f _ => congrArg₂ _ (load_du v d o u _ _ r f _ rfl) ((ld_w w 1 _ rfl _ k f).trans ((hW 1 k f).trans (congrArg (W k) (Fin.ext (by simp)))))
  · refine Finset.sum_congr rfl fun f _ => congrArg₂ _ (load_du v d o u _ _ r f _ rfl) ((ld_w w 2 _ rfl _ k f).trans ((hW 2 k f).trans (congrArg (W k) (Fin.ext (by simp)))))
  · refine Finset.sum_congr rfl fun f _ => congrArg₂ _ (load_du v d o u _ _ r f _ rfl) ((ld_w w 3 _ rfl _ k f).trans ((hW 3 k f).trans (congrArg (W k) (Fin.ext (by simp)))))

end Cert.FfnIdeal.Val

end
-- ==== Proof.FfnOut.lean ====
/- The feed-forward gradient call: its six result arrays, over the call's own arguments. -/
module

public import proofs.«01_k».proof.Proof.FfnValue
public import Idealize.ShloMosaic.Lib.Pipeline.Covers

@[expose] public section

set_option maxRecDepth 16384

noncomputable section

namespace Cert.FfnIdeal.Val

open Idealize.ShloMosaic Idealize.ShloMosaic.TcCoe Idealize.SL.Sem
open Idealize.ShloMosaic.Pipeline (Dat)
open Cert.FfnIdeal Cert.FfnIdeal.Gen Cert.FfnIdeal.Body Cert.NormGrad Cert.SiluGrad
open Cert.InProjIdeal.Val (cN cE gx gg gx_congr gg_congr)

variable (m : (ℓ : Loc nD τ sig) → Buf (Elt Ideal) ℓ) (c : Dev nD)

/-- The gradient at the activation, the gates, the gates' gradient, the scaled row's gradient, row by row. -/
def eA (r : Fin 4096) (f : Fin 2816) : EReal := ∑ k : Fin 1024, md m c (ix2 r k) * mo m c (ix2 f k)
def uA (r : Fin 4096) (f : Fin 5632) : EReal := uHost (mx m c) (mg m c) (mw m c) (ix2 r f)
def duA (r : Fin 4096) (f : Fin 5632) : EReal := rowK (eA m c r) (uA m c r) f
def dhA (r : Fin 4096) (k : Fin 1024) : EReal := ∑ f : Fin 5632, duA m c r f * mw m c (ix2 k f)

abbrev xB (t : Fin (cfgM m (ok m)).N) : Vec Ideal S256x1024 .f32 := iblk m (ok m) c 0 t
abbrev gB (t : Fin (cfgM m (ok m)).N) : Vec Ideal S1x1024 .f32 := iblk m (ok m) c 1 t
abbrev dB (t : Fin (cfgM m (ok m)).N) : Vec Ideal S256x1024 .f32 := iblk m (ok m) c 2 t
abbrev uB (t : Fin (cfgM m (ok m)).N) : Vec Ideal S256x5632 .bf16 := iblk m (ok m) c 3 t
abbrev wB (t : Fin (cfgM m (ok m)).N) : Vec Ideal S1x4x1024x1408 .bf16 := iblk m (ok m) c 4 t
abbrev oB (t : Fin (cfgM m (ok m)).N) : Vec Ideal S1x2816x1024 .bf16 := iblk m (ok m) c 5 t

theorem x_at (t : Fin (cfgM m (ok m)).N) (r : Fin 256) (k : Fin 1024) : xB m c t (ix2 r k) = mx m c (ix2 (rw' m t r) k) := (blk0 m c t r k).trans (congrFun (v_x m c) _)
theorem g_at (t : Fin (cfgM m (ok m)).N) (k : Fin 1024) : gB m c t (ix2 0 k) = mg m c (ix1 k) := by
  refine (blk1 m c t k).trans ((congrFun (v_g m c) _).trans ?_)
  pointwise
theorem d_at (t : Fin (cfgM m (ok m)).N) (r : Fin 256) (k : Fin 1024) : dB m c t (ix2 r k) = md m c (ix2 (rw' m t r) k) := (blk2 m c t r k).trans (congrFun (v_d m c) _)
theorem u_at (t : Fin (cfgM m (ok m)).N) (r : Fin 256) (f : Fin 5632) : uB m c t (ix2 r f) = uA m c (rw' m t r) f := (blk3 m c t r f).trans (congrFun (v_u m c) _)
theorem wB_at (t : Fin (cfgM m (ok m)).N) (s : Fin 4) (k : Fin 1024) (f : Fin 1408) : wB m c t (ix4 0 s k f) = mw m c (ix2 k ⟨s.val * 1408 + f.val, by omega⟩) :=
  (blk4 m c t s k f).trans ((congrFun (v_w m c) _).trans (w_at s k f _))
theorem oB_at (t : Fin (cfgM m (ok m)).N) (f : Fin 2816) (k : Fin 1024) : oB m c t (ix3 0 f k) = mo m c (ix2 f k) :=
  (blk5 m c t f k).trans ((congrFun (v_o m c) _).trans (o_at _ f k))

theorem du_at (t : Fin (cfgM m (ok m)).N) (r : Fin 256) (f : Fin 5632) : du (dB m c t) (oB m c t) (uB m c t) r f = duA m c (rw' m t r) f :=
  congrArg₂ (fun e u => rowK e u f) (funext fun f => Finset.sum_congr rfl fun k _ => congrArg₂ _ (d_at m c t r k) (oB_at m c t f k)) (funext fun f => u_at m c t r f)
theorem dh_blk (t : Fin (cfgM m (ok m)).N) (v : View sig .tc .vmem S256x5632 .bf16) (r : Fin 256) (k : Fin 1024) :
    k0_pay17 (F := Ideal) (k0_pay15 (q0 v (dB m c t) (oB m c t) (uB m c t)) (w0 (wB m c t)) (q1 v (dB m c t) (oB m c t) (uB m c t)) (w1 (wB m c t)) (q2 v (dB m c t) (oB m c t) (uB m c t)) (w2 (wB m c t)))
      (k0_pay16 (q3 v (dB m c t) (oB m c t) (uB m c t))) (w3 (wB m c t)) (ix2 r k) = dhA m c (rw' m t r) k :=
  (dh_at v _ _ _ _ (fun k f => mw m c (ix2 k f)) (fun s k f => wB_at m c t s k f) r k).trans (Finset.sum_congr rfl fun f _ => congrArg (· * _) (du_at m c t r f))

/-- The six results over the arguments. -/
def dxf (r : Fin 4096) (j : Fin 1024) : EReal := gx (fun k => mx m c (ix2 r k)) (dhA m c r) (fun k => mg m c (ix1 k)) (md m c (ix2 r j)) j
def actf (r : Fin 4096) (f : Fin 2816) : EReal := tK (uA m c r ⟨f.val, by omega⟩) (uA m c r ⟨2816 + f.val, by omega⟩)
def hRow (r : Fin 4096) (k : Fin 1024) : EReal := mx m c (ix2 r k) * inv cN cE (fun k => mx m c (ix2 r k)) * mg m c (ix1 k)
def dgf (j : Fin 1024) (r : Fin 4096) : EReal := gg (fun k => mx m c (ix2 r k)) (dhA m c r) j

theorem bx (t : Fin (cfgM m (ok m)).N) : View.read (Elt Ideal) (ms0_0 m (ok m) t).view ((hs0_0 m (ok m) t).unread (iblk m (ok m) c 0 t)) = xB m c t := (hs0_0 m (ok m) t).read_unread _
theorem bg (t : Fin (cfgM m (ok m)).N) : View.read (Elt Ideal) (ms0_1 m (ok m) t).view ((hs0_1 m (ok m) t).unread (iblk m (ok m) c 1 t)) = gB m c t := (hs0_1 m (ok m) t).read_unread _
theorem bd (t : Fin (cfgM m (ok m)).N) : View.read (Elt Ideal) (ms0_2 m (ok m) t).view ((hs0_2 m (ok m) t).unread (iblk m (ok m) c 2 t)) = dB m c t := (hs0_2 m (ok m) t).read_unread _
theorem bu (t : Fin (cfgM m (ok m)).N) : View.read (Elt Ideal) (ms0_3 m (ok m) t).view ((hs0_3 m (ok m) t).unread (iblk m (ok m) c 3 t)) = uB m c t := (hs0_3 m (ok m) t).read_unread _
theorem bw (t : Fin (cfgM m (ok m)).N) : View.read (Elt Ideal) (ms0_4 m (ok m) t).view ((hs0_4 m (ok m) t).unread (iblk m (ok m) c 4 t)) = wB m c t := (hs0_4 m (ok m) t).read_unread _
theorem bo (t : Fin (cfgM m (ok m)).N) : View.read (Elt Ideal) (ms0_5 m (ok m) t).view ((hs0_5 m (ok m) t).unread (iblk m (ok m) c 5 t)) = oB m c t := (hs0_5 m (ok m) t).read_unread _

theorem outs_act (t : Fin (cfgM m (ok m)).N) (r : Fin 256) (f : Fin 2816) : (outs m (ok m) c t.val t.isLt).2.2.1 (ix2 r f) = actf m c (rw' m t r) f := by
  have e : k0_pay9 (F := Ideal) (lo (uB m c t)) (hi (uB m c t)) (ix2 r f) = actf m c (rw' m t r) f :=
    (pay_act _ _ r f).trans (congrArg₂ tK ((lo_at _ r f).trans (u_at m c t r _)) ((hi_at _ r f).trans (u_at m c t r _)))
  by_cases h : t.val % 16 = 0
  · rw [outs_A m (ok m) c t h]; unfold outA atA; frame_out
    rw [bu]; exact e
  · rw [outs_B m (ok m) c t h]; unfold outB atB; frame_out
    rw [bu]; exact e
theorem outs_h (t : Fin (cfgM m (ok m)).N) (r : Fin 256) (k : Fin 1024) : (outs m (ok m) c t.val t.isLt).2.2.2.1 (ix2 r k) = hRow m c (rw' m t r) k := by
  have e : k0_pay20 (F := Ideal) (xB m c t) (gB m c t) (ix2 r k) = hRow m c (rw' m t r) k :=
    (pay_h _ _ r k).trans (congrArg₂ _ (congrArg₂ _ (x_at m c t r k) (congrArg (inv cN cE) (funext fun k => x_at m c t r k))) (g_at m c t k))
  by_cases h : t.val % 16 = 0
  · rw [outs_A m (ok m) c t h]; unfold outA atA; frame_out
    rw [bx, bg]; exact e
  · rw [outs_B m (ok m) c t h]; unfold outB atB; frame_out
    rw [bx, bg]; exact e
theorem outs_dyb (t : Fin (cfgM m (ok m)).N) (r : Fin 256) (k : Fin 1024) : (outs m (ok m) c t.val t.isLt).2.2.2.2.1 (ix2 r k) = md m c (ix2 (rw' m t r) k) := by
  have e : k0_pay3 (F := Ideal) (dB m c t) (ix2 r k) = md m c (ix2 (rw' m t r) k) := (pay_dyb _ r k).trans (d_at m c t r k)
  by_cases h : t.val % 16 = 0
  · rw [outs_A m (ok m) c t h]; unfold outA atA; frame_out
    rw [bd]; exact e
  · rw [outs_B m (ok m) c t h]; unfold outB atB; frame_out
    rw [bd]; exact e
theorem outs_du (t : Fin (cfgM m (ok m)).N) (r : Fin 256) (f : Fin 5632) : (outs m (ok m) c t.val t.isLt).2.1 (ix2 r f) = duA m c (rw' m t r) f := by
  have e := (canon_at (dB m c t) (oB m c t) (uB m c t) r f).trans (du_at m c t r f)
  by_cases h : t.val % 16 = 0
  · rw [outs_A m (ok m) c t h]; unfold outA atA; frame_out
    rw [bu, bd, bo]; exact e
  · rw [outs_B m (ok m) c t h]; unfold outB atB; frame_out
    rw [bu, bd, bo]; exact e
theorem outs_dx (t : Fin (cfgM m (ok m)).N) (r : Fin 256) (j : Fin 1024) : (outs m (ok m) c t.val t.isLt).1 (ix2 r j) = dxf m c (rw' m t r) j := by
  have e := fun v => (pay_dx (dB m c t) (xB m c t) (gB m c t) _ _ _ r j).trans
    (gx_congr _ _ _ _ _ _ _ _ j (fun k => x_at m c t r k) (fun k => dh_blk m c t v r k) (fun k => g_at m c t k) (d_at m c t r j))
  by_cases h : t.val % 16 = 0
  · rw [outs_A m (ok m) c t h]; unfold outA atA; frame_out
    rw [bu, bd, bo, bx, bg, bw]; exact e _
  · rw [outs_B m (ok m) c t h]; unfold outB atB; frame_out
    rw [bu, bd, bo, bx, bg, bw]; exact e _

/-- One point's part of the gain's gradient. -/
def part (t : Fin (cfgM m (ok m)).N) (y : S1x1024.Idx) : EReal := ∑ r : Fin 256, dgf m c (y 1) (rw' m t r)

theorem outs_dg_A (t : Fin (cfgM m (ok m)).N) (h : t.val % 16 = 0) (y : S1x1024.Idx) : (outs m (ok m) c t.val t.isLt).2.2.2.2.2 y = 0 + part m c t y := by
  have e := fun v w => (pay_dg _ _ _ (xB m c t) w (y 0) (y 1)).trans (congrArg₂ _ rfl (Finset.sum_congr rfl fun r _ =>
    gg_congr _ _ _ _ (y 1) (fun k => x_at m c t r k) (fun k => dh_blk m c t v r k)))
  rw [outs_A m (ok m) c t h, ← ix2_eta y]; unfold outA atA; frame_out
  rw [bu, bd, bo, bx, bw]
  exact (e _ _).trans (congrArg₂ _ (pay_zero (y 0) (y 1)) rfl)
theorem outs_dg_B (t : Fin (cfgM m (ok m)).N) (h : ¬t.val % 16 = 0) (y : S1x1024.Idx) :
    (outs m (ok m) c t.val t.isLt).2.2.2.2.2 y = (outs m (ok m) c (t.val - 1) (Nat.lt_of_le_of_lt (Nat.sub_le _ _) t.isLt)).2.2.2.2.2 y + part m c t y := by
  have e := fun v w => (pay_dg _ _ _ (xB m c t) w (y 0) (y 1)).trans (congrArg₂ _ rfl (Finset.sum_congr rfl fun r _ =>
    gg_congr _ _ _ _ (y 1) (fun k => x_at m c t r k) (fun k => dh_blk m c t v r k)))
  rw [outs_B m (ok m) c t h, ← ix2_eta y]; unfold outB atB; frame_out
  rw [bu, bd, bo, bx, bw]
  exact (e _ _)

/-! Every block of every output is some point's. -/
theorem cov6 : ((cfgM m (ok m)).win 6).Covers :=
  Pipeline.Window.covers_of_index_surj _ rfl (by decide : ∀ a : Fin 2, 0 < S256x1024.size a) fun β => by
    obtain ⟨t, ht⟩ : ∃ t : Fin (cfgM m (ok m)).N, t.val = (β (0 : Fin 2)).val :=
      ⟨⟨(β (0 : Fin 2)).val, lt_of_lt_of_eq (β (0 : Fin 2)).isLt ((by sl_kernel_rfl : ((cfgM m (ok m)).win 6).nblk (0 : Fin 2) = 16).trans (Eq.symm N_0))⟩, rfl⟩
    refine ⟨t, fun a => ?_⟩
    match a with
    | ⟨0, _⟩ => exact (congrFun (idx m t).2.2.2.2.1 0).trans ht
    | ⟨1, _⟩ => exact (congrFun (idx m t).2.2.2.2.1 1).trans (Nat.lt_one_iff.mp (lt_of_lt_of_eq (β (1 : Fin 2)).isLt (by sl_kernel_rfl : ((cfgM m (ok m)).win 6).nblk (1 : Fin 2) = 1))).symm
theorem cov7 : ((cfgM m (ok m)).win 7).Covers :=
  Pipeline.Window.covers_of_index_surj _ rfl (by decide : ∀ a : Fin 2, 0 < S256x5632.size a) fun β => by
    obtain ⟨t, ht⟩ : ∃ t : Fin (cfgM m (ok m)).N, t.val = (β (0 : Fin 2)).val :=
      ⟨⟨(β (0 : Fin 2)).val, lt_of_lt_of_eq (β (0 : Fin 2)).isLt ((by sl_kernel_rfl : ((cfgM m (ok m)).win 7).nblk (0 : Fin 2) = 16).trans (Eq.symm N_0))⟩, rfl⟩
    refine ⟨t, fun a => ?_⟩
    match a with
    | ⟨0, _⟩ => exact (congrFun (idx m t).2.2.2.2.2.1 0).trans ht
    | ⟨1, _⟩ => exact (congrFun (idx m t).2.2.2.2.2.1 1).trans (Nat.lt_one_iff.mp (lt_of_lt_of_eq (β (1 : Fin 2)).isLt (by sl_kernel_rfl : ((cfgM m (ok m)).win 7).nblk (1 : Fin 2) = 1))).symm
theorem cov8 : ((cfgM m (ok m)).win 8).Covers :=
  Pipeline.Window.covers_of_index_surj _ rfl (by decide : ∀ a : Fin 2, 0 < S256x2816.size a) fun β => by
    obtain ⟨t, ht⟩ : ∃ t : Fin (cfgM m (ok m)).N, t.val = (β (0 : Fin 2)).val :=
      ⟨⟨(β (0 : Fin 2)).val, lt_of_lt_of_eq (β (0 : Fin 2)).isLt ((by sl_kernel_rfl : ((cfgM m (ok m)).win 8).nblk (0 : Fin 2) = 16).trans (Eq.symm N_0))⟩, rfl⟩
    refine ⟨t, fun a => ?_⟩
    match a with
    | ⟨0, _⟩ => exact (congrFun (idx m t).2.2.2.2.2.2.1 0).trans ht
    | ⟨1, _⟩ => exact (congrFun (idx m t).2.2.2.2.2.2.1 1).trans (Nat.lt_one_iff.mp (lt_of_lt_of_eq (β (1 : Fin 2)).isLt (by sl_kernel_rfl : ((cfgM m (ok m)).win 8).nblk (1 : Fin 2) = 1))).symm
theorem cov9 : ((cfgM m (ok m)).win 9).Covers :=
  Pipeline.Window.covers_of_index_surj _ rfl (by decide : ∀ a : Fin 2, 0 < S256x1024.size a) fun β => by
    obtain ⟨t, ht⟩ : ∃ t : Fin (cfgM m (ok m)).N, t.val = (β (0 : Fin 2)).val :=
      ⟨⟨(β (0 : Fin 2)).val, lt_of_lt_of_eq (β (0 : Fin 2)).isLt ((by sl_kernel_rfl : ((cfgM m (ok m)).win 9).nblk (0 : Fin 2) = 16).trans (Eq.symm N_0))⟩, rfl⟩
    refine ⟨t, fun a => ?_⟩
    match a with
    | ⟨0, _⟩ => exact (congrFun (idx m t).2.2.2.2.2.2.2.1 0).trans ht
    | ⟨1, _⟩ => exact (congrFun (idx m t).2.2.2.2.2.2.2.1 1).trans (Nat.lt_one_iff.mp (lt_of_lt_of_eq (β (1 : Fin 2)).isLt (by sl_kernel_rfl : ((cfgM m (ok m)).win 9).nblk (1 : Fin 2) = 1))).symm
theorem cov10 : ((cfgM m (ok m)).win 10).Covers :=
  Pipeline.Window.covers_of_index_surj _ rfl (by decide : ∀ a : Fin 2, 0 < S256x1024.size a) fun β => by
    obtain ⟨t, ht⟩ : ∃ t : Fin (cfgM m (ok m)).N, t.val = (β (0 : Fin 2)).val :=
      ⟨⟨(β (0 : Fin 2)).val, lt_of_lt_of_eq (β (0 : Fin 2)).isLt ((by sl_kernel_rfl : ((cfgM m (ok m)).win 10).nblk (0 : Fin 2) = 16).trans (Eq.symm N_0))⟩, rfl⟩
    refine ⟨t, fun a => ?_⟩
    match a with
    | ⟨0, _⟩ => exact (congrFun (idx m t).2.2.2.2.2.2.2.2.1 0).trans ht
    | ⟨1, _⟩ => exact (congrFun (idx m t).2.2.2.2.2.2.2.2.1 1).trans (Nat.lt_one_iff.mp (lt_of_lt_of_eq (β (1 : Fin 2)).isLt (by sl_kernel_rfl : ((cfgM m (ok m)).win 10).nblk (1 : Fin 2) = 1))).symm
theorem cov11 : ((cfgM m (ok m)).win 11).Covers :=
  Pipeline.Window.covers_of_index_surj _ rfl (by decide : ∀ a : Fin 2, 0 < S1x1024.size a) fun β =>
    ⟨⟨0, lt_of_lt_of_eq (by decide : 0 < 16) (Eq.symm N_0)⟩, fun a => by
      match a with
      | ⟨0, _⟩ => exact (congrFun (idx m _).2.2.2.2.2.2.2.2.2 0).trans (Nat.lt_one_iff.mp (lt_of_lt_of_eq (β (0 : Fin 2)).isLt (by sl_kernel_rfl : ((cfgM m (ok m)).win 11).nblk (0 : Fin 2) = 1))).symm
      | ⟨1, _⟩ => exact (congrFun (idx m _).2.2.2.2.2.2.2.2.2 1).trans (Nat.lt_one_iff.mp (lt_of_lt_of_eq (β (1 : Fin 2)).isLt (by sl_kernel_rfl : ((cfgM m (ok m)).win 11).nblk (1 : Fin 2) = 1))).symm⟩
theorem final_dx : (dats m (ok m) 0 c).arrAt 6 (cfgM m (ok m)).N = fun y : S4096x1024.Idx => dxf m c (y 0) (y 1) := by
  refine (dats m (ok m) 0 c).arrAt_eq_of_covers 6 _ (cov6 m) fun t hf y => ?_
  blk_simp
  rw [after6]
  refine (congrArg _ (ix2_eta (n0 := 256) (n1 := 1024) y).symm).trans ((outs_dx m c t (y (0 : Fin 2)) (y (1 : Fin 2))).trans (congrArg₂ (dxf m c) (Fin.ext ?_) (Fin.ext ?_)))
  · blk_simp; exact (at_tile _ _ (congrFun (idx m t).2.2.2.2.1 0)).symm
  · blk_simp; exact (at_zero _ _ (congrFun (idx m t).2.2.2.2.1 1)).symm
theorem final_du : (dats m (ok m) 0 c).arrAt 7 (cfgM m (ok m)).N = fun y : S4096x5632.Idx => duA m c (y 0) (y 1) := by
  refine (dats m (ok m) 0 c).arrAt_eq_of_covers 7 _ (cov7 m) fun t hf y => ?_
  blk_simp
  rw [after7]
  refine (congrArg _ (ix2_eta (n0 := 256) (n1 := 5632) y).symm).trans ((outs_du m c t (y (0 : Fin 2)) (y (1 : Fin 2))).trans (congrArg₂ (duA m c) (Fin.ext ?_) (Fin.ext ?_)))
  · blk_simp; exact (at_tile _ _ (congrFun (idx m t).2.2.2.2.2.1 0)).symm
  · blk_simp; exact (at_zero _ _ (congrFun (idx m t).2.2.2.2.2.1 1)).symm
theorem final_act : (dats m (ok m) 0 c).arrAt 8 (cfgM m (ok m)).N = fun y : S4096x2816.Idx => actf m c (y 0) (y 1) := by
  refine (dats m (ok m) 0 c).arrAt_eq_of_covers 8 _ (cov8 m) fun t hf y => ?_
  blk_simp
  rw [after8]
  refine (congrArg _ (ix2_eta (n0 := 256) (n1 := 2816) y).symm).trans ((outs_act m c t (y (0 : Fin 2)) (y (1 : Fin 2))).trans (congrArg₂ (actf m c) (Fin.ext ?_) (Fin.ext ?_)))
  · blk_simp; exact (at_tile _ _ (congrFun (idx m t).2.2.2.2.2.2.1 0)).symm
  · blk_simp; exact (at_zero _ _ (congrFun (idx m t).2.2.2.2.2.2.1 1)).symm
theorem final_h : (dats m (ok m) 0 c).arrAt 9 (cfgM m (ok m)).N = fun y : S4096x1024.Idx => hRow m c (y 0) (y 1) := by
  refine (dats m (ok m) 0 c).arrAt_eq_of_covers 9 _ (cov9 m) fun t hf y => ?_
  blk_simp
  rw [after9]
  refine (congrArg _ (ix2_eta (n0 := 256) (n1 := 1024) y).symm).trans ((outs_h m c t (y (0 : Fin 2)) (y (1 : Fin 2))).trans (congrArg₂ (hRow m c) (Fin.ext ?_) (Fin.ext ?_)))
  · blk_simp; exact (at_tile _ _ (congrFun (idx m t).2.2.2.2.2.2.2.1 0)).symm
  · blk_simp; exact (at_zero _ _ (congrFun (idx m t).2.2.2.2.2.2.2.1 1)).symm
theorem final_dyb : (dats m (ok m) 0 c).arrAt 10 (cfgM m (ok m)).N = fun y : S4096x1024.Idx => (fun r k => md m c (ix2 r k)) (y 0) (y 1) := by
  refine (dats m (ok m) 0 c).arrAt_eq_of_covers 10 _ (cov10 m) fun t hf y => ?_
  blk_simp
  rw [after10]
  refine (congrArg _ (ix2_eta (n0 := 256) (n1 := 1024) y).symm).trans ((outs_dyb m c t (y (0 : Fin 2)) (y (1 : Fin 2))).trans (congrArg₂ ((fun r k => md m c (ix2 r k))) (Fin.ext ?_) (Fin.ext ?_)))
  · blk_simp; exact (at_tile _ _ (congrFun (idx m t).2.2.2.2.2.2.2.2.1 0)).symm
  · blk_simp; exact (at_zero _ _ (congrFun (idx m t).2.2.2.2.2.2.2.2.1 1)).symm
theorem final_dg : (dats m (ok m) 0 c).arrAt 11 (cfgM m (ok m)).N = fun y : S1x1024.Idx => ∑ r : Fin 4096, dgf m c (y 1) r := by
  refine (dats m (ok m) 0 c).arrAt_eq_of_covers 11 _ (cov11 m) fun t hf y => ?_
  blk_simp
  rw [after11, Pipeline.eq_sum_fin_of_reset_step_apply_of_flush (fun n h => (outs m (ok m) c n h).2.2.2.2.2) 16 (fun _ => 0) _
    (fun t h y => outs_dg_A m c t h y) (fun t h y => outs_dg_B m c t h y) t ((flush0_11 _ t).mp hf) y, zero_add]
  have ht := lt16 m t
  have hl := (flush0_11 _ t).mp hf
  refine Fin.sum_mul_add_congr fun s k hl => ?_
  refine congrArg₂ (dgf m c) (Fin.ext ?_) (Fin.ext ?_)
  · blk_simp; exact (at_zero _ _ (congrFun (idx m t).2.2.2.2.2.2.2.2.2 1)).symm
  · show (16 * (t.val / 16) + s.val) * 256 + k.val = s.val * 256 + k.val
    omega

abbrev arr (w : Fin (cfgM m (ok m)).W) := (dats m (ok m) 0 c).arrAt w (cfgM m (ok m)).N
abbrev endV : Valuation τ sig (Elt Ideal) := Pipeline.withArrays (cfgM m (ok m)).spec c (V0 m c) fun w => arr m c w
theorem inj : Function.Injective (Pipeline.arrRef spec0) := by decide
theorem end_dx : endV m c (Proc.devRef .tc main_v23_0) = arr m c 6 := Pipeline.withArrays_arr (cfgM m (ok m)).spec inj c _ _ 6
theorem end_du : endV m c (Proc.devRef .tc main_v23_1) = arr m c 7 := Pipeline.withArrays_arr (cfgM m (ok m)).spec inj c _ _ 7
theorem end_act : endV m c (Proc.devRef .tc main_v23_2) = arr m c 8 := Pipeline.withArrays_arr (cfgM m (ok m)).spec inj c _ _ 8
theorem end_h : endV m c (Proc.devRef .tc main_v23_3) = arr m c 9 := Pipeline.withArrays_arr (cfgM m (ok m)).spec inj c _ _ 9
theorem end_dyb : endV m c (Proc.devRef .tc main_v23_4) = arr m c 10 := Pipeline.withArrays_arr (cfgM m (ok m)).spec inj c _ _ 10
theorem end_dg : endV m c (Proc.devRef .tc main_v23_5) = arr m c 11 := Pipeline.withArrays_arr (cfgM m (ok m)).spec inj c _ _ 11

theorem t_dx (σ : Valuation τ sig (Elt Ideal)) : StableHlo.after hostOps1 σ (Proc.devRef .tc main_v23_0) = σ (Proc.devRef .tc main_v23_0) := by
  entry_read
  rfl
theorem t_du (σ : Valuation τ sig (Elt Ideal)) : StableHlo.after hostOps1 σ (Proc.devRef .tc main_v24) = extf (F := Ideal) .f32 (σ (Proc.devRef .tc main_v23_1)) bitsLt_bf16_f32 := by
  entry_read
  rfl
theorem t_act (σ : Valuation τ sig (Elt Ideal)) : StableHlo.after hostOps1 σ (Proc.devRef .tc main_v25) = extf (F := Ideal) .f32 (σ (Proc.devRef .tc main_v23_2)) bitsLt_bf16_f32 := by
  entry_read
  rfl
theorem t_h (σ : Valuation τ sig (Elt Ideal)) : StableHlo.after hostOps1 σ (Proc.devRef .tc main_v26) = extf (F := Ideal) .f32 (σ (Proc.devRef .tc main_v23_3)) bitsLt_bf16_f32 := by
  entry_read
  rfl
theorem t_dyb (σ : Valuation τ sig (Elt Ideal)) : StableHlo.after hostOps1 σ (Proc.devRef .tc main_v27) = extf (F := Ideal) .f32 (σ (Proc.devRef .tc main_v23_4)) bitsLt_bf16_f32 := by
  entry_read
  rfl
theorem t_dg (σ : Valuation τ sig (Elt Ideal)) : StableHlo.after hostOps1 σ (Proc.devRef .tc main_v28) = shapeCast S1024 (σ (Proc.devRef .tc main_v23_5)) shapeCasts_S1x1024_S1024 := by
  entry_read
  rfl

abbrev Tail (b : Ref sig .tc) : Buf (Elt Ideal) ((c : Thread nD τ).loc b) := Pipeline.afterTail pcfgs (fun _ => adm m (ok m)) (dats m (ok m)) 0 (V0 m) [hostOps1] c b

theorem tail_dx : Tail m c main_v23_0 = fun y : S4096x1024.Idx => dxf m c (y 0) (y 1) :=
  (t_dx (endV m c)).trans ((end_dx m c).trans (final_dx m c))
theorem tail_du : Tail m c main_v24 = fun y : S4096x5632.Idx => duA m c (y 0) (y 1) :=
  (t_du (endV m c)).trans ((congrArg (fun a => extf (F := Ideal) .f32 a bitsLt_bf16_f32) ((end_du m c).trans (final_du m c))).trans rfl)
theorem tail_act : Tail m c main_v25 = fun y : S4096x2816.Idx => actf m c (y 0) (y 1) :=
  (t_act (endV m c)).trans ((congrArg (fun a => extf (F := Ideal) .f32 a bitsLt_bf16_f32) ((end_act m c).trans (final_act m c))).trans rfl)
theorem tail_h : Tail m c main_v26 = fun y : S4096x1024.Idx => hRow m c (y 0) (y 1) :=
  (t_h (endV m c)).trans ((congrArg (fun a => extf (F := Ideal) .f32 a bitsLt_bf16_f32) ((end_h m c).trans (final_h m c))).trans rfl)
theorem tail_dyb : Tail m c main_v27 = md m c :=
  (t_dyb (endV m c)).trans ((congrArg (fun a => extf (F := Ideal) .f32 a bitsLt_bf16_f32) ((end_dyb m c).trans (final_dyb m c))).trans (funext fun y => congrArg (md m c) (ix2_eta y)))
theorem tail_dg : Tail m c main_v28 = fun y : S1024.Idx => ∑ r : Fin 4096, dgf m c (y 0) r := by
  refine (t_dg (endV m c)).trans ((congrArg (fun a => shapeCast S1024 a shapeCasts_S1x1024_S1024) ((end_dg m c).trans (final_dg m c))).trans (funext fun y => ?_))
  rw [← ix1_eta y]
  pointwise

end Cert.FfnIdeal.Val

end
-- ==== Proof.FfnRef.lean ====
/- The feed-forward gradient call: the reference's results, entry by entry. -/
module

public import proofs.«01_k».proof.Proof.SiluGrad
public import proofs.«01_k».proof.Proof.Gen.FfnRefIdeal.Read
public import Idealize.ShloMosaic.Lib.Pointwise

@[expose] public section

set_option maxRecDepth 16384

noncomputable section

namespace Cert.FfnRefIdeal.Val

open Idealize.ShloMosaic Cert.FfnRefIdeal Cert.FfnRefIdeal.Gen Cert.FfnRefIdeal.Read Cert.NormGrad Cert.SiluGrad

abbrev cN : EReal := Ideal.ofBits .f32 1149239296#32
abbrev cE : EReal := Ideal.ofBits .f32 897988541#32

/-- Two halves side by side. -/
theorem halves_at (p q : FVec Ideal S4096x2816 .f32) (r : Fin 4096) (f : Fin 5632) :
    concatenate S4096x5632 1 [⟨S4096x2816, p⟩, ⟨S4096x2816, q⟩] concatenates_S4096x2816_S4096x2816_S4096x5632_d1 (ix2 r f)
      = if h : f.val < 2816 then p (ix2 r ⟨f.val, h⟩) else q (ix2 r ⟨f.val - 2816, by omega⟩) := by
  pointwise []

section
variable (x : FVec Ideal S4096x1024 .f32) (g : FVec Ideal S1024 .f32) (w : FVec Ideal S1024x5632 .f32) (o : FVec Ideal S2816x1024 .f32) (d : FVec Ideal S4096x1024 .f32)

/-- The gates, and the gradient at the activation. -/
def ur (r : Fin 4096) (f : Fin 5632) : EReal := ∑ k : Fin 1024, x (ix2 r k) * inv cN cE (fun k => x (ix2 r k)) * g (ix1 k) * w (ix2 k f)
def er (r : Fin 4096) (f : Fin 2816) : EReal := ∑ k : Fin 1024, d (ix2 r k) * o (ix2 f k)

theorem h_at (r : Fin 4096) (k : Fin 1024) : val_main_v12 (F := Ideal) x g (ix2 r k) = x (ix2 r k) * inv cN cE (fun k => x (ix2 r k)) * g (ix1 k) := by
  pointwise [val_main_v12, val_main_v11, val_main_v10, val_main_v9, val_main_v8, val_main_v7, val_main_v6, val_main_v5, val_main_cst_1, val_main_v4, val_main_v3, val_main_cst_0, val_main_v2, val_main_v1, val_main_cst, val_main_v0]
  rfl
theorem au_at (r : Fin 4096) (f : Fin 5632) : val_main_v30 (F := Ideal) x g w (ix2 r f) = ur x g w r f := by
  pointwise [val_main_v30, val_main_v29, val_main_v28, val_main_v27, val_main_v26, val_main_v25, val_main_v21, val_main_v20, val_main_v19, val_main_cst_4, val_main_v18, val_main_v17, val_main_cst_3, val_main_v16, val_main_v15, val_main_cst_2, val_main_v14]
  rfl
theorem bu_at (r : Fin 4096) (f : Fin 5632) : val_main_v13 (F := Ideal) x g w (ix2 r f) = ur x g w r f := by
  pointwise [val_main_v13, val_main_v12, val_main_v11, val_main_v10, val_main_v9, val_main_v8, val_main_v7, val_main_v6, val_main_v5, val_main_cst_1, val_main_v4, val_main_v3, val_main_cst_0, val_main_v2, val_main_v1, val_main_cst, val_main_v0]
  rfl
theorem ae_at (r : Fin 4096) (f : Fin 2816) : val_main_v38 (F := Ideal) o d (ix2 r f) = er o d r f := by
  pointwise [val_main_v38, val_main_v37]
  rfl
theorem be_at (r : Fin 4096) (f : Fin 2816) : val_main_v70 (F := Ideal) o d (ix2 r f) = er o d r f := by
  pointwise [val_main_v70]
  rfl

theorem agate_at (r : Fin 4096) (f : Fin 2816) : val_main_v41 (F := Ideal) x g w o d (ix2 r f) = gR (er o d r f) (ur x g w r ⟨f.val, by omega⟩) (ur x g w r ⟨2816 + f.val, by omega⟩) := by
  rw [← au_at, ← au_at, ← ae_at]
  pointwise [val_main_v41, val_main_call1_v2, val_main_v33_1, val_main_call0_v7, val_main_v33_2, val_main_call0_v3, val_main_call0_v1, val_main_call0_v0, val_main_v31, val_main_call0_v2, val_main_call0_cst, val_main_call0_v4, val_main_call0_cst_0, val_main_call0_v6, val_main_call0_cst_1, val_main_call1_v0, val_main_v40, val_main_v32, val_main_call1_v1]
  rfl
theorem aup_at (r : Fin 4096) (f : Fin 2816) : val_main_v39 (F := Ideal) x g w o d (ix2 r f) = uR (er o d r f) (ur x g w r ⟨f.val, by omega⟩) := by
  rw [← au_at, ← ae_at]
  pointwise [val_main_v39, val_main_v33_0, val_main_v33_2, val_main_call0_v3, val_main_call0_v1, val_main_call0_v0, val_main_v31, val_main_call0_v2, val_main_call0_cst, val_main_call0_v4, val_main_call0_cst_0]
  rfl
theorem adu_at (r : Fin 4096) (f : Fin 5632) : val_main_v42 (F := Ideal) x g w o d (ix2 r f) = rowR (er o d r) (ur x g w r) f := by
  unfold val_main_v42
  refine (halves_at _ _ r f).trans ?_
  unfold rowR
  refine dite_congr rfl (fun h => ?_) fun h => ?_
  · exact agate_at x g w o d r ⟨f.val, h⟩
  · exact aup_at x g w o d r ⟨f.val - 2816, by omega⟩

theorem bgate_at (r : Fin 4096) (f : Fin 2816) : val_main_v73 (F := Ideal) x g w o d (ix2 r f) = gR (er o d r f) (ur x g w r ⟨f.val, by omega⟩) (ur x g w r ⟨2816 + f.val, by omega⟩) := by
  rw [← bu_at, ← bu_at, ← be_at]
  pointwise [val_main_v73, val_main_call3_v2, val_main_v67_1, val_main_call2_v7, val_main_v67_2, val_main_call2_v3, val_main_call2_v1, val_main_call2_v0, val_main_v65, val_main_call2_v2, val_main_call2_cst, val_main_call2_v4, val_main_call2_cst_0, val_main_call2_v6, val_main_call2_cst_1, val_main_call3_v0, val_main_v72, val_main_v66, val_main_call3_v1]
  rfl
theorem bup_at (r : Fin 4096) (f : Fin 2816) : val_main_v71 (F := Ideal) x g w o d (ix2 r f) = uR (er o d r f) (ur x g w r ⟨f.val, by omega⟩) := by
  rw [← bu_at, ← be_at]
  pointwise [val_main_v71, val_main_v67_0, val_main_v67_2, val_main_call2_v3, val_main_call2_v1, val_main_call2_v0, val_main_v65, val_main_call2_v2, val_main_call2_cst, val_main_call2_v4, val_main_call2_cst_0]
  rfl
theorem bdu_at (r : Fin 4096) (f : Fin 5632) : val_main_v74 (F := Ideal) x g w o d (ix2 r f) = rowR (er o d r) (ur x g w r) f := by
  unfold val_main_v74
  refine (halves_at _ _ r f).trans ?_
  unfold rowR
  refine dite_congr rfl (fun h => ?_) fun h => ?_
  · exact bgate_at x g w o d r ⟨f.val, h⟩
  · exact bup_at x g w o d r ⟨f.val - 2816, by omega⟩

theorem act_at (r : Fin 4096) (f : Fin 2816) : val_main_v78 (F := Ideal) x g w (ix2 r f) = tR (ur x g w r ⟨f.val, by omega⟩) (ur x g w r ⟨2816 + f.val, by omega⟩) := by
  rw [← bu_at, ← bu_at]
  pointwise [val_main_v78, val_main_v76, val_main_v77, val_main_call4_v5, val_main_call4_v3, val_main_call4_v1, val_main_call4_v0, val_main_v75, val_main_call4_v2, val_main_call4_cst, val_main_call4_v4, val_main_call4_cst_0]
  rfl

/-- The gradient of the scaled row. -/
def hr (r : Fin 4096) (k : Fin 1024) : EReal := ∑ f : Fin 5632, rowR (er o d r) (ur x g w r) f * w (ix2 k f)
theorem dh_at (r : Fin 4096) (k : Fin 1024) : val_main_v43 (F := Ideal) x g w o d (ix2 r k) = hr x g w o d r k := by
  refine Eq.trans ?_ (Finset.sum_congr rfl fun f _ => congrArg (· * w (ix2 k f)) (adu_at x g w o d r f))
  pointwise [val_main_v43]

theorem dx_at (r : Fin 4096) (j : Fin 1024) : val_main_v64 (F := Ideal) x g w o d (ix2 r j)
    = d (ix2 r j) + far cN cE (Ideal.ofBits .f32 3204448256#32) (fun k => x (ix2 r k)) (fun k => hr x g w o d r k * g (ix1 k)) j := by
  simp only [← dh_at]
  unfold far
  rw [← add_assoc, ← add_assoc]
  pointwise [val_main_v64, val_main_v63, val_main_v60, val_main_v59, val_main_cst_10, val_main_v58, val_main_v57, val_main_cst_9, val_main_v56, val_main_v24, val_main_v22, val_main_v20, val_main_v19, val_main_cst_4, val_main_v18, val_main_v17, val_main_cst_3, val_main_v16, val_main_v15, val_main_cst_2, val_main_v14, val_main_v21, val_main_v23, val_main_cst_5, val_main_v52, val_main_v51, val_main_cst_8, val_main_v50, val_main_v48, val_main_v47, val_main_v27, val_main_v62, val_main_v61, val_main_v55, val_main_v54, val_main_v53]
  rfl
theorem dg_at (j : Fin 1024) : val_main_v49 (F := Ideal) x g w o d (ix1 j)
    = ∑ r : Fin 4096, hr x g w o d r j * (x (ix2 r j) * inv cN cE (fun k => x (ix2 r k))) := by
  simp only [← dh_at]
  pointwise [val_main_v49, val_main_cst_7, val_main_v46, val_main_v45, val_main_cst_6, val_main_v44, val_main_v26, val_main_v25, val_main_v21, val_main_v20, val_main_v19, val_main_cst_4, val_main_v18, val_main_v17, val_main_cst_3, val_main_v16, val_main_v15, val_main_cst_2, val_main_v14]
  simp only [Finset.univ_unique, Finset.sum_singleton]
  exact Finset.sum_congr rfl fun r _ => mul_comm _ _
end

end Cert.FfnRefIdeal.Val

end
-- ==== Proof.FfnMain.lean ====
/- The claims about the feed-forward layer's gradient call. -/
module

public import proofs.«01_k».proof.Defs
public import proofs.«01_k».proof.Proof.FfnOut
public import proofs.«01_k».proof.Proof.FfnRef
public import proofs.«01_k».proof.Proof.InProjMain
public import proofs.«01_k».proof.Proof.Gen.Ffn.Skeleton
public import proofs.«01_k».proof.Proof.Gen.FfnRefIdeal.Run
public import proofs.«01_k».proof.Proof.Gen.Pre_ffn_finite

@[expose] public section

set_option maxRecDepth 16384

noncomputable section

namespace Cert.FfnProof

open Idealize.ShloMosaic Idealize.ShloMosaic.TcCoe Idealize.SL.Sem
open Cert.Reals Cert.NormGrad Cert.SiluGrad
open Cert.InProjProof (both c1024 dx_forms)

instance one_index : Subsingleton Cert.Pre_ffn_finite.S_.Idx := ⟨fun a b => funext fun x => x.elim0⟩

section
open Cert.Pre_ffn_finite Cert.Pre_ffn_finite.Gen
/-- What the precondition says: every element of every argument is real. -/
theorem real_args (x0 : FVec Ideal S4096x1024 .f32) (x1 : FVec Ideal S1024 .f32) (x2 : FVec Ideal S1024x5632 .f32) (x3 : FVec Ideal S2816x1024 .f32) (x4 : FVec Ideal S4096x1024 .f32)
    (h : fn (F := Ideal) x0 x1 x2 x3 x4 = fun _ => 1#1) :
    (∀ y, ∃ r : ℝ, x0 y = (r : EReal)) ∧ (∀ y, ∃ r : ℝ, x1 y = (r : EReal)) ∧ (∀ y, ∃ r : ℝ, x2 y = (r : EReal))
    ∧ (∀ y, ∃ r : ℝ, x3 y = (r : EReal)) ∧ (∀ y, ∃ r : ℝ, x4 y = (r : EReal)) := by
  have e := congrFun h ix0
  unfold fn fn_part1 at e
  dsimp only at e
  obtain ⟨e, e4⟩ := both e
  obtain ⟨e, e3⟩ := both e
  obtain ⟨e, e2⟩ := both e
  obtain ⟨e0, e1⟩ := both e
  exact ⟨fun y => real_of_abs (Host.reduce_andi_all _ _ _ _ _ e0 y), fun y => real_of_abs (Host.reduce_andi_all _ _ _ _ _ e1 y),
    fun y => real_of_abs (Host.reduce_andi_all _ _ _ _ _ e2 y), fun y => real_of_abs (Host.reduce_andi_all _ _ _ _ _ e3 y),
    fun y => real_of_abs (Host.reduce_andi_all _ _ _ _ _ e4 y)⟩
end

section
open Cert.FfnIdeal
/-- The frame of the program as it stands, over any floats. -/
def Keeps (F : FTy → Type) [FloatOps F] : Prop := ∀ (m : (ℓ : Loc nD τ sig) → Buf (Elt F) ℓ) (g : Dev nD → PrngReg), True →
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0)
theorem keeps (F : FTy → Type) [FloatOps F] : Keeps F := fun m ρ _ => Cert.FfnIdeal.Body.frame m ρ (Cert.FfnIdeal.Val.ok m)
end
theorem same : Keeps Bits = Cert.quiescent_Ffn := by sl_kernel_rfl
theorem frame : Cert.quiescent_Ffn := same.mp (keeps Bits)
theorem frame_ideal : Cert.quiescent_FfnIdeal := fun m ρ _ => Cert.FfnIdeal.Body.frame m ρ (Cert.FfnIdeal.Val.ok m)
theorem frame_ideal_finite : Cert.quiescent_FfnIdeal_pre_ffn_finite := fun m ρ _ => Cert.FfnIdeal.Body.frame m ρ (Cert.FfnIdeal.Val.ok m)
theorem frame_ref : Cert.quiescent_FfnRefIdeal := fun m ρ _ =>
  (θ_run Cert.FfnRefIdeal.defs _ _).mono (fun r h => ⟨fun c => (h c).2.2.2.2.2.2, sem_eq_zero_of_no_sems (by decide) r.2⟩)
    (Cert.FfnRefIdeal.Value.run (F := Ideal) m ρ)
theorem frame_ref_finite : Cert.quiescent_FfnRefIdeal_pre_ffn_finite := fun m ρ _ => frame_ref m ρ trivial

section
variable {n : ℕ} (p q : Fin n → EReal)
/-- A sum of products of reals is real. -/
theorem dot_real (hp : ∀ k, ∃ r : ℝ, p k = (r : EReal)) (hq : ∀ k, ∃ r : ℝ, q k = (r : EReal)) : ∃ r : ℝ, ∑ k, p k * q k = (r : EReal) := by
  choose a ea using hp
  choose b eb using hq
  refine ⟨∑ k, a k * b k, ?_⟩
  rw [← coe_sum]
  exact Finset.sum_congr rfl fun k _ => by rw [ea, eb, EReal.coe_mul]
end

/-- The reciprocal root mean square of a real row is real. -/
theorem inv_is_real (x : Fin 1024 → EReal) (hx : ∀ k, ∃ r : ℝ, x k = (r : EReal)) :
    ∃ r : ℝ, inv (Ideal.ofBits .f32 1149239296#32) (Ideal.ofBits .f32 897988541#32) x = (r : EReal) := by
  choose a ea using hx
  obtain rfl := funext ea
  obtain ⟨e, he, ee⟩ := eps_f32
  rw [c1024, ee]
  exact ⟨_, inv_real 1024 e (by norm_num) he a⟩

/-- On real rows both forms of the layer's gradient row agree. -/
theorem rows (e : Fin 2816 → EReal) (u : Fin 5632 → EReal) (he : ∀ k, ∃ r : ℝ, e k = (r : EReal)) (hu : ∀ k, ∃ r : ℝ, u k = (r : EReal)) (f : Fin 5632) :
    rowK e u f = rowR e u f ∧ ∃ r : ℝ, rowK e u f = (r : EReal) := by
  choose a ea using he
  choose b eb using hu
  obtain rfl := funext ea
  obtain rfl := funext eb
  exact ⟨row_eq a b f, row_real a b f⟩

theorem acts (a b : EReal) (ha : ∃ r : ℝ, a = (r : EReal)) (hb : ∃ r : ℝ, b = (r : EReal)) : tK a b = tR a b := by
  obtain ⟨a, rfl⟩ := ha
  obtain ⟨b, rfl⟩ := hb
  exact t_eq a b

open Cert.FfnIdeal Cert.FfnIdeal.Gen Cert.FfnIdeal.Val in
/-- The results of the kernel are the reference's. -/
theorem values (m : (ℓ : Loc nD τ sig) → Buf (Elt Ideal) ℓ) (c : Dev nD)
    (h : Cert.Pre_ffn_finite.fn (F := Ideal) (mx m c) (mg m c) (mw m c) (mo m c) (md m c) = fun _ => 1#1) :
    (∀ (r : Fin 4096) (j : Fin 1024), Cert.FfnRefIdeal.Read.val_main_v64 (F := Ideal) (mx m c) (mg m c) (mw m c) (mo m c) (md m c) (ix2 r j) = dxf m c r j)
    ∧ (∀ (r : Fin 4096) (f : Fin 5632), Cert.FfnRefIdeal.Read.val_main_v74 (F := Ideal) (mx m c) (mg m c) (mw m c) (mo m c) (md m c) (ix2 r f) = duA m c r f)
    ∧ (∀ (r : Fin 4096) (f : Fin 2816), Cert.FfnRefIdeal.Read.val_main_v78 (F := Ideal) (mx m c) (mg m c) (mw m c) (ix2 r f) = actf m c r f)
    ∧ (∀ (r : Fin 4096) (k : Fin 1024), Cert.FfnRefIdeal.Read.val_main_v12 (F := Ideal) (mx m c) (mg m c) (ix2 r k) = hRow m c r k)
    ∧ (∀ j : Fin 1024, Cert.FfnRefIdeal.Read.val_main_v49 (F := Ideal) (mx m c) (mg m c) (mw m c) (mo m c) (md m c) (ix1 j) = ∑ r : Fin 4096, dgf m c j r) := by
  obtain ⟨hx, hg, hw, ho, hd⟩ := real_args _ _ _ _ _ h
  have ue : ∀ r, Cert.FfnRefIdeal.Val.ur (mx m c) (mg m c) (mw m c) r = uA m c r := fun r => funext fun f => (uHost_at _ _ _ r f).symm
  have ee : ∀ r, Cert.FfnRefIdeal.Val.er (mo m c) (md m c) r = eA m c r := fun r => rfl
  have ur : ∀ r f, ∃ a : ℝ, uA m c r f = (a : EReal) := fun r f => by
    rw [← ue]
    refine dot_real _ _ (fun k => ?_) fun k => hw _
    obtain ⟨a, ea⟩ := hx (ix2 r k)
    obtain ⟨i, ei⟩ := inv_is_real (fun k => mx m c (ix2 r k)) fun k => hx _
    obtain ⟨b, eb⟩ := hg (ix1 k)
    exact ⟨a * i * b, by rw [EReal.coe_mul, EReal.coe_mul, ← ea, ← ei, ← eb]⟩
  have er : ∀ r f, ∃ a : ℝ, eA m c r f = (a : EReal) := fun r f => dot_real _ _ (fun k => hd _) fun k => ho _
  have de : ∀ r f, rowR (eA m c r) (uA m c r) f = duA m c r f := fun r f => (rows _ _ (er r) (ur r) f).1.symm
  have dr : ∀ r f, ∃ a : ℝ, duA m c r f = (a : EReal) := fun r f => (rows _ _ (er r) (ur r) f).2
  have he : ∀ r, Cert.FfnRefIdeal.Val.hr (mx m c) (mg m c) (mw m c) (mo m c) (md m c) r = dhA m c r := fun r => funext fun k => by
    unfold Cert.FfnRefIdeal.Val.hr dhA
    rw [ue, ee]
    exact Finset.sum_congr rfl fun f _ => by rw [de]
  have hr : ∀ r k, ∃ a : ℝ, dhA m c r k = (a : EReal) := fun r k => dot_real _ _ (dr r) fun f => hw _
  refine ⟨fun r j => ?_, fun r f => ?_, fun r f => ?_, fun r k => ?_, fun j => ?_⟩
  · refine (Cert.FfnRefIdeal.Val.dx_at _ _ _ _ _ r j).trans ?_
    rw [he]
    exact dx_forms _ _ _ _ _ (fun k => hx _) (hr _) (fun k => hg _)
  · refine (Cert.FfnRefIdeal.Val.bdu_at _ _ _ _ _ r f).trans ?_
    rw [ue, ee]
    exact de _ _
  · refine (Cert.FfnRefIdeal.Val.act_at _ _ _ r f).trans ?_
    rw [ue]
    exact (acts _ _ (ur _ _) (ur _ _)).symm
  · exact Cert.FfnRefIdeal.Val.h_at _ _ r k
  · refine (Cert.FfnRefIdeal.Val.dg_at _ _ _ _ _ j).trans ?_
    exact Finset.sum_congr rfl fun r _ => by rw [he]; rfl

/-- Two arrays of rows that agree at every row and column are equal. -/
theorem rows_eq {a b : ℕ} {t : FTy} (v : FVec Ideal ⟨2, ![a, b]⟩ t) (f : Fin a → Fin b → EReal) (h : ∀ r j, v (ix2 r j) = f r j) : v = fun y => f (y 0) (y 1) :=
  funext fun y => (congrArg v (ix2_eta y).symm).trans (h (y 0) (y 1))
theorem row_eq1 {a : ℕ} {t : FTy} (v : FVec Ideal ⟨1, ![a]⟩ t) (f : Fin a → EReal) (h : ∀ j, v (ix1 j) = f j) : v = fun y => f (y 0) :=
  funext fun y => (congrArg v (ix1_eta y).symm).trans (h (y 0))

open Cert.FfnIdeal Cert.FfnIdeal.Gen Cert.FfnIdeal.Val in
theorem run_results (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v23_0) = Tail m c main_v23_0
      ∧ r.2.mem ((c.tc : Thread nD τ).loc main_v24) = Tail m c main_v24
      ∧ r.2.mem ((c.tc : Thread nD τ).loc main_v25) = Tail m c main_v25
      ∧ r.2.mem ((c.tc : Thread nD τ).loc main_v26) = Tail m c main_v26
      ∧ r.2.mem ((c.tc : Thread nD τ).loc main_v27) = Tail m c main_v27
      ∧ r.2.mem ((c.tc : Thread nD τ).loc main_v28) = Tail m c main_v28) := by
  refine θ_run_mono (Cert.FfnIdeal.Body.run_main m g (ok m)) ?_
  intro r h c
  exact ⟨((h c).1 6).trans ((end_dx m c).symm.trans (t_dx (endV m c)).symm), (h c).2 main_v24 (by decide : main_v24 ∈ Pipeline.restRefs sig spec0), (h c).2 main_v25 (by decide : main_v25 ∈ Pipeline.restRefs sig spec0), (h c).2 main_v26 (by decide : main_v26 ∈ Pipeline.restRefs sig spec0), (h c).2 main_v27 (by decide : main_v27 ∈ Pipeline.restRefs sig spec0), (h c).2 main_v28 (by decide : main_v28 ∈ Pipeline.restRefs sig spec0)⟩

open Cert.FfnIdeal Cert.FfnIdeal.Gen Cert.FfnIdeal.Val in
theorem algebraic : Cert.algebraic_FfnIdeal_FfnRefIdeal_pre_ffn_finite := by
  intro m g m' g' hpre hagree
  refine ⟨fun c => Tail m c main_v23_0, fun c => Tail m c main_v24, fun c => Tail m c main_v25, fun c => Tail m c main_v26, fun c => Tail m c main_v27,
    fun c => Tail m c main_v28, ?_, ?_⟩
  · refine θ_run_mono (θ_run_and (run_results m g) (Cert.FfnIdeal.Body.frame m g (ok m))) ?_
    intro r h c
    obtain ⟨h1, h2, h3, h4, h5, h6⟩ := h.1 c
    exact ⟨h1, h2, h3, h4, h5, h6, h.2.1 c⟩
  · refine θ_run_mono (Cert.FfnRefIdeal.Value.run (F := Ideal) m' g') ?_
    intro r h c
    obtain ⟨h1, h2, h3, h4, h5, h6, h7⟩ := h c
    obtain ⟨a0, a1, a2, a3, a4⟩ := hagree c
    obtain ⟨r1, r2, r3, r4, r5⟩ := values m c (hpre c)
    refine ⟨h1.trans ?_, h2.trans ?_, (h3.trans (Cert.FfnRefIdeal.Read.val_main_v78_eq _ _ _)).trans ?_, (h4.trans (Cert.FfnRefIdeal.Read.val_main_v12_eq _ _)).trans ?_,
      h5.trans (a4.trans (tail_dyb m c).symm), h6.trans ?_, h7⟩
    · rw [Cert.FfnRefIdeal.Read.val_main_v64_eq, a0, a1, a2, a3, a4]; exact (rows_eq (t := .f32) _ _ r1).trans (tail_dx m c).symm
    · rw [Cert.FfnRefIdeal.Read.val_main_v74_eq, a0, a1, a2, a3, a4]; exact (rows_eq (t := .f32) _ _ r2).trans (tail_du m c).symm
    · rw [a0, a1, a2]; exact (rows_eq (t := .f32) _ _ r3).trans (tail_act m c).symm
    · rw [a0, a1]; exact (rows_eq (t := .f32) _ _ r4).trans (tail_h m c).symm
    · rw [Cert.FfnRefIdeal.Read.val_main_v49_eq, a0, a1, a2, a3, a4]; exact (row_eq1 (t := .f32) _ _ r5).trans (tail_dg m c).symm

end Cert.FfnProof

end
-- ==== Proof.PostMath.lean ====
/- Sums that the gradient of the head norms and of the running log-decay needs. -/
module

public import proofs.«01_k».proof.Proof.SiluGrad

@[expose] public section

noncomputable section

namespace Cert.PostMath

open Idealize.ShloMosaic Cert.NormGrad Cert.SiluGrad

/-- The column of a lane of a head. -/
def hl (h : Fin 8) (l : Fin 64) : Fin 512 := ⟨h.val * 64 + l.val, by omega⟩
/-- The head and the lane of a column. -/
def hd (j : Fin 512) : Fin 8 := ⟨j.val / 64, by omega⟩
def ln (j : Fin 512) : Fin 64 := ⟨j.val % 64, by omega⟩
theorem hl_hd (j : Fin 512) : hl (hd j) (ln j) = j := Fin.ext (by show j.val / 64 * 64 + j.val % 64 = j.val; omega)
theorem hd_hl (h : Fin 8) (l : Fin 64) : hd (hl h l) = h := Fin.ext (by show (h.val * 64 + l.val) / 64 = h.val; omega)
theorem ln_hl (h : Fin 8) (l : Fin 64) : ln (hl h l) = l := Fin.ext (by show (h.val * 64 + l.val) % 64 = l.val; omega)

/-- A sum over columns, head by head. -/
theorem sum_heads {M : Type} [AddCommMonoid M] (f : Fin 512 → M) : ∑ k, f k = ∑ h : Fin 8, ∑ l : Fin 64, f (hl h l) := by
  rw [← Fintype.sum_prod_type']
  refine (Equiv.sum_comp (⟨fun p => hl p.1 p.2, fun k => (hd k, ln k), fun p => ?_, fun k => hl_hd k⟩ : Fin 8 × Fin 64 ≃ Fin 512) f).symm
  exact Prod.ext (hd_hl _ _) (ln_hl _ _)

/-- A sum over columns in which only the columns of one head count. -/
theorem sum_seg (f : Fin 512 → EReal) (u : EReal) (j : Fin 512) :
    ∑ k, f k * (if k.val / 64 = j.val / 64 then u else 0) = ∑ l : Fin 64, f (hl (hd j) l) * u := by
  rw [sum_heads, Finset.sum_eq_single (hd j)]
  · refine Finset.sum_congr rfl fun l _ => congrArg _ (if_pos ?_)
    exact congrArg Fin.val (hd_hl (hd j) l)
  · intro h _ hne
    refine Finset.sum_eq_zero fun l _ => ?_
    rw [if_neg, mul_zero]
    intro e
    exact hne (Fin.ext ((congrArg Fin.val (hd_hl h l)).symm.trans e))
  · intro h; exact absurd (Finset.mem_univ _) h

/-- The row of a tile, the tiles counted from the last. -/
def rowOf (t : Fin 16) (r : Fin 256) : Fin 4096 := ⟨(15 - t.val) * 256 + r.val, by omega⟩

theorem sum_rows {M : Type} [AddCommMonoid M] (f : Fin 4096 → M) : ∑ R, f R = ∑ t : Fin 16, ∑ r : Fin 256, f (rowOf t r) := by
  rw [← Fintype.sum_prod_type']
  refine (Equiv.sum_comp (⟨fun p => rowOf p.1 p.2, fun k => (⟨15 - k.val / 256, by omega⟩, ⟨k.val % 256, by omega⟩), fun p => ?_, fun k => ?_⟩ : Fin 16 × Fin 256 ≃ Fin 4096) f).symm
  · refine Prod.ext (Fin.ext ?_) (Fin.ext ?_)
    · show 15 - ((15 - p.1.val) * 256 + p.2.val) / 256 = p.1.val
      omega
    · show ((15 - p.1.val) * 256 + p.2.val) % 256 = p.2.val
      omega
  · refine Fin.ext ?_
    show (15 - (15 - k.val / 256)) * 256 + k.val % 256 = k.val
    omega

/-- What the later tiles add up to. -/
def later {M : Type} [AddCommMonoid M] (D : Fin 4096 → M) : ℕ → M
  | 0 => 0
  | n + 1 => (if h : n < 16 then ∑ r : Fin 256, D (rowOf ⟨n, h⟩ r) else 0) + later D n

theorem later_eq {M : Type} [AddCommMonoid M] (D : Fin 4096 → M) (n : ℕ) (hn : n ≤ 16) :
    later D n = ∑ t : Fin 16, if t.val < n then ∑ r : Fin 256, D (rowOf t r) else 0 := by
  induction n with
  | zero => simp [later]
  | succ n ih =>
    rw [later, dif_pos (show n < 16 by omega), ih (by omega)]
    have e : ∀ t : Fin 16, (if t.val < n + 1 then ∑ r : Fin 256, D (rowOf t r) else 0)
        = (if t = ⟨n, by omega⟩ then ∑ r : Fin 256, D (rowOf t r) else 0) + (if t.val < n then ∑ r : Fin 256, D (rowOf t r) else 0) := by
      intro t
      by_cases h1 : t.val < n
      · rw [if_pos (by omega), if_neg (fun e => by have := congrArg Fin.val e; simp at this; omega), if_pos h1, zero_add]
      · by_cases h2 : t = ⟨n, by omega⟩
        · rw [if_pos (by rw [h2]; simp), if_pos h2, if_neg h1, add_zero]
        · rw [if_neg (fun h => h2 (Fin.ext (by show t.val = n; omega))), if_neg h2, if_neg h1, add_zero]
    rw [Finset.sum_congr rfl fun t _ => e t, Finset.sum_add_distrib, Finset.sum_ite_eq' Finset.univ (⟨n, by omega⟩ : Fin 16), if_pos (Finset.mem_univ _)]

/-- The rows of the tile from one row on, and the later tiles, are all rows from that row on. -/
theorem suffix {M : Type} [AddCommMonoid M] (D : Fin 4096 → M) (t : Fin 16) (r : Fin 256) :
    (∑ k : Fin 256, if r.val ≤ k.val then D (rowOf t k) else 0) + later D t.val = ∑ R : Fin 4096, if (rowOf t r).val ≤ R.val then D R else 0 := by
  rw [later_eq D t.val (by omega), sum_rows]
  have e : ∀ s : Fin 16, (∑ k : Fin 256, if (rowOf t r).val ≤ (rowOf s k).val then D (rowOf s k) else 0)
      = (if s = t then ∑ k : Fin 256, if r.val ≤ k.val then D (rowOf t k) else 0 else 0) + (if s.val < t.val then ∑ k : Fin 256, D (rowOf s k) else 0) := by
    intro s
    by_cases h1 : s.val < t.val
    · rw [if_neg (fun e => by rw [e] at h1; omega), if_pos h1, zero_add]
      refine Finset.sum_congr rfl fun k _ => if_pos ?_
      show (15 - t.val) * 256 + r.val ≤ (15 - s.val) * 256 + k.val
      omega
    · by_cases h2 : s = t
      · subst h2
        rw [if_pos rfl, if_neg h1, add_zero]
        refine Finset.sum_congr rfl fun k _ => if_congr ?_ rfl rfl
        show (15 - s.val) * 256 + r.val ≤ (15 - s.val) * 256 + k.val ↔ _
        omega
      · have h3 : t.val < s.val := by
          have : s.val ≠ t.val := fun e => h2 (Fin.ext e)
          omega
        rw [if_neg h2, if_neg h1, add_zero]
        refine Finset.sum_eq_zero fun k _ => if_neg ?_
        show ¬ (15 - t.val) * 256 + r.val ≤ (15 - s.val) * 256 + k.val
        omega
  rw [Finset.sum_congr rfl fun s _ => e s, Finset.sum_add_distrib, Finset.sum_ite_eq' Finset.univ t, if_pos (Finset.mem_univ _)]

/-- The factor of a head's row, its squares already divided. -/
def kinv (u E : EReal) (x : Fin 64 → EReal) : EReal := Ideal.rsqrt ((∑ l, x l * x l * u) + E)
/-- The gradient of a head's row as the kernel has it. -/
def knear (u E : EReal) (x h : Fin 64 → EReal) (l : Fin 64) : EReal :=
  kinv u E x * (h l - x l * kinv u E x * ∑ k, x k * kinv u E x * h k * u)

theorem kinv_eq (e : ℝ) (he : 0 < e) (x : Fin 64 → ℝ) :
    kinv ((1 / 64 : ℝ) : EReal) (e : EReal) (fun l => ((x l : ℝ) : EReal)) = Cert.NormGrad.inv ((64 : ℝ) : EReal) (e : EReal) (fun l => ((x l : ℝ) : EReal)) := by
  unfold kinv Cert.NormGrad.inv ms
  simp only [← EReal.coe_mul, Cert.Reals.coe_sum, Cert.Reals.div_real _ (show (64 : ℝ) ≠ 0 by norm_num)]
  rw [← Finset.sum_mul]
  congr 4
  ring
theorem knear_eq (e : ℝ) (he : 0 < e) (x h : Fin 64 → ℝ) (l : Fin 64) :
    knear ((1 / 64 : ℝ) : EReal) (e : EReal) (fun l => ((x l : ℝ) : EReal)) (fun l => ((h l : ℝ) : EReal)) l
      = near ((64 : ℝ) : EReal) (e : EReal) (fun l => ((x l : ℝ) : EReal)) (fun l => ((h l : ℝ) : EReal)) l := by
  unfold knear near
  rw [kinv_eq e he, inv_real 64 e (by norm_num) he]
  simp only [← EReal.coe_mul, Cert.Reals.coe_sum, Cert.Reals.div_real _ (show (64 : ℝ) ≠ 0 by norm_num)]
  rw [← Finset.sum_mul]
  congr 4
  ring

/-- One minus the logistic function, by way of the exponential of a difference. -/
theorem exp_sub_log (y : ℝ) : Ideal.exp ((y : EReal) - ((max y 0 + Real.log (1 + Real.exp (-|y|)) : ℝ) : EReal)) = sgK (y : EReal) := by
  rw [sgK_real, ← EReal.coe_sub, Ideal.exp_coe]
  congr 1
  have hp : (0 : ℝ) < 1 + Real.exp (-|y|) := by positivity
  rw [sub_add_eq_sub_sub, Real.exp_sub, Real.exp_log hp]
  rcases le_total 0 y with h | h
  · rw [max_eq_left h, abs_of_nonneg h]; simp
  · rw [max_eq_right h, abs_of_nonpos h, neg_neg, sub_zero]
    have e : Real.exp y * Real.exp (-y) = 1 := by rw [← Real.exp_add]; simp
    have h1 := Real.exp_pos y
    have h2 := Real.exp_pos (-y)
    rw [div_eq_div_iff (by positivity) (by positivity)]
    nlinarith

end Cert.PostMath

end
-- ==== Proof.PostPay.lean ====
/- The gradient call of the head norms and gates: what one point of its grid computes, from the arrays it loads. -/
module

public import proofs.«01_k».proof.Proof.Gen.PostIdeal.Skeleton
public import proofs.«01_k».proof.Proof.PostMath
public import Idealize.ShloMosaic.Lib.WordCmp

@[expose] public section

set_option maxRecDepth 16384

noncomputable section

namespace Cert.PostIdeal.Val

open Idealize.ShloMosaic Idealize.ShloMosaic.TcCoe Idealize.SL.Sem
open Cert.PostIdeal Cert.PostIdeal.Gen Cert.SiluGrad Cert.PostMath

/-- A choice by the order of two small words. -/
theorem sel_lt (a b : ℕ) (ha : a < 2 ^ 31) (hb : b < 2 ^ 31) (x y : EReal) :
    Scalar.select (IntOp.cmpi .slt (BitVec.ofNat 32 a) (BitVec.ofNat 32 b)) x y = if a < b then x else y := by
  rw [Idealize.ShloMosaic.WordCmp.cmpi_slt_ofNat ha hb]
  by_cases h : a < b
  · rw [if_pos h]; simp [h, Scalar.select]
  · rw [if_neg h]; simp [h, Scalar.select]
/-- A choice by whether two small words are the same. -/
theorem sel_eq (a b : ℕ) (ha : a < 2 ^ 32) (hb : b < 2 ^ 32) (x y : EReal) :
    Scalar.select (IntOp.cmpi .eq (BitVec.ofNat 32 a) (BitVec.ofNat 32 b)) x y = if a = b then x else y := by
  rw [Idealize.ShloMosaic.WordCmp.cmpi_eq_ofNat ha hb]
  by_cases h : a = b
  · rw [if_pos h]; simp [h, Scalar.select]
  · rw [if_neg h]; simp [h, Scalar.select]

/-- A lane of a head's wide row. -/
def wide (l : Fin 64) : Fin 128 := ⟨l.val, by omega⟩

/-- Two heads side by side. -/
def pairF (a b : S1x256x128.Idx → EReal) (r : Fin 256) (l : Fin 128) : EReal :=
  if h : l.val < 64 then a (ix3 0 r l) else b (ix3 0 r ⟨l.val - 64, by omega⟩)

theorem pair_sel (a b : S1x256x128.Idx → EReal) (r : Fin 256) (l : Fin 128) (q) :
    Scalar.select (IntOp.cmpi .slt (BitVec.ofNat 32 l.val) 64#32) (a (ix3 0 r l)) (b (ix3 0 r ⟨(l.val + 128 - 64) % 128, q⟩)) = pairF a b r l := by
  unfold pairF
  rw [sel_lt l.val 64 (by omega) (by omega)]
  by_cases h : l.val < 64
  · rw [if_pos h, dif_pos h]
  · rw [if_neg h, dif_neg h]
    exact congrArg (fun z => b (ix3 0 r z)) (Fin.ext (by show (l.val + 128 - 64) % 128 = l.val - 64; omega))

theorem pair_at (a b : Vec Ideal S1x256x128 .f32) (r : Fin 256) (l : Fin 128) : k0_pay5 (F := Ideal) a b (ix2 r l) = pairF a b r l := by
  refine Eq.trans ?_ (pair_sel a b r l (Nat.mod_lt _ (by omega)))
  pointwise [k0_pay5]

/-- Four pairs side by side. -/
def quadF (p0 p1 p2 p3 : Fin 256 → Fin 128 → EReal) (r : Fin 256) (j : Fin 512) : EReal :=
  if h : j.val < 128 then p0 r ⟨j.val, h⟩ else if h : j.val - 128 < 128 then p1 r ⟨j.val - 128, h⟩
    else if h : j.val - 128 - 128 < 128 then p2 r ⟨j.val - 128 - 128, h⟩ else p3 r ⟨j.val - 128 - 128 - 128, by omega⟩

/-- The columns are the eight heads in order. -/
theorem heads (L : Fin 8 → S1x256x128.Idx → EReal) (r : Fin 256) (j : Fin 512) :
    quadF (pairF (L 0) (L 1)) (pairF (L 2) (L 3)) (pairF (L 4) (L 5)) (pairF (L 6) (L 7)) r j = L (hd j) (ix3 0 r (wide (ln j))) := by
  have key : ∀ (h : Fin 8) (l : Fin 128), j.val = h.val * 64 + l.val → l.val < 64 → L h (ix3 0 r l) = L (hd j) (ix3 0 r (wide (ln j))) := by
    intro h l e hl
    have e1 : hd j = h := Fin.ext (by show j.val / 64 = h.val; omega)
    have e2 : wide (ln j) = l := Fin.ext (by show j.val % 64 = l.val; omega)
    rw [e1, e2]
  unfold quadF pairF
  have hj := j.isLt
  split
  · next h1 =>
    split
    · next h2 => exact key 0 _ (by have : j.val < 64 := h2; show j.val = 0 * 64 + (j.val); omega) h2
    · next h2 =>
      have h3 : ¬ j.val < 64 := h2
      exact key 1 _ (by show j.val = 1 * 64 + (j.val - 64); omega) (by show j.val - 64 < 64; omega)
  · next h1 =>
    split
    · next h4 =>
      split
      · next h2 => exact key 2 _ (by have : j.val - 128 < 64 := h2; show j.val = 2 * 64 + (j.val - 128); omega) h2
      · next h2 =>
        have h3 : ¬ j.val - 128 < 64 := h2
        exact key 3 _ (by show j.val = 3 * 64 + (j.val - 128 - 64); omega) (by show j.val - 128 - 64 < 64; omega)
    · next h4 =>
      split
      · next h5 =>
        split
        · next h2 => exact key 4 _ (by have : j.val - 128 - 128 < 64 := h2; show j.val = 4 * 64 + (j.val - 128 - 128); omega) h2
        · next h2 =>
          have h3 : ¬ j.val - 128 - 128 < 64 := h2
          exact key 5 _ (by show j.val = 5 * 64 + (j.val - 128 - 128 - 64); omega) (by show j.val - 128 - 128 - 64 < 64; omega)
      · next h5 =>
        split
        · next h2 => exact key 6 _ (by have : j.val - 128 - 128 - 128 < 64 := h2; show j.val = 6 * 64 + (j.val - 128 - 128 - 128); omega) h2
        · next h2 =>
          have h3 : ¬ j.val - 128 - 128 - 128 < 64 := h2
          exact key 7 _ (by show j.val = 7 * 64 + (j.val - 128 - 128 - 128 - 64); omega) (by show j.val - 128 - 128 - 128 - 64 < 64; omega)

/-- The constants of the kernel. -/
def c8 : EReal := Ideal.ofBits .f32 0x3E000000#32
def cln : EReal := Named.named (F := Ideal) κ "ln2" (φ := .f32) 0x3F317218#32
def cE : EReal := Ideal.ofBits .f32 0x358637BD#32

theorem cat4 (a b c d : FVec Ideal S256x128 .f32) (H) (r : Fin 256) (j : Fin 512) :
    concatenate S256x512 1 [⟨S256x128, a⟩, ⟨S256x128, b⟩, ⟨S256x128, c⟩, ⟨S256x128, d⟩] H (ix2 r j)
      = quadF (fun r l => a (ix2 r l)) (fun r l => b (ix2 r l)) (fun r l => c (ix2 r l)) (fun r l => d (ix2 r l)) r j := by
  unfold quadF
  pointwise []
theorem cat_heads (L : Fin 8 → Vec Ideal S1x256x128 .f32) (H) (r : Fin 256) (j : Fin 512) :
    concatenate S256x512 1 [⟨S256x128, k0_pay5 (F := Ideal) (L 0) (L 1)⟩, ⟨S256x128, k0_pay5 (F := Ideal) (L 2) (L 3)⟩, ⟨S256x128, k0_pay5 (F := Ideal) (L 4) (L 5)⟩, ⟨S256x128, k0_pay5 (F := Ideal) (L 6) (L 7)⟩] H (ix2 r j)
      = L (hd j) (ix3 0 r (wide (ln j))) := by
  rw [cat4, ← heads (fun h => L h) r j]
  simp only [pair_at]

theorem pay9_at (L : Fin 8 → Vec Ideal S1x256x128 .f32) (r : Fin 256) (j : Fin 512) :
    k0_pay9 (F := Ideal) (k0_pay5 (L 0) (L 1)) (k0_pay6 (L 2) (L 3)) (k0_pay7 (L 4) (L 5)) k0_pay8 (L 6) (L 7) (ix2 r j)
      = L (hd j) (ix3 0 r (wide (ln j))) * c8 := by
  exact congrArg (· * c8) (cat_heads L concatenates_S256x128_S256x128_S256x128_S256x128_S256x512_d1 r j)
theorem pay21_at (L : Fin 8 → Vec Ideal S1x256x128 .f32) (r : Fin 256) (j : Fin 512) :
    k0_pay21 (F := Ideal) (iota .tc S256x128 32 [1] iota_S256x128_d1_w32) (k0_pay18 (L 0) (L 1)) (k0_pay19 (L 2) (L 3)) (k0_pay20 (L 4) (L 5)) 64#32 (L 6) (L 7) (ix2 r j)
      = L (hd j) (ix3 0 r (wide (ln j))) * cln := by
  exact congrArg (· * cln) (cat_heads L concatenates_S256x128_S256x128_S256x128_S256x128_S256x512_d1 r j)
theorem pay34_at (L : Fin 8 → Vec Ideal S1x256x128 .f32) (r : Fin 256) (j : Fin 512) :
    k0_pay34 (F := Ideal) (iota .tc S256x128 32 [1] iota_S256x128_d1_w32) (k0_pay29 (L 0) (L 1)) (k0_pay30 (L 2) (L 3)) k0_pay31 (k0_pay32 (L 4)) (k0_pay33 (L 5)) (L 6) (L 7) (ix2 r j)
      = L (hd j) (ix3 0 r (wide (ln j))) := by
  exact cat_heads L concatenates_S256x128_S256x128_S256x128_S256x128_S256x512_d1 r j

/-- What the norms' matrix gathers. -/
def gat (b : S512x512.Idx → EReal) (f : Fin 512 → EReal) (j : Fin 512) : EReal := ∑ k, f k * b (ix2 k j)
/-- The factor of a row, column by column. -/
def bI (x : S256x512.Idx → EReal) (b : S512x512.Idx → EReal) (r : Fin 256) (j : Fin 512) : EReal :=
  Ideal.rsqrt (gat b (fun k => x (ix2 r k) * x (ix2 r k)) j + cE)
/-- A row's gradient. -/
def bX (x : S256x512.Idx → EReal) (b : S512x512.Idx → EReal) (d : Fin 512 → EReal) (g : S1x512.Idx → EReal) (r : Fin 256) (j : Fin 512) : EReal :=
  bI x b r j * (d j * g (ix2 0 j) - x (ix2 r j) * bI x b r j * gat b (fun k => x (ix2 r k) * bI x b r k * (d k * g (ix2 0 k))) j)

theorem pay11_at (x : Vec Ideal S256x512 .bf16) (b : Vec Ideal S512x512 .bf16) (r : Fin 256) (j : Fin 512) : k0_pay11 (F := Ideal) x b (ix2 r j) = bI x b r j := by
  pointwise [k0_pay11, k0_pay10]
  rfl
theorem pay23_at (x : Vec Ideal S256x512 .bf16) (b : Vec Ideal S512x512 .bf16) (r : Fin 256) (j : Fin 512) : k0_pay23 (F := Ideal) x b (ix2 r j) = bI x b r j := by
  pointwise [k0_pay23, k0_pay22]
  rfl
theorem pay12_at (x : Vec Ideal S256x512 .bf16) (b : Vec Ideal S512x512 .bf16) (r : Fin 256) (j : Fin 512) : k0_pay12 (F := Ideal) x b (ix2 r j) = x (ix2 r j) * bI x b r j := by
  rw [← pay11_at]
  pointwise [k0_pay12, k0_pay10]
theorem pay24_at (x : Vec Ideal S256x512 .bf16) (b : Vec Ideal S512x512 .bf16) (r : Fin 256) (j : Fin 512) : k0_pay24 (F := Ideal) x b (ix2 r j) = x (ix2 r j) * bI x b r j := by
  rw [← pay23_at]
  pointwise [k0_pay24, k0_pay22]

theorem pay17_at (p0 p1 p2 : FVec Ideal S256x128 .f32) (mk : IVec S256x128 1) (a6 a7 : Vec Ideal S1x256x128 .f32) (x : Vec Ideal S256x512 .bf16) (b : Vec Ideal S512x512 .bf16) (g : Vec Ideal S1x512 .f32)
    (d : Fin 256 → Fin 512 → EReal) (hd : ∀ r j, k0_pay9 (F := Ideal) p0 p1 p2 mk a6 a7 (ix2 r j) = d r j) (r : Fin 256) (j : Fin 512) :
    k0_pay17 (F := Ideal) (k0_pay11 x b) (k0_pay12 x b) (k0_pay14 p0 p1 p2 mk a6 a7 g) (k0_pay15 p0 p1 p2 mk a6 a7 x b g) (k0_pay16 b) (ix2 r j) = bX x b (d r) g r j := by
  pointwise [k0_pay17, k0_pay14, k0_pay15, k0_pay16]
  simp only [hd, pay12_at, pay11_at]
  rfl
theorem pay28_at (v3 : IVec S256x128 32) (p0 p1 p2 : FVec Ideal S256x128 .f32) (w : BitVec 32) (a6 a7 : Vec Ideal S1x256x128 .f32) (x : Vec Ideal S256x512 .bf16) (b : Vec Ideal S512x512 .bf16) (g : Vec Ideal S1x512 .f32)
    (d : Fin 256 → Fin 512 → EReal) (hd : ∀ r j, k0_pay21 (F := Ideal) v3 p0 p1 p2 w a6 a7 (ix2 r j) = d r j) (r : Fin 256) (j : Fin 512) :
    k0_pay28 (F := Ideal) (k0_pay23 x b) (k0_pay24 x b) (k0_pay26 v3 p0 p1 p2 w a6 a7 g) (k0_pay27 v3 p0 p1 p2 w a6 a7 x b g) b (ix2 r j) = bX x b (d r) g r j := by
  pointwise [k0_pay28, k0_pay26, k0_pay27]
  simp only [hd, pay24_at, pay23_at]
  rfl
theorem pay13_at (p0 p1 p2 : FVec Ideal S256x128 .f32) (mk : IVec S256x128 1) (a6 a7 : Vec Ideal S1x256x128 .f32) (x : Vec Ideal S256x512 .bf16) (b : Vec Ideal S512x512 .bf16) (o : Vec Ideal S1x512 .f32)
    (d : Fin 256 → Fin 512 → EReal) (hd : ∀ r j, k0_pay9 (F := Ideal) p0 p1 p2 mk a6 a7 (ix2 r j) = d r j) (j : Fin 512) :
    k0_pay13 (F := Ideal) p0 p1 p2 mk a6 a7 x b o (ix2 0 j) = o (ix2 0 j) + ∑ r, d r j * (x (ix2 r j) * bI x b r j) := by
  pointwise [k0_pay13]
  simp only [hd, pay12_at]
theorem pay25_at (v3 : IVec S256x128 32) (p0 p1 p2 : FVec Ideal S256x128 .f32) (w : BitVec 32) (a6 a7 : Vec Ideal S1x256x128 .f32) (x : Vec Ideal S256x512 .bf16) (b : Vec Ideal S512x512 .bf16) (o : Vec Ideal S1x512 .f32)
    (d : Fin 256 → Fin 512 → EReal) (hd : ∀ r j, k0_pay21 (F := Ideal) v3 p0 p1 p2 w a6 a7 (ix2 r j) = d r j) (j : Fin 512) :
    k0_pay25 (F := Ideal) v3 p0 p1 p2 w a6 a7 x b o (ix2 0 j) = o (ix2 0 j) + ∑ r, d r j * (x (ix2 r j) * bI x b r j) := by
  pointwise [k0_pay25]
  simp only [hd, pay24_at]

end Cert.PostIdeal.Val

end
-- ==== Proof.PostCol.lean ====
/- The gradient call of the head norms and gates: the running sum of one point of its grid. -/
module

public import proofs.«01_k».proof.Proof.PostPay
public import Idealize.ShloMosaic.Lib.WordCmp

@[expose] public section

set_option maxRecDepth 16384

noncomputable section

namespace Cert.PostIdeal.Val

open Idealize.ShloMosaic Idealize.ShloMosaic.TcCoe Idealize.SL.Sem
open Cert.PostIdeal Cert.PostIdeal.Gen Cert.SiluGrad Cert.PostMath

/-- A lane of the first array less a lane of the second, as the kernel gathers them. -/
def pk (q k : S1x256x128.Idx → EReal) (r : Fin 256) : EReal :=
  ∑ a : Fin 128, ((if a.val = 64 then q (ix3 0 r a) else 0) - (if a.val = 67 then k (ix3 0 r a) else 0))
theorem pk_eq (q k : S1x256x128.Idx → EReal) (r : Fin 256) (hk : k (ix3 0 r ⟨67, by omega⟩) = 0) : pk q k r = q (ix3 0 r ⟨64, by omega⟩) := by
  unfold pk
  rw [Finset.sum_eq_single (⟨64, by omega⟩ : Fin 128)]
  · simp
  · intro a _ ha
    rw [if_neg (fun e => ha (Fin.ext e))]
    by_cases h : a.val = 67
    · rw [if_pos h, show a = ⟨67, by omega⟩ from Fin.ext h, hk, sub_zero]
    · rw [if_neg h, sub_zero]
  · intro h; exact absurd (Finset.mem_univ _) h

abbrev lanes : IVec S256x128 32 := iota .tc S256x128 32 [1] iota_S256x128_d1_w32

theorem pk_sel (q k : S1x256x128.Idx → EReal) (r : Fin 256) :
    ∑ a : Fin 128, (Scalar.select (IntOp.cmpi .eq (BitVec.ofNat 32 a.val) 64#32) (q (ix3 0 r a)) 0 - Scalar.select (IntOp.cmpi .eq (BitVec.ofNat 32 a.val) 67#32) (k (ix3 0 r a)) 0) = pk q k r :=
  Finset.sum_congr rfl fun a _ => congrArg₂ _ (sel_eq a.val 64 (by omega) (by omega) _ _) (sel_eq a.val 67 (by omega) (by omega) _ _)

theorem pay35_at (q k : Vec Ideal S1x256x128 .f32) (r : Fin 256) (l : Fin 128) :
    k0_pay35 (F := Ideal) lanes q k (ix2 r l) = if l.val = 0 then pk q k r else 0 := by
  rw [← sel_eq l.val 0 (by omega) (by omega), ← pk_sel]
  pointwise [k0_pay35]
theorem pay37_at (p : FVec Ideal S256x128 .f32) (q k : Vec Ideal S1x256x128 .f32) (r : Fin 256) (l : Fin 128) :
    k0_pay37 (F := Ideal) lanes p (k0_pay36 lanes) q k (ix2 r l) = if l.val = 1 then pk q k r else p (ix2 r l) := by
  rw [← sel_eq l.val 1 (by omega) (by omega), ← pk_sel]
  pointwise [k0_pay37, k0_pay36]
theorem pay40_at (p : FVec Ideal S256x128 .f32) (q k q' k' : Vec Ideal S1x256x128 .f32) (r : Fin 256) (l : Fin 128) :
    k0_pay40 (F := Ideal) lanes p (k0_pay38 lanes) (k0_pay39 lanes q k) q' k' (ix2 r l) = if l.val = 3 then pk q' k' r else if l.val = 2 then pk q k r else p (ix2 r l) := by
  rw [← sel_eq l.val 2 (by omega) (by omega), ← sel_eq l.val 3 (by omega) (by omega), ← pk_sel, ← pk_sel]
  pointwise [k0_pay40, k0_pay38, k0_pay39]
theorem pay43_at (p : FVec Ideal S256x128 .f32) (q k q' k' : Vec Ideal S1x256x128 .f32) (r : Fin 256) (l : Fin 128) :
    k0_pay43 (F := Ideal) lanes p (k0_pay41 lanes q k) (k0_pay42 lanes) q' k' (ix2 r l) = if l.val = 5 then pk q' k' r else if l.val = 4 then pk q k r else p (ix2 r l) := by
  rw [← sel_eq l.val 4 (by omega) (by omega), ← sel_eq l.val 5 (by omega) (by omega), ← pk_sel, ← pk_sel]
  pointwise [k0_pay43, k0_pay41, k0_pay42]
theorem pay45_at (p : FVec Ideal S256x128 .f32) (q k q' k' : Vec Ideal S1x256x128 .f32) (T : Vec Ideal S256x256 .bf16) (D : Fin 256 → Fin 128 → EReal)
    (hD : ∀ r l, (if l.val = 7 then pk q' k' r else if l.val = 6 then pk q k r else p (ix2 r l)) = D r l) (r : Fin 256) (l : Fin 128) :
    k0_pay45 (F := Ideal) lanes p (k0_pay44 lanes q k) q' k' T T (ix2 r l) = (∑ a, T (ix2 r a) * D a l) + ∑ a, T (ix2 r a) * (D a l - D a l) := by
  simp only [← hD]
  simp only [← sel_eq l.val 6 (by omega) (by omega), ← sel_eq l.val 7 (by omega) (by omega), ← pk_sel]
  pointwise [k0_pay45, k0_pay44]

/-- The column of a head's gate: the lane of each head. -/
def dcl (Q K : Fin 8 → S1x256x128.Idx → EReal) (r : Fin 256) (l : Fin 128) : EReal :=
  if h : l.val < 8 then pk (Q ⟨l.val, h⟩) (K ⟨l.val, h⟩) r else 0

theorem dlog_at (Q K : Fin 8 → Vec Ideal S1x256x128 .f32) (T : Vec Ideal S256x256 .bf16) (r : Fin 256) (l : Fin 128) :
    k0_pay45 (F := Ideal) lanes (k0_pay43 lanes (k0_pay40 lanes (k0_pay37 lanes (k0_pay35 lanes (Q 0) (K 0)) (k0_pay36 lanes) (Q 1) (K 1)) (k0_pay38 lanes) (k0_pay39 lanes (Q 2) (K 2)) (Q 3) (K 3))
        (k0_pay41 lanes (Q 4) (K 4)) (k0_pay42 lanes) (Q 5) (K 5)) (k0_pay44 lanes (Q 6) (K 6)) (Q 7) (K 7) T T (ix2 r l)
      = (∑ a, T (ix2 r a) * dcl (fun h => Q h) (fun h => K h) a l) + ∑ a, T (ix2 r a) * (dcl (fun h => Q h) (fun h => K h) a l - dcl (fun h => Q h) (fun h => K h) a l) := by
  refine pay45_at _ _ _ _ _ T _ (fun a b => ?_) r l
  rw [pay43_at, pay40_at, pay37_at, pay35_at]
  unfold dcl
  have hb := b.isLt
  have key : ∀ (h : Fin 8), b.val = h.val → pk (Q h) (K h) a = if h' : b.val < 8 then pk (Q ⟨b.val, h'⟩) (K ⟨b.val, h'⟩) a else 0 := by
    intro h e
    rw [dif_pos (by omega), show (⟨b.val, by omega⟩ : Fin 8) = h from Fin.ext e]
  split
  · next h => exact key 7 h
  split
  · next h => exact key 6 h
  split
  · next h => exact key 5 h
  split
  · next h => exact key 4 h
  split
  · next h => exact key 3 h
  split
  · next h => exact key 2 h
  split
  · next h => exact key 1 h
  split
  · next h => exact key 0 h
  · rw [dif_neg (by omega)]

theorem pay46_at (v : FVec Ideal S256x128 .f32) (cr : Vec Ideal S1x128 .f32) (r : Fin 256) (l : Fin 128) : k0_pay46 (F := Ideal) v cr (ix2 r l) = v (ix2 r l) + cr (ix2 0 l) := by
  pointwise [k0_pay46]
theorem pay47_at (v : FVec Ideal S256x128 .f32) (cr : Vec Ideal S1x128 .f32) (l : Fin 128) : k0_pay47 (F := Ideal) v cr (ix2 0 l) = v (ix2 0 l) + cr (ix2 0 l) := by
  rw [← pay46_at]
  have e : k0_pay47 (F := Ideal) v cr (ix2 0 l) = ∑ r : Fin 256, Scalar.select (IntOp.cmpi .eq (BitVec.ofNat 32 r.val) 0#32) (k0_pay46 (F := Ideal) v cr (ix2 r l)) 0 := by
    pointwise [k0_pay47]
  rw [e, Finset.sum_eq_single (0 : Fin 256)]
  · rw [sel_eq _ 0 (by simp) (by omega)]; exact if_pos rfl
  · intro r _ hr
    rw [sel_eq _ 0 (by omega) (by omega)]
    exact if_neg fun e => hr (Fin.ext e)
  · intro h; exact absurd (Finset.mem_univ _) h
theorem pay48_at (v : FVec Ideal S256x128 .f32) (cr : Vec Ideal S1x128 .f32) (f : Vec Ideal S256x128 .f32) (b : Vec Ideal S1x128 .f32) (r : Fin 256) (l : Fin 128) :
    k0_pay48 (F := Ideal) v cr f b (ix2 r l) = (v (ix2 r l) + cr (ix2 0 l)) * sgK (0 - (f (ix2 r l) + b (ix2 0 l))) := by
  rw [← pay46_at]
  pointwise [k0_pay48]
  rfl
theorem pay50_at (v : FVec Ideal S256x128 .f32) (cr : Vec Ideal S1x128 .f32) (f : Vec Ideal S256x128 .f32) (b : Vec Ideal S1x128 .f32) (r : Fin 256) (l : Fin 128) :
    k0_pay50 (F := Ideal) v cr f b (ix2 r l) = (v (ix2 r l) + cr (ix2 0 l)) * sgK (0 - (f (ix2 r l) + b (ix2 0 l))) := by
  rw [← pay48_at]
  pointwise [k0_pay50]
theorem pay49_at (v : FVec Ideal S256x128 .f32) (cr : Vec Ideal S1x128 .f32) (f : Vec Ideal S256x128 .f32) (b : Vec Ideal S1x128 .f32) (o : Vec Ideal S1x128 .f32) (l : Fin 128) :
    k0_pay49 (F := Ideal) v cr f b o (ix2 0 l) = o (ix2 0 l) + ∑ r, (v (ix2 r l) + cr (ix2 0 l)) * sgK (0 - (f (ix2 r l) + b (ix2 0 l))) := by
  pointwise [k0_pay49]
  simp only [pay48_at]

end Cert.PostIdeal.Val

end
-- ==== Proof.PostValue.lean ====
/- The gradient call of the head norms and gates: what the points of its grid leave in the results. -/
module

public import proofs.«01_k».proof.Proof.PostCol
public import proofs.«01_k».proof.Proof.Gen.PostIdeal.Frame
public import Idealize.ShloMosaic.Lib.Pipeline.ValueKit
public import Idealize.ShloMosaic.Lib.Pointwise
public import Idealize.ShloMosaic.Lib.KernelVsHost

@[expose] public section

set_option maxRecDepth 16384

noncomputable section

namespace Cert.PostIdeal.Val

open Idealize.ShloMosaic Idealize.ShloMosaic.TcCoe Idealize.SL.Sem
open Idealize.ShloMosaic.Pipeline (Dat)
open Cert.PostIdeal Cert.PostIdeal.Gen Cert.SiluGrad Cert.PostMath

variable (m : (ℓ : Loc nD τ sig) → Buf (Elt Ideal) ℓ) (c : Dev nD)

abbrev aX : S4096x1536.Idx → EReal := V m c main_v16
abbrev aF : S4096x128.Idx → EReal := V m c main_v2
abbrev aQ : S8x4096x128.Idx → EReal := V m c main_v7
abbrev aK : S8x4096x128.Idx → EReal := V m c main_v13
abbrev aV : S8x4096x128.Idx → EReal := V m c main_v15
abbrev aGq : S1x512.Idx → EReal := V m c main_v20
abbrev aGk : S1x512.Idx → EReal := V m c main_v24
abbrev aFb : S1x128.Idx → EReal := V m c main_v27
abbrev aBd : S512x512.Idx → EReal := V m c main_v38
abbrev aTr : S256x256.Idx → EReal := V m c main_v45

theorem idx : ∀ t : Fin cfg0.N, win0_0.index t = ![15 - t.val, 0] ∧ win0_1.index t = ![15 - t.val, 1] ∧ win0_2.index t = ![15 - t.val, 0] ∧ win0_3.index t = ![0, 15 - t.val, 0]
    ∧ win0_4.index t = ![0, 15 - t.val, 0] ∧ win0_5.index t = ![0, 15 - t.val, 0] ∧ win0_6.index t = ![0, 0] ∧ win0_7.index t = ![0, 0] ∧ win0_8.index t = ![0, 0]
    ∧ win0_9.index t = ![0, 0] ∧ win0_10.index t = ![0, 0] ∧ win0_11.index t = ![15 - t.val, 0] ∧ win0_12.index t = ![15 - t.val, 0] ∧ win0_13.index t = ![0, 0]
    ∧ win0_14.index t = ![0, 0] ∧ win0_15.index t = ![0, 0] :=
  (by decide +kernel : ∀ t : Fin grid0.N, _)

theorem lt16 (t : Fin cfg0.N) : t.val < 16 := t.isLt.trans_le (by decide +kernel)
/-- The row a tile's row sits at. -/
abbrev rw' (t : Fin cfg0.N) (s : Fin 256) : Fin 4096 := rowOf ⟨t.val, lt16 t⟩ s

theorem blk0 (t : Fin cfg0.N) (r : Fin 256) (k : Fin 512) : (iblk m c 0 t : S256x512.Idx → EReal) (ix2 r k) = aX m c (ix2 (rw' t r) ⟨k.val, by omega⟩) := by
  blk_ext [iblk, idx t]; rfl
theorem blk1 (t : Fin cfg0.N) (r : Fin 256) (k : Fin 512) : (iblk m c 1 t : S256x512.Idx → EReal) (ix2 r k) = aX m c (ix2 (rw' t r) ⟨512 + k.val, by omega⟩) := by
  blk_ext [iblk, idx t]; rfl
theorem blk2 (t : Fin cfg0.N) (r : Fin 256) (k : Fin 128) : (iblk m c 2 t : S256x128.Idx → EReal) (ix2 r k) = aF m c (ix2 (rw' t r) k) := by
  blk_ext [iblk, idx t]; rfl
theorem blk3 (t : Fin cfg0.N) (h : Fin 8) (r : Fin 256) (k : Fin 128) : (iblk m c 3 t : S8x256x128.Idx → EReal) (ix3 h r k) = aQ m c (ix3 h (rw' t r) k) := by
  blk_ext [iblk, idx t]; rfl
theorem blk4 (t : Fin cfg0.N) (h : Fin 8) (r : Fin 256) (k : Fin 128) : (iblk m c 4 t : S8x256x128.Idx → EReal) (ix3 h r k) = aK m c (ix3 h (rw' t r) k) := by
  blk_ext [iblk, idx t]; rfl
theorem blk5 (t : Fin cfg0.N) (h : Fin 8) (r : Fin 256) (k : Fin 128) : (iblk m c 5 t : S8x256x128.Idx → EReal) (ix3 h r k) = aV m c (ix3 h (rw' t r) k) := by
  blk_ext [iblk, idx t]; rfl
theorem blk6 (t : Fin cfg0.N) (k : Fin 512) : (iblk m c 6 t : S1x512.Idx → EReal) (ix2 0 k) = aGq m c (ix2 0 k) := by
  blk_ext [iblk, idx t]
theorem blk7 (t : Fin cfg0.N) (k : Fin 512) : (iblk m c 7 t : S1x512.Idx → EReal) (ix2 0 k) = aGk m c (ix2 0 k) := by
  blk_ext [iblk, idx t]
theorem blk8 (t : Fin cfg0.N) (k : Fin 128) : (iblk m c 8 t : S1x128.Idx → EReal) (ix2 0 k) = aFb m c (ix2 0 k) := by
  blk_ext [iblk, idx t]
theorem blk9 (t : Fin cfg0.N) (r k : Fin 512) : (iblk m c 9 t : S512x512.Idx → EReal) (ix2 r k) = aBd m c (ix2 r k) := by
  blk_ext [iblk, idx t]
theorem blk10 (t : Fin cfg0.N) (r k : Fin 256) : (iblk m c 10 t : S256x256.Idx → EReal) (ix2 r k) = aTr m c (ix2 r k) := by
  blk_ext [iblk, idx t]

/-- The heads of a block, one by one. -/
def ld8 (x : Vec Ideal S8x256x128 .f32) : Fin 8 → Vec Ideal S1x256x128 .f32
  | 0 => View.ld x (Rect.unit ![0, 0, 0] S1x256x128.size inb_S8x256x128_S1x256x128_0_0_0)
  | 1 => View.ld x (Rect.unit ![1, 0, 0] S1x256x128.size inb_S8x256x128_S1x256x128_1_0_0)
  | 2 => View.ld x (Rect.unit ![2, 0, 0] S1x256x128.size inb_S8x256x128_S1x256x128_2_0_0)
  | 3 => View.ld x (Rect.unit ![3, 0, 0] S1x256x128.size inb_S8x256x128_S1x256x128_3_0_0)
  | 4 => View.ld x (Rect.unit ![4, 0, 0] S1x256x128.size inb_S8x256x128_S1x256x128_4_0_0)
  | 5 => View.ld x (Rect.unit ![5, 0, 0] S1x256x128.size inb_S8x256x128_S1x256x128_5_0_0)
  | 6 => View.ld x (Rect.unit ![6, 0, 0] S1x256x128.size inb_S8x256x128_S1x256x128_6_0_0)
  | 7 => View.ld x (Rect.unit ![7, 0, 0] S1x256x128.size inb_S8x256x128_S1x256x128_7_0_0)
theorem ld8_at (x : Vec Ideal S8x256x128 .f32) (h : Fin 8) (r : Fin 256) (k : Fin 128) : ld8 x h (ix3 0 r k) = x (ix3 h r k) := by
  fin_cases h <;> exact View.ld_unit_apply_of _ _ _ _ _ _ fun a => by fin_cases a <;> simp [ix3]

section Blocks
variable (q k v : Vec Ideal S8x256x128 .f32) (x x' : Vec Ideal S256x512 .bf16) (bd : Vec Ideal S512x512 .bf16) (g g' : Vec Ideal S1x512 .f32)
  (T : Vec Ideal S256x256 .bf16) (f : Vec Ideal S256x128 .f32) (fb : Vec Ideal S1x128 .f32)

/-- The cotangents of a row of queries and keys. -/
def dqB (r : Fin 256) (j : Fin 512) : EReal := q (ix3 (hd j) r (wide (ln j))) * c8
def dkB (r : Fin 256) (j : Fin 512) : EReal := k (ix3 (hd j) r (wide (ln j))) * cln
theorem hq (r : Fin 256) (j : Fin 512) : k0_pay9 (k0_pay5 (ld8 q 0) (ld8 q 1)) (k0_pay6 (ld8 q 2) (ld8 q 3)) (k0_pay7 (ld8 q 4) (ld8 q 5)) k0_pay8 (ld8 q 6) (ld8 q 7) (ix2 r j) = dqB q r j :=
  (pay9_at (ld8 q) r j).trans (congrArg (· * c8) (ld8_at q _ r _))
theorem hk (r : Fin 256) (j : Fin 512) : k0_pay21 lanes (k0_pay18 (ld8 k 0) (ld8 k 1)) (k0_pay19 (ld8 k 2) (ld8 k 3)) (k0_pay20 (ld8 k 4) (ld8 k 5)) 64#32 (ld8 k 6) (ld8 k 7) (ix2 r j) = dkB k r j :=
  (pay21_at (ld8 k) r j).trans (congrArg (· * cln) (ld8_at k _ r _))

/-- The three stores of a row tile. -/
def stores : List (View.Piece (Elt Ideal) S256x1536 .bf16) :=
  [⟨Rect.unit ![0, 1024] S256x512.size inb_S256x1536_S256x512_0_1024,
    k0_pay34 lanes (k0_pay29 (ld8 v 0) (ld8 v 1)) (k0_pay30 (ld8 v 2) (ld8 v 3)) k0_pay31 (k0_pay32 (ld8 v 4)) (k0_pay33 (ld8 v 5)) (ld8 v 6) (ld8 v 7)⟩,
   ⟨Rect.unit ![0, 512] S256x512.size inb_S256x1536_S256x512_0_512,
    k0_pay28 (k0_pay23 x' bd) (k0_pay24 x' bd) (k0_pay26 lanes (k0_pay18 (ld8 k 0) (ld8 k 1)) (k0_pay19 (ld8 k 2) (ld8 k 3)) (k0_pay20 (ld8 k 4) (ld8 k 5)) 64#32 (ld8 k 6) (ld8 k 7) g') (k0_pay27 lanes (k0_pay18 (ld8 k 0) (ld8 k 1)) (k0_pay19 (ld8 k 2) (ld8 k 3)) (k0_pay20 (ld8 k 4) (ld8 k 5)) 64#32 (ld8 k 6) (ld8 k 7) x' bd g') bd⟩,
   ⟨Rect.unit ![0, 0] S256x512.size inb_S256x1536_S256x512_0_0,
    k0_pay17 (k0_pay11 x bd) (k0_pay12 x bd) (k0_pay14 (k0_pay5 (ld8 q 0) (ld8 q 1)) (k0_pay6 (ld8 q 2) (ld8 q 3)) (k0_pay7 (ld8 q 4) (ld8 q 5)) k0_pay8 (ld8 q 6) (ld8 q 7) g) (k0_pay15 (k0_pay5 (ld8 q 0) (ld8 q 1)) (k0_pay6 (ld8 q 2) (ld8 q 3)) (k0_pay7 (ld8 q 4) (ld8 q 5)) k0_pay8 (ld8 q 6) (ld8 q 7) x bd g) (k0_pay16 bd)⟩]

theorem thirds_cover (a b d : Vec Ideal S256x512 .bf16) (i1 i2 i3) (y : S256x1536.Idx) :
    ∃ pc ∈ [(⟨Rect.unit ![0, 1024] S256x512.size i1, d⟩ : View.Piece (Elt Ideal) S256x1536 .bf16), ⟨Rect.unit ![0, 512] S256x512.size i2, b⟩, ⟨Rect.unit ![0, 0] S256x512.size i3, a⟩], y ∈ pc.1.set :=
  View.cover_of_tiledL (s := S256x1536) [(⟨Rect.unit ![0, 1024] S256x512.size i1, d⟩ : View.Piece (Elt Ideal) S256x1536 .bf16), ⟨Rect.unit ![0, 512] S256x512.size i2, b⟩, ⟨Rect.unit ![0, 0] S256x512.size i3, a⟩] S256x512.size (by sl_kernel_rfl) y
/-- The three stored parts, read at any column. -/
theorem thirds (a b d : Vec Ideal S256x512 .bf16) (i1 i2 i3) (y : S256x1536.Idx) :
    View.canon [(⟨Rect.unit ![0, 1024] S256x512.size i1, d⟩ : View.Piece (Elt Ideal) S256x1536 .bf16), ⟨Rect.unit ![0, 512] S256x512.size i2, b⟩, ⟨Rect.unit ![0, 0] S256x512.size i3, a⟩] y
      = if h : (y 1).val < 512 then a (ix2 (y 0) ⟨(y 1).val, h⟩) else if h' : (y 1).val - 512 < 512 then b (ix2 (y 0) ⟨(y 1).val - 512, h'⟩)
        else d (ix2 (y 0) ⟨(y 1).val - 1024, by have := (y 1).isLt; change (y 1).val < 1536 at this; omega⟩) := by
  canon_tiles x h using thirds_cover a b d i1 i2 i3 y
  · rw [dif_neg (by omega), dif_neg (by omega)]
    refine congrArg d (funext fun e => ?_)
    fin_cases e
    · exact Fin.ext (by simpa using h0.symm)
    · exact Fin.ext (by simp; omega)
  · rw [dif_neg (by omega), dif_pos (by omega)]
    refine congrArg b (funext fun e => ?_)
    fin_cases e
    · exact Fin.ext (by simpa using h0.symm)
    · exact Fin.ext (by simp; omega)
  · rw [dif_pos (by omega)]
    refine congrArg a (funext fun e => ?_)
    fin_cases e
    · exact Fin.ext (by simpa using h0.symm)
    · exact Fin.ext (by simp; omega)
theorem stores_at (r : Fin 256) (j : Fin 1536) :
    View.canon (stores q k v x x' bd g g') (ix2 r j)
      = if h : j.val < 512 then bX x bd (dqB q r) g r ⟨j.val, h⟩ else if h' : j.val - 512 < 512 then bX x' bd (dkB k r) g' r ⟨j.val - 512, h'⟩
        else v (ix3 (hd ⟨j.val - 1024, by omega⟩) r (wide (ln ⟨j.val - 1024, by omega⟩))) := by
  unfold stores
  refine (thirds _ _ _ _ _ _ (ix2 r j)).trans ?_
  refine dite_congr rfl (fun h => ?_) fun h => dite_congr rfl (fun h' => ?_) fun h' => ?_
  · exact pay17_at _ _ _ _ _ _ x bd g (dqB q) (fun r j => hq q r j) r _
  · exact pay28_at _ _ _ _ _ _ _ x' bd g' (dkB k) (fun r j => hk k r j) r _
  · exact (pay34_at (ld8 v) r _).trans (ld8_at v _ r _)

/-- The sums down a tile of the column of gates. -/
def dlB (r : Fin 256) (l : Fin 128) : EReal :=
  (∑ a, T (ix2 r a) * dcl (ld8 q) (ld8 k) a l) + ∑ a, T (ix2 r a) * (dcl (ld8 q) (ld8 k) a l - dcl (ld8 q) (ld8 k) a l)
/-- The same as the kernel writes it. -/
def dlV : FVec Ideal S256x128 .f32 :=
  k0_pay45 (F := Ideal) lanes (k0_pay43 lanes (k0_pay40 lanes (k0_pay37 lanes (k0_pay35 lanes (ld8 q 0) (ld8 k 0)) (k0_pay36 lanes) (ld8 q 1) (ld8 k 1)) (k0_pay38 lanes) (k0_pay39 lanes (ld8 q 2) (ld8 k 2)) (ld8 q 3) (ld8 k 3))
        (k0_pay41 lanes (ld8 q 4) (ld8 k 4)) (k0_pay42 lanes) (ld8 q 5) (ld8 k 5)) (k0_pay44 lanes (ld8 q 6) (ld8 k 6)) (ld8 q 7) (ld8 k 7) T T
theorem dlV_at (r : Fin 256) (l : Fin 128) : dlV q k T (ix2 r l) = dlB q k T r l := dlog_at (ld8 q) (ld8 k) T r l

theorem dgq_at (o : Vec Ideal S1x512 .f32) (j : Fin 512) : k0_pay13 (k0_pay5 (ld8 q 0) (ld8 q 1)) (k0_pay6 (ld8 q 2) (ld8 q 3)) (k0_pay7 (ld8 q 4) (ld8 q 5)) k0_pay8 (ld8 q 6) (ld8 q 7) x bd o (ix2 0 j) = o (ix2 0 j) + ∑ r, dqB q r j * (x (ix2 r j) * bI x bd r j) :=
  pay13_at _ _ _ _ _ _ x bd o (dqB q) (fun r j => hq q r j) j
theorem dgk_at (o : Vec Ideal S1x512 .f32) (j : Fin 512) : k0_pay25 lanes (k0_pay18 (ld8 k 0) (ld8 k 1)) (k0_pay19 (ld8 k 2) (ld8 k 3)) (k0_pay20 (ld8 k 4) (ld8 k 5)) 64#32 (ld8 k 6) (ld8 k 7) x bd o (ix2 0 j) = o (ix2 0 j) + ∑ r, dkB k r j * (x (ix2 r j) * bI x bd r j) :=
  pay25_at _ _ _ _ _ _ _ x bd o (dkB k) (fun r j => hk k r j) j
end Blocks

/-- The norms' gradient of one row. -/
def rI (x : Fin 512 → EReal) (b : S512x512.Idx → EReal) (j : Fin 512) : EReal := Ideal.rsqrt (gat b (fun k => x k * x k) j + cE)
def rX (x : Fin 512 → EReal) (b : S512x512.Idx → EReal) (d g : Fin 512 → EReal) (j : Fin 512) : EReal :=
  rI x b j * (d j * g j - x j * rI x b j * gat b (fun k => x k * rI x b k * (d k * g k)) j)
theorem bX_eq (x : S256x512.Idx → EReal) (b b' : S512x512.Idx → EReal) (d : Fin 512 → EReal) (g : S1x512.Idx → EReal) (r : Fin 256) (j : Fin 512) (x' d' g' : Fin 512 → EReal)
    (hx : ∀ k, x (ix2 r k) = x' k) (hb : ∀ i k, b (ix2 i k) = b' (ix2 i k)) (hd : ∀ k, d k = d' k) (hg : ∀ k, g (ix2 0 k) = g' k) : bX x b d g r j = rX x' b' d' g' j := by
  obtain rfl : b = b' := funext fun y => by rw [← ix2_eta y]; exact hb _ _
  obtain rfl := funext hd
  obtain rfl := (funext hx : (fun k => x (ix2 r k)) = x')
  obtain rfl := (funext hg : (fun k => g (ix2 0 k)) = g')
  rfl

/-- The rows of the arrays. -/
def xq (R : Fin 4096) (k : Fin 512) : EReal := aX m c (ix2 R ⟨k.val, by omega⟩)
def xk (R : Fin 4096) (k : Fin 512) : EReal := aX m c (ix2 R ⟨512 + k.val, by omega⟩)
def dqG (R : Fin 4096) (j : Fin 512) : EReal := aQ m c (ix3 (hd j) R (wide (ln j))) * c8
def dkG (R : Fin 4096) (j : Fin 512) : EReal := aK m c (ix3 (hd j) R (wide (ln j))) * cln
/-- A row of the first result. -/
def gP (R : Fin 4096) (j : Fin 1536) : EReal :=
  if h : j.val < 512 then rX (xq m c R) (aBd m c) (dqG m c R) (fun k => aGq m c (ix2 0 k)) ⟨j.val, h⟩
  else if h' : j.val - 512 < 512 then rX (xk m c R) (aBd m c) (dkG m c R) (fun k => aGk m c (ix2 0 k)) ⟨j.val - 512, h'⟩
  else aV m c (ix3 (hd ⟨j.val - 1024, by omega⟩) R (wide (ln ⟨j.val - 1024, by omega⟩)))

theorem outs_dp (t : Fin cfg0.N) (r : Fin 256) (j : Fin 1536) : (outsAt0 m c t.val t.isLt).1 (ix2 r j) = gP m c (rw' t r) j := by
  have e : View.canon (stores (iblk m c 3 t) (iblk m c 4 t) (iblk m c 5 t) (iblk m c 0 t) (iblk m c 1 t) (iblk m c 9 t) (iblk m c 6 t) (iblk m c 7 t)) (ix2 r j) = gP m c (rw' t r) j := by
    refine (stores_at _ _ _ _ _ _ _ _ r j).trans ?_
    unfold gP
    refine dite_congr rfl (fun h => ?_) fun h => dite_congr rfl (fun h' => ?_) fun h' => ?_
    · exact bX_eq _ _ _ _ _ _ _ _ _ _ (fun k => blk0 m c t r k) (fun i k => blk9 m c t i k) (fun k => congrArg (· * c8) (blk3 m c t _ r _)) (fun k => blk6 m c t k)
    · exact bX_eq _ _ _ _ _ _ _ _ _ _ (fun k => blk1 m c t r k) (fun i k => blk9 m c t i k) (fun k => congrArg (· * cln) (blk4 m c t _ r _)) (fun k => blk7 m c t k)
    · exact blk5 m c t _ r _
  by_cases h : t.val % 16 = 0
  · rw [outsAt0_A m c t h]; frame_out
    exact e
  · rw [outsAt0_B m c t h]; frame_out
    exact e

abbrev b0 (t : Fin cfg0.N) : S256x512.Idx → EReal := iblk m c 0 t
abbrev b1 (t : Fin cfg0.N) : S256x512.Idx → EReal := iblk m c 1 t
abbrev b2 (t : Fin cfg0.N) : S256x128.Idx → EReal := iblk m c 2 t
abbrev b8 (t : Fin cfg0.N) : S1x128.Idx → EReal := iblk m c 8 t
/-- The column of gates of a row. -/
def gD (R : Fin 4096) (l : Fin 128) : EReal :=
  if h : l.val < 8 then ∑ a : Fin 128, ((if a.val = 64 then aQ m c (ix3 ⟨l.val, h⟩ R a) else 0) - (if a.val = 67 then aK m c (ix3 ⟨l.val, h⟩ R a) else 0)) else 0
theorem dcl_eq (t : Fin cfg0.N) (a : Fin 256) (l : Fin 128) : dcl (ld8 (iblk m c 3 t)) (ld8 (iblk m c 4 t)) a l = gD m c (rw' t a) l := by
  unfold dcl gD pk
  refine dite_congr rfl (fun h => Finset.sum_congr rfl fun b _ => ?_) fun _ => rfl
  rw [ld8_at, ld8_at]
  exact congrArg₂ (fun u w => (if b.val = 64 then u else 0) - (if b.val = 67 then w else 0)) (blk3 m c t _ a b) (blk4 m c t _ a b)
/-- The sums down a tile. -/
def dl (t : Fin 16) (r : Fin 256) (l : Fin 128) : EReal :=
  (∑ a, aTr m c (ix2 r a) * gD m c (rowOf t a) l) + ∑ a, aTr m c (ix2 r a) * (gD m c (rowOf t a) l - gD m c (rowOf t a) l)
theorem dl_eq (t : Fin cfg0.N) (r : Fin 256) (l : Fin 128) : dlV (iblk m c 3 t) (iblk m c 4 t) (iblk m c 10 t) (ix2 r l) = dl m c ⟨t.val, lt16 t⟩ r l := by
  rw [dlV_at]
  unfold dlB dl
  simp only [dcl_eq]
  exact congrArg₂ _ (Finset.sum_congr rfl fun a _ => congrArg (· * _) (blk10 m c t r a)) (Finset.sum_congr rfl fun a _ => congrArg (· * _) (blk10 m c t r a))
/-- What is carried into a tile. -/
def car (l : Fin 128) : ℕ → EReal
  | 0 => 0
  | n + 1 => (if h : n < 16 then dl m c ⟨n, h⟩ 0 l else 0) + car l n

theorem outs_c (l : Fin 128) : ∀ (n : ℕ) (h : n < cfg0.N), (outsAt0 m c n h).2.2.2.2.2 (ix2 0 l) = car m c l (n + 1) := by
  intro n
  induction n with
  | zero =>
    intro h
    refine (congrFun (congrArg (fun o => o.2.2.2.2.2) (outsAt0_A m c ⟨0, h⟩ rfl)) (ix2 0 l)).trans ?_
    frame_out
    refine (pay47_at (dlV (iblk m c 3 ⟨0, h⟩) (iblk m c 4 ⟨0, h⟩) (iblk m c 10 ⟨0, h⟩)) (k0_pay1 (F := Ideal)) l).trans ?_
    rw [dl_eq, car, dif_pos (by omega)]
    refine congrArg₂ _ rfl ?_
    pointwise [k0_pay1]
    rfl
  | succ n ih =>
    intro h
    have h16 := lt16 ⟨n + 1, h⟩
    refine (congrFun (congrArg (fun o => o.2.2.2.2.2) (outsAt0_B m c ⟨n + 1, h⟩ (by show ¬ (n + 1) % 16 = 0; have : n + 1 < 16 := h16; omega))) (ix2 0 l)).trans ?_
    frame_out
    refine (pay47_at (dlV (iblk m c 3 ⟨n + 1, h⟩) (iblk m c 4 ⟨n + 1, h⟩) (iblk m c 10 ⟨n + 1, h⟩)) _ l).trans ?_
    rw [dl_eq, car, dif_pos (show n + 1 < 16 from h16)]
    exact congrArg₂ _ rfl ((congrFun (Memref.IsWhole.read_unread _ _) _).trans (ih _))

/-- The tile of a row and its place there. -/
def tl (R : Fin 4096) : Fin 16 := ⟨15 - R.val / 256, by omega⟩
def rr (R : Fin 4096) : Fin 256 := ⟨R.val % 256, by omega⟩
theorem tl_row (t : Fin 16) (r : Fin 256) : tl (rowOf t r) = t := Fin.ext (by show 15 - ((15 - t.val) * 256 + r.val) / 256 = t.val; omega)
theorem rr_row (t : Fin 16) (r : Fin 256) : rr (rowOf t r) = r := Fin.ext (by show ((15 - t.val) * 256 + r.val) % 256 = r.val; omega)
/-- A row of the second result. -/
def gF (R : Fin 4096) (l : Fin 128) : EReal :=
  (dl m c (tl R) (rr R) l + car m c l (tl R).val) * sgK (0 - (aF m c (ix2 R l) + aFb m c (ix2 0 l)))
theorem gF_eq (t : Fin cfg0.N) (cr : Vec Ideal S1x128 .f32) (r : Fin 256) (l : Fin 128) (hc : cr (ix2 0 l) = car m c l t.val) :
    (dlV (iblk m c 3 t) (iblk m c 4 t) (iblk m c 10 t) (ix2 r l) + cr (ix2 0 l)) * sgK (0 - (b2 m c t (ix2 r l) + b8 m c t (ix2 0 l))) = gF m c (rw' t r) l := by
  rw [dl_eq, hc, show b2 m c t (ix2 r l) = _ from blk2 m c t r l, show b8 m c t (ix2 0 l) = _ from blk8 m c t l]
  unfold gF
  rw [tl_row, rr_row]

theorem car_A (t : Fin cfg0.N) (h : t.val % 16 = 0) (l : Fin 128) : k0_pay1 (F := Ideal) (ix2 0 l) = car m c l t.val := by
  rw [show t.val = 0 by have := lt16 t; omega]
  pointwise [k0_pay1]
  rfl
theorem car_B (t : Fin cfg0.N) (h : ¬ t.val % 16 = 0) (l : Fin 128) :
    (outsAt0 m c (t.val - 1) (Nat.lt_of_le_of_lt (Nat.sub_le _ _) t.isLt)).2.2.2.2.2 (ix2 0 l) = car m c l t.val := by
  rw [outs_c]
  congr 1
  omega

theorem outs_df (t : Fin cfg0.N) (r : Fin 256) (l : Fin 128) : (outsAt0 m c t.val t.isLt).2.1 (ix2 r l) = gF m c (rw' t r) l := by
  by_cases h : t.val % 16 = 0
  · rw [outsAt0_A m c t h]; frame_out
    exact (pay50_at (dlV (iblk m c 3 t) (iblk m c 4 t) (iblk m c 10 t)) (k0_pay1 (F := Ideal)) (iblk m c 2 t) (iblk m c 8 t) r l).trans (gF_eq m c t _ r l (car_A m c t h l))
  · rw [outsAt0_B m c t h]; frame_out
    exact (pay50_at (dlV (iblk m c 3 t) (iblk m c 4 t) (iblk m c 10 t)) _ (iblk m c 2 t) (iblk m c 8 t) r l).trans (gF_eq m c t _ r l ((congrFun (Memref.IsWhole.read_unread _ _) _).trans (car_B m c t h l)))

/-- What a point adds to the sums over rows. -/
def pb (t : Fin cfg0.N) (y : S1x128.Idx) : EReal := ∑ r, gF m c (rw' t r) (y 1)
def gQ (R : Fin 4096) (j : Fin 512) : EReal := dqG m c R j * (xq m c R j * rI (xq m c R) (aBd m c) j)
def gK (R : Fin 4096) (j : Fin 512) : EReal := dkG m c R j * (xk m c R j * rI (xk m c R) (aBd m c) j)
def pq (t : Fin cfg0.N) (y : S1x512.Idx) : EReal := ∑ r, gQ m c (rw' t r) (y 1)
def pkk (t : Fin cfg0.N) (y : S1x512.Idx) : EReal := ∑ r, gK m c (rw' t r) (y 1)
theorem bI_eq (x : S256x512.Idx → EReal) (b b' : S512x512.Idx → EReal) (r : Fin 256) (j : Fin 512) (x' : Fin 512 → EReal)
    (hx : ∀ k, x (ix2 r k) = x' k) (hb : ∀ i k, b (ix2 i k) = b' (ix2 i k)) : bI x b r j = rI x' b' j := by
  obtain rfl : b = b' := funext fun y => by rw [← ix2_eta y]; exact hb _ _
  obtain rfl := (funext hx : (fun k => x (ix2 r k)) = x')
  rfl
theorem pq_eq (t : Fin cfg0.N) (y : S1x512.Idx) :
    ∑ r, dqB (iblk m c 3 t) r (y 1) * (b0 m c t (ix2 r (y 1)) * bI (iblk m c 0 t) (iblk m c 9 t) r (y 1)) = pq m c t y :=
  Finset.sum_congr rfl fun r _ => congrArg₂ _ (congrArg (· * c8) (blk3 m c t _ r _))
    (congrArg₂ _ (blk0 m c t r _) (bI_eq _ _ _ _ _ _ (fun k => blk0 m c t r k) (fun i k => blk9 m c t i k)))
theorem pk_eq' (t : Fin cfg0.N) (y : S1x512.Idx) :
    ∑ r, dkB (iblk m c 4 t) r (y 1) * (b1 m c t (ix2 r (y 1)) * bI (iblk m c 1 t) (iblk m c 9 t) r (y 1)) = pkk m c t y :=
  Finset.sum_congr rfl fun r _ => congrArg₂ _ (congrArg (· * cln) (blk4 m c t _ r _))
    (congrArg₂ _ (blk1 m c t r _) (bI_eq _ _ _ _ _ _ (fun k => blk1 m c t r k) (fun i k => blk9 m c t i k)))

theorem one_eta {n : ℕ} (y : (⟨2, ![1, n]⟩ : Shape).Idx) : y = ix2 0 (y 1) := by
  conv_lhs => rw [← ix2_eta y]
  rw [show y 0 = (0 : Fin 1) from Fin.ext (by have h : (y 0).val < 1 := (y 0).isLt; show (y 0).val = 0; omega)]
  rfl

theorem outs_q_A (t : Fin cfg0.N) (h : t.val % 16 = 0) (y : S1x512.Idx) : (outsAt0 m c t.val t.isLt).2.2.1 y = 0 + pq m c t y := by
  rw [outsAt0_A m c t h]; frame_out
  refine ((congrArg _ (one_eta y)).trans (dgq_at (iblk m c 3 t) (iblk m c 0 t) (iblk m c 9 t) (k0_pay2 (F := Ideal)) (y 1))).trans ?_
  refine congrArg₂ _ ?_ (pq_eq m c t y)
  pointwise [k0_pay2]
theorem outs_q_B (t : Fin cfg0.N) (h : ¬t.val % 16 = 0) (y : S1x512.Idx) :
    (outsAt0 m c t.val t.isLt).2.2.1 y = (outsAt0 m c (t.val - 1) (Nat.lt_of_le_of_lt (Nat.sub_le _ _) t.isLt)).2.2.1 y + pq m c t y := by
  rw [outsAt0_B m c t h]; frame_out
  refine ((congrArg _ (one_eta y)).trans (dgq_at (iblk m c 3 t) (iblk m c 0 t) (iblk m c 9 t) _ (y 1))).trans ?_
  exact congrArg₂ _ (congrArg (outsAt0 m c (t.val - 1) (Nat.lt_of_le_of_lt (Nat.sub_le _ _) t.isLt)).2.2.1 (one_eta y).symm) (pq_eq m c t y)
theorem outs_k_A (t : Fin cfg0.N) (h : t.val % 16 = 0) (y : S1x512.Idx) : (outsAt0 m c t.val t.isLt).2.2.2.1 y = 0 + pkk m c t y := by
  rw [outsAt0_A m c t h]; frame_out
  refine ((congrArg _ (one_eta y)).trans (dgk_at (iblk m c 4 t) (iblk m c 1 t) (iblk m c 9 t) (k0_pay3 (F := Ideal)) (y 1))).trans ?_
  refine congrArg₂ _ ?_ (pk_eq' m c t y)
  pointwise [k0_pay3]
theorem outs_k_B (t : Fin cfg0.N) (h : ¬t.val % 16 = 0) (y : S1x512.Idx) :
    (outsAt0 m c t.val t.isLt).2.2.2.1 y = (outsAt0 m c (t.val - 1) (Nat.lt_of_le_of_lt (Nat.sub_le _ _) t.isLt)).2.2.2.1 y + pkk m c t y := by
  rw [outsAt0_B m c t h]; frame_out
  refine ((congrArg _ (one_eta y)).trans (dgk_at (iblk m c 4 t) (iblk m c 1 t) (iblk m c 9 t) _ (y 1))).trans ?_
  exact congrArg₂ _ (congrArg (outsAt0 m c (t.val - 1) (Nat.lt_of_le_of_lt (Nat.sub_le _ _) t.isLt)).2.2.2.1 (one_eta y).symm) (pk_eq' m c t y)
theorem outs_b_A (t : Fin cfg0.N) (h : t.val % 16 = 0) (y : S1x128.Idx) : (outsAt0 m c t.val t.isLt).2.2.2.2.1 y = 0 + pb m c t y := by
  rw [outsAt0_A m c t h]; frame_out
  refine ((congrArg _ (one_eta y)).trans (pay49_at (dlV (iblk m c 3 t) (iblk m c 4 t) (iblk m c 10 t)) (k0_pay1 (F := Ideal)) (iblk m c 2 t) (iblk m c 8 t) (k0_pay4 (F := Ideal)) (y 1))).trans ?_
  refine congrArg₂ _ ?_ (Finset.sum_congr rfl fun r _ => gF_eq m c t _ r (y 1) (car_A m c t h (y 1)))
  pointwise [k0_pay4]
theorem outs_b_B (t : Fin cfg0.N) (h : ¬t.val % 16 = 0) (y : S1x128.Idx) :
    (outsAt0 m c t.val t.isLt).2.2.2.2.1 y = (outsAt0 m c (t.val - 1) (Nat.lt_of_le_of_lt (Nat.sub_le _ _) t.isLt)).2.2.2.2.1 y + pb m c t y := by
  rw [outsAt0_B m c t h]; frame_out
  refine ((congrArg _ (one_eta y)).trans (pay49_at (dlV (iblk m c 3 t) (iblk m c 4 t) (iblk m c 10 t)) _ (iblk m c 2 t) (iblk m c 8 t) _ (y 1))).trans ?_
  exact congrArg₂ _ (congrArg (outsAt0 m c (t.val - 1) (Nat.lt_of_le_of_lt (Nat.sub_le _ _) t.isLt)).2.2.2.2.1 (one_eta y).symm) (Finset.sum_congr rfl fun r _ => gF_eq m c t _ r (y 1) ((congrFun (Memref.IsWhole.read_unread _ _) _).trans (car_B m c t h (y 1))))

theorem final_dp : (dats m 0 c).arrAt 11 (cfgs 0).N = fun y : S4096x1536.Idx => gP m c (y 0) (y 1) := by
  refine (dats m 0 c).arrAt_eq_of_covers 11 _ (by decide +kernel) fun t hf y => ?_
  blk_simp
  rw [after0_11, ← ix2_eta y]
  refine (outs_dp m c t (y 0) (y 1)).trans (congrArg₂ (gP m c) (Fin.ext ?_) (Fin.ext ?_)) <;> (blk_simp [idx t]; try rfl)
theorem final_df : (dats m 0 c).arrAt 12 (cfgs 0).N = fun y : S4096x128.Idx => gF m c (y 0) (y 1) := by
  refine (dats m 0 c).arrAt_eq_of_covers 12 _ (by decide +kernel) fun t hf y => ?_
  blk_simp
  rw [after0_12, ← ix2_eta y]
  refine (outs_df m c t (y 0) (y 1)).trans (congrArg₂ (gF m c) (Fin.ext ?_) (Fin.ext ?_)) <;> (blk_simp [idx t]; try rfl)

/-- All points' parts together are the sum over the rows. -/
theorem all_rows (G : Fin 4096 → Fin 512 → EReal) (t : Fin cfg0.N) (h : t.val % 16 = 15) (j j' : Fin 512) (e : j = j') (hs : ∀ s : Fin 16, 16 * (t.val / 16) + s.val < cfg0.N) :
    (∑ s : Fin 16, ∑ r, G (rw' ⟨16 * (t.val / 16) + s.val, hs s⟩ r) j) = ∑ R, G R j' := by
  subst e
  rw [sum_rows]
  have ht := lt16 t
  refine Finset.sum_congr rfl fun s _ => Finset.sum_congr rfl fun r _ => congrArg (G · j) (congrArg (rowOf · r) (Fin.ext ?_))
  show 16 * (t.val / 16) + s.val = s.val
  omega
theorem all_rows' (G : Fin 4096 → Fin 128 → EReal) (t : Fin cfg0.N) (h : t.val % 16 = 15) (j j' : Fin 128) (e : j = j') (hs : ∀ s : Fin 16, 16 * (t.val / 16) + s.val < cfg0.N) :
    (∑ s : Fin 16, ∑ r, G (rw' ⟨16 * (t.val / 16) + s.val, hs s⟩ r) j) = ∑ R, G R j' := by
  subst e
  rw [sum_rows]
  have ht := lt16 t
  refine Finset.sum_congr rfl fun s _ => Finset.sum_congr rfl fun r _ => congrArg (G · j) (congrArg (rowOf · r) (Fin.ext ?_))
  show 16 * (t.val / 16) + s.val = s.val
  omega

theorem final_dgq : (dats m 0 c).arrAt 13 (cfgs 0).N = fun y : S1x512.Idx => ∑ R : Fin 4096, gQ m c R (y 1) := by
  refine (dats m 0 c).arrAt_eq_of_covers 13 _ (by decide +kernel) fun t hf y => ?_
  blk_simp
  rw [after0_13, Pipeline.eq_sum_fin_of_reset_step_apply_of_flush (fun n h => (outsAt0 m c n h).2.2.1) 16 (fun _ => 0) _
    (fun t h y => outs_q_A m c t h y) (fun t h y => outs_q_B m c t h y) t ((flush0_13 t).mp hf) y, zero_add]
  refine all_rows (gQ m c) t ((flush0_13 t).mp hf) _ _ (Fin.ext ?_) _
  blk_simp [idx t]
theorem final_dgk : (dats m 0 c).arrAt 14 (cfgs 0).N = fun y : S1x512.Idx => ∑ R : Fin 4096, gK m c R (y 1) := by
  refine (dats m 0 c).arrAt_eq_of_covers 14 _ (by decide +kernel) fun t hf y => ?_
  blk_simp
  rw [after0_14, Pipeline.eq_sum_fin_of_reset_step_apply_of_flush (fun n h => (outsAt0 m c n h).2.2.2.1) 16 (fun _ => 0) _
    (fun t h y => outs_k_A m c t h y) (fun t h y => outs_k_B m c t h y) t ((flush0_14 t).mp hf) y, zero_add]
  refine all_rows (gK m c) t ((flush0_14 t).mp hf) _ _ (Fin.ext ?_) _
  blk_simp [idx t]
theorem final_db : (dats m 0 c).arrAt 15 (cfgs 0).N = fun y : S1x128.Idx => ∑ R : Fin 4096, gF m c R (y 1) := by
  refine (dats m 0 c).arrAt_eq_of_covers 15 _ (by decide +kernel) fun t hf y => ?_
  blk_simp
  rw [after0_15, Pipeline.eq_sum_fin_of_reset_step_apply_of_flush (fun n h => (outsAt0 m c n h).2.2.2.2.1) 16 (fun _ => 0) _
    (fun t h y => outs_b_A m c t h y) (fun t h y => outs_b_B m c t h y) t ((flush0_15 t).mp hf) y, zero_add]
  refine all_rows' (gF m c) t ((flush0_15 t).mp hf) _ _ (Fin.ext ?_) _
  blk_simp [idx t]

end Cert.PostIdeal.Val

end
-- ==== Proof.PostHost.lean ====
/- The gradient call of the head norms and gates: the arrays the host prepares, and the results after the region. -/
module

public import proofs.«01_k».proof.Proof.PostValue
public import Idealize.ShloMosaic.Lib.Pipeline.ValueKit
public import Idealize.ShloMosaic.Lib.Pointwise
public import Idealize.ShloMosaic.Lib.KernelVsHost

@[expose] public section

set_option maxRecDepth 16384

noncomputable section

namespace Cert.PostIdeal.Val

open Idealize.ShloMosaic Idealize.ShloMosaic.TcCoe Idealize.SL.Sem
open Idealize.ShloMosaic.Pipeline (Dat)
open Cert.PostIdeal Cert.PostIdeal.Gen Cert.SiluGrad Cert.PostMath

variable (m : (ℓ : Loc nD τ sig) → Buf (Elt Ideal) ℓ) (c : Dev nD)

abbrev mx : FVec Ideal S4096x1536 .f32 := m ((c.tc : Thread nD τ).loc main_arg0)
abbrev mf : FVec Ideal S4096x8 .f32 := m ((c.tc : Thread nD τ).loc main_arg1)
abbrev mgq : FVec Ideal S64 .f32 := m ((c.tc : Thread nD τ).loc main_arg2)
abbrev mgk : FVec Ideal S64 .f32 := m ((c.tc : Thread nD τ).loc main_arg3)
abbrev mb : FVec Ideal S8 .f32 := m ((c.tc : Thread nD τ).loc main_arg4)
abbrev mq : FVec Ideal S8x4096x64 .f32 := m ((c.tc : Thread nD τ).loc main_arg5)
abbrev mk : FVec Ideal S8x4096x64 .f32 := m ((c.tc : Thread nD τ).loc main_arg6)
abbrev mv : FVec Ideal S8x4096x64 .f32 := m ((c.tc : Thread nD τ).loc main_arg7)
abbrev mc : FVec Ideal S8x4096 .f32 := m ((c.tc : Thread nD τ).loc main_arg8)

theorem v_x : V m c main_v16 = truncf .bf16 (mx m c) bitsLt_bf16_f32 := by
  entry_read
  rfl
theorem v_f : V m c main_v2 = concatenate S4096x128 1 [⟨S4096x8, mf m c⟩, ⟨S4096x120, broadcastInDim S4096x120 ![] bcast_S_S4096x120 (constant (F := Ideal) S_ .f32 0x00000000#32)⟩] concatenates_S4096x8_S4096x120_S4096x128_d1 := by
  entry_read
  rfl
theorem v_q : V m c main_v7 = concatenate S8x4096x128 2 [⟨S8x4096x64, mulf (mq m c) (broadcastInDim S8x4096x64 ![] bcast_S_S8x4096x64 (constant (F := Ideal) S_ .f32 0x41000000#32))⟩,
    ⟨S8x4096x1, broadcastInDim S8x4096x1 ![0, 1] bcast_S8x4096_S8x4096x1_0_1 (mc m c)⟩, ⟨S8x4096x63, broadcastInDim S8x4096x63 ![] bcast_S_S8x4096x63 (constant (F := Ideal) S_ .f32 0x00000000#32)⟩]
    concatenates_S8x4096x64_S8x4096x1_S8x4096x63_S8x4096x128_d2 := by
  entry_read
  rfl
theorem v_k : V m c main_v13 = concatenate S8x4096x128 2 [⟨S8x4096x64, Host.divf (mk m c) (broadcastInDim S8x4096x64 ![] bcast_S_S8x4096x64 (Host.log (constant (F := Ideal) S_ .f32 0x40000000#32)))⟩,
    ⟨S8x4096x64, broadcastInDim S8x4096x64 ![] bcast_S_S8x4096x64 (constant (F := Ideal) S_ .f32 0x00000000#32)⟩] concatenates_S8x4096x64_S8x4096x64_S8x4096x128_d2 := by
  entry_read
  rfl
theorem v_v : V m c main_v15 = concatenate S8x4096x128 2 [⟨S8x4096x64, mv m c⟩,
    ⟨S8x4096x64, broadcastInDim S8x4096x64 ![] bcast_S_S8x4096x64 (constant (F := Ideal) S_ .f32 0x00000000#32)⟩] concatenates_S8x4096x64_S8x4096x64_S8x4096x128_d2 := by
  entry_read
  rfl
/-- A gain, once per head, as one row. -/
abbrev gain (g : FVec Ideal S64 .f32) : FVec Ideal S1x512 .f32 :=
  shapeCast S1x512 (shapeCast S512 (broadcastInDim S8x64 ![0, 1] bcast_S1x64_S8x64_0_1 (shapeCast S1x64 g shapeCasts_S64_S1x64)) shapeCasts_S8x64_S512) shapeCasts_S512_S1x512
theorem v_gq : V m c main_v20 = gain (mgq m c) := by
  entry_read
  rfl
theorem v_gk : V m c main_v24 = gain (mgk m c) := by
  entry_read
  rfl
theorem v_b : V m c main_v27 = shapeCast S1x128 (concatenate S128 0 [⟨S8, mb m c⟩, ⟨S120, broadcastInDim S120 ![] bcast_S_S120 (constant (F := Ideal) S_ .f32 0x00000000#32)⟩] concatenates_S8_S120_S128_d0) shapeCasts_S128_S1x128 := by
  entry_read
  rfl
/-- The head of each column, as a number. -/
abbrev headNo : IVec S512 32 := Host.shrui (iotaInDim S512 32 0) (broadcastInDim S512 ![] bcast_S_S512 (constantI S_ 32 6#32))
theorem v_bd : V m c main_v38 = mulf (uitofp (F := Ideal) .bf16 (cmpi .eq (broadcastInDim S512x512 ![0, 1] bcast_S512x1_S512x512_0_1 (broadcastInDim S512x1 ![0] bcast_S512_S512x1_0 headNo))
      (broadcastInDim S512x512 ![0, 1] bcast_S1x512_S512x512_0_1 (broadcastInDim S1x512 ![1] bcast_S512_S1x512_1 headNo))))
    (broadcastInDim S512x512 ![] bcast_S_S512x512 (constant (F := Ideal) S_ .bf16 0x3C80#16)) := by
  entry_read
  rfl
theorem v_tr : V m c main_v45 = uitofp (F := Ideal) .bf16 (cmpi .sge (broadcastInDim S256x256 ![0, 1] bcast_S1x256_S256x256_0_1 (broadcastInDim S1x256 ![1] bcast_S256_S1x256_1 (iotaInDim S256 32 0)))
      (broadcastInDim S256x256 ![0, 1] bcast_S256x1_S256x256_0_1 (broadcastInDim S256x1 ![0] bcast_S256_S256x1_0 (iotaInDim S256 32 0)))) := by
  entry_read
  rfl

theorem x_at (R : Fin 4096) (k : Fin 1536) : aX m c (ix2 R k) = mx m c (ix2 R k) := by
  unfold aX; rw [v_x]; pointwise
theorem f_at (R : Fin 4096) (l : Fin 8) : aF m c (ix2 R ⟨l.val, by omega⟩) = mf m c (ix2 R l) := by
  have h : l.val < 8 := l.isLt
  unfold aF; rw [v_f]
  pointwise
theorem gain_at (g : FVec Ideal S64 .f32) (j : Fin 512) : gain g (ix2 0 j) = g (ix1 (ln j)) := by
  unfold gain
  pointwise
  rfl

/-- A truth value as a number. -/
theorem truth (p : Prop) [Decidable p] : FloatOps.uitofp (F := Ideal) FTy.bf16 (BitVec.ofBool (decide p)) = if p then (1 : EReal) else 0 := by
  show ((((BitVec.ofBool (decide p)).toNat : ℝ)) : EReal) = _
  by_cases h : p
  · simp [h]
  · simp [h]
theorem shift6 (k : ℕ) (h : k < 512) : IntOp.shrui ArithUnit.host (BitVec.ofNat 32 k) 6#32 = BitVec.ofNat 32 (k / 64) := by
  have e : IntOp.shrui ArithUnit.host (BitVec.ofNat 32 k) 6#32 = (BitVec.ofNat 32 k) >>> (6#32).toNat := rfl
  rw [e]
  apply BitVec.eq_of_toNat_eq
  rw [BitVec.toNat_ushiftRight, BitVec.toNat_ofNat, BitVec.toNat_ofNat, Nat.mod_eq_of_lt (by omega), Nat.mod_eq_of_lt (by omega), Nat.shiftRight_eq_div_pow, BitVec.toNat_ofNat, Nat.mod_eq_of_lt (by omega)]
theorem u64 : Ideal.ofBits FTy.bf16 15488#16 = ((1 / 64 : ℝ) : EReal) := by
  simp [Ideal.ofBits, Ideal.ieee, -EReal.coe_mul]; norm_num
theorem bd_at (k j : Fin 512) : aBd m c (ix2 k j) = if k.val / 64 = j.val / 64 then ((1 / 64 : ℝ) : EReal) else 0 := by
  unfold aBd; rw [v_bd]
  pointwise
  rw [shift6 _ k.isLt, shift6 _ j.isLt, Idealize.ShloMosaic.WordCmp.cmpi_eq_ofNat (by omega) (by omega), truth, u64]
  split
  · exact one_mul _
  · exact zero_mul _
theorem tr_at (r a : Fin 256) : aTr m c (ix2 r a) = if r.val ≤ a.val then 1 else 0 := by
  unfold aTr; rw [v_tr]
  pointwise
  rw [Idealize.ShloMosaic.WordCmp.cmpi_sge_ofNat (by omega) (by omega), truth]
abbrev e8 : EReal := Ideal.ofBits .f32 0x41000000#32
theorem q_at (h : Fin 8) (R : Fin 4096) (l : Fin 64) : aQ m c (ix3 h R (wide l)) = mq m c (ix3 h R l) * e8 := by
  unfold aQ; rw [v_q]
  pointwise
  exact dif_pos l.isLt
theorem q_64 (h : Fin 8) (R : Fin 4096) : aQ m c (ix3 h R ⟨64, by omega⟩) = mc m c (ix2 h R) := by
  unfold aQ; rw [v_q]
  pointwise
theorem k_at (h : Fin 8) (R : Fin 4096) (l : Fin 64) : aK m c (ix3 h R (wide l)) = Ideal.div (mk m c (ix3 h R l)) (Ideal.log (Ideal.ofBits .f32 0x40000000#32)) := by
  unfold aK; rw [v_k]
  pointwise
  exact dif_pos l.isLt
theorem k_67 (h : Fin 8) (R : Fin 4096) : aK m c (ix3 h R ⟨67, by omega⟩) = 0 := by
  unfold aK; rw [v_k]
  pointwise
theorem v_at (h : Fin 8) (R : Fin 4096) (l : Fin 64) : aV m c (ix3 h R (wide l)) = mv m c (ix3 h R l) := by
  unfold aV; rw [v_v]
  pointwise
  exact dif_pos l.isLt
theorem gq_at (j : Fin 512) : aGq m c (ix2 0 j) = mgq m c (ix1 (ln j)) := by
  unfold aGq; rw [v_gq]; exact gain_at _ j
theorem gk_at (j : Fin 512) : aGk m c (ix2 0 j) = mgk m c (ix1 (ln j)) := by
  unfold aGk; rw [v_gk]; exact gain_at _ j
theorem b_at (l : Fin 8) : aFb m c (ix2 0 ⟨l.val, by omega⟩) = mb m c (ix1 l) := by
  have h : l.val < 8 := l.isLt
  unfold aFb; rw [v_b]
  pointwise

abbrev dpA : FVec Ideal S4096x1536 .bf16 := (dats m 0 c).arrAt 11 (cfgs 0).N
abbrev dfA : FVec Ideal S4096x128 .bf16 := (dats m 0 c).arrAt 12 (cfgs 0).N
abbrev dgqA : FVec Ideal S1x512 .f32 := (dats m 0 c).arrAt 13 (cfgs 0).N
abbrev dgkA : FVec Ideal S1x512 .f32 := (dats m 0 c).arrAt 14 (cfgs 0).N
abbrev dbA : FVec Ideal S1x128 .f32 := (dats m 0 c).arrAt 15 (cfgs 0).N
abbrev endV : Valuation τ sig (Elt Ideal) := Pipeline.withArrays (cfgs 0).spec c (V0 m c) fun w => (dats m 0 c).arrAt w (cfgs 0).N

theorem end_dp : endV m c (Proc.devRef .tc main_v46_0) = dpA m c := Pipeline.withArrays_arr_shared (cfgs 0).spec c (V0 m c) _ (Pipeline.Dat.arrAt_sharedIn (dats m 0 c) sharedIn0 (V0 m c) (A_eq m c) _) 11
theorem end_df : endV m c (Proc.devRef .tc main_v46_1) = dfA m c := Pipeline.withArrays_arr_shared (cfgs 0).spec c (V0 m c) _ (Pipeline.Dat.arrAt_sharedIn (dats m 0 c) sharedIn0 (V0 m c) (A_eq m c) _) 12
theorem end_dgq : endV m c (Proc.devRef .tc main_v46_2) = dgqA m c := Pipeline.withArrays_arr_shared (cfgs 0).spec c (V0 m c) _ (Pipeline.Dat.arrAt_sharedIn (dats m 0 c) sharedIn0 (V0 m c) (A_eq m c) _) 13
theorem end_dgk : endV m c (Proc.devRef .tc main_v46_3) = dgkA m c := Pipeline.withArrays_arr_shared (cfgs 0).spec c (V0 m c) _ (Pipeline.Dat.arrAt_sharedIn (dats m 0 c) sharedIn0 (V0 m c) (A_eq m c) _) 14
theorem end_db : endV m c (Proc.devRef .tc main_v46_4) = dbA m c := Pipeline.withArrays_arr_shared (cfgs 0).spec c (V0 m c) _ (Pipeline.Dat.arrAt_sharedIn (dats m 0 c) sharedIn0 (V0 m c) (A_eq m c) _) 15
theorem t_dp (σ : Valuation τ sig (Elt Ideal)) : StableHlo.after hostOps1 σ (Proc.devRef .tc main_v47)
    = ((extf .f32 · bitsLt_bf16_f32) : FVec Ideal S4096x1536 .bf16 → FVec Ideal S4096x1536 .f32) (σ (Proc.devRef .tc main_v46_0)) := by
  entry_read
  rfl
theorem t_df (σ : Valuation τ sig (Elt Ideal)) : StableHlo.after hostOps1 σ (Proc.devRef .tc main_v49)
    = (fun x : FVec Ideal S4096x128 .bf16 => extf (F := Ideal) .f32 (extractStridedSlice S4096x8 ![0, 0] x slices_S4096x128_S4096x8_0_0) bitsLt_bf16_f32) (σ (Proc.devRef .tc main_v46_1)) := by
  entry_read
  rfl
/-- The heads' gains summed. -/
abbrev headSum (x : FVec Ideal S1x512 .f32) : FVec Ideal S64 .f32 :=
  Host.reduceAdd (shapeCast S8x64 x shapeCasts_S1x512_S8x64) (constant (F := Ideal) S_ .f32 0x00000000#32) reducesTo_S8x64_S64_d0 h_S_
theorem t_dgq (σ : Valuation τ sig (Elt Ideal)) : StableHlo.after hostOps1 σ (Proc.devRef .tc main_v51) = headSum (σ (Proc.devRef .tc main_v46_2)) := by
  entry_read
  rfl
theorem t_dgk (σ : Valuation τ sig (Elt Ideal)) : StableHlo.after hostOps1 σ (Proc.devRef .tc main_v53) = headSum (σ (Proc.devRef .tc main_v46_3)) := by
  entry_read
  rfl
abbrev cut8 (x : FVec Ideal S1x128 .f32) : FVec Ideal S8 .f32 := shapeCast S8 (extractStridedSlice S1x8 ![0, 0] x slices_S1x128_S1x8_0_0) shapeCasts_S1x8_S8
theorem t_db (σ : Valuation τ sig (Elt Ideal)) : StableHlo.after hostOps1 σ (Proc.devRef .tc main_v55) = cut8 (σ (Proc.devRef .tc main_v46_4)) := by
  entry_read
  rfl
theorem headSum_at (x : FVec Ideal S1x512 .f32) (l : Fin 64) : headSum x (ix1 l) = ∑ h : Fin 8, x (ix2 0 (hl h l)) := by
  unfold headSum
  pointwise
  rfl
theorem cut8_at (x : FVec Ideal S1x128 .f32) (l : Fin 8) : cut8 x (ix1 l) = x (ix2 0 ⟨l.val, by omega⟩) := by
  unfold cut8
  pointwise

/-- A result after the lines behind the region. -/
abbrev Tail (b : Ref sig .tc) := Pipeline.afterTail₀ cfgs (dats m) 0 (V0 m) [hostOps1] c b
theorem tail_dp (R : Fin 4096) (j : Fin 1536) : (Tail m c main_v47 : S4096x1536.Idx → EReal) (ix2 R j) = gP m c R j :=
  (congrFun ((t_dp (endV m c)).trans (congrArg ((extf .f32 · bitsLt_bf16_f32) : FVec Ideal S4096x1536 .bf16 → FVec Ideal S4096x1536 .f32) (end_dp m c))) (ix2 R j)).trans
    (congrFun (final_dp m c) (ix2 R j))
abbrev cut128 (x : FVec Ideal S4096x128 .bf16) : FVec Ideal S4096x8 .f32 := extf (F := Ideal) .f32 (extractStridedSlice S4096x8 ![0, 0] x slices_S4096x128_S4096x8_0_0) bitsLt_bf16_f32
theorem cut128_at (x : FVec Ideal S4096x128 .bf16) (R : Fin 4096) (l : Fin 8) : cut128 x (ix2 R l) = x (ix2 R ⟨l.val, by omega⟩) := by
  unfold cut128
  pointwise
theorem tail_df (R : Fin 4096) (l : Fin 8) : (Tail m c main_v49 : S4096x8.Idx → EReal) (ix2 R l) = gF m c R ⟨l.val, by omega⟩ := by
  have e : cut128 (dfA m c) (ix2 R l) = gF m c R ⟨l.val, by omega⟩ := (cut128_at _ R l).trans (congrFun (final_df m c) (ix2 R _))
  exact (congrFun ((t_df (endV m c)).trans (congrArg cut128 (end_df m c))) (ix2 R l)).trans e
theorem tail_dgq (l : Fin 64) : (Tail m c main_v51 : S64.Idx → EReal) (ix1 l) = ∑ h : Fin 8, ∑ R : Fin 4096, gQ m c R (hl h l) := by
  have e : headSum (dgqA m c) (ix1 l) = ∑ h : Fin 8, ∑ R : Fin 4096, gQ m c R (hl h l) :=
    (headSum_at _ l).trans (Finset.sum_congr rfl fun h _ => congrFun (final_dgq m c) (ix2 0 (hl h l)))
  exact (congrFun ((t_dgq (endV m c)).trans (congrArg headSum (end_dgq m c))) (ix1 l)).trans e
theorem tail_dgk (l : Fin 64) : (Tail m c main_v53 : S64.Idx → EReal) (ix1 l) = ∑ h : Fin 8, ∑ R : Fin 4096, gK m c R (hl h l) := by
  have e : headSum (dgkA m c) (ix1 l) = ∑ h : Fin 8, ∑ R : Fin 4096, gK m c R (hl h l) :=
    (headSum_at _ l).trans (Finset.sum_congr rfl fun h _ => congrFun (final_dgk m c) (ix2 0 (hl h l)))
  exact (congrFun ((t_dgk (endV m c)).trans (congrArg headSum (end_dgk m c))) (ix1 l)).trans e
theorem tail_db (l : Fin 8) : (Tail m c main_v55 : S8.Idx → EReal) (ix1 l) = ∑ R : Fin 4096, gF m c R ⟨l.val, by omega⟩ := by
  have e : cut8 (dbA m c) (ix1 l) = ∑ R : Fin 4096, gF m c R ⟨l.val, by omega⟩ := (cut8_at _ l).trans (congrFun (final_db m c) (ix2 0 _))
  exact (congrFun ((t_db (endV m c)).trans (congrArg cut8 (end_db m c))) (ix1 l)).trans e

end Cert.PostIdeal.Val

end
-- ==== Proof.PostRef.lean ====
/- The gradient call of the head norms and gates: the reference's results, entry by entry. -/
module

public import proofs.«01_k».proof.Proof.NormGrad
public import proofs.«01_k».proof.Proof.PostMath
public import proofs.«01_k».proof.Proof.Gen.PostRefIdeal.Read
public import Idealize.ShloMosaic.Lib.Pointwise

@[expose] public section

set_option maxRecDepth 16384

noncomputable section

namespace Cert.PostRefIdeal.Val

open Idealize.ShloMosaic Cert.PostRefIdeal Cert.PostRefIdeal.Gen Cert.PostRefIdeal.Read Cert.NormGrad Cert.PostMath

variable (x : FVec Ideal S4096x1536 .f32) (f : FVec Ideal S4096x8 .f32) (gq gk : FVec Ideal S64 .f32) (b : FVec Ideal S8 .f32)
  (q k v : FVec Ideal S8x4096x64 .f32) (dc : FVec Ideal S8x4096 .f32)

/-- A head's row of queries, and of keys. -/
def xqr (h : Fin 8) (R : Fin 4096) (l : Fin 64) : EReal := x (ix2 R ⟨h.val * 64 + l.val, by omega⟩)
def xkr (h : Fin 8) (R : Fin 4096) (l : Fin 64) : EReal := x (ix2 R ⟨512 + (h.val * 64 + l.val), by omega⟩)
theorem xq_at (h : Fin 8) (R : Fin 4096) (l : Fin 64) : val_main_v9 (F := Ideal) x (ix3 h R l) = xqr x h R l := by
  pointwise [val_main_v9, val_main_v8, val_main_v0]
  rfl
theorem xk_at (h : Fin 8) (R : Fin 4096) (l : Fin 64) : val_main_v27 (F := Ideal) x (ix3 h R l) = xkr x h R l := by
  pointwise [val_main_v27, val_main_v26, val_main_v1]
  rfl

abbrev cN : EReal := Ideal.ofBits .f32 0x42800000#32
abbrev cEr : EReal := Ideal.ofBits .f32 0x358637BD#32
abbrev cH : EReal := Ideal.ofBits .f32 0xBF000000#32

theorem q_row (h : Fin 8) (R : Fin 4096) (l : Fin 64) : val_main_v91 (F := Ideal) x gq q (ix3 h R l)
    = far cN cEr cH (xqr x h R) (fun a => q (ix3 h R a) * gq (ix1 a)) l := by
  unfold far
  pointwise [val_main_v91, val_main_v90, val_main_v87, val_main_v86, val_main_cst_16, val_main_v85, val_main_v84, val_main_cst_15, val_main_v83, val_main_v20, val_main_v18, val_main_v16, val_main_v15, val_main_cst_1, val_main_v14, val_main_v13, val_main_cst_0, val_main_v12, val_main_v11, val_main_cst, val_main_v10, val_main_v17, val_main_v19, val_main_cst_2, val_main_v80, val_main_v79, val_main_cst_14, val_main_v78, val_main_v76, val_main_v75, val_main_v23, val_main_v89, val_main_v88, val_main_v82, val_main_v81]
  simp only [xq_at]
  rfl
theorem k_row (h : Fin 8) (R : Fin 4096) (l : Fin 64) : val_main_v69 (F := Ideal) x gk k (ix3 h R l)
    = far cN cEr cH (xkr x h R) (fun a => k (ix3 h R a) * gk (ix1 a)) l := by
  unfold far
  pointwise [val_main_v69, val_main_v68, val_main_v65, val_main_v64, val_main_cst_11, val_main_v63, val_main_v62, val_main_cst_10, val_main_v61, val_main_v38, val_main_v36, val_main_v34, val_main_v33, val_main_cst_5, val_main_v32, val_main_v31, val_main_cst_4, val_main_v30, val_main_v29, val_main_cst_3, val_main_v28, val_main_v35, val_main_v37, val_main_cst_6, val_main_v58, val_main_v57, val_main_cst_9, val_main_v56, val_main_v54, val_main_v53, val_main_v41, val_main_v67, val_main_v66, val_main_v60, val_main_v59]
  simp only [xk_at]
  rfl
theorem q_col (R : Fin 4096) (j : Fin 512) : val_main_v93 (F := Ideal) x gq q (ix2 R j)
    = val_main_v91 (F := Ideal) x gq q (ix3 (hd j) R (ln j)) := by
  pointwise [val_main_v93, val_main_v92]
  rfl
theorem k_col (R : Fin 4096) (j : Fin 512) : val_main_v71 (F := Ideal) x gk k (ix2 R j)
    = val_main_v69 (F := Ideal) x gk k (ix3 (hd j) R (ln j)) := by
  pointwise [val_main_v71, val_main_v70]
  rfl
theorem v_col (R : Fin 4096) (j : Fin 512) : val_main_v49 (F := Ideal) v (ix2 R j) = v (ix3 (hd j) R (ln j)) := by
  pointwise [val_main_v49, val_main_v48]
  rfl
theorem cat3 (a d e : FVec Ideal S4096x512 .f32) (pf) (R : Fin 4096) (j : Fin 1536) :
    concatenate S4096x1536 1 [⟨S4096x512, a⟩, ⟨S4096x512, d⟩, ⟨S4096x512, e⟩] pf (ix2 R j)
      = if h : j.val < 512 then a (ix2 R ⟨j.val, h⟩) else if h' : j.val - 512 < 512 then d (ix2 R ⟨j.val - 512, h'⟩)
        else e (ix2 R ⟨j.val - 512 - 512, by omega⟩) := by
  pointwise

theorem v99_at (R : Fin 4096) (j : Fin 1536) : val_main_v99 (F := Ideal) x gq gk q k v (ix2 R j)
    = if h : j.val < 512 then val_main_v93 (F := Ideal) x gq q (ix2 R ⟨j.val, h⟩) else
        if h' : j.val - 512 < 512 then val_main_v71 (F := Ideal) x gk k (ix2 R ⟨j.val - 512, h'⟩)
        else val_main_v49 (F := Ideal) v (ix2 R ⟨j.val - 512 - 512, by omega⟩) :=
  cat3 _ _ _ _ R j

/-- A sum over the two leading axes is the sum over the first, then the second. -/
theorem two_axes {n0 n1 n2 : Nat} (h : (⟨3, ![n0, n1, n2]⟩ : Shape).ReducesTo [0, 1] ⟨1, ![n2]⟩)
    (w : (⟨3, ![n0, n1, n2]⟩ : Shape).Idx → EReal) (z : EReal) (l : Fin n2) :
    Ideal.hostReduceAdd h w z (ix1 l) = z + ∑ a : Fin n0, ∑ b : Fin n1, w (ix3 a b l) := by
  refine congrArg (z + ·) ?_
  refine (Finset.sum_filter_eq_sum_of_fiber _ (fun p : Fin n0 × Fin n1 => ix3 p.1 p.2 l)
    (fun _ _ e => Prod.ext (congrFun e 0) (congrFun e 1)) (fun i => ?_) w).trans ?_
  · constructor
    · intro e
      refine ⟨(i 0, i 1), funext fun a => Fin.ext ?_⟩
      match a with
      | ⟨0, _⟩ => rfl
      | ⟨1, _⟩ => rfl
      | ⟨2, _⟩ => exact (congrArg Fin.val (congrFun e 0)).symm
    · rintro ⟨p, rfl⟩
      refine funext fun a => Fin.ext ?_
      match a with
      | ⟨0, _⟩ => rfl
  · rw [Fintype.sum_prod_type]

theorem zero32 : Ideal.ofBits .f32 0x0#32 = 0 := by
  simp [Ideal.ofBits, Ideal.ieee]

theorem v73_at (l : Fin 64) : val_main_v73 (F := Ideal) x q (ix1 l)
    = ∑ h : Fin 8, ∑ R : Fin 4096, val_main_v72 (F := Ideal) x q (ix3 h R l) := by
  refine (two_axes _ (val_main_v72 (F := Ideal) x q) _ l).trans ?_
  refine (congrArg (· + _) ?_).trans (zero_add _)
  exact zero32
theorem v51_at (l : Fin 64) : val_main_v51 (F := Ideal) x k (ix1 l)
    = ∑ h : Fin 8, ∑ R : Fin 4096, val_main_v50 (F := Ideal) x k (ix3 h R l) := by
  refine (two_axes _ (val_main_v50 (F := Ideal) x k) _ l).trans ?_
  refine (congrArg (· + _) ?_).trans (zero_add _)
  exact zero32
theorem v72_at (h : Fin 8) (R : Fin 4096) (l : Fin 64) : val_main_v72 (F := Ideal) x q (ix3 h R l)
    = xqr x h R l * NormGrad.inv cN cEr (xqr x h R) * q (ix3 h R l) := by
  pointwise [val_main_v72, val_main_v22, val_main_v21, val_main_v17, val_main_v16, val_main_v15, val_main_cst_1, val_main_v14, val_main_v13, val_main_cst_0, val_main_v12, val_main_v11, val_main_cst, val_main_v10]
  simp only [xq_at]
  rfl
theorem v50_at (h : Fin 8) (R : Fin 4096) (l : Fin 64) : val_main_v50 (F := Ideal) x k (ix3 h R l)
    = xkr x h R l * NormGrad.inv cN cEr (xkr x h R) * k (ix3 h R l) := by
  pointwise [Cert.PostRefIdeal.Read.val_main_v50, Cert.PostRefIdeal.Read.val_main_v40, Cert.PostRefIdeal.Read.val_main_v39, Cert.PostRefIdeal.Read.val_main_v35, Cert.PostRefIdeal.Read.val_main_v34, Cert.PostRefIdeal.Read.val_main_v33, Cert.PostRefIdeal.Read.val_main_cst_5, Cert.PostRefIdeal.Read.val_main_v32, Cert.PostRefIdeal.Read.val_main_v31, Cert.PostRefIdeal.Read.val_main_cst_4, Cert.PostRefIdeal.Read.val_main_v30, Cert.PostRefIdeal.Read.val_main_v29, Cert.PostRefIdeal.Read.val_main_cst_3, Cert.PostRefIdeal.Read.val_main_v28]
  simp only [xk_at]
  rfl
theorem one_by_one (w : FVec Ideal S64 .f32) (l : Fin 64) :
    shapeCast S1x1x64 w shapeCasts_S64_S1x1x64 (ix3 0 0 l) = w (ix1 l) := by
  pointwise
theorem dgq_at (l : Fin 64) : val_main_v77 (F := Ideal) x q (ix1 l)
    = ∑ h : Fin 8, ∑ R : Fin 4096, xqr x h R l * NormGrad.inv cN cEr (xqr x h R) * q (ix3 h R l) := by
  refine (two_axes _ (val_main_v74 (F := Ideal) x q) _ l).trans ?_
  refine (congrArg (· + _) zero32).trans ((zero_add _).trans ?_)
  simp only [Finset.univ_unique, Finset.sum_singleton]
  refine (one_by_one _ l).trans ((v73_at x q l).trans ?_)
  exact Finset.sum_congr rfl fun h _ => Finset.sum_congr rfl fun R _ => v72_at x q h R l
theorem dgk_at (l : Fin 64) : val_main_v55 (F := Ideal) x k (ix1 l)
    = ∑ h : Fin 8, ∑ R : Fin 4096, xkr x h R l * NormGrad.inv cN cEr (xkr x h R) * k (ix3 h R l) := by
  refine (two_axes _ (val_main_v52 (F := Ideal) x k) _ l).trans ?_
  refine (congrArg (· + _) zero32).trans ((zero_add _).trans ?_)
  simp only [Finset.univ_unique, Finset.sum_singleton]
  refine (one_by_one _ l).trans ((v51_at x k l).trans ?_)
  exact Finset.sum_congr rfl fun h _ => Finset.sum_congr rfl fun R _ => v50_at x k h R l

/-- The derivative factor of the log sigmoid at `-y`, as the reference's division-free form has it. -/
def gate (y : EReal) : EReal :=
  Ideal.exp ((if y = Ideal.ofBits .f32 2139095040#32 then 0 else y)
    - (if (if y ≠ y then y else max y 0 + Ideal.log1p (Ideal.exp (-FloatOps.absf (F := Ideal) (φ := .f32) y))) = Ideal.ofBits .f32 2139095040#32 then 0
       else if y ≠ y then y else max y 0 + Ideal.log1p (Ideal.exp (-FloatOps.absf (F := Ideal) (φ := .f32) y))))

theorem df_at (R : Fin 4096) (l : Fin 8) : val_main_v95 (F := Ideal) f b dc (ix2 R l)
    = -(-(val_main_v47 (F := Ideal) dc (ix2 l R)) * gate (-(f (ix2 R l) + b (ix1 l)))) := by
  pointwise [val_main_v95, val_main_call3_v1, val_main_v6_1, val_main_call0_call0_v21, val_main_call0_call0_v20, val_main_call0_v1_0, val_main_call0_call0_v11, val_main_call0_call0_v10, val_main_call0_call0_v9, val_main_call0_call0_v8, val_main_call0_call0_v7, val_main_call0_call0_v3, val_main_call0_call0_v2, val_main_call0_call0_cst, val_main_call0_v0, val_main_v5, val_main_v4, val_main_v3, val_main_call0_call0_v1, val_main_call0_call0_v0, val_main_call0_call0_v6, val_main_call0_call0_v5, val_main_call0_call0_v4, val_main_call0_call0_v19, val_main_call0_call0_cst_3, val_main_call0_call0_v18, val_main_call0_call0_v17, val_main_call0_call0_cst_2, val_main_call0_call0_v16, val_main_call0_call0_v15, val_main_call0_call0_cst_1, val_main_call0_call0_v14, val_main_call0_call0_v13, val_main_call0_call0_cst_0, val_main_call3_v0, val_main_v94]
  rfl
theorem db_at (l : Fin 8) : val_main_v98 (F := Ideal) f b dc (ix1 l) = ∑ R : Fin 4096, val_main_v95 (F := Ideal) f b dc (ix2 R l) := by
  pointwise [val_main_v98, val_main_cst_18, val_main_v97, val_main_v96, val_main_cst_17]
  simp only [Finset.univ_unique, Finset.sum_singleton]

theorem fold_add {n : Nat} (g : Fin n → EReal) (z : EReal) :
    (List.finRange n).foldl (fun r k => r + g k) z = z + ∑ k, g k := by
  have e (L : List (Fin n)) : ∀ z, L.foldl (fun r k => r + g k) z = z + (L.map g).sum := by
    induction L with
    | nil => intro z; simp
    | cons a L ih => intro z; rw [List.foldl_cons, ih, List.map_cons, List.sum_cons, add_assoc]
  rw [e, Fin.sum_univ_def]

/-- The sum of the shifted terms inside the range is the sum of the later terms. -/
theorem shifted (N : Nat) (w : Fin N → EReal) (R : Fin N) :
    (∑ k : Fin N, if h : R.val + k.val < N then w ⟨R.val + k.val, h⟩ else 0) = ∑ k : Fin N, if R.val ≤ k.val then w k else 0 := by
  have hR := R.isLt
  let G : Nat → EReal := fun n => if h : n < N then w ⟨n, h⟩ else 0
  have e1 : (∑ k : Fin N, if R.val ≤ k.val then w k else 0) = ∑ n ∈ Finset.range N, if R.val ≤ n then G n else 0 := by
    rw [← Fin.sum_univ_eq_sum_range (fun n => if R.val ≤ n then G n else 0)]
    refine Finset.sum_congr rfl fun k _ => ?_
    show _ = if R.val ≤ k.val then (if h : k.val < N then w ⟨k.val, h⟩ else 0) else 0
    rw [dif_pos k.isLt]
  have e2 : (∑ k : Fin N, if h : R.val + k.val < N then w ⟨R.val + k.val, h⟩ else 0) = ∑ n ∈ Finset.range N, G (R.val + n) :=
    Fin.sum_univ_eq_sum_range (fun n => G (R.val + n)) N
  rw [e1, e2, ← Finset.sum_filter]
  have e3 : (Finset.range N).filter (fun n => R.val ≤ n) = Finset.Ico R.val N := by
    ext n; simp only [Finset.mem_filter, Finset.mem_range, Finset.mem_Ico]; omega
  rw [e3, Finset.sum_Ico_eq_sum_range]
  symm
  refine Finset.sum_subset (Finset.range_subset_range.2 (Nat.sub_le _ _)) fun n _ h => ?_
  have h' : ¬ R.val + n < N := by simp only [Finset.mem_range] at h; omega
  exact dif_neg h'

/-- One window row is a line. -/
def lineE (N : Nat) : (⟨2, ![1, N]⟩ : Shape).Idx ≃ Fin N where
  toFun i := i 1
  invFun k := ix2 0 k
  left_inv i := funext fun a => match a with
    | ⟨0, _⟩ => Fin.ext (by have h : (i 0).val < 1 := (i 0).isLt; show 0 = (i 0).val; omega)
    | ⟨1, _⟩ => rfl
  right_inv _ := rfl

/-- A window over the rest of the row sums the rest of the row. -/
theorem window_sum (A N : Nat) (w : (⟨2, ![A, N]⟩ : Shape).Idx → EReal)
    (h : (⟨2, ![A, N]⟩ : Shape).ReduceWindows ![1, N] ![1, 1] ![0, 0] ![0, N - 1] ⟨2, ![A, N]⟩) (l : Fin A) (R : Fin N) :
    Ideal.hostReduceWindowAdd ![1, N] ![1, 1] ![0, 0] ![0, N - 1] h w 0 (ix2 l R)
      = ∑ k : Fin N, if R.val ≤ k.val then w (ix2 l k) else 0 := by
  unfold Ideal.hostReduceWindowAdd Host.reduceWindow
  refine (fold_add _ _).trans ((zero_add _).trans ?_)
  refine Eq.trans ?_ (shifted N (fun k => w (ix2 l k)) R)
  refine Eq.trans ?_ ((lineE N).sum_comp (fun k : Fin N => if h : R.val + k.val < N then w (ix2 l ⟨R.val + k.val, h⟩) else 0))
  refine Eq.trans ?_ ((⟨2, ![1, N]⟩ : Shape).rowMajor.symm.sum_comp (fun i : (⟨2, ![1, N]⟩ : Shape).Idx =>
    if h : R.val + (lineE N i).val < N then w (ix2 l ⟨R.val + (lineE N i).val, h⟩) else 0))
  refine Finset.sum_congr rfl fun n _ => ?_
  obtain ⟨i, hi⟩ : ∃ i, i = (⟨2, ![1, N]⟩ : Shape).rowMajor.symm n := ⟨_, rfl⟩
  have h0 : (i 0).val < 1 := (i 0).isLt
  have e1 : l.val * 1 + (i 0).val - 0 = l.val := by omega
  have e2 : R.val * 1 + (i 1).val - 0 = R.val + (i 1).val := by omega
  subst hi
  by_cases hk : R.val + (lineE N ((⟨2, ![1, N]⟩ : Shape).rowMajor.symm n)).val < N
  · refine Eq.trans ?_ (dif_pos hk).symm
    refine (dif_pos ?_).trans ?_
    · intro a
      match a with
      | ⟨0, _⟩ => exact ⟨Nat.zero_le _, lt_of_eq_of_lt e1 l.isLt⟩
      | ⟨1, _⟩ => exact ⟨Nat.zero_le _, lt_of_eq_of_lt e2 hk⟩
    · refine congrArg w (funext fun a => Fin.ext ?_)
      match a with
      | ⟨0, _⟩ => exact e1
      | ⟨1, _⟩ => exact e2
  · refine Eq.trans ?_ (dif_neg hk).symm
    refine dif_neg fun hin => hk ?_
    exact lt_of_eq_of_lt e2.symm (hin 1).2

theorem window_at (A N p : Nat) (hp : p = N - 1) (w : (⟨2, ![A, N]⟩ : Shape).Idx → EReal) (z : EReal) (hz : z = 0)
    (h : (⟨2, ![A, N]⟩ : Shape).ReduceWindows ![1, N] ![1, 1] ![0, 0] ![0, p] ⟨2, ![A, N]⟩) (l : Fin A) (R : Fin N) :
    FloatOps.hostReduceWindowAdd (F := Ideal) (φ := .f32) ![1, N] ![1, 1] ![0, 0] ![0, p] h .single w z (ix2 l R)
      = ∑ k : Fin N, if R.val ≤ k.val then w (ix2 l k) else 0 := by
  subst hp hz
  exact window_sum A N w h l R

theorem v47_at (l : Fin 8) (R : Fin 4096) : val_main_v47 (F := Ideal) dc (ix2 l R)
    = ∑ k : Fin 4096, if R.val ≤ k.val then dc (ix2 l k) else 0 := by
  unfold val_main_v47 Host.reduceWindowAdd
  refine window_at 8 4096 4095 rfl dc _ ?_ _ l R
  exact zero32

end Cert.PostRefIdeal.Val

end
-- ==== Proof.PostEq.lean ====
/- The gradient call of the head norms and gates: on real arguments the kernel's entries are the reference's. -/
module

public import proofs.«01_k».proof.Proof.PostHost
public import proofs.«01_k».proof.Proof.PostRef

@[expose] public section

set_option maxRecDepth 16384

noncomputable section

namespace Cert.PostIdeal.Val

open Idealize.ShloMosaic Idealize.ShloMosaic.TcCoe Idealize.SL.Sem Cert.PostIdeal Cert.PostIdeal.Gen Cert.PostMath Cert.NormGrad Cert.Reals
open Cert.SiluGrad (sgK)
open Cert.PostRefIdeal.Val (xqr xkr cN cEr cH gate)

theorem c64 : cN = ((64 : ℝ) : EReal) := by
  simp [cN, Ideal.ofBits, Ideal.ieee, -EReal.coe_mul]; norm_num
theorem e8_eq : e8 = ((8 : ℝ) : EReal) := by
  simp [e8, Ideal.ofBits, Ideal.ieee, -EReal.coe_mul]; norm_num
theorem c8_eq : c8 = ((1 / 8 : ℝ) : EReal) := by
  simp [c8, Ideal.ofBits, Ideal.ieee, -EReal.coe_mul]; norm_num
theorem two_eq : Ideal.ofBits .f32 0x40000000#32 = ((2 : ℝ) : EReal) := by
  simp [Ideal.ofBits, Ideal.ieee, -EReal.coe_mul]; norm_num
theorem cln_eq : cln = ((Real.log 2 : ℝ) : EReal) := rfl

/-- On a real row the kernel's factor and gradient are the reference's. -/
theorem norm_inv (X : Fin 64 → EReal) (hX : ∀ l, ∃ r : ℝ, X l = (r : EReal)) :
    kinv ((1 / 64 : ℝ) : EReal) cE X = Cert.NormGrad.inv cN cEr X := by
  choose x hx using hX
  obtain rfl := funext hx
  obtain ⟨e, he, ee⟩ := eps_f32
  rw [show cE = (e : EReal) from ee, show cEr = (e : EReal) from ee, c64]
  exact kinv_eq e he x
theorem norm_row (X H : Fin 64 → EReal) (l : Fin 64) (hX : ∀ l, ∃ r : ℝ, X l = (r : EReal)) (hH : ∀ l, ∃ r : ℝ, H l = (r : EReal)) :
    knear ((1 / 64 : ℝ) : EReal) cE X H l = far cN cEr cH X H l := by
  choose x hx using hX
  choose h hh using hH
  obtain rfl := funext hx
  obtain rfl := funext hh
  obtain ⟨e, he, ee⟩ := eps_f32
  rw [show cE = (e : EReal) from ee, show cEr = (e : EReal) from ee, c64, show cH = _ from neg_half_f32]
  exact (knear_eq e he x h l).trans (far_near 64 e (by norm_num) he x h l).symm

theorem gate_real (y : ℝ) : gate (y : EReal) = sgK (y : EReal) := by
  have ht : Ideal.ofBits .f32 2139095040#32 = ⊤ := by simp [Ideal.ofBits, Ideal.ieee]
  have ha : FloatOps.absf (F := Ideal) (φ := .f32) (y : EReal) = ((|y| : ℝ) : EReal) := by
    show max (y : EReal) (-(y : EReal)) = _
    rw [← EReal.coe_neg, ← EReal.coe_strictMono.monotone.map_max]; rfl
  have hp : (0 : ℝ) < 1 + Real.exp (-|y|) := by positivity
  have hs : max (y : EReal) 0 + Ideal.log1p (Ideal.exp (-((|y| : ℝ) : EReal))) = ((max y 0 + Real.log (1 + Real.exp (-|y|)) : ℝ) : EReal) := by
    unfold Ideal.log1p
    rw [← EReal.coe_neg, Ideal.exp_coe, ← EReal.coe_one, ← EReal.coe_add, log_real hp, ← EReal.coe_zero, ← EReal.coe_strictMono.monotone.map_max, ← EReal.coe_add]
  unfold gate
  rw [ha, if_neg (show ¬ ((y : EReal) ≠ (y : EReal)) from fun h => h rfl), hs, ht, if_neg (EReal.coe_ne_top _), if_neg (EReal.coe_ne_top _)]
  exact exp_sub_log y

variable (m : (ℓ : Loc nD τ sig) → Buf (Elt Ideal) ℓ) (c : Dev nD)

theorem rI_gen (b : S512x512.Idx → EReal) (u : EReal) (hb : ∀ k j : Fin 512, b (ix2 k j) = if k.val / 64 = j.val / 64 then u else 0)
    (X : Fin 512 → EReal) (j : Fin 512) : rI X b j = kinv u cE (fun l => X (hl (hd j) l)) := by
  unfold rI gat kinv
  simp only [hb]
  exact congrArg (fun s => Ideal.rsqrt (s + cE)) (sum_seg (fun k => X k * X k) _ j)
theorem rX_gen (b : S512x512.Idx → EReal) (u : EReal) (hb : ∀ k j : Fin 512, b (ix2 k j) = if k.val / 64 = j.val / 64 then u else 0)
    (X D G : Fin 512 → EReal) (j : Fin 512) : rX X b D G j
    = knear u cE (fun l => X (hl (hd j) l)) (fun l => D (hl (hd j) l) * G (hl (hd j) l)) (ln j) := by
  have e : gat b (fun k => X k * rI X b k * (D k * G k)) j
      = ∑ l : Fin 64, X (hl (hd j) l) * rI X b j * (D (hl (hd j) l) * G (hl (hd j) l)) * u := by
    unfold gat
    simp only [hb]
    refine (sum_seg (fun k => X k * rI X b k * (D k * G k)) _ j).trans (Finset.sum_congr rfl fun l _ => ?_)
    rw [show rI X b (hl (hd j) l) = rI X b j by rw [rI_gen b u hb, rI_gen b u hb, hd_hl]]
  unfold rX knear
  rw [e, rI_gen b u hb]
  beta_reduce
  rw [hl_hd]
theorem rI_eq (X : Fin 512 → EReal) (j : Fin 512) :
    rI X (aBd m c) j = kinv ((1 / 64 : ℝ) : EReal) cE (fun l => X (hl (hd j) l)) := rI_gen _ _ (bd_at m c) X j
theorem rX_eq (X D G : Fin 512 → EReal) (j : Fin 512) : rX X (aBd m c) D G j
    = knear ((1 / 64 : ℝ) : EReal) cE (fun l => X (hl (hd j) l)) (fun l => D (hl (hd j) l) * G (hl (hd j) l)) (ln j) :=
  rX_gen _ _ (bd_at m c) X D G j

theorem xq_eq (R : Fin 4096) (h : Fin 8) (l : Fin 64) : xq m c R (hl h l) = xqr (mx m c) h R l := x_at m c R _
theorem xk_eq (R : Fin 4096) (h : Fin 8) (l : Fin 64) : xk m c R (hl h l) = xkr (mx m c) h R l := x_at m c R _

section
variable (hx : ∀ y, ∃ r : ℝ, mx m c y = (r : EReal)) (hf : ∀ y, ∃ r : ℝ, mf m c y = (r : EReal))
  (hgq : ∀ y, ∃ r : ℝ, mgq m c y = (r : EReal)) (hgk : ∀ y, ∃ r : ℝ, mgk m c y = (r : EReal)) (hb : ∀ y, ∃ r : ℝ, mb m c y = (r : EReal))
  (hq : ∀ y, ∃ r : ℝ, mq m c y = (r : EReal)) (hk : ∀ y, ∃ r : ℝ, mk m c y = (r : EReal)) (hc : ∀ y, ∃ r : ℝ, mc m c y = (r : EReal))

include hq in
theorem dqG_eq (R : Fin 4096) (h : Fin 8) (l : Fin 64) : dqG m c R (hl h l) = mq m c (ix3 h R l) := by
  obtain ⟨r, e⟩ := hq (ix3 h R l)
  unfold dqG
  rw [hd_hl, ln_hl, q_at, e, e8_eq, c8_eq, ← EReal.coe_mul, ← EReal.coe_mul]
  congr 1; ring
include hk in
theorem dkG_eq (R : Fin 4096) (h : Fin 8) (l : Fin 64) : dkG m c R (hl h l) = mk m c (ix3 h R l) := by
  obtain ⟨r, e⟩ := hk (ix3 h R l)
  have h2 : Real.log 2 ≠ 0 := (Real.log_pos (by norm_num)).ne'
  unfold dkG
  rw [hd_hl, ln_hl, k_at, e, two_eq, log_real (by norm_num), div_real _ h2, cln_eq, ← EReal.coe_mul, div_mul_cancel₀ _ h2]

include hx hgq hq in
theorem q_rows (R : Fin 4096) (j : Fin 512) : rX (xq m c R) (aBd m c) (dqG m c R) (fun k => aGq m c (ix2 0 k)) j
    = far cN cEr cH (xqr (mx m c) (hd j) R) (fun a => mq m c (ix3 (hd j) R a) * mgq m c (ix1 a)) (ln j) := by
  rw [rX_eq]
  have e1 : (fun l => xq m c R (hl (hd j) l)) = xqr (mx m c) (hd j) R := funext fun l => xq_eq m c R _ l
  have e2 : (fun l => dqG m c R (hl (hd j) l) * aGq m c (ix2 0 (hl (hd j) l))) = fun a => mq m c (ix3 (hd j) R a) * mgq m c (ix1 a) :=
    funext fun l => by rw [dqG_eq m c hq, gq_at, ln_hl]
  rw [e1, e2]
  refine norm_row _ _ _ (fun l => hx _) fun l => ?_
  obtain ⟨r, e⟩ := hq (ix3 (hd j) R l)
  obtain ⟨s, e'⟩ := hgq (ix1 l)
  exact ⟨r * s, by rw [e, e', EReal.coe_mul]⟩
include hx hgk hk in
theorem k_rows (R : Fin 4096) (j : Fin 512) : rX (xk m c R) (aBd m c) (dkG m c R) (fun k => aGk m c (ix2 0 k)) j
    = far cN cEr cH (xkr (mx m c) (hd j) R) (fun a => mk m c (ix3 (hd j) R a) * mgk m c (ix1 a)) (ln j) := by
  rw [rX_eq]
  have e1 : (fun l => xk m c R (hl (hd j) l)) = xkr (mx m c) (hd j) R := funext fun l => xk_eq m c R _ l
  have e2 : (fun l => dkG m c R (hl (hd j) l) * aGk m c (ix2 0 (hl (hd j) l))) = fun a => mk m c (ix3 (hd j) R a) * mgk m c (ix1 a) :=
    funext fun l => by rw [dkG_eq m c hk, gk_at, ln_hl]
  rw [e1, e2]
  refine norm_row _ _ _ (fun l => hx _) fun l => ?_
  obtain ⟨r, e⟩ := hk (ix3 (hd j) R l)
  obtain ⟨s, e'⟩ := hgk (ix1 l)
  exact ⟨r * s, by rw [e, e', EReal.coe_mul]⟩

include hx hgq hgk hq hk in
theorem dp_eq (R : Fin 4096) (j : Fin 1536) : gP m c R j
    = Cert.PostRefIdeal.Read.val_main_v99 (F := Ideal) (mx m c) (mgq m c) (mgk m c) (mq m c) (mk m c) (mv m c) (ix2 R j) := by
  rw [Cert.PostRefIdeal.Val.v99_at]
  unfold gP
  refine dite_congr rfl (fun h => ?_) fun h => dite_congr rfl (fun h' => ?_) fun h' => ?_
  · rw [Cert.PostRefIdeal.Val.q_col, Cert.PostRefIdeal.Val.q_row]
    exact q_rows m c hx hgq hq R _
  · rw [Cert.PostRefIdeal.Val.k_col, Cert.PostRefIdeal.Val.k_row]
    exact k_rows m c hx hgk hk R _
  · rw [Cert.PostRefIdeal.Val.v_col, v_at]
    exact congrArg (fun n : Fin 512 => mv m c (ix3 (hd n) R (ln n))) (Fin.ext (by show j.val - 1024 = j.val - 512 - 512; omega))

include hx hq in
theorem gQ_eq (R : Fin 4096) (h : Fin 8) (l : Fin 64) : gQ m c R (hl h l)
    = xqr (mx m c) h R l * Cert.NormGrad.inv cN cEr (xqr (mx m c) h R) * mq m c (ix3 h R l) := by
  unfold gQ
  rw [dqG_eq m c hq, rI_eq, xq_eq, hd_hl, show (fun l => xq m c R (hl h l)) = xqr (mx m c) h R from funext fun l => xq_eq m c R _ l,
    norm_inv (xqr (mx m c) h R) (fun l => hx _), mul_comm]
include hx hk in
theorem gK_eq (R : Fin 4096) (h : Fin 8) (l : Fin 64) : gK m c R (hl h l)
    = xkr (mx m c) h R l * Cert.NormGrad.inv cN cEr (xkr (mx m c) h R) * mk m c (ix3 h R l) := by
  unfold gK
  rw [dkG_eq m c hk, rI_eq, xk_eq, hd_hl, show (fun l => xk m c R (hl h l)) = xkr (mx m c) h R from funext fun l => xk_eq m c R _ l,
    norm_inv (xkr (mx m c) h R) (fun l => hx _), mul_comm]

theorem gD_eq (R : Fin 4096) (l : Fin 8) : gD m c R ⟨l.val, by omega⟩ = mc m c (ix2 l R) := by
  unfold gD
  rw [dif_pos l.isLt]
  exact (pk_eq (fun y => aQ m c (ix3 l R (y 2))) (fun y => aK m c (ix3 l R (y 2))) 0 (k_67 m c l R)).trans (q_64 m c l R)
include hc in
theorem dl_sum (t : Fin 16) (r : Fin 256) (l : Fin 8) : dl m c t r ⟨l.val, by omega⟩
    = ∑ k : Fin 256, if r.val ≤ k.val then mc m c (ix2 l (rowOf t k)) else 0 := by
  unfold dl
  simp only [gD_eq]
  have e : (∑ a : Fin 256, aTr m c (ix2 r a) * (mc m c (ix2 l (rowOf t a)) - mc m c (ix2 l (rowOf t a)))) = 0 :=
    Finset.sum_eq_zero fun a _ => by
      obtain ⟨d, ed⟩ := hc (ix2 l (rowOf t a))
      rw [ed, ← EReal.coe_sub, sub_self, EReal.coe_zero, mul_zero]
  rw [e, add_zero]
  refine Finset.sum_congr rfl fun a _ => ?_
  rw [tr_at, ite_mul, one_mul, zero_mul]
include hc in
theorem car_sum (l : Fin 8) (n : ℕ) : car m c ⟨l.val, by omega⟩ n = later (fun R => mc m c (ix2 l R)) n := by
  induction n with
  | zero => rfl
  | succ n ih =>
    unfold car later
    rw [ih]
    refine congrArg (· + _) (dite_congr rfl (fun h => ?_) fun _ => rfl)
    rw [dl_sum m c hc]
    exact Finset.sum_congr rfl fun k _ => if_pos (Nat.zero_le _)
theorem row_back (R : Fin 4096) : rowOf (tl R) (rr R) = R :=
  Fin.ext (by show (15 - (15 - R.val / 256)) * 256 + R.val % 256 = R.val; omega)

include hf hb hc in
theorem df_eq (R : Fin 4096) (l : Fin 8) : gF m c R ⟨l.val, by omega⟩
    = Cert.PostRefIdeal.Read.val_main_v95 (F := Ideal) (mf m c) (mb m c) (mc m c) (ix2 R l) := by
  rw [Cert.PostRefIdeal.Val.df_at, Cert.PostRefIdeal.Val.v47_at]
  unfold gF
  rw [dl_sum m c hc, car_sum m c hc, suffix (fun R => mc m c (ix2 l R)) (tl R) (rr R), row_back, f_at, b_at]
  obtain ⟨a, ea⟩ := hf (ix2 R l)
  obtain ⟨b, eb⟩ := hb (ix1 l)
  rw [ea, eb, ← EReal.coe_add, ← EReal.coe_neg, gate_real, EReal.neg_mul, neg_neg, ← EReal.coe_zero, ← EReal.coe_sub, zero_sub]
end

end Cert.PostIdeal.Val

end
-- ==== Proof.PostMain.lean ====
/- The claims about the gradient call of the head norms and gates. -/
module

public import proofs.«01_k».proof.Defs
public import proofs.«01_k».proof.Proof.PostEq
public import proofs.«01_k».proof.Proof.Gen.Post.Frame
public import proofs.«01_k».proof.Proof.Gen.PostRefIdeal.Run
public import proofs.«01_k».proof.Proof.Gen.Pre_post_finite
public import Idealize.ShloMosaic.Lib.ReduceAll
public import Idealize.ShloMosaic.Lib.Claim
public import Idealize.ShloMosaic.Lib.Quiescent

@[expose] public section

set_option maxRecDepth 16384

noncomputable section

namespace Cert.PostProof

open Idealize.ShloMosaic Idealize.ShloMosaic.TcCoe Idealize.SL.Sem
open Cert.Reals

instance one_index : Subsingleton Cert.Pre_post_finite.S_.Idx := ⟨fun a b => funext fun x => x.elim0⟩

theorem both {a b : BitVec 1} (h : IntOp.andi a b = 1#1) : a = 1#1 ∧ b = 1#1 := by
  revert a b; decide

section
open Cert.Pre_post_finite Cert.Pre_post_finite.Gen
/-- What the precondition says: every element of every argument is real. -/
theorem real_args (x : FVec Ideal S4096x1536 .f32) (f : FVec Ideal S4096x8 .f32) (gq gk : FVec Ideal S64 .f32) (b : FVec Ideal S8 .f32)
    (q k v : FVec Ideal S8x4096x64 .f32) (d : FVec Ideal S8x4096 .f32) (h : fn (F := Ideal) x f gq gk b q k v d = fun _ => 1#1) :
    (∀ y, ∃ r : ℝ, x y = (r : EReal)) ∧ (∀ y, ∃ r : ℝ, f y = (r : EReal)) ∧ (∀ y, ∃ r : ℝ, gq y = (r : EReal))
    ∧ (∀ y, ∃ r : ℝ, gk y = (r : EReal)) ∧ (∀ y, ∃ r : ℝ, b y = (r : EReal)) ∧ (∀ y, ∃ r : ℝ, q y = (r : EReal))
    ∧ (∀ y, ∃ r : ℝ, k y = (r : EReal)) ∧ (∀ y, ∃ r : ℝ, d y = (r : EReal)) := by
  have e := congrFun h ix0
  unfold fn fn_part1 fn_part2 at e
  dsimp only at e
  obtain ⟨e, e8⟩ := both e
  obtain ⟨e, e7⟩ := both e
  obtain ⟨e, e6⟩ := both e
  obtain ⟨e, e5⟩ := both e
  obtain ⟨e, e4⟩ := both e
  obtain ⟨e, e3⟩ := both e
  obtain ⟨e, e2⟩ := both e
  obtain ⟨e0, e1⟩ := both e
  exact ⟨fun y => real_of_abs (Host.reduce_andi_all _ _ _ _ _ e0 y), fun y => real_of_abs (Host.reduce_andi_all _ _ _ _ _ e1 y),
    fun y => real_of_abs (Host.reduce_andi_all _ _ _ _ _ e2 y), fun y => real_of_abs (Host.reduce_andi_all _ _ _ _ _ e3 y),
    fun y => real_of_abs (Host.reduce_andi_all _ _ _ _ _ e4 y), fun y => real_of_abs (Host.reduce_andi_all _ _ _ _ _ e5 y),
    fun y => real_of_abs (Host.reduce_andi_all _ _ _ _ _ e6 y), fun y => real_of_abs (Host.reduce_andi_all _ _ _ _ _ e8 y)⟩
end

theorem frame : Cert.quiescent_Post := fun m ρ _ => Cert.Post.Gen.frame m ρ
theorem frame_ideal : Cert.quiescent_PostIdeal := fun m ρ _ => Cert.PostIdeal.Gen.frame m ρ
theorem frame_ideal_finite : Cert.quiescent_PostIdeal_pre_post_finite := fun m ρ _ => Cert.PostIdeal.Gen.frame m ρ
theorem frame_ref : Cert.quiescent_PostRefIdeal := fun m ρ _ =>
  (θ_run Cert.PostRefIdeal.defs _ _).mono (fun r h => ⟨fun c => (h c).2.2.2.2.2, sem_eq_zero_of_no_sems (by decide) r.2⟩)
    (Cert.PostRefIdeal.Value.run (F := Ideal) m ρ)
theorem frame_ref_finite : Cert.quiescent_PostRefIdeal_pre_post_finite := fun m ρ _ => frame_ref m ρ trivial
theorem ln2 : Cert.preserves_Post_PostIdeal :=
  IdealRules.named_const.statement Cert.PostIdeal.κ "ln2" .f32 0x3F317218#32 ((Real.log 2 : ℝ) : EReal) rfl

open Cert.PostIdeal Cert.PostIdeal.Gen Cert.PostIdeal.Val Cert.PostMath in
/-- The five results of the kernel are the reference's. -/
theorem values (m : (ℓ : Loc nD τ sig) → Buf (Elt Ideal) ℓ) (c : Dev nD)
    (h : Cert.Pre_post_finite.fn (F := Ideal) (mx m c) (mf m c) (mgq m c) (mgk m c) (mb m c) (mq m c) (mk m c) (mv m c) (mc m c) = fun _ => 1#1) :
    Cert.PostRefIdeal.Read.val_main_v99 (F := Ideal) (mx m c) (mgq m c) (mgk m c) (mq m c) (mk m c) (mv m c) = Tail m c main_v47
    ∧ Cert.PostRefIdeal.Read.val_main_v95 (F := Ideal) (mf m c) (mb m c) (mc m c) = Tail m c main_v49
    ∧ Cert.PostRefIdeal.Read.val_main_v77 (F := Ideal) (mx m c) (mq m c) = Tail m c main_v51
    ∧ Cert.PostRefIdeal.Read.val_main_v55 (F := Ideal) (mx m c) (mk m c) = Tail m c main_v53
    ∧ Cert.PostRefIdeal.Read.val_main_v98 (F := Ideal) (mf m c) (mb m c) (mc m c) = Tail m c main_v55 := by
  obtain ⟨hx, hf, hgq, hgk, hb, hq, hk, hc⟩ := real_args _ _ _ _ _ _ _ _ _ h
  refine ⟨?_, ?_, ?_, ?_, ?_⟩
  · refine funext fun y => ?_
    rw [← ix2_eta y]
    exact ((tail_dp m c (y 0) (y 1)).trans (dp_eq m c hx hgq hgk hq hk (y 0) (y 1))).symm
  · refine funext fun y => ?_
    rw [← ix2_eta y]
    exact ((tail_df m c (y 0) (y 1)).trans (df_eq m c hf hb hc (y 0) (y 1))).symm
  · refine funext fun y => ?_
    rw [← ix1_eta y]
    refine (Cert.PostRefIdeal.Val.dgq_at _ _ (y 0)).trans (Eq.trans ?_ (tail_dgq m c (y 0)).symm)
    exact Finset.sum_congr rfl fun h _ => Finset.sum_congr rfl fun R _ => (gQ_eq m c hx hq R h (y 0)).symm
  · refine funext fun y => ?_
    rw [← ix1_eta y]
    refine (Cert.PostRefIdeal.Val.dgk_at _ _ (y 0)).trans (Eq.trans ?_ (tail_dgk m c (y 0)).symm)
    exact Finset.sum_congr rfl fun h _ => Finset.sum_congr rfl fun R _ => (gK_eq m c hx hk R h (y 0)).symm
  · refine funext fun y => ?_
    rw [← ix1_eta y]
    refine (Cert.PostRefIdeal.Val.db_at _ _ _ (y 0)).trans (Eq.trans ?_ (tail_db m c (y 0)).symm)
    exact Finset.sum_congr rfl fun R _ => (df_eq m c hf hb hc R (y 0)).symm

open Cert.PostIdeal Cert.PostIdeal.Gen Cert.PostIdeal.Val in
theorem run_results (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v47) = Tail m c main_v47 ∧ r.2.mem ((c.tc : Thread nD τ).loc main_v49) = Tail m c main_v49
      ∧ r.2.mem ((c.tc : Thread nD τ).loc main_v51) = Tail m c main_v51 ∧ r.2.mem ((c.tc : Thread nD τ).loc main_v53) = Tail m c main_v53
      ∧ r.2.mem ((c.tc : Thread nD τ).loc main_v55) = Tail m c main_v55) := by
  refine θ_run_mono (Cert.PostIdeal.Gen.run_main m g) ?_
  intro r h c
  exact ⟨(h c).2 main_v47 (by decide : main_v47 ∈ Pipeline.restRefs sig spec0), (h c).2 main_v49 (by decide : main_v49 ∈ Pipeline.restRefs sig spec0),
    (h c).2 main_v51 (by decide : main_v51 ∈ Pipeline.restRefs sig spec0), (h c).2 main_v53 (by decide : main_v53 ∈ Pipeline.restRefs sig spec0),
    (h c).2 main_v55 (by decide : main_v55 ∈ Pipeline.restRefs sig spec0)⟩

open Cert.PostIdeal Cert.PostIdeal.Gen Cert.PostIdeal.Val in
theorem algebraic : Cert.algebraic_PostIdeal_PostRefIdeal_pre_post_finite := by
  intro m g m' g' hpre hagree
  refine ⟨fun c => Tail m c main_v47, fun c => Tail m c main_v49, fun c => Tail m c main_v51, fun c => Tail m c main_v53, fun c => Tail m c main_v55, ?_, ?_⟩
  · refine θ_run_mono (θ_run_and (run_results m g) (Cert.PostIdeal.Gen.frame m g)) ?_
    intro r h c
    obtain ⟨h1, h2, h3, h4, h5⟩ := h.1 c
    exact ⟨h1, h2, h3, h4, h5, h.2.1 c⟩
  · refine θ_run_mono (Cert.PostRefIdeal.Value.run (F := Ideal) m' g') ?_
    intro r h c
    obtain ⟨h1, h2, h3, h4, h5, h6⟩ := h c
    obtain ⟨a0, a1, a2, a3, a4, a5, a6, a7, a8⟩ := hagree c
    obtain ⟨r1, r2, r3, r4, r5⟩ := values m c (hpre c)
    refine ⟨h1.trans ?_, h2.trans ?_, h3.trans ?_, h4.trans ?_, h5.trans ?_, h6⟩
    · rw [Cert.PostRefIdeal.Read.val_main_v99_eq, a0, a2, a3, a5, a6, a7]; exact r1
    · rw [Cert.PostRefIdeal.Read.val_main_v95_eq, a1, a4, a8]; exact r2
    · rw [Cert.PostRefIdeal.Read.val_main_v77_eq, a0, a5]; exact r3
    · rw [Cert.PostRefIdeal.Read.val_main_v55_eq, a0, a6]; exact r4
    · rw [Cert.PostRefIdeal.Read.val_main_v98_eq, a1, a4, a8]; exact r5

end Cert.PostProof

end
-- ==== Proof.AttnIdealRun.lean ====
module

public import proofs.«01_k».proof.Proof.Gen.AttnIdeal.Frame
public import proofs.«01_k».proof.Proof.Gen.AttnIdeal.Skeleton
public import proofs.«01_k».proof.Proof.Gen.AttnIdeal.Points
public import proofs.«01_k».proof.Proof.Gen.AttnIdeal.Loops
public import Idealize.ShloMosaic.Lib.Exec
public import Idealize.ShloMosaic.Lib.Pipeline.FrameBody
public import Idealize.ShloMosaic.Lib.Ring
public import Idealize.ShloMosaic.Lib.Claim

@[expose] public section

set_option maxRecDepth 16384

noncomputable section

namespace Cert.AttnIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AttnIdeal Cert.AttnIdeal.Gen

variable {F : FTy → Type} [FloatOps F] [Named F]

local notation "𝕄" => MT nD τ sig Unit (Elt F) ℕ (UR sig nD τ) ℕ

/-- The first visit of a head pair: the point whose key tile is the first. -/
abbrev first (i : grid0.Coords) : Prop := (Scalar.cmpi .ne (Scalar.extui (Scalar.cmpi .eq (BitVec.ofNat 32 (i 1).val) 0#32)) 0#32) = 1#1
theorem first_iff : ∀ t : Fin cfg0.N, first (grid0.coords t) ↔ t.val % 4 = 0 :=
  (fun t => by
    have ht : t.val < 16 := Nat.lt_of_lt_of_eq t.isLt N_0
    have e1 : (grid0.coords t 1).val = t.val / 1 % 4 := Pipeline.Grid.coords_val t 1 (by decide) rfl
    simp only [first, e1]
    word_cmp
   : ∀ t : Fin grid0.N, first (grid0.coords t) ↔ t.val % 4 = 0)

set_option maxHeartbeats 2000000 in
/-- The body at a point that opens a head pair: the pieces its stores leave in the three outputs, with the triple
    they are read off. All three outputs start from anything. -/
noncomputable def runA (c : Dev nD) (i : grid0.Coords) (arg2 : Memref sig .tc .vmem S2x4096x128 .bf16) (harg2 : arg2.IsWhole) (arg3 : Memref sig .tc .vmem S2x1024x128 .bf16) (harg3 : arg3.IsWhole) (arg4 : Memref sig .tc .vmem S2x1024x128 .bf16) (harg4 : arg4.IsWhole) (arg5 : Memref sig .tc .vmem S2x4096x128 .bf16) (harg5 : arg5.IsWhole) (arg6 : Memref sig .tc .vmem S2x4096x128 .f32) (harg6 : arg6.IsWhole) (arg7 : Memref sig .tc .vmem S2x1024x128 .f32) (harg7 : arg7.IsWhole) (arg8 : Memref sig .tc .vmem S2x1024x128 .f32) (harg8 : arg8.IsWhole) (hc : first i)
    (x0 : Vec F S2x4096x128 .bf16) (x1 : Vec F S2x1024x128 .bf16) (x2 : Vec F S2x1024x128 .bf16) (x3 : Vec F S2x4096x128 .bf16) :
    Σ' (L4 : List (View.Piece (Elt F) S2x4096x128 .f32)) (L5 : List (View.Piece (Elt F) S2x1024x128 .f32)), { L6 : List (View.Piece (Elt F) S2x1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
              ∗ (∃ f, arg6.view.loc (c : Thread nD τ) ↦[arg6.view.set]{fullShare} arg6.view.writes (Elt F) f L4)
              ∗ (∃ f, arg7.view.loc (c : Thread nD τ) ↦[arg7.view.set]{fullShare} arg7.view.writes (Elt F) f L5)
              ∗ (∃ f, arg8.view.loc (c : Thread nD τ) ↦[arg8.view.set]{fullShare} arg8.view.writes (Elt F) f L6)) -∗ K ⟨⟩))
          ⊢ wp frame (wpE (defs₀ (F := F)) Variants.none c none) E (cc0_attn_bwd i arg2 harg2 arg3 harg3 arg4 harg4 arg5 harg5 arg6 harg6 arg7 harg7 arg8 harg8) K } := by
  refine ⟨?_, ?_, ?_, fun E K => ?run⟩
  case run =>
    simp only [cc0_attn_bwd_eq_skeleton]; unfold cc0_attn_bwd_skel
    simp only [k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
    obtain rfl := harg2.eq_unread hf0; obtain rfl := harg3.eq_unread hf1; obtain rfl := harg4.eq_unread hf2; obtain rfl := harg5.eq_unread hf3
    sl_exec (disch := first | sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    iexists _; iexact H6

set_option maxHeartbeats 2000000 in
/-- The body at a point that continues a head pair: the pieces its stores leave in the three outputs, with the triple
    they are read off. The query gradient starts from the contents named, the other two outputs from anything. -/
noncomputable def runB (c : Dev nD) (i : grid0.Coords) (arg2 : Memref sig .tc .vmem S2x4096x128 .bf16) (harg2 : arg2.IsWhole) (arg3 : Memref sig .tc .vmem S2x1024x128 .bf16) (harg3 : arg3.IsWhole) (arg4 : Memref sig .tc .vmem S2x1024x128 .bf16) (harg4 : arg4.IsWhole) (arg5 : Memref sig .tc .vmem S2x4096x128 .bf16) (harg5 : arg5.IsWhole) (arg6 : Memref sig .tc .vmem S2x4096x128 .f32) (harg6 : arg6.IsWhole) (arg7 : Memref sig .tc .vmem S2x1024x128 .f32) (harg7 : arg7.IsWhole) (arg8 : Memref sig .tc .vmem S2x1024x128 .f32) (harg8 : arg8.IsWhole) (hc : ¬first i)
    (x0 : Vec F S2x4096x128 .bf16) (x1 : Vec F S2x1024x128 .bf16) (x2 : Vec F S2x1024x128 .bf16) (x3 : Vec F S2x4096x128 .bf16) (xo : Vec F S2x4096x128 .f32) :
    Σ' (L4 : List (View.Piece (Elt F) S2x4096x128 .f32)) (L5 : List (View.Piece (Elt F) S2x1024x128 .f32)), { L6 : List (View.Piece (Elt F) S2x1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xo ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
              ∗ (arg6.view.loc (c : Thread nD τ) ↦[arg6.view.set]{fullShare} arg6.view.writes (Elt F) (harg6.unread xo) L4)
              ∗ (∃ f, arg7.view.loc (c : Thread nD τ) ↦[arg7.view.set]{fullShare} arg7.view.writes (Elt F) f L5)
              ∗ (∃ f, arg8.view.loc (c : Thread nD τ) ↦[arg8.view.set]{fullShare} arg8.view.writes (Elt F) f L6)) -∗ K ⟨⟩))
          ⊢ wp frame (wpE (defs₀ (F := F)) Variants.none c none) E (cc0_attn_bwd i arg2 harg2 arg3 harg3 arg4 harg4 arg5 harg5 arg6 harg6 arg7 harg7 arg8 harg8) K } := by
  refine ⟨?_, ?_, ?_, fun E K => ?run⟩
  case run =>
    simp only [cc0_attn_bwd_eq_skeleton]; unfold cc0_attn_bwd_skel
    simp only [k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexact H4
    isplitl [H5]; · iexists _; iexact H5
    iexists _; iexact H6

end Cert.AttnIdeal.Body

end
-- ==== Proof.AttnIdealBody.lean ====
module

public import proofs.«01_k».proof.Proof.AttnIdealRun

@[expose] public section

set_option maxRecDepth 16384

noncomputable section

namespace Cert.AttnIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AttnIdeal Cert.AttnIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! The stores of each output cover its block, save the query gradient's at a continuing point. -/

theorem coverA4 (c : Dev nD) (i : grid0.Coords) (arg2 : Memref sig .tc .vmem S2x4096x128 .bf16) (harg2 : arg2.IsWhole) (arg3 : Memref sig .tc .vmem S2x1024x128 .bf16) (harg3 : arg3.IsWhole) (arg4 : Memref sig .tc .vmem S2x1024x128 .bf16) (harg4 : arg4.IsWhole) (arg5 : Memref sig .tc .vmem S2x4096x128 .bf16) (harg5 : arg5.IsWhole) (arg6 : Memref sig .tc .vmem S2x4096x128 .f32) (harg6 : arg6.IsWhole) (arg7 : Memref sig .tc .vmem S2x1024x128 .f32) (harg7 : arg7.IsWhole) (arg8 : Memref sig .tc .vmem S2x1024x128 .f32) (harg8 : arg8.IsWhole) (hc : first i) (x0 : Vec F S2x4096x128 .bf16) (x1 : Vec F S2x1024x128 .bf16) (x2 : Vec F S2x1024x128 .bf16) (x3 : Vec F S2x4096x128 .bf16) (y : S2x4096x128.Idx) :
    ∃ pc ∈ (runA c i arg2 harg2 arg3 harg3 arg4 harg4 arg5 harg5 arg6 harg6 arg7 harg7 arg8 harg8 hc x0 x1 x2 x3).1, y ∈ pc.1.set :=
  View.cover_of_wholeMem (runA c i arg2 harg2 arg3 harg3 arg4 harg4 arg5 harg5 arg6 harg6 arg7 harg7 arg8 harg8 hc x0 x1 x2 x3).1 (by sl_whole_mem) y

theorem coverA5 (c : Dev nD) (i : grid0.Coords) (arg2 : Memref sig .tc .vmem S2x4096x128 .bf16) (harg2 : arg2.IsWhole) (arg3 : Memref sig .tc .vmem S2x1024x128 .bf16) (harg3 : arg3.IsWhole) (arg4 : Memref sig .tc .vmem S2x1024x128 .bf16) (harg4 : arg4.IsWhole) (arg5 : Memref sig .tc .vmem S2x4096x128 .bf16) (harg5 : arg5.IsWhole) (arg6 : Memref sig .tc .vmem S2x4096x128 .f32) (harg6 : arg6.IsWhole) (arg7 : Memref sig .tc .vmem S2x1024x128 .f32) (harg7 : arg7.IsWhole) (arg8 : Memref sig .tc .vmem S2x1024x128 .f32) (harg8 : arg8.IsWhole) (hc : first i) (x0 : Vec F S2x4096x128 .bf16) (x1 : Vec F S2x1024x128 .bf16) (x2 : Vec F S2x1024x128 .bf16) (x3 : Vec F S2x4096x128 .bf16) (y : S2x1024x128.Idx) :
    ∃ pc ∈ (runA c i arg2 harg2 arg3 harg3 arg4 harg4 arg5 harg5 arg6 harg6 arg7 harg7 arg8 harg8 hc x0 x1 x2 x3).2.1, y ∈ pc.1.set :=
  View.cover_of_tiledL (runA c i arg2 harg2 arg3 harg3 arg4 harg4 arg5 harg5 arg6 harg6 arg7 harg7 arg8 harg8 hc x0 x1 x2 x3).2.1 S1x1024x128.size (by sl_kernel_rfl) y

theorem coverA6 (c : Dev nD) (i : grid0.Coords) (arg2 : Memref sig .tc .vmem S2x4096x128 .bf16) (harg2 : arg2.IsWhole) (arg3 : Memref sig .tc .vmem S2x1024x128 .bf16) (harg3 : arg3.IsWhole) (arg4 : Memref sig .tc .vmem S2x1024x128 .bf16) (harg4 : arg4.IsWhole) (arg5 : Memref sig .tc .vmem S2x4096x128 .bf16) (harg5 : arg5.IsWhole) (arg6 : Memref sig .tc .vmem S2x4096x128 .f32) (harg6 : arg6.IsWhole) (arg7 : Memref sig .tc .vmem S2x1024x128 .f32) (harg7 : arg7.IsWhole) (arg8 : Memref sig .tc .vmem S2x1024x128 .f32) (harg8 : arg8.IsWhole) (hc : first i) (x0 : Vec F S2x4096x128 .bf16) (x1 : Vec F S2x1024x128 .bf16) (x2 : Vec F S2x1024x128 .bf16) (x3 : Vec F S2x4096x128 .bf16) (y : S2x1024x128.Idx) :
    ∃ pc ∈ (runA c i arg2 harg2 arg3 harg3 arg4 harg4 arg5 harg5 arg6 harg6 arg7 harg7 arg8 harg8 hc x0 x1 x2 x3).2.2.1, y ∈ pc.1.set :=
  View.cover_of_tiledL (runA c i arg2 harg2 arg3 harg3 arg4 harg4 arg5 harg5 arg6 harg6 arg7 harg7 arg8 harg8 hc x0 x1 x2 x3).2.2.1 S1x1024x128.size (by sl_kernel_rfl) y

theorem coverB5 (c : Dev nD) (i : grid0.Coords) (arg2 : Memref sig .tc .vmem S2x4096x128 .bf16) (harg2 : arg2.IsWhole) (arg3 : Memref sig .tc .vmem S2x1024x128 .bf16) (harg3 : arg3.IsWhole) (arg4 : Memref sig .tc .vmem S2x1024x128 .bf16) (harg4 : arg4.IsWhole) (arg5 : Memref sig .tc .vmem S2x4096x128 .bf16) (harg5 : arg5.IsWhole) (arg6 : Memref sig .tc .vmem S2x4096x128 .f32) (harg6 : arg6.IsWhole) (arg7 : Memref sig .tc .vmem S2x1024x128 .f32) (harg7 : arg7.IsWhole) (arg8 : Memref sig .tc .vmem S2x1024x128 .f32) (harg8 : arg8.IsWhole) (hc : ¬first i) (x0 : Vec F S2x4096x128 .bf16) (x1 : Vec F S2x1024x128 .bf16) (x2 : Vec F S2x1024x128 .bf16) (x3 : Vec F S2x4096x128 .bf16) (xo : Vec F S2x4096x128 .f32) (y : S2x1024x128.Idx) :
    ∃ pc ∈ (runB c i arg2 harg2 arg3 harg3 arg4 harg4 arg5 harg5 arg6 harg6 arg7 harg7 arg8 harg8 hc x0 x1 x2 x3 xo).2.1, y ∈ pc.1.set :=
  View.cover_of_tiledL (runB c i arg2 harg2 arg3 harg3 arg4 harg4 arg5 harg5 arg6 harg6 arg7 harg7 arg8 harg8 hc x0 x1 x2 x3 xo).2.1 S1x1024x128.size (by sl_kernel_rfl) y

theorem coverB6 (c : Dev nD) (i : grid0.Coords) (arg2 : Memref sig .tc .vmem S2x4096x128 .bf16) (harg2 : arg2.IsWhole) (arg3 : Memref sig .tc .vmem S2x1024x128 .bf16) (harg3 : arg3.IsWhole) (arg4 : Memref sig .tc .vmem S2x1024x128 .bf16) (harg4 : arg4.IsWhole) (arg5 : Memref sig .tc .vmem S2x4096x128 .bf16) (harg5 : arg5.IsWhole) (arg6 : Memref sig .tc .vmem S2x4096x128 .f32) (harg6 : arg6.IsWhole) (arg7 : Memref sig .tc .vmem S2x1024x128 .f32) (harg7 : arg7.IsWhole) (arg8 : Memref sig .tc .vmem S2x1024x128 .f32) (harg8 : arg8.IsWhole) (hc : ¬first i) (x0 : Vec F S2x4096x128 .bf16) (x1 : Vec F S2x1024x128 .bf16) (x2 : Vec F S2x1024x128 .bf16) (x3 : Vec F S2x4096x128 .bf16) (xo : Vec F S2x4096x128 .f32) (y : S2x1024x128.Idx) :
    ∃ pc ∈ (runB c i arg2 harg2 arg3 harg3 arg4 harg4 arg5 harg5 arg6 harg6 arg7 harg7 arg8 harg8 hc x0 x1 x2 x3 xo).2.2.1, y ∈ pc.1.set :=
  View.cover_of_tiledL (runB c i arg2 harg2 arg3 harg3 arg4 harg4 arg5 harg5 arg6 harg6 arg7 harg7 arg8 harg8 hc x0 x1 x2 x3 xo).2.2.1 S1x1024x128.size (by sl_kernel_rfl) y

/-! The buffers the pipeline hands the body at a point. -/
abbrev ms0 (t : Fin cfg0.N) : Memref sig .tc .vmem S2x4096x128 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S2x1024x128 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S2x1024x128 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S2x4096x128 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S2x4096x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S2x1024x128 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S2x1024x128 .f32 := win0_6.stage (cfg0.slots t 6)
abbrev hs6 (t : Fin cfg0.N) : (ms6 t).IsWhole := hstage0_6 ((cfg0.slots t 6).cast nbuf0_6)

/-- The run of the body at an opening point, on the point's own buffers and blocks. -/
abbrev atA (c : Dev nD) (t : Fin cfg0.N) (h : t.val % 4 = 0) :=
  runA c (grid0.coords t) (ms0 t) (hs0 t) (ms1 t) (hs1 t) (ms2 t) (hs2 t) (ms3 t) (hs3 t) (ms4 t) (hs4 t) (ms5 t) (hs5 t) (ms6 t) (hs6 t) ((first_iff t).mpr h) (iblk m c 0 t) (iblk m c 1 t) (iblk m c 2 t) (iblk m c 3 t)
/-- The same at a continuing point, the query gradient's block being at `xo`. -/
abbrev atB (c : Dev nD) (t : Fin cfg0.N) (h : ¬t.val % 4 = 0) (xo : Vec F S2x4096x128 .f32) :=
  runB c (grid0.coords t) (ms0 t) (hs0 t) (ms1 t) (hs1 t) (ms2 t) (hs2 t) (ms3 t) (hs3 t) (ms4 t) (hs4 t) (ms5 t) (hs5 t) (ms6 t) (hs6 t) (fun e => h ((first_iff t).mp e)) (iblk m c 0 t) (iblk m c 1 t) (iblk m c 2 t) (iblk m c 3 t) xo

/-- What an opening point leaves in the three outputs. -/
def outA (c : Dev nD) (t : Fin cfg0.N) (h : t.val % 4 = 0) : Vec F S2x4096x128 .f32 × Vec F S2x1024x128 .f32 × Vec F S2x1024x128 .f32 :=
  ((ms4 t).view.read (Elt F) ((ms4 t).view.writes (Elt F) (ms4 t).view.junk (atA m c t h).1),
   (ms5 t).view.read (Elt F) ((ms5 t).view.writes (Elt F) (ms5 t).view.junk (atA m c t h).2.1),
   (ms6 t).view.read (Elt F) ((ms6 t).view.writes (Elt F) (ms6 t).view.junk (atA m c t h).2.2.1))
/-- What a continuing point leaves there. -/
def outB (c : Dev nD) (t : Fin cfg0.N) (h : ¬t.val % 4 = 0) (xo : Vec F S2x4096x128 .f32) : Vec F S2x4096x128 .f32 × Vec F S2x1024x128 .f32 × Vec F S2x1024x128 .f32 :=
  ((ms4 t).view.read (Elt F) ((ms4 t).view.writes (Elt F) ((hs4 t).unread xo) (atB m c t h xo).1),
   (ms5 t).view.read (Elt F) ((ms5 t).view.writes (Elt F) (ms5 t).view.junk (atB m c t h xo).2.1),
   (ms6 t).view.read (Elt F) ((ms6 t).view.writes (Elt F) (ms6 t).view.junk (atB m c t h xo).2.2.1))

/-- The outputs' blocks after each point, the query gradient's carried from the point before. -/
def outs (c : Dev nD) : (n : ℕ) → n < cfg0.N → Vec F S2x4096x128 .f32 × Vec F S2x1024x128 .f32 × Vec F S2x1024x128 .f32
  | 0, hn => outA m c ⟨0, hn⟩ (Nat.zero_mod _)
  | n + 1, hn => if h : (n + 1) % 4 = 0 then outA m c ⟨n + 1, hn⟩ h
      else outB m c ⟨n + 1, hn⟩ h (outs c n (Nat.lt_of_succ_lt hn)).1

theorem outs_A (c : Dev nD) (t : Fin cfg0.N) (h : t.val % 4 = 0) : outs m c t.val t.isLt = outA m c t h := by
  obtain ⟨n, hn⟩ := t
  cases n with
  | zero => exact rfl
  | succ n => exact (dif_pos h).trans rfl
theorem outs_B (c : Dev nD) (t : Fin cfg0.N) (h : ¬t.val % 4 = 0) :
    outs m c t.val t.isLt = outB m c t h (outs m c (t.val - 1) (Nat.lt_of_le_of_lt (Nat.sub_le _ _) t.isLt)).1 := by
  obtain ⟨n, hn⟩ := t
  cases n with
  | zero => exact absurd (Nat.zero_mod _) h
  | succ n => exact (dif_neg h).trans rfl

/-- What the pipeline is proved over: the arrays as the host lines leave them, inputs kept, outputs at `outs`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outs m c t.val t.isLt).1
    | ⟨5, _⟩ => (outs m c t.val t.isLt).2.1
    | ⟨6, _⟩ => (outs m c t.val t.isLt).2.2
  Φ _ := Pipeline.ΦA spec0 c
  q _ := fullShare
  owed _ := 0

theorem A_eq (c : Dev nD) (w : Fin cfg0.W) : (dats m 0 c).A w = V m c (Pipeline.arrRef spec0 w) := by dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = (outs m c t.val t.isLt).1 := by dsimp only [dats]
theorem after5 (c : Dev nD) (t : Fin cfg0.N) : (dats m 0 c).after 5 t = (outs m c t.val t.isLt).2.1 := by dsimp only [dats]
theorem after6 (c : Dev nD) (t : Fin cfg0.N) : (dats m 0 c).after 6 t = (outs m c t.val t.isLt).2.2 := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
/-- At a continuing point the query gradient's buffer holds what the point before left. -/
theorem before4 (c : Dev nD) (t : Fin cfg0.N) (h : ¬t.val % 4 = 0) (d) :
    (dats m 0 c).before 4 t d = (outs m c (t.val - 1) (Nat.lt_of_le_of_lt (Nat.sub_le _ _) t.isLt)).1 := by
  have hN : t.val < 16 := lt_of_lt_of_eq t.isLt (show cfg0.N = 16 from N_0)
  rw [Dat.before_out_kept _ 4 rfl t (by omega) (Bool.eq_false_iff.mpr fun e => by have := (flush0_4 _).mp e; dsimp only at this; omega)
    (fun _ => rfl) (fun _ _ => rfl)]
  dsimp only [dats]

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d)) ∗ (∃ d, owns (c : Thread nD τ) (ms1 t) fullShare ((dats m 0 c).before 1 t d)) ∗ (∃ d, owns (c : Thread nD τ) (ms2 t) fullShare ((dats m 0 c).before 2 t d)) ∗ (∃ d, owns (c : Thread nD τ) (ms3 t) fullShare ((dats m 0 c).before 3 t d)) ∗ (∃ d, owns (c : Thread nD τ) (ms4 t) fullShare ((dats m 0 c).before 4 t d)) ∗ (∃ d, owns (c : Thread nD τ) (ms5 t) fullShare ((dats m 0 c).before 5 t d)) ∗ (∃ d, owns (c : Thread nD τ) (ms6 t) fullShare ((dats m 0 c).before 6 t d)))
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t) ∗ owns (c : Thread nD τ) (ms1 t) fullShare ((dats m 0 c).after 1 t) ∗ owns (c : Thread nD τ) (ms2 t) fullShare ((dats m 0 c).after 2 t) ∗ owns (c : Thread nD τ) (ms3 t) fullShare ((dats m 0 c).after 3 t) ∗ owns (c : Thread nD τ) (ms4 t) fullShare ((dats m 0 c).after 4 t) ∗ owns (c : Thread nD τ) (ms5 t) fullShare ((dats m 0 c).after 5 t) ∗ owns (c : Thread nD τ) (ms6 t) fullShare ((dats m 0 c).after 6 t))

set_option maxHeartbeats 800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4, after5, after6]
  by_cases h : t.val % 4 = 0
  · rw [outs_A m c t h]
    unfold outA; (try dsimp only)
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((atA m c t h).2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    iintro ⟨H0, H1, H2, H3, ⟨%e4, H4⟩, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (coverA4 c _ _ _ _ _ _ _ _ _ _ _ _ _ _ _ _ _ _ _ _)
    isplitl [H5]
    · unfold owns; iexists _; isplitr
      swap; · iexact H5
      ipureintro; exact View.read_writes_of_cover _ _ _ _ _ (coverA5 c _ _ _ _ _ _ _ _ _ _ _ _ _ _ _ _ _ _ _ _)
    unfold owns; iexists _; isplitr
    swap; · iexact H6
    ipureintro; exact View.read_writes_of_cover _ _ _ _ _ (coverA6 c _ _ _ _ _ _ _ _ _ _ _ _ _ _ _ _ _ _ _ _)
  · rw [outs_B m c t h]
    simp only [before4 m c t h]
    unfold outB; (try dsimp only)
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((atB m c t h _).2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iintro ⟨H0, H1, H2, H3, H4, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; rfl
    isplitl [H5]
    · unfold owns; iexists _; isplitr
      swap; · iexact H5
      ipureintro; exact View.read_writes_of_cover _ _ _ _ _ (coverB5 c _ _ _ _ _ _ _ _ _ _ _ _ _ _ _ _ _ _ _ _ _)
    unfold owns; iexists _; isplitr
    swap; · iexact H6
    ipureintro; exact View.read_writes_of_cover _ _ _ _ _ (coverB6 c _ _ _ _ _ _ _ _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- Every execution ends, with the arrays at what the data compute, the host lines after them run, and all counters at zero. -/
theorem run_quiescent : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_quiescent m ρ)

/-- The arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_quiescent m ρ))

end Cert.AttnIdeal.Body

end
-- ==== Proof.AttnTile.lean ====
module

public import proofs.«01_k».proof.Proof.AttnIdealBody
public import Idealize.ShloMosaic.Lib.Pipeline.ValueKit
public import Idealize.ShloMosaic.Lib.Pointwise

@[expose] public section

set_option maxRecDepth 16384

noncomputable section

namespace Cert.AttnIdeal.Val

open Idealize.ShloMosaic Idealize.ShloMosaic.TcCoe Idealize.SL.Sem
open Idealize.ShloMosaic.Pipeline (Dat)
open Cert.AttnIdeal Cert.AttnIdeal.Gen Cert.AttnIdeal.Body

theorem off5_eq : ∀ (i : grid0.Coords) (k : Fin (k0_t1_loop i).trips),
    k0_off5 i k = ![0, ((i 1).val + 1 + k.val) * 1024, 0] := by decide +kernel
theorem off6_eq : ∀ (i : grid0.Coords) (k : Fin (k0_t1_loop i).trips),
    k0_off6 i k = ![1, ((i 1).val + 1 + k.val) * 1024, 0] := by decide +kernel
theorem off1_eq : ∀ (i : grid0.Coords), k0_off1 i = ![0, (i 1).val * 1024, 0] := by decide +kernel
theorem off2_eq : ∀ (i : grid0.Coords), k0_off2 i = ![0, (i 1).val * 1024 + 512, 0] := by decide +kernel
theorem off3_eq : ∀ (i : grid0.Coords), k0_off3 i = ![1, (i 1).val * 1024, 0] := by decide +kernel
theorem off4_eq : ∀ (i : grid0.Coords), k0_off4 i = ![1, (i 1).val * 1024 + 512, 0] := by decide +kernel
theorem trips_eq : ∀ (i : grid0.Coords), (k0_t1_loop i).trips = 3 - (i 1).val := by decide +kernel
theorem trips_eq' : ∀ (i : grid0.Coords), (k0_t2_loop i).trips = 0 := by decide +kernel

/-! ### One pair of heads, one tile of 1024 keys -/

/-- The score of query row `r` against key `s` of the tile (or of an upstream row against a value row). -/
def zt (x : S2x4096x128.Idx → EReal) (w : S2x1024x128.Idx → EReal) (j : Fin 2) (r : Fin 4096) (s : Fin 1024) : EReal :=
  ∑ l : Fin 128, x (ix3 j r l) * w (ix3 j s l)

/-- The weight of key `s` of tile `kt` for query row `r`: zero on the keys that lie after the row. -/
def pt (kt : ℕ) (q : S2x4096x128.Idx → EReal) (k : S2x1024x128.Idx → EReal) (j : Fin 2) (r : Fin 4096) (s : Fin 1024) : EReal :=
  Ideal.exp2 (if kt * 1024 + s.val ≤ r.val then zt q k j r s else ⊥)

/-- The weight times the product of the upstream row with the value row. -/
def wt (kt : ℕ) (q : S2x4096x128.Idx → EReal) (k v : S2x1024x128.Idx → EReal) (u : S2x4096x128.Idx → EReal) (j : Fin 2) (r : Fin 4096)
    (s : Fin 1024) : EReal :=
  pt kt q k j r s * zt u v j r s

/-- What the tile adds to a row of the query gradient. -/
def dqt (kt : ℕ) (q : S2x4096x128.Idx → EReal) (k v : S2x1024x128.Idx → EReal) (u : S2x4096x128.Idx → EReal) (j : Fin 2) (r : Fin 4096)
    (d : Fin 128) : EReal :=
  ∑ s : Fin 1024, wt kt q k v u j r s * k (ix3 j s d)

/-- One row's term of a row of the key gradient. -/
def dkt (kt : ℕ) (q : S2x4096x128.Idx → EReal) (k v : S2x1024x128.Idx → EReal) (u : S2x4096x128.Idx → EReal) (j : Fin 2) (s : Fin 1024)
    (d : Fin 128) (r : Fin 4096) : EReal :=
  wt kt q k v u j r s * q (ix3 j r d)

/-- One row's term of a row of the value gradient. -/
def dvt (kt : ℕ) (q : S2x4096x128.Idx → EReal) (k : S2x1024x128.Idx → EReal) (u : S2x4096x128.Idx → EReal) (j : Fin 2) (s : Fin 1024)
    (d : Fin 128) (r : Fin 4096) : EReal :=
  pt kt q k j r s * u (ix3 j r d)

/-- The sum over the rows below `h`. -/
def psum (h : ℕ) (g : Fin 4096 → EReal) : EReal := ∑ r : Fin 4096, if r.val < h then g r else 0

theorem psum_all (g : Fin 4096 → EReal) : psum 4096 g = ∑ r : Fin 4096, g r :=
  Finset.sum_congr rfl fun r _ => if_pos r.isLt

theorem psum_zero (h : ℕ) (g : Fin 4096 → EReal) (hg : ∀ r : Fin 4096, r.val < h → g r = 0) : psum h g = 0 :=
  Finset.sum_eq_zero fun r _ => by
    by_cases hr : r.val < h
    · rw [if_pos hr, hg r hr]
    · rw [if_neg hr]

theorem psum_add (h n : ℕ) (hn : h + n ≤ 4096) (g : Fin 4096 → EReal) :
    psum (h + n) g = psum h g + ∑ x : Fin n, g ⟨h + x.val, by have := x.isLt; omega⟩ := by
  have hd : psum (h + n) g = ∑ r : Fin 4096, ((if r.val < h then g r else 0) + (if h ≤ r.val ∧ r.val < h + n then g r else 0)) := by
    refine Finset.sum_congr rfl fun r _ => ?_
    by_cases h1 : r.val < h
    · rw [if_pos (by omega), if_pos h1, if_neg (by omega), add_zero]
    · by_cases h2 : r.val < h + n
      · rw [if_pos h2, if_neg h1, if_pos (by omega), zero_add]
      · rw [if_neg h2, if_neg h1, if_neg (by omega), zero_add]
  rw [hd, Finset.sum_add_distrib]
  refine congrArg (psum h g + ·) ?_
  rw [← Finset.sum_filter]
  refine (Finset.sum_bij (fun (x : Fin n) _ => (⟨h + x.val, by have := x.isLt; omega⟩ : Fin 4096)) ?_ ?_ ?_ ?_).symm
  · intro x _
    have := x.isLt
    simp only [Finset.mem_filter, Finset.mem_univ, true_and]
    omega
  · intro x _ y _ hxy
    have := congrArg Fin.val hxy
    exact Fin.ext (by simpa using this)
  · intro r hr
    simp only [Finset.mem_filter, Finset.mem_univ, true_and] at hr
    exact ⟨⟨r.val - h, by omega⟩, Finset.mem_univ _, Fin.ext (by show h + (r.val - h) = r.val; omega)⟩
  · intro x _; rfl

/-- On a row at or past the key the weight is the power of the score. -/
theorem pt_vis (kt : ℕ) (q : S2x4096x128.Idx → EReal) (k : S2x1024x128.Idx → EReal) (j : Fin 2) (r : Fin 4096) (s : Fin 1024)
    (h : kt * 1024 + s.val ≤ r.val) : pt kt q k j r s = Ideal.exp2 (zt q k j r s) := by
  unfold pt; rw [if_pos h]

theorem pt_hid (kt : ℕ) (q : S2x4096x128.Idx → EReal) (k : S2x1024x128.Idx → EReal) (j : Fin 2) (r : Fin 4096) (s : Fin 1024)
    (h : r.val < kt * 1024 + s.val) : pt kt q k j r s = 0 := by
  unfold pt; rw [if_neg (by omega), Ideal.exp2_bot]

/-- A list of writes whose last one stores rows `o … o + n` of head `j0`, read at a row. -/
theorem read_rows {κ : Kind} {sp : Space} (v : View sig κ sp S2x4096x128 .f32) (f : BufTy.Contents (Elt Ideal) v.ty) (off : Fin 3 → ℕ) (j0 : Fin 2) (o n : ℕ)
    (hoff : off = ![j0.val, o, 0]) (inb : ∀ a : Fin 3, off a + (![1, n, 128] : Fin 3 → ℕ) a ≤ S2x4096x128.size a)
    (w : (Rect.unit (s := S2x4096x128) off ![1, n, 128] inb).shape.Idx → EReal) (L : List (View.Piece (Elt Ideal) S2x4096x128 .f32)) (j : Fin 2) (r : Fin 4096) (d : Fin 128) :
    v.read (Elt Ideal) (v.writes (Elt Ideal) f (⟨Rect.unit off ![1, n, 128] inb, w⟩ :: L)) (ix3 j r d)
      = if h : j = j0 ∧ o ≤ r.val ∧ r.val < o + n then w (ix3 (n0 := 1) (n1 := n) (n2 := 128) 0 ⟨r.val - o, by omega⟩ d) else v.read (Elt Ideal) (v.writes (Elt Ideal) f L) (ix3 j r d) := by
  subst hoff
  by_cases h : j = j0 ∧ o ≤ r.val ∧ r.val < o + n
  · rw [dif_pos h]
    obtain ⟨rfl, h1, h2⟩ := h
    refine View.read_writes_cons_hit_of_coords v f _ w L _ _ fun a => ?_
    fin_cases a
    · show j.val = j.val + 1 * 0; omega
    · show r.val = o + 1 * (r.val - o); omega
    · show d.val = 0 + 1 * d.val; omega
  · rw [dif_neg h]
    by_cases hj : j = j0
    · refine View.read_writes_cons_miss_of_axis v f _ L _ (1 : Fin 3) o n rfl rfl rfl ?_
      show r.val < o ∨ o + n ≤ r.val
      by_contra hh
      exact h ⟨hj, by omega, by omega⟩
    · refine View.read_writes_cons_miss_of_axis v f _ L _ (0 : Fin 3) j0.val 1 rfl rfl rfl ?_
      show j.val < j0.val ∨ j0.val + 1 ≤ j.val
      have : j.val ≠ j0.val := fun e => hj (Fin.ext e)
      omega

/-! ### One trip of the loop over the query tiles below the diagonal -/

theorem row_lt (i : grid0.Coords) (n : Fin (k0_t1_loop i).trips) (x : Fin 1024) : ((i 1).val + 1 + n.val) * 1024 + x.val < 4096 := by
  have h1 := n.isLt
  have h2 := trips_eq i
  have h3 := x.isLt
  omega

section Trip
variable (c : Dev nD) (i : grid0.Coords) (arg2 : Memref sig .tc .vmem S2x4096x128 .bf16) (harg2 : arg2.IsWhole) (arg3 : Memref sig .tc .vmem S2x1024x128 .bf16) (harg3 : arg3.IsWhole) (arg4 : Memref sig .tc .vmem S2x1024x128 .bf16) (harg4 : arg4.IsWhole) (arg5 : Memref sig .tc .vmem S2x4096x128 .bf16) (harg5 : arg5.IsWhole) (arg6 : Memref sig .tc .vmem S2x4096x128 .f32) (harg6 : arg6.IsWhole) (arg7 : Memref sig .tc .vmem S2x1024x128 .f32) (harg7 : arg7.IsWhole) (arg8 : Memref sig .tc .vmem S2x1024x128 .f32) (harg8 : arg8.IsWhole)
    (a1 : BitVec 32) (v4 v6 v8 v10 : FVec Ideal S1024x128 .bf16) (v75 v76 : FVec Ideal S1024x128 .f32) (v93 v106 : FVec Ideal S512x128 .f32) (v108 : BitVec 32) (v111 : FVec Ideal S512x128 .bf16) (v141 : BitVec 32)
    (X2 : BufTy.Contents (Elt Ideal) arg2.view.ty) (X5 : BufTy.Contents (Elt Ideal) arg5.view.ty)
    (q : S2x4096x128.Idx → EReal) (k : S2x1024x128.Idx → EReal) (w : S2x1024x128.Idx → EReal) (u : S2x4096x128.Idx → EReal)
    (hq : arg2.view.read (Elt Ideal) X2 = q) (hu : arg5.view.read (Elt Ideal) X5 = u)
    (h4 : ∀ (s : Fin 1024) (l : Fin 128), v4 (ix2 s l) = k (ix3 0 s l)) (h6 : ∀ (s : Fin 1024) (l : Fin 128), v6 (ix2 s l) = k (ix3 1 s l))
    (h8 : ∀ (s : Fin 1024) (l : Fin 128), v8 (ix2 s l) = w (ix3 0 s l)) (h10 : ∀ (s : Fin 1024) (l : Fin 128), v10 (ix2 s l) = w (ix3 1 s l))
    (n : Fin (k0_t1_loop i).trips) (acc : FVec Ideal S1024x128 .f32 × FVec Ideal S1024x128 .f32 × FVec Ideal S1024x128 .f32 × FVec Ideal S1024x128 .f32) (f : BufTy.Contents (Elt Ideal) arg6.view.ty)
include hq hu h4 h6 h8 h10

theorem tripR_1 (s : Fin 1024) (d : Fin 128) :
    (tripR_k0_t1 (F := Ideal) Variants.none c none i arg2 harg2 arg3 harg3 arg4 harg4 arg5 harg5 arg6 harg6 arg7 harg7 arg8 harg8 a1 v4 v6 v8 v10 v75 v76 v93 v106 v108 v111 v141 X2 X5 n acc f).1 (ix2 s d)
      = acc.1 (ix2 s d) + ∑ x : Fin 1024, dkt (i 1).val q k w u 0 s d ⟨((i 1).val + 1 + n.val) * 1024 + x.val, row_lt i n x⟩ := by
  unfold tripR_k0_t1 trip_k0_t1
  pointwise [trip_k0_t1.sl.v184, trip_k0_t1.sl.v180, trip_k0_t1.sl.v179, trip_k0_t1.sl.v178, trip_k0_t1.sl.v186, trip_k0_t1.sl.v187, trip_k0_t1.sl.v190, trip_k0_t1.sl.v193, trip_k0_t1.sl.v194, trip_k0_t1.sl.v195, trip_k0_t1.sl.v196, trip_k0_t1.sl.v197, trip_k0_t1.sl.v202, trip_k0_t1.sl.cst_87, trip_k0_t1.sl.v185, trip_k0_t1.sl.cst_88, trip_k0_t1.sl.v175, trip_k0_t1.sl.v165, trip_k0_t1.sl.v174, trip_k0_t1.sl.v173, trip_k0_t1.sl.v170, trip_k0_t1.sl.v169, trip_k0_t1.sl.v172, trip_k0_t1.sl.v171, trip_k0_t1.sl.v168, k0_pay65, k0_pay66, k0_pay67, k0_pay68, View.readAt_eq_ld, off5_eq, off6_eq]
  subst hq hu
  refine congrArg (acc.1 (ix2 s d) + ·) (Finset.sum_congr rfl fun x _ => ?_)
  simp only [h4, h6, h8, h10]
  unfold dkt wt
  rw [pt_vis _ _ _ _ _ _ (by have := s.isLt; show _ ≤ ((i 1).val + 1 + n.val) * 1024 + x.val; omega)]
  rfl

theorem tripR_2 (s : Fin 1024) (d : Fin 128) :
    (tripR_k0_t1 (F := Ideal) Variants.none c none i arg2 harg2 arg3 harg3 arg4 harg4 arg5 harg5 arg6 harg6 arg7 harg7 arg8 harg8 a1 v4 v6 v8 v10 v75 v76 v93 v106 v108 v111 v141 X2 X5 n acc f).2.1 (ix2 s d)
      = acc.2.1 (ix2 s d) + ∑ x : Fin 1024, dvt (i 1).val q k u 0 s d ⟨((i 1).val + 1 + n.val) * 1024 + x.val, row_lt i n x⟩ := by
  unfold tripR_k0_t1 trip_k0_t1
  pointwise [trip_k0_t1.sl.v184, trip_k0_t1.sl.v180, trip_k0_t1.sl.v179, trip_k0_t1.sl.v178, trip_k0_t1.sl.v186, trip_k0_t1.sl.v187, trip_k0_t1.sl.v190, trip_k0_t1.sl.v193, trip_k0_t1.sl.v194, trip_k0_t1.sl.v195, trip_k0_t1.sl.v196, trip_k0_t1.sl.v197, trip_k0_t1.sl.v202, trip_k0_t1.sl.cst_87, trip_k0_t1.sl.v185, trip_k0_t1.sl.cst_88, trip_k0_t1.sl.v175, trip_k0_t1.sl.v165, trip_k0_t1.sl.v174, trip_k0_t1.sl.v173, trip_k0_t1.sl.v170, trip_k0_t1.sl.v169, trip_k0_t1.sl.v172, trip_k0_t1.sl.v171, trip_k0_t1.sl.v168, k0_pay65, k0_pay66, k0_pay67, k0_pay68, View.readAt_eq_ld, off5_eq, off6_eq]
  subst hq hu
  refine congrArg (acc.2.1 (ix2 s d) + ·) (Finset.sum_congr rfl fun x _ => ?_)
  simp only [h4, h6, h8, h10]
  unfold dvt
  rw [pt_vis _ _ _ _ _ _ (by have := s.isLt; show _ ≤ ((i 1).val + 1 + n.val) * 1024 + x.val; omega)]
  rfl

theorem tripR_3 (s : Fin 1024) (d : Fin 128) :
    (tripR_k0_t1 (F := Ideal) Variants.none c none i arg2 harg2 arg3 harg3 arg4 harg4 arg5 harg5 arg6 harg6 arg7 harg7 arg8 harg8 a1 v4 v6 v8 v10 v75 v76 v93 v106 v108 v111 v141 X2 X5 n acc f).2.2.1 (ix2 s d)
      = acc.2.2.1 (ix2 s d) + ∑ x : Fin 1024, dkt (i 1).val q k w u 1 s d ⟨((i 1).val + 1 + n.val) * 1024 + x.val, row_lt i n x⟩ := by
  unfold tripR_k0_t1 trip_k0_t1
  pointwise [trip_k0_t1.sl.v184, trip_k0_t1.sl.v180, trip_k0_t1.sl.v179, trip_k0_t1.sl.v178, trip_k0_t1.sl.v186, trip_k0_t1.sl.v187, trip_k0_t1.sl.v190, trip_k0_t1.sl.v193, trip_k0_t1.sl.v194, trip_k0_t1.sl.v195, trip_k0_t1.sl.v196, trip_k0_t1.sl.v197, trip_k0_t1.sl.v202, trip_k0_t1.sl.cst_87, trip_k0_t1.sl.v185, trip_k0_t1.sl.cst_88, trip_k0_t1.sl.v175, trip_k0_t1.sl.v165, trip_k0_t1.sl.v174, trip_k0_t1.sl.v173, trip_k0_t1.sl.v170, trip_k0_t1.sl.v169, trip_k0_t1.sl.v172, trip_k0_t1.sl.v171, trip_k0_t1.sl.v168, k0_pay65, k0_pay66, k0_pay67, k0_pay68, View.readAt_eq_ld, off5_eq, off6_eq]
  subst hq hu
  refine congrArg (acc.2.2.1 (ix2 s d) + ·) (Finset.sum_congr rfl fun x _ => ?_)
  simp only [h4, h6, h8, h10]
  unfold dkt wt
  rw [pt_vis _ _ _ _ _ _ (by have := s.isLt; show _ ≤ ((i 1).val + 1 + n.val) * 1024 + x.val; omega)]
  rfl

theorem tripR_4 (s : Fin 1024) (d : Fin 128) :
    (tripR_k0_t1 (F := Ideal) Variants.none c none i arg2 harg2 arg3 harg3 arg4 harg4 arg5 harg5 arg6 harg6 arg7 harg7 arg8 harg8 a1 v4 v6 v8 v10 v75 v76 v93 v106 v108 v111 v141 X2 X5 n acc f).2.2.2 (ix2 s d)
      = acc.2.2.2 (ix2 s d) + ∑ x : Fin 1024, dvt (i 1).val q k u 1 s d ⟨((i 1).val + 1 + n.val) * 1024 + x.val, row_lt i n x⟩ := by
  unfold tripR_k0_t1 trip_k0_t1
  pointwise [trip_k0_t1.sl.v184, trip_k0_t1.sl.v180, trip_k0_t1.sl.v179, trip_k0_t1.sl.v178, trip_k0_t1.sl.v186, trip_k0_t1.sl.v187, trip_k0_t1.sl.v190, trip_k0_t1.sl.v193, trip_k0_t1.sl.v194, trip_k0_t1.sl.v195, trip_k0_t1.sl.v196, trip_k0_t1.sl.v197, trip_k0_t1.sl.v202, trip_k0_t1.sl.cst_87, trip_k0_t1.sl.v185, trip_k0_t1.sl.cst_88, trip_k0_t1.sl.v175, trip_k0_t1.sl.v165, trip_k0_t1.sl.v174, trip_k0_t1.sl.v173, trip_k0_t1.sl.v170, trip_k0_t1.sl.v169, trip_k0_t1.sl.v172, trip_k0_t1.sl.v171, trip_k0_t1.sl.v168, k0_pay65, k0_pay66, k0_pay67, k0_pay68, View.readAt_eq_ld, off5_eq, off6_eq]
  subst hq hu
  refine congrArg (acc.2.2.2 (ix2 s d) + ·) (Finset.sum_congr rfl fun x _ => ?_)
  simp only [h4, h6, h8, h10]
  unfold dvt
  rw [pt_vis _ _ _ _ _ _ (by have := s.isLt; show _ ≤ ((i 1).val + 1 + n.val) * 1024 + x.val; omega)]
  rfl

theorem trip_rows (j : Fin 2) (r : Fin 4096) (d : Fin 128) :
    arg6.view.read (Elt Ideal) (arg6.view.writes (Elt Ideal) f (tripL_k0_t1 (F := Ideal) Variants.none c none i arg2 harg2 arg3 harg3 arg4 harg4 arg5 harg5 arg6 harg6 arg7 harg7 arg8 harg8 a1 v4 v6 v8 v10 v75 v76 v93 v106 v108 v111 v141 X2 X5 n acc f)) (ix3 j r d)
      = (arg6.view.read (Elt Ideal) f (ix3 j r d) : EReal)
        + (if ((i 1).val + 1 + n.val) * 1024 ≤ r.val ∧ r.val < ((i 1).val + 1 + n.val) * 1024 + 1024 then dqt (i 1).val q k w u j r d else 0) := by
  have hd : ∀ x : Fin 1024, ∀ s : Fin 1024, (i 1).val * 1024 + s.val ≤ ((i 1).val + 1 + n.val) * 1024 + x.val := fun x s => by
    have := s.isLt; omega
  unfold tripL_k0_t1 trip_k0_t1
  dsimp only
  rw [read_rows arg6.view f _ 1 _ 1024 (off6_eq i n), read_rows arg6.view f _ 0 _ 1024 (off5_eq i n)]
  by_cases hr : ((i 1).val + 1 + n.val) * 1024 ≤ r.val ∧ r.val < ((i 1).val + 1 + n.val) * 1024 + 1024
  · have hr' : (⟨((i 1).val + 1 + n.val) * 1024 + (r.val - ((i 1).val + 1 + n.val) * 1024), by omega⟩ : Fin 4096) = r := Fin.ext (by show _ + _ = r.val; omega)
    have hx := hd ⟨r.val - ((i 1).val + 1 + n.val) * 1024, by omega⟩
    have hx' : ∀ s : Fin 1024, (i 1).val * 1024 + s.val ≤ r.val := fun s => by have := hx s; simp only at this; omega
    rw [if_pos hr]
    by_cases hj : j = 1
    · subst hj
      rw [dif_pos ⟨rfl, hr⟩]
      pointwise [trip_k0_t1.sl.v184, trip_k0_t1.sl.v180, trip_k0_t1.sl.v179, trip_k0_t1.sl.v178, trip_k0_t1.sl.v186, trip_k0_t1.sl.v187, trip_k0_t1.sl.v190, trip_k0_t1.sl.v193, trip_k0_t1.sl.v194, trip_k0_t1.sl.v195, trip_k0_t1.sl.v196, trip_k0_t1.sl.v197, trip_k0_t1.sl.v202, trip_k0_t1.sl.cst_87, trip_k0_t1.sl.v185, trip_k0_t1.sl.cst_88, trip_k0_t1.sl.v175, trip_k0_t1.sl.v165, trip_k0_t1.sl.v174, trip_k0_t1.sl.v173, trip_k0_t1.sl.v170, trip_k0_t1.sl.v169, trip_k0_t1.sl.v172, trip_k0_t1.sl.v171, trip_k0_t1.sl.v168, k0_pay65, k0_pay66, k0_pay67, k0_pay68, View.readAt_eq_ld, off5_eq, off6_eq]
      subst hq hu
      simp only [h4, h6, h8, h10, hr']
      unfold dqt wt
      simp only [pt_vis _ _ _ _ _ _ (hx' _)]
      rfl
    · have hj0 : j = 0 := by omega
      subst hj0
      rw [dif_neg (fun h => hj h.1), dif_pos ⟨rfl, hr⟩]
      pointwise [trip_k0_t1.sl.v184, trip_k0_t1.sl.v180, trip_k0_t1.sl.v179, trip_k0_t1.sl.v178, trip_k0_t1.sl.v186, trip_k0_t1.sl.v187, trip_k0_t1.sl.v190, trip_k0_t1.sl.v193, trip_k0_t1.sl.v194, trip_k0_t1.sl.v195, trip_k0_t1.sl.v196, trip_k0_t1.sl.v197, trip_k0_t1.sl.v202, trip_k0_t1.sl.cst_87, trip_k0_t1.sl.v185, trip_k0_t1.sl.cst_88, trip_k0_t1.sl.v175, trip_k0_t1.sl.v165, trip_k0_t1.sl.v174, trip_k0_t1.sl.v173, trip_k0_t1.sl.v170, trip_k0_t1.sl.v169, trip_k0_t1.sl.v172, trip_k0_t1.sl.v171, trip_k0_t1.sl.v168, k0_pay65, k0_pay66, k0_pay67, k0_pay68, View.readAt_eq_ld, off5_eq, off6_eq]
      subst hq hu
      simp only [h4, h6, h8, h10, hr']
      unfold dqt wt
      simp only [pt_vis _ _ _ _ _ _ (hx' _)]
      rfl
  · rw [if_neg hr, dif_neg (fun h => hr h.2), dif_neg (fun h => hr h.2), add_zero]
    rfl
end Trip

end Cert.AttnIdeal.Val

end
-- ==== Proof.AttnDiag.lean ====
module

public import proofs.«01_k».proof.Proof.AttnTile
public import Idealize.ShloMosaic.Lib.Pipeline.ValueKit
public import Idealize.ShloMosaic.Lib.Pointwise

@[expose] public section

set_option maxRecDepth 16384

noncomputable section

namespace Cert.AttnIdeal.Val

open Idealize.ShloMosaic Idealize.ShloMosaic.TcCoe Idealize.SL.Sem
open Idealize.ShloMosaic.Pipeline (Dat)
open Cert.AttnIdeal Cert.AttnIdeal.Gen Cert.AttnIdeal.Body

/-! ### The two blocks of a tile that meet the diagonal -/

theorem mask_eq : (Named.named (F := Ideal) κ "mask" (φ := .f32) 0xF149F2CA#32 : EReal) = ⊥ := rfl

/-- A choice by the order of two small words. -/
theorem sel_ge (a b : ℕ) (ha : a < 2 ^ 31) (hb : b < 2 ^ 31) (x y : EReal) :
    Scalar.select (IntOp.cmpi .sge (BitVec.ofNat 32 a) (BitVec.ofNat 32 b)) x y = if b ≤ a then x else y := by
  rw [Idealize.ShloMosaic.WordCmp.cmpi_sge_ofNat ha hb]
  by_cases h : b ≤ a
  · rw [if_pos h]; simp [h, Scalar.select]
  · rw [if_neg h]; simp [h, Scalar.select]

/-- Row `x` of the tile, and row `x` of its lower half. -/
def ra (kt : Fin 4) (x : Fin 1024) : Fin 4096 := ⟨kt.val * 1024 + x.val, by have := kt.isLt; have := x.isLt; omega⟩
def rb (kt : Fin 4) (x : Fin 512) : Fin 4096 := ⟨kt.val * 1024 + 512 + x.val, by have := kt.isLt; have := x.isLt; omega⟩
/-- Key `s` of the first half of the tile, and of the second. -/
def sa (s : Fin 512) : Fin 1024 := ⟨s.val, by have := s.isLt; omega⟩
def sb (s : Fin 512) : Fin 1024 := ⟨512 + s.val, by have := s.isLt; omega⟩

section
variable (kt : Fin 4) (j : Fin 2) (q : S2x4096x128.Idx → EReal) (k w : S2x1024x128.Idx → EReal) (u : S2x4096x128.Idx → EReal)
    (kb wb : Vec Ideal S1x1024x128 .bf16) (hkb : ∀ (s : Fin 1024) (l : Fin 128), kb (ix3 0 s l) = k (ix3 j s l)) (hwb : ∀ (s : Fin 1024) (l : Fin 128), wb (ix3 0 s l) = w (ix3 j s l))
    (k4 w8 : FVec Ideal S1024x128 .bf16) (hk4 : ∀ (s : Fin 1024) (l : Fin 128), k4 (ix2 s l) = k (ix3 j s l)) (hw8 : ∀ (s : Fin 1024) (l : Fin 128), w8 (ix2 s l) = w (ix3 j s l))
    (qa ua : Vec Ideal S1x1024x128 .bf16) (hqa : ∀ (x : Fin 1024) (l : Fin 128), qa (ix3 0 x l) = q (ix3 j (ra kt x) l)) (hua : ∀ (x : Fin 1024) (l : Fin 128), ua (ix3 0 x l) = u (ix3 j (ra kt x) l))
    (qb ub : Vec Ideal S1x512x128 .bf16) (hqb : ∀ (x : Fin 512) (l : Fin 128), qb (ix3 0 x l) = q (ix3 j (rb kt x) l)) (hub : ∀ (x : Fin 512) (l : Fin 128), ub (ix3 0 x l) = u (ix3 j (rb kt x) l))

theorem pt_ra (x : Fin 1024) (s : Fin 512) :
    pt kt.val q k j (ra kt x) (sa s) = Ideal.exp2 (if s.val ≤ x.val then zt q k j (ra kt x) (sa s) else ⊥) := by
  unfold pt
  by_cases h : s.val ≤ x.val
  · rw [if_pos h, if_pos (by show kt.val * 1024 + s.val ≤ kt.val * 1024 + x.val; omega)]
  · rw [if_neg h, if_neg (by show ¬ (kt.val * 1024 + s.val ≤ kt.val * 1024 + x.val); omega)]

theorem pt_rb (x s : Fin 512) :
    pt kt.val q k j (rb kt x) (sb s) = Ideal.exp2 (if s.val ≤ x.val then zt q k j (rb kt x) (sb s) else ⊥) := by
  unfold pt
  by_cases h : s.val ≤ x.val
  · rw [if_pos h, if_pos (by show kt.val * 1024 + (512 + s.val) ≤ kt.val * 1024 + 512 + x.val; omega)]
  · rw [if_neg h, if_neg (by show ¬ (kt.val * 1024 + (512 + s.val) ≤ kt.val * 1024 + 512 + x.val); omega)]

include hkb hqa in
theorem pay34 (x : Fin 1024) (s : Fin 512) : k0_pay34 (F := Ideal) kb qa (ix2 x s) = pt kt.val q k j (ra kt x) (sa s) := by
  pointwise [k0_pay34, k0_pay31, k0_pay33, k0_pay27, mask_eq]
  rw [pt_ra]
  refine congrArg Ideal.exp2 ((sel_ge _ _ (by have := x.isLt; omega) (by have := s.isLt; omega) _ _).trans ?_)
  simp only [hqa, hkb]
  rfl

include hk4 hqa in
theorem pay52 (x : Fin 1024) (s : Fin 512) : k0_pay52 (F := Ideal) k4 qa (ix2 x s) = pt kt.val q k j (ra kt x) (sa s) := by
  pointwise [k0_pay52, k0_pay49, k0_pay51, mask_eq]
  rw [pt_ra]
  refine congrArg Ideal.exp2 ((sel_ge _ _ (by have := x.isLt; omega) (by have := s.isLt; omega) _ _).trans ?_)
  simp only [hqa, hk4]
  rfl

include hk4 hqb in
theorem pay42 (x s : Fin 512) : k0_pay42 (F := Ideal) k4 qb (ix2 x s) = pt kt.val q k j (rb kt x) (sb s) := by
  pointwise [k0_pay42, k0_pay39, k0_pay41, mask_eq]
  rw [pt_rb]
  refine congrArg Ideal.exp2 ((sel_ge _ _ (by have := x.isLt; omega) (by have := s.isLt; omega) _ _).trans ?_)
  simp only [hqb, hk4]
  rfl

include hk4 hqb in
theorem pay60 (x s : Fin 512) : k0_pay60 (F := Ideal) k4 (k0_pay57 qb) (ix2 x s) = pt kt.val q k j (rb kt x) (sb s) := by
  pointwise [k0_pay60, k0_pay57, k0_pay59, mask_eq]
  rw [pt_rb]
  refine congrArg Ideal.exp2 ((sel_ge _ _ (by have := x.isLt; omega) (by have := s.isLt; omega) _ _).trans ?_)
  simp only [hqb, hk4]
  rfl

include hkb hwb hqa hua in
theorem pay36 (x : Fin 1024) (s : Fin 512) : k0_pay36 (F := Ideal) kb wb qa ua (ix2 x s) = wt kt.val q k w u j (ra kt x) (sa s) := by
  pointwise [k0_pay36, k0_pay32, k0_pay29]
  rw [pay34 kt j q k kb hkb qa hqa]
  simp only [hua, hwb]
  rfl

include hk4 hw8 hqa hua in
theorem pay54 (x : Fin 1024) (s : Fin 512) : k0_pay54 (F := Ideal) k4 w8 qa ua (ix2 x s) = wt kt.val q k w u j (ra kt x) (sa s) := by
  pointwise [k0_pay54, k0_pay50]
  rw [pay52 kt j q k k4 hk4 qa hqa]
  simp only [hua, hw8]
  rfl

include hk4 hw8 hqb hub in
theorem pay44 (x s : Fin 512) : k0_pay44 (F := Ideal) k4 w8 qb ub (ix2 x s) = wt kt.val q k w u j (rb kt x) (sb s) := by
  pointwise [k0_pay44, k0_pay40]
  rw [pay42 kt j q k k4 hk4 qb hqb]
  simp only [hub, hw8]
  rfl

include hk4 hw8 hqb hub in
theorem pay61 (x s : Fin 512) : k0_pay61 (F := Ideal) k4 w8 (k0_pay57 qb) ub (ix2 x s) = wt kt.val q k w u j (rb kt x) (sb s) := by
  pointwise [k0_pay61, k0_pay58]
  rw [pay60 kt j q k k4 hk4 qb hqb]
  simp only [hub, hw8]
  rfl

/-! Sums over the rows of the tile: a key of the second half meets only the lower rows. -/

theorem half_a (g : Fin 4096 → EReal) (hg : ∀ r : Fin 4096, r.val < kt.val * 1024 → g r = 0) :
    psum ((kt.val + 1) * 1024) g = ∑ x : Fin 1024, g (ra kt x) := by
  have h : (kt.val + 1) * 1024 = kt.val * 1024 + 1024 := by omega
  rw [h, psum_add _ _ (by have := kt.isLt; omega), psum_zero _ g hg, zero_add]
  rfl

theorem half_b (g : Fin 4096 → EReal) (hg : ∀ r : Fin 4096, r.val < kt.val * 1024 + 512 → g r = 0) :
    psum ((kt.val + 1) * 1024) g = ∑ x : Fin 512, g (rb kt x) := by
  have h : (kt.val + 1) * 1024 = kt.val * 1024 + 512 + 512 := by omega
  rw [h, psum_add _ _ (by have := kt.isLt; omega), psum_zero _ g hg, zero_add]
  rfl

theorem dkt_hid (s : Fin 1024) (d : Fin 128) (r : Fin 4096) (h : r.val < kt.val * 1024 + s.val) : dkt kt.val q k w u j s d r = 0 := by
  unfold dkt wt
  rw [pt_hid _ _ _ _ _ _ h, zero_mul, zero_mul]

theorem dvt_hid (s : Fin 1024) (d : Fin 128) (r : Fin 4096) (h : r.val < kt.val * 1024 + s.val) : dvt kt.val q k u j s d r = 0 := by
  unfold dvt
  rw [pt_hid _ _ _ _ _ _ h, zero_mul]

/-- A value stated on the two halves of the keys is stated on all. -/
theorem halves (P : Fin 1024 → Prop) (ha : ∀ s : Fin 512, P (sa s)) (hb : ∀ s : Fin 512, P (sb s)) (s : Fin 1024) : P s := by
  by_cases h : s.val < 512
  · exact ha ⟨s.val, h⟩
  · have e : sb ⟨s.val - 512, by have := s.isLt; omega⟩ = s := Fin.ext (by show 512 + (s.val - 512) = s.val; omega)
    exact e ▸ hb ⟨s.val - 512, by have := s.isLt; omega⟩

omit kt j q k w u kb wb k4 w8 qa ua qb ub in
theorem cat_a (x y : FVec Ideal S512x128 .f32) (s : Fin 512) (d : Fin 128) :
    concatenate S1024x128 0 [⟨S512x128, x⟩, ⟨S512x128, y⟩] concatenates_S512x128_S512x128_S1024x128_d0 (ix2 (sa s) d) = x (ix2 s d) := by
  pointwise []
  exact dif_pos s.isLt

omit kt j q k w u kb wb k4 w8 qa ua qb ub in
theorem cat_b (x y : FVec Ideal S512x128 .f32) (s : Fin 512) (d : Fin 128) :
    concatenate S1024x128 0 [⟨S512x128, x⟩, ⟨S512x128, y⟩] concatenates_S512x128_S512x128_S1024x128_d0 (ix2 (sb s) d) = y (ix2 s d) := by
  pointwise []
  refine (dif_neg (show ¬ (512 + s.val < 512) by omega)).trans ?_
  refine congrArg y ((ix2_inj ..).2 ⟨Fin.ext (by show 512 + s.val - 512 = s.val; omega), rfl⟩)

include hkb hwb hk4 hw8 hqa hua hqb hub in
theorem diag_dk0 (s : Fin 1024) (d : Fin 128) :
    k0_pay47 (F := Ideal) (k0_pay38 (k0_pay31 qa) (k0_pay36 kb wb qa ua)) (k0_pay39 qb) (k0_pay44 k4 w8 qb ub) (ix2 s d) = psum ((kt.val + 1) * 1024) (dkt kt.val q k w u j s d) := by
  refine halves (fun s => k0_pay47 (F := Ideal) (k0_pay38 (k0_pay31 qa) (k0_pay36 kb wb qa ua)) (k0_pay39 qb) (k0_pay44 k4 w8 qb ub) (ix2 s d) = psum ((kt.val + 1) * 1024) (dkt kt.val q k w u j s d)) (fun s => ?_) (fun s => ?_) s
  · rw [half_a kt _ fun r hr => dkt_hid kt j q k w u _ _ _ (by omega)]
    refine (cat_a _ _ s d).trans ?_
    pointwise [k0_pay38, k0_pay31]
    refine Finset.sum_congr rfl fun x _ => ?_
    exact congrArg₂ (· * ·) (pay36 kt j q k w u kb wb hkb hwb qa ua hqa hua x s) (hqa x d)
  · rw [half_b kt _ fun r hr => dkt_hid kt j q k w u _ _ _ (by show _ < _ + (512 + _); omega)]
    refine (cat_b _ _ s d).trans ?_
    pointwise [k0_pay39]
    refine Finset.sum_congr rfl fun x _ => ?_
    exact congrArg₂ (· * ·) (pay44 kt j q k w u k4 w8 hk4 hw8 qb ub hqb hub x s) (hqb x d)

include hkb hk4 hqa hua hqb hub in
theorem diag_dv0 (s : Fin 1024) (d : Fin 128) :
    k0_pay48 (F := Ideal) (k0_pay35 kb qa ua) (k0_pay43 k4 qb ub) (ix2 s d) = psum ((kt.val + 1) * 1024) (dvt kt.val q k u j s d) := by
  refine halves (fun s => k0_pay48 (F := Ideal) (k0_pay35 kb qa ua) (k0_pay43 k4 qb ub) (ix2 s d) = psum ((kt.val + 1) * 1024) (dvt kt.val q k u j s d)) (fun s => ?_) (fun s => ?_) s
  · rw [half_a kt _ fun r hr => dvt_hid kt j q k u _ _ _ (by omega)]
    refine (cat_a _ _ s d).trans ?_
    pointwise [k0_pay35, k0_pay32]
    refine Finset.sum_congr rfl fun x _ => ?_
    exact congrArg₂ (· * ·) (pay34 kt j q k kb hkb qa hqa x s) (hua x d)
  · rw [half_b kt _ fun r hr => dvt_hid kt j q k u _ _ _ (by show _ < _ + (512 + _); omega)]
    refine (cat_b _ _ s d).trans ?_
    pointwise [k0_pay43, k0_pay40]
    refine Finset.sum_congr rfl fun x _ => ?_
    exact congrArg₂ (· * ·) (pay42 kt j q k k4 hk4 qb hqb x s) (hub x d)

include hk4 hw8 hqa hua hqb hub in
theorem diag_dk1 (s : Fin 1024) (d : Fin 128) :
    k0_pay63 (F := Ideal) k4 w8 (k0_pay56 k4 w8 qa ua) (k0_pay57 qb) ub (ix2 s d) = psum ((kt.val + 1) * 1024) (dkt kt.val q k w u j s d) := by
  refine halves (fun s => k0_pay63 (F := Ideal) k4 w8 (k0_pay56 k4 w8 qa ua) (k0_pay57 qb) ub (ix2 s d) = psum ((kt.val + 1) * 1024) (dkt kt.val q k w u j s d)) (fun s => ?_) (fun s => ?_) s
  · rw [half_a kt _ fun r hr => dkt_hid kt j q k w u _ _ _ (by omega)]
    refine (cat_a _ _ s d).trans ?_
    pointwise [k0_pay56, k0_pay49]
    refine Finset.sum_congr rfl fun x _ => ?_
    exact congrArg₂ (· * ·) (pay54 kt j q k w u k4 w8 hk4 hw8 qa ua hqa hua x s) (hqa x d)
  · rw [half_b kt _ fun r hr => dkt_hid kt j q k w u _ _ _ (by show _ < _ + (512 + _); omega)]
    refine (cat_b _ _ s d).trans ?_
    pointwise [k0_pay57]
    refine Finset.sum_congr rfl fun x _ => ?_
    exact congrArg₂ (· * ·) (pay61 kt j q k w u k4 w8 hk4 hw8 qb ub hqb hub x s) (hqb x d)

include hk4 hqa hua hqb hub in
theorem diag_dv1 (s : Fin 1024) (d : Fin 128) :
    k0_pay64 (F := Ideal) k4 (k0_pay53 k4 qa ua) (k0_pay57 qb) ub (ix2 s d) = psum ((kt.val + 1) * 1024) (dvt kt.val q k u j s d) := by
  refine halves (fun s => k0_pay64 (F := Ideal) k4 (k0_pay53 k4 qa ua) (k0_pay57 qb) ub (ix2 s d) = psum ((kt.val + 1) * 1024) (dvt kt.val q k u j s d)) (fun s => ?_) (fun s => ?_) s
  · rw [half_a kt _ fun r hr => dvt_hid kt j q k u _ _ _ (by omega)]
    refine (cat_a _ _ s d).trans ?_
    pointwise [k0_pay53, k0_pay50]
    refine Finset.sum_congr rfl fun x _ => ?_
    exact congrArg₂ (· * ·) (pay52 kt j q k k4 hk4 qa hqa x s) (hua x d)
  · rw [half_b kt _ fun r hr => dvt_hid kt j q k u _ _ _ (by show _ < _ + (512 + _); omega)]
    refine (cat_b _ _ s d).trans ?_
    pointwise [k0_pay58]
    refine Finset.sum_congr rfl fun x _ => ?_
    exact congrArg₂ (· * ·) (pay60 kt j q k k4 hk4 qb hqb x s) (hub x d)

/-! The query rows: each block adds its keys' part. -/

/-- The first half of the keys' part of a query row, and the second half's. -/
def dqa (r : Fin 4096) (d : Fin 128) : EReal := ∑ s : Fin 512, wt kt.val q k w u j r (sa s) * k (ix3 j (sa s) d)
def dqb (r : Fin 4096) (d : Fin 128) : EReal := ∑ s : Fin 512, wt kt.val q k w u j r (sb s) * k (ix3 j (sb s) d)

theorem dqt_split (r : Fin 4096) (d : Fin 128) : dqt kt.val q k w u j r d = dqa kt j q k w u r d + dqb kt j q k w u r d :=
  Fin.sum_univ_two_halves 512 512 rfl _

theorem dqb_hid (r : Fin 4096) (d : Fin 128) (h : r.val < kt.val * 1024 + 512) : dqb kt j q k w u r d = 0 :=
  Finset.sum_eq_zero fun s _ => by
    unfold wt
    rw [pt_hid _ _ _ _ _ _ (by show _ < _ + (512 + _); omega), zero_mul, zero_mul]

theorem dqt_hid (r : Fin 4096) (d : Fin 128) (h : r.val < kt.val * 1024) : dqt kt.val q k w u j r d = 0 :=
  Finset.sum_eq_zero fun s _ => by
    unfold wt
    rw [pt_hid _ _ _ _ _ _ (by omega), zero_mul, zero_mul]

include hkb hwb hqa hua in
theorem pay37 (old : Vec Ideal S1x1024x128 .f32) (x : Fin 1024) (d : Fin 128) :
    k0_pay37 (F := Ideal) (k0_pay33 kb) (k0_pay36 kb wb qa ua) old (ix3 0 x d) = old (ix3 0 x d) + dqa kt j q k w u (ra kt x) d := by
  pointwise [k0_pay37, k0_pay33, k0_pay27]
  refine congrArg (_ + ·) (Finset.sum_congr rfl fun s _ => ?_)
  exact congrArg₂ (· * ·) (pay36 kt j q k w u kb wb hkb hwb qa ua hqa hua x s) (hkb (sa s) d)

include hk4 hw8 hqa hua in
theorem pay55 (old : Vec Ideal S1x1024x128 .f32) (x : Fin 1024) (d : Fin 128) :
    k0_pay55 (F := Ideal) k4 w8 qa ua old (ix3 0 x d) = old (ix3 0 x d) + dqa kt j q k w u (ra kt x) d := by
  pointwise [k0_pay55, k0_pay51]
  refine congrArg (_ + ·) (Finset.sum_congr rfl fun s _ => ?_)
  exact congrArg₂ (· * ·) (pay54 kt j q k w u k4 w8 hk4 hw8 qa ua hqa hua x s) (hk4 (sa s) d)

include hk4 hw8 hqb hub in
theorem pay46 (old : Vec Ideal S1x512x128 .f32) (x : Fin 512) (d : Fin 128) :
    k0_pay46 (F := Ideal) (k0_pay45 k4 w8 qb ub old) (ix3 0 x d) = old (ix3 0 x d) + dqb kt j q k w u (rb kt x) d := by
  pointwise [k0_pay46, k0_pay45, k0_pay41]
  refine congrArg (_ + ·) (Finset.sum_congr rfl fun s _ => ?_)
  exact congrArg₂ (· * ·) (pay44 kt j q k w u k4 w8 hk4 hw8 qb ub hqb hub x s) (hk4 (sb s) d)

include hk4 hw8 hqb hub in
theorem pay62 (old : Vec Ideal S1x512x128 .f32) (x : Fin 512) (d : Fin 128) :
    k0_pay62 (F := Ideal) k4 w8 (k0_pay57 qb) ub old (ix3 0 x d) = old (ix3 0 x d) + dqb kt j q k w u (rb kt x) d := by
  pointwise [k0_pay62, k0_pay59]
  refine congrArg (_ + ·) (Finset.sum_congr rfl fun s _ => ?_)
  exact congrArg₂ (· * ·) (pay61 kt j q k w u k4 w8 hk4 hw8 qb ub hqb hub x s) (hk4 (sb s) d)
end

/-- The four stores of the diagonal blocks, each read at a row: every row of the tile has gained its part. -/
theorem diag_rows (kt : Fin 4) (q : S2x4096x128.Idx → EReal) (k w : S2x1024x128.Idx → EReal) (u : S2x4096x128.Idx → EReal)
    {κ : Kind} {sp : Space} (v : View sig κ sp S2x4096x128 .f32) (f : BufTy.Contents (Elt Ideal) v.ty) (old : S2x4096x128.Idx → EReal)
    (o1 o2 o3 o4 : Fin 3 → ℕ) (h1 : o1 = ![0, kt.val * 1024, 0]) (h2 : o2 = ![0, kt.val * 1024 + 512, 0]) (h3 : o3 = ![1, kt.val * 1024, 0]) (h4 : o4 = ![1, kt.val * 1024 + 512, 0])
    (i1 : ∀ a : Fin 3, o1 a + (![1, 1024, 128] : Fin 3 → ℕ) a ≤ S2x4096x128.size a) (i2 : ∀ a : Fin 3, o2 a + (![1, 512, 128] : Fin 3 → ℕ) a ≤ S2x4096x128.size a)
    (i3 : ∀ a : Fin 3, o3 a + (![1, 1024, 128] : Fin 3 → ℕ) a ≤ S2x4096x128.size a) (i4 : ∀ a : Fin 3, o4 a + (![1, 512, 128] : Fin 3 → ℕ) a ≤ S2x4096x128.size a)
    (w1 : (Rect.unit (s := S2x4096x128) o1 ![1, 1024, 128] i1).shape.Idx → EReal) (w2 : (Rect.unit (s := S2x4096x128) o2 ![1, 512, 128] i2).shape.Idx → EReal)
    (w3 : (Rect.unit (s := S2x4096x128) o3 ![1, 1024, 128] i3).shape.Idx → EReal) (w4 : (Rect.unit (s := S2x4096x128) o4 ![1, 512, 128] i4).shape.Idx → EReal)
    (L : List (View.Piece (Elt Ideal) S2x4096x128 .f32))
    (hL : ∀ (j : Fin 2) (r : Fin 4096) (d : Fin 128), v.read (Elt Ideal) (v.writes (Elt Ideal) f L) (ix3 j r d) = old (ix3 j r d))
    (e1 : ∀ (x : Fin 1024) (d : Fin 128), w1 (ix3 (n0 := 1) (n1 := 1024) (n2 := 128) 0 x d) = old (ix3 0 (ra kt x) d) + dqa kt 0 q k w u (ra kt x) d)
    (e2 : ∀ (x : Fin 512) (d : Fin 128), w2 (ix3 (n0 := 1) (n1 := 512) (n2 := 128) 0 x d) = w1 (ix3 (n0 := 1) (n1 := 1024) (n2 := 128) 0 (sb x) d) + dqb kt 0 q k w u (rb kt x) d)
    (e3 : ∀ (x : Fin 1024) (d : Fin 128), w3 (ix3 (n0 := 1) (n1 := 1024) (n2 := 128) 0 x d) = old (ix3 1 (ra kt x) d) + dqa kt 1 q k w u (ra kt x) d)
    (e4 : ∀ (x : Fin 512) (d : Fin 128), w4 (ix3 (n0 := 1) (n1 := 512) (n2 := 128) 0 x d) = w3 (ix3 (n0 := 1) (n1 := 1024) (n2 := 128) 0 (sb x) d) + dqb kt 1 q k w u (rb kt x) d)
    (j : Fin 2) (r : Fin 4096) (d : Fin 128) :
    v.read (Elt Ideal) (v.writes (Elt Ideal) f (⟨Rect.unit o4 ![1, 512, 128] i4, w4⟩ :: ⟨Rect.unit o3 ![1, 1024, 128] i3, w3⟩ :: ⟨Rect.unit o2 ![1, 512, 128] i2, w2⟩ :: ⟨Rect.unit o1 ![1, 1024, 128] i1, w1⟩ :: L)) (ix3 j r d)
      = old (ix3 j r d) + (if r.val < (kt.val + 1) * 1024 then dqt kt.val q k w u j r d else 0) := by
  rw [read_rows v f o4 1 _ 512 h4, read_rows v f o3 1 _ 1024 h3, read_rows v f o2 0 _ 512 h2, read_rows v f o1 0 _ 1024 h1, hL]
  have ea : ∀ h : kt.val * 1024 ≤ r.val ∧ r.val < kt.val * 1024 + 1024, ra kt ⟨r.val - kt.val * 1024, by omega⟩ = r := fun h => Fin.ext (by show _ + _ = _; simp only; omega)
  have eb : ∀ h : kt.val * 1024 + 512 ≤ r.val ∧ r.val < kt.val * 1024 + 512 + 512, rb kt ⟨r.val - (kt.val * 1024 + 512), by omega⟩ = r := fun h => Fin.ext (by show _ + _ = _; simp only; omega)
  have eab : ∀ h : kt.val * 1024 + 512 ≤ r.val ∧ r.val < kt.val * 1024 + 512 + 512, ra kt (sb ⟨r.val - (kt.val * 1024 + 512), by omega⟩) = r := fun h => Fin.ext (by show _ + (512 + _) = _; simp only; omega)
  by_cases hlo : r.val < kt.val * 1024
  · rw [dif_neg (by omega), dif_neg (by omega), dif_neg (by omega), dif_neg (by omega), if_pos (by omega), dqt_hid kt j q k w u r d hlo, add_zero]
  · by_cases hhi : r.val < (kt.val + 1) * 1024
    · rw [if_pos hhi, dqt_split]
      by_cases hm : r.val < kt.val * 1024 + 512
      · rw [dqb_hid kt j q k w u r d hm, add_zero, dif_neg (by omega)]
        by_cases hj : j = 1
        · subst hj
          rw [dif_pos ⟨rfl, by omega, by omega⟩, e3, ea ⟨by omega, by omega⟩]
        · have hj0 : j = 0 := by omega
          subst hj0
          rw [dif_neg (fun h => hj h.1), dif_neg (by omega), dif_pos ⟨rfl, by omega, by omega⟩, e1, ea ⟨by omega, by omega⟩]
      · rw [← add_assoc]
        by_cases hj : j = 1
        · subst hj
          rw [dif_pos ⟨rfl, by omega, by omega⟩, e4, e3, eab ⟨by omega, by omega⟩, eb ⟨by omega, by omega⟩]
        · have hj0 : j = 0 := by omega
          subst hj0
          rw [dif_neg (fun h => hj h.1), dif_neg (fun h => hj h.1), dif_pos ⟨rfl, by omega, by omega⟩, e2, e1, eab ⟨by omega, by omega⟩, eb ⟨by omega, by omega⟩]
    · rw [dif_neg (by omega), dif_neg (by omega), dif_neg (by omega), dif_neg (by omega), if_neg hhi, add_zero]

end Cert.AttnIdeal.Val

end
-- ==== Proof.AttnLoop.lean ====
module

public import proofs.«01_k».proof.Proof.AttnTile
public import Idealize.ShloMosaic.Lib.Pipeline.ValueKit
public import Idealize.ShloMosaic.Lib.Pointwise

@[expose] public section

set_option maxRecDepth 16384

noncomputable section

namespace Cert.AttnIdeal.Val

open Idealize.ShloMosaic Idealize.ShloMosaic.TcCoe Idealize.SL.Sem
open Idealize.ShloMosaic.Pipeline (Dat)
open Cert.AttnIdeal Cert.AttnIdeal.Gen Cert.AttnIdeal.Body

/-- What the loop holds before trip `n`: the carried sums over the rows below its tile, and the query rows of the tiles before raised by theirs. -/
structure Loop (kt : ℕ) (q : S2x4096x128.Idx → EReal) (k w : S2x1024x128.Idx → EReal) (u : S2x4096x128.Idx → EReal) (old : S2x4096x128.Idx → EReal) (h : ℕ)
    (a : FVec Ideal S1024x128 .f32 × FVec Ideal S1024x128 .f32 × FVec Ideal S1024x128 .f32 × FVec Ideal S1024x128 .f32) (x : S2x4096x128.Idx → EReal) : Prop where
  dk0 : ∀ (s : Fin 1024) (d : Fin 128), a.1 (ix2 s d) = psum h (dkt kt q k w u 0 s d)
  dv0 : ∀ (s : Fin 1024) (d : Fin 128), a.2.1 (ix2 s d) = psum h (dvt kt q k u 0 s d)
  dk1 : ∀ (s : Fin 1024) (d : Fin 128), a.2.2.1 (ix2 s d) = psum h (dkt kt q k w u 1 s d)
  dv1 : ∀ (s : Fin 1024) (d : Fin 128), a.2.2.2 (ix2 s d) = psum h (dvt kt q k u 1 s d)
  dq : ∀ (j : Fin 2) (r : Fin 4096) (d : Fin 128), x (ix3 j r d) = old (ix3 j r d) + (if r.val < h then dqt kt q k w u j r d else 0)

section
variable (c : Dev nD) (i : grid0.Coords) (arg2 : Memref sig .tc .vmem S2x4096x128 .bf16) (harg2 : arg2.IsWhole) (arg3 : Memref sig .tc .vmem S2x1024x128 .bf16) (harg3 : arg3.IsWhole) (arg4 : Memref sig .tc .vmem S2x1024x128 .bf16) (harg4 : arg4.IsWhole) (arg5 : Memref sig .tc .vmem S2x4096x128 .bf16) (harg5 : arg5.IsWhole) (arg6 : Memref sig .tc .vmem S2x4096x128 .f32) (harg6 : arg6.IsWhole) (arg7 : Memref sig .tc .vmem S2x1024x128 .f32) (harg7 : arg7.IsWhole) (arg8 : Memref sig .tc .vmem S2x1024x128 .f32) (harg8 : arg8.IsWhole)
    (a1 : BitVec 32) (v4 v6 v8 v10 : FVec Ideal S1024x128 .bf16) (v75 v76 : FVec Ideal S1024x128 .f32) (v93 v106 : FVec Ideal S512x128 .f32) (v108 : BitVec 32) (v111 : FVec Ideal S512x128 .bf16) (v141 : BitVec 32)
    (X2 : BufTy.Contents (Elt Ideal) arg2.view.ty) (X5 : BufTy.Contents (Elt Ideal) arg5.view.ty)
    (q : S2x4096x128.Idx → EReal) (k : S2x1024x128.Idx → EReal) (w : S2x1024x128.Idx → EReal) (u : S2x4096x128.Idx → EReal)
    (hq : arg2.view.read (Elt Ideal) X2 = q) (hu : arg5.view.read (Elt Ideal) X5 = u)
    (h4 : ∀ (s : Fin 1024) (l : Fin 128), v4 (ix2 s l) = k (ix3 0 s l)) (h6 : ∀ (s : Fin 1024) (l : Fin 128), v6 (ix2 s l) = k (ix3 1 s l))
    (h8 : ∀ (s : Fin 1024) (l : Fin 128), v8 (ix2 s l) = w (ix3 0 s l)) (h10 : ∀ (s : Fin 1024) (l : Fin 128), v10 (ix2 s l) = w (ix3 1 s l))
    (G : BufTy.Contents (Elt Ideal) arg6.view.ty) (init : FVec Ideal S1024x128 .f32 × FVec Ideal S1024x128 .f32 × FVec Ideal S1024x128 .f32 × FVec Ideal S1024x128 .f32)
include hq hu h4 h6 h8 h10

theorem loop (old : S2x4096x128.Idx → EReal) (hi : Loop (i 1).val q k w u old (((i 1).val + 1) * 1024) init (arg6.view.read (Elt Ideal) G)) :
    ∀ n : ℕ, n ≤ (k0_t1_loop i).trips →
      Loop (i 1).val q k w u old (((i 1).val + 1 + n) * 1024) (st_k0_t1 (F := Ideal) Variants.none c none i arg2 harg2 arg3 harg3 arg4 harg4 arg5 harg5 arg6 harg6 arg7 harg7 arg8 harg8 a1 v4 v6 v8 v10 v75 v76 v93 v106 v108 v111 v141 X2 X5 G init n).1
        (arg6.view.read (Elt Ideal) (arg6.view.writes (Elt Ideal) G (st_k0_t1 (F := Ideal) Variants.none c none i arg2 harg2 arg3 harg3 arg4 harg4 arg5 harg5 arg6 harg6 arg7 harg7 arg8 harg8 a1 v4 v6 v8 v10 v75 v76 v93 v106 v108 v111 v141 X2 X5 G init n).2))
  | 0, _ => hi
  | n + 1, hn => by
    have ih := loop old hi n (by omega)
    have ht := trips_eq i
    have hrow : ((i 1).val + 1 + n) * 1024 + 1024 ≤ 4096 := by omega
    have he : ((i 1).val + 1 + (n + 1)) * 1024 = ((i 1).val + 1 + n) * 1024 + 1024 := by omega
    rw [st_k0_t1_succ (F := Ideal) Variants.none c none i arg2 harg2 arg3 harg3 arg4 harg4 arg5 harg5 arg6 harg6 arg7 harg7 arg8 harg8 a1 v4 v6 v8 v10 v75 v76 v93 v106 v108 v111 v141 X2 X5 G init ⟨n, by omega⟩, he]
    refine ⟨fun s d => ?_, fun s d => ?_, fun s d => ?_, fun s d => ?_, fun j r d => ?_⟩
    · rw [psum_add _ _ hrow, ← ih.dk0]
      exact tripR_1 c i arg2 harg2 arg3 harg3 arg4 harg4 arg5 harg5 arg6 harg6 arg7 harg7 arg8 harg8 a1 v4 v6 v8 v10 v75 v76 v93 v106 v108 v111 v141 X2 X5 q k w u hq hu h4 h6 h8 h10 ⟨n, by omega⟩ _ _ s d
    · rw [psum_add _ _ hrow, ← ih.dv0]
      exact tripR_2 c i arg2 harg2 arg3 harg3 arg4 harg4 arg5 harg5 arg6 harg6 arg7 harg7 arg8 harg8 a1 v4 v6 v8 v10 v75 v76 v93 v106 v108 v111 v141 X2 X5 q k w u hq hu h4 h6 h8 h10 ⟨n, by omega⟩ _ _ s d
    · rw [psum_add _ _ hrow, ← ih.dk1]
      exact tripR_3 c i arg2 harg2 arg3 harg3 arg4 harg4 arg5 harg5 arg6 harg6 arg7 harg7 arg8 harg8 a1 v4 v6 v8 v10 v75 v76 v93 v106 v108 v111 v141 X2 X5 q k w u hq hu h4 h6 h8 h10 ⟨n, by omega⟩ _ _ s d
    · rw [psum_add _ _ hrow, ← ih.dv1]
      exact tripR_4 c i arg2 harg2 arg3 harg3 arg4 harg4 arg5 harg5 arg6 harg6 arg7 harg7 arg8 harg8 a1 v4 v6 v8 v10 v75 v76 v93 v106 v108 v111 v141 X2 X5 q k w u hq hu h4 h6 h8 h10 ⟨n, by omega⟩ _ _ s d
    · rw [View.writes_append]
      refine (trip_rows c i arg2 harg2 arg3 harg3 arg4 harg4 arg5 harg5 arg6 harg6 arg7 harg7 arg8 harg8 a1 v4 v6 v8 v10 v75 v76 v93 v106 v108 v111 v141 X2 X5 q k w u hq hu h4 h6 h8 h10 ⟨n, by omega⟩ _ _ j r d).trans ?_
      refine (congrArg (· + _) (ih.dq j r d)).trans ?_
      rw [add_assoc]
      refine congrArg (old (ix3 j r d) + ·) ?_
      show (if r.val < ((i 1).val + 1 + n) * 1024 then _ else (0 : EReal)) + (if ((i 1).val + 1 + n) * 1024 ≤ r.val ∧ r.val < ((i 1).val + 1 + n) * 1024 + 1024 then _ else (0 : EReal)) = _
      by_cases h1 : r.val < ((i 1).val + 1 + n) * 1024
      · rw [if_pos h1, if_neg (by omega), if_pos (by omega), add_zero]
      · by_cases h2 : r.val < ((i 1).val + 1 + n) * 1024 + 1024
        · rw [if_neg h1, if_pos ⟨by omega, h2⟩, if_pos h2, zero_add]
        · rw [if_neg h1, if_neg (by omega), if_neg h2, zero_add]
end

end Cert.AttnIdeal.Val

end
-- ==== Proof.AttnPoint.lean ====
module

public import proofs.«01_k».proof.Proof.AttnDiag
public import proofs.«01_k».proof.Proof.AttnLoop
public import Idealize.ShloMosaic.Lib.Pipeline.ValueKit
public import Idealize.ShloMosaic.Lib.Pointwise

@[expose] public section

set_option maxRecDepth 16384

noncomputable section

namespace Cert.AttnIdeal.Val

open Idealize.ShloMosaic Idealize.ShloMosaic.TcCoe Idealize.SL.Sem
open Idealize.ShloMosaic.Pipeline (Dat)
open Cert.AttnIdeal Cert.AttnIdeal.Gen Cert.AttnIdeal.Body

/-- A load of rows `o … o + n` of one head, read at a row. -/
theorem ld_rows {e : EltTy} {κ : Kind} {sp : Space} (v : View sig κ sp S2x4096x128 e) (f : BufTy.Contents (Elt Ideal) v.ty) (off : Fin 3 → ℕ) (j0 : Fin 2) (o n : ℕ)
    (hoff : off = ![j0.val, o, 0]) (hn : o + n ≤ 4096) (inb : ∀ a : Fin 3, off a + (![1, n, 128] : Fin 3 → ℕ) a ≤ S2x4096x128.size a) (x : Fin n) (l : Fin 128) :
    v.readAt (Elt Ideal) (Rect.unit (s := S2x4096x128) off ![1, n, 128] inb).toLoadRect f (ix3 (n0 := 1) (n1 := n) (n2 := 128) 0 x l)
      = v.read (Elt Ideal) f (ix3 j0 ⟨o + x.val, by have := x.isLt; omega⟩ l) := by
  subst hoff
  rw [View.readAt_eq_ld]
  refine congrArg (v.read (Elt Ideal) f) (funext fun a => Fin.ext ?_)
  fin_cases a
  · show j0.val + 1 * 0 = j0.val; omega
  · show o + 1 * x.val = o + x.val; omega
  · show 0 + 1 * l.val = l.val; omega

/-- A load of one head of a tile. -/
theorem ld_tile {e : EltTy} {κ : Kind} {sp : Space} (v : View sig κ sp S2x1024x128 e) (f : BufTy.Contents (Elt Ideal) v.ty) (j0 : Fin 2) (off : Fin 3 → ℕ) (hoff : off = ![j0.val, 0, 0])
    (inb : ∀ a : Fin 3, off a + (![1, 1024, 128] : Fin 3 → ℕ) a ≤ S2x1024x128.size a) (x : Fin 1024) (l : Fin 128) :
    v.readAt (Elt Ideal) (Rect.unit (s := S2x1024x128) off ![1, 1024, 128] inb).toLoadRect f (ix3 (n0 := 1) (n1 := 1024) (n2 := 128) 0 x l)
      = v.read (Elt Ideal) f (ix3 j0 x l) := by
  subst hoff
  rw [View.readAt_eq_ld]
  refine congrArg (v.read (Elt Ideal) f) (funext fun a => Fin.ext ?_)
  fin_cases a
  · show j0.val + 1 * 0 = j0.val; omega
  · show 0 + 1 * x.val = x.val; omega
  · show 0 + 1 * l.val = l.val; omega

/-- A tile whose two heads are stored one after the other, read at a place. -/
theorem read_heads {κ : Kind} {sp : Space} (v : View sig κ sp S2x1024x128 .f32) (f : BufTy.Contents (Elt Ideal) v.ty)
    (i1 : ∀ a : Fin 3, (![1, 0, 0] : Fin 3 → ℕ) a + (![1, 1024, 128] : Fin 3 → ℕ) a ≤ S2x1024x128.size a) (i0 : ∀ a : Fin 3, (![0, 0, 0] : Fin 3 → ℕ) a + (![1, 1024, 128] : Fin 3 → ℕ) a ≤ S2x1024x128.size a)
    (w1 : (Rect.unit (s := S2x1024x128) ![1, 0, 0] ![1, 1024, 128] i1).shape.Idx → EReal) (w0 : (Rect.unit (s := S2x1024x128) ![0, 0, 0] ![1, 1024, 128] i0).shape.Idx → EReal)
    (g : Fin 2 → Fin 1024 → Fin 128 → EReal)
    (h1 : ∀ (s : Fin 1024) (d : Fin 128), w1 (ix3 (n0 := 1) (n1 := 1024) (n2 := 128) 0 s d) = g 1 s d)
    (h0 : ∀ (s : Fin 1024) (d : Fin 128), w0 (ix3 (n0 := 1) (n1 := 1024) (n2 := 128) 0 s d) = g 0 s d)
    (j : Fin 2) (s : Fin 1024) (d : Fin 128) :
    v.read (Elt Ideal) (v.writes (Elt Ideal) f [⟨Rect.unit ![1, 0, 0] ![1, 1024, 128] i1, w1⟩, ⟨Rect.unit ![0, 0, 0] ![1, 1024, 128] i0, w0⟩]) (ix3 j s d) = g j s d := by
  by_cases hj : j = 1
  · subst hj
    refine (View.read_writes_cons_hit_of_coords v f _ w1 _ (ix3 (n0 := 1) (n1 := 1024) (n2 := 128) 0 s d) _ fun a => ?_).trans (h1 s d)
    fin_cases a
    · rfl
    · show s.val = 0 + 1 * s.val; omega
    · show d.val = 0 + 1 * d.val; omega
  · have hj0 : j = 0 := by omega
    subst hj0
    refine (View.read_writes_cons_miss_of_axis v f _ _ _ (0 : Fin 3) 1 1 rfl rfl rfl (Or.inl (by show 0 < 1; omega))).trans ?_
    refine (View.read_writes_cons_hit_of_coords v f _ w0 _ (ix3 (n0 := 1) (n1 := 1024) (n2 := 128) 0 s d) _ fun a => ?_).trans (h0 s d)
    fin_cases a
    · rfl
    · show s.val = 0 + 1 * s.val; omega
    · show d.val = 0 + 1 * d.val; omega

theorem t2_zero (𝒱 : Variants) (c : Dev nD) (bd : Option 𝒱.V) (i : grid0.Coords) (arg2 : Memref sig .tc .vmem S2x4096x128 .bf16) (harg2 : arg2.IsWhole) (arg3 : Memref sig .tc .vmem S2x1024x128 .bf16) (harg3 : arg3.IsWhole) (arg4 : Memref sig .tc .vmem S2x1024x128 .bf16) (harg4 : arg4.IsWhole) (arg5 : Memref sig .tc .vmem S2x4096x128 .bf16) (harg5 : arg5.IsWhole) (arg6 : Memref sig .tc .vmem S2x4096x128 .f32) (harg6 : arg6.IsWhole) (arg7 : Memref sig .tc .vmem S2x1024x128 .f32) (harg7 : arg7.IsWhole) (arg8 : Memref sig .tc .vmem S2x1024x128 .f32) (harg8 : arg8.IsWhole) (arg1 : BitVec 32) (v4 : FVec Ideal S1024x128 .bf16) (v6 : FVec Ideal S1024x128 .bf16) (v8 : FVec Ideal S1024x128 .bf16) (v10 : FVec Ideal S1024x128 .bf16) (v75 : FVec Ideal S1024x128 .f32) (v76 : FVec Ideal S1024x128 .f32) (v93 : FVec Ideal S512x128 .f32) (v106 : FVec Ideal S512x128 .f32) (v108 : BitVec 32) (v111 : FVec Ideal S512x128 .bf16) (v146 : BitVec 32) (X_arg2 : BufTy.Contents (Elt Ideal) arg2.view.ty) (X_arg5 : BufTy.Contents (Elt Ideal) arg5.view.ty) (G_arg6 : BufTy.Contents (Elt Ideal) arg6.view.ty) (init : FVec Ideal S1024x128 .f32 × FVec Ideal S1024x128 .f32 × FVec Ideal S1024x128 .f32 × FVec Ideal S1024x128 .f32) (n : ℕ) (hn : n = 0) :
    st_k0_t2 (F := Ideal) 𝒱 c bd i arg2 harg2 arg3 harg3 arg4 harg4 arg5 harg5 arg6 harg6 arg7 harg7 arg8 harg8 arg1 v4 v6 v8 v10 v75 v76 v93 v106 v108 v111 v146 X_arg2 X_arg5 G_arg6 init n = (init, []) := by subst hn; rfl

section
variable (c : Dev nD) (i : grid0.Coords) (arg2 : Memref sig .tc .vmem S2x4096x128 .bf16) (harg2 : arg2.IsWhole) (arg3 : Memref sig .tc .vmem S2x1024x128 .bf16) (harg3 : arg3.IsWhole) (arg4 : Memref sig .tc .vmem S2x1024x128 .bf16) (harg4 : arg4.IsWhole) (arg5 : Memref sig .tc .vmem S2x4096x128 .bf16) (harg5 : arg5.IsWhole) (arg6 : Memref sig .tc .vmem S2x4096x128 .f32) (harg6 : arg6.IsWhole) (arg7 : Memref sig .tc .vmem S2x1024x128 .f32) (harg7 : arg7.IsWhole) (arg8 : Memref sig .tc .vmem S2x1024x128 .f32) (harg8 : arg8.IsWhole)
    (x0 : Vec Ideal S2x4096x128 .bf16) (x1 : Vec Ideal S2x1024x128 .bf16) (x2 : Vec Ideal S2x1024x128 .bf16) (x3 : Vec Ideal S2x4096x128 .bf16)

theorem startA : Loop (i 1).val x0 x1 x2 x3 (fun _ => (0 : EReal)) (((i 1).val + 1) * 1024) (runA.sl.r_13 c i arg2 harg2 arg3 harg3 arg4 harg4 arg5 harg5 x0 x1 x2 x3, runA.sl.r_14 c i arg2 harg2 arg3 harg3 arg5 harg5 x0 x1 x3, k0_pay63 (runA.sl.r_1 c arg3 harg3 x1) (runA.sl.r_3 c arg4 harg4 x2) (runA.sl.r_16 c i arg2 harg2 arg3 harg3 arg4 harg4 arg5 harg5 x0 x1 x2 x3) (runA.sl.r_17 c i arg2 harg2 x0) (View.readAt (Elt Ideal) arg5.view (Rect.unit (s := S2x4096x128) (k0_off4 i) ![1, 512, 128] (k0_off4_inb i)).toLoadRect (harg5.unread x3)), k0_pay64 (runA.sl.r_1 c arg3 harg3 x1) (runA.sl.r_15 c i arg2 harg2 arg3 harg3 arg5 harg5 x0 x1 x3) (runA.sl.r_17 c i arg2 harg2 x0) (View.readAt (Elt Ideal) arg5.view (Rect.unit (s := S2x4096x128) (k0_off4 i) ![1, 512, 128] (k0_off4_inb i)).toLoadRect (harg5.unread x3)))
    (arg6.view.read (Elt Ideal) (arg6.view.writes (Elt Ideal) arg6.view.junk (⟨Rect.unit (s := S2x4096x128) (k0_off4 i) ![1, 512, 128] (k0_off4_inb i), k0_pay62 (F := Ideal) (runA.sl.r_1 c arg3 harg3 x1) (runA.sl.r_3 c arg4 harg4 x2) (runA.sl.r_17 c i arg2 harg2 x0) (View.readAt (Elt Ideal) arg5.view (Rect.unit (s := S2x4096x128) (k0_off4 i) ![1, 512, 128] (k0_off4_inb i)).toLoadRect (harg5.unread x3)) (runA.sl.v130 c i arg2 harg2 arg3 harg3 arg4 harg4 arg5 harg5 arg6 x0 x1 x2 x3)⟩ :: runA.sl.H4_4 c i arg2 harg2 arg3 harg3 arg4 harg4 arg5 harg5 arg6 x0 x1 x2 x3))) := by
  have h4 : (i 1).val < 4 := (i 1).isLt
  have hk0 : ∀ (s : Fin 1024) (l : Fin 128), View.readAt (Elt Ideal) arg3.view (Rect.unit (s := S2x1024x128) ![0, 0, 0] ![1, 1024, 128] inb_S2x1024x128_S1x1024x128_0_0_0).toLoadRect (harg3.unread x1) (ix3 (n0 := 1) (n1 := 1024) (n2 := 128) 0 s l) = x1 (ix3 0 s l) := fun s l => (ld_tile arg3.view _ 0 _ rfl _ s l).trans (congrFun (harg3.read_unread x1) _)
  have hw0 : ∀ (s : Fin 1024) (l : Fin 128), View.readAt (Elt Ideal) arg4.view (Rect.unit (s := S2x1024x128) ![0, 0, 0] ![1, 1024, 128] inb_S2x1024x128_S1x1024x128_0_0_0).toLoadRect (harg4.unread x2) (ix3 (n0 := 1) (n1 := 1024) (n2 := 128) 0 s l) = x2 (ix3 0 s l) := fun s l => (ld_tile arg4.view _ 0 _ rfl _ s l).trans (congrFun (harg4.read_unread x2) _)
  have hk4 : ∀ (s : Fin 1024) (l : Fin 128), runA.sl.r c arg3 harg3 x1 (ix2 s l) = x1 (ix3 0 s l) := fun s l => by
    unfold runA.sl.r
    pointwise [k0_pay27]
    exact hk0 s l
  have hk6 : ∀ (s : Fin 1024) (l : Fin 128), runA.sl.r_1 c arg3 harg3 x1 (ix2 s l) = x1 (ix3 1 s l) := fun s l => by
    unfold runA.sl.r_1
    pointwise [k0_pay28]
    exact (fun s l => (ld_tile arg3.view _ 1 _ rfl _ s l).trans (congrFun (harg3.read_unread x1) _)) s l
  have hw8 : ∀ (s : Fin 1024) (l : Fin 128), runA.sl.r_2 c arg4 harg4 x2 (ix2 s l) = x2 (ix3 0 s l) := fun s l => by
    unfold runA.sl.r_2
    pointwise [k0_pay29]
    exact hw0 s l
  have hw10 : ∀ (s : Fin 1024) (l : Fin 128), runA.sl.r_3 c arg4 harg4 x2 (ix2 s l) = x2 (ix3 1 s l) := fun s l => by
    unfold runA.sl.r_3
    pointwise [k0_pay30]
    exact (fun s l => (ld_tile arg4.view _ 1 _ rfl _ s l).trans (congrFun (harg4.read_unread x2) _)) s l
  have hL : ∀ (j : Fin 2) (r : Fin 4096) (d : Fin 128), arg6.view.read (Elt Ideal) (arg6.view.writes (Elt Ideal) arg6.view.junk (runA.sl.H4_1)) (ix3 j r d) = (fun _ => (0 : EReal)) (ix3 j r d) := by
    intro j r d
    refine (View.read_writes_cons_hit_of_coords arg6.view _ _ _ _ (ix3 j r d) _ fun a => ?_).trans ?_
    · fin_cases a
      · show j.val = 0 + 1 * j.val; omega
      · show r.val = 0 + 1 * r.val; omega
      · show d.val = 0 + 1 * d.val; omega
    · pointwise [k0_pay26]
  refine ⟨fun s d => ?_, fun s d => ?_, fun s d => ?_, fun s d => ?_, fun j r d => ?_⟩
  · exact diag_dk0 (i 1) 0 x0 x1 x2 x3 _ _ hk0 hw0 _ _ hk4 hw8 _ _ (fun s l => (ld_rows arg2.view _ _ 0 _ 1024 (off1_eq i) (by have h4 : (i 1).val < 4 := (i 1).isLt; omega) _ s l).trans (congrFun (harg2.read_unread x0) _)) (fun s l => (ld_rows arg5.view _ _ 0 _ 1024 (off1_eq i) (by have h4 : (i 1).val < 4 := (i 1).isLt; omega) _ s l).trans (congrFun (harg5.read_unread x3) _)) _ _ (fun s l => (ld_rows arg2.view _ _ 0 _ 512 (off2_eq i) (by have h4 : (i 1).val < 4 := (i 1).isLt; omega) _ s l).trans (congrFun (harg2.read_unread x0) _)) (fun s l => (ld_rows arg5.view _ _ 0 _ 512 (off2_eq i) (by have h4 : (i 1).val < 4 := (i 1).isLt; omega) _ s l).trans (congrFun (harg5.read_unread x3) _)) s d
  · exact diag_dv0 (i 1) 0 x0 x1 x3 _ hk0 _ hk4 _ _ (fun s l => (ld_rows arg2.view _ _ 0 _ 1024 (off1_eq i) (by have h4 : (i 1).val < 4 := (i 1).isLt; omega) _ s l).trans (congrFun (harg2.read_unread x0) _)) (fun s l => (ld_rows arg5.view _ _ 0 _ 1024 (off1_eq i) (by have h4 : (i 1).val < 4 := (i 1).isLt; omega) _ s l).trans (congrFun (harg5.read_unread x3) _)) _ _ (fun s l => (ld_rows arg2.view _ _ 0 _ 512 (off2_eq i) (by have h4 : (i 1).val < 4 := (i 1).isLt; omega) _ s l).trans (congrFun (harg2.read_unread x0) _)) (fun s l => (ld_rows arg5.view _ _ 0 _ 512 (off2_eq i) (by have h4 : (i 1).val < 4 := (i 1).isLt; omega) _ s l).trans (congrFun (harg5.read_unread x3) _)) s d
  · exact diag_dk1 (i 1) 1 x0 x1 x2 x3 _ _ hk6 hw10 _ _ (fun s l => (ld_rows arg2.view _ _ 1 _ 1024 (off3_eq i) (by have h4 : (i 1).val < 4 := (i 1).isLt; omega) _ s l).trans (congrFun (harg2.read_unread x0) _)) (fun s l => (ld_rows arg5.view _ _ 1 _ 1024 (off3_eq i) (by have h4 : (i 1).val < 4 := (i 1).isLt; omega) _ s l).trans (congrFun (harg5.read_unread x3) _)) _ _ (fun s l => (ld_rows arg2.view _ _ 1 _ 512 (off4_eq i) (by have h4 : (i 1).val < 4 := (i 1).isLt; omega) _ s l).trans (congrFun (harg2.read_unread x0) _)) (fun s l => (ld_rows arg5.view _ _ 1 _ 512 (off4_eq i) (by have h4 : (i 1).val < 4 := (i 1).isLt; omega) _ s l).trans (congrFun (harg5.read_unread x3) _)) s d
  · exact diag_dv1 (i 1) 1 x0 x1 x3 _ hk6 _ _ (fun s l => (ld_rows arg2.view _ _ 1 _ 1024 (off3_eq i) (by have h4 : (i 1).val < 4 := (i 1).isLt; omega) _ s l).trans (congrFun (harg2.read_unread x0) _)) (fun s l => (ld_rows arg5.view _ _ 1 _ 1024 (off3_eq i) (by have h4 : (i 1).val < 4 := (i 1).isLt; omega) _ s l).trans (congrFun (harg5.read_unread x3) _)) _ _ (fun s l => (ld_rows arg2.view _ _ 1 _ 512 (off4_eq i) (by have h4 : (i 1).val < 4 := (i 1).isLt; omega) _ s l).trans (congrFun (harg2.read_unread x0) _)) (fun s l => (ld_rows arg5.view _ _ 1 _ 512 (off4_eq i) (by have h4 : (i 1).val < 4 := (i 1).isLt; omega) _ s l).trans (congrFun (harg5.read_unread x3) _)) s d
  · unfold runA.sl.H4_4 runA.sl.H4_3 runA.sl.H4_2
    refine diag_rows (i 1) x0 x1 x2 x3 arg6.view arg6.view.junk (fun _ => (0 : EReal)) _ _ _ _ (off1_eq i) (off2_eq i) (off3_eq i) (off4_eq i) _ _ _ _ _ _ _ _ (runA.sl.H4_1) hL ?_ ?_ ?_ ?_ j r d
    · intro x d
      refine (pay37 (i 1) 0 x0 x1 x2 x3 _ _ hk0 hw0 _ _ (fun s l => (ld_rows arg2.view _ _ 0 _ 1024 (off1_eq i) (by have h4 : (i 1).val < 4 := (i 1).isLt; omega) _ s l).trans (congrFun (harg2.read_unread x0) _)) (fun s l => (ld_rows arg5.view _ _ 0 _ 1024 (off1_eq i) (by have h4 : (i 1).val < 4 := (i 1).isLt; omega) _ s l).trans (congrFun (harg5.read_unread x3) _)) _ x d).trans (congrArg (· + _) ?_)
      exact (ld_rows arg6.view _ _ 0 _ 1024 (off1_eq i) (by omega) _ x d).trans (hL _ _ _)
    · intro x d
      refine (pay46 (i 1) 0 x0 x1 x2 x3 _ _ hk4 hw8 _ _ (fun s l => (ld_rows arg2.view _ _ 0 _ 512 (off2_eq i) (by have h4 : (i 1).val < 4 := (i 1).isLt; omega) _ s l).trans (congrFun (harg2.read_unread x0) _)) (fun s l => (ld_rows arg5.view _ _ 0 _ 512 (off2_eq i) (by have h4 : (i 1).val < 4 := (i 1).isLt; omega) _ s l).trans (congrFun (harg5.read_unread x3) _)) _ x d).trans (congrArg (· + _) ?_)
      refine (ld_rows arg6.view _ _ 0 _ 512 (off2_eq i) (by omega) _ x d).trans ?_
      unfold runA.sl.H4_2
      have hx := x.isLt
      rw [read_rows arg6.view _ _ 0 _ 1024 (off1_eq i), dif_pos ⟨rfl, by simp only; omega, by simp only; omega⟩]
      exact congrArg _ ((ix3_inj ..).2 ⟨rfl, Fin.ext (by show _ - _ = 512 + _; simp only; omega), rfl⟩)
    · intro x d
      refine (pay55 (i 1) 1 x0 x1 x2 x3 _ _ hk6 hw10 _ _ (fun s l => (ld_rows arg2.view _ _ 1 _ 1024 (off3_eq i) (by have h4 : (i 1).val < 4 := (i 1).isLt; omega) _ s l).trans (congrFun (harg2.read_unread x0) _)) (fun s l => (ld_rows arg5.view _ _ 1 _ 1024 (off3_eq i) (by have h4 : (i 1).val < 4 := (i 1).isLt; omega) _ s l).trans (congrFun (harg5.read_unread x3) _)) _ x d).trans (congrArg (· + _) ?_)
      exact (ld_rows arg6.view _ _ 1 _ 1024 (off3_eq i) (by omega) _ x d).trans (by
      unfold runA.sl.H4_3 runA.sl.H4_2
      rw [read_rows arg6.view _ _ 0 _ 512 (off2_eq i), read_rows arg6.view _ _ 0 _ 1024 (off1_eq i), dif_neg (fun h => absurd h.1 (by decide)), dif_neg (fun h => absurd h.1 (by decide))]
      exact hL _ _ _)
    · intro x d
      refine (pay62 (i 1) 1 x0 x1 x2 x3 _ _ hk6 hw10 _ _ (fun s l => (ld_rows arg2.view _ _ 1 _ 512 (off4_eq i) (by have h4 : (i 1).val < 4 := (i 1).isLt; omega) _ s l).trans (congrFun (harg2.read_unread x0) _)) (fun s l => (ld_rows arg5.view _ _ 1 _ 512 (off4_eq i) (by have h4 : (i 1).val < 4 := (i 1).isLt; omega) _ s l).trans (congrFun (harg5.read_unread x3) _)) _ x d).trans (congrArg (· + _) ?_)
      refine (ld_rows arg6.view _ _ 1 _ 512 (off4_eq i) (by omega) _ x d).trans ?_
      unfold runA.sl.H4_4
      have hx := x.isLt
      rw [read_rows arg6.view _ _ 1 _ 1024 (off3_eq i), dif_pos ⟨rfl, by simp only; omega, by simp only; omega⟩]
      exact congrArg _ ((ix3_inj ..).2 ⟨rfl, Fin.ext (by show _ - _ = 512 + _; simp only; omega), rfl⟩)

theorem endA (n : ℕ) (hn : n = (k0_t1_loop i).trips) : Loop (i 1).val x0 x1 x2 x3 (fun _ => (0 : EReal)) 4096 (st_k0_t1 (F := Ideal) Variants.none c none i arg2 harg2 arg3 harg3 arg4 harg4 arg5 harg5 arg6 harg6 arg7 harg7 arg8 harg8 (BitVec.ofNat 32 (i 1).val) (runA.sl.r c arg3 harg3 x1) (runA.sl.r_1 c arg3 harg3 x1) (runA.sl.r_2 c arg4 harg4 x2) (runA.sl.r_3 c arg4 harg4 x2) (runA.sl.r_13 c i arg2 harg2 arg3 harg3 arg4 harg4 arg5 harg5 x0 x1 x2 x3) (runA.sl.r_14 c i arg2 harg2 arg3 harg3 arg5 harg5 x0 x1 x3) (runA.sl.r_15 c i arg2 harg2 arg3 harg3 arg5 harg5 x0 x1 x3) (runA.sl.r_16 c i arg2 harg2 arg3 harg3 arg4 harg4 arg5 harg5 x0 x1 x2 x3) (runA.sl.v107 i) (runA.sl.r_17 c i arg2 harg2 x0) (runA.sl.v141 i) (harg2.unread x0) (harg5.unread x3) (arg6.view.writes (Elt Ideal) arg6.view.junk (⟨Rect.unit (s := S2x4096x128) (k0_off4 i) ![1, 512, 128] (k0_off4_inb i), k0_pay62 (F := Ideal) (runA.sl.r_1 c arg3 harg3 x1) (runA.sl.r_3 c arg4 harg4 x2) (runA.sl.r_17 c i arg2 harg2 x0) (View.readAt (Elt Ideal) arg5.view (Rect.unit (s := S2x4096x128) (k0_off4 i) ![1, 512, 128] (k0_off4_inb i)).toLoadRect (harg5.unread x3)) (runA.sl.v130 c i arg2 harg2 arg3 harg3 arg4 harg4 arg5 harg5 arg6 x0 x1 x2 x3)⟩ :: runA.sl.H4_4 c i arg2 harg2 arg3 harg3 arg4 harg4 arg5 harg5 arg6 x0 x1 x2 x3)) (runA.sl.r_13 c i arg2 harg2 arg3 harg3 arg4 harg4 arg5 harg5 x0 x1 x2 x3, runA.sl.r_14 c i arg2 harg2 arg3 harg3 arg5 harg5 x0 x1 x3, k0_pay63 (runA.sl.r_1 c arg3 harg3 x1) (runA.sl.r_3 c arg4 harg4 x2) (runA.sl.r_16 c i arg2 harg2 arg3 harg3 arg4 harg4 arg5 harg5 x0 x1 x2 x3) (runA.sl.r_17 c i arg2 harg2 x0) (View.readAt (Elt Ideal) arg5.view (Rect.unit (s := S2x4096x128) (k0_off4 i) ![1, 512, 128] (k0_off4_inb i)).toLoadRect (harg5.unread x3)), k0_pay64 (runA.sl.r_1 c arg3 harg3 x1) (runA.sl.r_15 c i arg2 harg2 arg3 harg3 arg5 harg5 x0 x1 x3) (runA.sl.r_17 c i arg2 harg2 x0) (View.readAt (Elt Ideal) arg5.view (Rect.unit (s := S2x4096x128) (k0_off4 i) ![1, 512, 128] (k0_off4_inb i)).toLoadRect (harg5.unread x3))) n).1
    (arg6.view.read (Elt Ideal) (arg6.view.writes (Elt Ideal) (arg6.view.writes (Elt Ideal) arg6.view.junk (⟨Rect.unit (s := S2x4096x128) (k0_off4 i) ![1, 512, 128] (k0_off4_inb i), k0_pay62 (F := Ideal) (runA.sl.r_1 c arg3 harg3 x1) (runA.sl.r_3 c arg4 harg4 x2) (runA.sl.r_17 c i arg2 harg2 x0) (View.readAt (Elt Ideal) arg5.view (Rect.unit (s := S2x4096x128) (k0_off4 i) ![1, 512, 128] (k0_off4_inb i)).toLoadRect (harg5.unread x3)) (runA.sl.v130 c i arg2 harg2 arg3 harg3 arg4 harg4 arg5 harg5 arg6 x0 x1 x2 x3)⟩ :: runA.sl.H4_4 c i arg2 harg2 arg3 harg3 arg4 harg4 arg5 harg5 arg6 x0 x1 x2 x3)) (st_k0_t1 (F := Ideal) Variants.none c none i arg2 harg2 arg3 harg3 arg4 harg4 arg5 harg5 arg6 harg6 arg7 harg7 arg8 harg8 (BitVec.ofNat 32 (i 1).val) (runA.sl.r c arg3 harg3 x1) (runA.sl.r_1 c arg3 harg3 x1) (runA.sl.r_2 c arg4 harg4 x2) (runA.sl.r_3 c arg4 harg4 x2) (runA.sl.r_13 c i arg2 harg2 arg3 harg3 arg4 harg4 arg5 harg5 x0 x1 x2 x3) (runA.sl.r_14 c i arg2 harg2 arg3 harg3 arg5 harg5 x0 x1 x3) (runA.sl.r_15 c i arg2 harg2 arg3 harg3 arg5 harg5 x0 x1 x3) (runA.sl.r_16 c i arg2 harg2 arg3 harg3 arg4 harg4 arg5 harg5 x0 x1 x2 x3) (runA.sl.v107 i) (runA.sl.r_17 c i arg2 harg2 x0) (runA.sl.v141 i) (harg2.unread x0) (harg5.unread x3) (arg6.view.writes (Elt Ideal) arg6.view.junk (⟨Rect.unit (s := S2x4096x128) (k0_off4 i) ![1, 512, 128] (k0_off4_inb i), k0_pay62 (F := Ideal) (runA.sl.r_1 c arg3 harg3 x1) (runA.sl.r_3 c arg4 harg4 x2) (runA.sl.r_17 c i arg2 harg2 x0) (View.readAt (Elt Ideal) arg5.view (Rect.unit (s := S2x4096x128) (k0_off4 i) ![1, 512, 128] (k0_off4_inb i)).toLoadRect (harg5.unread x3)) (runA.sl.v130 c i arg2 harg2 arg3 harg3 arg4 harg4 arg5 harg5 arg6 x0 x1 x2 x3)⟩ :: runA.sl.H4_4 c i arg2 harg2 arg3 harg3 arg4 harg4 arg5 harg5 arg6 x0 x1 x2 x3)) (runA.sl.r_13 c i arg2 harg2 arg3 harg3 arg4 harg4 arg5 harg5 x0 x1 x2 x3, runA.sl.r_14 c i arg2 harg2 arg3 harg3 arg5 harg5 x0 x1 x3, k0_pay63 (runA.sl.r_1 c arg3 harg3 x1) (runA.sl.r_3 c arg4 harg4 x2) (runA.sl.r_16 c i arg2 harg2 arg3 harg3 arg4 harg4 arg5 harg5 x0 x1 x2 x3) (runA.sl.r_17 c i arg2 harg2 x0) (View.readAt (Elt Ideal) arg5.view (Rect.unit (s := S2x4096x128) (k0_off4 i) ![1, 512, 128] (k0_off4_inb i)).toLoadRect (harg5.unread x3)), k0_pay64 (runA.sl.r_1 c arg3 harg3 x1) (runA.sl.r_15 c i arg2 harg2 arg3 harg3 arg5 harg5 x0 x1 x3) (runA.sl.r_17 c i arg2 harg2 x0) (View.readAt (Elt Ideal) arg5.view (Rect.unit (s := S2x4096x128) (k0_off4 i) ![1, 512, 128] (k0_off4_inb i)).toLoadRect (harg5.unread x3))) n).2)) := by
  subst hn
  have h4 : (i 1).val < 4 := (i 1).isLt
  have ht := trips_eq i
  have e : ((i 1).val + 1 + (k0_t1_loop i).trips) * 1024 = 4096 := by omega
  have hk4 : ∀ (s : Fin 1024) (l : Fin 128), runA.sl.r c arg3 harg3 x1 (ix2 s l) = x1 (ix3 0 s l) := fun s l => by
    unfold runA.sl.r
    pointwise [k0_pay27]
    exact (fun s l => (ld_tile arg3.view _ 0 _ rfl _ s l).trans (congrFun (harg3.read_unread x1) _)) s l
  have hk6 : ∀ (s : Fin 1024) (l : Fin 128), runA.sl.r_1 c arg3 harg3 x1 (ix2 s l) = x1 (ix3 1 s l) := fun s l => by
    unfold runA.sl.r_1
    pointwise [k0_pay28]
    exact (fun s l => (ld_tile arg3.view _ 1 _ rfl _ s l).trans (congrFun (harg3.read_unread x1) _)) s l
  have hw8 : ∀ (s : Fin 1024) (l : Fin 128), runA.sl.r_2 c arg4 harg4 x2 (ix2 s l) = x2 (ix3 0 s l) := fun s l => by
    unfold runA.sl.r_2
    pointwise [k0_pay29]
    exact (fun s l => (ld_tile arg4.view _ 0 _ rfl _ s l).trans (congrFun (harg4.read_unread x2) _)) s l
  have hw10 : ∀ (s : Fin 1024) (l : Fin 128), runA.sl.r_3 c arg4 harg4 x2 (ix2 s l) = x2 (ix3 1 s l) := fun s l => by
    unfold runA.sl.r_3
    pointwise [k0_pay30]
    exact (fun s l => (ld_tile arg4.view _ 1 _ rfl _ s l).trans (congrFun (harg4.read_unread x2) _)) s l
  have hl := loop c i arg2 harg2 arg3 harg3 arg4 harg4 arg5 harg5 arg6 harg6 arg7 harg7 arg8 harg8 (BitVec.ofNat 32 (i 1).val) (runA.sl.r c arg3 harg3 x1) (runA.sl.r_1 c arg3 harg3 x1) (runA.sl.r_2 c arg4 harg4 x2) (runA.sl.r_3 c arg4 harg4 x2) (runA.sl.r_13 c i arg2 harg2 arg3 harg3 arg4 harg4 arg5 harg5 x0 x1 x2 x3) (runA.sl.r_14 c i arg2 harg2 arg3 harg3 arg5 harg5 x0 x1 x3) (runA.sl.r_15 c i arg2 harg2 arg3 harg3 arg5 harg5 x0 x1 x3) (runA.sl.r_16 c i arg2 harg2 arg3 harg3 arg4 harg4 arg5 harg5 x0 x1 x2 x3) (runA.sl.v107 i) (runA.sl.r_17 c i arg2 harg2 x0) (runA.sl.v141 i) (harg2.unread x0) (harg5.unread x3) x0 x1 x2 x3 (harg2.read_unread x0) (harg5.read_unread x3) hk4 hk6 hw8 hw10 (arg6.view.writes (Elt Ideal) arg6.view.junk (⟨Rect.unit (s := S2x4096x128) (k0_off4 i) ![1, 512, 128] (k0_off4_inb i), k0_pay62 (F := Ideal) (runA.sl.r_1 c arg3 harg3 x1) (runA.sl.r_3 c arg4 harg4 x2) (runA.sl.r_17 c i arg2 harg2 x0) (View.readAt (Elt Ideal) arg5.view (Rect.unit (s := S2x4096x128) (k0_off4 i) ![1, 512, 128] (k0_off4_inb i)).toLoadRect (harg5.unread x3)) (runA.sl.v130 c i arg2 harg2 arg3 harg3 arg4 harg4 arg5 harg5 arg6 x0 x1 x2 x3)⟩ :: runA.sl.H4_4 c i arg2 harg2 arg3 harg3 arg4 harg4 arg5 harg5 arg6 x0 x1 x2 x3)) (runA.sl.r_13 c i arg2 harg2 arg3 harg3 arg4 harg4 arg5 harg5 x0 x1 x2 x3, runA.sl.r_14 c i arg2 harg2 arg3 harg3 arg5 harg5 x0 x1 x3, k0_pay63 (runA.sl.r_1 c arg3 harg3 x1) (runA.sl.r_3 c arg4 harg4 x2) (runA.sl.r_16 c i arg2 harg2 arg3 harg3 arg4 harg4 arg5 harg5 x0 x1 x2 x3) (runA.sl.r_17 c i arg2 harg2 x0) (View.readAt (Elt Ideal) arg5.view (Rect.unit (s := S2x4096x128) (k0_off4 i) ![1, 512, 128] (k0_off4_inb i)).toLoadRect (harg5.unread x3)), k0_pay64 (runA.sl.r_1 c arg3 harg3 x1) (runA.sl.r_15 c i arg2 harg2 arg3 harg3 arg5 harg5 x0 x1 x3) (runA.sl.r_17 c i arg2 harg2 x0) (View.readAt (Elt Ideal) arg5.view (Rect.unit (s := S2x4096x128) (k0_off4 i) ![1, 512, 128] (k0_off4_inb i)).toLoadRect (harg5.unread x3))) (fun _ => (0 : EReal)) (startA ..) (k0_t1_loop i).trips le_rfl
  rw [e] at hl
  exact hl

variable (hc : first i)

set_option maxHeartbeats 4000000 in
theorem dqA (j : Fin 2) (r : Fin 4096) (d : Fin 128) :
    arg6.view.read (Elt Ideal) (arg6.view.writes (Elt Ideal) arg6.view.junk (runA c i arg2 harg2 arg3 harg3 arg4 harg4 arg5 harg5 arg6 harg6 arg7 harg7 arg8 harg8 hc x0 x1 x2 x3).1) (ix3 j r d) = (fun _ => (0 : EReal)) (ix3 j r d) + dqt (i 1).val x0 x1 x2 x3 j r d := by
  unfold runA
  dsimp only
  rw [View.writes_append, View.writes_append, t2_zero]
  · dsimp only [View.writes_nil]
    refine ((endA c i arg2 harg2 arg3 harg3 arg4 harg4 arg5 harg5 arg6 harg6 arg7 harg7 arg8 harg8 x0 x1 x2 x3 _ rfl).dq j r d).trans ?_
    rw [if_pos r.isLt]
  · exact trips_eq' i

set_option maxHeartbeats 4000000 in
theorem dkA (f : BufTy.Contents (Elt Ideal) arg7.view.ty) (j : Fin 2) (s : Fin 1024) (d : Fin 128) :
    arg7.view.read (Elt Ideal) (arg7.view.writes (Elt Ideal) f (runA c i arg2 harg2 arg3 harg3 arg4 harg4 arg5 harg5 arg6 harg6 arg7 harg7 arg8 harg8 hc x0 x1 x2 x3).2.1) (ix3 j s d) = ∑ r : Fin 4096, dkt (i 1).val x0 x1 x2 x3 j s d r := by
  unfold runA
  dsimp only
  refine read_heads arg7.view f _ _ _ _ (fun j s d => ∑ r : Fin 4096, dkt (i 1).val x0 x1 x2 x3 j s d r) (fun s d => ?_) (fun s d => ?_) j s d
  · unfold runA.sl.r_19
    rw [t2_zero]
    · pointwise [k0_pay2]
      refine ((endA c i arg2 harg2 arg3 harg3 arg4 harg4 arg5 harg5 arg6 harg6 arg7 harg7 arg8 harg8 x0 x1 x2 x3 _ rfl).dk1 s d).trans (psum_all _)
    · exact trips_eq' i
  · unfold runA.sl.r_21
    rw [t2_zero]
    · pointwise [k0_pay73]
      refine ((endA c i arg2 harg2 arg3 harg3 arg4 harg4 arg5 harg5 arg6 harg6 arg7 harg7 arg8 harg8 x0 x1 x2 x3 _ rfl).dk0 s d).trans (psum_all _)
    · exact trips_eq' i

set_option maxHeartbeats 4000000 in
theorem dvA (f : BufTy.Contents (Elt Ideal) arg8.view.ty) (j : Fin 2) (s : Fin 1024) (d : Fin 128) :
    arg8.view.read (Elt Ideal) (arg8.view.writes (Elt Ideal) f (runA c i arg2 harg2 arg3 harg3 arg4 harg4 arg5 harg5 arg6 harg6 arg7 harg7 arg8 harg8 hc x0 x1 x2 x3).2.2.1) (ix3 j s d) = ∑ r : Fin 4096, dvt (i 1).val x0 x1 x3 j s d r := by
  unfold runA
  dsimp only
  refine read_heads arg8.view f _ _ _ _ (fun j s d => ∑ r : Fin 4096, dvt (i 1).val x0 x1 x3 j s d r) (fun s d => ?_) (fun s d => ?_) j s d
  · unfold runA.sl.r_20
    rw [t2_zero]
    · pointwise [k0_pay3]
      refine ((endA c i arg2 harg2 arg3 harg3 arg4 harg4 arg5 harg5 arg6 harg6 arg7 harg7 arg8 harg8 x0 x1 x2 x3 _ rfl).dv1 s d).trans (psum_all _)
    · exact trips_eq' i
  · unfold runA.sl.r_18
    rw [t2_zero]
    · pointwise [k0_pay1]
      refine ((endA c i arg2 harg2 arg3 harg3 arg4 harg4 arg5 harg5 arg6 harg6 arg7 harg7 arg8 harg8 x0 x1 x2 x3 _ rfl).dv0 s d).trans (psum_all _)
    · exact trips_eq' i
end

section
variable (c : Dev nD) (i : grid0.Coords) (arg2 : Memref sig .tc .vmem S2x4096x128 .bf16) (harg2 : arg2.IsWhole) (arg3 : Memref sig .tc .vmem S2x1024x128 .bf16) (harg3 : arg3.IsWhole) (arg4 : Memref sig .tc .vmem S2x1024x128 .bf16) (harg4 : arg4.IsWhole) (arg5 : Memref sig .tc .vmem S2x4096x128 .bf16) (harg5 : arg5.IsWhole) (arg6 : Memref sig .tc .vmem S2x4096x128 .f32) (harg6 : arg6.IsWhole) (arg7 : Memref sig .tc .vmem S2x1024x128 .f32) (harg7 : arg7.IsWhole) (arg8 : Memref sig .tc .vmem S2x1024x128 .f32) (harg8 : arg8.IsWhole)
    (x0 : Vec Ideal S2x4096x128 .bf16) (x1 : Vec Ideal S2x1024x128 .bf16) (x2 : Vec Ideal S2x1024x128 .bf16) (x3 : Vec Ideal S2x4096x128 .bf16) (xo : Vec Ideal S2x4096x128 .f32)

theorem startB : Loop (i 1).val x0 x1 x2 x3 xo (((i 1).val + 1) * 1024) (runB.sl.r_13 c i arg2 harg2 arg3 harg3 arg4 harg4 arg5 harg5 x0 x1 x2 x3, runB.sl.r_14 c i arg2 harg2 arg3 harg3 arg5 harg5 x0 x1 x3, k0_pay63 (runB.sl.r_1 c arg3 harg3 x1) (runB.sl.r_3 c arg4 harg4 x2) (runB.sl.r_16 c i arg2 harg2 arg3 harg3 arg4 harg4 arg5 harg5 x0 x1 x2 x3) (runB.sl.r_17 c i arg2 harg2 x0) (View.readAt (Elt Ideal) arg5.view (Rect.unit (s := S2x4096x128) (k0_off4 i) ![1, 512, 128] (k0_off4_inb i)).toLoadRect (harg5.unread x3)), k0_pay64 (runB.sl.r_1 c arg3 harg3 x1) (runB.sl.r_15 c i arg2 harg2 arg3 harg3 arg5 harg5 x0 x1 x3) (runB.sl.r_17 c i arg2 harg2 x0) (View.readAt (Elt Ideal) arg5.view (Rect.unit (s := S2x4096x128) (k0_off4 i) ![1, 512, 128] (k0_off4_inb i)).toLoadRect (harg5.unread x3)))
    (arg6.view.read (Elt Ideal) (arg6.view.writes (Elt Ideal) (harg6.unread xo) (⟨Rect.unit (s := S2x4096x128) (k0_off4 i) ![1, 512, 128] (k0_off4_inb i), k0_pay62 (F := Ideal) (runB.sl.r_1 c arg3 harg3 x1) (runB.sl.r_3 c arg4 harg4 x2) (runB.sl.r_17 c i arg2 harg2 x0) (View.readAt (Elt Ideal) arg5.view (Rect.unit (s := S2x4096x128) (k0_off4 i) ![1, 512, 128] (k0_off4_inb i)).toLoadRect (harg5.unread x3)) (runB.sl.v130 c i arg2 harg2 arg3 harg3 arg4 harg4 arg5 harg5 arg6 harg6 x0 x1 x2 x3 xo)⟩ :: runB.sl.H4_3 c i arg2 harg2 arg3 harg3 arg4 harg4 arg5 harg5 arg6 harg6 x0 x1 x2 x3 xo))) := by
  have h4 : (i 1).val < 4 := (i 1).isLt
  have hk0 : ∀ (s : Fin 1024) (l : Fin 128), View.readAt (Elt Ideal) arg3.view (Rect.unit (s := S2x1024x128) ![0, 0, 0] ![1, 1024, 128] inb_S2x1024x128_S1x1024x128_0_0_0).toLoadRect (harg3.unread x1) (ix3 (n0 := 1) (n1 := 1024) (n2 := 128) 0 s l) = x1 (ix3 0 s l) := fun s l => (ld_tile arg3.view _ 0 _ rfl _ s l).trans (congrFun (harg3.read_unread x1) _)
  have hw0 : ∀ (s : Fin 1024) (l : Fin 128), View.readAt (Elt Ideal) arg4.view (Rect.unit (s := S2x1024x128) ![0, 0, 0] ![1, 1024, 128] inb_S2x1024x128_S1x1024x128_0_0_0).toLoadRect (harg4.unread x2) (ix3 (n0 := 1) (n1 := 1024) (n2 := 128) 0 s l) = x2 (ix3 0 s l) := fun s l => (ld_tile arg4.view _ 0 _ rfl _ s l).trans (congrFun (harg4.read_unread x2) _)
  have hk4 : ∀ (s : Fin 1024) (l : Fin 128), runB.sl.r c arg3 harg3 x1 (ix2 s l) = x1 (ix3 0 s l) := fun s l => by
    unfold runB.sl.r
    pointwise [k0_pay27]
    exact hk0 s l
  have hk6 : ∀ (s : Fin 1024) (l : Fin 128), runB.sl.r_1 c arg3 harg3 x1 (ix2 s l) = x1 (ix3 1 s l) := fun s l => by
    unfold runB.sl.r_1
    pointwise [k0_pay28]
    exact (fun s l => (ld_tile arg3.view _ 1 _ rfl _ s l).trans (congrFun (harg3.read_unread x1) _)) s l
  have hw8 : ∀ (s : Fin 1024) (l : Fin 128), runB.sl.r_2 c arg4 harg4 x2 (ix2 s l) = x2 (ix3 0 s l) := fun s l => by
    unfold runB.sl.r_2
    pointwise [k0_pay29]
    exact hw0 s l
  have hw10 : ∀ (s : Fin 1024) (l : Fin 128), runB.sl.r_3 c arg4 harg4 x2 (ix2 s l) = x2 (ix3 1 s l) := fun s l => by
    unfold runB.sl.r_3
    pointwise [k0_pay30]
    exact (fun s l => (ld_tile arg4.view _ 1 _ rfl _ s l).trans (congrFun (harg4.read_unread x2) _)) s l
  have hL : ∀ (j : Fin 2) (r : Fin 4096) (d : Fin 128), arg6.view.read (Elt Ideal) (arg6.view.writes (Elt Ideal) (harg6.unread xo) []) (ix3 j r d) = xo (ix3 j r d) := fun j r d => congrFun (harg6.read_unread xo) _
  refine ⟨fun s d => ?_, fun s d => ?_, fun s d => ?_, fun s d => ?_, fun j r d => ?_⟩
  · exact diag_dk0 (i 1) 0 x0 x1 x2 x3 _ _ hk0 hw0 _ _ hk4 hw8 _ _ (fun s l => (ld_rows arg2.view _ _ 0 _ 1024 (off1_eq i) (by have h4 : (i 1).val < 4 := (i 1).isLt; omega) _ s l).trans (congrFun (harg2.read_unread x0) _)) (fun s l => (ld_rows arg5.view _ _ 0 _ 1024 (off1_eq i) (by have h4 : (i 1).val < 4 := (i 1).isLt; omega) _ s l).trans (congrFun (harg5.read_unread x3) _)) _ _ (fun s l => (ld_rows arg2.view _ _ 0 _ 512 (off2_eq i) (by have h4 : (i 1).val < 4 := (i 1).isLt; omega) _ s l).trans (congrFun (harg2.read_unread x0) _)) (fun s l => (ld_rows arg5.view _ _ 0 _ 512 (off2_eq i) (by have h4 : (i 1).val < 4 := (i 1).isLt; omega) _ s l).trans (congrFun (harg5.read_unread x3) _)) s d
  · exact diag_dv0 (i 1) 0 x0 x1 x3 _ hk0 _ hk4 _ _ (fun s l => (ld_rows arg2.view _ _ 0 _ 1024 (off1_eq i) (by have h4 : (i 1).val < 4 := (i 1).isLt; omega) _ s l).trans (congrFun (harg2.read_unread x0) _)) (fun s l => (ld_rows arg5.view _ _ 0 _ 1024 (off1_eq i) (by have h4 : (i 1).val < 4 := (i 1).isLt; omega) _ s l).trans (congrFun (harg5.read_unread x3) _)) _ _ (fun s l => (ld_rows arg2.view _ _ 0 _ 512 (off2_eq i) (by have h4 : (i 1).val < 4 := (i 1).isLt; omega) _ s l).trans (congrFun (harg2.read_unread x0) _)) (fun s l => (ld_rows arg5.view _ _ 0 _ 512 (off2_eq i) (by have h4 : (i 1).val < 4 := (i 1).isLt; omega) _ s l).trans (congrFun (harg5.read_unread x3) _)) s d
  · exact diag_dk1 (i 1) 1 x0 x1 x2 x3 _ _ hk6 hw10 _ _ (fun s l => (ld_rows arg2.view _ _ 1 _ 1024 (off3_eq i) (by have h4 : (i 1).val < 4 := (i 1).isLt; omega) _ s l).trans (congrFun (harg2.read_unread x0) _)) (fun s l => (ld_rows arg5.view _ _ 1 _ 1024 (off3_eq i) (by have h4 : (i 1).val < 4 := (i 1).isLt; omega) _ s l).trans (congrFun (harg5.read_unread x3) _)) _ _ (fun s l => (ld_rows arg2.view _ _ 1 _ 512 (off4_eq i) (by have h4 : (i 1).val < 4 := (i 1).isLt; omega) _ s l).trans (congrFun (harg2.read_unread x0) _)) (fun s l => (ld_rows arg5.view _ _ 1 _ 512 (off4_eq i) (by have h4 : (i 1).val < 4 := (i 1).isLt; omega) _ s l).trans (congrFun (harg5.read_unread x3) _)) s d
  · exact diag_dv1 (i 1) 1 x0 x1 x3 _ hk6 _ _ (fun s l => (ld_rows arg2.view _ _ 1 _ 1024 (off3_eq i) (by have h4 : (i 1).val < 4 := (i 1).isLt; omega) _ s l).trans (congrFun (harg2.read_unread x0) _)) (fun s l => (ld_rows arg5.view _ _ 1 _ 1024 (off3_eq i) (by have h4 : (i 1).val < 4 := (i 1).isLt; omega) _ s l).trans (congrFun (harg5.read_unread x3) _)) _ _ (fun s l => (ld_rows arg2.view _ _ 1 _ 512 (off4_eq i) (by have h4 : (i 1).val < 4 := (i 1).isLt; omega) _ s l).trans (congrFun (harg2.read_unread x0) _)) (fun s l => (ld_rows arg5.view _ _ 1 _ 512 (off4_eq i) (by have h4 : (i 1).val < 4 := (i 1).isLt; omega) _ s l).trans (congrFun (harg5.read_unread x3) _)) s d
  · unfold runB.sl.H4_3 runB.sl.H4_1
    refine diag_rows (i 1) x0 x1 x2 x3 arg6.view (harg6.unread xo) xo _ _ _ _ (off1_eq i) (off2_eq i) (off3_eq i) (off4_eq i) _ _ _ _ _ _ _ _ [] hL ?_ ?_ ?_ ?_ j r d
    · intro x d
      refine (pay37 (i 1) 0 x0 x1 x2 x3 _ _ hk0 hw0 _ _ (fun s l => (ld_rows arg2.view _ _ 0 _ 1024 (off1_eq i) (by have h4 : (i 1).val < 4 := (i 1).isLt; omega) _ s l).trans (congrFun (harg2.read_unread x0) _)) (fun s l => (ld_rows arg5.view _ _ 0 _ 1024 (off1_eq i) (by have h4 : (i 1).val < 4 := (i 1).isLt; omega) _ s l).trans (congrFun (harg5.read_unread x3) _)) _ x d).trans (congrArg (· + _) ?_)
      exact (ld_rows arg6.view _ _ 0 _ 1024 (off1_eq i) (by omega) _ x d).trans (hL _ _ _)
    · intro x d
      refine (pay46 (i 1) 0 x0 x1 x2 x3 _ _ hk4 hw8 _ _ (fun s l => (ld_rows arg2.view _ _ 0 _ 512 (off2_eq i) (by have h4 : (i 1).val < 4 := (i 1).isLt; omega) _ s l).trans (congrFun (harg2.read_unread x0) _)) (fun s l => (ld_rows arg5.view _ _ 0 _ 512 (off2_eq i) (by have h4 : (i 1).val < 4 := (i 1).isLt; omega) _ s l).trans (congrFun (harg5.read_unread x3) _)) _ x d).trans (congrArg (· + _) ?_)
      refine (ld_rows arg6.view _ _ 0 _ 512 (off2_eq i) (by omega) _ x d).trans ?_
      unfold runB.sl.H4_1
      have hx := x.isLt
      rw [read_rows arg6.view _ _ 0 _ 1024 (off1_eq i), dif_pos ⟨rfl, by simp only; omega, by simp only; omega⟩]
      exact congrArg _ ((ix3_inj ..).2 ⟨rfl, Fin.ext (by show _ - _ = 512 + _; simp only; omega), rfl⟩)
    · intro x d
      refine (pay55 (i 1) 1 x0 x1 x2 x3 _ _ hk6 hw10 _ _ (fun s l => (ld_rows arg2.view _ _ 1 _ 1024 (off3_eq i) (by have h4 : (i 1).val < 4 := (i 1).isLt; omega) _ s l).trans (congrFun (harg2.read_unread x0) _)) (fun s l => (ld_rows arg5.view _ _ 1 _ 1024 (off3_eq i) (by have h4 : (i 1).val < 4 := (i 1).isLt; omega) _ s l).trans (congrFun (harg5.read_unread x3) _)) _ x d).trans (congrArg (· + _) ?_)
      exact (ld_rows arg6.view _ _ 1 _ 1024 (off3_eq i) (by omega) _ x d).trans (hL _ _ _)
    · intro x d
      refine (pay62 (i 1) 1 x0 x1 x2 x3 _ _ hk6 hw10 _ _ (fun s l => (ld_rows arg2.view _ _ 1 _ 512 (off4_eq i) (by have h4 : (i 1).val < 4 := (i 1).isLt; omega) _ s l).trans (congrFun (harg2.read_unread x0) _)) (fun s l => (ld_rows arg5.view _ _ 1 _ 512 (off4_eq i) (by have h4 : (i 1).val < 4 := (i 1).isLt; omega) _ s l).trans (congrFun (harg5.read_unread x3) _)) _ x d).trans (congrArg (· + _) ?_)
      refine (ld_rows arg6.view _ _ 1 _ 512 (off4_eq i) (by omega) _ x d).trans ?_
      unfold runB.sl.H4_3
      have hx := x.isLt
      rw [read_rows arg6.view _ _ 1 _ 1024 (off3_eq i), dif_pos ⟨rfl, by simp only; omega, by simp only; omega⟩]
      exact congrArg _ ((ix3_inj ..).2 ⟨rfl, Fin.ext (by show _ - _ = 512 + _; simp only; omega), rfl⟩)

theorem endB (n : ℕ) (hn : n = (k0_t1_loop i).trips) : Loop (i 1).val x0 x1 x2 x3 xo 4096 (st_k0_t1 (F := Ideal) Variants.none c none i arg2 harg2 arg3 harg3 arg4 harg4 arg5 harg5 arg6 harg6 arg7 harg7 arg8 harg8 (BitVec.ofNat 32 (i 1).val) (runB.sl.r c arg3 harg3 x1) (runB.sl.r_1 c arg3 harg3 x1) (runB.sl.r_2 c arg4 harg4 x2) (runB.sl.r_3 c arg4 harg4 x2) (runB.sl.r_13 c i arg2 harg2 arg3 harg3 arg4 harg4 arg5 harg5 x0 x1 x2 x3) (runB.sl.r_14 c i arg2 harg2 arg3 harg3 arg5 harg5 x0 x1 x3) (runB.sl.r_15 c i arg2 harg2 arg3 harg3 arg5 harg5 x0 x1 x3) (runB.sl.r_16 c i arg2 harg2 arg3 harg3 arg4 harg4 arg5 harg5 x0 x1 x2 x3) (runB.sl.v107 i) (runB.sl.r_17 c i arg2 harg2 x0) (runB.sl.v141 i) (harg2.unread x0) (harg5.unread x3) (arg6.view.writes (Elt Ideal) (harg6.unread xo) (⟨Rect.unit (s := S2x4096x128) (k0_off4 i) ![1, 512, 128] (k0_off4_inb i), k0_pay62 (F := Ideal) (runB.sl.r_1 c arg3 harg3 x1) (runB.sl.r_3 c arg4 harg4 x2) (runB.sl.r_17 c i arg2 harg2 x0) (View.readAt (Elt Ideal) arg5.view (Rect.unit (s := S2x4096x128) (k0_off4 i) ![1, 512, 128] (k0_off4_inb i)).toLoadRect (harg5.unread x3)) (runB.sl.v130 c i arg2 harg2 arg3 harg3 arg4 harg4 arg5 harg5 arg6 harg6 x0 x1 x2 x3 xo)⟩ :: runB.sl.H4_3 c i arg2 harg2 arg3 harg3 arg4 harg4 arg5 harg5 arg6 harg6 x0 x1 x2 x3 xo)) (runB.sl.r_13 c i arg2 harg2 arg3 harg3 arg4 harg4 arg5 harg5 x0 x1 x2 x3, runB.sl.r_14 c i arg2 harg2 arg3 harg3 arg5 harg5 x0 x1 x3, k0_pay63 (runB.sl.r_1 c arg3 harg3 x1) (runB.sl.r_3 c arg4 harg4 x2) (runB.sl.r_16 c i arg2 harg2 arg3 harg3 arg4 harg4 arg5 harg5 x0 x1 x2 x3) (runB.sl.r_17 c i arg2 harg2 x0) (View.readAt (Elt Ideal) arg5.view (Rect.unit (s := S2x4096x128) (k0_off4 i) ![1, 512, 128] (k0_off4_inb i)).toLoadRect (harg5.unread x3)), k0_pay64 (runB.sl.r_1 c arg3 harg3 x1) (runB.sl.r_15 c i arg2 harg2 arg3 harg3 arg5 harg5 x0 x1 x3) (runB.sl.r_17 c i arg2 harg2 x0) (View.readAt (Elt Ideal) arg5.view (Rect.unit (s := S2x4096x128) (k0_off4 i) ![1, 512, 128] (k0_off4_inb i)).toLoadRect (harg5.unread x3))) n).1
    (arg6.view.read (Elt Ideal) (arg6.view.writes (Elt Ideal) (arg6.view.writes (Elt Ideal) (harg6.unread xo) (⟨Rect.unit (s := S2x4096x128) (k0_off4 i) ![1, 512, 128] (k0_off4_inb i), k0_pay62 (F := Ideal) (runB.sl.r_1 c arg3 harg3 x1) (runB.sl.r_3 c arg4 harg4 x2) (runB.sl.r_17 c i arg2 harg2 x0) (View.readAt (Elt Ideal) arg5.view (Rect.unit (s := S2x4096x128) (k0_off4 i) ![1, 512, 128] (k0_off4_inb i)).toLoadRect (harg5.unread x3)) (runB.sl.v130 c i arg2 harg2 arg3 harg3 arg4 harg4 arg5 harg5 arg6 harg6 x0 x1 x2 x3 xo)⟩ :: runB.sl.H4_3 c i arg2 harg2 arg3 harg3 arg4 harg4 arg5 harg5 arg6 harg6 x0 x1 x2 x3 xo)) (st_k0_t1 (F := Ideal) Variants.none c none i arg2 harg2 arg3 harg3 arg4 harg4 arg5 harg5 arg6 harg6 arg7 harg7 arg8 harg8 (BitVec.ofNat 32 (i 1).val) (runB.sl.r c arg3 harg3 x1) (runB.sl.r_1 c arg3 harg3 x1) (runB.sl.r_2 c arg4 harg4 x2) (runB.sl.r_3 c arg4 harg4 x2) (runB.sl.r_13 c i arg2 harg2 arg3 harg3 arg4 harg4 arg5 harg5 x0 x1 x2 x3) (runB.sl.r_14 c i arg2 harg2 arg3 harg3 arg5 harg5 x0 x1 x3) (runB.sl.r_15 c i arg2 harg2 arg3 harg3 arg5 harg5 x0 x1 x3) (runB.sl.r_16 c i arg2 harg2 arg3 harg3 arg4 harg4 arg5 harg5 x0 x1 x2 x3) (runB.sl.v107 i) (runB.sl.r_17 c i arg2 harg2 x0) (runB.sl.v141 i) (harg2.unread x0) (harg5.unread x3) (arg6.view.writes (Elt Ideal) (harg6.unread xo) (⟨Rect.unit (s := S2x4096x128) (k0_off4 i) ![1, 512, 128] (k0_off4_inb i), k0_pay62 (F := Ideal) (runB.sl.r_1 c arg3 harg3 x1) (runB.sl.r_3 c arg4 harg4 x2) (runB.sl.r_17 c i arg2 harg2 x0) (View.readAt (Elt Ideal) arg5.view (Rect.unit (s := S2x4096x128) (k0_off4 i) ![1, 512, 128] (k0_off4_inb i)).toLoadRect (harg5.unread x3)) (runB.sl.v130 c i arg2 harg2 arg3 harg3 arg4 harg4 arg5 harg5 arg6 harg6 x0 x1 x2 x3 xo)⟩ :: runB.sl.H4_3 c i arg2 harg2 arg3 harg3 arg4 harg4 arg5 harg5 arg6 harg6 x0 x1 x2 x3 xo)) (runB.sl.r_13 c i arg2 harg2 arg3 harg3 arg4 harg4 arg5 harg5 x0 x1 x2 x3, runB.sl.r_14 c i arg2 harg2 arg3 harg3 arg5 harg5 x0 x1 x3, k0_pay63 (runB.sl.r_1 c arg3 harg3 x1) (runB.sl.r_3 c arg4 harg4 x2) (runB.sl.r_16 c i arg2 harg2 arg3 harg3 arg4 harg4 arg5 harg5 x0 x1 x2 x3) (runB.sl.r_17 c i arg2 harg2 x0) (View.readAt (Elt Ideal) arg5.view (Rect.unit (s := S2x4096x128) (k0_off4 i) ![1, 512, 128] (k0_off4_inb i)).toLoadRect (harg5.unread x3)), k0_pay64 (runB.sl.r_1 c arg3 harg3 x1) (runB.sl.r_15 c i arg2 harg2 arg3 harg3 arg5 harg5 x0 x1 x3) (runB.sl.r_17 c i arg2 harg2 x0) (View.readAt (Elt Ideal) arg5.view (Rect.unit (s := S2x4096x128) (k0_off4 i) ![1, 512, 128] (k0_off4_inb i)).toLoadRect (harg5.unread x3))) n).2)) := by
  subst hn
  have h4 : (i 1).val < 4 := (i 1).isLt
  have ht := trips_eq i
  have e : ((i 1).val + 1 + (k0_t1_loop i).trips) * 1024 = 4096 := by omega
  have hk4 : ∀ (s : Fin 1024) (l : Fin 128), runB.sl.r c arg3 harg3 x1 (ix2 s l) = x1 (ix3 0 s l) := fun s l => by
    unfold runB.sl.r
    pointwise [k0_pay27]
    exact (fun s l => (ld_tile arg3.view _ 0 _ rfl _ s l).trans (congrFun (harg3.read_unread x1) _)) s l
  have hk6 : ∀ (s : Fin 1024) (l : Fin 128), runB.sl.r_1 c arg3 harg3 x1 (ix2 s l) = x1 (ix3 1 s l) := fun s l => by
    unfold runB.sl.r_1
    pointwise [k0_pay28]
    exact (fun s l => (ld_tile arg3.view _ 1 _ rfl _ s l).trans (congrFun (harg3.read_unread x1) _)) s l
  have hw8 : ∀ (s : Fin 1024) (l : Fin 128), runB.sl.r_2 c arg4 harg4 x2 (ix2 s l) = x2 (ix3 0 s l) := fun s l => by
    unfold runB.sl.r_2
    pointwise [k0_pay29]
    exact (fun s l => (ld_tile arg4.view _ 0 _ rfl _ s l).trans (congrFun (harg4.read_unread x2) _)) s l
  have hw10 : ∀ (s : Fin 1024) (l : Fin 128), runB.sl.r_3 c arg4 harg4 x2 (ix2 s l) = x2 (ix3 1 s l) := fun s l => by
    unfold runB.sl.r_3
    pointwise [k0_pay30]
    exact (fun s l => (ld_tile arg4.view _ 1 _ rfl _ s l).trans (congrFun (harg4.read_unread x2) _)) s l
  have hl := loop c i arg2 harg2 arg3 harg3 arg4 harg4 arg5 harg5 arg6 harg6 arg7 harg7 arg8 harg8 (BitVec.ofNat 32 (i 1).val) (runB.sl.r c arg3 harg3 x1) (runB.sl.r_1 c arg3 harg3 x1) (runB.sl.r_2 c arg4 harg4 x2) (runB.sl.r_3 c arg4 harg4 x2) (runB.sl.r_13 c i arg2 harg2 arg3 harg3 arg4 harg4 arg5 harg5 x0 x1 x2 x3) (runB.sl.r_14 c i arg2 harg2 arg3 harg3 arg5 harg5 x0 x1 x3) (runB.sl.r_15 c i arg2 harg2 arg3 harg3 arg5 harg5 x0 x1 x3) (runB.sl.r_16 c i arg2 harg2 arg3 harg3 arg4 harg4 arg5 harg5 x0 x1 x2 x3) (runB.sl.v107 i) (runB.sl.r_17 c i arg2 harg2 x0) (runB.sl.v141 i) (harg2.unread x0) (harg5.unread x3) x0 x1 x2 x3 (harg2.read_unread x0) (harg5.read_unread x3) hk4 hk6 hw8 hw10 (arg6.view.writes (Elt Ideal) (harg6.unread xo) (⟨Rect.unit (s := S2x4096x128) (k0_off4 i) ![1, 512, 128] (k0_off4_inb i), k0_pay62 (F := Ideal) (runB.sl.r_1 c arg3 harg3 x1) (runB.sl.r_3 c arg4 harg4 x2) (runB.sl.r_17 c i arg2 harg2 x0) (View.readAt (Elt Ideal) arg5.view (Rect.unit (s := S2x4096x128) (k0_off4 i) ![1, 512, 128] (k0_off4_inb i)).toLoadRect (harg5.unread x3)) (runB.sl.v130 c i arg2 harg2 arg3 harg3 arg4 harg4 arg5 harg5 arg6 harg6 x0 x1 x2 x3 xo)⟩ :: runB.sl.H4_3 c i arg2 harg2 arg3 harg3 arg4 harg4 arg5 harg5 arg6 harg6 x0 x1 x2 x3 xo)) (runB.sl.r_13 c i arg2 harg2 arg3 harg3 arg4 harg4 arg5 harg5 x0 x1 x2 x3, runB.sl.r_14 c i arg2 harg2 arg3 harg3 arg5 harg5 x0 x1 x3, k0_pay63 (runB.sl.r_1 c arg3 harg3 x1) (runB.sl.r_3 c arg4 harg4 x2) (runB.sl.r_16 c i arg2 harg2 arg3 harg3 arg4 harg4 arg5 harg5 x0 x1 x2 x3) (runB.sl.r_17 c i arg2 harg2 x0) (View.readAt (Elt Ideal) arg5.view (Rect.unit (s := S2x4096x128) (k0_off4 i) ![1, 512, 128] (k0_off4_inb i)).toLoadRect (harg5.unread x3)), k0_pay64 (runB.sl.r_1 c arg3 harg3 x1) (runB.sl.r_15 c i arg2 harg2 arg3 harg3 arg5 harg5 x0 x1 x3) (runB.sl.r_17 c i arg2 harg2 x0) (View.readAt (Elt Ideal) arg5.view (Rect.unit (s := S2x4096x128) (k0_off4 i) ![1, 512, 128] (k0_off4_inb i)).toLoadRect (harg5.unread x3))) xo (startB ..) (k0_t1_loop i).trips le_rfl
  rw [e] at hl
  exact hl

variable (hc : ¬ first i)

set_option maxHeartbeats 4000000 in
theorem dqB (j : Fin 2) (r : Fin 4096) (d : Fin 128) :
    arg6.view.read (Elt Ideal) (arg6.view.writes (Elt Ideal) (harg6.unread xo) (runB c i arg2 harg2 arg3 harg3 arg4 harg4 arg5 harg5 arg6 harg6 arg7 harg7 arg8 harg8 hc x0 x1 x2 x3 xo).1) (ix3 j r d) = xo (ix3 j r d) + dqt (i 1).val x0 x1 x2 x3 j r d := by
  unfold runB
  dsimp only
  rw [View.writes_append, View.writes_append, t2_zero]
  · dsimp only [View.writes_nil]
    refine ((endB c i arg2 harg2 arg3 harg3 arg4 harg4 arg5 harg5 arg6 harg6 arg7 harg7 arg8 harg8 x0 x1 x2 x3 xo _ rfl).dq j r d).trans ?_
    rw [if_pos r.isLt]
  · exact trips_eq' i

set_option maxHeartbeats 4000000 in
theorem dkB (f : BufTy.Contents (Elt Ideal) arg7.view.ty) (j : Fin 2) (s : Fin 1024) (d : Fin 128) :
    arg7.view.read (Elt Ideal) (arg7.view.writes (Elt Ideal) f (runB c i arg2 harg2 arg3 harg3 arg4 harg4 arg5 harg5 arg6 harg6 arg7 harg7 arg8 harg8 hc x0 x1 x2 x3 xo).2.1) (ix3 j s d) = ∑ r : Fin 4096, dkt (i 1).val x0 x1 x2 x3 j s d r := by
  unfold runB
  dsimp only
  refine read_heads arg7.view f _ _ _ _ (fun j s d => ∑ r : Fin 4096, dkt (i 1).val x0 x1 x2 x3 j s d r) (fun s d => ?_) (fun s d => ?_) j s d
  · unfold runB.sl.r_19
    rw [t2_zero]
    · pointwise [k0_pay2]
      refine ((endB c i arg2 harg2 arg3 harg3 arg4 harg4 arg5 harg5 arg6 harg6 arg7 harg7 arg8 harg8 x0 x1 x2 x3 xo _ rfl).dk1 s d).trans (psum_all _)
    · exact trips_eq' i
  · unfold runB.sl.r_21
    rw [t2_zero]
    · pointwise [k0_pay73]
      refine ((endB c i arg2 harg2 arg3 harg3 arg4 harg4 arg5 harg5 arg6 harg6 arg7 harg7 arg8 harg8 x0 x1 x2 x3 xo _ rfl).dk0 s d).trans (psum_all _)
    · exact trips_eq' i

set_option maxHeartbeats 4000000 in
theorem dvB (f : BufTy.Contents (Elt Ideal) arg8.view.ty) (j : Fin 2) (s : Fin 1024) (d : Fin 128) :
    arg8.view.read (Elt Ideal) (arg8.view.writes (Elt Ideal) f (runB c i arg2 harg2 arg3 harg3 arg4 harg4 arg5 harg5 arg6 harg6 arg7 harg7 arg8 harg8 hc x0 x1 x2 x3 xo).2.2.1) (ix3 j s d) = ∑ r : Fin 4096, dvt (i 1).val x0 x1 x3 j s d r := by
  unfold runB
  dsimp only
  refine read_heads arg8.view f _ _ _ _ (fun j s d => ∑ r : Fin 4096, dvt (i 1).val x0 x1 x3 j s d r) (fun s d => ?_) (fun s d => ?_) j s d
  · unfold runB.sl.r_20
    rw [t2_zero]
    · pointwise [k0_pay3]
      refine ((endB c i arg2 harg2 arg3 harg3 arg4 harg4 arg5 harg5 arg6 harg6 arg7 harg7 arg8 harg8 x0 x1 x2 x3 xo _ rfl).dv1 s d).trans (psum_all _)
    · exact trips_eq' i
  · unfold runB.sl.r_18
    rw [t2_zero]
    · pointwise [k0_pay1]
      refine ((endB c i arg2 harg2 arg3 harg3 arg4 harg4 arg5 harg5 arg6 harg6 arg7 harg7 arg8 harg8 x0 x1 x2 x3 xo _ rfl).dv0 s d).trans (psum_all _)
    · exact trips_eq' i
end

end Cert.AttnIdeal.Val

end
-- ==== Proof.AttnArray.lean ====
module

public import proofs.«01_k».proof.Proof.AttnPoint
public import Idealize.ShloMosaic.Lib.Pipeline.ValueKit
public import Idealize.ShloMosaic.Lib.Pointwise

@[expose] public section

set_option maxRecDepth 16384

noncomputable section

namespace Cert.AttnIdeal.Val

open Idealize.ShloMosaic Idealize.ShloMosaic.TcCoe Idealize.SL.Sem
open Idealize.ShloMosaic.Pipeline (Dat)
open Cert.AttnIdeal Cert.AttnIdeal.Gen Cert.AttnIdeal.Body

abbrev Arr := FVec Ideal S8x4096x128 .f32
/-- The score of row `i` against row `j` of one head. -/
def za (x w : S8x4096x128.Idx → EReal) (h : Fin 8) (i j : Fin 4096) : EReal := ∑ l : Fin 128, x (ix3 h i l) * w (ix3 h j l)
/-- The weight of row `i` on row `j`, hidden rows weighing nothing. -/
def pa (q k : S8x4096x128.Idx → EReal) (h : Fin 8) (i j : Fin 4096) : EReal := Ideal.exp2 (if j.val ≤ i.val then za q k h i j else ⊥)
def wa (q k v u : S8x4096x128.Idx → EReal) (h : Fin 8) (i j : Fin 4096) : EReal := pa q k h i j * za u v h i j
def dqf (q k v u : S8x4096x128.Idx → EReal) (h : Fin 8) (i : Fin 4096) (d : Fin 128) : EReal := ∑ j : Fin 4096, wa q k v u h i j * k (ix3 h j d)
def dkf (q k v u : S8x4096x128.Idx → EReal) (h : Fin 8) (j : Fin 4096) (d : Fin 128) : EReal := ∑ i : Fin 4096, wa q k v u h i j * q (ix3 h i d)
def dvf (q k u : S8x4096x128.Idx → EReal) (h : Fin 8) (j : Fin 4096) (d : Fin 128) : EReal := ∑ i : Fin 4096, pa q k h i j * u (ix3 h i d)

variable (m : (ℓ : Loc nD τ sig) → Buf (Elt Ideal) ℓ) (c : Dev nD)

abbrev aq : S8x4096x128.Idx → EReal := V m c main_v66
abbrev ak : S8x4096x128.Idx → EReal := V m c main_v72
abbrev av : S8x4096x128.Idx → EReal := V m c main_v75
abbrev au : S8x4096x128.Idx → EReal := V m c main_v87

theorem idx : ∀ t : Fin cfg0.N, win0_0.index t = ![t.val / 4, 0, 0] ∧ win0_1.index t = ![t.val / 4, t.val % 4, 0] ∧ win0_2.index t = ![t.val / 4, t.val % 4, 0] ∧ win0_3.index t = ![t.val / 4, 0, 0]
    ∧ win0_4.index t = ![t.val / 4, 0, 0] ∧ win0_5.index t = ![t.val / 4, t.val % 4, 0] ∧ win0_6.index t = ![t.val / 4, t.val % 4, 0] :=
  (by decide +kernel : ∀ t : Fin grid0.N, _)

theorem point_tile : ∀ t : Fin cfg0.N, (grid0.coords t 1).val = t.val % 4 := (by decide +kernel : ∀ t : Fin grid0.N, _)

theorem lt16 (t : Fin cfg0.N) : t.val < 16 := t.isLt.trans_le (by decide +kernel)

/-- The head a block's row pair sits at. -/
abbrev hd (t : Fin cfg0.N) (j : Fin 2) : Fin 8 := ⟨t.val / 4 * 2 + j.val, by have := lt16 t; omega⟩
/-- The row a tile's row sits at. -/
abbrev rw' (t : Fin cfg0.N) (s : Fin 1024) : Fin 4096 := ⟨t.val % 4 * 1024 + s.val, by omega⟩

theorem blk0 (t : Fin cfg0.N) (j : Fin 2) (r : Fin 4096) (l : Fin 128) : (iblk m c 0 t : S2x4096x128.Idx → EReal) (ix3 j r l) = aq m c (ix3 (hd t j) r l) := by
  blk_ext [iblk, idx t]
theorem blk1 (t : Fin cfg0.N) (j : Fin 2) (s : Fin 1024) (l : Fin 128) : (iblk m c 1 t : S2x1024x128.Idx → EReal) (ix3 j s l) = ak m c (ix3 (hd t j) (rw' t s) l) := by
  blk_ext [iblk, idx t]
theorem blk2 (t : Fin cfg0.N) (j : Fin 2) (s : Fin 1024) (l : Fin 128) : (iblk m c 2 t : S2x1024x128.Idx → EReal) (ix3 j s l) = av m c (ix3 (hd t j) (rw' t s) l) := by
  blk_ext [iblk, idx t]
theorem blk3 (t : Fin cfg0.N) (j : Fin 2) (r : Fin 4096) (l : Fin 128) : (iblk m c 3 t : S2x4096x128.Idx → EReal) (ix3 j r l) = au m c (ix3 (hd t j) r l) := by
  blk_ext [iblk, idx t]

theorem zt_qk (t : Fin cfg0.N) (j : Fin 2) (r : Fin 4096) (s : Fin 1024) : zt (iblk m c 0 t) (iblk m c 1 t) j r s = za (aq m c) (ak m c) (hd t j) r (rw' t s) :=
  Finset.sum_congr rfl fun l _ => congrArg₂ _ (blk0 m c t j r l) (blk1 m c t j s l)
theorem zt_uv (t : Fin cfg0.N) (j : Fin 2) (r : Fin 4096) (s : Fin 1024) : zt (iblk m c 3 t) (iblk m c 2 t) j r s = za (au m c) (av m c) (hd t j) r (rw' t s) :=
  Finset.sum_congr rfl fun l _ => congrArg₂ _ (blk3 m c t j r l) (blk2 m c t j s l)
theorem pt_at (t : Fin cfg0.N) (j : Fin 2) (r : Fin 4096) (s : Fin 1024) :
    pt (grid0.coords t 1).val (iblk m c 0 t) (iblk m c 1 t) j r s = pa (aq m c) (ak m c) (hd t j) r (rw' t s) := by
  unfold pt pa
  rw [zt_qk, point_tile]
theorem wt_at (t : Fin cfg0.N) (j : Fin 2) (r : Fin 4096) (s : Fin 1024) :
    wt (grid0.coords t 1).val (iblk m c 0 t) (iblk m c 1 t) (iblk m c 2 t) (iblk m c 3 t) j r s = wa (aq m c) (ak m c) (av m c) (au m c) (hd t j) r (rw' t s) := by
  unfold wt wa
  rw [pt_at, zt_uv]
theorem dk_at (t : Fin cfg0.N) (j : Fin 2) (s : Fin 1024) (d : Fin 128) :
    ∑ r : Fin 4096, dkt (grid0.coords t 1).val (iblk m c 0 t) (iblk m c 1 t) (iblk m c 2 t) (iblk m c 3 t) j s d r = dkf (aq m c) (ak m c) (av m c) (au m c) (hd t j) (rw' t s) d :=
  Finset.sum_congr rfl fun r _ => congrArg₂ _ (wt_at m c t j r s) (blk0 m c t j r d)
theorem dv_at (t : Fin cfg0.N) (j : Fin 2) (s : Fin 1024) (d : Fin 128) :
    ∑ r : Fin 4096, dvt (grid0.coords t 1).val (iblk m c 0 t) (iblk m c 1 t) (iblk m c 3 t) j s d r = dvf (aq m c) (ak m c) (au m c) (hd t j) (rw' t s) d :=
  Finset.sum_congr rfl fun r _ => congrArg₂ _ (pt_at m c t j r s) (blk3 m c t j r d)
theorem dq_at (t : Fin cfg0.N) (j : Fin 2) (r : Fin 4096) (d : Fin 128) :
    dqt (grid0.coords t 1).val (iblk m c 0 t) (iblk m c 1 t) (iblk m c 2 t) (iblk m c 3 t) j r d = ∑ s : Fin 1024, wa (aq m c) (ak m c) (av m c) (au m c) (hd t j) r (rw' t s) * ak m c (ix3 (hd t j) (rw' t s) d) :=
  Finset.sum_congr rfl fun s _ => congrArg₂ _ (wt_at m c t j r s) (blk1 m c t j s d)

/-- What a point leaves in the key gradient's block. -/
theorem outs_dk (t : Fin cfg0.N) (j : Fin 2) (s : Fin 1024) (d : Fin 128) : (outs m c t.val t.isLt).2.1 (ix3 j s d) = dkf (aq m c) (ak m c) (av m c) (au m c) (hd t j) (rw' t s) d := by
  by_cases h : t.val % 4 = 0
  · rw [outs_A m c t h]
    exact (dkA ..).trans (dk_at m c t j s d)
  · rw [outs_B m c t h]
    exact (dkB ..).trans (dk_at m c t j s d)
theorem outs_dv (t : Fin cfg0.N) (j : Fin 2) (s : Fin 1024) (d : Fin 128) : (outs m c t.val t.isLt).2.2 (ix3 j s d) = dvf (aq m c) (ak m c) (au m c) (hd t j) (rw' t s) d := by
  by_cases h : t.val % 4 = 0
  · rw [outs_A m c t h]
    exact (dvA ..).trans (dv_at m c t j s d)
  · rw [outs_B m c t h]
    exact (dvB ..).trans (dv_at m c t j s d)

/-- One point's part of the query gradient's block. -/
def part (t : Fin cfg0.N) (y : S2x4096x128.Idx) : EReal := dqt (grid0.coords t 1).val (iblk m c 0 t) (iblk m c 1 t) (iblk m c 2 t) (iblk m c 3 t) (y 0) (y 1) (y 2)

theorem outs_dq_A (t : Fin cfg0.N) (h : t.val % 4 = 0) (y : S2x4096x128.Idx) : (outs m c t.val t.isLt).1 y = 0 + part m c t y := by
  rw [outs_A m c t h, ← ix3_eta y]
  exact dqA ..
theorem outs_dq_B (t : Fin cfg0.N) (h : ¬t.val % 4 = 0) (y : S2x4096x128.Idx) :
    (outs m c t.val t.isLt).1 y = (outs m c (t.val - 1) (Nat.lt_of_le_of_lt (Nat.sub_le _ _) t.isLt)).1 y + part m c t y := by
  rw [outs_B m c t h, ← ix3_eta y]
  exact dqB ..

theorem at3 {α : Type} (f : Fin 8 → Fin 4096 → Fin 128 → α) {h h' : Fin 8} {s s' : Fin 4096} {d d' : Fin 128} (e : h.val = h'.val) (e' : s.val = s'.val) (e'' : d.val = d'.val) :
    f h s d = f h' s' d' := by
  obtain rfl := Fin.ext e
  obtain rfl := Fin.ext e'
  obtain rfl := Fin.ext e''
  rfl
theorem at4 {α : Type} (f : Fin 8 → Fin 4096 → Fin 4096 → Fin 128 → α) {h h' : Fin 8} {r r' s s' : Fin 4096} {d d' : Fin 128} (e : h.val = h'.val) (e₁ : r.val = r'.val) (e' : s.val = s'.val) (e'' : d.val = d'.val) :
    f h r s d = f h' r' s' d' := by
  obtain rfl := Fin.ext e
  obtain rfl := Fin.ext e₁
  obtain rfl := Fin.ext e'
  obtain rfl := Fin.ext e''
  rfl

theorem final_dk : (dats m 0 c).arrAt 5 (cfgs 0).N = fun y : S8x4096x128.Idx => dkf (aq m c) (ak m c) (av m c) (au m c) (y 0) (y 1) (y 2) := by
  refine (dats m 0 c).arrAt_eq_of_covers 5 _ (by decide +kernel) fun t hf y => ?_
  blk_simp
  rw [after5, ← ix3_eta y]
  refine (outs_dk m c t (y 0) (y 1) (y 2)).trans (at3 (dkf (aq m c) (ak m c) (av m c) (au m c)) ?_ ?_ ?_) <;> (blk_simp [idx t])
theorem final_dv : (dats m 0 c).arrAt 6 (cfgs 0).N = fun y : S8x4096x128.Idx => dvf (aq m c) (ak m c) (au m c) (y 0) (y 1) (y 2) := by
  refine (dats m 0 c).arrAt_eq_of_covers 6 _ (by decide +kernel) fun t hf y => ?_
  blk_simp
  rw [after6, ← ix3_eta y]
  refine (outs_dv m c t (y 0) (y 1) (y 2)).trans (at3 (dvf (aq m c) (ak m c) (au m c)) ?_ ?_ ?_) <;> (blk_simp [idx t])
theorem flush4 : ∀ t : Fin cfg0.N, win0_4.flush t = true → t.val % 4 = 4 - 1 := (by decide +kernel : ∀ t : Fin grid0.N, _)
theorem final_dq : (dats m 0 c).arrAt 4 (cfgs 0).N = fun y : S8x4096x128.Idx => dqf (aq m c) (ak m c) (av m c) (au m c) (y 0) (y 1) (y 2) := by
  refine (dats m 0 c).arrAt_eq_of_covers 4 _ (by decide +kernel) fun t hf y => ?_
  blk_simp
  rw [after4, Pipeline.eq_sum_fin_of_reset_step_apply_of_flush (fun n h => (outs m c n h).1) 4 (fun _ => 0) _
    (fun t h y => outs_dq_A m c t h y) (fun t h y => outs_dq_B m c t h y) t (flush4 t hf) y, zero_add]
  refine Eq.trans (Fin.sum_fin_congr fun s => dq_at m c _ (y 0) (y 1) (y 2)) ?_
  refine Fin.sum_mul_add_congr fun s k hl => ?_
  have h16 := lt16 t
  refine at4 (fun h r s d => wa (aq m c) (ak m c) (av m c) (au m c) h r s * ak m c (ix3 h s d)) ?_ ?_ ?_ ?_
  · show (4 * (t.val / 4) + s.val) / 4 * 2 + (y 0).val = _
    blk_simp [idx t]
    omega
  · blk_simp [idx t]
  · show (4 * (t.val / 4) + s.val) % 4 * 1024 + k.val = s.val * 1024 + k.val
    omega
  · blk_simp [idx t]

end Cert.AttnIdeal.Val

end
-- ==== Proof.AttnHost.lean ====
module

public import proofs.«01_k».proof.Proof.Gen.AttnIdeal.Frame
public import Idealize.ShloMosaic.Lib.Claim
public import Idealize.ShloMosaic.Lib.Pipeline.ValueKit
public import Idealize.ShloMosaic.Lib.Pointwise

@[expose] public section

set_option maxRecDepth 16384

noncomputable section

namespace Cert.AttnIdeal.Val

open Idealize.ShloMosaic Idealize.ShloMosaic.TcCoe Idealize.SL.Sem
open Idealize.ShloMosaic.Pipeline (Dat)
open Cert.AttnIdeal Cert.AttnIdeal.Gen

/-! What the host lines before the region compute, each over the arguments. -/
section
variable (q k v : FVec Ideal S8x4096x64 .f32) (cs : FVec Ideal S8x4096 .f32) (u : FVec Ideal S8x4096x64 .f32)

/-- The masked scores. -/
def logits : FVec Ideal S8x4096x4096 .f32 :=
  select (broadcastInDim S8x4096x4096 ![1, 2] bcast_S4096x4096_S8x4096x4096_1_2
      (cmpi .sge (broadcastInDim S4096x4096 ![0, 1] bcast_S4096x1_S4096x4096_0_1 (broadcastInDim S4096x1 ![0] bcast_S4096_S4096x1_0 (iotaInDim S4096 32 0)))
        (broadcastInDim S4096x4096 ![0, 1] bcast_S1x4096_S4096x4096_0_1 (broadcastInDim S1x4096 ![1] bcast_S4096_S1x4096_1 (iotaInDim S4096 32 0)))))
    (addf (mulf (Host.dotGeneral dot_S8x4096x64_S8x4096x64_S8x4096x4096_2_2_1_1_0_0 none q k) (broadcastInDim S8x4096x4096 ![] bcast_S_S8x4096x4096 (constant S_ .f32 0x3E000000#32)))
      (subf (broadcastInDim S8x4096x4096 ![0, 1, 2] bcast_S8x4096x1_S8x4096x4096_0_1_2 (broadcastInDim S8x4096x1 ![0, 1] bcast_S8x4096_S8x4096x1_0_1 cs))
        (broadcastInDim S8x4096x4096 ![0, 1, 2] bcast_S8x1x4096_S8x4096x4096_0_1_2 (broadcastInDim S8x1x4096 ![0, 2] bcast_S8x4096_S8x1x4096_0_2 cs))))
    (broadcastInDim S8x4096x4096 ![] bcast_S_S8x4096x4096 (constant S_ .f32 0xFF800000#32))
/-- Their row maxima. -/
def top : FVec Ideal S8x4096x1 .f32 :=
  broadcastInDim S8x4096x1 ![0, 1] bcast_S8x4096_S8x4096x1_0_1 (Host.reduce FloatOps.maximumf (logits q k cs) (constant S_ .f32 0xFF800000#32) reducesTo_S8x4096x4096_S8x4096_d2 h_S_)
def expo : FVec Ideal S8x4096x4096 .f32 :=
  Host.exp (subf (logits q k cs) (broadcastInDim S8x4096x4096 ![0, 1, 2] bcast_S8x4096x1_S8x4096x4096_0_1_2 (top q k cs)))
def tot : FVec Ideal S8x4096x1 .f32 :=
  broadcastInDim S8x4096x1 ![0, 1] bcast_S8x4096_S8x4096x1_0_1 (Host.reduceAdd (expo q k cs) (constant S_ .f32 0x00000000#32) reducesTo_S8x4096x4096_S8x4096_d2 h_S_)
def lse : FVec Ideal S8x4096x1 .f32 := addf (top q k cs) (Host.log (tot q k cs))
def outp : FVec Ideal S8x4096x64 .f32 :=
  Host.dotGeneral dot_S8x4096x4096_S8x4096x64_S8x4096x64_2_1_1_2_0_0 none (Host.divf (expo q k cs) (broadcastInDim S8x4096x4096 ![0, 1, 2] bcast_S8x4096x1_S8x4096x4096_0_1_2 (tot q k cs))) v
def delta (O : FVec Ideal S8x4096x64 .f32) : FVec Ideal S8x4096x1 .f32 :=
  broadcastInDim S8x4096x1 ![0, 1] bcast_S8x4096_S8x4096x1_0_1 (Host.reduceAdd (mulf (extf .f32 (truncf .bf16 u bitsLt_bf16_f32) bitsLt_bf16_f32) O) (constant S_ .f32 0x00000000#32) reducesTo_S8x4096x64_S8x4096_d2 h_S_)
def ln2 : FVec Ideal S_ .f32 := Host.log (constant S_ .f32 0x40000000#32)
def log2e : FVec Ideal S_ .f32 := Host.divf (constant S_ .f32 0x3F800000#32) ln2
/-- A column cut into three rounded pieces. -/
def lo1 (x : FVec Ideal S8x4096x1 .f32) : FVec Ideal S8x4096x1 .f32 := subf x (extf .f32 (truncf .bf16 x bitsLt_bf16_f32) bitsLt_bf16_f32)
def ones3 : FVec Ideal S8x4096x3 .bf16 := broadcastInDim S8x4096x3 ![] bcast_S_S8x4096x3 (constant S_ .bf16 0x3F80#16)
def ones1 : FVec Ideal S8x4096x1 .bf16 := broadcastInDim S8x4096x1 ![] bcast_S_S8x4096x1 (constant S_ .bf16 0x3F80#16)
def zeros1 : FVec Ideal S8x4096x1 .bf16 := broadcastInDim S8x4096x1 ![] bcast_S_S8x4096x1 (constant S_ .bf16 0x0000#16)
def zeros55 : FVec Ideal S8x4096x55 .bf16 := broadcastInDim S8x4096x55 ![] bcast_S_S8x4096x55 (constant S_ .bf16 0x0000#16)
def zeros60 : FVec Ideal S8x4096x60 .bf16 := broadcastInDim S8x4096x60 ![] bcast_S_S8x4096x60 (constant S_ .bf16 0x0000#16)
abbrev rnd1 (x : FVec Ideal S8x4096x1 .f32) : FVec Ideal S8x4096x1 .bf16 := truncf .bf16 x bitsLt_bf16_f32
abbrev rnd (x : FVec Ideal S8x4096x64 .f32) : FVec Ideal S8x4096x64 .bf16 := truncf .bf16 x bitsLt_bf16_f32
def c2 : FVec Ideal S8x4096x1 .f32 := mulf (broadcastInDim S8x4096x1 ![0, 1] bcast_S8x4096_S8x4096x1_0_1 cs) (broadcastInDim S8x4096x1 ![] bcast_S_S8x4096x1 log2e)
def l2 (L : FVec Ideal S8x4096x1 .f32) : FVec Ideal S8x4096x1 .f32 := Host.negf (mulf L (broadcastInDim S8x4096x1 ![] bcast_S_S8x4096x1 log2e))
def qs : FVec Ideal S8x4096x64 .f32 := mulf q (broadcastInDim S8x4096x64 ![] bcast_S_S8x4096x64 (mulf (constant S_ .f32 0x3E000000#32) log2e))

/-- The packed query rows. -/
def pk (x : FVec Ideal S8x4096x64 .f32) (c0 c1 c2 : FVec Ideal S8x4096x1 .bf16) (o : FVec Ideal S8x4096x3 .bf16) (L : FVec Ideal S8x4096x1 .f32) : FVec Ideal S8x4096x128 .bf16 :=
  concatenate S8x4096x128 2 [⟨S8x4096x64, rnd x⟩, ⟨S8x4096x1, c0⟩, ⟨S8x4096x1, c1⟩, ⟨S8x4096x1, c2⟩, ⟨S8x4096x3, o⟩, ⟨S8x4096x1, rnd1 L⟩, ⟨S8x4096x1, rnd1 (lo1 L)⟩, ⟨S8x4096x1, rnd1 (lo1 (lo1 L))⟩, ⟨S8x4096x55, zeros55⟩] concatenates_S8x4096x64_S8x4096x1_S8x4096x1_S8x4096x1_S8x4096x3_S8x4096x1_S8x4096x1_S8x4096x1_S8x4096x55_S8x4096x128_d2
def packq (L : FVec Ideal S8x4096x1 .f32) : FVec Ideal S8x4096x128 .bf16 :=
  pk (qs q) (rnd1 (c2 cs)) (rnd1 (lo1 (c2 cs))) (rnd1 (lo1 (lo1 (c2 cs)))) ones3 (l2 L)
def packk : FVec Ideal S8x4096x128 .bf16 :=
  concatenate S8x4096x128 2 [⟨S8x4096x64, rnd k⟩, ⟨S8x4096x3, ones3⟩, ⟨S8x4096x1, Host.negf (rnd1 (c2 cs))⟩, ⟨S8x4096x1, Host.negf (rnd1 (lo1 (c2 cs)))⟩, ⟨S8x4096x1, Host.negf (rnd1 (lo1 (lo1 (c2 cs))))⟩, ⟨S8x4096x3, ones3⟩, ⟨S8x4096x55, zeros55⟩] concatenates_S8x4096x64_S8x4096x3_S8x4096x1_S8x4096x1_S8x4096x1_S8x4096x3_S8x4096x55_S8x4096x128_d2
def packv : FVec Ideal S8x4096x128 .bf16 :=
  concatenate S8x4096x128 2 [⟨S8x4096x64, rnd v⟩, ⟨S8x4096x3, ones3⟩, ⟨S8x4096x1, ones1⟩, ⟨S8x4096x60, zeros60⟩] concatenates_S8x4096x64_S8x4096x3_S8x4096x1_S8x4096x60_S8x4096x128_d2
def dneg (δ : FVec Ideal S8x4096x1 .f32) : FVec Ideal S8x4096x1 .f32 := Host.negf δ
def packu (δ : FVec Ideal S8x4096x1 .f32) : FVec Ideal S8x4096x128 .bf16 :=
  concatenate S8x4096x128 2 [⟨S8x4096x64, rnd u⟩, ⟨S8x4096x1, zeros1⟩, ⟨S8x4096x1, rnd1 (dneg δ)⟩, ⟨S8x4096x1, rnd1 (lo1 (dneg δ))⟩, ⟨S8x4096x1, rnd1 (lo1 (lo1 (dneg δ)))⟩, ⟨S8x4096x60, zeros60⟩] concatenates_S8x4096x64_S8x4096x1_S8x4096x1_S8x4096x1_S8x4096x1_S8x4096x60_S8x4096x128_d2
end

variable (m : (ℓ : Loc nD τ sig) → Buf (Elt Ideal) ℓ) (c : Dev nD)
abbrev mq : FVec Ideal S8x4096x64 .f32 := m ((c : Thread nD τ).loc main_arg0)
abbrev mk : FVec Ideal S8x4096x64 .f32 := m ((c : Thread nD τ).loc main_arg1)
abbrev mv : FVec Ideal S8x4096x64 .f32 := m ((c : Thread nD τ).loc main_arg2)
abbrev mc : FVec Ideal S8x4096 .f32 := m ((c : Thread nD τ).loc main_arg3)
abbrev mu : FVec Ideal S8x4096x64 .f32 := m ((c : Thread nD τ).loc main_arg4)

/-- The host lines in stretches: to the forward output, to the scaled columns, to the pieces of the queries, the packing of the
    queries, to the pieces of the output gradient, its packing. -/
abbrev opsA : List (HloOp τ sig (Elt Ideal)) := (hostOps0 ++ hostOps0_1) ++ hostOps0_2.take 14
abbrev opsB : List (HloOp τ sig (Elt Ideal)) := (hostOps0_2.drop 14).take 34
abbrev opsC : List (HloOp τ sig (Elt Ideal)) := ((hostOps0_2.drop 14).drop 34).take 10
abbrev opsN : List (HloOp τ sig (Elt Ideal)) := (((hostOps0_2.drop 14).drop 34).drop 10).take 1
abbrev opsD : List (HloOp τ sig (Elt Ideal)) := ((((hostOps0_2.drop 14).drop 34).drop 10).drop 1).take 24
abbrev opsE : List (HloOp τ sig (Elt Ideal)) := ((((hostOps0_2.drop 14).drop 34).drop 10).drop 1).drop 24
abbrev midV : Valuation τ sig (Elt Ideal) := StableHlo.after opsA (fun b => m (c, b))

theorem V_split (b : Ref sig .tc) : V m c b = StableHlo.after opsE (StableHlo.after opsD (StableHlo.after opsN (StableHlo.after opsC (StableHlo.after opsB (midV m c))))) (Proc.devRef .tc b) := by
  have e : List.flatten [hostOps0, hostOps0_1, hostOps0_2] = opsA ++ (opsB ++ (opsC ++ (opsN ++ (opsD ++ opsE))) : List (HloOp τ sig (Elt Ideal))) := by
    show hostOps0 ++ (hostOps0_1 ++ (hostOps0_2 ++ [])) = ((hostOps0 ++ hostOps0_1) ++ hostOps0_2.take 14) ++ _
    rw [List.take_append_drop, List.take_append_drop, List.take_append_drop, List.take_append_drop, List.append_assoc, List.take_append_drop, List.append_nil, List.append_assoc]
  show StableHlo.after (List.flatten [hostOps0, hostOps0_1, hostOps0_2]) (fun b => m (c, b)) _ = _
  rw [e]
  simp only [StableHlo.after_append]

theorem mid_lse : midV m c (Proc.devRef .tc main_v25) = lse (mq m c) (mk m c) (mc m c) := by
  unfold midV opsA
  simp only [List.take_succ_cons, List.take_zero, List.cons_append, List.nil_append]
  entry_read
  rfl
theorem mid_out : midV m c (Proc.devRef .tc main_v28) = outp (mq m c) (mk m c) (mv m c) (mc m c) := by
  unfold midV opsA
  simp only [List.take_succ_cons, List.take_zero, List.cons_append, List.nil_append]
  entry_read
  rfl
theorem mid_args : midV m c (Proc.devRef .tc main_arg0) = mq m c ∧ midV m c (Proc.devRef .tc main_arg1) = mk m c ∧ midV m c (Proc.devRef .tc main_arg2) = mv m c
    ∧ midV m c (Proc.devRef .tc main_arg3) = mc m c ∧ midV m c (Proc.devRef .tc main_arg4) = mu m c := by
  unfold midV opsA
  simp only [List.take_succ_cons, List.take_zero, List.cons_append, List.nil_append]
  refine ⟨?_, ?_, ?_, ?_, ?_⟩ <;> (entry_read; try rfl)

theorem V_k : V m c main_v72 = packk (mk m c) (mc m c) := by
  entry_read
  rfl
theorem V_v : V m c main_v75 = packv (mv m c) := by
  entry_read
  rfl
theorem V_ln2 : V m c main_v31 = ln2 := by
  entry_read
  rfl
section
variable (σ : Valuation τ sig (Elt Ideal))
theorem b_args : StableHlo.after opsB σ (Proc.devRef .tc main_arg4) = σ (Proc.devRef .tc main_arg4) := by
  unfold opsB
  simp only [List.drop_succ_cons, List.drop_zero, List.take_succ_cons, List.take_zero]
  entry_read
  rfl
theorem b_ones : StableHlo.after opsB σ (Proc.devRef .tc main_v29) = ones3 := by
  unfold opsB
  simp only [List.drop_succ_cons, List.drop_zero, List.take_succ_cons, List.take_zero]
  entry_read
  rfl
theorem b_c0 : StableHlo.after opsB σ (Proc.devRef .tc main_v37) = rnd1 (c2 (σ (Proc.devRef .tc main_arg3))) := by
  unfold opsB
  simp only [List.drop_succ_cons, List.drop_zero, List.take_succ_cons, List.take_zero]
  entry_read
  rfl
theorem b_c1 : StableHlo.after opsB σ (Proc.devRef .tc main_v40) = rnd1 (lo1 (c2 (σ (Proc.devRef .tc main_arg3)))) := by
  unfold opsB
  simp only [List.drop_succ_cons, List.drop_zero, List.take_succ_cons, List.take_zero]
  entry_read
  rfl
theorem b_c2 : StableHlo.after opsB σ (Proc.devRef .tc main_v43) = rnd1 (lo1 (lo1 (c2 (σ (Proc.devRef .tc main_arg3))))) := by
  unfold opsB
  simp only [List.drop_succ_cons, List.drop_zero, List.take_succ_cons, List.take_zero]
  entry_read
  rfl
theorem b_q : StableHlo.after opsB σ (Proc.devRef .tc main_v52) = qs (σ (Proc.devRef .tc main_arg0)) := by
  unfold opsB
  simp only [List.drop_succ_cons, List.drop_zero, List.take_succ_cons, List.take_zero]
  entry_read
  rfl
theorem b_l : StableHlo.after opsB σ (Proc.devRef .tc main_v56) = l2 (σ (Proc.devRef .tc main_v25)) := by
  unfold opsB
  simp only [List.drop_succ_cons, List.drop_zero, List.take_succ_cons, List.take_zero]
  entry_read
  rfl
theorem b_d : StableHlo.after opsB σ (Proc.devRef .tc main_v48) = delta (σ (Proc.devRef .tc main_arg4)) (σ (Proc.devRef .tc main_v28)) := by
  unfold opsB
  simp only [List.drop_succ_cons, List.drop_zero, List.take_succ_cons, List.take_zero]
  entry_read
  rfl
theorem c_v37 : StableHlo.after opsC σ (Proc.devRef .tc main_v37) = σ (Proc.devRef .tc main_v37) := by
  unfold opsC
  simp only [List.drop_succ_cons, List.drop_zero, List.take_succ_cons, List.take_zero]
  entry_read
  rfl
theorem c_v40 : StableHlo.after opsC σ (Proc.devRef .tc main_v40) = σ (Proc.devRef .tc main_v40) := by
  unfold opsC
  simp only [List.drop_succ_cons, List.drop_zero, List.take_succ_cons, List.take_zero]
  entry_read
  rfl
theorem c_v43 : StableHlo.after opsC σ (Proc.devRef .tc main_v43) = σ (Proc.devRef .tc main_v43) := by
  unfold opsC
  simp only [List.drop_succ_cons, List.drop_zero, List.take_succ_cons, List.take_zero]
  entry_read
  rfl
theorem c_v29 : StableHlo.after opsC σ (Proc.devRef .tc main_v29) = σ (Proc.devRef .tc main_v29) := by
  unfold opsC
  simp only [List.drop_succ_cons, List.drop_zero, List.take_succ_cons, List.take_zero]
  entry_read
  rfl
theorem c_v48 : StableHlo.after opsC σ (Proc.devRef .tc main_v48) = σ (Proc.devRef .tc main_v48) := by
  unfold opsC
  simp only [List.drop_succ_cons, List.drop_zero, List.take_succ_cons, List.take_zero]
  entry_read
  rfl
theorem c_arg4 : StableHlo.after opsC σ (Proc.devRef .tc main_arg4) = σ (Proc.devRef .tc main_arg4) := by
  unfold opsC
  simp only [List.drop_succ_cons, List.drop_zero, List.take_succ_cons, List.take_zero]
  entry_read
  rfl
theorem c_q : StableHlo.after opsC σ (Proc.devRef .tc main_v65) = rnd (σ (Proc.devRef .tc main_v52)) := by
  unfold opsC
  simp only [List.drop_succ_cons, List.drop_zero, List.take_succ_cons, List.take_zero]
  entry_read
  rfl
theorem c_l0 : StableHlo.after opsC σ (Proc.devRef .tc main_v57) = rnd1 (σ (Proc.devRef .tc main_v56)) := by
  unfold opsC
  simp only [List.drop_succ_cons, List.drop_zero, List.take_succ_cons, List.take_zero]
  entry_read
  rfl
theorem c_l1 : StableHlo.after opsC σ (Proc.devRef .tc main_v60) = rnd1 (lo1 (σ (Proc.devRef .tc main_v56))) := by
  unfold opsC
  simp only [List.drop_succ_cons, List.drop_zero, List.take_succ_cons, List.take_zero]
  entry_read
  rfl
theorem c_l2 : StableHlo.after opsC σ (Proc.devRef .tc main_v63) = rnd1 (lo1 (lo1 (σ (Proc.devRef .tc main_v56)))) := by
  unfold opsC
  simp only [List.drop_succ_cons, List.drop_zero, List.take_succ_cons, List.take_zero]
  entry_read
  rfl
theorem c_z : StableHlo.after opsC σ (Proc.devRef .tc main_v64) = zeros55 := by
  unfold opsC
  simp only [List.drop_succ_cons, List.drop_zero, List.take_succ_cons, List.take_zero]
  entry_read
  rfl
theorem n_v48 : StableHlo.after opsN σ (Proc.devRef .tc main_v48) = σ (Proc.devRef .tc main_v48) := by
  unfold opsN
  simp only [List.drop_succ_cons, List.drop_zero, List.take_succ_cons, List.take_zero]
  entry_read
  rfl
theorem n_arg4 : StableHlo.after opsN σ (Proc.devRef .tc main_arg4) = σ (Proc.devRef .tc main_arg4) := by
  unfold opsN
  simp only [List.drop_succ_cons, List.drop_zero, List.take_succ_cons, List.take_zero]
  entry_read
  rfl
theorem n_q : StableHlo.after opsN σ (Proc.devRef .tc main_v66) = concatenate S8x4096x128 2 [⟨S8x4096x64, σ (Proc.devRef .tc main_v65)⟩, ⟨S8x4096x1, σ (Proc.devRef .tc main_v37)⟩, ⟨S8x4096x1, σ (Proc.devRef .tc main_v40)⟩, ⟨S8x4096x1, σ (Proc.devRef .tc main_v43)⟩, ⟨S8x4096x3, σ (Proc.devRef .tc main_v29)⟩, ⟨S8x4096x1, σ (Proc.devRef .tc main_v57)⟩, ⟨S8x4096x1, σ (Proc.devRef .tc main_v60)⟩, ⟨S8x4096x1, σ (Proc.devRef .tc main_v63)⟩, ⟨S8x4096x55, σ (Proc.devRef .tc main_v64)⟩] concatenates_S8x4096x64_S8x4096x1_S8x4096x1_S8x4096x1_S8x4096x3_S8x4096x1_S8x4096x1_S8x4096x1_S8x4096x55_S8x4096x128_d2
   := by
  unfold opsN
  simp only [List.drop_succ_cons, List.drop_zero, List.take_succ_cons, List.take_zero]
  rw [StableHlo.after_cons, StableHlo.after_nil, StableHlo.nary_result]
  rfl
theorem d_q : StableHlo.after opsD σ (Proc.devRef .tc main_v66) = σ (Proc.devRef .tc main_v66) := by
  unfold opsD
  simp only [List.drop_succ_cons, List.drop_zero, List.take_succ_cons, List.take_zero]
  entry_read
  rfl
theorem d_u : StableHlo.after opsD σ (Proc.devRef .tc main_v86) = rnd (σ (Proc.devRef .tc main_arg4)) := by
  unfold opsD
  simp only [List.drop_succ_cons, List.drop_zero, List.take_succ_cons, List.take_zero]
  entry_read
  rfl
theorem d_z : StableHlo.after opsD σ (Proc.devRef .tc main_v76) = zeros1 := by
  unfold opsD
  simp only [List.drop_succ_cons, List.drop_zero, List.take_succ_cons, List.take_zero]
  entry_read
  rfl
theorem d_0 : StableHlo.after opsD σ (Proc.devRef .tc main_v78) = rnd1 (dneg (σ (Proc.devRef .tc main_v48))) := by
  unfold opsD
  simp only [List.drop_succ_cons, List.drop_zero, List.take_succ_cons, List.take_zero]
  entry_read
  rfl
theorem d_1 : StableHlo.after opsD σ (Proc.devRef .tc main_v81) = rnd1 (lo1 (dneg (σ (Proc.devRef .tc main_v48)))) := by
  unfold opsD
  simp only [List.drop_succ_cons, List.drop_zero, List.take_succ_cons, List.take_zero]
  entry_read
  rfl
theorem d_2 : StableHlo.after opsD σ (Proc.devRef .tc main_v84) = rnd1 (lo1 (lo1 (dneg (σ (Proc.devRef .tc main_v48))))) := by
  unfold opsD
  simp only [List.drop_succ_cons, List.drop_zero, List.take_succ_cons, List.take_zero]
  entry_read
  rfl
theorem d_e : StableHlo.after opsD σ (Proc.devRef .tc main_v85) = zeros60 := by
  unfold opsD
  simp only [List.drop_succ_cons, List.drop_zero, List.take_succ_cons, List.take_zero]
  entry_read
  rfl
theorem e_q : StableHlo.after opsE σ (Proc.devRef .tc main_v66) = σ (Proc.devRef .tc main_v66) := by
  unfold opsE
  simp only [List.drop_succ_cons, List.drop_zero, List.take_succ_cons, List.take_zero]
  entry_read
  rfl
theorem e_u : StableHlo.after opsE σ (Proc.devRef .tc main_v87) = concatenate S8x4096x128 2 [⟨S8x4096x64, σ (Proc.devRef .tc main_v86)⟩, ⟨S8x4096x1, σ (Proc.devRef .tc main_v76)⟩, ⟨S8x4096x1, σ (Proc.devRef .tc main_v78)⟩, ⟨S8x4096x1, σ (Proc.devRef .tc main_v81)⟩, ⟨S8x4096x1, σ (Proc.devRef .tc main_v84)⟩, ⟨S8x4096x60, σ (Proc.devRef .tc main_v85)⟩] concatenates_S8x4096x64_S8x4096x1_S8x4096x1_S8x4096x1_S8x4096x1_S8x4096x60_S8x4096x128_d2
   := by
  unfold opsE
  simp only [List.drop_succ_cons, List.drop_zero, List.take_succ_cons, List.take_zero]
  rw [StableHlo.after_cons, StableHlo.after_nil, StableHlo.nary_result]
  rfl
end
theorem V_q : V m c main_v66 = packq (mq m c) (mc m c) (lse (mq m c) (mk m c) (mc m c)) := by
  obtain ⟨h0, _, _, h3, _⟩ := mid_args m c
  rw [V_split, e_q, d_q, n_q, c_q, c_v37, c_v40, c_v43, c_v29, c_l0, c_l1, c_l2, c_z, b_q, b_c0, b_c1, b_c2, b_ones, b_l, h0, h3, mid_lse]
  rfl
theorem V_u : V m c main_v87 = packu (mu m c) (delta (mu m c) (outp (mq m c) (mk m c) (mv m c) (mc m c))) := by
  obtain ⟨_, _, _, _, h4⟩ := mid_args m c
  rw [V_split, e_u, d_u, d_z, d_0, d_1, d_2, d_e, n_v48, n_arg4, c_v48, c_arg4, b_args, b_d, h4, mid_out]
  rfl

end Cert.AttnIdeal.Val

end
-- ==== Proof.AttnMath.lean ====
module

public import proofs.«01_k».proof.Proof.Reals

@[expose] public section

noncomputable section

/-! The gradients of causal attention with a column of decays, over the reals. -/
namespace Cert.AttnMath

variable (q k v u : Fin 8 → Fin 4096 → Fin 64 → ℝ) (c M : Fin 8 → Fin 4096 → ℝ)

/-- The score of a query row against a key row. -/
def sc (h : Fin 8) (i j : Fin 4096) : ℝ := (∑ d, q h i d * k h j d) * (1 / 8) + (c h i - c h j)
/-- Its exponential against the row's largest score; nothing for a later key row. -/
def E (h : Fin 8) (i j : Fin 4096) : ℝ := if j.val ≤ i.val then Real.exp (sc q k c h i j - M h i) else 0
def L (h : Fin 8) (i : Fin 4096) : ℝ := ∑ j, E q k c M h i j
/-- The weights. -/
def P (h : Fin 8) (i j : Fin 4096) : ℝ := E q k c M h i j / L q k c M h i
/-- Their gradients, and the rows' means of them. -/
def T (h : Fin 8) (i j : Fin 4096) : ℝ := ∑ d, u h i d * v h j d
def D (h : Fin 8) (i : Fin 4096) : ℝ := ∑ j, P q k c M h i j * T v u h i j
/-- The gradient of the scores. -/
def S (h : Fin 8) (i j : Fin 4096) : ℝ := P q k c M h i j * (T v u h i j - D q k v u c M h i)

def dq (h : Fin 8) (i : Fin 4096) (d : Fin 64) : ℝ := (∑ j, S q k v u c M h i j * k h j d) * (1 / 8)
def dk (h : Fin 8) (j : Fin 4096) (d : Fin 64) : ℝ := (∑ i, S q k v u c M h i j * q h i d) * (1 / 8)
def dv (h : Fin 8) (j : Fin 4096) (d : Fin 64) : ℝ := ∑ i, P q k c M h i j * u h i d
def dc (h : Fin 8) (i : Fin 4096) : ℝ := ∑ j, S q k v u c M h i j - ∑ j, S q k v u c M h j i

theorem E_nonneg (h : Fin 8) (i j : Fin 4096) : 0 ≤ E q k c M h i j := by
  unfold E; split_ifs
  · exact (Real.exp_pos _).le
  · exact le_refl _

theorem L_pos (h : Fin 8) (i : Fin 4096) : 0 < L q k c M h i := by
  refine Finset.sum_pos' (fun j _ => E_nonneg q k c M h i j) ⟨i, Finset.mem_univ i, ?_⟩
  unfold E; rw [if_pos (le_refl _)]; exact Real.exp_pos _

/-- The weight is the exponential of the score less the logarithm of the row's total. -/
theorem exp_lse (h : Fin 8) (i j : Fin 4096) (hj : j.val ≤ i.val) :
    Real.exp (sc q k c h i j - (M h i + Real.log (L q k c M h i))) = P q k c M h i j := by
  unfold P E
  rw [if_pos hj, ← sub_sub, Real.exp_sub, Real.exp_log (L_pos q k c M h i)]

theorem P_hid (h : Fin 8) (i j : Fin 4096) (hj : ¬ j.val ≤ i.val) : P q k c M h i j = 0 := by
  unfold P E; rw [if_neg hj, zero_div]

/-- The rows' means, from the forward output. -/
theorem D_out (h : Fin 8) (i : Fin 4096) : ∑ d, u h i d * ∑ j, P q k c M h i j * v h j d = D q k v u c M h i := by
  unfold D T
  simp only [Finset.mul_sum]
  rw [Finset.sum_comm]
  exact Finset.sum_congr rfl fun j _ => Finset.sum_congr rfl fun d _ => by ring

/-- A sum over the packed lanes: the 64 columns, nine further lanes, the rest empty. -/
theorem lanes (f : Fin 128 → ℝ) (hz : ∀ l : Fin 128, 73 ≤ l.val → f l = 0) :
    ∑ l, f l = (∑ d : Fin 64, f ⟨d.val, by omega⟩) + (f 64 + f 65 + f 66 + f 67 + f 68 + f 69 + f 70 + f 71 + f 72) := by
  have e1 : ∑ l, f l = ∑ l : Fin (64 + (9 + 55)), f l := rfl
  rw [e1, Fin.sum_univ_add, Fin.sum_univ_add]
  have e2 : ∑ x : Fin 55, f (Fin.natAdd 64 (Fin.natAdd 9 x)) = 0 :=
    Finset.sum_eq_zero fun x _ => hz _ (by simp only [Fin.natAdd]; omega)
  rw [e2, add_zero]
  congr 1
  simp only [Fin.sum_univ_succ, Finset.univ_eq_empty, Finset.sum_empty]
  simp only [← add_assoc, add_zero]
  rfl

end Cert.AttnMath

end
-- ==== Proof.AttnReal.lean ====
module

public import proofs.«01_k».proof.Proof.AttnArray
public import proofs.«01_k».proof.Proof.AttnHost
public import proofs.«01_k».proof.Proof.AttnDiag
public import proofs.«01_k».proof.Proof.AttnMath
public import Idealize.ShloMosaic.Lib.Pipeline.ValueKit
public import Idealize.ShloMosaic.Lib.Pointwise

@[expose] public section

set_option maxRecDepth 16384

noncomputable section

namespace Cert.AttnIdeal.Val

open Idealize.ShloMosaic Idealize.ShloMosaic.TcCoe Idealize.SL.Sem
open Idealize.ShloMosaic.Pipeline (Dat)
open Cert.AttnIdeal Cert.AttnIdeal.Gen

open Cert.Reals Cert.AttnMath
/-! The host lines and the packed arrays at an index, and their real values when the arguments are real. -/

section
variable (q k v : FVec Ideal S8x4096x64 .f32) (cs : FVec Ideal S8x4096 .f32) (u : FVec Ideal S8x4096x64 .f32) (h : Fin 8) (i j : Fin 4096) (d : Fin 64) (l : Fin 128) (r : Fin 1)

theorem bot_f32 : Ideal.ofBits .f32 0xFF800000#32 = (⊥ : EReal) := by
  simp [Ideal.ofBits, Ideal.ieee]
theorem eighth_f32 : Ideal.ofBits .f32 0x3E000000#32 = (((1 : ℝ) / 8 : ℝ) : EReal) := by
  simp [Ideal.ofBits, Ideal.ieee, -EReal.coe_mul]; norm_num
theorem logits_at : logits q k cs (ix3 h i j) =
    if j.val ≤ i.val then (∑ x, q (ix3 h i x) * k (ix3 h j x)) * Ideal.ofBits .f32 0x3E000000#32 + (cs (ix2 h i) - cs (ix2 h j)) else ⊥ := by
  pointwise [logits]
  rw [sel_ge _ _ (by omega) (by omega), bot_f32]
theorem top_at : top q k cs (ix3 h i r) = Finset.univ.fold max (⊥ : EReal) (fun x => logits q k cs (ix3 h i x)) := by
  pointwise [top]
  rw [bot_f32]
theorem expo_at : expo q k cs (ix3 h i j) = Ideal.exp (logits q k cs (ix3 h i j) - top q k cs (ix3 h i 0)) := by
  pointwise [expo]
theorem tot_at : tot q k cs (ix3 h i r) = ∑ x, expo q k cs (ix3 h i x) := by
  pointwise [tot]
theorem lse_gen (A N : FVec Ideal S8x4096x1 .f32) (y : S8x4096x1.Idx) : (addf A (Host.log N) : FVec Ideal S8x4096x1 .f32) y = A y + Ideal.log (N y) := rfl
theorem lse_at : lse q k cs (ix3 h i r) = top q k cs (ix3 h i r) + Ideal.log (tot q k cs (ix3 h i r)) := by
  rw [lse, lse_gen]
theorem outp_at : outp q k v cs (ix3 h i d) = ∑ x, Ideal.div (expo q k cs (ix3 h i x)) (tot q k cs (ix3 h i 0)) * v (ix3 h x d) := by
  pointwise [outp]
theorem delta_at (O : FVec Ideal S8x4096x64 .f32) : delta u O (ix3 h i r) = ∑ x, u (ix3 h i x) * O (ix3 h i x) := by
  pointwise [delta]
theorem lo1_at (x : FVec Ideal S8x4096x1 .f32) (a : ℝ) (e : x (ix3 h i r) = (a : EReal)) : lo1 x (ix3 h i r) = ((0 : ℝ) : EReal) := by
  have e' : lo1 x (ix3 h i r) = x (ix3 h i r) - x (ix3 h i r) := by pointwise [lo1]
  rw [e', e, ← EReal.coe_sub, sub_self]
theorem c2_at : c2 cs (ix3 h i r) = cs (ix2 h i) * Ideal.div 1 (Ideal.log (Ideal.ofBits .f32 0x40000000#32)) := by
  pointwise [c2, log2e, ln2]
theorem l2_at (x : FVec Ideal S8x4096x1 .f32) : l2 x (ix3 h i r) = -(x (ix3 h i r) * Ideal.div 1 (Ideal.log (Ideal.ofBits .f32 0x40000000#32))) := by
  pointwise [l2, log2e, ln2]
theorem qs_at : qs q (ix3 h i d) = q (ix3 h i d) * (Ideal.ofBits .f32 0x3E000000#32 * Ideal.div 1 (Ideal.log (Ideal.ofBits .f32 0x40000000#32))) := by
  pointwise [qs, log2e, ln2]
theorem dneg_at (x : FVec Ideal S8x4096x1 .f32) : dneg x (ix3 h i r) = - x (ix3 h i r) := by
  pointwise [dneg]
theorem one_bf : Ideal.ofBits .bf16 0x3F80#16 = ((1 : ℝ) : EReal) := by
  simp [Ideal.ofBits, Ideal.ieee, -EReal.coe_mul]; norm_num
theorem zero_bf : Ideal.ofBits .bf16 0x0000#16 = ((0 : ℝ) : EReal) := by
  simp [Ideal.ofBits, Ideal.ieee, -EReal.coe_mul]
theorem ones3_at (s : Fin 3) : ones3 (ix3 h i s) = ((1 : ℝ) : EReal) := by
  rw [← one_bf]; pointwise [ones3]
theorem ones1_at : ones1 (ix3 h i r) = ((1 : ℝ) : EReal) := by
  rw [← one_bf]; pointwise [ones1]
theorem zeros1_at : zeros1 (ix3 h i r) = ((0 : ℝ) : EReal) := by
  rw [← zero_bf]; pointwise [zeros1]
theorem zeros55_at (s : Fin 55) : zeros55 (ix3 h i s) = ((0 : ℝ) : EReal) := by
  rw [← zero_bf]; pointwise [zeros55]
theorem zeros60_at (s : Fin 60) : zeros60 (ix3 h i s) = ((0 : ℝ) : EReal) := by
  rw [← zero_bf]; pointwise [zeros60]

/-- The logarithm's base on the host. -/
theorem base_at : Ideal.div 1 (Ideal.log (Ideal.ofBits .f32 0x40000000#32)) = ((1 / Real.log 2 : ℝ) : EReal) := by
  rw [Cert.Consts.two_f32, log_real (by norm_num), ← EReal.coe_one, div_real 1 (Real.log_pos (by norm_num)).ne']
end

/-- A real array as an array of extended reals. -/
def l3 (q : Fin 8 → Fin 4096 → Fin 64 → ℝ) : FVec Ideal S8x4096x64 .f32 := fun y => ((q (y 0) (y 1) (y 2) : ℝ) : EReal)
def l2d (c : Fin 8 → Fin 4096 → ℝ) : FVec Ideal S8x4096 .f32 := fun y => ((c (y 0) (y 1) : ℝ) : EReal)
theorem l3_at (q : Fin 8 → Fin 4096 → Fin 64 → ℝ) (h : Fin 8) (i : Fin 4096) (d : Fin 64) : l3 q (ix3 h i d) = ((q h i d : ℝ) : EReal) := rfl
theorem l2d_at (c : Fin 8 → Fin 4096 → ℝ) (h : Fin 8) (i : Fin 4096) : l2d c (ix2 h i) = ((c h i : ℝ) : EReal) := rfl

section
variable (q k v u : Fin 8 → Fin 4096 → Fin 64 → ℝ) (c M lam del : Fin 8 → Fin 4096 → ℝ) (h : Fin 8) (i j : Fin 4096) (d : Fin 64) (l : Fin 128) (r : Fin 1)

theorem logits_real : logits (l3 q) (l3 k) (l2d c) (ix3 h i j) = if j.val ≤ i.val then ((sc q k c h i j : ℝ) : EReal) else ⊥ := by
  rw [logits_at]
  split_ifs
  · simp only [l3_at, l2d_at, ← EReal.coe_mul, coe_sum, eighth_f32, ← EReal.coe_sub, ← EReal.coe_add]
    rfl
  · rfl
/-- The row's largest score is real. -/
theorem top_real : ∃ M : Fin 8 → Fin 4096 → ℝ, ∀ h i r, top (l3 q) (l3 k) (l2d c) (ix3 h i r) = ((M h i : ℝ) : EReal) := by
  have e : ∀ h i, ∃ x : ℝ, Finset.univ.fold max (⊥ : EReal) (fun x => logits (l3 q) (l3 k) (l2d c) (ix3 h i x)) = (x : EReal) := by
    intro h i
    refine fold_max_real _ (fun j => ?_) i ?_
    · rw [logits_real]; split_ifs <;> simp
    · rw [logits_real, if_pos (le_refl _)]; simp
  choose M hM using e
  exact ⟨M, fun h i r => by rw [top_at, hM]⟩

variable (hM : ∀ h i r, top (l3 q) (l3 k) (l2d c) (ix3 h i r) = ((M h i : ℝ) : EReal))
include hM
theorem expo_real : expo (l3 q) (l3 k) (l2d c) (ix3 h i j) = ((E q k c M h i j : ℝ) : EReal) := by
  rw [expo_at, logits_real, hM]
  unfold E
  split_ifs
  · rw [← EReal.coe_sub, Ideal.exp_coe]
  · rw [EReal.bot_sub, Ideal.exp_bot]; rfl
theorem tot_real : tot (l3 q) (l3 k) (l2d c) (ix3 h i r) = ((L q k c M h i : ℝ) : EReal) := by
  rw [tot_at]
  simp only [expo_real q k c M h i _ hM, coe_sum]
  rfl
theorem lse_real : lse (l3 q) (l3 k) (l2d c) (ix3 h i r) = ((M h i + Real.log (L q k c M h i) : ℝ) : EReal) := by
  rw [lse_at, hM, tot_real q k c M h i r hM, log_real (L_pos q k c M h i), ← EReal.coe_add]
theorem outp_real : outp (l3 q) (l3 k) (l3 v) (l2d c) (ix3 h i d) = ((∑ j, P q k c M h i j * v h j d : ℝ) : EReal) := by
  rw [outp_at]
  simp only [expo_real q k c M h i _ hM, tot_real q k c M h i _ hM, div_real _ (L_pos q k c M h i).ne', l3_at, ← EReal.coe_mul, coe_sum]
  rfl
theorem delta_real : delta (l3 u) (outp (l3 q) (l3 k) (l3 v) (l2d c)) (ix3 h i r) = ((D q k v u c M h i : ℝ) : EReal) := by
  rw [delta_at]
  simp only [outp_real q k v c M h i _ hM, l3_at, ← EReal.coe_mul, coe_sum, D_out]
omit hM

/-- The packed rows, over the reals. -/
def Qr (q : Fin 8 → Fin 4096 → Fin 64 → ℝ) (c lam : Fin 8 → Fin 4096 → ℝ) (h : Fin 8) (i : Fin 4096) (l : Fin 128) : ℝ :=
  if hl : l.val < 64 then q h i ⟨l.val, hl⟩ * (1 / 8 * (1 / Real.log 2)) else if l.val = 64 then c h i * (1 / Real.log 2)
    else if l.val < 67 then 0 else if l.val < 70 then 1 else if l.val = 70 then -(lam h i * (1 / Real.log 2)) else 0
def Kr (k : Fin 8 → Fin 4096 → Fin 64 → ℝ) (c : Fin 8 → Fin 4096 → ℝ) (h : Fin 8) (i : Fin 4096) (l : Fin 128) : ℝ :=
  if hl : l.val < 64 then k h i ⟨l.val, hl⟩ else if l.val < 67 then 1 else if l.val = 67 then -(c h i * (1 / Real.log 2))
    else if l.val < 70 then 0 else if l.val < 73 then 1 else 0
def Vr (v : Fin 8 → Fin 4096 → Fin 64 → ℝ) (h : Fin 8) (i : Fin 4096) (l : Fin 128) : ℝ :=
  if hl : l.val < 64 then v h i ⟨l.val, hl⟩ else if l.val < 68 then 1 else 0
def Ur (u : Fin 8 → Fin 4096 → Fin 64 → ℝ) (del : Fin 8 → Fin 4096 → ℝ) (h : Fin 8) (i : Fin 4096) (l : Fin 128) : ℝ :=
  if hl : l.val < 64 then u h i ⟨l.val, hl⟩ else if l.val = 65 then -(del h i) else 0

theorem c2_real : c2 (l2d c) (ix3 h i r) = ((c h i * (1 / Real.log 2) : ℝ) : EReal) := by
  rw [c2_at, base_at, l2d_at, ← EReal.coe_mul]
theorem c2_lo : lo1 (c2 (l2d c)) (ix3 h i r) = ((0 : ℝ) : EReal) := lo1_at h i r _ _ (c2_real c h i r)
theorem c2_lo2 : lo1 (lo1 (c2 (l2d c))) (ix3 h i r) = ((0 : ℝ) : EReal) := lo1_at h i r _ _ (c2_lo c h i r)
section
variable (x : FVec Ideal S8x4096x1 .f32) (hx : ∀ h i r, x (ix3 h i r) = ((lam h i : ℝ) : EReal))
include hx
theorem l2_real : Val.l2 x (ix3 h i r) = ((-(lam h i * (1 / Real.log 2)) : ℝ) : EReal) := by
  rw [l2_at, base_at, hx, ← EReal.coe_mul, ← EReal.coe_neg]
theorem l2_lo : lo1 (Val.l2 x) (ix3 h i r) = ((0 : ℝ) : EReal) := lo1_at h i r _ _ (l2_real lam h i r x hx)
theorem l2_lo2 : lo1 (lo1 (Val.l2 x)) (ix3 h i r) = ((0 : ℝ) : EReal) := lo1_at h i r _ _ (l2_lo lam h i r x hx)
theorem dneg_real : dneg x (ix3 h i r) = ((-(lam h i) : ℝ) : EReal) := by rw [dneg_at, hx, ← EReal.coe_neg]
theorem dneg_lo : lo1 (dneg x) (ix3 h i r) = ((0 : ℝ) : EReal) := lo1_at h i r _ _ (dneg_real lam h i r x hx)
theorem dneg_lo2 : lo1 (lo1 (dneg x)) (ix3 h i r) = ((0 : ℝ) : EReal) := lo1_at h i r _ _ (dneg_lo lam h i r x hx)
theorem qs_real : qs (l3 q) (ix3 h i d) = ((q h i d * (1 / 8 * (1 / Real.log 2)) : ℝ) : EReal) := by
  rw [qs_at, base_at, eighth_f32, l3_at, ← EReal.coe_mul, ← EReal.coe_mul]

theorem packq_real : packq (l3 q) (l2d c) x (ix3 h i l) = ((Qr q c lam h i l : ℝ) : EReal) := by
  have hl := l.isLt
  unfold packq
  pointwise [pk]
  simp only [qs_real q lam h i _ x hx, c2_real, c2_lo, c2_lo2, ones3_at, l2_real lam h i _ x hx, l2_lo lam h i _ x hx, l2_lo2 lam h i _ x hx, zeros55_at]
  unfold Qr
  split_ifs <;> first | rfl | (exfalso; omega)
theorem packu_real : packu (l3 u) x (ix3 h i l) = ((Ur u lam h i l : ℝ) : EReal) := by
  have hl := l.isLt
  pointwise [packu]
  simp only [l3_at, dneg_real lam h i _ x hx, dneg_lo lam h i _ x hx, dneg_lo2 lam h i _ x hx, zeros1_at, zeros60_at]
  unfold Ur
  split_ifs <;> first | rfl | (exfalso; omega)
end
theorem packk_real : packk (l3 k) (l2d c) (ix3 h i l) = ((Kr k c h i l : ℝ) : EReal) := by
  have hl := l.isLt
  pointwise [packk]
  simp only [l3_at, c2_real, c2_lo, c2_lo2, ones3_at, zeros55_at, ← EReal.coe_neg]
  unfold Kr
  split_ifs <;> first | rfl | (exfalso; omega) | exact congrArg _ neg_zero
theorem packv_real : packv (l3 v) (ix3 h i l) = ((Vr v h i l : ℝ) : EReal) := by
  have hl := l.isLt
  pointwise [packv]
  simp only [l3_at, ones3_at, ones1_at, zeros60_at]
  unfold Vr
  split_ifs <;> first | rfl | (exfalso; omega)

/-- The packed product of a query row and a key row is the score, less the row's logarithm, in base two. -/
theorem lanes_qk : ∑ l, Qr q c lam h i l * Kr k c h j l = (sc q k c h i j - lam h i) * (1 / Real.log 2) := by
  rw [lanes _ (fun l hl => by unfold Qr; rw [dif_neg (by omega), if_neg (by omega), if_neg (by omega), if_neg (by omega), if_neg (by omega), zero_mul])]
  have e : ∑ d : Fin 64, Qr q c lam h i ⟨d.val, by omega⟩ * Kr k c h j ⟨d.val, by omega⟩ = (∑ d, q h i d * k h j d) * (1 / 8 * (1 / Real.log 2)) := by
    rw [Finset.sum_mul]
    refine Finset.sum_congr rfl fun d _ => ?_
    unfold Qr Kr
    rw [dif_pos d.isLt, dif_pos d.isLt]
    ring
  rw [e]
  simp [Qr, Kr, sc]
  ring
theorem lanes_uv : ∑ l, Ur u del h i l * Vr v h j l = T v u h i j - del h i := by
  rw [lanes _ (fun l hl => by unfold Ur; rw [dif_neg (by omega), if_neg (by omega), zero_mul])]
  have e : ∑ d : Fin 64, Ur u del h i ⟨d.val, by omega⟩ * Vr v h j ⟨d.val, by omega⟩ = T v u h i j := by
    refine Finset.sum_congr rfl fun d _ => ?_
    unfold Ur Vr
    rw [dif_pos d.isLt, dif_pos d.isLt]
  rw [e]
  simp [Ur, Vr]
  ring
end

end Cert.AttnIdeal.Val

end
-- ==== Proof.AttnEnd.lean ====
module

public import proofs.«01_k».proof.Proof.AttnReal
public import Idealize.ShloMosaic.Lib.Pipeline.ValueKit
public import Idealize.ShloMosaic.Lib.Pointwise

@[expose] public section

set_option maxRecDepth 16384

noncomputable section

namespace Cert.AttnIdeal.Val

open Idealize.ShloMosaic Idealize.ShloMosaic.TcCoe Idealize.SL.Sem
open Idealize.ShloMosaic.Pipeline (Dat)
open Cert.AttnIdeal Cert.AttnIdeal.Gen Cert.AttnIdeal.Body

open Cert.Reals Cert.AttnMath
/-- Two arrays with the same elements are the same. -/
theorem ext3 (X Y : FVec Ideal S8x4096x64 .f32) (h : ∀ h i d, X (ix3 h i d) = Y (ix3 h i d)) : X = Y :=
  funext fun y => (congrArg X (ix3_eta y)).symm.trans ((h (y 0) (y 1) (y 2)).trans (congrArg Y (ix3_eta y)))
theorem ext2 (X Y : FVec Ideal S8x4096 .f32) (h : ∀ h i, X (ix2 h i) = Y (ix2 h i)) : X = Y :=
  funext fun y => (congrArg X (ix2_eta y)).symm.trans ((h (y 0) (y 1)).trans (congrArg Y (ix2_eta y)))
/-! The four results after the region. -/
def resq (x : FVec Ideal S8x4096x128 .f32) : FVec Ideal S8x4096x64 .f32 :=
  mulf (extractStridedSlice S8x4096x64 ![0, 0, 0] x slices_S8x4096x128_S8x4096x64_0_0_0) (broadcastInDim S8x4096x64 ![] bcast_S_S8x4096x64 (constant S_ .f32 0x3E000000#32))
def resk (x : FVec Ideal S8x4096x128 .f32) : FVec Ideal S8x4096x64 .f32 :=
  mulf (extractStridedSlice S8x4096x64 ![0, 0, 0] x slices_S8x4096x128_S8x4096x64_0_0_0) (broadcastInDim S8x4096x64 ![] bcast_S_S8x4096x64 ln2)
def resv (x : FVec Ideal S8x4096x128 .f32) : FVec Ideal S8x4096x64 .f32 :=
  extractStridedSlice S8x4096x64 ![0, 0, 0] x slices_S8x4096x128_S8x4096x64_0_0_0
def resc (x y : FVec Ideal S8x4096x128 .f32) : FVec Ideal S8x4096 .f32 :=
  subf (shapeCast S8x4096 (extractStridedSlice S8x4096x1 ![0, 0, 64] x slices_S8x4096x128_S8x4096x1_0_0_64) shapeCasts_S8x4096x1_S8x4096)
    (shapeCast S8x4096 (extractStridedSlice S8x4096x1 ![0, 0, 67] y slices_S8x4096x128_S8x4096x1_0_0_67) shapeCasts_S8x4096x1_S8x4096)

section
variable (σ : Valuation τ sig (Elt Ideal))
theorem t_q : StableHlo.after hostOps1 σ (Proc.devRef .tc main_v91) = resq (σ (Proc.devRef .tc main_v88_0)) := by
  entry_read
  rfl
theorem t_k (h : σ (Proc.devRef .tc main_v31) = ln2) : StableHlo.after hostOps1 σ (Proc.devRef .tc main_v95) = resk (σ (Proc.devRef .tc main_v88_1)) := by
  entry_read
  rw [h]
  rfl
theorem t_v : StableHlo.after hostOps1 σ (Proc.devRef .tc main_v96) = resv (σ (Proc.devRef .tc main_v88_2)) := by
  entry_read
  rfl
theorem t_c : StableHlo.after hostOps1 σ (Proc.devRef .tc main_v101) = resc (σ (Proc.devRef .tc main_v88_0)) (σ (Proc.devRef .tc main_v88_1)) := by
  entry_read
  rfl
end

section
variable (m : (ℓ : Loc nD τ sig) → Buf (Elt Ideal) ℓ) (c : Dev nD)
abbrev wq : FVec Ideal S8x4096x128 .f32 := (dats m 0 c).arrAt 4 (cfgs 0).N
abbrev wk : FVec Ideal S8x4096x128 .f32 := (dats m 0 c).arrAt 5 (cfgs 0).N
abbrev wv : FVec Ideal S8x4096x128 .f32 := (dats m 0 c).arrAt 6 (cfgs 0).N
abbrev endV : Valuation τ sig (Elt Ideal) := Pipeline.withArrays (cfgs 0).spec c (V0 m c) fun w => (dats m 0 c).arrAt w (cfgs 0).N

theorem end_q : endV m c (Proc.devRef .tc main_v88_0) = wq m c := Pipeline.withArrays_arr (cfgs 0).spec (by decide) c _ _ 4
theorem end_k : endV m c (Proc.devRef .tc main_v88_1) = wk m c := Pipeline.withArrays_arr (cfgs 0).spec (by decide) c _ _ 5
theorem end_v : endV m c (Proc.devRef .tc main_v88_2) = wv m c := Pipeline.withArrays_arr (cfgs 0).spec (by decide) c _ _ 6
theorem end_l : endV m c (Proc.devRef .tc main_v31) = ln2 :=
  (Pipeline.withArrays_of_ne (cfgs 0).spec c _ _ main_v31 (by decide)).trans (V_ln2 m c)

theorem tail_q : Pipeline.afterTail₀ cfgs (dats m) 0 (V0 m) [hostOps1] c main_v91 = resq (wq m c) := by
  rw [← end_q]; exact t_q _
theorem tail_k : Pipeline.afterTail₀ cfgs (dats m) 0 (V0 m) [hostOps1] c main_v95 = resk (wk m c) := by
  rw [← end_k]; exact t_k _ (end_l m c)
theorem tail_v : Pipeline.afterTail₀ cfgs (dats m) 0 (V0 m) [hostOps1] c main_v96 = resv (wv m c) := by
  rw [← end_v]; exact t_v _
theorem tail_c : Pipeline.afterTail₀ cfgs (dats m) 0 (V0 m) [hostOps1] c main_v101 = resc (wq m c) (wk m c) := by
  rw [← end_q, ← end_k]; exact t_c _
end

section
variable (x y : FVec Ideal S8x4096x128 .f32) (h : Fin 8) (i : Fin 4096) (d : Fin 64)
theorem resq_at : resq x (ix3 h i d) = x (ix3 h i ⟨d.val, by omega⟩) * Ideal.ofBits .f32 0x3E000000#32 := by
  pointwise [resq]
theorem resk_at : resk x (ix3 h i d) = x (ix3 h i ⟨d.val, by omega⟩) * Ideal.log (Ideal.ofBits .f32 0x40000000#32) := by
  pointwise [resk, ln2]
theorem resv_at : resv x (ix3 h i d) = x (ix3 h i ⟨d.val, by omega⟩) := by
  pointwise [resv]
theorem resc_at : resc x y (ix2 h i) = x (ix3 h i 64) - y (ix3 h i 67) := by
  pointwise [resc]
end

section
variable (q k v u : Fin 8 → Fin 4096 → Fin 64 → ℝ) (c M : Fin 8 → Fin 4096 → ℝ) (h : Fin 8) (i j : Fin 4096) (d : Fin 64) (l : Fin 128)
variable (hM : ∀ h i r, top (l3 q) (l3 k) (l2d c) (ix3 h i r) = ((M h i : ℝ) : EReal))

/-- The packed arguments. -/
abbrev kq := packq (l3 q) (l2d c) (lse (l3 q) (l3 k) (l2d c))
abbrev kk := packk (l3 k) (l2d c)
abbrev kv := packv (l3 v)
abbrev ku := packu (l3 u) (delta (l3 u) (outp (l3 q) (l3 k) (l3 v) (l2d c)))
abbrev lam : Fin 8 → Fin 4096 → ℝ := fun h i => M h i + Real.log (L q k c M h i)
include hM
theorem kq_at : kq q k c (ix3 h i l) = ((Qr q c (lam q k c M) h i l : ℝ) : EReal) := packq_real q c _ h i l _ fun h i r => lse_real q k c M h i r hM
theorem ku_at : ku q k v u c (ix3 h i l) = ((Ur u (D q k v u c M) h i l : ℝ) : EReal) := packu_real u _ h i l _ fun h i r => delta_real q k v u c M h i r hM
theorem za_qk : za (kq q k c) (kk k c) h i j = (((sc q k c h i j - lam q k c M h i) * (1 / Real.log 2) : ℝ) : EReal) := by
  unfold za
  simp only [kq_at q k c M _ _ _ hM, packk_real, ← EReal.coe_mul, coe_sum, lanes_qk]
theorem za_uv : za (ku q k v u c) (kv v) h i j = ((T v u h i j - D q k v u c M h i : ℝ) : EReal) := by
  unfold za
  simp only [ku_at q k v u c M _ _ _ hM, packv_real, ← EReal.coe_mul, coe_sum, lanes_uv]
theorem pa_real : pa (kq q k c) (kk k c) h i j = ((P q k c M h i j : ℝ) : EReal) := by
  unfold pa
  by_cases hj : j.val ≤ i.val
  · rw [if_pos hj, za_qk q k c M h i j hM, Ideal.exp2_coe, ← exp_lse q k c M h i j hj]
    congr 1
    have h2 : Real.log 2 ≠ 0 := (Real.log_pos (by norm_num)).ne'
    rw [Real.rpow_eq_pow, Real.rpow_def_of_pos (by norm_num)]
    congr 1
    field_simp
  · rw [if_neg hj, Ideal.exp2_bot, P_hid q k c M h i j hj, EReal.coe_zero]
theorem wa_real : wa (kq q k c) (kk k c) (kv v) (ku q k v u c) h i j = ((S q k v u c M h i j : ℝ) : EReal) := by
  unfold wa
  rw [pa_real q k c M h i j hM, za_uv q k v u c M h i j hM, ← EReal.coe_mul]
  rfl
theorem dq_real : dqf (kq q k c) (kk k c) (kv v) (ku q k v u c) h i l = ((∑ j, S q k v u c M h i j * Kr k c h j l : ℝ) : EReal) := by
  unfold dqf
  simp only [wa_real q k v u c M _ _ _ hM, packk_real, ← EReal.coe_mul, coe_sum]
theorem dk_real : dkf (kq q k c) (kk k c) (kv v) (ku q k v u c) h j l = ((∑ i, S q k v u c M h i j * Qr q c (lam q k c M) h i l : ℝ) : EReal) := by
  unfold dkf
  simp only [wa_real q k v u c M _ _ _ hM, kq_at q k c M _ _ _ hM, ← EReal.coe_mul, coe_sum]
theorem dv_real : dvf (kq q k c) (kk k c) (ku q k v u c) h j l = ((∑ i, P q k c M h i j * Ur u (D q k v u c M) h i l : ℝ) : EReal) := by
  unfold dvf
  simp only [pa_real q k c M _ _ _ hM, ku_at q k v u c M _ _ _ hM, ← EReal.coe_mul, coe_sum]
omit hM

variable (X Y : FVec Ideal S8x4096x128 .f32)
include hM
theorem end_dq (hX : ∀ h i l, X (ix3 h i l) = dqf (kq q k c) (kk k c) (kv v) (ku q k v u c) h i l) : resq X = l3 (dq q k v u c M) := by
  refine ext3 _ _ fun h i d => ?_
  rw [resq_at, hX, dq_real q k v u c M _ _ _ hM, eighth_f32, ← EReal.coe_mul]
  refine congrArg _ (congrArg (· * _) (Finset.sum_congr rfl fun j _ => ?_))
  unfold Kr
  rw [dif_pos d.isLt]
  rfl
theorem end_dk (hX : ∀ h i l, X (ix3 h i l) = dkf (kq q k c) (kk k c) (kv v) (ku q k v u c) h i l) : resk X = l3 (dk q k v u c M) := by
  refine ext3 _ _ fun h i d => ?_
  rw [resk_at, hX, dk_real q k v u c M _ _ _ hM, Cert.Consts.two_f32, log_real (by norm_num), ← EReal.coe_mul]
  refine congrArg _ ?_
  have h2 : Real.log 2 ≠ 0 := (Real.log_pos (by norm_num)).ne'
  show _ = (∑ j, S q k v u c M h j i * q h j d) * (1 / 8)
  rw [Finset.sum_mul, Finset.sum_mul]
  refine Finset.sum_congr rfl fun i _ => ?_
  unfold Qr
  rw [dif_pos d.isLt]
  field_simp
theorem end_dv (hX : ∀ h i l, X (ix3 h i l) = dvf (kq q k c) (kk k c) (ku q k v u c) h i l) : resv X = l3 (dv q k u c M) := by
  refine ext3 _ _ fun h i d => ?_
  rw [resv_at, hX, dv_real q k v u c M _ _ _ hM]
  refine congrArg _ (Finset.sum_congr rfl fun i _ => ?_)
  unfold Ur
  rw [dif_pos d.isLt]
  rfl
theorem end_dc (hX : ∀ h i l, X (ix3 h i l) = dqf (kq q k c) (kk k c) (kv v) (ku q k v u c) h i l)
    (hY : ∀ h i l, Y (ix3 h i l) = dkf (kq q k c) (kk k c) (kv v) (ku q k v u c) h i l) : resc X Y = l2d (dc q k v u c M) := by
  refine ext2 _ _ fun h i => ?_
  rw [resc_at, hX, hY, dq_real q k v u c M _ _ _ hM, dk_real q k v u c M _ _ _ hM, ← EReal.coe_sub]
  refine congrArg _ (congrArg₂ (· - ·) (Finset.sum_congr rfl fun i _ => ?_) (Finset.sum_congr rfl fun i _ => ?_))
  · simp [Kr]
  · simp [Qr]
end

section
variable (m : (ℓ : Loc nD τ sig) → Buf (Elt Ideal) ℓ) (c : Dev nD)
variable (q k v u : Fin 8 → Fin 4096 → Fin 64 → ℝ) (g M : Fin 8 → Fin 4096 → ℝ)
variable (hq : mq m c = l3 q) (hk : mk m c = l3 k) (hv : mv m c = l3 v) (hg : mc m c = l2d g) (hu : mu m c = l3 u)
include hq hk hv hg hu
theorem got : aq m c = kq q k g ∧ ak m c = kk k g ∧ av m c = kv v ∧ au m c = ku q k v u g := by
  refine ⟨?_, ?_, ?_, ?_⟩
  · unfold kq; rw [← hq, ← hk, ← hg]; exact V_q m c
  · unfold kk; rw [← hk, ← hg]; exact V_k m c
  · unfold kv; rw [← hv]; exact V_v m c
  · unfold ku; rw [← hq, ← hk, ← hg, ← hv, ← hu]; exact V_u m c
variable (hM : ∀ h i r, top (l3 q) (l3 k) (l2d g) (ix3 h i r) = ((M h i : ℝ) : EReal))
include hM
theorem results : resq (wq m c) = l3 (dq q k v u g M) ∧ resk (wk m c) = l3 (dk q k v u g M) ∧ resv (wv m c) = l3 (dv q k u g M)
    ∧ resc (wq m c) (wk m c) = l2d (dc q k v u g M) := by
  obtain ⟨e1, e2, e3, e4⟩ := got m c q k v u g hq hk hv hg hu
  have x1 : ∀ h i l, wq m c (ix3 h i l) = dqf (kq q k g) (kk k g) (kv v) (ku q k v u g) h i l := fun h i l => by
    rw [← e1, ← e2, ← e3, ← e4]; exact congrFun (final_dq m c) (ix3 h i l)
  have x2 : ∀ h i l, wk m c (ix3 h i l) = dkf (kq q k g) (kk k g) (kv v) (ku q k v u g) h i l := fun h i l => by
    rw [← e1, ← e2, ← e3, ← e4]; exact congrFun (final_dk m c) (ix3 h i l)
  have x3 : ∀ h i l, wv m c (ix3 h i l) = dvf (kq q k g) (kk k g) (ku q k v u g) h i l := fun h i l => by
    rw [← e1, ← e2, ← e4]; exact congrFun (final_dv m c) (ix3 h i l)
  exact ⟨end_dq q k v u g M hM _ x1, end_dk q k v u g M hM _ x2, end_dv q k v u g M hM _ x3, end_dc q k v u g M hM _ _ x1 x2⟩
end

end Cert.AttnIdeal.Val

end
-- ==== Proof.AttnRef.lean ====
module

public import proofs.«01_k».proof.Proof.Gen.AttnRefIdeal.Read
public import proofs.«01_k».proof.Proof.AttnMath
public import Idealize.ShloMosaic.Lib.Claim
public import Idealize.ShloMosaic.Lib.WordCmp
public import Idealize.ShloMosaic.Lib.Pipeline.ValueKit
public import Idealize.ShloMosaic.Lib.Pointwise

@[expose] public section

set_option maxRecDepth 16384

noncomputable section

namespace Cert.AttnRefIdeal.Val

open Idealize.ShloMosaic Idealize.ShloMosaic.TcCoe
open Cert.AttnRefIdeal Cert.AttnRefIdeal.Gen Cert.AttnRefIdeal.Read
open Cert.Reals Cert.AttnMath

/-! The reference at an index, and its real value when the arguments are real. -/
theorem sel_ge (a b : ℕ) (ha : a < 2 ^ 31) (hb : b < 2 ^ 31) (x y : EReal) :
    Scalar.select (IntOp.cmpi .sge (BitVec.ofNat 32 a) (BitVec.ofNat 32 b)) x y = if b ≤ a then x else y := by
  rw [Idealize.ShloMosaic.WordCmp.cmpi_sge_ofNat ha hb]
  by_cases h : b ≤ a
  · rw [if_pos h, decide_eq_true h]; rfl
  · rw [if_neg h, decide_eq_false h]; rfl
theorem bot_f32 : Ideal.ofBits .f32 0xFF800000#32 = (⊥ : EReal) := by
  simp [Ideal.ofBits, Ideal.ieee]
theorem eighth_f32 : Ideal.ofBits .f32 0x3E000000#32 = (((1 : ℝ) / 8 : ℝ) : EReal) := by
  simp [Ideal.ofBits, Ideal.ieee, -EReal.coe_mul]; norm_num
theorem one_f32 : Ideal.ofBits .f32 0x3F800000#32 = ((1 : ℝ) : EReal) := by
  simp [Ideal.ofBits, Ideal.ieee, -EReal.coe_mul]; norm_num

def l3 (q : Fin 8 → Fin 4096 → Fin 64 → ℝ) : FVec Ideal S8x4096x64 .f32 := fun y => ((q (y 0) (y 1) (y 2) : ℝ) : EReal)
def l2d (c : Fin 8 → Fin 4096 → ℝ) : FVec Ideal S8x4096 .f32 := fun y => ((c (y 0) (y 1) : ℝ) : EReal)
theorem l3_at (q : Fin 8 → Fin 4096 → Fin 64 → ℝ) (h : Fin 8) (i : Fin 4096) (d : Fin 64) : l3 q (ix3 h i d) = ((q h i d : ℝ) : EReal) := rfl
theorem l2d_at (c : Fin 8 → Fin 4096 → ℝ) (h : Fin 8) (i : Fin 4096) : l2d c (ix2 h i) = ((c h i : ℝ) : EReal) := rfl

section
variable (x0 x1 x2 x4 : FVec Ideal S8x4096x64 .f32) (x3 : FVec Ideal S8x4096 .f32) (h : Fin 8) (i j : Fin 4096) (d : Fin 64) (r : Fin 1)

theorem v16_at : val_main_v16_0 (F := Ideal) x0 x1 x3 (ix3 h i j) =
    if j.val ≤ i.val then (∑ x, x0 (ix3 h i x) * x1 (ix3 h j x)) * Ideal.ofBits .f32 0x3E000000#32 + (x3 (ix2 h i) - x3 (ix2 h j)) else ⊥ := by
  pointwise [val_main_v16_0, val_main_v16_1, val_main_v8, val_main_call0_v2, val_main_call0_v0, val_main_cst_0, val_main_v15, val_main_v14, val_main_v13, val_main_v12, val_main_v11, val_main_v10,
    val_main_v9, val_main_v7, val_main_v6, val_main_v5, val_main_v4, val_main_v3, val_main_v2, val_main_v1, val_main_v0, val_main_cst]
  have e : id (constant (F := Ideal) S_ .f32 0xFF800000#32) ix0 = (⊥ : EReal) := bot_f32
  rw [sel_ge _ _ (by omega) (by omega), e]
theorem fold_at (x : FVec Ideal S8x4096x4096 .f32) : Host.reduce FloatOps.maximumf x (constant (F := Ideal) S_ .f32 0xFF800000#32) reducesTo_S8x4096x4096_S8x4096_d2 h_S_ (ix2 h i)
    = Finset.univ.fold max (⊥ : EReal) (fun j => x (ix3 h i j)) := by
  pointwise
  rw [bot_f32]
theorem v23_at : val_main_v23 (F := Ideal) (ix2 h i) = (⊥ : EReal) := by
  rw [← bot_f32]
  pointwise [val_main_v23, val_main_cst_3]
theorem v24_at : val_main_v24 (F := Ideal) x0 x1 x3 (ix2 h i) = Finset.univ.fold max (⊥ : EReal) (fun x => val_main_v16_0 (F := Ideal) x0 x1 x3 (ix3 h i x)) := by
  rw [val_main_v24_apply, val_main_v17, val_main_cst_1, fold_at, v23_at]
  exact bot_sup_eq _
theorem v37_at : val_main_v37 (F := Ideal) x0 x1 x3 (ix3 h i j) = Ideal.exp (val_main_v16_0 (F := Ideal) x0 x1 x3 (ix3 h i j) - val_main_v24 (F := Ideal) x0 x1 x3 (ix2 h i)) := by
  pointwise [val_main_v37, val_main_v36, val_main_v35, val_main_v34]
theorem v39_at : val_main_v39 (F := Ideal) x0 x1 x3 (ix3 h i r) = ∑ j, val_main_v37 (F := Ideal) x0 x1 x3 (ix3 h i j) := by
  pointwise [val_main_v39, val_main_v38, val_main_cst_9]
theorem v41_at : val_main_v41 (F := Ideal) x0 x1 x3 (ix3 h i j) = Ideal.div (val_main_v37 (F := Ideal) x0 x1 x3 (ix3 h i j)) (val_main_v39 (F := Ideal) x0 x1 x3 (ix3 h i 0)) := by
  pointwise [val_main_v41, val_main_v40]
theorem v44_at : val_main_v44 (F := Ideal) x0 x1 x3 (ix3 h i r) = Ideal.div (Ideal.ofBits .f32 0x3F800000#32) (val_main_v39 (F := Ideal) x0 x1 x3 (ix3 h i r) * val_main_v39 (F := Ideal) x0 x1 x3 (ix3 h i r)) := by
  pointwise [val_main_v44, val_main_v43, val_main_v42, val_main_cst_10]
theorem v48_at : val_main_v48 (F := Ideal) x2 x4 (ix3 h i j) = ∑ d, x4 (ix3 h i d) * x2 (ix3 h j d) := by
  pointwise [val_main_v48]
theorem v51_at : val_main_v51 (F := Ideal) x0 x1 x2 x3 x4 (ix3 h i j) = val_main_v48 (F := Ideal) x2 x4 (ix3 h i j) * val_main_v44 (F := Ideal) x0 x1 x3 (ix3 h i 0) * val_main_v37 (F := Ideal) x0 x1 x3 (ix3 h i j) := by
  pointwise [val_main_v51, val_main_v50, val_main_v49]
theorem v54_at : val_main_v54 (F := Ideal) x0 x1 x2 x3 x4 (ix3 h i r) = -∑ j, val_main_v51 (F := Ideal) x0 x1 x2 x3 x4 (ix3 h i j) := by
  pointwise [val_main_v54, val_main_v53, val_main_v52, val_main_cst_11]
theorem v60_at : val_main_v60 (F := Ideal) x0 x1 x2 x3 x4 (ix3 h i j) =
    (Ideal.div (val_main_v48 (F := Ideal) x2 x4 (ix3 h i j)) (val_main_v39 (F := Ideal) x0 x1 x3 (ix3 h i 0)) + val_main_v54 (F := Ideal) x0 x1 x2 x3 x4 (ix3 h i 0)) * val_main_v37 (F := Ideal) x0 x1 x3 (ix3 h i j) := by
  pointwise [val_main_v60, val_main_v59, val_main_v58, val_main_v57, val_main_v56, val_main_v55, val_main_cst_12]
  simp only [Finset.univ_unique, Finset.sum_singleton]
  rfl
theorem v61_at : val_main_v61 (F := Ideal) x0 x1 x2 x3 x4 (ix3 h i j) = if j.val ≤ i.val then val_main_v60 (F := Ideal) x0 x1 x2 x3 x4 (ix3 h i j) else 0 := by
  pointwise [val_main_v61, val_main_v16_1, val_main_call1_v0, val_main_call1_cst, val_main_v15, val_main_v14, val_main_v13, val_main_v12, val_main_v11, val_main_v10, val_main_v9]
  rw [sel_ge _ _ (by omega) (by omega)]
theorem v69_at : val_main_v69 (F := Ideal) x0 x1 x2 x3 x4 (ix2 h i) = (∑ j, -val_main_v61 (F := Ideal) x0 x1 x2 x3 x4 (ix3 h j i)) + ∑ j, val_main_v61 (F := Ideal) x0 x1 x2 x3 x4 (ix3 h i j) := by
  pointwise [val_main_v69, val_main_v68, val_main_v67, val_main_v66, val_main_v65, val_main_v64, val_main_v63, val_main_v62, val_main_cst_13, val_main_cst_14, val_main_cst_15, val_main_cst_16]
  simp only [Finset.univ_unique, Finset.sum_singleton]
theorem v47_at : val_main_v47 (F := Ideal) x0 x1 x3 x4 (ix3 h j d) = ∑ i, x4 (ix3 h i d) * val_main_v41 (F := Ideal) x0 x1 x3 (ix3 h i j) := by
  pointwise [val_main_v47, val_main_v46]
theorem v72_at : val_main_v72 (F := Ideal) x0 x1 x2 x3 x4 (ix3 h j d) = ∑ i, val_main_v61 (F := Ideal) x0 x1 x2 x3 x4 (ix3 h i j) * Ideal.ofBits .f32 0x3E000000#32 * x0 (ix3 h i d) := by
  pointwise [val_main_v72, val_main_v71, val_main_v70, val_main_cst_17]
theorem v73_at : val_main_v73 (F := Ideal) x0 x1 x2 x3 x4 (ix3 h i d) = ∑ j, val_main_v61 (F := Ideal) x0 x1 x2 x3 x4 (ix3 h i j) * Ideal.ofBits .f32 0x3E000000#32 * x1 (ix3 h j d) := by
  pointwise [val_main_v73, val_main_v71, val_main_v70, val_main_cst_17]
end

section
variable (q k v u : Fin 8 → Fin 4096 → Fin 64 → ℝ) (c M : Fin 8 → Fin 4096 → ℝ) (h : Fin 8) (i j : Fin 4096) (d : Fin 64) (r : Fin 1)

theorem logits_real : val_main_v16_0 (F := Ideal) (l3 q) (l3 k) (l2d c) (ix3 h i j) = if j.val ≤ i.val then ((sc q k c h i j : ℝ) : EReal) else ⊥ := by
  rw [v16_at]
  split_ifs
  · simp only [l3_at, l2d_at, ← EReal.coe_mul, coe_sum, eighth_f32, ← EReal.coe_sub, ← EReal.coe_add]
    rfl
  · rfl
variable (hM : ∀ h i, Finset.univ.fold max (⊥ : EReal) (fun j : Fin 4096 => if j.val ≤ i.val then ((sc q k c h i j : ℝ) : EReal) else ⊥) = ((M h i : ℝ) : EReal))
include hM
theorem e_real : val_main_v37 (F := Ideal) (l3 q) (l3 k) (l2d c) (ix3 h i j) = ((E q k c M h i j : ℝ) : EReal) := by
  rw [v37_at, v24_at]
  simp only [logits_real, hM]
  unfold E
  split_ifs
  · rw [← EReal.coe_sub, Ideal.exp_coe]
  · rw [EReal.bot_sub, Ideal.exp_bot]; rfl
theorem l_real : val_main_v39 (F := Ideal) (l3 q) (l3 k) (l2d c) (ix3 h i r) = ((L q k c M h i : ℝ) : EReal) := by
  rw [v39_at]
  simp only [e_real q k c M h i _ hM, coe_sum]
  rfl
theorem p_real : val_main_v41 (F := Ideal) (l3 q) (l3 k) (l2d c) (ix3 h i j) = ((P q k c M h i j : ℝ) : EReal) := by
  rw [v41_at, e_real q k c M h i _ hM, l_real q k c M h i _ hM, div_real _ (L_pos q k c M h i).ne']
  rfl
omit hM in
theorem t_real : val_main_v48 (F := Ideal) (l3 v) (l3 u) (ix3 h i j) = ((T v u h i j : ℝ) : EReal) := by
  rw [v48_at]
  simp only [l3_at, ← EReal.coe_mul, coe_sum]
  rfl
theorem d_real : val_main_v54 (F := Ideal) (l3 q) (l3 k) (l3 v) (l2d c) (l3 u) (ix3 h i r) = ((-(D q k v u c M h i / L q k c M h i) : ℝ) : EReal) := by
  have hL := (L_pos q k c M h i).ne'
  rw [v54_at]
  simp only [v51_at, v44_at, t_real, l_real q k c M h i _ hM, e_real q k c M h i _ hM, one_f32, ← EReal.coe_mul, div_real _ (mul_ne_zero hL hL), coe_sum, ← EReal.coe_neg]
  refine congrArg _ (congrArg _ ?_)
  unfold D P
  rw [Finset.sum_div]
  refine Finset.sum_congr rfl fun j _ => ?_
  field_simp
theorem s_real : val_main_v61 (F := Ideal) (l3 q) (l3 k) (l3 v) (l2d c) (l3 u) (ix3 h i j) = ((S q k v u c M h i j : ℝ) : EReal) := by
  have hL := (L_pos q k c M h i).ne'
  rw [v61_at]
  split_ifs with hj
  · rw [v60_at, t_real, l_real q k c M h i _ hM, e_real q k c M h i _ hM, d_real q k v u c M h i _ hM, div_real _ hL, ← EReal.coe_add, ← EReal.coe_mul]
    refine congrArg _ ?_
    unfold S P
    field_simp
    ring
  · unfold S
    rw [P_hid q k c M h i j hj, zero_mul]; rfl

theorem dq_real : val_main_v73 (F := Ideal) (l3 q) (l3 k) (l3 v) (l2d c) (l3 u) (ix3 h i d) = ((dq q k v u c M h i d : ℝ) : EReal) := by
  rw [v73_at]
  simp only [s_real q k v u c M _ _ _ hM, eighth_f32, l3_at, ← EReal.coe_mul, coe_sum]
  refine congrArg _ ?_
  unfold dq
  rw [Finset.sum_mul]
  exact Finset.sum_congr rfl fun j _ => by ring
theorem dk_real : val_main_v72 (F := Ideal) (l3 q) (l3 k) (l3 v) (l2d c) (l3 u) (ix3 h j d) = ((dk q k v u c M h j d : ℝ) : EReal) := by
  rw [v72_at]
  simp only [s_real q k v u c M _ _ _ hM, eighth_f32, l3_at, ← EReal.coe_mul, coe_sum]
  refine congrArg _ ?_
  unfold dk
  rw [Finset.sum_mul]
  exact Finset.sum_congr rfl fun j _ => by ring
theorem dv_real : val_main_v47 (F := Ideal) (l3 q) (l3 k) (l2d c) (l3 u) (ix3 h j d) = ((dv q k u c M h j d : ℝ) : EReal) := by
  rw [v47_at]
  simp only [p_real q k c M _ _ _ hM, l3_at, ← EReal.coe_mul, coe_sum]
  exact congrArg _ (Finset.sum_congr rfl fun i _ => mul_comm _ _)
theorem dc_real : val_main_v69 (F := Ideal) (l3 q) (l3 k) (l3 v) (l2d c) (l3 u) (ix2 h i) = ((dc q k v u c M h i : ℝ) : EReal) := by
  rw [v69_at]
  simp only [s_real q k v u c M _ _ _ hM, ← EReal.coe_neg, coe_sum, ← EReal.coe_add]
  refine congrArg _ ?_
  unfold dc
  rw [Finset.sum_neg_distrib]
  ring
end

end Cert.AttnRefIdeal.Val

end
-- ==== Proof.AttnFinite.lean ====
module

public import proofs.«01_k».proof.Defs
public import proofs.«01_k».proof.Proof.AttnEnd
public import proofs.«01_k».proof.Proof.AttnRef
public import proofs.«01_k».proof.Proof.Gen.Pre_attn_finite
public import Idealize.ShloMosaic.Lib.ReduceAll

@[expose] public section

set_option maxRecDepth 16384

noncomputable section

namespace Cert.AttnProof

open Idealize.ShloMosaic Idealize.ShloMosaic.TcCoe Idealize.SL.Sem
open Cert.Reals

instance one_index : Subsingleton Cert.Pre_attn_finite.S_.Idx := ⟨fun a b => funext fun x => x.elim0⟩

section
open Cert.Pre_attn_finite Cert.Pre_attn_finite.Gen

/-- What the precondition says of one array: every element is real. -/
theorem real3 (x : FVec Ideal S8x4096x64 .f32)
    (e : Host.reduce IntOp.andi (cmpf .olt (Host.absf x) (broadcastInDim S8x4096x64 ![] Facts.bcast_S_S8x4096x64 (constant (F := Ideal) S_ .f32 0x7F800000#32)))
      (constantI S_ 1 1#1) Facts.reducesTo_S8x4096x64_S_d0_1_2 Facts.h_S_ ix0 = 1#1) :
    ∃ q : Fin 8 → Fin 4096 → Fin 64 → ℝ, x = fun y => ((q (y 0) (y 1) (y 2) : ℝ) : EReal) := by
  have h : ∀ y, ∃ r : ℝ, x y = (r : EReal) := fun y => real_of_abs (Host.reduce_andi_all _ _ _ _ _ e y)
  choose f hf using h
  refine ⟨fun a b d => f (ix3 a b d), funext fun y => (hf y).trans ?_⟩
  exact congrArg (fun z => ((f z : ℝ) : EReal)) (ix3_eta y).symm
theorem real2 (x : FVec Ideal S8x4096 .f32)
    (e : Host.reduce IntOp.andi (cmpf .olt (Host.absf x) (broadcastInDim S8x4096 ![] Facts.bcast_S_S8x4096 (constant (F := Ideal) S_ .f32 0x7F800000#32)))
      (constantI S_ 1 1#1) Facts.reducesTo_S8x4096_S_d0_1 Facts.h_S_ ix0 = 1#1) :
    ∃ q : Fin 8 → Fin 4096 → ℝ, x = fun y => ((q (y 0) (y 1) : ℝ) : EReal) := by
  have h : ∀ y, ∃ r : ℝ, x y = (r : EReal) := fun y => real_of_abs (Host.reduce_andi_all _ _ _ _ _ e y)
  choose f hf using h
  refine ⟨fun a b => f (ix2 a b), funext fun y => (hf y).trans ?_⟩
  exact congrArg (fun z => ((f z : ℝ) : EReal)) (ix2_eta y).symm

theorem both {a b : BitVec 1} (h : IntOp.andi a b = 1#1) : a = 1#1 ∧ b = 1#1 := by
  revert a b; decide

theorem real_args (x0 x1 x2 : FVec Ideal S8x4096x64 .f32) (x3 : FVec Ideal S8x4096 .f32) (x4 : FVec Ideal S8x4096x64 .f32)
    (h : fn (F := Ideal) x0 x1 x2 x3 x4 = fun _ => 1#1) :
    (∃ q : Fin 8 → Fin 4096 → Fin 64 → ℝ, x0 = fun y => ((q (y 0) (y 1) (y 2) : ℝ) : EReal))
    ∧ (∃ q : Fin 8 → Fin 4096 → Fin 64 → ℝ, x1 = fun y => ((q (y 0) (y 1) (y 2) : ℝ) : EReal))
    ∧ (∃ q : Fin 8 → Fin 4096 → Fin 64 → ℝ, x2 = fun y => ((q (y 0) (y 1) (y 2) : ℝ) : EReal))
    ∧ (∃ q : Fin 8 → Fin 4096 → ℝ, x3 = fun y => ((q (y 0) (y 1) : ℝ) : EReal))
    ∧ (∃ q : Fin 8 → Fin 4096 → Fin 64 → ℝ, x4 = fun y => ((q (y 0) (y 1) (y 2) : ℝ) : EReal)) := by
  have e := congrFun h ix0
  unfold fn fn_part1 at e
  dsimp only at e
  obtain ⟨e, e4⟩ := both e
  obtain ⟨e, e3⟩ := both e
  obtain ⟨e, e2⟩ := both e
  obtain ⟨e0, e1⟩ := both e
  exact ⟨real3 _ e0, real3 _ e1, real3 _ e2, real2 _ e3, real3 _ e4⟩
end

end Cert.AttnProof

end
-- ==== Proof.Attn.lean ====
module

public import proofs.«01_k».proof.Defs
public import proofs.«01_k».proof.Proof.AttnBody
public import proofs.«01_k».proof.Proof.AttnIdealBody
public import proofs.«01_k».proof.Proof.AttnFinite
public import proofs.«01_k».proof.Proof.Gen.AttnRefIdeal.Run
public import proofs.«01_k».proof.Proof.Gen.AttnRefIdeal.Read
public import proofs.«01_k».proof.Proof.Gen.Pre_attn_finite

@[expose] public section

set_option maxRecDepth 16384

noncomputable section

namespace Cert.AttnProof

open Idealize.ShloMosaic Idealize.ShloMosaic.TcCoe Idealize.SL.Sem
open Cert.Reals

theorem frame : Cert.quiescent_Attn := fun m ρ _ => Cert.Attn.Body.frame m ρ
theorem frame_ideal : Cert.quiescent_AttnIdeal := fun m ρ _ => Cert.AttnIdeal.Body.frame m ρ
theorem frame_ideal_finite : Cert.quiescent_AttnIdeal_pre_attn_finite := fun m ρ _ => Cert.AttnIdeal.Body.frame m ρ
theorem frame_ref : Cert.quiescent_AttnRefIdeal := fun m ρ _ =>
  (θ_run Cert.AttnRefIdeal.defs _ _).mono (fun r h => ⟨fun c => (h c).2.2.2.2, sem_eq_zero_of_no_sems (by decide) r.2⟩)
    (Cert.AttnRefIdeal.Value.run (F := Ideal) m ρ)
theorem frame_ref_finite : Cert.quiescent_AttnRefIdeal_pre_attn_finite := fun m ρ _ => frame_ref m ρ trivial
theorem mask : Cert.preserves_Attn_AttnIdeal :=
  IdealRules.named_const.statement Cert.AttnIdeal.κ "mask" .f32 0xF149F2CA#32 ⊥ rfl

open Cert.AttnIdeal Cert.AttnIdeal.Body Cert.AttnIdeal.Val in
/-- The four results of the kernel are the reference's. -/
theorem values (m : (ℓ : Loc nD τ sig) → Buf (Elt Ideal) ℓ) (c : Dev nD)
    (h : Cert.Pre_attn_finite.fn (F := Ideal) (mq m c) (mk m c) (mv m c) (mc m c) (mu m c) = fun _ => 1#1) :
    Cert.AttnRefIdeal.Read.val_main_v73 (F := Ideal) (mq m c) (mk m c) (mv m c) (mc m c) (mu m c) = resq (wq m c)
    ∧ Cert.AttnRefIdeal.Read.val_main_v72 (F := Ideal) (mq m c) (mk m c) (mv m c) (mc m c) (mu m c) = resk (wk m c)
    ∧ Cert.AttnRefIdeal.Read.val_main_v47 (F := Ideal) (mq m c) (mk m c) (mc m c) (mu m c) = resv (wv m c)
    ∧ Cert.AttnRefIdeal.Read.val_main_v69 (F := Ideal) (mq m c) (mk m c) (mv m c) (mc m c) (mu m c) = resc (wq m c) (wk m c) := by
  obtain ⟨⟨q, hq⟩, ⟨k, hk⟩, ⟨v, hv⟩, ⟨g, hg⟩, ⟨u, hu⟩⟩ := real_args _ _ _ _ _ h
  obtain ⟨M, hM⟩ := top_real q k g
  obtain ⟨r1, r2, r3, r4⟩ := results m c q k v u g M hq hk hv hg hu hM
  have hM' : ∀ h i, Finset.univ.fold max (⊥ : EReal) (fun j : Fin 4096 => if j.val ≤ i.val then ((Cert.AttnMath.sc q k g h i j : ℝ) : EReal) else ⊥) = ((M h i : ℝ) : EReal) := by
    intro h i
    rw [← hM h i 0, top_at]
    simp only [Cert.AttnIdeal.Val.logits_real]
  rw [r1, r2, r3, r4, hq, hk, hv, hg, hu]
  refine ⟨ext3 _ _ fun h i d => ?_, ext3 _ _ fun h i d => ?_, ext3 _ _ fun h i d => ?_, ext2 _ _ fun h i => ?_⟩
  · exact Cert.AttnRefIdeal.Val.dq_real q k v u g M h i d hM'
  · exact Cert.AttnRefIdeal.Val.dk_real q k v u g M h i d hM'
  · exact Cert.AttnRefIdeal.Val.dv_real q k u g M h i d hM'
  · exact Cert.AttnRefIdeal.Val.dc_real q k v u g M h i hM'

open Cert.AttnIdeal Cert.AttnIdeal.Body Cert.AttnIdeal.Val in
theorem run_results (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v91) = resq (wq m c) ∧ r.2.mem ((c.tc : Thread nD τ).loc main_v95) = resk (wk m c)
      ∧ r.2.mem ((c.tc : Thread nD τ).loc main_v96) = resv (wv m c) ∧ r.2.mem ((c.tc : Thread nD τ).loc main_v101) = resc (wq m c) (wk m c)) := by
  run_from Cert.AttnIdeal.Body.run_main m g
  · exact tail_q m c
  · exact tail_k m c
  · exact tail_v m c
  · exact tail_c m c

open Cert.AttnIdeal.Body Cert.AttnIdeal.Val in
theorem algebraic : Cert.algebraic_AttnIdeal_AttnRefIdeal_pre_attn_finite := by
  intro m g m' g' hpre hagree
  refine ⟨fun c => resq (wq m c), fun c => resk (wk m c), fun c => resv (wv m c), fun c => resc (wq m c) (wk m c), ?_, ?_⟩
  · refine θ_run_mono (θ_run_and (run_results m g) (Cert.AttnIdeal.Body.frame m g)) ?_
    intro r h c
    obtain ⟨h1, h2, h3, h4⟩ := h.1 c
    exact ⟨h1, h2, h3, h4, h.2.1 c⟩
  · refine θ_run_mono (Cert.AttnRefIdeal.Value.run (F := Ideal) m' g') ?_
    intro r h c
    obtain ⟨h1, h2, h3, h4, h5⟩ := h c
    obtain ⟨a0, a1, a2, a3, a4⟩ := hagree c
    obtain ⟨r1, r2, r3, r4⟩ := values m c (hpre c)
    refine ⟨h1.trans ?_, h2.trans ?_, h3.trans ?_, h4.trans ?_, h5⟩
    · rw [Cert.AttnRefIdeal.Read.val_main_v73_eq, a0, a1, a2, a3, a4]; exact r1
    · rw [Cert.AttnRefIdeal.Read.val_main_v72_eq, a0, a1, a2, a3, a4]; exact r2
    · rw [Cert.AttnRefIdeal.Read.val_main_v47_eq, a0, a1, a3, a4]; exact r3
    · rw [Cert.AttnRefIdeal.Read.val_main_v69_eq, a0, a1, a2, a3, a4]; exact r4

theorem claims : Cert.quiescent_Attn ∧ Cert.quiescent_AttnIdeal ∧ Cert.quiescent_AttnIdeal_pre_attn_finite ∧ Cert.quiescent_AttnRefIdeal
    ∧ Cert.quiescent_AttnRefIdeal_pre_attn_finite ∧ Cert.preserves_Attn_AttnIdeal ∧ Cert.algebraic_AttnIdeal_AttnRefIdeal_pre_attn_finite :=
  ⟨frame, frame_ideal, frame_ideal_finite, frame_ref, frame_ref_finite, mask, algebraic⟩

end Cert.AttnProof

end
-- ==== Proof.FwdStep.lean ====
module

public import proofs.«01_k».proof.Proof.AttnTile
public import proofs.«01_k».proof.Proof.Reals

@[expose] public section

set_option maxRecDepth 16384

noncomputable section

namespace Cert.FwdStep

open Idealize.ShloMosaic
open Cert.Reals Cert.AttnIdeal.Val

/-! One row of the forward attention: the running maximum and the sums scaled to it, tile of keys by tile of keys. -/

/-- Key `j`'s term of the sum of column `d`, against the base `M`. -/
def G (r : ℕ) (z : Fin 4096 → ℝ) (w : Fin 128 → Fin 4096 → ℝ) (M : ℝ) (d : Fin 128) (j : Fin 4096) : ℝ :=
  if j.val ≤ r then (2 : ℝ) ^ (z j - M) * w d j else 0

/-- What the carried pair is after the keys below `H`: nothing seen, or a real base and the sums against it. -/
def Inv (r : ℕ) (z : Fin 4096 → ℝ) (w : Fin 128 → Fin 4096 → ℝ) (H : ℕ) (m : EReal) (a : Fin 128 → EReal) : Prop :=
  (H = 0 ∧ m = ⊥ ∧ ∀ d, a d = 0) ∨ ∃ M : ℝ, m = (M : EReal) ∧ ∀ d, a d = psum H (fun j => ((G r z w M d j : ℝ) : EReal))

theorem psum_scale (H : ℕ) (s : ℝ) (g g' : Fin 4096 → ℝ) (e : ∀ j, s * g j = g' j) :
    (s : EReal) * psum H (fun j => ((g j : ℝ) : EReal)) = psum H (fun j => ((g' j : ℝ) : EReal)) := by
  have c : ∀ g : Fin 4096 → ℝ, psum H (fun j => ((g j : ℝ) : EReal)) = ((∑ j, if j.val < H then g j else 0 : ℝ) : EReal) := by
    intro g
    rw [← coe_sum]
    refine Finset.sum_congr rfl fun j _ => ?_
    split_ifs <;> rfl
  rw [c, c, ← EReal.coe_mul, Finset.mul_sum]
  refine congrArg _ (Finset.sum_congr rfl fun j _ => ?_)
  rw [mul_ite, mul_zero, e]

variable (r : ℕ) (z : Fin 4096 → ℝ) (w : Fin 128 → Fin 4096 → ℝ) (H : ℕ)

/-- One tile of 1024 keys. -/
theorem step (hH : H + 1024 ≤ 4096) (hr : H ≤ r) (m m' : EReal) (a a' : Fin 128 → EReal) (f : Fin 1024 → EReal)
    (hf : ∀ x : Fin 1024, f x = if H + x.val ≤ r then ((z ⟨H + x.val, by omega⟩ : ℝ) : EReal) else ⊥)
    (hm : m' = max m (Finset.univ.fold max (⊥ : EReal) f))
    (ha : ∀ d, a' d = Ideal.exp2 (m - m') * a d + ∑ x : Fin 1024, Ideal.exp2 (f x - m') * ((w d ⟨H + x.val, by omega⟩ : ℝ) : EReal))
    (h : Inv r z w H m a) : Inv r z w (H + 1024) m' a' := by
  obtain ⟨t, ht⟩ := fold_max_real f (fun x => by rw [hf]; split_ifs <;> simp) 0 (by rw [hf, if_pos (by simpa using hr)]; simp)
  have key : ∀ M' : ℝ, m' = (M' : EReal) → ∀ d, ∑ x : Fin 1024, Ideal.exp2 (f x - m') * ((w d ⟨H + x.val, by omega⟩ : ℝ) : EReal)
      = ∑ x : Fin 1024, ((G r z w M' d ⟨H + x.val, by omega⟩ : ℝ) : EReal) := by
    intro M' e d
    refine Finset.sum_congr rfl fun x _ => ?_
    rw [hf, e]
    unfold G
    split_ifs with hx
    · rw [← EReal.coe_sub, Ideal.exp2_coe, ← EReal.coe_mul]; rfl
    · rw [EReal.bot_sub, Ideal.exp2_bot, zero_mul]; rfl
  rcases h with ⟨h0, hb, h1⟩ | ⟨M, hM, h1⟩
  · have e : m' = (t : EReal) := by rw [hm, ht, hb]; exact max_eq_right bot_le
    refine Or.inr ⟨t, e, fun d => ?_⟩
    rw [ha, h1, mul_zero, zero_add, key t e d, psum_add H 1024 hH, psum_zero H _ (fun j hj => absurd hj (by omega)), zero_add]
  · have e : m' = ((max M t : ℝ) : EReal) := by rw [hm, ht, hM]; exact (EReal.coe_strictMono.monotone.map_max).symm
    refine Or.inr ⟨max M t, e, fun d => ?_⟩
    rw [ha, h1, key _ e d, psum_add H 1024 hH, hM, e, ← EReal.coe_sub, Ideal.exp2_coe]
    refine congrArg (· + _) (psum_scale H _ _ _ fun j => ?_)
    unfold G
    split_ifs
    · rw [Real.rpow_eq_pow, ← mul_assoc, ← Real.rpow_add (by norm_num)]
      congr 2
      ring
    · rw [mul_zero]

/-- After the last visible tile the sums run over every key. -/
theorem final (hr : r < H) (hH : 0 < H) (hH' : H ≤ 4096) (m : EReal) (a : Fin 128 → EReal) (h : Inv r z w H m a) :
    ∃ M : ℝ, m = (M : EReal) ∧ ∀ d, a d = ((∑ j, G r z w M d j : ℝ) : EReal) := by
  rcases h with ⟨h0, _⟩ | ⟨M, hM, h1⟩
  · omega
  · refine ⟨M, hM, fun d => ?_⟩
    rw [h1, ← coe_sum]
    refine Finset.sum_congr rfl fun j _ => ?_
    split_ifs with hj
    · rfl
    · unfold G
      rw [if_neg (by omega)]; rfl

end Cert.FwdStep

end
-- ==== Proof.FwdTile.lean ====
module

public import proofs.«01_k».proof.Proof.Gen.AttnFwdIdeal.Frame
public import proofs.«01_k».proof.Proof.FwdStep
public import proofs.«01_k».proof.Proof.AttnReal
public import Idealize.ShloMosaic.Lib.Pipeline.ValueKit
public import Idealize.ShloMosaic.Lib.Pointwise

@[expose] public section

set_option maxRecDepth 16384

noncomputable section

namespace Cert.AttnFwdIdeal.Val

open Idealize.ShloMosaic Idealize.ShloMosaic.TcCoe Idealize.SL.Sem
open Cert.AttnFwdIdeal Cert.AttnFwdIdeal.Gen
open Cert.AttnIdeal.Val (sel_ge)

theorem lane_eq : ∀ n d : Fin 128, IntOp.cmpi .eq (BitVec.ofNat 32 d.val) (BitVec.ofNat 32 n.val) = if d = n then 1#1 else 0#1 := by decide +kernel
/-- A choice by the lane. -/
theorem sel_lane (n d : Fin 128) (x y : EReal) : Scalar.select (IntOp.cmpi .eq (BitVec.ofNat 32 d.val) (BitVec.ofNat 32 n.val)) x y = if d = n then x else y := by
  rw [lane_eq]
  split_ifs <;> simp [Scalar.select]
theorem named_log2e : (Named.named κ "log2e" 0x3FB8AA3B#32 : Ideal .f32) = ((1 / Real.log 2 : ℝ) : EReal) := by
  rw [one_div]; rfl
theorem mask_bot : (Named.named κ "mask" 0xF149F2CA#32 : Ideal .f32) = (⊥ : EReal) := rfl

section
variable (v1 v152 v155 : FVec Ideal S1x1024x128 .bf16) (a8 : FVec Ideal S1024x1 .f32) (a9 : FVec Ideal S1024x128 .f32) (r s : Fin 1024) (d : Fin 128)

theorem pay8_at : k0_pay8 (F := Ideal) v1 v152 (ix2 r s) = ∑ l : Fin 128, v1 (ix3 0 r l) * v152 (ix3 0 s l) := by
  pointwise [k0_pay8, k0_pay2]
theorem pay9_at : k0_pay9 (F := Ideal) v1 a8 v152 (ix2 r 0) = max (a8 (ix2 r 0)) (Finset.univ.fold max (⊥ : EReal) fun s => k0_pay8 (F := Ideal) v1 v152 (ix2 r s)) := by
  pointwise [k0_pay9]
  rw [Cert.AttnIdeal.Val.bot_f32]
theorem pay10_at : k0_pay10 (F := Ideal) v1 a8 a9 v152 v155 (ix2 r d) = Ideal.exp2 (a8 (ix2 r 0) - k0_pay9 (F := Ideal) v1 a8 v152 (ix2 r 0)) * a9 (ix2 r d)
    + ∑ s : Fin 1024, Ideal.exp2 (k0_pay8 (F := Ideal) v1 v152 (ix2 r s) - k0_pay9 (F := Ideal) v1 a8 v152 (ix2 r 0)) * v155 (ix3 0 s d) := by
  pointwise [k0_pay10]
  rfl
theorem pay22_at : k0_pay22 (F := Ideal) v1 v152 (ix2 r s) = if s.val ≤ r.val then ∑ l : Fin 128, v1 (ix3 0 r l) * v152 (ix3 0 s l) else ⊥ := by
  pointwise [k0_pay22, k0_pay20, k0_pay2]
  rw [mask_bot]
  exact sel_ge _ _ (by omega) (by omega) _ _
theorem pay23_at : k0_pay23 (F := Ideal) v1 a8 v152 (ix2 r 0) = max (a8 (ix2 r 0)) (Finset.univ.fold max (⊥ : EReal) fun s => k0_pay22 (F := Ideal) v1 v152 (ix2 r s)) := by
  pointwise [k0_pay23]
  rw [Cert.AttnIdeal.Val.bot_f32]
theorem pay25_at : k0_pay25 (F := Ideal) a8 a9 (k0_pay21 v155) (k0_pay23 v1 a8 v152) (k0_pay24 v1 a8 v152) (ix2 r d) = Ideal.exp2 (a8 (ix2 r 0) - k0_pay23 (F := Ideal) v1 a8 v152 (ix2 r 0)) * a9 (ix2 r d)
    + ∑ s : Fin 1024, Ideal.exp2 (k0_pay22 (F := Ideal) v1 v152 (ix2 r s) - k0_pay23 (F := Ideal) v1 a8 v152 (ix2 r 0)) * v155 (ix3 0 s d) := by
  pointwise [k0_pay25, k0_pay21, k0_pay24]
  rfl
end

section
variable (v0 : IVec S1024x128 32) (a m : FVec Ideal S1024x128 .f32) (b : FVec Ideal S1024x1 .f32) (q : FVec Ideal S1024x128 .bf16) (r : Fin 1024) (d : Fin 128)
theorem pay33_at : k0_pay33 (F := Ideal) (iota .tc S1024x128 32 [1] iota_S1024x128_d1_w32) a (ix2 r 0) = a (ix2 r 64) := by
  pointwise [k0_pay33]
  refine (Finset.sum_congr rfl fun x _ => sel_lane 64 x _ _).trans ?_
  rw [Finset.sum_ite_eq' Finset.univ (64 : Fin 128), if_pos (Finset.mem_univ _)]
theorem pay34_at : k0_pay34 (F := Ideal) v0 a (ix3 0 r d) = Ideal.div (a (ix2 r d)) (k0_pay33 (F := Ideal) v0 a (ix2 r 0)) := by
  pointwise [k0_pay34]
theorem pay35_at : k0_pay35 (F := Ideal) v0 b a (ix2 r 0) = b (ix2 r 0) + Ideal.log (k0_pay33 (F := Ideal) v0 a (ix2 r 0)) * ((1 / Real.log 2 : ℝ) : EReal) := by
  pointwise [k0_pay35]
  rw [named_log2e]
theorem pay1_at : k0_pay1 (F := Ideal) (iota .tc S1024x128 32 [1] iota_S1024x128_d1_w32) q b (Scalar.ofBits .f32 0x00000000#32) (ix3 0 r d)
    = if d = 70 then 0 - b (ix2 r 0) else if d = 71 then 0 - b (ix2 r 0) - (0 - b (ix2 r 0)) else if d = 72 then 0 - b (ix2 r 0) - (0 - b (ix2 r 0)) - (0 - b (ix2 r 0) - (0 - b (ix2 r 0))) else q (ix2 r d) := by
  pointwise [k0_pay1]
  rw [← sel_lane, ← sel_lane, ← sel_lane]
  rfl
end

end Cert.AttnFwdIdeal.Val

end
-- ==== Proof.FwdPoint.lean ====
module

public import proofs.«01_k».proof.Proof.FwdTile

@[expose] public section

set_option maxRecDepth 16384

noncomputable section

namespace Cert.AttnFwdIdeal.Val

open Idealize.ShloMosaic Idealize.ShloMosaic.TcCoe Idealize.SL.Sem
open Cert.AttnFwdIdeal Cert.AttnFwdIdeal.Gen
open Cert.FwdStep Cert.Reals

theorem off1_eq : ∀ (i : grid0.Coords) (k : Fin (k0_t1_loop i).trips), k0_off1 i k = ![0, k.val * 1024, 0] := by decide +kernel
theorem off2_eq : ∀ (i : grid0.Coords) (k : Fin (k0_t1_loop i).trips), k0_off2 i k = ![1, k.val * 1024, 0] := by decide +kernel
theorem off5_eq : ∀ (i : grid0.Coords), k0_off5 i = ![0, (i 1).val * 1024, 0] := by decide +kernel
theorem off6_eq : ∀ (i : grid0.Coords), k0_off6 i = ![1, (i 1).val * 1024, 0] := by decide +kernel
theorem trips_eq : ∀ (i : grid0.Coords), (k0_t1_loop i).trips = (i 1).val := by decide +kernel
theorem trips_eq' : ∀ (i : grid0.Coords), (k0_t2_loop i).trips = 0 := by decide +kernel

/-- A load of rows `o … o + n` of one head of an array of `R` rows, read at a row. -/
theorem ld_at {e : EltTy} {κ : Kind} {sp : Space} {R : ℕ} (v : View sig κ sp ⟨3, ![2, R, 128]⟩ e) (f : BufTy.Contents (Elt Ideal) v.ty) (off : Fin 3 → ℕ) (j0 : Fin 2) (o n : ℕ)
    (hoff : off = ![j0.val, o, 0]) (hn : o + n ≤ R) (inb : ∀ a : Fin 3, off a + (![1, n, 128] : Fin 3 → ℕ) a ≤ (⟨3, ![2, R, 128]⟩ : Shape).size a) (x : Fin n) (l : Fin 128) :
    v.readAt (Elt Ideal) (Rect.unit (s := ⟨3, ![2, R, 128]⟩) off ![1, n, 128] inb).toLoadRect f (ix3 (n0 := 1) (n1 := n) (n2 := 128) 0 x l)
      = v.read (Elt Ideal) f (ix3 j0 ⟨o + x.val, by have := x.isLt; omega⟩ l) := by
  subst hoff
  rw [View.readAt_eq_ld]
  refine congrArg (v.read (Elt Ideal) f) (funext fun a => Fin.ext ?_)
  fin_cases a
  · show j0.val + 1 * 0 = j0.val; omega
  · show o + 1 * x.val = o + x.val; omega
  · show 0 + 1 * l.val = l.val; omega

/-- A tile whose two heads are stored one after the other, read at a place. -/
theorem heads_at {e : EltTy} {κ : Kind} {sp : Space} (v : View sig κ sp S2x1024x128 e) (f : BufTy.Contents (Elt Ideal) v.ty)
    (i1 : ∀ a : Fin 3, (![1, 0, 0] : Fin 3 → ℕ) a + (![1, 1024, 128] : Fin 3 → ℕ) a ≤ S2x1024x128.size a) (i0 : ∀ a : Fin 3, (![0, 0, 0] : Fin 3 → ℕ) a + (![1, 1024, 128] : Fin 3 → ℕ) a ≤ S2x1024x128.size a)
    (w1 : (Rect.unit (s := S2x1024x128) ![1, 0, 0] ![1, 1024, 128] i1).shape.Idx → Elt Ideal e) (w0 : (Rect.unit (s := S2x1024x128) ![0, 0, 0] ![1, 1024, 128] i0).shape.Idx → Elt Ideal e)
    (j : Fin 2) (s : Fin 1024) (d : Fin 128) :
    v.read (Elt Ideal) (v.writes (Elt Ideal) f [⟨Rect.unit ![1, 0, 0] ![1, 1024, 128] i1, w1⟩, ⟨Rect.unit ![0, 0, 0] ![1, 1024, 128] i0, w0⟩]) (ix3 j s d)
      = if j = 1 then w1 (ix3 (n0 := 1) (n1 := 1024) (n2 := 128) 0 s d) else w0 (ix3 (n0 := 1) (n1 := 1024) (n2 := 128) 0 s d) := by
  by_cases hj : j = 1
  · subst hj
    rw [if_pos rfl]
    refine View.read_writes_cons_hit_of_coords v f _ w1 _ (ix3 (n0 := 1) (n1 := 1024) (n2 := 128) 0 s d) _ fun a => ?_
    fin_cases a
    · rfl
    · show s.val = 0 + 1 * s.val; omega
    · show d.val = 0 + 1 * d.val; omega
  · have hj0 : j = 0 := by omega
    subst hj0
    rw [if_neg hj]
    refine (View.read_writes_cons_miss_of_axis v f _ _ _ (0 : Fin 3) 1 1 rfl rfl rfl (Or.inl (by show 0 < 1; omega))).trans ?_
    refine View.read_writes_cons_hit_of_coords v f _ w0 _ (ix3 (n0 := 1) (n1 := 1024) (n2 := 128) 0 s d) _ fun a => ?_
    fin_cases a
    · rfl
    · show s.val = 0 + 1 * s.val; omega
    · show d.val = 0 + 1 * d.val; omega

/-- The score of a query row against the keys, and the values by column. -/
abbrev zr (Q : Fin 128 → ℝ) (K : Fin 4096 → Fin 128 → ℝ) (j : Fin 4096) : ℝ := ∑ l, Q l * K j l
abbrev wr (V : Fin 4096 → Fin 128 → ℝ) (d : Fin 128) (j : Fin 4096) : ℝ := V j d

section
variable (r H : ℕ) (x : Fin 1024) (Q : Fin 128 → ℝ) (K V : Fin 4096 → Fin 128 → ℝ)
    (v1 L W : FVec Ideal S1x1024x128 .bf16) (m : FVec Ideal S1024x1 .f32) (a : FVec Ideal S1024x128 .f32) (hH : H + 1024 ≤ 4096)
    (hQ : ∀ l, v1 (ix3 0 x l) = ((Q l : ℝ) : EReal))
    (hK : ∀ (s : Fin 1024) l, L (ix3 0 s l) = ((K ⟨H + s.val, by omega⟩ l : ℝ) : EReal))
    (hV : ∀ (s : Fin 1024) l, W (ix3 0 s l) = ((V ⟨H + s.val, by omega⟩ l : ℝ) : EReal))
include hQ hK

theorem score (s : Fin 1024) : ∑ l : Fin 128, v1 (ix3 0 x l) * L (ix3 0 s l) = ((zr Q K ⟨H + s.val, by omega⟩ : ℝ) : EReal) := by
  simp only [hQ, hK, ← EReal.coe_mul, coe_sum]

include hV
/-- A tile of keys all before the row. -/
theorem full (hr : H + 1024 ≤ r) (h : Inv r (zr Q K) (wr V) H (m (ix2 x 0)) fun d => a (ix2 x d)) :
    Inv r (zr Q K) (wr V) (H + 1024) (k0_pay9 (F := Ideal) v1 m L (ix2 x 0)) fun d => k0_pay10 (F := Ideal) v1 m a L W (ix2 x d) := by
  refine step r _ _ H hH (by omega) _ _ _ _ (fun s => k0_pay8 (F := Ideal) v1 L (ix2 x s)) (fun s => ?_) (pay9_at ..) (fun d => ?_) h
  · rw [pay8_at, score H x Q K v1 L hH hQ hK, if_pos (by omega)]
  · rw [pay10_at]
    simp only [hV]
/-- The tile of keys that the row lies in. -/
theorem diag (hr : H + x.val = r) (h : Inv r (zr Q K) (wr V) H (m (ix2 x 0)) fun d => a (ix2 x d)) :
    Inv r (zr Q K) (wr V) (H + 1024) (k0_pay23 (F := Ideal) v1 m L (ix2 x 0)) fun d => k0_pay25 (F := Ideal) m a (k0_pay21 W) (k0_pay23 v1 m L) (k0_pay24 v1 m L) (ix2 x d) := by
  refine step r _ _ H hH (by omega) _ _ _ _ (fun s => k0_pay22 (F := Ideal) v1 L (ix2 x s)) (fun s => ?_) (pay23_at ..) (fun d => ?_) h
  · rw [pay22_at, score H x Q K v1 L hH hQ hK]
    exact if_congr (by omega) rfl rfl
  · rw [pay25_at]
    simp only [hV]
end

section
variable (c : Dev nD) (i : grid0.Coords) (arg2 : Memref sig .tc .vmem S2x1024x128 .bf16) (harg2 : arg2.IsWhole) (arg3 : Memref sig .tc .vmem S2x4096x128 .bf16) (harg3 : arg3.IsWhole) (arg4 : Memref sig .tc .vmem S2x4096x128 .bf16) (harg4 : arg4.IsWhole) (arg5 : Memref sig .tc .vmem S2x1024x128 .f32) (harg5 : arg5.IsWhole) (arg6 : Memref sig .tc .vmem S2x1024x128 .bf16) (harg6 : arg6.IsWhole)
    (v1 v3 : Vec Ideal S1x1024x128 .bf16) (X3 : BufTy.Contents (Elt Ideal) arg3.view.ty) (X4 : BufTy.Contents (Elt Ideal) arg4.view.ty)

/-- The keys and the values a trip reads for the two heads. -/
abbrev rd (arg : Memref sig .tc .vmem S2x4096x128 .bf16) (X : BufTy.Contents (Elt Ideal) arg.view.ty) (off : Fin 3 → ℕ) (inb : ∀ a : Fin 3, off a + (![1, 1024, 128] : Fin 3 → ℕ) a ≤ S2x4096x128.size a) : FVec Ideal S1x1024x128 .bf16 :=
  View.readAt (Elt Ideal) arg.view (Rect.unit (s := S2x4096x128) off ![1, 1024, 128] inb).toLoadRect X

theorem trip_eq (k : Fin (k0_t1_loop i).trips) (acc : FVec Ideal S1024x1 .f32 × FVec Ideal S1024x128 .f32 × FVec Ideal S1024x1 .f32 × FVec Ideal S1024x128 .f32) :
    tripR_k0_t1 (F := Ideal) Variants.none c none i arg2 harg2 arg3 harg3 arg4 harg4 arg5 harg5 arg6 harg6 v1 v3 X3 X4 k acc
      = (k0_pay9 v1 acc.1 (rd arg3 X3 (k0_off1 i k) (k0_off1_inb i k)), k0_pay10 v1 acc.1 acc.2.1 (rd arg3 X3 (k0_off1 i k) (k0_off1_inb i k)) (rd arg4 X4 (k0_off1 i k) (k0_off1_inb i k)),
        k0_pay9 v3 acc.2.2.1 (rd arg3 X3 (k0_off2 i k) (k0_off2_inb i k)), k0_pay10 v3 acc.2.2.1 acc.2.2.2 (rd arg3 X3 (k0_off2 i k) (k0_off2_inb i k)) (rd arg4 X4 (k0_off2 i k) (k0_off2_inb i k))) := by
  unfold tripR_k0_t1 trip_k0_t1
  rfl

variable (x : Fin 1024) (Q : Fin 2 → Fin 128 → ℝ) (K V : Fin 2 → Fin 4096 → Fin 128 → ℝ)
    (hQ0 : ∀ l, v1 (ix3 0 x l) = ((Q 0 l : ℝ) : EReal)) (hQ1 : ∀ l, v3 (ix3 0 x l) = ((Q 1 l : ℝ) : EReal))
    (hK : ∀ j s l, arg3.view.read (Elt Ideal) X3 (ix3 j s l) = ((K j s l : ℝ) : EReal))
    (hV : ∀ j s l, arg4.view.read (Elt Ideal) X4 (ix3 j s l) = ((V j s l : ℝ) : EReal))
include hQ0 hQ1 hK hV

/-- After `n` trips both heads' carried pairs stand for the keys below `n * 1024`. -/
theorem loop (n : ℕ) (hn : n ≤ (i 1).val) :
    Inv ((i 1).val * 1024 + x.val) (zr (Q 0) (K 0)) (wr (V 0)) (n * 1024) ((st_k0_t1 (F := Ideal) Variants.none c none i arg2 harg2 arg3 harg3 arg4 harg4 arg5 harg5 arg6 harg6 v1 v3 X3 X4 (k0_pay4 (F := Ideal), k0_pay5 (F := Ideal), k0_pay6 (F := Ideal), k0_pay7 (F := Ideal)) n).1 (ix2 x 0))
      (fun d => (st_k0_t1 (F := Ideal) Variants.none c none i arg2 harg2 arg3 harg3 arg4 harg4 arg5 harg5 arg6 harg6 v1 v3 X3 X4 (k0_pay4 (F := Ideal), k0_pay5 (F := Ideal), k0_pay6 (F := Ideal), k0_pay7 (F := Ideal)) n).2.1 (ix2 x d))
    ∧ Inv ((i 1).val * 1024 + x.val) (zr (Q 1) (K 1)) (wr (V 1)) (n * 1024) ((st_k0_t1 (F := Ideal) Variants.none c none i arg2 harg2 arg3 harg3 arg4 harg4 arg5 harg5 arg6 harg6 v1 v3 X3 X4 (k0_pay4 (F := Ideal), k0_pay5 (F := Ideal), k0_pay6 (F := Ideal), k0_pay7 (F := Ideal)) n).2.2.1 (ix2 x 0))
      (fun d => (st_k0_t1 (F := Ideal) Variants.none c none i arg2 harg2 arg3 harg3 arg4 harg4 arg5 harg5 arg6 harg6 v1 v3 X3 X4 (k0_pay4 (F := Ideal), k0_pay5 (F := Ideal), k0_pay6 (F := Ideal), k0_pay7 (F := Ideal)) n).2.2.2 (ix2 x d)) := by
  have h4 : (i 1).val < 4 := (i 1).isLt
  induction n with
  | zero =>
    rw [st_k0_t1_zero]
    refine ⟨Or.inl ⟨by omega, ?_, fun d => ?_⟩, Or.inl ⟨by omega, ?_, fun d => ?_⟩⟩
    · pointwise [k0_pay4]
      exact mask_bot
    · pointwise [k0_pay5]
    · pointwise [k0_pay6]
      exact mask_bot
    · pointwise [k0_pay7]
  | succ n ih =>
    obtain ⟨i0, i1⟩ := ih (by omega)
    have hk : n < (k0_t1_loop i).trips := by rw [trips_eq]; omega
    have es : ∀ n : ℕ, (n + 1) * 1024 = n * 1024 + 1024 := fun n => by omega
    rw [es, st_k0_t1_succ Variants.none c none i arg2 harg2 arg3 harg3 arg4 harg4 arg5 harg5 arg6 harg6 v1 v3 X3 X4 _ ⟨n, hk⟩, trip_eq]
    refine ⟨full _ _ x (Q 0) (K 0) (V 0) _ _ _ _ _ (by omega) hQ0 (fun s l => ?_) (fun s l => ?_) (by omega) i0,
      full _ _ x (Q 1) (K 1) (V 1) _ _ _ _ _ (by omega) hQ1 (fun s l => ?_) (fun s l => ?_) (by omega) i1⟩
    · exact (ld_at arg3.view _ _ 0 _ 1024 (off1_eq i _) (by show n * 1024 + 1024 ≤ 4096; omega) _ s l).trans (hK 0 _ l)
    · exact (ld_at arg4.view _ _ 0 _ 1024 (off1_eq i _) (by show n * 1024 + 1024 ≤ 4096; omega) _ s l).trans (hV 0 _ l)
    · exact (ld_at arg3.view _ _ 1 _ 1024 (off2_eq i _) (by show n * 1024 + 1024 ≤ 4096; omega) _ s l).trans (hK 1 _ l)
    · exact (ld_at arg4.view _ _ 1 _ 1024 (off2_eq i _) (by show n * 1024 + 1024 ≤ 4096; omega) _ s l).trans (hV 1 _ l)
end

section
variable (c : Dev nD) (i : grid0.Coords) (arg2 : Memref sig .tc .vmem S2x1024x128 .bf16) (harg2 : arg2.IsWhole) (arg3 : Memref sig .tc .vmem S2x4096x128 .bf16) (harg3 : arg3.IsWhole) (arg4 : Memref sig .tc .vmem S2x4096x128 .bf16) (harg4 : arg4.IsWhole) (arg5 : Memref sig .tc .vmem S2x1024x128 .f32) (harg5 : arg5.IsWhole) (arg6 : Memref sig .tc .vmem S2x1024x128 .bf16) (harg6 : arg6.IsWhole)
    (x0 : Vec Ideal S2x1024x128 .bf16) (x1 x2 : Vec Ideal S2x4096x128 .bf16)

/-- The two heads' queries, what the loop leaves, and the tiles on the diagonal. -/
abbrev qa : FVec Ideal S1x1024x128 .bf16 := View.readAt (Elt Ideal) arg2.view (Rect.unit (s := S2x1024x128) ![0, 0, 0] S1x1024x128.size inb_S2x1024x128_S1x1024x128_0_0_0).toLoadRect (harg2.unread x0)
abbrev qb : FVec Ideal S1x1024x128 .bf16 := View.readAt (Elt Ideal) arg2.view (Rect.unit (s := S2x1024x128) ![1, 0, 0] S1x1024x128.size inb_S2x1024x128_S1x1024x128_1_0_0).toLoadRect (harg2.unread x0)
abbrev St : FVec Ideal S1024x1 .f32 × FVec Ideal S1024x128 .f32 × FVec Ideal S1024x1 .f32 × FVec Ideal S1024x128 .f32 :=
  st_k0_t1 (F := Ideal) Variants.none c none i arg2 harg2 arg3 harg3 arg4 harg4 arg5 harg5 arg6 harg6 (qa arg2 harg2 x0) (qb arg2 harg2 x0) (harg3.unread x1) (harg4.unread x2) (k0_pay4 (F := Ideal), k0_pay5 (F := Ideal), k0_pay6 (F := Ideal), k0_pay7 (F := Ideal)) (k0_t1_loop i).trips
abbrev da (arg : Memref sig .tc .vmem S2x4096x128 .bf16) (X : BufTy.Contents (Elt Ideal) arg.view.ty) : FVec Ideal S1x1024x128 .bf16 := rd arg X (k0_off5 i) (k0_off5_inb i)
abbrev db (arg : Memref sig .tc .vmem S2x4096x128 .bf16) (X : BufTy.Contents (Elt Ideal) arg.view.ty) : FVec Ideal S1x1024x128 .bf16 := rd arg X (k0_off6 i) (k0_off6_inb i)

/-- The largest score and the sums of a head after the diagonal tile. -/
abbrev mh (q : FVec Ideal S1x1024x128 .bf16) (m : FVec Ideal S1024x1 .f32) (k : FVec Ideal S1x1024x128 .bf16) : FVec Ideal S1024x1 .f32 := k0_pay23 q m k
abbrev ah (q : FVec Ideal S1x1024x128 .bf16) (m : FVec Ideal S1024x1 .f32) (a : FVec Ideal S1024x128 .f32) (k v : FVec Ideal S1x1024x128 .bf16) : FVec Ideal S1024x128 .f32 :=
  k0_pay25 m a (k0_pay21 v) (k0_pay23 q m k) (k0_pay24 q m k)
abbrev lanes : IVec S1024x128 32 := iota .tc S1024x128 32 [1] iota_S1024x128_d1_w32

theorem t2_zero (v1 v3 : Vec Ideal S1x1024x128 .bf16) (X3 : BufTy.Contents (Elt Ideal) arg3.view.ty) (X4 : BufTy.Contents (Elt Ideal) arg4.view.ty) (init : FVec Ideal S1024x1 .f32 × FVec Ideal S1024x128 .f32 × FVec Ideal S1024x1 .f32 × FVec Ideal S1024x128 .f32) :
    st_k0_t2 (F := Ideal) Variants.none c none i arg2 harg2 arg3 harg3 arg4 harg4 arg5 harg5 arg6 harg6 v1 v3 X3 X4 init (Scf.trips (k0_t2_loop i).lb (k0_t2_loop i).ub (k0_t2_loop i).st) = init := by
  have e : Scf.trips (k0_t2_loop i).lb (k0_t2_loop i).ub (k0_t2_loop i).st = 0 := trips_eq' i
  rw [e]
  rfl
theorem r2 : kernelRun0_A.sl.r_2 (F := Ideal) c i arg2 harg2 arg3 harg3 arg4 harg4 arg5 harg5 arg6 harg6 x0 x1 x2 = (St c i arg2 harg2 arg3 harg3 arg4 harg4 arg5 harg5 arg6 harg6 x0 x1 x2).1 := by
  unfold kernelRun0_A.sl.r_2
  rw [t2_zero]
theorem r3 : kernelRun0_A.sl.r_3 (F := Ideal) c i arg2 harg2 arg3 harg3 arg4 harg4 arg5 harg5 arg6 harg6 x0 x1 x2 = (St c i arg2 harg2 arg3 harg3 arg4 harg4 arg5 harg5 arg6 harg6 x0 x1 x2).2.1 := by
  unfold kernelRun0_A.sl.r_3
  rw [t2_zero]
theorem r4 : kernelRun0_A.sl.r_4 (F := Ideal) c i arg2 harg2 arg3 harg3 arg4 harg4 arg5 harg5 arg6 harg6 x0 x1 x2 = (St c i arg2 harg2 arg3 harg3 arg4 harg4 arg5 harg5 arg6 harg6 x0 x1 x2).2.2.1 := by
  unfold kernelRun0_A.sl.r_4
  rw [t2_zero]
theorem r5 : kernelRun0_A.sl.r_5 (F := Ideal) c i arg2 harg2 arg3 harg3 arg4 harg4 arg5 harg5 arg6 harg6 x0 x1 x2 = (St c i arg2 harg2 arg3 harg3 arg4 harg4 arg5 harg5 arg6 harg6 x0 x1 x2).2.2.2 := by
  unfold kernelRun0_A.sl.r_5
  rw [t2_zero]
theorem r7 : kernelRun0_A.sl.r_7 (F := Ideal) c i arg2 harg2 arg3 harg3 arg4 harg4 arg5 harg5 arg6 harg6 x0 x1 x2 = mh (qa arg2 harg2 x0) (St c i arg2 harg2 arg3 harg3 arg4 harg4 arg5 harg5 arg6 harg6 x0 x1 x2).1 (da i arg3 (harg3.unread x1)) := by
  unfold kernelRun0_A.sl.r_7
  rw [t2_zero]
theorem r8 : kernelRun0_A.sl.r_8 (F := Ideal) c i arg2 harg2 arg3 harg3 arg4 harg4 arg5 harg5 arg6 harg6 x0 x1 x2 = k0_pay24 (qa arg2 harg2 x0) (St c i arg2 harg2 arg3 harg3 arg4 harg4 arg5 harg5 arg6 harg6 x0 x1 x2).1 (da i arg3 (harg3.unread x1)) := by
  unfold kernelRun0_A.sl.r_8
  rw [t2_zero]
theorem r9 : kernelRun0_A.sl.r_9 (F := Ideal) c i arg2 harg2 arg3 harg3 arg4 harg4 arg5 harg5 arg6 harg6 x0 x1 x2 = mh (qb arg2 harg2 x0) (St c i arg2 harg2 arg3 harg3 arg4 harg4 arg5 harg5 arg6 harg6 x0 x1 x2).2.2.1 (db i arg3 (harg3.unread x1)) := by
  unfold kernelRun0_A.sl.r_9
  rw [r4]
  rfl
theorem r10 : kernelRun0_A.sl.r_10 (F := Ideal) c i arg2 harg2 arg3 harg3 arg4 harg4 arg5 harg5 arg6 harg6 x0 x1 x2 = ah (qb arg2 harg2 x0) (St c i arg2 harg2 arg3 harg3 arg4 harg4 arg5 harg5 arg6 harg6 x0 x1 x2).2.2.1 (St c i arg2 harg2 arg3 harg3 arg4 harg4 arg5 harg5 arg6 harg6 x0 x1 x2).2.2.2 (db i arg3 (harg3.unread x1)) (db i arg4 (harg4.unread x2)) := by
  unfold kernelRun0_A.sl.r_10
  rw [r4, r5]
  rfl

/-- What a point leaves in the output's block, by head. -/
theorem out3 (j : Fin 2) (x : Fin 1024) (d : Fin 128) : out0_A_3 (F := Ideal) c i arg2 harg2 arg3 harg3 arg4 harg4 arg5 harg5 arg6 harg6 x0 x1 x2 (ix3 j x d)
    = if j = 1 then k0_pay34 (F := Ideal) lanes (ah (qb arg2 harg2 x0) (St c i arg2 harg2 arg3 harg3 arg4 harg4 arg5 harg5 arg6 harg6 x0 x1 x2).2.2.1 (St c i arg2 harg2 arg3 harg3 arg4 harg4 arg5 harg5 arg6 harg6 x0 x1 x2).2.2.2 (db i arg3 (harg3.unread x1)) (db i arg4 (harg4.unread x2))) (ix3 0 x d)
      else k0_pay34 (F := Ideal) lanes (ah (qa arg2 harg2 x0) (St c i arg2 harg2 arg3 harg3 arg4 harg4 arg5 harg5 arg6 harg6 x0 x1 x2).1 (St c i arg2 harg2 arg3 harg3 arg4 harg4 arg5 harg5 arg6 harg6 x0 x1 x2).2.1 (da i arg3 (harg3.unread x1)) (da i arg4 (harg4.unread x2))) (ix3 0 x d) := by
  unfold out0_A_3 kernelRun0_A
  refine (heads_at VO0_3 _ _ _ _ _ j x d).trans ?_
  rw [r10, r2, r3, r7, r8]
  rfl
/-- What a point leaves in the packed queries' block, by head. -/
theorem out4 (j : Fin 2) (x : Fin 1024) (d : Fin 128) : out0_A_4 (F := Ideal) c i arg2 harg2 arg3 harg3 arg4 harg4 arg5 harg5 arg6 harg6 x0 x1 x2 (ix3 j x d)
    = if j = 1 then k0_pay1 (F := Ideal) lanes (k0_pay3 (qb arg2 harg2 x0)) (k0_pay35 (F := Ideal) lanes (mh (qb arg2 harg2 x0) (St c i arg2 harg2 arg3 harg3 arg4 harg4 arg5 harg5 arg6 harg6 x0 x1 x2).2.2.1 (db i arg3 (harg3.unread x1))) (ah (qb arg2 harg2 x0) (St c i arg2 harg2 arg3 harg3 arg4 harg4 arg5 harg5 arg6 harg6 x0 x1 x2).2.2.1 (St c i arg2 harg2 arg3 harg3 arg4 harg4 arg5 harg5 arg6 harg6 x0 x1 x2).2.2.2 (db i arg3 (harg3.unread x1)) (db i arg4 (harg4.unread x2)))) (Scalar.ofBits .f32 0x00000000#32) (ix3 0 x d)
      else k0_pay1 (F := Ideal) lanes (k0_pay2 (qa arg2 harg2 x0)) (k0_pay35 (F := Ideal) lanes (mh (qa arg2 harg2 x0) (St c i arg2 harg2 arg3 harg3 arg4 harg4 arg5 harg5 arg6 harg6 x0 x1 x2).1 (da i arg3 (harg3.unread x1))) (ah (qa arg2 harg2 x0) (St c i arg2 harg2 arg3 harg3 arg4 harg4 arg5 harg5 arg6 harg6 x0 x1 x2).1 (St c i arg2 harg2 arg3 harg3 arg4 harg4 arg5 harg5 arg6 harg6 x0 x1 x2).2.1 (da i arg3 (harg3.unread x1)) (da i arg4 (harg4.unread x2)))) (Scalar.ofBits .f32 0x00000000#32) (ix3 0 x d) := by
  unfold out0_A_4 kernelRun0_A
  refine (heads_at VO0_4 _ _ _ _ _ j x d).trans ?_
  unfold kernelRun0_A.sl.r_12 kernelRun0_A.sl.r_11
  rw [r9, r10, r2, r3, r7, r8]
  rfl
end

/-- The row's sums as a real, its output and its logarithm. -/
abbrev Sg (r : ℕ) (z : Fin 4096 → ℝ) (w : Fin 128 → Fin 4096 → ℝ) (M : ℝ) (d : Fin 128) : ℝ := ∑ j, G r z w M d j
theorem Sg_pos (r : ℕ) (z : Fin 4096 → ℝ) (w : Fin 128 → Fin 4096 → ℝ) (M : ℝ) (d : Fin 128) (h1 : ∀ j, w d j = 1) : 0 < Sg r z w M d := by
  refine Finset.sum_pos' (fun j _ => ?_) ⟨0, Finset.mem_univ _, ?_⟩
  · unfold G
    split_ifs
    · rw [h1, mul_one]; exact (Real.rpow_pos_of_pos (by norm_num) _).le
    · exact le_refl _
  · unfold G
    rw [if_pos (by show 0 ≤ r; omega), h1, mul_one]; exact Real.rpow_pos_of_pos (by norm_num) _

section
variable (r H : ℕ) (z : Fin 4096 → ℝ) (w : Fin 128 → Fin 4096 → ℝ) (x : Fin 1024) (m : FVec Ideal S1024x1 .f32) (a : FVec Ideal S1024x128 .f32)
/-- A head's row of the two results, from its maximum and sums. -/
theorem row_out (q : FVec Ideal S1024x128 .bf16) (hr : r < H) (hH : H ≤ 4096) (h1 : ∀ j, w 64 j = 1) (h : Inv r z w H (m (ix2 x 0)) fun d => a (ix2 x d)) :
    ∃ M : ℝ, (∀ d, k0_pay34 (F := Ideal) lanes a (ix3 0 x d) = ((Sg r z w M d / Sg r z w M 64 : ℝ) : EReal))
      ∧ ∀ d, k0_pay1 (F := Ideal) lanes q (k0_pay35 (F := Ideal) lanes m a) (Scalar.ofBits .f32 0x00000000#32) (ix3 0 x d)
        = if d = 70 then ((-(M + Real.log (Sg r z w M 64) * (1 / Real.log 2)) : ℝ) : EReal) else if d = 71 then ((0 : ℝ) : EReal) else if d = 72 then ((0 : ℝ) : EReal) else q (ix2 x d) := by
  obtain ⟨M, hM, hA⟩ := final r z w H hr (by omega) hH _ _ h
  have hp := Sg_pos r z w M 64 h1
  refine ⟨M, fun d => ?_, fun d => ?_⟩
  · rw [pay34_at, pay33_at, hA, hA, div_real _ hp.ne']
  · have e : (0 : EReal) - k0_pay35 (F := Ideal) lanes m a (ix2 x 0) = ((-(M + Real.log (Sg r z w M 64) * (1 / Real.log 2)) : ℝ) : EReal) := by
      rw [pay35_at, pay33_at, hA, hM, log_real hp, ← EReal.coe_mul, ← EReal.coe_add, ← EReal.coe_zero, ← EReal.coe_sub, zero_sub]
    rw [pay1_at, e, ← EReal.coe_sub, sub_self, ← EReal.coe_sub, sub_self]
end

section
variable (c : Dev nD) (i : grid0.Coords) (arg2 : Memref sig .tc .vmem S2x1024x128 .bf16) (harg2 : arg2.IsWhole) (arg3 : Memref sig .tc .vmem S2x4096x128 .bf16) (harg3 : arg3.IsWhole) (arg4 : Memref sig .tc .vmem S2x4096x128 .bf16) (harg4 : arg4.IsWhole) (arg5 : Memref sig .tc .vmem S2x1024x128 .f32) (harg5 : arg5.IsWhole) (arg6 : Memref sig .tc .vmem S2x1024x128 .bf16) (harg6 : arg6.IsWhole)
    (x0 : Vec Ideal S2x1024x128 .bf16) (x1 x2 : Vec Ideal S2x4096x128 .bf16)
    (x : Fin 1024) (Q : Fin 2 → Fin 128 → ℝ) (K V : Fin 2 → Fin 4096 → Fin 128 → ℝ)
    (hQ : ∀ j l, x0 (ix3 j x l) = ((Q j l : ℝ) : EReal)) (hK : ∀ j s l, x1 (ix3 j s l) = ((K j s l : ℝ) : EReal)) (hV : ∀ j s l, x2 (ix3 j s l) = ((V j s l : ℝ) : EReal))
    (h1 : ∀ j s, V j s 64 = 1)
include hQ hK hV h1
/-- A row of the two results of a point. -/
theorem point_row (j : Fin 2) : ∃ M : ℝ,
    (∀ d, out0_A_3 (F := Ideal) c i arg2 harg2 arg3 harg3 arg4 harg4 arg5 harg5 arg6 harg6 x0 x1 x2 (ix3 j x d) = ((Sg ((i 1).val * 1024 + x.val) (zr (Q j) (K j)) (wr (V j)) M d / Sg ((i 1).val * 1024 + x.val) (zr (Q j) (K j)) (wr (V j)) M 64 : ℝ) : EReal))
    ∧ ∀ d, out0_A_4 (F := Ideal) c i arg2 harg2 arg3 harg3 arg4 harg4 arg5 harg5 arg6 harg6 x0 x1 x2 (ix3 j x d)
      = if d = 70 then ((-(M + Real.log (Sg ((i 1).val * 1024 + x.val) (zr (Q j) (K j)) (wr (V j)) M 64) * (1 / Real.log 2)) : ℝ) : EReal) else if d = 71 then ((0 : ℝ) : EReal) else if d = 72 then ((0 : ℝ) : EReal) else ((Q j d : ℝ) : EReal) := by
  have h4 : (i 1).val < 4 := (i 1).isLt
  have q0 : ∀ l, qa arg2 harg2 x0 (ix3 0 x l) = ((Q 0 l : ℝ) : EReal) := fun l =>
    (ld_at arg2.view _ _ 0 0 1024 rfl (by omega) _ x l).trans ((congrFun (harg2.read_unread x0) _).trans (by simpa using hQ 0 l))
  have q1 : ∀ l, qb arg2 harg2 x0 (ix3 0 x l) = ((Q 1 l : ℝ) : EReal) := fun l =>
    (ld_at arg2.view _ _ 1 0 1024 rfl (by omega) _ x l).trans ((congrFun (harg2.read_unread x0) _).trans (by simpa using hQ 1 l))
  have k3 : ∀ j s l, arg3.view.read (Elt Ideal) (harg3.unread x1) (ix3 j s l) = ((K j s l : ℝ) : EReal) := fun j s l => (congrFun (harg3.read_unread x1) _).trans (hK j s l)
  have k4 : ∀ j s l, arg4.view.read (Elt Ideal) (harg4.unread x2) (ix3 j s l) = ((V j s l : ℝ) : EReal) := fun j s l => (congrFun (harg4.read_unread x2) _).trans (hV j s l)
  obtain ⟨i0, i1⟩ := loop c i arg2 harg2 arg3 harg3 arg4 harg4 arg5 harg5 arg6 harg6 (qa arg2 harg2 x0) (qb arg2 harg2 x0) (harg3.unread x1) (harg4.unread x2) x Q K V q0 q1 k3 k4 (k0_t1_loop i).trips (by rw [trips_eq])
  have ht := trips_eq i
  have hl : (k0_t1_loop i).trips * 1024 + 1024 ≤ 4096 := by omega
  by_cases hj : j = 1
  · subst hj
    have hd := diag ((i 1).val * 1024 + x.val) ((k0_t1_loop i).trips * 1024) x (Q 1) (K 1) (V 1) (qb arg2 harg2 x0) (db i arg3 (harg3.unread x1)) (db i arg4 (harg4.unread x2)) _ _ hl q1
      (fun s l => (ld_at arg3.view _ _ 1 ((k0_t1_loop i).trips * 1024) 1024 (by rw [off6_eq, ht]; rfl) hl _ s l).trans (k3 1 _ l))
      (fun s l => (ld_at arg4.view _ _ 1 ((k0_t1_loop i).trips * 1024) 1024 (by rw [off6_eq, ht]; rfl) hl _ s l).trans (k4 1 _ l)) (by omega) i1
    obtain ⟨M, a, b⟩ := row_out _ _ _ _ x _ _ (k0_pay3 (qb arg2 harg2 x0)) (by omega) hl (h1 1) hd
    refine ⟨M, fun d => ?_, fun d => ?_⟩
    · rw [out3, if_pos rfl]; exact a d
    · rw [out4, if_pos rfl]
      have e : k0_pay3 (F := Ideal) (qb arg2 harg2 x0) (ix2 x d) = ((Q 1 d : ℝ) : EReal) :=
        (show _ = qb arg2 harg2 x0 (ix3 0 x d) by pointwise [k0_pay3]).trans (q1 d)
      refine (b d).trans ?_
      rw [e]
  · have hj0 : j = 0 := by omega
    subst hj0
    have hd := diag ((i 1).val * 1024 + x.val) ((k0_t1_loop i).trips * 1024) x (Q 0) (K 0) (V 0) (qa arg2 harg2 x0) (da i arg3 (harg3.unread x1)) (da i arg4 (harg4.unread x2)) _ _ hl q0
      (fun s l => (ld_at arg3.view _ _ 0 ((k0_t1_loop i).trips * 1024) 1024 (by rw [off5_eq, ht]; rfl) hl _ s l).trans (k3 0 _ l))
      (fun s l => (ld_at arg4.view _ _ 0 ((k0_t1_loop i).trips * 1024) 1024 (by rw [off5_eq, ht]; rfl) hl _ s l).trans (k4 0 _ l)) (by omega) i0
    obtain ⟨M, a, b⟩ := row_out _ _ _ _ x _ _ (k0_pay2 (qa arg2 harg2 x0)) (by omega) hl (h1 0) hd
    refine ⟨M, fun d => ?_, fun d => ?_⟩
    · rw [out3, if_neg (by decide)]; exact a d
    · rw [out4, if_neg (by decide)]
      have e : k0_pay2 (F := Ideal) (qa arg2 harg2 x0) (ix2 x d) = ((Q 0 d : ℝ) : EReal) :=
        (show _ = qa arg2 harg2 x0 (ix3 0 x d) by pointwise [k0_pay2]).trans (q0 d)
      refine (b d).trans ?_
      rw [e]
end

end Cert.AttnFwdIdeal.Val

end
-- ==== Proof.FwdHost.lean ====
module

public import proofs.«01_k».proof.Proof.Gen.AttnFwdIdeal.Frame
public import proofs.«01_k».proof.Proof.AttnReal
public import Idealize.ShloMosaic.Lib.Claim
public import Idealize.ShloMosaic.Lib.Pipeline.ValueKit
public import Idealize.ShloMosaic.Lib.Pointwise

@[expose] public section

set_option maxRecDepth 16384

noncomputable section

namespace Cert.AttnFwdIdeal.Val

open Idealize.ShloMosaic Idealize.ShloMosaic.TcCoe Idealize.SL.Sem
open Idealize.ShloMosaic.Pipeline (Dat)
open Cert.AttnFwdIdeal Cert.AttnFwdIdeal.Gen Cert.Reals Cert.AttnMath
open Cert.AttnIdeal.Val (packk packv qs c2 lo1 rnd rnd1 ones3 ln2 l3 l2d Qr Kr Vr qs_real c2_real c2_lo c2_lo2 ones3_at zero_bf packk_real packv_real)

/-! What the host lines before the region leave in the three packed arrays. -/
def zeros58 : FVec Ideal S8x4096x58 .bf16 := broadcastInDim S8x4096x58 ![] bcast_S_S8x4096x58 (constant S_ .bf16 0x0000#16)
/-- The packed query rows. -/
def pf (x : FVec Ideal S8x4096x64 .bf16) (c0 c1 c2 : FVec Ideal S8x4096x1 .bf16) (o : FVec Ideal S8x4096x3 .bf16) (e : FVec Ideal S8x4096x58 .bf16) : FVec Ideal S8x4096x128 .bf16 :=
  concatenate S8x4096x128 2 [⟨S8x4096x64, x⟩, ⟨S8x4096x1, c0⟩, ⟨S8x4096x1, c1⟩, ⟨S8x4096x1, c2⟩, ⟨S8x4096x3, o⟩, ⟨S8x4096x58, e⟩] concatenates_S8x4096x64_S8x4096x1_S8x4096x1_S8x4096x1_S8x4096x3_S8x4096x58_S8x4096x128_d2
def packf (q : FVec Ideal S8x4096x64 .f32) (cs : FVec Ideal S8x4096 .f32) : FVec Ideal S8x4096x128 .bf16 :=
  pf (rnd (qs q)) (rnd1 (c2 cs)) (rnd1 (lo1 (c2 cs))) (rnd1 (lo1 (lo1 (c2 cs)))) ones3 zeros58

section
variable (m : (ℓ : Loc nD τ sig) → Buf (Elt Ideal) ℓ) (c : Dev nD)
abbrev mq : FVec Ideal S8x4096x64 .f32 := m ((c : Thread nD τ).loc main_arg0)
abbrev mk : FVec Ideal S8x4096x64 .f32 := m ((c : Thread nD τ).loc main_arg1)
abbrev mv : FVec Ideal S8x4096x64 .f32 := m ((c : Thread nD τ).loc main_arg2)
abbrev mc : FVec Ideal S8x4096 .f32 := m ((c : Thread nD τ).loc main_arg3)

theorem V_q : V m c main_v21 = packf (mq m c) (mc m c) := by
  entry_read
  rfl
theorem V_k : V m c main_v27 = packk (mk m c) (mc m c) := by
  entry_read
  rfl
theorem V_v : V m c main_v30 = packv (mv m c) := by
  entry_read
  rfl
theorem V_ln2 : V m c main_v2 = ln2 := by
  entry_read
  rfl
end

theorem zeros58_at (h : Fin 8) (i : Fin 4096) (s : Fin 58) : zeros58 (ix3 h i s) = ((0 : ℝ) : EReal) := by
  rw [← zero_bf]; pointwise [zeros58]
/-- The packed query rows over the reals: no row's logarithm is taken off. -/
theorem packf_real (q : Fin 8 → Fin 4096 → Fin 64 → ℝ) (c : Fin 8 → Fin 4096 → ℝ) (h : Fin 8) (i : Fin 4096) (l : Fin 128) :
    packf (l3 q) (l2d c) (ix3 h i l) = ((Qr q c (fun _ _ => 0) h i l : ℝ) : EReal) := by
  have hl := l.isLt
  have eq : ∀ d, qs (l3 q) (ix3 h i d) = _ := fun d => qs_real q (fun _ _ => 0) h i d (fun _ => ((0 : ℝ) : EReal)) (fun _ _ _ => rfl)
  unfold packf
  pointwise [pf]
  simp only [eq, c2_real, c2_lo, c2_lo2, ones3_at, zeros58_at]
  unfold Qr
  split_ifs <;> first | rfl | (exfalso; omega) | exact congrArg _ (by norm_num)

end Cert.AttnFwdIdeal.Val

end
-- ==== Proof.FwdMath.lean ====
module

public import proofs.«01_k».proof.Proof.FwdStep
public import proofs.«01_k».proof.Proof.AttnMath

@[expose] public section

set_option maxRecDepth 16384

noncomputable section

namespace Cert.FwdStep

open Cert.AttnMath
/-! The running sums in base two against any level, in terms of the weights, which no level changes. -/
section
variable (q k : Fin 8 → Fin 4096 → Fin 64 → ℝ) (c M N : Fin 8 → Fin 4096 → ℝ) (h : Fin 8) (i j : Fin 4096)
theorem E_shift : E q k c M h i j = Real.exp (N h i - M h i) * E q k c N h i j := by
  unfold E
  split_ifs
  · rw [← Real.exp_add]; congr 1; ring
  · rw [mul_zero]
theorem L_shift : L q k c M h i = Real.exp (N h i - M h i) * L q k c N h i := by
  unfold L
  rw [Finset.mul_sum]
  exact Finset.sum_congr rfl fun j _ => E_shift q k c M N h i j
theorem P_level : P q k c M h i j = P q k c N h i j := by
  unfold P
  rw [E_shift q k c M N, L_shift q k c M N, mul_div_mul_left _ _ (Real.exp_pos _).ne']
theorem log_level : M h i + Real.log (L q k c M h i) = N h i + Real.log (L q k c N h i) := by
  rw [L_shift q k c M N, Real.log_mul (Real.exp_pos _).ne' (L_pos q k c N h i).ne', Real.log_exp]
  ring
end

section
variable (q k : Fin 8 → Fin 4096 → Fin 64 → ℝ) (c N : Fin 8 → Fin 4096 → ℝ) (h : Fin 8) (i : Fin 4096) (z : Fin 4096 → ℝ) (w : Fin 128 → Fin 4096 → ℝ) (M : ℝ)
variable (hz : ∀ j, z j = sc q k c h i j * (1 / Real.log 2))
include hz
theorem G_E (d : Fin 128) (j : Fin 4096) : G i.val z w M d j = E q k c (fun _ _ => M * Real.log 2) h i j * w d j := by
  have h2 : Real.log 2 ≠ 0 := (Real.log_pos (by norm_num)).ne'
  unfold G E
  split_ifs
  · rw [hz, Real.rpow_def_of_pos (by norm_num)]
    congr 2
    field_simp
  · rw [zero_mul]
variable (h1 : ∀ j, w 64 j = 1)
include h1
theorem sum_L : ∑ j, G i.val z w M 64 j = L q k c (fun _ _ => M * Real.log 2) h i :=
  Finset.sum_congr rfl fun j _ => by rw [G_E q k c h i z w M hz, h1, mul_one]
/-- A row of the output. -/
theorem ratio (d : Fin 128) : (∑ j, G i.val z w M d j) / (∑ j, G i.val z w M 64 j) = ∑ j, P q k c N h i j * w d j := by
  rw [sum_L q k c h i z w M hz h1, Finset.sum_div]
  refine Finset.sum_congr rfl fun j _ => ?_
  rw [G_E q k c h i z w M hz, P_level q k c N (fun _ _ => M * Real.log 2)]
  unfold P
  ring
/-- A row's logarithm. -/
theorem row_log : M + Real.log (∑ j, G i.val z w M 64 j) * (1 / Real.log 2) = (N h i + Real.log (L q k c N h i)) * (1 / Real.log 2) := by
  have h2 : Real.log 2 ≠ 0 := (Real.log_pos (by norm_num)).ne'
  rw [sum_L q k c h i z w M hz h1, log_level q k c N (fun _ _ => M * Real.log 2)]
  field_simp
end

end Cert.FwdStep

end
-- ==== Proof.FwdArray.lean ====
module

public import proofs.«01_k».proof.Proof.FwdPoint
public import proofs.«01_k».proof.Proof.FwdHost
public import proofs.«01_k».proof.Proof.FwdMath
public import Idealize.ShloMosaic.Lib.Pipeline.ValueKit
public import Idealize.ShloMosaic.Lib.Pointwise

@[expose] public section

set_option maxRecDepth 16384

noncomputable section

namespace Cert.AttnFwdIdeal.Val

open Idealize.ShloMosaic Idealize.ShloMosaic.TcCoe Idealize.SL.Sem
open Idealize.ShloMosaic.Pipeline (Dat)
open Cert.AttnFwdIdeal Cert.AttnFwdIdeal.Gen Cert.Reals Cert.AttnMath Cert.FwdStep
open Cert.AttnIdeal.Val (packk packv ln2 l3 l2d Qr Kr Vr packk_real packv_real lanes_qk)

/-! The two arrays the region leaves, over the reals. -/
section
variable (q k v : Fin 8 → Fin 4096 → Fin 64 → ℝ) (g : Fin 8 → Fin 4096 → ℝ)
/-- The packed output, and the packed queries with the row's logarithm in three lanes. -/
def outf (h : Fin 8) (i : Fin 4096) (d : Fin 128) : ℝ := ∑ j, P q k g (fun _ _ => 0) h i j * Vr v h j d
def lanef (h : Fin 8) (i : Fin 4096) (d : Fin 128) : ℝ :=
  if d = 70 then -(Real.log (L q k g (fun _ _ => 0) h i) * (1 / Real.log 2)) else if d = 71 then 0 else if d = 72 then 0 else Qr q g (fun _ _ => 0) h i d
end

section
variable (q k v : Fin 8 → Fin 4096 → Fin 64 → ℝ) (g : Fin 8 → Fin 4096 → ℝ)
variable (c : Dev nD) (i : grid0.Coords) (arg2 : Memref sig .tc .vmem S2x1024x128 .bf16) (harg2 : arg2.IsWhole) (arg3 : Memref sig .tc .vmem S2x4096x128 .bf16) (harg3 : arg3.IsWhole) (arg4 : Memref sig .tc .vmem S2x4096x128 .bf16) (harg4 : arg4.IsWhole) (arg5 : Memref sig .tc .vmem S2x1024x128 .f32) (harg5 : arg5.IsWhole) (arg6 : Memref sig .tc .vmem S2x1024x128 .bf16) (harg6 : arg6.IsWhole)
    (x0 : Vec Ideal S2x1024x128 .bf16) (x1 x2 : Vec Ideal S2x4096x128 .bf16) (x : Fin 1024) (hd : Fin 2 → Fin 8) (r : Fin 4096) (hr : (i 1).val * 1024 + x.val = r.val)
    (hQ : ∀ j l, x0 (ix3 j x l) = ((Qr q g (fun _ _ => 0) (hd j) r l : ℝ) : EReal)) (hK : ∀ j s l, x1 (ix3 j s l) = ((Kr k g (hd j) s l : ℝ) : EReal)) (hV : ∀ j s l, x2 (ix3 j s l) = ((Vr v (hd j) s l : ℝ) : EReal))
include hr hQ hK hV
/-- A row of a point's two results, over the reals. -/
theorem point_real (j : Fin 2) :
    (∀ d, out0_A_3 (F := Ideal) c i arg2 harg2 arg3 harg3 arg4 harg4 arg5 harg5 arg6 harg6 x0 x1 x2 (ix3 j x d) = ((outf q k v g (hd j) r d : ℝ) : EReal))
    ∧ ∀ d, out0_A_4 (F := Ideal) c i arg2 harg2 arg3 harg3 arg4 harg4 arg5 harg5 arg6 harg6 x0 x1 x2 (ix3 j x d) = ((lanef q k g (hd j) r d : ℝ) : EReal) := by
  have hz : ∀ s, zr (Qr q g (fun _ _ => 0) (hd j) r) (Kr k g (hd j)) s = sc q k g (hd j) r s * (1 / Real.log 2) := fun s =>
    (lanes_qk q k g (fun _ _ => 0) (hd j) r s).trans (by rw [sub_zero])
  have h1 : ∀ j s, Vr v (hd j) s 64 = 1 := fun j s => by
    unfold Vr
    rw [dif_neg (by decide), if_pos (by decide)]
  obtain ⟨M, a, b⟩ := point_row c i arg2 harg2 arg3 harg3 arg4 harg4 arg5 harg5 arg6 harg6 x0 x1 x2 x (fun j => Qr q g (fun _ _ => 0) (hd j) r) (fun j => Kr k g (hd j)) (fun j => Vr v (hd j)) hQ hK hV h1 j
  rw [hr] at a b
  have e1 : ∀ d, Sg r.val (zr (Qr q g (fun _ _ => 0) (hd j) r) (Kr k g (hd j))) (wr (Vr v (hd j))) M d / Sg r.val (zr (Qr q g (fun _ _ => 0) (hd j) r) (Kr k g (hd j))) (wr (Vr v (hd j))) M 64 = outf q k v g (hd j) r d :=
    fun d => ratio q k g (fun _ _ => 0) (hd j) r _ (wr (Vr v (hd j))) M hz (h1 j) d
  have e2 : M + Real.log (Sg r.val (zr (Qr q g (fun _ _ => 0) (hd j) r) (Kr k g (hd j))) (wr (Vr v (hd j))) M 64) * (1 / Real.log 2) = Real.log (L q k g (fun _ _ => 0) (hd j) r) * (1 / Real.log 2) :=
    (row_log q k g (fun _ _ => 0) (hd j) r _ (wr (Vr v (hd j))) M hz (h1 j)).trans (by rw [zero_add])
  refine ⟨fun d => ?_, fun d => ?_⟩
  · rw [← e1]; exact a d
  · rw [b d]
    rw [e2]
    unfold lanef
    split_ifs <;> rfl
end

section
variable (m : (ℓ : Loc nD τ sig) → Buf (Elt Ideal) ℓ) (c : Dev nD)
abbrev aq : S8x4096x128.Idx → EReal := V m c main_v21
abbrev ak : S8x4096x128.Idx → EReal := V m c main_v27
abbrev av : S8x4096x128.Idx → EReal := V m c main_v30

theorem idx : ∀ t : Fin cfg0.N, win0_0.index t = ![t.val / 4, t.val % 4, 0] ∧ win0_1.index t = ![t.val / 4, 0, 0] ∧ win0_2.index t = ![t.val / 4, 0, 0]
    ∧ win0_3.index t = ![t.val / 4, t.val % 4, 0] ∧ win0_4.index t = ![t.val / 4, t.val % 4, 0] :=
  (by decide +kernel : ∀ t : Fin grid0.N, _)
theorem point_tile : ∀ t : Fin cfg0.N, (grid0.coords t 1).val = t.val % 4 := (by decide +kernel : ∀ t : Fin grid0.N, _)
theorem lt16 (t : Fin cfg0.N) : t.val < 16 := t.isLt.trans_le (by decide +kernel)
/-- The head and the row a block's row sits at. -/
abbrev hd (t : Fin cfg0.N) (j : Fin 2) : Fin 8 := ⟨t.val / 4 * 2 + j.val, by have := lt16 t; omega⟩
abbrev rw' (t : Fin cfg0.N) (s : Fin 1024) : Fin 4096 := ⟨t.val % 4 * 1024 + s.val, by omega⟩

theorem blk0 (t : Fin cfg0.N) (j : Fin 2) (s : Fin 1024) (l : Fin 128) : (iblk m c 0 t : S2x1024x128.Idx → EReal) (ix3 j s l) = aq m c (ix3 (hd t j) (rw' t s) l) := by
  blk_ext [iblk, idx t]
theorem blk1 (t : Fin cfg0.N) (j : Fin 2) (r : Fin 4096) (l : Fin 128) : (iblk m c 1 t : S2x4096x128.Idx → EReal) (ix3 j r l) = ak m c (ix3 (hd t j) r l) := by
  blk_ext [iblk, idx t]
theorem blk2 (t : Fin cfg0.N) (j : Fin 2) (r : Fin 4096) (l : Fin 128) : (iblk m c 2 t : S2x4096x128.Idx → EReal) (ix3 j r l) = av m c (ix3 (hd t j) r l) := by
  blk_ext [iblk, idx t]

theorem at3 {α : Type} (f : Fin 8 → Fin 4096 → Fin 128 → α) {h h' : Fin 8} {s s' : Fin 4096} {d d' : Fin 128} (e : h.val = h'.val) (e' : s.val = s'.val) (e'' : d.val = d'.val) :
    f h s d = f h' s' d' := by
  obtain rfl := Fin.ext e
  obtain rfl := Fin.ext e'
  obtain rfl := Fin.ext e''
  rfl

variable (q k v : Fin 8 → Fin 4096 → Fin 64 → ℝ) (g : Fin 8 → Fin 4096 → ℝ)
variable (hq : mq m c = l3 q) (hk : mk m c = l3 k) (hv : mv m c = l3 v) (hg : mc m c = l2d g)
include hq hk hv hg
theorem got : (∀ h i l, aq m c (ix3 h i l) = ((Qr q g (fun _ _ => 0) h i l : ℝ) : EReal)) ∧ (∀ h i l, ak m c (ix3 h i l) = ((Kr k g h i l : ℝ) : EReal))
    ∧ ∀ h i l, av m c (ix3 h i l) = ((Vr v h i l : ℝ) : EReal) := by
  refine ⟨fun h i l => ?_, fun h i l => ?_, fun h i l => ?_⟩
  · rw [← packf_real, ← hq, ← hg]; exact congrFun (V_q m c) _
  · rw [← packk_real, ← hk, ← hg]; exact congrFun (V_k m c) _
  · rw [← packv_real, ← hv]; exact congrFun (V_v m c) _

/-- What a point leaves in its two blocks. -/
theorem outs (t : Fin cfg0.N) (j : Fin 2) (x : Fin 1024) :
    (∀ d, (outsAt0 m c t).1 (ix3 j x d) = ((outf q k v g (hd t j) (rw' t x) d : ℝ) : EReal))
    ∧ ∀ d, (outsAt0 m c t).2 (ix3 j x d) = ((lanef q k g (hd t j) (rw' t x) d : ℝ) : EReal) := by
  obtain ⟨g1, g2, g3⟩ := got m c q k v g hq hk hv hg
  have hr : (grid0.coords t 1).val * 1024 + x.val = (rw' t x).val := by rw [point_tile]
  unfold outsAt0
  dsimp only
  exact point_real q k v g c (grid0.coords t) (ms0_0 t) (hs0_0 t) (ms0_1 t) (hs0_1 t) (ms0_2 t) (hs0_2 t) (ms0_3 t) (hs0_3 t) (ms0_4 t) (hs0_4 t)
    (iblk m c 0 t) (iblk m c 1 t) (iblk m c 2 t) x (hd t) (rw' t x) hr
    (fun j l => (blk0 m c t j x l).trans (g1 _ _ _)) (fun j s l => (blk1 m c t j s l).trans (g2 _ _ _)) (fun j s l => (blk2 m c t j s l).trans (g3 _ _ _)) j

theorem final_out : (dats m 0 c).arrAt 3 (cfgs 0).N = fun y : S8x4096x128.Idx => ((outf q k v g (y 0) (y 1) (y 2) : ℝ) : EReal) := by
  refine (dats m 0 c).arrAt_eq_of_covers 3 _ (by decide +kernel) fun t hf y => ?_
  blk_simp
  rw [after0_3, ← ix3_eta y]
  refine ((outs m c q k v g hq hk hv hg t (y 0) (y 1)).1 (y 2)).trans (at3 (fun h s d => ((outf q k v g h s d : ℝ) : EReal)) ?_ ?_ ?_) <;> (blk_simp [idx t])
theorem final_lane : (dats m 0 c).arrAt 4 (cfgs 0).N = fun y : S8x4096x128.Idx => ((lanef q k g (y 0) (y 1) (y 2) : ℝ) : EReal) := by
  refine (dats m 0 c).arrAt_eq_of_covers 4 _ (by decide +kernel) fun t hf y => ?_
  blk_simp
  rw [after0_4, ← ix3_eta y]
  refine ((outs m c q k v g hq hk hv hg t (y 0) (y 1)).2 (y 2)).trans (at3 (fun h s d => ((lanef q k g h s d : ℝ) : EReal)) ?_ ?_ ?_) <;> (blk_simp [idx t])
end

/-! The two results after the region. -/
def reso (x : FVec Ideal S8x4096x128 .f32) : FVec Ideal S8x4096x64 .f32 := extractStridedSlice S8x4096x64 ![0, 0, 0] x slices_S8x4096x128_S8x4096x64_0_0_0
def resl (x : FVec Ideal S8x4096x128 .bf16) : FVec Ideal S8x4096 .f32 :=
  Host.negf (mulf (Host.reduceAdd (extf .f32 (extractStridedSlice S8x4096x3 ![0, 0, 70] x slices_S8x4096x128_S8x4096x3_0_0_70) bitsLt_bf16_f32) (constant S_ .f32 0x00000000#32) reducesTo_S8x4096x3_S8x4096_d2 h_S_)
    (broadcastInDim S8x4096 ![] bcast_S_S8x4096 ln2))

section
variable (σ : Valuation τ sig (Elt Ideal))
theorem t_o : StableHlo.after hostOps1 σ (Proc.devRef .tc main_v32) = reso (σ (Proc.devRef .tc main_v31_0)) := by
  entry_read
  rfl
theorem t_l (h : σ (Proc.devRef .tc main_v2) = ln2) : StableHlo.after hostOps1 σ (Proc.devRef .tc main_v39) = resl (σ (Proc.devRef .tc main_v31_1)) := by
  entry_read
  rw [h]
  rfl
end

section
variable (m : (ℓ : Loc nD τ sig) → Buf (Elt Ideal) ℓ) (c : Dev nD)
abbrev wo : FVec Ideal S8x4096x128 .f32 := (dats m 0 c).arrAt 3 (cfgs 0).N
abbrev wl : FVec Ideal S8x4096x128 .bf16 := (dats m 0 c).arrAt 4 (cfgs 0).N
abbrev endV : Valuation τ sig (Elt Ideal) := Pipeline.withArrays (cfgs 0).spec c (V0 m c) fun w => (dats m 0 c).arrAt w (cfgs 0).N
theorem end_o : endV m c (Proc.devRef .tc main_v31_0) = wo m c := Pipeline.withArrays_arr (cfgs 0).spec (by decide) c _ _ 3
theorem end_l : endV m c (Proc.devRef .tc main_v31_1) = wl m c := Pipeline.withArrays_arr (cfgs 0).spec (by decide) c _ _ 4
theorem end_ln2 : endV m c (Proc.devRef .tc main_v2) = ln2 :=
  (Pipeline.withArrays_of_ne (cfgs 0).spec c _ _ main_v2 (by decide)).trans (V_ln2 m c)
theorem tail_o : Pipeline.afterTail₀ cfgs (dats m) 0 (V0 m) [hostOps1] c main_v32 = reso (wo m c) := by
  rw [← end_o]; exact t_o _
theorem tail_l : Pipeline.afterTail₀ cfgs (dats m) 0 (V0 m) [hostOps1] c main_v39 = resl (wl m c) := by
  rw [← end_l]; exact t_l _ (end_ln2 m c)
end

section
variable (x : FVec Ideal S8x4096x128 .f32) (y : FVec Ideal S8x4096x128 .bf16) (h : Fin 8) (i : Fin 4096) (d : Fin 64)
theorem reso_at : reso x (ix3 h i d) = x (ix3 h i ⟨d.val, by omega⟩) := by
  pointwise [reso]
theorem resl_at : resl y (ix2 h i) = -((∑ s : Fin 3, y (ix3 h i ⟨70 + s.val, by omega⟩)) * Ideal.log (Ideal.ofBits .f32 0x40000000#32)) := by
  pointwise [resl, ln2]
end

section
variable (m : (ℓ : Loc nD τ sig) → Buf (Elt Ideal) ℓ) (c : Dev nD)
variable (q k v : Fin 8 → Fin 4096 → Fin 64 → ℝ) (g : Fin 8 → Fin 4096 → ℝ) (h : Fin 8) (i : Fin 4096) (d : Fin 64)
variable (hq : mq m c = l3 q) (hk : mk m c = l3 k) (hv : mv m c = l3 v) (hg : mc m c = l2d g)
include hq hk hv hg
theorem res_out : reso (wo m c) (ix3 h i d) = ((∑ j, P q k g (fun _ _ => 0) h i j * v h j d : ℝ) : EReal) := by
  refine (reso_at _ h i d).trans ((congrFun (final_out m c q k v g hq hk hv hg) _).trans (congrArg _ (Finset.sum_congr rfl fun j _ => ?_)))
  have e : Vr v h j ⟨d.val, by omega⟩ = v h j d := by
    unfold Vr
    rw [dif_pos d.isLt]
  exact congrArg _ e
theorem res_log : resl (wl m c) (ix2 h i) = ((Real.log (L q k g (fun _ _ => 0) h i) : ℝ) : EReal) := by
  have e : ∀ l, wl m c (ix3 h i l) = ((lanef q k g h i l : ℝ) : EReal) := fun l => congrFun (final_lane m c q k v g hq hk hv hg) _
  have h2 : Real.log 2 ≠ 0 := (Real.log_pos (by norm_num)).ne'
  rw [resl_at, Fin.sum_univ_three, e, e, e, Cert.Consts.two_f32, log_real (by norm_num)]
  simp only [← EReal.coe_add, ← EReal.coe_mul, ← EReal.coe_neg]
  refine congrArg _ ?_
  show -((-(Real.log (L q k g (fun _ _ => 0) h i) * (1 / Real.log 2)) + 0 + 0) * Real.log 2) = _
  field_simp
  ring
end

end Cert.AttnFwdIdeal.Val

end
-- ==== Proof.FwdRef.lean ====
module

public import proofs.«01_k».proof.Proof.Gen.AttnFwdRefIdeal.Read
public import proofs.«01_k».proof.Proof.AttnReal
public import Idealize.ShloMosaic.Lib.Pointwise

@[expose] public section

set_option maxRecDepth 16384

noncomputable section

namespace Cert.AttnFwdRefIdeal.Val

open Idealize.ShloMosaic Idealize.ShloMosaic.TcCoe
open Cert.AttnFwdRefIdeal Cert.AttnFwdRefIdeal.Gen Cert.AttnFwdRefIdeal.Read
open Cert.Reals Cert.AttnMath
open Cert.AttnIdeal.Val (l3 l2d outp logits logits_real outp_real top expo tot bot_f32)

/-! The reference's two results over the reals. -/
section
variable (x0 x1 x2 : FVec Ideal S8x4096x64 .f32) (x3 : FVec Ideal S8x4096 .f32) (h : Fin 8) (i j : Fin 4096)
theorem v16_eq : val_main_v16 (F := Ideal) x0 x1 x3 = logits x0 x1 x3 := rfl
theorem v19_eq : val_main_v19 (F := Ideal) x0 x1 x3 = val_main_v17 (F := Ideal) x0 x1 x3 := funext fun y => by
  rw [val_main_v19_apply]
  have e : val_main_v18 (F := Ideal) y = (⊥ : EReal) := (val_main_v18_apply y).trans bot_f32
  rw [e]
  generalize val_main_v17 (F := Ideal) x0 x1 x3 y = z
  exact bot_sup_eq z
theorem v20_eq : val_main_v20 (F := Ideal) x0 x1 x3 = top x0 x1 x3 := by
  unfold val_main_v20
  rw [v19_eq]
  unfold val_main_v17
  rw [v16_eq]
  rfl
theorem v23_eq : val_main_v23 (F := Ideal) x0 x1 x3 = expo x0 x1 x3 := by
  unfold val_main_v23 val_main_v22 val_main_v21
  rw [v20_eq, v16_eq]; rfl
theorem v25_eq : val_main_v25 (F := Ideal) x0 x1 x3 = tot x0 x1 x3 := by
  unfold val_main_v25 val_main_v24
  rw [v23_eq]; rfl
theorem out_eq : val_main_v28 (F := Ideal) x0 x1 x2 x3 = outp x0 x1 x2 x3 := by
  unfold val_main_v28 val_main_v27 val_main_v26
  rw [v23_eq, v25_eq]; rfl
theorem logits_eq : val_main_v45 (F := Ideal) x0 x1 x3 = logits x0 x1 x3 := rfl
theorem v46_at : val_main_v46 (F := Ideal) x0 x1 x3 (ix3 h i j) = Ideal.exp (logits x0 x1 x3 (ix3 h i j)) := by
  rw [val_main_v46_apply, logits_eq]; rfl
theorem v47_at : val_main_v47 (F := Ideal) x0 x1 x3 (ix2 h i) = ∑ j, val_main_v46 (F := Ideal) x0 x1 x3 (ix3 h i j) := by
  pointwise [val_main_v47, val_main_cst_6]
theorem v48_at : val_main_v48 (F := Ideal) x0 x1 x3 (ix2 h i) = Ideal.log (val_main_v47 (F := Ideal) x0 x1 x3 (ix2 h i)) := rfl
end

theorem log_real' (q k : Fin 8 → Fin 4096 → Fin 64 → ℝ) (c : Fin 8 → Fin 4096 → ℝ) (h : Fin 8) (i : Fin 4096) :
    val_main_v48 (F := Ideal) (l3 q) (l3 k) (l2d c) (ix2 h i) = ((Real.log (L q k c (fun _ _ => 0) h i) : ℝ) : EReal) := by
  have e : ∀ j, val_main_v46 (F := Ideal) (l3 q) (l3 k) (l2d c) (ix3 h i j) = ((E q k c (fun _ _ => 0) h i j : ℝ) : EReal) := by
    intro j
    rw [v46_at, logits_real]
    unfold E
    split_ifs
    · rw [sub_zero, Ideal.exp_coe]
    · rw [Ideal.exp_bot]; rfl
  rw [v48_at, v47_at]
  simp only [e, coe_sum]
  exact log_real (L_pos q k c _ h i)

end Cert.AttnFwdRefIdeal.Val

end
-- ==== Proof.FwdMain.lean ====
module

public import proofs.«01_k».proof.Defs
public import proofs.«01_k».proof.Proof.FwdArray
public import proofs.«01_k».proof.Proof.FwdRef
public import proofs.«01_k».proof.Proof.AttnFinite
public import proofs.«01_k».proof.Proof.Gen.AttnFwd.Frame
public import proofs.«01_k».proof.Proof.Gen.AttnFwdRefIdeal.Run
public import proofs.«01_k».proof.Proof.Gen.Pre_forward_finite

@[expose] public section

set_option maxRecDepth 16384

noncomputable section

namespace Cert.AttnFwdProof

open Idealize.ShloMosaic Idealize.ShloMosaic.TcCoe Idealize.SL.Sem
open Cert.Reals

section
open Cert.Pre_forward_finite Cert.Pre_forward_finite.Gen
theorem real_args (x0 x1 x2 : FVec Ideal S8x4096x64 .f32) (x3 : FVec Ideal S8x4096 .f32) (h : fn (F := Ideal) x0 x1 x2 x3 = fun _ => 1#1) :
    (∃ q : Fin 8 → Fin 4096 → Fin 64 → ℝ, x0 = fun y => ((q (y 0) (y 1) (y 2) : ℝ) : EReal))
    ∧ (∃ q : Fin 8 → Fin 4096 → Fin 64 → ℝ, x1 = fun y => ((q (y 0) (y 1) (y 2) : ℝ) : EReal))
    ∧ (∃ q : Fin 8 → Fin 4096 → Fin 64 → ℝ, x2 = fun y => ((q (y 0) (y 1) (y 2) : ℝ) : EReal))
    ∧ (∃ q : Fin 8 → Fin 4096 → ℝ, x3 = fun y => ((q (y 0) (y 1) : ℝ) : EReal)) := by
  have e := congrFun h ix0
  unfold fn fn_part1 at e
  dsimp only at e
  obtain ⟨e, e3⟩ := Cert.AttnProof.both e
  obtain ⟨e, e2⟩ := Cert.AttnProof.both e
  obtain ⟨e0, e1⟩ := Cert.AttnProof.both e
  exact ⟨Cert.AttnProof.real3 _ e0, Cert.AttnProof.real3 _ e1, Cert.AttnProof.real3 _ e2, Cert.AttnProof.real2 _ e3⟩
end

theorem frame : Cert.quiescent_AttnFwd := fun m ρ _ => Cert.AttnFwd.Gen.frame m ρ
theorem frame_ideal : Cert.quiescent_AttnFwdIdeal := fun m ρ _ => Cert.AttnFwdIdeal.Gen.frame m ρ
theorem frame_ideal_finite : Cert.quiescent_AttnFwdIdeal_pre_forward_finite := fun m ρ _ => Cert.AttnFwdIdeal.Gen.frame m ρ
theorem frame_ref : Cert.quiescent_AttnFwdRefIdeal := fun m ρ _ =>
  (θ_run Cert.AttnFwdRefIdeal.defs _ _).mono (fun r h => ⟨fun c => (h c).2.2, sem_eq_zero_of_no_sems (by decide) r.2⟩)
    (Cert.AttnFwdRefIdeal.Value.run (F := Ideal) m ρ)
theorem frame_ref_finite : Cert.quiescent_AttnFwdRefIdeal_pre_forward_finite := fun m ρ _ => frame_ref m ρ trivial
theorem constants : Cert.preserves_AttnFwd_AttnFwdIdeal :=
  ⟨IdealRules.named_const.statement Cert.AttnFwdIdeal.κ "mask" .f32 0xF149F2CA#32 ⊥ rfl,
    IdealRules.named_const.statement Cert.AttnFwdIdeal.κ "log2e" .f32 0x3FB8AA3B#32 (((Real.log 2)⁻¹ : ℝ) : EReal) rfl⟩

open Cert.AttnFwdIdeal Cert.AttnFwdIdeal.Gen Cert.AttnFwdIdeal.Val in
/-- The kernel's two results are the reference's. -/
theorem values (m : (ℓ : Loc nD τ sig) → Buf (Elt Ideal) ℓ) (c : Dev nD)
    (h : Cert.Pre_forward_finite.fn (F := Ideal) (mq m c) (mk m c) (mv m c) (mc m c) = fun _ => 1#1) :
    Cert.AttnFwdRefIdeal.Read.val_main_v28 (F := Ideal) (mq m c) (mk m c) (mv m c) (mc m c) = reso (wo m c)
    ∧ Cert.AttnFwdRefIdeal.Read.val_main_v48 (F := Ideal) (mq m c) (mk m c) (mc m c) = resl (wl m c) := by
  obtain ⟨⟨q, hq⟩, ⟨k, hk⟩, ⟨v, hv⟩, ⟨g, hg⟩⟩ := real_args _ _ _ _ h
  obtain ⟨M, hM⟩ := Cert.AttnIdeal.Val.top_real q k g
  refine ⟨Cert.AttnIdeal.Val.ext3 _ _ fun h i d => ?_, Cert.AttnIdeal.Val.ext2 _ _ fun h i => ?_⟩
  · rw [res_out m c q k v g h i d hq hk hv hg, hq, hk, hv, hg, Cert.AttnFwdRefIdeal.Val.out_eq]
    refine (Cert.AttnIdeal.Val.outp_real q k v g M h i d hM).trans (congrArg _ (Finset.sum_congr rfl fun j _ => ?_))
    rw [Cert.FwdStep.P_level q k g M (fun _ _ => 0)]
  · rw [res_log m c q k v g h i hq hk hv hg, hq, hk, hg]
    exact Cert.AttnFwdRefIdeal.Val.log_real' q k g h i

open Cert.AttnFwdIdeal Cert.AttnFwdIdeal.Gen Cert.AttnFwdIdeal.Val in
theorem run_results (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v32) = reso (wo m c) ∧ r.2.mem ((c.tc : Thread nD τ).loc main_v39) = resl (wl m c)) := by
  run_from Cert.AttnFwdIdeal.Gen.run_main m g
  · exact tail_o m c
  · exact tail_l m c

open Cert.AttnFwdIdeal.Gen Cert.AttnFwdIdeal.Val in
theorem algebraic : Cert.algebraic_AttnFwdIdeal_AttnFwdRefIdeal_pre_forward_finite := by
  intro m g m' g' hpre hagree
  refine ⟨fun c => reso (wo m c), fun c => resl (wl m c), ?_, ?_⟩
  · refine θ_run_mono (θ_run_and (run_results m g) (Cert.AttnFwdIdeal.Gen.frame m g)) ?_
    intro r h c
    obtain ⟨h1, h2⟩ := h.1 c
    exact ⟨h1, h2, h.2.1 c⟩
  · refine θ_run_mono (Cert.AttnFwdRefIdeal.Value.run (F := Ideal) m' g') ?_
    intro r h c
    obtain ⟨h1, h2, h3⟩ := h c
    obtain ⟨a0, a1, a2, a3⟩ := hagree c
    obtain ⟨r1, r2⟩ := values m c (hpre c)
    refine ⟨h1.trans ?_, h2.trans ?_, h3⟩
    · rw [Cert.AttnFwdRefIdeal.Read.val_main_v28_eq, a0, a1, a2, a3]; exact r1
    · rw [Cert.AttnFwdRefIdeal.Read.val_main_v48_eq, a0, a1, a3]; exact r2

theorem claims : Cert.quiescent_AttnFwd ∧ Cert.quiescent_AttnFwdIdeal ∧ Cert.quiescent_AttnFwdIdeal_pre_forward_finite ∧ Cert.quiescent_AttnFwdRefIdeal
    ∧ Cert.quiescent_AttnFwdRefIdeal_pre_forward_finite ∧ Cert.preserves_AttnFwd_AttnFwdIdeal ∧ Cert.algebraic_AttnFwdIdeal_AttnFwdRefIdeal_pre_forward_finite :=
  ⟨frame, frame_ideal, frame_ideal_finite, frame_ref, frame_ref_finite, constants, algebraic⟩

end Cert.AttnFwdProof

end
-- ==== Proof.InFwdValue.lean ====
/- The input projection's forward call: its four result arrays, over the arrays the region finds and then over the arguments. -/
module

public import proofs.«01_k».proof.Proof.NormGrad
public import proofs.«01_k».proof.Proof.Gen.InFwdIdeal.Frame
public import proofs.«01_k».proof.Proof.Gen.InFwdRefIdeal.Read
public import Idealize.ShloMosaic.Lib.Pipeline.ValueKit
public import Idealize.ShloMosaic.Lib.Pointwise
public import Idealize.ShloMosaic.Lib.KernelVsHost

@[expose] public section

set_option maxRecDepth 16384

noncomputable section

namespace Cert.InFwdRefIdeal.Val

open Idealize.ShloMosaic Cert.InFwdRefIdeal Cert.InFwdRefIdeal.Read Cert.NormGrad

section
variable (x : FVec Ideal S4096x1024 .f32) (g : FVec Ideal S1024 .f32) (w : FVec Ideal S1024x5640 .f32)

/-- One entry of the scaled row. -/
def hid {n : Nat} (x : (⟨2, ![n, 1024]⟩ : Shape).Idx → EReal) (g : Fin 1024 → EReal) (r : Fin n) (k : Fin 1024) : EReal :=
  x (ix2 r k) * inv (Ideal.ofBits .f32 1149239296#32) (Ideal.ofBits .f32 897988541#32) (fun k => x (ix2 r k)) * g k
/-- One entry of the projection. -/
def prj (r : Fin 4096) (a : Fin 5640) : EReal := ∑ k : Fin 1024, hid x (fun k => g (ix1 k)) r k * w (ix2 k a)

theorem hid_congr {n n' : Nat} (x : (⟨2, ![n, 1024]⟩ : Shape).Idx → EReal) (x' : (⟨2, ![n', 1024]⟩ : Shape).Idx → EReal) (g g' : Fin 1024 → EReal)
    (r : Fin n) (r' : Fin n') (k : Fin 1024) (e : ∀ k, x (ix2 r k) = x' (ix2 r' k)) (e' : ∀ k, g k = g' k) : hid x g r k = hid x' g' r' k := by
  unfold hid; simp only [e, e']

theorem h_at (r : Fin 4096) (k : Fin 1024) : val_main_v12 (F := Ideal) x g (ix2 r k) = hid x (fun k => g (ix1 k)) r k := by
  pointwise [val_main_v12, val_main_v11, val_main_v10, val_main_v9, val_main_v8, val_main_v7, val_main_v6, val_main_v5, val_main_cst_1, val_main_v4, val_main_v3, val_main_cst_0,
    val_main_v2, val_main_v1, val_main_cst, val_main_v0]
  rfl
theorem p_at (r : Fin 4096) (a : Fin 5640) : val_main_v13 (F := Ideal) x g w (ix2 r a) = prj x g w r a := by
  pointwise [val_main_v13]
  exact Finset.sum_congr rfl fun k _ => congrArg (· * _) (h_at x g r k)
theorem a_at (r : Fin 4096) (a : Fin 1536) : val_main_v14 (F := Ideal) x g w (ix2 r a) = prj x g w r ⟨a.val, by omega⟩ := by
  pointwise [val_main_v14]
  exact p_at x g w r _
theorem f_at (r : Fin 4096) (a : Fin 8) : val_main_v15 (F := Ideal) x g w (ix2 r a) = prj x g w r ⟨1536 + a.val, by omega⟩ := by
  pointwise [val_main_v15]
  exact p_at x g w r _
theorem b_at (r : Fin 4096) (a : Fin 4096) : val_main_v16 (F := Ideal) x g w (ix2 r a) = prj x g w r ⟨1544 + a.val, by omega⟩ := by
  pointwise [val_main_v16]
  exact p_at x g w r _
end

end Cert.InFwdRefIdeal.Val

namespace Cert.InFwdIdeal.Val

open Idealize.ShloMosaic Idealize.ShloMosaic.TcCoe Idealize.SL.Sem
open Idealize.ShloMosaic.Pipeline (Dat)
open Cert.InFwdIdeal Cert.InFwdIdeal.Gen Cert.NormGrad
open Cert.InFwdRefIdeal.Val (hid hid_congr prj)

theorem pay_h (x : FVec Ideal S256x1024 .f32) (g : FVec Ideal S1x1024 .f32) (r : Fin 256) (k : Fin 1024) :
    k0_pay1 (F := Ideal) x g (ix2 r k) = hid x (fun k => g (ix2 0 k)) r k := by
  pointwise [k0_pay1]
  rfl
theorem pay_a (x : FVec Ideal S256x1024 .f32) (g : FVec Ideal S1x1024 .f32) (w : Vec Ideal S1024x1536 .bf16) (r : Fin 256) (a : Fin 1536) :
    k0_pay2 (F := Ideal) x g w (ix2 r a) = ∑ k : Fin 1024, hid x (fun k => g (ix2 0 k)) r k * w (ix2 k a) := by
  pointwise [k0_pay2]
  exact Finset.sum_congr rfl fun k _ => congrArg (· * _) (pay_h x g r k)
theorem pay_f (x : FVec Ideal S256x1024 .f32) (g : FVec Ideal S1x1024 .f32) (w : Vec Ideal S1024x128 .bf16) (r : Fin 256) (a : Fin 128) :
    k0_pay3 (F := Ideal) x g w (ix2 r a) = ∑ k : Fin 1024, hid x (fun k => g (ix2 0 k)) r k * w (ix2 k a) := by
  pointwise [k0_pay3]
  exact Finset.sum_congr rfl fun k _ => congrArg (· * _) (pay_h x g r k)
theorem pay_b (x : FVec Ideal S256x1024 .f32) (g : FVec Ideal S1x1024 .f32) (w : Vec Ideal S1024x4096 .bf16) (r : Fin 256) (a : Fin 4096) :
    k0_pay4 (F := Ideal) x g w (ix2 r a) = ∑ k : Fin 1024, hid x (fun k => g (ix2 0 k)) r k * w (ix2 k a) := by
  pointwise [k0_pay4]
  exact Finset.sum_congr rfl fun k _ => congrArg (· * _) (pay_h x g r k)

variable (m : (ℓ : Loc nD τ sig) → Buf (Elt Ideal) ℓ) (c : Dev nD)

abbrev mx : FVec Ideal S4096x1024 .f32 := m ((c.tc : Thread nD τ).loc main_arg0)
abbrev mg : FVec Ideal S1024 .f32 := m ((c.tc : Thread nD τ).loc main_arg1)
abbrev mw : FVec Ideal S1024x5640 .f32 := m ((c.tc : Thread nD τ).loc main_arg2)
abbrev aX : S4096x1024.Idx → EReal := V m c main_arg0
abbrev aG : S1x1024.Idx → EReal := V m c main_v4
abbrev aWa : S1024x1536.Idx → EReal := V m c main_v1
abbrev aWf : S1024x128.Idx → EReal := V m c main_v5
abbrev aWb : S1024x4096.Idx → EReal := V m c main_v3
abbrev zero16 : FVec Ideal S_ .bf16 := sitofp (F := Ideal) .bf16 (constantI S_ 32 0#32)

theorem v_x : V m c main_arg0 = mx m c := by
  entry_read
  rfl
theorem v_g : V m c main_v4 = shapeCast S1x1024 (mg m c) shapeCasts_S1024_S1x1024 := by
  entry_read
  rfl
theorem v_wa : V m c main_v1 = extractStridedSlice S1024x1536 ![0, 0] (truncf .bf16 (mw m c) bitsLt_bf16_f32) slices_S1024x5640_S1024x1536_0_0 := by
  entry_read
  rfl
theorem v_wb : V m c main_v3 = extractStridedSlice S1024x4096 ![0, 1544] (truncf .bf16 (mw m c) bitsLt_bf16_f32) slices_S1024x5640_S1024x4096_0_1544 := by
  entry_read
  rfl
theorem v_wf : V m c main_v5 = pad S1024x128 ![0, 0] ![0, 120] ![0, 0] (extractStridedSlice S1024x8 ![0, 1536] (truncf .bf16 (mw m c) bitsLt_bf16_f32) slices_S1024x5640_S1024x8_0_1536)
    zero16 pads_S1024x8_S1024x128_000_01200 h_S_ := by
  entry_read
  rfl

theorem g_at (k : Fin 1024) : aG m c (ix2 0 k) = mg m c (ix1 k) := by
  unfold aG; rw [v_g]; pointwise
theorem wa_at (k : Fin 1024) (a : Fin 1536) : aWa m c (ix2 k a) = mw m c (ix2 k ⟨a.val, by omega⟩) := by
  unfold aWa; rw [v_wa]; pointwise
theorem wb_at (k : Fin 1024) (a : Fin 4096) : aWb m c (ix2 k a) = mw m c (ix2 k ⟨1544 + a.val, by omega⟩) := by
  unfold aWb; rw [v_wb]; pointwise
theorem pad_in (w : FVec Ideal S1024x5640 .f32) (r : Fin 1024) (b : Fin 8) :
    pad S1024x128 ![0, 0] ![0, 120] ![0, 0] (extractStridedSlice S1024x8 ![0, 1536] (truncf .bf16 w bitsLt_bf16_f32) slices_S1024x5640_S1024x8_0_1536)
    zero16 pads_S1024x8_S1024x128_000_01200 h_S_ (ix2 r (⟨b.val, by omega⟩ : Fin 128)) = w (ix2 r ⟨1536 + b.val, by omega⟩) := by
  refine (pad_apply_of_inside _ _ _ _ _ _ _ _ (ix2 r b) ?_).trans ?_
  · intro a; fin_cases a <;> simp
  · pointwise
theorem wf_at (k : Fin 1024) (b : Fin 8) : aWf m c (ix2 k (⟨b.val, by omega⟩ : Fin 128)) = mw m c (ix2 k ⟨1536 + b.val, by omega⟩) := by
  unfold aWf; rw [v_wf]; exact pad_in _ k b

theorem idx : ∀ t : Fin cfg0.N, win0_0.index t = ![t.val, 0] ∧ win0_1.index t = ![0, 0] ∧ win0_2.index t = ![0, 0] ∧ win0_3.index t = ![0, 0]
    ∧ win0_4.index t = ![0, 0] ∧ win0_5.index t = ![t.val, 0] ∧ win0_6.index t = ![t.val, 0] ∧ win0_7.index t = ![t.val, 0] ∧ win0_8.index t = ![t.val, 0] :=
  (by decide +kernel : ∀ t : Fin grid0.N, _)
theorem lt16 (t : Fin cfg0.N) : t.val < 16 := t.isLt.trans_le (by decide +kernel)
/-- The row a tile's row sits at. -/
abbrev rw' (t : Fin cfg0.N) (s : Fin 256) : Fin 4096 := ⟨t.val * 256 + s.val, by have := lt16 t; omega⟩

theorem blk0 (t : Fin cfg0.N) (r : Fin 256) (k : Fin 1024) : (iblk m c 0 t : S256x1024.Idx → EReal) (ix2 r k) = aX m c (ix2 (rw' t r) k) := by
  blk_ext [iblk, idx t]
theorem blk1 (t : Fin cfg0.N) (k : Fin 1024) : (iblk m c 1 t : S1x1024.Idx → EReal) (ix2 0 k) = aG m c (ix2 0 k) := by
  blk_ext [iblk, idx t]
theorem blk2 (t : Fin cfg0.N) (r : Fin 1024) (k : Fin 1536) : (iblk m c 2 t : S1024x1536.Idx → EReal) (ix2 r k) = aWa m c (ix2 r k) := by
  blk_ext [iblk, idx t]
theorem blk3 (t : Fin cfg0.N) (r : Fin 1024) (k : Fin 128) : (iblk m c 3 t : S1024x128.Idx → EReal) (ix2 r k) = aWf m c (ix2 r k) := by
  blk_ext [iblk, idx t]
theorem blk4 (t : Fin cfg0.N) (r : Fin 1024) (k : Fin 4096) : (iblk m c 4 t : S1024x4096.Idx → EReal) (ix2 r k) = aWb m c (ix2 r k) := by
  blk_ext [iblk, idx t]

theorem hid_at (t : Fin cfg0.N) (r : Fin 256) (k : Fin 1024) :
    hid (n := 256) (iblk m c 0 t) (fun k => (iblk m c 1 t : S1x1024.Idx → EReal) (ix2 0 k)) r k = hid (mx m c) (fun k => mg m c (ix1 k)) (rw' t r) k :=
  hid_congr _ _ _ _ _ _ k (fun k => (blk0 m c t r k).trans (congrFun (v_x m c) _)) (fun k => (blk1 m c t k).trans (g_at m c k))

/-- The forget part's array with its padding: the columns past the eighth are whatever the padded weight makes them. -/
def fA (r : Fin 4096) (a : Fin 128) : EReal := ∑ k : Fin 1024, hid (mx m c) (fun k => mg m c (ix1 k)) r k * aWf m c (ix2 k a)

theorem final_h : (dats m 0 c).arrAt 5 (cfgs 0).N = fun y : S4096x1024.Idx => hid (mx m c) (fun k => mg m c (ix1 k)) (y 0) (y 1) := by
  refine (dats m 0 c).arrAt_eq_of_covers 5 _ (by decide +kernel) fun t _ y => ?_
  blk_simp
  rw [after0_5, ← ix2_eta y]; frame_out
  refine (pay_h (iblk m c 0 t) (iblk m c 1 t) (y 0) (y 1)).trans ((hid_at m c t (y 0) (y 1)).trans ?_)
  refine congrArg₂ (hid (mx m c) (fun k => mg m c (ix1 k))) (Fin.ext ?_) (Fin.ext ?_) <;> (blk_simp [idx t])
theorem final_a : (dats m 0 c).arrAt 6 (cfgs 0).N = fun y : S4096x1536.Idx => prj (mx m c) (mg m c) (mw m c) (y 0) ⟨(y 1).val, by have := (y 1).isLt; simp at this; omega⟩ := by
  refine (dats m 0 c).arrAt_eq_of_covers 6 _ (by decide +kernel) fun t _ y => ?_
  blk_simp
  rw [after0_6, ← ix2_eta y]; frame_out
  refine (pay_a (iblk m c 0 t) (iblk m c 1 t) (iblk m c 2 t) (y 0) (y 1)).trans ((Finset.sum_congr rfl fun k _ =>
    congrArg₂ (· * ·) (hid_at m c t (y 0) k) ((blk2 m c t k (y 1)).trans (wa_at m c k (y 1)))).trans ?_)
  refine congrArg₂ (prj (mx m c) (mg m c) (mw m c)) (Fin.ext ?_) (Fin.ext ?_) <;> (blk_simp [idx t])
theorem final_f : (dats m 0 c).arrAt 7 (cfgs 0).N = fun y : S4096x128.Idx => fA m c (y 0) (y 1) := by
  refine (dats m 0 c).arrAt_eq_of_covers 7 _ (by decide +kernel) fun t _ y => ?_
  blk_simp
  rw [after0_7, ← ix2_eta y]; frame_out
  refine (pay_f (iblk m c 0 t) (iblk m c 1 t) (iblk m c 3 t) (y 0) (y 1)).trans ((Finset.sum_congr rfl fun k _ =>
    congrArg₂ (· * ·) (hid_at m c t (y 0) k) (blk3 m c t k (y 1))).trans ?_)
  refine congrArg₂ (fA m c) (Fin.ext ?_) (Fin.ext ?_) <;> (blk_simp [idx t])
theorem final_b : (dats m 0 c).arrAt 8 (cfgs 0).N = fun y : S4096x4096.Idx => prj (mx m c) (mg m c) (mw m c) (y 0) ⟨1544 + (y 1).val, by have := (y 1).isLt; simp at this; omega⟩ := by
  refine (dats m 0 c).arrAt_eq_of_covers 8 _ (by decide +kernel) fun t _ y => ?_
  blk_simp
  rw [after0_8, ← ix2_eta y]; frame_out
  refine (pay_b (iblk m c 0 t) (iblk m c 1 t) (iblk m c 4 t) (y 0) (y 1)).trans ((Finset.sum_congr rfl fun k _ =>
    congrArg₂ (· * ·) (hid_at m c t (y 0) k) ((blk4 m c t k (y 1)).trans (wb_at m c k (y 1)))).trans ?_)
  refine congrArg₂ (prj (mx m c) (mg m c) (mw m c)) (Fin.ext ?_) (Fin.ext ?_) <;> (blk_simp [idx t])

theorem f_prj (r : Fin 4096) (b : Fin 8) : fA m c r ⟨b.val, by omega⟩ = prj (mx m c) (mg m c) (mw m c) r ⟨1536 + b.val, by omega⟩ :=
  Finset.sum_congr rfl fun k _ => congrArg (_ * ·) (wf_at m c k b)

end Cert.InFwdIdeal.Val

end
-- ==== Proof.InFwdMain.lean ====
/- The claims about the input projection's forward call. -/
module

public import proofs.«01_k».proof.Defs
public import proofs.«01_k».proof.Proof.InFwdValue
public import proofs.«01_k».proof.Proof.Gen.InFwd.Frame
public import proofs.«01_k».proof.Proof.Gen.InFwdRefIdeal.Run
public import Idealize.ShloMosaic.Lib.Claim
public import Idealize.ShloMosaic.Lib.Quiescent

@[expose] public section

set_option maxRecDepth 16384

noncomputable section

namespace Cert.InFwdIdeal.Val

open Idealize.ShloMosaic Idealize.ShloMosaic.TcCoe Idealize.SL.Sem
open Idealize.ShloMosaic.Pipeline (Dat)
open Cert.InFwdIdeal Cert.InFwdIdeal.Gen
open Cert.InFwdRefIdeal.Val (hid prj h_at a_at f_at b_at)
open Cert.InFwdRefIdeal.Read (val_main_v12 val_main_v14 val_main_v15 val_main_v16)

variable (m : (ℓ : Loc nD τ sig) → Buf (Elt Ideal) ℓ) (c : Dev nD)

abbrev arr (w : Fin cfg0.W) := (dats m 0 c).arrAt w (cfgs 0).N
abbrev endV : Valuation τ sig (Elt Ideal) := Pipeline.withArrays (cfgs 0).spec c (V0 m c) fun w => (dats m 0 c).arrAt w (cfgs 0).N

theorem end_h : endV m c (Proc.devRef .tc main_v6_0) = arr m c 5 := Pipeline.withArrays_arr (cfgs 0).spec (by decide) c _ _ 5
theorem end_a : endV m c (Proc.devRef .tc main_v6_1) = arr m c 6 := Pipeline.withArrays_arr (cfgs 0).spec (by decide) c _ _ 6
theorem end_f : endV m c (Proc.devRef .tc main_v6_2) = arr m c 7 := Pipeline.withArrays_arr (cfgs 0).spec (by decide) c _ _ 7
theorem end_b : endV m c (Proc.devRef .tc main_v6_3) = arr m c 8 := Pipeline.withArrays_arr (cfgs 0).spec (by decide) c _ _ 8

theorem t_h (σ : Valuation τ sig (Elt Ideal)) : StableHlo.after hostOps1 σ (Proc.devRef .tc main_v7) = extf (F := Ideal) .f32 (σ (Proc.devRef .tc main_v6_0)) bitsLt_bf16_f32 := by
  entry_read
  rfl
theorem t_a (σ : Valuation τ sig (Elt Ideal)) : StableHlo.after hostOps1 σ (Proc.devRef .tc main_v8) = extf (F := Ideal) .f32 (σ (Proc.devRef .tc main_v6_1)) bitsLt_bf16_f32 := by
  entry_read
  rfl
theorem t_f (σ : Valuation τ sig (Elt Ideal)) : StableHlo.after hostOps1 σ (Proc.devRef .tc main_v9) = extractStridedSlice S4096x8 ![0, 0] (σ (Proc.devRef .tc main_v6_2)) slices_S4096x128_S4096x8_0_0 := by
  entry_read
  rfl
theorem t_b (σ : Valuation τ sig (Elt Ideal)) : StableHlo.after hostOps1 σ (Proc.devRef .tc main_v10) = extf (F := Ideal) .f32 (σ (Proc.devRef .tc main_v6_3)) bitsLt_bf16_f32 := by
  entry_read
  rfl

abbrev Tail (b : Ref sig .tc) : Buf (Elt Ideal) ((c : Thread nD τ).loc b) := Pipeline.afterTail₀ cfgs (dats m) 0 (V0 m) [hostOps1] c b

theorem tail_h : Tail m c main_v7 = val_main_v12 (F := Ideal) (mx m c) (mg m c) := by
  refine (t_h (endV m c)).trans ((congrArg (fun a => extf (F := Ideal) .f32 a bitsLt_bf16_f32) ((end_h m c).trans (final_h m c))).trans (funext fun y => ?_))
  exact (h_at (mx m c) (mg m c) (y 0) (y 1)).symm.trans (congrArg _ (ix2_eta y))
theorem tail_a : Tail m c main_v8 = val_main_v14 (F := Ideal) (mx m c) (mg m c) (mw m c) := by
  refine (t_a (endV m c)).trans ((congrArg (fun a => extf (F := Ideal) .f32 a bitsLt_bf16_f32) ((end_a m c).trans (final_a m c))).trans (funext fun y => ?_))
  exact (a_at (mx m c) (mg m c) (mw m c) (y 0) (y 1)).symm.trans (congrArg _ (ix2_eta y))
theorem slice_at (v : FVec Ideal S4096x128 .f32) (r : Fin 4096) (b : Fin 8) :
    extractStridedSlice S4096x8 ![0, 0] v slices_S4096x128_S4096x8_0_0 (ix2 r b) = v (ix2 r ⟨b.val, by omega⟩) := by
  pointwise
theorem tail_f : Tail m c main_v9 = val_main_v15 (F := Ideal) (mx m c) (mg m c) (mw m c) := by
  refine (t_f (endV m c)).trans ((congrArg (fun a => extractStridedSlice S4096x8 ![0, 0] a slices_S4096x128_S4096x8_0_0) ((end_f m c).trans (final_f m c))).trans (funext fun y => ?_))
  refine ((congrArg _ (ix2_eta y).symm).trans ((slice_at _ (y 0) (y 1)).trans (f_prj m c (y 0) (y 1)))).trans ?_
  exact (f_at (mx m c) (mg m c) (mw m c) (y 0) (y 1)).symm.trans (congrArg _ (ix2_eta y))
theorem tail_b : Tail m c main_v10 = val_main_v16 (F := Ideal) (mx m c) (mg m c) (mw m c) := by
  refine (t_b (endV m c)).trans ((congrArg (fun a => extf (F := Ideal) .f32 a bitsLt_bf16_f32) ((end_b m c).trans (final_b m c))).trans (funext fun y => ?_))
  exact (b_at (mx m c) (mg m c) (mw m c) (y 0) (y 1)).symm.trans (congrArg _ (ix2_eta y))

end Cert.InFwdIdeal.Val

namespace Cert.InFwdProof

open Idealize.ShloMosaic Idealize.ShloMosaic.TcCoe Idealize.SL.Sem

theorem frame : Cert.quiescent_InFwd := fun m ρ _ => Cert.InFwd.Gen.frame m ρ
theorem frame_ideal : Cert.quiescent_InFwdIdeal := fun m ρ _ => Cert.InFwdIdeal.Gen.frame m ρ
theorem frame_ref : Cert.quiescent_InFwdRefIdeal := fun m ρ _ =>
  (θ_run Cert.InFwdRefIdeal.defs _ _).mono (fun r h => ⟨fun c => (h c).2.2.2.2, sem_eq_zero_of_no_sems (by decide) r.2⟩)
    (Cert.InFwdRefIdeal.Value.run (F := Ideal) m ρ)

open Cert.InFwdIdeal Cert.InFwdIdeal.Gen Cert.InFwdIdeal.Val in
theorem run_results (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v7) = Tail m c main_v7 ∧ r.2.mem ((c.tc : Thread nD τ).loc main_v8) = Tail m c main_v8
      ∧ r.2.mem ((c.tc : Thread nD τ).loc main_v9) = Tail m c main_v9 ∧ r.2.mem ((c.tc : Thread nD τ).loc main_v10) = Tail m c main_v10) := by
  refine θ_run_mono (Cert.InFwdIdeal.Gen.run_main m g) ?_
  intro r h c
  exact ⟨(h c).2 main_v7 (by decide : main_v7 ∈ Pipeline.restRefs sig spec0), (h c).2 main_v8 (by decide : main_v8 ∈ Pipeline.restRefs sig spec0),
    (h c).2 main_v9 (by decide : main_v9 ∈ Pipeline.restRefs sig spec0), (h c).2 main_v10 (by decide : main_v10 ∈ Pipeline.restRefs sig spec0)⟩

open Cert.InFwdIdeal Cert.InFwdIdeal.Gen Cert.InFwdIdeal.Val in
theorem algebraic : Cert.algebraic_InFwdIdeal_InFwdRefIdeal := by
  intro m g m' g' hpre hagree
  refine ⟨fun c => Tail m c main_v7, fun c => Tail m c main_v8, fun c => Tail m c main_v9, fun c => Tail m c main_v10, ?_, ?_⟩
  · refine θ_run_mono (θ_run_and (run_results m g) (Cert.InFwdIdeal.Gen.frame m g)) ?_
    intro r h c
    obtain ⟨h1, h2, h3, h4⟩ := h.1 c
    exact ⟨h1, h2, h3, h4, h.2.1 c⟩
  · refine θ_run_mono (Cert.InFwdRefIdeal.Value.run (F := Ideal) m' g') ?_
    intro r h c
    obtain ⟨h1, h2, h3, h4, h5⟩ := h c
    obtain ⟨a0, a1, a2⟩ := hagree c
    refine ⟨(h1.trans (Cert.InFwdRefIdeal.Read.val_main_v12_eq _ _)).trans ?_, (h2.trans (Cert.InFwdRefIdeal.Read.val_main_v14_eq _ _ _)).trans ?_,
      (h3.trans (Cert.InFwdRefIdeal.Read.val_main_v15_eq _ _ _)).trans ?_, (h4.trans (Cert.InFwdRefIdeal.Read.val_main_v16_eq _ _ _)).trans ?_, h5⟩
    · rw [a0, a1]; exact (tail_h m c).symm
    · rw [a0, a1, a2]; exact (tail_a m c).symm
    · rw [a0, a1, a2]; exact (tail_f m c).symm
    · rw [a0, a1, a2]; exact (tail_b m c).symm

end Cert.InFwdProof

end
-- ==== Proof.FfnFwdHost.lean ====
/- The feed-forward layer's forward call: the layer table, the arrays the host prepares, and one point's products. -/
module

public import proofs.«01_k».proof.Proof.SiluGrad
public import proofs.«01_k».proof.Proof.Gen.FfnFwdIdeal.Frame
public import Idealize.ShloMosaic.Lib.Pipeline.ValueKit
public import Idealize.ShloMosaic.Lib.Pipeline.Covers
public import Idealize.ShloMosaic.Lib.Pointwise
public import Idealize.ShloMosaic.Lib.KernelVsHost

@[expose] public section

set_option maxRecDepth 16384

noncomputable section

namespace Cert.SiluGrad
open Idealize.ShloMosaic

/-- The two forms of the logistic function agree at every extended real. -/
theorem sg_eq (a : EReal) : sgK a = sgR a := by
  have z : Ideal.div 1 (1 : EReal) = 1 := by
    rw [show (1 : EReal) = ((1 : ℝ) : EReal) from rfl, Cert.Reals.div_real _ one_ne_zero]; norm_num
  induction a using EReal.rec with
  | bot =>
    have h : sgK ⊥ = ((0 : ℝ) : EReal) := by
      unfold sgK
      rw [half, EReal.coe_mul_bot_of_pos (by norm_num : (0 : ℝ) < 1 / 2)]
      show (((1 / 2 : ℝ) : EReal)) * (-1) + ((1 / 2 : ℝ) : EReal) = _
      rw [show (-1 : EReal) = ((-1 : ℝ) : EReal) from rfl, ← EReal.coe_mul, ← EReal.coe_add]; norm_num
    have h' : sgR ⊥ = ((0 : ℝ) : EReal) := by
      unfold sgR cO
      rw [EReal.neg_bot]
      show Ideal.div 1 (1 + ⊤) = _
      rw [show (1 : EReal) + ⊤ = ⊤ from EReal.coe_add_top 1, Ideal.div, if_neg EReal.top_ne_zero, EReal.inv_top]; norm_num
    rw [h, h']
  | coe a => rw [sgK_real, sgR_real]
  | top =>
    have h : sgK ⊤ = 1 := by
      unfold sgK
      rw [half, EReal.coe_mul_top_of_pos (by norm_num : (0 : ℝ) < 1 / 2)]
      show (((1 / 2 : ℝ) : EReal)) * 1 + ((1 / 2 : ℝ) : EReal) = _
      rw [mul_one, ← EReal.coe_add]; norm_num
    have h' : sgR ⊤ = 1 := by
      unfold sgR cO
      rw [EReal.neg_top]
      show Ideal.div 1 (1 + 0) = _
      rw [add_zero, z]
    rw [h, h']

end Cert.SiluGrad

namespace Cert.FfnFwdIdeal.Val

open Idealize.ShloMosaic Idealize.ShloMosaic.TcCoe Idealize.SL.Sem
open Idealize.ShloMosaic.Pipeline (Dat)
open Cert.FfnFwdIdeal Cert.FfnFwdIdeal.Gen Cert.NormGrad Cert.SiluGrad

section
variable {F : FTy → Type} [FloatOps F] (m : (ℓ : Loc nD τ sig) → Buf (Elt F) ℓ)

theorem v_t (c : Dev nD) : V m c main_v7 = broadcastInDim S1 ![] bcast_S_S1 (constantI S_ 32 0#32) := by
  entry_read
  rfl
/-- The layer table holds layer zero. -/
theorem tbl_zero : tbl m 0 = fun _ => (0#32 : BitVec 32) := (v_t m 0).trans rfl

theorem tr2 (pf : pre0.Contents (Elt F)) (h : pf 0 = fun _ => (0#32 : BitVec 32)) (i : grid0.Coords) : cc0_transform_2 inb_S1_S1_0 numel1_S1 pf i = ![0, 0, 0, 0] := by
  have e : pf.at 0 (Rect.unit (s := S1) ![0] S1.size inb_S1_S1_0) numel1_S1 = 0#32 := congrFun h _
  unfold cc0_transform_2
  rw [e]; rfl
theorem tr3 (pf : pre0.Contents (Elt F)) (h : pf 0 = fun _ => (0#32 : BitVec 32)) (i : grid0.Coords) : cc0_transform_3 inb_S1_S1_0 numel1_S1 pf i = ![0, 0, 0] := by
  have e : pf.at 0 (Rect.unit (s := S1) ![0] S1.size inb_S1_S1_0) numel1_S1 = 0#32 := congrFun h _
  unfold cc0_transform_3
  rw [e]; rfl

/-- Layer zero is in range, so the table is admissible. -/
theorem ok : Ok m := by
  refine ⟨fun i => ?_, fun i => ?_⟩
  · rw [tr2 (tbl m) (tbl_zero m) i]
    exact ⟨by decide, .inr (Affine.block_words_dvd (of_decide_eq_true rfl) (by decide))⟩
  · rw [tr3 (tbl m) (tbl_zero m) i]
    exact ⟨by decide, .inr (Affine.block_words_dvd (of_decide_eq_true rfl) (by decide))⟩
end

/-- One entry of the scaled row. -/
def hid {n : Nat} (x : (⟨2, ![n, 1024]⟩ : Shape).Idx → EReal) (g : Fin 1024 → EReal) (r : Fin n) (k : Fin 1024) : EReal :=
  x (ix2 r k) * inv (Ideal.ofBits .f32 1149239296#32) (Ideal.ofBits .f32 897988541#32) (fun k => x (ix2 r k)) * g k
theorem hid_congr {n n' : Nat} (x : (⟨2, ![n, 1024]⟩ : Shape).Idx → EReal) (x' : (⟨2, ![n', 1024]⟩ : Shape).Idx → EReal) (g g' : Fin 1024 → EReal)
    (r : Fin n) (r' : Fin n') (k : Fin 1024) (e : ∀ k, x (ix2 r k) = x' (ix2 r' k)) (e' : ∀ k, g k = g' k) : hid x g r k = hid x' g' r' k := by
  unfold hid; simp only [e, e']

/-- Four parts side by side. -/
theorem parts_at (p q s t : FVec Ideal S256x1408 .f32) (r : Fin 256) (f : Fin 5632) :
    concatenate S256x5632 1 [⟨S256x1408, p⟩, ⟨S256x1408, q⟩, ⟨S256x1408, s⟩, ⟨S256x1408, t⟩] concatenates_S256x1408_S256x1408_S256x1408_S256x1408_S256x5632_d1 (ix2 r f)
      = if h : f.val < 1408 then p (ix2 r ⟨f.val, h⟩) else if h' : f.val - 1408 < 1408 then q (ix2 r ⟨f.val - 1408, h'⟩)
        else if h'' : f.val - 1408 - 1408 < 1408 then s (ix2 r ⟨f.val - 1408 - 1408, h''⟩) else t (ix2 r ⟨f.val - 1408 - 1408 - 1408, by omega⟩) := by
  pointwise []

/-- The first product, one part of the weight at a time. -/
theorem pay_u (x : Vec Ideal S256x1024 .f32) (g : Vec Ideal S1x1024 .f32) (w0 w1 w2 w3 : Vec Ideal S1x1x1024x1408 .bf16) (W : Fin 1024 → Fin 5632 → EReal)
    (h0 : ∀ k (f : Fin 1408), w0 (ix4 0 0 k f) = W k ⟨f.val, by omega⟩) (h1 : ∀ k (f : Fin 1408), w1 (ix4 0 0 k f) = W k ⟨1408 + f.val, by omega⟩)
    (h2 : ∀ k (f : Fin 1408), w2 (ix4 0 0 k f) = W k ⟨2816 + f.val, by omega⟩) (h3 : ∀ k (f : Fin 1408), w3 (ix4 0 0 k f) = W k ⟨4224 + f.val, by omega⟩)
    (r : Fin 256) (f : Fin 5632) : k0_pay2 (F := Ideal) x g w0 w1 w2 w3 (ix2 r f) = ∑ k : Fin 1024, hid x (fun k => g (ix2 0 k)) r k * W k f := by
  have e : ∀ (w : Vec Ideal S1x1x1024x1408 .bf16) (d : Nat) (hd : d + 1408 ≤ 5632) (f : Fin 1408) (h : ∀ k (f : Fin 1408), w (ix4 0 0 k f) = W k ⟨d + f.val, by omega⟩),
      (∑ k : Fin 1024, hid x (fun k => g (ix2 0 k)) r k * w (ix4 0 0 k f)) = ∑ k : Fin 1024, hid x (fun k => g (ix2 0 k)) r k * W k ⟨d + f.val, by omega⟩ :=
    fun w d hd f h => Finset.sum_congr rfl fun k _ => congrArg (_ * ·) (h k f)
  unfold k0_pay2
  dsimp only
  rw [parts_at]
  split_ifs with a b d
  · pointwise []
    exact (e w0 0 (by omega) ⟨f.val, a⟩ (fun k f => (h0 k f).trans (congrArg (W k) (Fin.ext (by simp))))).trans (Finset.sum_congr rfl fun k _ => congrArg (fun j => _ * W k j) (Fin.ext (by simp)))
  · pointwise []
    exact (e w1 1408 (by omega) ⟨f.val - 1408, by omega⟩ h1).trans (Finset.sum_congr rfl fun k _ => congrArg (fun j => _ * W k j) (Fin.ext (by simp; omega)))
  · pointwise []
    exact (e w2 2816 (by omega) ⟨f.val - 1408 - 1408, by omega⟩ h2).trans (Finset.sum_congr rfl fun k _ => congrArg (fun j => _ * W k j) (Fin.ext (by simp; omega)))
  · pointwise []
    exact (e w3 4224 (by omega) ⟨f.val - 1408 - 1408 - 1408, by omega⟩ h3).trans (Finset.sum_congr rfl fun k _ => congrArg (fun j => _ * W k j) (Fin.ext (by simp; omega)))
theorem pay_b (x : Vec Ideal S256x1024 .f32) (g : Vec Ideal S1x1024 .f32) (w0 w1 w2 w3 : Vec Ideal S1x1x1024x1408 .bf16) :
    k0_pay3 (F := Ideal) x g w0 w1 w2 w3 = k0_pay2 (F := Ideal) x g w0 w1 w2 w3 := rfl

/-- The second product, over the gated columns. -/
theorem pay_y (x : Vec Ideal S256x1024 .f32) (u : FVec Ideal S256x5632 .f32) (o : Vec Ideal S1x2816x1024 .bf16) (r : Fin 256) (j : Fin 1024) :
    k0_pay1 (F := Ideal) x u o (ix2 r j) = x (ix2 r j) + ∑ f : Fin 2816, tK (u (ix2 r ⟨f.val, by omega⟩)) (u (ix2 r ⟨2816 + f.val, by omega⟩)) * o (ix3 0 f j) := by
  pointwise [k0_pay1]
  rfl

theorem at_tile {a b : Nat} (s r : Nat) (h : a = b) : a * s + r = b * s + r := by rw [h]
theorem at_zero {a : Nat} (s r : Nat) (h : a = 0) : a * s + r = r := by rw [h, Nat.zero_mul, Nat.zero_add]
theorem at_nil {a : Nat} (h : a = 0) : a + 0 = 0 := h

section
variable (m : (ℓ : Loc nD τ sig) → Buf (Elt Ideal) ℓ) (c : Dev nD)

abbrev mx : FVec Ideal S4096x1024 .f32 := m ((c.tc : Thread nD τ).loc main_arg0)
abbrev mg : FVec Ideal S1024 .f32 := m ((c.tc : Thread nD τ).loc main_arg1)
abbrev mw : FVec Ideal S1024x5632 .f32 := m ((c.tc : Thread nD τ).loc main_arg2)
abbrev mo : FVec Ideal S2816x1024 .f32 := m ((c.tc : Thread nD τ).loc main_arg3)

theorem v_x : V m c main_arg0 = mx m c := by
  entry_read
  rfl
theorem v_g : V m c main_v3 = shapeCast S1x1024 (mg m c) shapeCasts_S1024_S1x1024 := by
  entry_read
  rfl
theorem v_w : V m c main_v4 = broadcastInDim S1x4x1024x1408 ![1, 2, 3] bcast_S4x1024x1408_S1x4x1024x1408_1_2_3
    (transpose S4x1024x1408 [1, 0, 2] (shapeCast S1024x4x1408 (truncf (F := Ideal) .bf16 (mw m c) bitsLt_bf16_f32) shapeCasts_S1024x5632_S1024x4x1408) transposes_S1024x4x1408_S4x1024x1408_1_0_2) := by
  entry_read
  rfl
theorem v_o : V m c main_v6 = broadcastInDim S1x2816x1024 ![1, 2] bcast_S2816x1024_S1x2816x1024_1_2 (truncf (F := Ideal) .bf16 (mo m c) bitsLt_bf16_f32) := by
  entry_read
  rfl
theorem w_at (s : Fin 4) (k : Fin 1024) (f : Fin 1408) (w : FVec Ideal S1024x5632 .f32) : (broadcastInDim S1x4x1024x1408 ![1, 2, 3] bcast_S4x1024x1408_S1x4x1024x1408_1_2_3
    (transpose S4x1024x1408 [1, 0, 2] (shapeCast S1024x4x1408 (truncf (F := Ideal) .bf16 w bitsLt_bf16_f32) shapeCasts_S1024x5632_S1024x4x1408) transposes_S1024x4x1408_S4x1024x1408_1_0_2) : S1x4x1024x1408.Idx → EReal) (ix4 0 s k f)
      = w (ix2 k ⟨s.val * 1408 + f.val, by omega⟩) := by
  pointwise
theorem o_at (w : FVec Ideal S2816x1024 .f32) (f : Fin 2816) (k : Fin 1024) : (broadcastInDim S1x2816x1024 ![1, 2] bcast_S2816x1024_S1x2816x1024_1_2 (truncf (F := Ideal) .bf16 w bitsLt_bf16_f32) : S1x2816x1024.Idx → EReal) (ix3 0 f k) = w (ix2 f k) := by
  pointwise

theorem idx : ∀ t : Fin (cfgM m (ok m)).N, (pcfg0.win (adm m (ok m)) 0).index t = ![t.val, 0] ∧ (pcfg0.win (adm m (ok m)) 1).index t = ![0, 0]
    ∧ (pcfg0.win (adm m (ok m)) 4).index t = ![t.val, 0] ∧ (pcfg0.win (adm m (ok m)) 5).index t = ![t.val, 0] :=
  (by decide +kernel : ∀ t : Fin grid0.N, cc0_transform_0 (grid0.coords t) = ![t.val, 0] ∧ cc0_transform_1 (grid0.coords t) = ![0, 0]
    ∧ cc0_transform_4 (grid0.coords t) = ![t.val, 0] ∧ cc0_transform_5 (grid0.coords t) = ![t.val, 0])
theorem idx2 (t : Fin (cfgM m (ok m)).N) : (pcfg0.win (adm m (ok m)) 2).index t = ![0, 0, 0, 0] := tr2 (tbl m) (tbl_zero m) (grid0.coords t)
theorem idx3 (t : Fin (cfgM m (ok m)).N) : (pcfg0.win (adm m (ok m)) 3).index t = ![0, 0, 0] := tr3 (tbl m) (tbl_zero m) (grid0.coords t)

theorem lt16 (t : Fin (cfgM m (ok m)).N) : t.val < 16 := lt_of_lt_of_eq t.isLt (show (cfgM m (ok m)).N = 16 from N_0)
/-- The row a tile's row sits at. -/
abbrev rw' (t : Fin (cfgM m (ok m)).N) (s : Fin 256) : Fin 4096 := ⟨t.val * 256 + s.val, by have := lt16 m t; omega⟩

theorem blk0 (t : Fin (cfgM m (ok m)).N) (r : Fin 256) (k : Fin 1024) : (iblk m (ok m) c 0 t : S256x1024.Idx → EReal) (ix2 r k) = V m c main_arg0 (ix2 (rw' m t r) k) := by
  blk_ext [iblk]
  exacts [at_tile _ _ (congrFun (idx m t).1 0), at_zero _ _ (congrFun (idx m t).1 1)]
theorem blk1 (t : Fin (cfgM m (ok m)).N) (k : Fin 1024) : (iblk m (ok m) c 1 t : S1x1024.Idx → EReal) (ix2 0 k) = V m c main_v3 (ix2 0 k) := by
  blk_ext [iblk]
  exacts [at_nil (congrFun (idx m t).2.1 0), at_zero _ _ (congrFun (idx m t).2.1 1)]
theorem blk2 (t : Fin (cfgM m (ok m)).N) (s : Fin 4) (k : Fin 1024) (f : Fin 1408) : (iblk m (ok m) c 2 t : S1x4x1024x1408.Idx → EReal) (ix4 0 s k f) = V m c main_v4 (ix4 0 s k f) := by
  blk_ext [iblk]
  exacts [at_nil (congrFun (idx2 m t) 0), at_zero _ _ (congrFun (idx2 m t) 1), at_zero _ _ (congrFun (idx2 m t) 2), at_zero _ _ (congrFun (idx2 m t) 3)]
theorem blk3 (t : Fin (cfgM m (ok m)).N) (f : Fin 2816) (k : Fin 1024) : (iblk m (ok m) c 3 t : S1x2816x1024.Idx → EReal) (ix3 0 f k) = V m c main_v6 (ix3 0 f k) := by
  blk_ext [iblk]
  exacts [at_nil (congrFun (idx3 m t) 0), at_zero _ _ (congrFun (idx3 m t) 1), at_zero _ _ (congrFun (idx3 m t) 2)]
end

end Cert.FfnFwdIdeal.Val

end
-- ==== Proof.FfnFwdMain.lean ====
/- The feed-forward layer's forward call: its two result arrays, and the claims about them. -/
module

public import proofs.«01_k».proof.Defs
public import proofs.«01_k».proof.Proof.FfnFwdHost
public import proofs.«01_k».proof.Proof.Gen.FfnFwd.Skeleton
public import proofs.«01_k».proof.Proof.Gen.FfnFwdRefIdeal.Run
public import proofs.«01_k».proof.Proof.Gen.FfnFwdRefIdeal.Read
public import Idealize.ShloMosaic.Lib.Claim
public import Idealize.ShloMosaic.Lib.Quiescent

@[expose] public section

set_option maxRecDepth 16384

noncomputable section

namespace Cert.FfnFwdIdeal.Val

open Idealize.ShloMosaic Idealize.ShloMosaic.TcCoe Idealize.SL.Sem
open Idealize.ShloMosaic.Pipeline (Dat)
open Cert.FfnFwdIdeal Cert.FfnFwdIdeal.Gen Cert.NormGrad Cert.SiluGrad

variable (m : (ℓ : Loc nD τ sig) → Buf (Elt Ideal) ℓ) (c : Dev nD)

/-- The first product and the layer's output, row by row. -/
def uA (r : Fin 4096) (f : Fin 5632) : EReal := ∑ k : Fin 1024, hid (mx m c) (fun k => mg m c (ix1 k)) r k * mw m c (ix2 k f)
def yA (r : Fin 4096) (j : Fin 1024) : EReal := mx m c (ix2 r j) + ∑ f : Fin 2816, tK (uA m c r ⟨f.val, by omega⟩) (uA m c r ⟨2816 + f.val, by omega⟩) * mo m c (ix2 f j)

abbrev xB (t : Fin (cfgM m (ok m)).N) : Vec Ideal S256x1024 .f32 := iblk m (ok m) c 0 t
abbrev gB (t : Fin (cfgM m (ok m)).N) : Vec Ideal S1x1024 .f32 := iblk m (ok m) c 1 t
abbrev wB (t : Fin (cfgM m (ok m)).N) : Vec Ideal S1x4x1024x1408 .bf16 := iblk m (ok m) c 2 t
abbrev oB (t : Fin (cfgM m (ok m)).N) : Vec Ideal S1x2816x1024 .bf16 := iblk m (ok m) c 3 t

theorem x_at (t : Fin (cfgM m (ok m)).N) (r : Fin 256) (k : Fin 1024) : xB m c t (ix2 r k) = mx m c (ix2 (rw' m t r) k) := (blk0 m c t r k).trans (congrFun (v_x m c) _)
theorem g_at (t : Fin (cfgM m (ok m)).N) (k : Fin 1024) : gB m c t (ix2 0 k) = mg m c (ix1 k) := by
  refine (blk1 m c t k).trans ((congrFun (v_g m c) _).trans ?_)
  pointwise
theorem wB_at (t : Fin (cfgM m (ok m)).N) (s : Fin 4) (k : Fin 1024) (f : Fin 1408) : wB m c t (ix4 0 s k f) = mw m c (ix2 k ⟨s.val * 1408 + f.val, by omega⟩) :=
  (blk2 m c t s k f).trans ((congrFun (v_w m c) _).trans (w_at s k f _))
theorem oB_at (t : Fin (cfgM m (ok m)).N) (f : Fin 2816) (k : Fin 1024) : oB m c t (ix3 0 f k) = mo m c (ix2 f k) :=
  (blk3 m c t f k).trans ((congrFun (v_o m c) _).trans (o_at _ f k))

def w0 (w : Vec Ideal S1x4x1024x1408 .bf16) : Vec Ideal S1x1x1024x1408 .bf16 := View.ld w (Rect.unit ![0, 0, 0, 0] S1x1x1024x1408.size inb_S1x4x1024x1408_S1x1x1024x1408_0_0_0_0)
def w1 (w : Vec Ideal S1x4x1024x1408 .bf16) : Vec Ideal S1x1x1024x1408 .bf16 := View.ld w (Rect.unit ![0, 1, 0, 0] S1x1x1024x1408.size inb_S1x4x1024x1408_S1x1x1024x1408_0_1_0_0)
def w2 (w : Vec Ideal S1x4x1024x1408 .bf16) : Vec Ideal S1x1x1024x1408 .bf16 := View.ld w (Rect.unit ![0, 2, 0, 0] S1x1x1024x1408.size inb_S1x4x1024x1408_S1x1x1024x1408_0_2_0_0)
def w3 (w : Vec Ideal S1x4x1024x1408 .bf16) : Vec Ideal S1x1x1024x1408 .bf16 := View.ld w (Rect.unit ![0, 3, 0, 0] S1x1x1024x1408.size inb_S1x4x1024x1408_S1x1x1024x1408_0_3_0_0)
theorem ld_w (w : Vec Ideal S1x4x1024x1408 .bf16) (s : Fin 4) (n : Nat) (hn : n = s.val) (inb) (k : Fin 1024) (f : Fin 1408) :
    (View.ld w (Rect.unit ![0, n, 0, 0] S1x1x1024x1408.size inb) : Vec Ideal S1x1x1024x1408 .bf16) (ix4 0 0 k f) = w (ix4 0 s k f) :=
  View.ld_unit_apply_of _ _ _ _ _ _ fun a => by fin_cases a <;> simp [ix4, hn]

theorem u_blk (t : Fin (cfgM m (ok m)).N) (r : Fin 256) (f : Fin 5632) :
    k0_pay2 (F := Ideal) (xB m c t) (gB m c t) (w0 (wB m c t)) (w1 (wB m c t)) (w2 (wB m c t)) (w3 (wB m c t)) (ix2 r f) = uA m c (rw' m t r) f := by
  refine (pay_u _ _ _ _ _ _ (fun k f => mw m c (ix2 k f)) (fun k f => ?_) (fun k f => ?_) (fun k f => ?_) (fun k f => ?_) r f).trans
    (Finset.sum_congr rfl fun k _ => congrArg (· * _) (hid_congr _ _ _ _ _ _ k (fun k => x_at m c t r k) fun k => g_at m c t k))
  · exact (ld_w _ 0 _ rfl _ k f).trans ((wB_at m c t 0 k f).trans (congrArg (fun j => mw m c (ix2 k j)) (Fin.ext (by simp))))
  · exact (ld_w _ 1 _ rfl _ k f).trans ((wB_at m c t 1 k f).trans (congrArg (fun j => mw m c (ix2 k j)) (Fin.ext (by simp))))
  · exact (ld_w _ 2 _ rfl _ k f).trans ((wB_at m c t 2 k f).trans (congrArg (fun j => mw m c (ix2 k j)) (Fin.ext (by simp))))
  · exact (ld_w _ 3 _ rfl _ k f).trans ((wB_at m c t 3 k f).trans (congrArg (fun j => mw m c (ix2 k j)) (Fin.ext (by simp))))
theorem y_blk (t : Fin (cfgM m (ok m)).N) (r : Fin 256) (j : Fin 1024) :
    k0_pay1 (F := Ideal) (xB m c t) (k0_pay2 (F := Ideal) (xB m c t) (gB m c t) (w0 (wB m c t)) (w1 (wB m c t)) (w2 (wB m c t)) (w3 (wB m c t))) (oB m c t) (ix2 r j) = yA m c (rw' m t r) j :=
  (pay_y _ _ _ r j).trans (congrArg₂ _ (x_at m c t r j) (Finset.sum_congr rfl fun f _ => congrArg₂ _ (congrArg₂ tK (u_blk m c t r _) (u_blk m c t r _)) (oB_at m c t f j)))

theorem bx (t : Fin (cfgM m (ok m)).N) : View.read (Elt Ideal) (ms0_0 m (ok m) t).view ((hs0_0 m (ok m) t).unread (iblk m (ok m) c 0 t)) = xB m c t := (hs0_0 m (ok m) t).read_unread _
theorem bg (t : Fin (cfgM m (ok m)).N) : View.read (Elt Ideal) (ms0_1 m (ok m) t).view ((hs0_1 m (ok m) t).unread (iblk m (ok m) c 1 t)) = gB m c t := (hs0_1 m (ok m) t).read_unread _
theorem bw (t : Fin (cfgM m (ok m)).N) : View.read (Elt Ideal) (ms0_2 m (ok m) t).view ((hs0_2 m (ok m) t).unread (iblk m (ok m) c 2 t)) = wB m c t := (hs0_2 m (ok m) t).read_unread _
theorem bo (t : Fin (cfgM m (ok m)).N) : View.read (Elt Ideal) (ms0_3 m (ok m) t).view ((hs0_3 m (ok m) t).unread (iblk m (ok m) c 3 t)) = oB m c t := (hs0_3 m (ok m) t).read_unread _

theorem outs_y (t : Fin (cfgM m (ok m)).N) (r : Fin 256) (j : Fin 1024) : (outsAt0 m (ok m) c t).1 (ix2 r j) = yA m c (rw' m t r) j := by
  refine Eq.trans ?_ (y_blk m c t r j)
  unfold outsAt0; frame_out
  rw [bx, bg, bw, bo]
  rfl
theorem outs_u (t : Fin (cfgM m (ok m)).N) (r : Fin 256) (f : Fin 5632) : (outsAt0 m (ok m) c t).2 (ix2 r f) = uA m c (rw' m t r) f := by
  refine Eq.trans ?_ (u_blk m c t r f)
  unfold outsAt0; frame_out
  rw [bx, bg, bw]
  rfl

/-! Every block of every output is some point's. -/
theorem cov4 : ((cfgM m (ok m)).win 4).Covers :=
  Pipeline.Window.covers_of_index_surj _ rfl (by decide : ∀ a : Fin 2, 0 < S256x1024.size a) fun β => by
    obtain ⟨t, ht⟩ : ∃ t : Fin (cfgM m (ok m)).N, t.val = (β (0 : Fin 2)).val :=
      ⟨⟨(β (0 : Fin 2)).val, lt_of_lt_of_eq (β (0 : Fin 2)).isLt ((by sl_kernel_rfl : ((cfgM m (ok m)).win 4).nblk (0 : Fin 2) = 16).trans (Eq.symm N_0))⟩, rfl⟩
    refine ⟨t, fun a => ?_⟩
    match a with
    | ⟨0, _⟩ => exact (congrFun (idx m t).2.2.1 0).trans ht
    | ⟨1, _⟩ => exact (congrFun (idx m t).2.2.1 1).trans (Nat.lt_one_iff.mp (lt_of_lt_of_eq (β (1 : Fin 2)).isLt (by sl_kernel_rfl : ((cfgM m (ok m)).win 4).nblk (1 : Fin 2) = 1))).symm
theorem cov5 : ((cfgM m (ok m)).win 5).Covers :=
  Pipeline.Window.covers_of_index_surj _ rfl (by decide : ∀ a : Fin 2, 0 < S256x5632.size a) fun β => by
    obtain ⟨t, ht⟩ : ∃ t : Fin (cfgM m (ok m)).N, t.val = (β (0 : Fin 2)).val :=
      ⟨⟨(β (0 : Fin 2)).val, lt_of_lt_of_eq (β (0 : Fin 2)).isLt ((by sl_kernel_rfl : ((cfgM m (ok m)).win 5).nblk (0 : Fin 2) = 16).trans (Eq.symm N_0))⟩, rfl⟩
    refine ⟨t, fun a => ?_⟩
    match a with
    | ⟨0, _⟩ => exact (congrFun (idx m t).2.2.2 0).trans ht
    | ⟨1, _⟩ => exact (congrFun (idx m t).2.2.2 1).trans (Nat.lt_one_iff.mp (lt_of_lt_of_eq (β (1 : Fin 2)).isLt (by sl_kernel_rfl : ((cfgM m (ok m)).win 5).nblk (1 : Fin 2) = 1))).symm
theorem final_y : (dats m (ok m) 0 c).arrAt 4 (cfgM m (ok m)).N = fun y : S4096x1024.Idx => yA m c (y 0) (y 1) := by
  refine (dats m (ok m) 0 c).arrAt_eq_of_covers 4 _ (cov4 m) fun t hf y => ?_
  blk_simp
  rw [after0_4]
  refine (congrArg _ (ix2_eta (n0 := 256) (n1 := 1024) y).symm).trans ((outs_y m c t (y (0 : Fin 2)) (y (1 : Fin 2))).trans (congrArg₂ (yA m c) (Fin.ext ?_) (Fin.ext ?_)))
  · blk_simp; exact (at_tile _ _ (congrFun (idx m t).2.2.1 0)).symm
  · blk_simp; exact (at_zero _ _ (congrFun (idx m t).2.2.1 1)).symm
theorem final_u : (dats m (ok m) 0 c).arrAt 5 (cfgM m (ok m)).N = fun y : S4096x5632.Idx => uA m c (y 0) (y 1) := by
  refine (dats m (ok m) 0 c).arrAt_eq_of_covers 5 _ (cov5 m) fun t hf y => ?_
  blk_simp
  rw [after0_5]
  refine (congrArg _ (ix2_eta (n0 := 256) (n1 := 5632) y).symm).trans ((outs_u m c t (y (0 : Fin 2)) (y (1 : Fin 2))).trans (congrArg₂ (uA m c) (Fin.ext ?_) (Fin.ext ?_)))
  · blk_simp; exact (at_tile _ _ (congrFun (idx m t).2.2.2 0)).symm
  · blk_simp; exact (at_zero _ _ (congrFun (idx m t).2.2.2 1)).symm

abbrev arr (w : Fin (cfgM m (ok m)).W) := (dats m (ok m) 0 c).arrAt w (cfgM m (ok m)).N
abbrev endV : Valuation τ sig (Elt Ideal) := Pipeline.withArrays (cfgM m (ok m)).spec c (V0 m c) fun w => arr m c w
theorem inj : Function.Injective (Pipeline.arrRef spec0) := by decide
theorem end_y : endV m c (Proc.devRef .tc main_v8_0) = arr m c 4 := Pipeline.withArrays_arr (cfgM m (ok m)).spec inj c _ _ 4
theorem end_u : endV m c (Proc.devRef .tc main_v8_1) = arr m c 5 := Pipeline.withArrays_arr (cfgM m (ok m)).spec inj c _ _ 5
theorem t_y (σ : Valuation τ sig (Elt Ideal)) : StableHlo.after hostOps1 σ (Proc.devRef .tc main_v8_0) = σ (Proc.devRef .tc main_v8_0) := by
  entry_read
  rfl
theorem t_u (σ : Valuation τ sig (Elt Ideal)) : StableHlo.after hostOps1 σ (Proc.devRef .tc main_v9) = extf (F := Ideal) .f32 (σ (Proc.devRef .tc main_v8_1)) bitsLt_bf16_f32 := by
  entry_read
  rfl

abbrev Tail (b : Ref sig .tc) : Buf (Elt Ideal) ((c : Thread nD τ).loc b) := Pipeline.afterTail pcfgs (fun _ => adm m (ok m)) (dats m (ok m)) 0 (V0 m) [hostOps1] c b
theorem tail_y : Tail m c main_v8_0 = fun y : S4096x1024.Idx => yA m c (y 0) (y 1) :=
  (t_y (endV m c)).trans ((end_y m c).trans (final_y m c))
theorem tail_u : Tail m c main_v9 = fun y : S4096x5632.Idx => uA m c (y 0) (y 1) :=
  (t_u (endV m c)).trans ((congrArg (fun a => extf (F := Ideal) .f32 a bitsLt_bf16_f32) ((end_u m c).trans (final_u m c))).trans rfl)

section
open Cert.FfnFwdRefIdeal.Read
/-- The reference's two results are the same, with no condition on the arguments. -/
theorem ref_u (r : Fin 4096) (f : Fin 5632) : val_main_v13 (F := Ideal) (mx m c) (mg m c) (mw m c) (ix2 r f) = uA m c r f := by
  pointwise [val_main_v13, val_main_v12, val_main_v11, val_main_v10, val_main_v9, val_main_v8, val_main_v7, val_main_v6, val_main_v5, val_main_cst_1, val_main_v4, val_main_v3, val_main_cst_0,
    val_main_v2, val_main_v1, val_main_cst, val_main_v0]
  rfl
theorem ref_a (r : Fin 4096) (f : Fin 2816) : val_main_v17 (F := Ideal) (mx m c) (mg m c) (mw m c) (ix2 r f) = tR (uA m c r ⟨f.val, by omega⟩) (uA m c r ⟨2816 + f.val, by omega⟩) := by
  rw [← ref_u, ← ref_u]
  pointwise [val_main_v17, val_main_v16, val_main_v15, val_main_v14, val_main_call0_v5, val_main_call0_v4, val_main_call0_v3, val_main_call0_v2, val_main_call0_v1, val_main_call0_v0,
    val_main_call0_cst, val_main_call0_cst_0]
  rfl
theorem ref_y (r : Fin 4096) (j : Fin 1024) : val_main_v19 (F := Ideal) (mx m c) (mg m c) (mw m c) (mo m c) (ix2 r j) = yA m c r j := by
  have e : val_main_v19 (F := Ideal) (mx m c) (mg m c) (mw m c) (mo m c) (ix2 r j)
      = mx m c (ix2 r j) + ∑ f : Fin 2816, val_main_v17 (F := Ideal) (mx m c) (mg m c) (mw m c) (ix2 r f) * mo m c (ix2 f j) := by
    pointwise [val_main_v19, val_main_v18]
  refine e.trans (congrArg (_ + ·) (Finset.sum_congr rfl fun f _ => congrArg (· * _) ((ref_a m c r f).trans ?_)))
  unfold tR tK
  rw [sg_eq]
end

end Cert.FfnFwdIdeal.Val

namespace Cert.FfnFwdProof

open Idealize.ShloMosaic Idealize.ShloMosaic.TcCoe Idealize.SL.Sem

section
open Cert.FfnFwdIdeal
/-- The frame of the program as it stands, over any floats. -/
def Keeps (F : FTy → Type) [FloatOps F] : Prop := ∀ (m : (ℓ : Loc nD τ sig) → Buf (Elt F) ℓ) (g : Dev nD → PrngReg), True →
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0)
theorem keeps (F : FTy → Type) [FloatOps F] : Keeps F := fun m ρ _ => Cert.FfnFwdIdeal.Gen.frame m ρ (Cert.FfnFwdIdeal.Val.ok m)
end
theorem same : Keeps Bits = Cert.quiescent_FfnFwd := by sl_kernel_rfl
theorem frame : Cert.quiescent_FfnFwd := same.mp (keeps Bits)
theorem frame_ideal : Cert.quiescent_FfnFwdIdeal := fun m ρ _ => Cert.FfnFwdIdeal.Gen.frame m ρ (Cert.FfnFwdIdeal.Val.ok m)
theorem frame_ref : Cert.quiescent_FfnFwdRefIdeal := fun m ρ _ =>
  (θ_run Cert.FfnFwdRefIdeal.defs _ _).mono (fun r h => ⟨fun c => (h c).2.2, sem_eq_zero_of_no_sems (by decide) r.2⟩)
    (Cert.FfnFwdRefIdeal.Value.run (F := Ideal) m ρ)

theorem rows_eq {a b : ℕ} (v : FVec Ideal ⟨2, ![a, b]⟩ .f32) (f : Fin a → Fin b → EReal) (h : ∀ r j, v (ix2 r j) = f r j) : v = fun y => f (y 0) (y 1) :=
  funext fun y => (congrArg v (ix2_eta y).symm).trans (h (y 0) (y 1))

open Cert.FfnFwdIdeal Cert.FfnFwdIdeal.Gen Cert.FfnFwdIdeal.Val in
theorem run_results (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v8_0) = Tail m c main_v8_0 ∧ r.2.mem ((c.tc : Thread nD τ).loc main_v9) = Tail m c main_v9) := by
  refine θ_run_mono (Cert.FfnFwdIdeal.Gen.run_main m g (ok m)) ?_
  intro r h c
  exact ⟨((h c).1 4).trans ((end_y m c).symm.trans (t_y (endV m c)).symm), (h c).2 main_v9 (by decide : main_v9 ∈ Pipeline.restRefs sig spec0)⟩

open Cert.FfnFwdIdeal Cert.FfnFwdIdeal.Gen Cert.FfnFwdIdeal.Val in
theorem algebraic : Cert.algebraic_FfnFwdIdeal_FfnFwdRefIdeal := by
  intro m g m' g' hpre hagree
  refine ⟨fun c => Tail m c main_v8_0, fun c => Tail m c main_v9, ?_, ?_⟩
  · refine θ_run_mono (θ_run_and (run_results m g) (Cert.FfnFwdIdeal.Gen.frame m g (ok m))) ?_
    intro r h c
    obtain ⟨h1, h2⟩ := h.1 c
    exact ⟨h1, h2, h.2.1 c⟩
  · refine θ_run_mono (Cert.FfnFwdRefIdeal.Value.run (F := Ideal) m' g') ?_
    intro r h c
    obtain ⟨h1, h2, h3⟩ := h c
    obtain ⟨a0, a1, a2, a3⟩ := hagree c
    refine ⟨(h1.trans (Cert.FfnFwdRefIdeal.Read.val_main_v19_eq _ _ _ _)).trans ?_, (h2.trans (Cert.FfnFwdRefIdeal.Read.val_main_v13_eq _ _ _)).trans ?_, h3⟩
    · rw [a0, a1, a2, a3]; exact (rows_eq _ _ (ref_y m c)).trans (tail_y m c).symm
    · rw [a0, a1, a2]; exact (rows_eq _ _ (ref_u m c)).trans (tail_u m c).symm

end Cert.FfnFwdProof

end
-- ==== Proof.AdamMain.lean ====
/- The optimiser's call: its three result arrays are the reference's, entry by entry. -/
module

public import proofs.«01_k».proof.Defs
public import proofs.«01_k».proof.Proof.Gen.Adam.Frame
public import proofs.«01_k».proof.Proof.Gen.AdamIdeal.Frame
public import proofs.«01_k».proof.Proof.Gen.AdamRefIdeal.Run
public import proofs.«01_k».proof.Proof.Gen.AdamRefIdeal.Read
public import Idealize.ShloMosaic.Lib.Pipeline.ValueKit
public import Idealize.ShloMosaic.Lib.Pointwise
public import Idealize.ShloMosaic.Lib.KernelVsHost
public import Idealize.ShloMosaic.Lib.Claim
public import Idealize.ShloMosaic.Lib.Quiescent

@[expose] public section

set_option maxRecDepth 16384

noncomputable section

namespace Cert.AdamIdeal.Val

open Idealize.ShloMosaic Idealize.ShloMosaic.TcCoe Idealize.SL.Sem
open Idealize.ShloMosaic.Pipeline (Dat)
open Cert.AdamIdeal Cert.AdamIdeal.Gen
open Cert.AdamRefIdeal.Read

variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] :=
  (by decide +kernel : ∀ t : Fin grid0.N, _)

theorem mean_at (x1 x2 : FVec Ideal S256x1410 .f32) (X1 X2 : FVec Ideal S4096x1410 .f32) (i : S256x1410.Idx) (j : S4096x1410.Idx)
    (h1 : x1 i = X1 j) (h2 : x2 i = X2 j) : k0_pay1 (F := Ideal) x1 x2 i = val_main_v4 (F := Ideal) X1 X2 j := by
  pointwise [k0_pay1, val_main_v4, val_main_v3, val_main_v2, val_main_cst_0, val_main_v1, val_main_v0, val_main_cst]
  rw [h1, h2]
theorem square_at (x1 x3 : FVec Ideal S256x1410 .f32) (X1 X3 : FVec Ideal S4096x1410 .f32) (i : S256x1410.Idx) (j : S4096x1410.Idx)
    (h1 : x1 i = X1 j) (h3 : x3 i = X3 j) : k0_pay2 (F := Ideal) x1 x3 i = val_main_v10 (F := Ideal) X1 X3 j := by
  pointwise [k0_pay2, val_main_v10, val_main_v9, val_main_v8, val_main_cst_2, val_main_v7, val_main_v6, val_main_v5, val_main_cst_1]
  rw [h1, h3]
theorem delta_at (x0 x1 x2 x3 : FVec Ideal S256x1410 .f32) (X0 X1 X2 X3 : FVec Ideal S4096x1410 .f32) (i : S256x1410.Idx) (j : S4096x1410.Idx)
    (h0 : x0 i = X0 j) (h1 : x1 i = X1 j) (h2 : x2 i = X2 j) (h3 : x3 i = X3 j) :
    k0_pay3 (F := Ideal) x1 x2 x3 x0 i = val_main_v23 (F := Ideal) X0 X1 X2 X3 j := by
  pointwise [k0_pay3, k0_pay1, k0_pay2, val_main_v23, val_main_v22, val_main_cst_7, val_main_v21, val_main_v20, val_main_v19, val_main_cst_6, val_main_v18, val_main_v17,
    val_main_v16, val_main_cst_5, val_main_v15, val_main_v14, val_main_v13, val_main_cst_4, val_main_v12, val_main_v11, val_main_cst_3,
    val_main_v4, val_main_v3, val_main_v2, val_main_cst_0, val_main_v1, val_main_v0, val_main_cst,
    val_main_v10, val_main_v9, val_main_v8, val_main_cst_2, val_main_v7, val_main_v6, val_main_v5, val_main_cst_1]
  rw [h0, h1, h2, h3]

abbrev m0 : FVec Ideal S4096x1410 .f32 := m ((c.tc : Thread nD τ).loc main_arg0)
abbrev m1 : FVec Ideal S4096x1410 .f32 := m ((c.tc : Thread nD τ).loc main_arg1)
abbrev m2 : FVec Ideal S4096x1410 .f32 := m ((c.tc : Thread nD τ).loc main_arg2)
abbrev m3 : FVec Ideal S4096x1410 .f32 := m ((c.tc : Thread nD τ).loc main_arg3)

theorem final_delta : (dats m 0 c).arrAt 4 (cfgs 0).N = val_main_v23 (F := Ideal) (m0 m c) (m1 m c) (m2 m c) (m3 m c) := by
  refine (dats m 0 c).arrAt_eq_of_covers 4 _ (by decide +kernel) fun t _ y => ?_
  blk_simp
  rw [after0_4]; frame_out
  exact delta_at _ _ _ _ _ _ _ _ _ _ (by blk_point [iblk, V, idx t]) (by blk_point [iblk, V, idx t]) (by blk_point [iblk, V, idx t]) (by blk_point [iblk, V, idx t])
theorem final_mean : (dats m 0 c).arrAt 5 (cfgs 0).N = val_main_v4 (F := Ideal) (m1 m c) (m2 m c) := by
  refine (dats m 0 c).arrAt_eq_of_covers 5 _ (by decide +kernel) fun t _ y => ?_
  blk_simp
  rw [after0_5]; frame_out
  exact mean_at _ _ _ _ _ _ (by blk_point [iblk, V, idx t]) (by blk_point [iblk, V, idx t])
theorem final_square : (dats m 0 c).arrAt 6 (cfgs 0).N = val_main_v10 (F := Ideal) (m1 m c) (m3 m c) := by
  refine (dats m 0 c).arrAt_eq_of_covers 6 _ (by decide +kernel) fun t _ y => ?_
  blk_simp
  rw [after0_6]; frame_out
  exact square_at _ _ _ _ _ _ (by blk_point [iblk, V, idx t]) (by blk_point [iblk, V, idx t])

end Cert.AdamIdeal.Val

namespace Cert.AdamProof

open Idealize.ShloMosaic Idealize.SL.Sem

theorem frame : Cert.quiescent_Adam := fun m ρ _ => Cert.Adam.Gen.frame m ρ
theorem frame_ideal : Cert.quiescent_AdamIdeal := fun m ρ _ => Cert.AdamIdeal.Gen.frame m ρ
theorem frame_ref : Cert.quiescent_AdamRefIdeal := fun m ρ _ =>
  (θ_run Cert.AdamRefIdeal.defs _ _).mono (fun r h => ⟨fun c => (h c).2.2.2, sem_eq_zero_of_no_sems (by decide) r.2⟩)
    (Cert.AdamRefIdeal.Value.run (F := Ideal) m ρ)

theorem algebraic : Cert.algebraic_AdamIdeal_AdamRefIdeal := by
  pair_intro
  · run_from Cert.AdamIdeal.Gen.run_main m g
  · run_from Cert.AdamRefIdeal.Value.run m' g'
    · exact (Cert.AdamIdeal.Val.final_delta m c).symm
    · exact (Cert.AdamIdeal.Val.final_mean m c).symm
    · exact (Cert.AdamIdeal.Val.final_square m c).symm

end Cert.AdamProof

end
-- ==== Proof.WgradMain.lean ====
/- A weight gradient, the product over the tokens: the sum over the two token tiles is the whole sum. -/
module

public import proofs.«01_k».proof.Defs
public import proofs.«01_k».proof.Proof.Gen.Wgrad.Frame
public import proofs.«01_k».proof.Proof.Gen.WgradIdeal.Frame
public import proofs.«01_k».proof.Proof.Gen.WgradRefIdeal.Run
public import proofs.«01_k».proof.Proof.Gen.WgradRefIdeal.Read
public import Idealize.ShloMosaic.Lib.Pipeline.ValueKit
public import Idealize.ShloMosaic.Lib.Pipeline.Covers
public import Idealize.ShloMosaic.Lib.Pointwise
public import Idealize.ShloMosaic.Lib.KernelVsHost
public import Idealize.ShloMosaic.Lib.Claim
public import Idealize.ShloMosaic.Lib.Quiescent

@[expose] public section

set_option maxRecDepth 16384

noncomputable section

namespace Cert.WgradIdeal.Val

open Idealize.ShloMosaic Idealize.ShloMosaic.TcCoe Idealize.SL.Sem
open Idealize.ShloMosaic.Pipeline (Dat)
open Cert.WgradIdeal Cert.WgradIdeal.Gen
open Cert.WgradRefIdeal.Read

variable (m : (ℓ : Loc nD τ sig) → Buf (Elt Ideal) ℓ) (c : Dev nD)

abbrev mx : FVec Ideal S4096x1024 .f32 := m ((c.tc : Thread nD τ).loc main_arg0)
abbrev my : FVec Ideal S4096x4096 .f32 := m ((c.tc : Thread nD τ).loc main_arg1)
abbrev aX : S4096x1024.Idx → EReal := V m c main_v0
abbrev aY : S4096x4096.Idx → EReal := V m c main_v1

theorem v_x : V m c main_v0 = truncf (F := Ideal) .bf16 (mx m c) bitsLt_bf16_f32 := by
  entry_read
  rfl
theorem v_y : V m c main_v1 = truncf (F := Ideal) .bf16 (my m c) bitsLt_bf16_f32 := by
  entry_read
  rfl

theorem idx : ∀ t : Fin cfg0.N, win0_0.index t = ![t.val % 2, 0] ∧ win0_1.index t = ![t.val % 2, t.val / 2] ∧ win0_2.index t = ![0, t.val / 2] :=
  (by decide +kernel : ∀ t : Fin grid0.N, _)
theorem lt8 (t : Fin cfg0.N) : t.val < 8 := t.isLt.trans_le (by decide +kernel)

/-- The product of two blocks over their tokens. -/
def dp (x y : S2048x1024.Idx → EReal) (i j : Fin 1024) : EReal := ∑ k : Fin 2048, x (ix2 k i) * y (ix2 k j)
theorem pay_at (a : Vec Ideal S1024x1024 .f32) (x y : Vec Ideal S2048x1024 .bf16) (i j : Fin 1024) :
    k0_pay2 (F := Ideal) a x y (ix2 i j) = a (ix2 i j) + dp x y i j := by
  pointwise [k0_pay2]
  rfl
theorem pay_zero (i j : Fin 1024) : k0_pay1 (F := Ideal) (ix2 i j) = 0 := by
  pointwise [k0_pay1]

/-- One token's part of an entry. -/
def term (i : Fin 1024) (j : Fin 4096) (k : Fin 4096) : EReal := aX m c (ix2 k i) * aY m c (ix2 k j)

theorem blk0 (t : Fin cfg0.N) (k : Fin 2048) (i : Fin 1024) :
    (iblk m c 0 t : S2048x1024.Idx → EReal) (ix2 k i) = aX m c (ix2 ⟨t.val % 2 * 2048 + k.val, by omega⟩ i) := by
  blk_ext [iblk, idx t]
theorem blk1 (t : Fin cfg0.N) (k : Fin 2048) (j : Fin 1024) :
    (iblk m c 1 t : S2048x1024.Idx → EReal) (ix2 k j) = aY m c (ix2 ⟨t.val % 2 * 2048 + k.val, by omega⟩ ⟨t.val / 2 * 1024 + j.val, by have := lt8 t; omega⟩) := by
  blk_ext [iblk, idx t]

/-- One point's part of a block's entry. -/
def part (t : Fin cfg0.N) (y : S1024x1024.Idx) : EReal :=
  ∑ k : Fin 2048, term m c (y 0) ⟨t.val / 2 * 1024 + (y 1).val, by have := lt8 t; have : (y 1).val < 1024 := (y 1).isLt; omega⟩ ⟨t.val % 2 * 2048 + k.val, by omega⟩
theorem part_eq (t : Fin cfg0.N) (y : S1024x1024.Idx) :
    dp (iblk m c 0 t) (iblk m c 1 t) (y 0) (y 1) = part m c t y :=
  Finset.sum_congr rfl fun k _ => congrArg₂ (· * ·) (blk0 m c t k (y 0)) (blk1 m c t k (y 1))

theorem outs_A (t : Fin cfg0.N) (h : t.val % 2 = 0) (y : S1024x1024.Idx) : outsAt0 m c t.val t.isLt y = 0 + part m c t y := by
  rw [outsAt0_A m c t h, ← ix2_eta y]; frame_out
  refine (pay_at _ (iblk m c 0 t) (iblk m c 1 t) (y 0) (y 1)).trans ?_
  exact congrArg₂ _ (pay_zero (y 0) (y 1)) (part_eq m c t y)
theorem outs_B (t : Fin cfg0.N) (h : ¬t.val % 2 = 0) (y : S1024x1024.Idx) :
    outsAt0 m c t.val t.isLt y = outsAt0 m c (t.val - 1) (Nat.lt_of_le_of_lt (Nat.sub_le _ _) t.isLt) y + part m c t y := by
  rw [outsAt0_B m c t h, ← ix2_eta y]; frame_out
  refine (pay_at _ (iblk m c 0 t) (iblk m c 1 t) (y 0) (y 1)).trans ?_
  exact congrArg₂ _ rfl (part_eq m c t y)

theorem term_congr {i i' : Fin 1024} {j j' k k' : Fin 4096} (hi : i.val = i'.val) (hj : j.val = j'.val) (hk : k.val = k'.val) :
    term m c i j k = term m c i' j' k' := by
  obtain rfl := Fin.ext hi; obtain rfl := Fin.ext hj; obtain rfl := Fin.ext hk; rfl

theorem final_sum : (dats m 0 c).arrAt 2 (cfgs 0).N = fun y : S1024x4096.Idx => ∑ k : Fin 4096, term m c (y 0) (y 1) k := by
  refine (dats m 0 c).arrAt_eq_of_covers 2 _ (by decide +kernel) fun t hf y => ?_
  blk_simp
  rw [after0_2, Pipeline.eq_sum_fin_of_reset_step_apply_of_flush (fun n h => outsAt0 m c n h) 2 (fun _ => 0) _
    (fun t h y => outs_A m c t h y) (fun t h y => outs_B m c t h y) t ((flush0_2 t).mp hf) y, zero_add]
  have ht := lt8 t
  refine Fin.sum_mul_add_congr fun s k hl => ?_
  refine term_congr m c ?_ ?_ ?_
  · blk_simp [idx t]
  · show (2 * (t.val / 2) + s.val) / 2 * 1024 + (y 1).val = _
    blk_simp [idx t]
    omega
  · show (2 * (t.val / 2) + s.val) % 2 * 2048 + k.val = s.val * 2048 + k.val
    omega

theorem ref_at (i : Fin 1024) (j : Fin 4096) : val_main_v3 (F := Ideal) (mx m c) (my m c) (ix2 i j) = ∑ k : Fin 4096, my m c (ix2 k j) * mx m c (ix2 k i) := by
  pointwise [val_main_v3, val_main_v2]

theorem final : (dats m 0 c).arrAt 2 (cfgs 0).N = val_main_v3 (F := Ideal) (mx m c) (my m c) := by
  refine (final_sum m c).trans (funext fun y => ?_)
  refine Eq.trans ?_ ((ref_at m c (y 0) (y 1)).symm.trans (congrArg _ (ix2_eta y)))
  refine Finset.sum_congr rfl fun k _ => ?_
  unfold term aX aY
  rw [v_x, v_y]
  exact mul_comm _ _

end Cert.WgradIdeal.Val

namespace Cert.WgradProof

open Idealize.ShloMosaic Idealize.SL.Sem

theorem frame : Cert.quiescent_Wgrad := fun m ρ _ => Cert.Wgrad.Gen.frame m ρ
theorem frame_ideal : Cert.quiescent_WgradIdeal := fun m ρ _ => Cert.WgradIdeal.Gen.frame m ρ
theorem frame_ref : Cert.quiescent_WgradRefIdeal := fun m ρ _ =>
  (θ_run Cert.WgradRefIdeal.defs _ _).mono (fun r h => ⟨fun c => (h c).2, sem_eq_zero_of_no_sems (by decide) r.2⟩)
    (Cert.WgradRefIdeal.Value.run (F := Ideal) m ρ)

theorem algebraic : Cert.algebraic_WgradIdeal_WgradRefIdeal := by
  pair_intro
  · run_from Cert.WgradIdeal.Gen.run_main m g
  · run_from Cert.WgradRefIdeal.Value.run m' g'
    · exact (Cert.WgradIdeal.Val.final m c).symm

end Cert.WgradProof

end
-- ==== Proof.TotalMain.lean ====
/- The sum over the devices of the packed small arrays. -/
module

public import proofs.«01_k».proof.Defs
public import proofs.«01_k».proof.Proof.Gen.Total.Frame
public import proofs.«01_k».proof.Proof.Gen.TotalIdeal.Frame
public import proofs.«01_k».proof.Proof.Gen.TotalRefIdeal.Run
public import proofs.«01_k».proof.Proof.Gen.TotalRefIdeal.Read
public import Idealize.ShloMosaic.Lib.Pipeline.ValueKit
public import Idealize.ShloMosaic.Lib.Pipeline.Covers
public import Idealize.ShloMosaic.Lib.Pointwise
public import Idealize.ShloMosaic.Lib.KernelVsHost
public import Idealize.ShloMosaic.Lib.Claim
public import Idealize.ShloMosaic.Lib.Quiescent

@[expose] public section

set_option maxRecDepth 16384

noncomputable section

namespace Cert.TotalIdeal.Val

open Idealize.ShloMosaic Idealize.ShloMosaic.TcCoe Idealize.SL.Sem
open Idealize.ShloMosaic.Pipeline (Dat)
open Cert.TotalIdeal Cert.TotalIdeal.Gen
open Cert.TotalRefIdeal.Read

variable (m : (ℓ : Loc nD τ sig) → Buf (Elt Ideal) ℓ) (c : Dev nD)

abbrev mb : FVec Ideal S8x128x128 .f32 := m ((c.tc : Thread nD τ).loc main_arg0)

theorem idx : ∀ t : Fin cfg0.N, win0_0.index t = ![0, 0, 0] ∧ win0_1.index t = ![0, 0] := (by decide +kernel : ∀ t : Fin grid0.N, _)

theorem pay_at (v0 v1 v2 v3 v4 v5 v6 v7 : Vec Ideal S1x128x128 .f32) (i j : Fin 128) :
    k0_pay1 (F := Ideal) v0 v1 v2 v3 v4 v5 v6 v7 (ix2 i j)
      = v0 (ix3 0 i j) + v1 (ix3 0 i j) + v2 (ix3 0 i j) + v3 (ix3 0 i j) + v4 (ix3 0 i j) + v5 (ix3 0 i j) + v6 (ix3 0 i j) + v7 (ix3 0 i j) := by
  pointwise [k0_pay1]

theorem ref_at (x : FVec Ideal S8x128x128 .f32) (i j : Fin 128) : val_main_v0 (F := Ideal) x (ix2 i j)
    = x (ix3 0 i j) + x (ix3 1 i j) + x (ix3 2 i j) + x (ix3 3 i j) + x (ix3 4 i j) + x (ix3 5 i j) + x (ix3 6 i j) + x (ix3 7 i j) := by
  have e : val_main_v0 (F := Ideal) x (ix2 i j) = ∑ k : Fin 8, x (ix3 k i j) := by
    pointwise [val_main_v0, val_main_cst]
  rw [e, Fin.sum_univ_eight]

theorem final : (dats m 0 c).arrAt 1 (cfgs 0).N = val_main_v0 (F := Ideal) (mb m c) := by
  refine (dats m 0 c).arrAt_eq_of_covers 1 _ (by decide +kernel) fun t _ y => ?_
  blk_simp
  rw [after0_1, ← ix2_eta y]; frame_out
  refine (pay_at _ _ _ _ _ _ _ _ (y 0) (y 1)).trans ?_
  refine Eq.trans ?_ ((ref_at (mb m c) (y 0) (y 1)).symm.trans (congrArg _ ?_))
  · blk_point [iblk, V, idx t]
  · blk_point [idx t]

end Cert.TotalIdeal.Val

namespace Cert.TotalProof

open Idealize.ShloMosaic Idealize.SL.Sem

theorem frame : Cert.quiescent_Total := fun m ρ _ => Cert.Total.Gen.frame m ρ
theorem frame_ideal : Cert.quiescent_TotalIdeal := fun m ρ _ => Cert.TotalIdeal.Gen.frame m ρ
theorem frame_ref : Cert.quiescent_TotalRefIdeal := fun m ρ _ =>
  (θ_run Cert.TotalRefIdeal.defs _ _).mono (fun r h => ⟨fun c => (h c).2, sem_eq_zero_of_no_sems (by decide) r.2⟩)
    (Cert.TotalRefIdeal.Value.run (F := Ideal) m ρ)

theorem algebraic : Cert.algebraic_TotalIdeal_TotalRefIdeal := by
  pair_intro
  · run_from Cert.TotalIdeal.Gen.run_main m g
  · run_from Cert.TotalRefIdeal.Value.run m' g'
    · exact (Cert.TotalIdeal.Val.final m c).symm

end Cert.TotalProof

end
-- ==== Proof.PrepMain.lean ====
/- The input projection's weight, four shards put together in three parts. -/
module

public import proofs.«01_k».proof.Defs
public import proofs.«01_k».proof.Proof.Gen.Prep.Frame
public import proofs.«01_k».proof.Proof.Gen.PrepIdeal.Frame
public import proofs.«01_k».proof.Proof.Gen.PrepRefIdeal.Run
public import proofs.«01_k».proof.Proof.Gen.PrepRefIdeal.Read
public import Idealize.ShloMosaic.Lib.Pipeline.ValueKit
public import Idealize.ShloMosaic.Lib.Pipeline.Covers
public import Idealize.ShloMosaic.Lib.Pointwise
public import Idealize.ShloMosaic.Lib.KernelVsHost
public import Idealize.ShloMosaic.Lib.Claim
public import Idealize.ShloMosaic.Lib.Quiescent

@[expose] public section

set_option maxRecDepth 16384

noncomputable section

namespace Cert.PrepIdeal.Val

open Idealize.ShloMosaic Idealize.ShloMosaic.TcCoe Idealize.SL.Sem
open Idealize.ShloMosaic.Pipeline (Dat)
open Cert.PrepIdeal Cert.PrepIdeal.Gen
open Cert.PrepRefIdeal.Read (val_main_v0 val_main_v1 val_main_v2)

section
variable (W : Fin 5640 → EReal) (r : Fin 256)

theorem two_at (p : FVec Ideal S256x1410 .bf16) (q : FVec Ideal S256x126 .bf16) (f : Fin 1536) :
    concatenate S256x1536 1 [⟨S256x1410, p⟩, ⟨S256x126, q⟩] concatenates_S256x1410_S256x126_S256x1536_d1 (ix2 r f)
      = if h : f.val < 1410 then p (ix2 r ⟨f.val, h⟩) else q (ix2 r ⟨f.val - 1410, by omega⟩) := by
  pointwise []
theorem pad_at (p : FVec Ideal S256x8 .bf16) (q : FVec Ideal S256x120 .bf16) (f : Fin 128) :
    concatenate S256x128 1 [⟨S256x8, p⟩, ⟨S256x120, q⟩] concatenates_S256x8_S256x120_S256x128_d1 (ix2 r f)
      = if h : f.val < 8 then p (ix2 r ⟨f.val, h⟩) else q (ix2 r ⟨f.val - 8, by omega⟩) := by
  pointwise []
theorem three_at (p : FVec Ideal S256x1276 .bf16) (q s : FVec Ideal S256x1410 .bf16) (f : Fin 4096) :
    concatenate S256x4096 1 [⟨S256x1276, p⟩, ⟨S256x1410, q⟩, ⟨S256x1410, s⟩] concatenates_S256x1276_S256x1410_S256x1410_S256x4096_d1 (ix2 r f)
      = if h : f.val < 1276 then p (ix2 r ⟨f.val, h⟩) else if h' : f.val - 1276 < 1410 then q (ix2 r ⟨f.val - 1276, h'⟩)
        else s (ix2 r ⟨f.val - 1276 - 1410, by omega⟩) := by
  pointwise []

theorem pay_a (w0 w1 : Vec Ideal S1x1x256x1410 .bf16) (h0 : ∀ f : Fin 1410, w0 (ix4 0 0 r f) = W ⟨f.val, by omega⟩)
    (h1 : ∀ f : Fin 1410, w1 (ix4 0 0 r f) = W ⟨1410 + f.val, by omega⟩) (a : Fin 1536) :
    k0_pay2 (F := Ideal) w1 w0 (ix2 r a) = W ⟨a.val, by omega⟩ := by
  unfold k0_pay2 k0_pay1
  dsimp only
  rw [two_at]
  split_ifs with h
  · pointwise []
    exact h0 _
  · pointwise []
    exact (h1 _).trans (congrArg W (Fin.ext (by simp; omega)))
/-- A row of the second part: eight columns of the weight, then zeros. -/
def fcol (a : Fin 128) : EReal := if h : a.val < 8 then W ⟨1536 + a.val, by omega⟩ else 0
theorem pay_f (w1 : Vec Ideal S1x1x256x1410 .bf16) (h1 : ∀ f : Fin 1410, w1 (ix4 0 0 r f) = W ⟨1410 + f.val, by omega⟩) (a : Fin 128) :
    k0_pay3 (F := Ideal) w1 (ix2 r a) = fcol W a := by
  unfold k0_pay3 k0_pay1 fcol
  dsimp only
  rw [pad_at]
  split_ifs with h
  · pointwise []
    exact (h1 _).trans (congrArg W (Fin.ext (by simp; omega)))
  · pointwise []
theorem pay_b (w1 w2 w3 : Vec Ideal S1x1x256x1410 .bf16) (h1 : ∀ f : Fin 1410, w1 (ix4 0 0 r f) = W ⟨1410 + f.val, by omega⟩)
    (h2 : ∀ f : Fin 1410, w2 (ix4 0 0 r f) = W ⟨2820 + f.val, by omega⟩) (h3 : ∀ f : Fin 1410, w3 (ix4 0 0 r f) = W ⟨4230 + f.val, by omega⟩) (a : Fin 4096) :
    k0_pay4 (F := Ideal) w1 w2 w3 (ix2 r a) = W ⟨1544 + a.val, by omega⟩ := by
  unfold k0_pay4 k0_pay1
  dsimp only
  rw [three_at]
  split_ifs with h h'
  · pointwise []
    exact (h1 _).trans (congrArg W (Fin.ext (by simp; omega)))
  · pointwise []
    exact (h2 _).trans (congrArg W (Fin.ext (by simp; omega)))
  · pointwise []
    exact (h3 _).trans (congrArg W (Fin.ext (by simp; omega)))
end

variable (m : (ℓ : Loc nD τ sig) → Buf (Elt Ideal) ℓ) (c : Dev nD)

abbrev mw : FVec Ideal S1024x5640 .f32 := m ((c.tc : Thread nD τ).loc main_arg0)

theorem v_w : V m c main_v3 = broadcastInDim S1x4x1024x1410 ![1, 2, 3] bcast_S4x1024x1410_S1x4x1024x1410_1_2_3
    (transpose S4x1024x1410 [1, 0, 2] (shapeCast S1024x4x1410 (truncf (F := Ideal) .bf16 (mw m c) bitsLt_bf16_f32) shapeCasts_S1024x5640_S1024x4x1410) transposes_S1024x4x1410_S4x1024x1410_1_0_2) := by
  entry_read
  rfl
theorem w_at (s : Fin 4) (k : Fin 1024) (f : Fin 1410) (w : FVec Ideal S1024x5640 .f32) : (broadcastInDim S1x4x1024x1410 ![1, 2, 3] bcast_S4x1024x1410_S1x4x1024x1410_1_2_3
    (transpose S4x1024x1410 [1, 0, 2] (shapeCast S1024x4x1410 (truncf (F := Ideal) .bf16 w bitsLt_bf16_f32) shapeCasts_S1024x5640_S1024x4x1410) transposes_S1024x4x1410_S4x1024x1410_1_0_2) : S1x4x1024x1410.Idx → EReal) (ix4 0 s k f)
      = w (ix2 k ⟨s.val * 1410 + f.val, by omega⟩) := by
  pointwise

theorem idx : ∀ t : Fin cfg0.N, win0_0.index t = ![0, 0, t.val, 0] ∧ win0_1.index t = ![0, 1, t.val, 0] ∧ win0_2.index t = ![0, 2, t.val, 0]
    ∧ win0_3.index t = ![0, 3, t.val, 0] ∧ win0_4.index t = ![t.val, 0] ∧ win0_5.index t = ![t.val, 0] ∧ win0_6.index t = ![t.val, 0] :=
  (by decide +kernel : ∀ t : Fin grid0.N, _)
theorem lt4 (t : Fin cfg0.N) : t.val < 4 := t.isLt.trans_le (by decide +kernel)
/-- The row a tile's row sits at. -/
abbrev rw' (t : Fin cfg0.N) (s : Fin 256) : Fin 1024 := ⟨t.val * 256 + s.val, by have := lt4 t; omega⟩
/-- A row of the weight. -/
abbrev row (k : Fin 1024) (a : Fin 5640) : EReal := mw m c (ix2 k a)

theorem blk0 (t : Fin cfg0.N) (r : Fin 256) (f : Fin 1410) : (iblk m c 0 t : S1x1x256x1410.Idx → EReal) (ix4 0 0 r f) = row m c (rw' t r) ⟨f.val, by omega⟩ := by
  refine Eq.trans (b := V m c main_v3 (ix4 0 0 (rw' t r) f)) (by blk_ext [iblk, idx t]) ?_
  rw [v_w]; exact (w_at 0 (rw' t r) f _).trans (congrArg (row m c (rw' t r)) (Fin.ext (by simp)))
theorem blk1 (t : Fin cfg0.N) (r : Fin 256) (f : Fin 1410) : (iblk m c 1 t : S1x1x256x1410.Idx → EReal) (ix4 0 0 r f) = row m c (rw' t r) ⟨1410 + f.val, by omega⟩ := by
  refine Eq.trans (b := V m c main_v3 (ix4 0 1 (rw' t r) f)) (by blk_ext [iblk, idx t]) ?_
  rw [v_w]; exact (w_at 1 (rw' t r) f _).trans (congrArg (row m c (rw' t r)) (Fin.ext (by simp)))
theorem blk2 (t : Fin cfg0.N) (r : Fin 256) (f : Fin 1410) : (iblk m c 2 t : S1x1x256x1410.Idx → EReal) (ix4 0 0 r f) = row m c (rw' t r) ⟨2820 + f.val, by omega⟩ := by
  refine Eq.trans (b := V m c main_v3 (ix4 0 2 (rw' t r) f)) (by blk_ext [iblk, idx t]) ?_
  rw [v_w]; exact (w_at 2 (rw' t r) f _).trans (congrArg (row m c (rw' t r)) (Fin.ext (by simp)))
theorem blk3 (t : Fin cfg0.N) (r : Fin 256) (f : Fin 1410) : (iblk m c 3 t : S1x1x256x1410.Idx → EReal) (ix4 0 0 r f) = row m c (rw' t r) ⟨4230 + f.val, by omega⟩ := by
  refine Eq.trans (b := V m c main_v3 (ix4 0 3 (rw' t r) f)) (by blk_ext [iblk, idx t]) ?_
  rw [v_w]; exact (w_at 3 (rw' t r) f _).trans (congrArg (row m c (rw' t r)) (Fin.ext (by simp)))

abbrev arr (w : Fin cfg0.W) := (dats m 0 c).arrAt w (cfgs 0).N

theorem final_a : arr m c 4 = fun y : S1024x1536.Idx => row m c (y 0) ⟨(y 1).val, by have : (y 1).val < 1536 := (y 1).isLt; omega⟩ := by
  refine (dats m 0 c).arrAt_eq_of_covers 4 _ (by decide +kernel) fun t _ y => ?_
  blk_simp
  rw [after0_4, ← ix2_eta y]; frame_out
  refine (pay_a _ (y 0) (iblk m c 0 t) (iblk m c 1 t) (fun f => blk0 m c t (y 0) f) (fun f => blk1 m c t (y 0) f) (y 1)).trans ?_
  refine congrArg₂ (row m c) (Fin.ext ?_) (Fin.ext ?_) <;> (blk_simp [idx t])
theorem final_f : arr m c 5 = fun y : S1024x128.Idx => fcol (row m c (y 0)) (y 1) := by
  refine (dats m 0 c).arrAt_eq_of_covers 5 _ (by decide +kernel) fun t _ y => ?_
  blk_simp
  rw [after0_5, ← ix2_eta y]; frame_out
  refine (pay_f _ (y 0) (iblk m c 1 t) (fun f => blk1 m c t (y 0) f) (y 1)).trans ?_
  refine congrArg₂ (fun k a => fcol (row m c k) a) (Fin.ext ?_) (Fin.ext ?_) <;> (blk_simp [idx t])
theorem final_b : arr m c 6 = fun y : S1024x4096.Idx => row m c (y 0) ⟨1544 + (y 1).val, by have : (y 1).val < 4096 := (y 1).isLt; omega⟩ := by
  refine (dats m 0 c).arrAt_eq_of_covers 6 _ (by decide +kernel) fun t _ y => ?_
  blk_simp
  rw [after0_6, ← ix2_eta y]; frame_out
  refine (pay_b _ (y 0) (iblk m c 1 t) (iblk m c 2 t) (iblk m c 3 t) (fun f => blk1 m c t (y 0) f) (fun f => blk2 m c t (y 0) f) (fun f => blk3 m c t (y 0) f) (y 1)).trans ?_
  refine congrArg₂ (row m c) (Fin.ext ?_) (Fin.ext ?_) <;> (blk_simp [idx t])

abbrev endV : Valuation τ sig (Elt Ideal) := Pipeline.withArrays (cfgs 0).spec c (V0 m c) fun w => (dats m 0 c).arrAt w (cfgs 0).N
/-- A result's array is no other window's, so the region leaves it there. -/
theorem end_of (w : Fin cfg0.W) (hw : ∀ w', Pipeline.arrRef (cfgs 0).spec w' = Pipeline.arrRef (cfgs 0).spec w → w' = w) :
    endV m c (Proc.devRef .tc (Pipeline.arrRef (cfgs 0).spec w)) = arr m c w := by
  unfold endV Pipeline.withArrays
  have h : ∃ w', Proc.devRef .tc (Pipeline.arrRef (cfgs 0).spec w') = Proc.devRef (τ := τ) .tc (Pipeline.arrRef (cfgs 0).spec w) := ⟨w, rfl⟩
  rw [dif_pos h]
  have key : ∀ (w' : Fin cfg0.W) (e : Proc.devRef .tc (Pipeline.arrRef (cfgs 0).spec w') = Proc.devRef (τ := τ) .tc (Pipeline.arrRef (cfgs 0).spec w)),
      cast (congrArg (fun b' : DevRef τ sig => b'.ty.Contents (Elt Ideal)) e) (arr m c w') = arr m c w := by
    intro w' e
    obtain rfl := hw w' (Proc.devRef_injective _ e)
    rfl
  exact key h.choose h.choose_spec
theorem end_a : endV m c (Proc.devRef .tc main_v4_0) = arr m c 4 := end_of m c 4 (by decide)
theorem end_f : endV m c (Proc.devRef .tc main_v4_1) = arr m c 5 := end_of m c 5 (by decide)
theorem end_b : endV m c (Proc.devRef .tc main_v4_2) = arr m c 6 := end_of m c 6 (by decide)

theorem t_a (σ : Valuation τ sig (Elt Ideal)) : StableHlo.after hostOps1 σ (Proc.devRef .tc main_v5) = extf (F := Ideal) .f32 (σ (Proc.devRef .tc main_v4_0)) bitsLt_bf16_f32 := by
  entry_read
  rfl
theorem t_f (σ : Valuation τ sig (Elt Ideal)) : StableHlo.after hostOps1 σ (Proc.devRef .tc main_v7)
    = extf (F := Ideal) .f32 (extractStridedSlice S1024x8 ![0, 0] (σ (Proc.devRef .tc main_v4_1)) slices_S1024x128_S1024x8_0_0) bitsLt_bf16_f32 := by
  entry_read
  rfl
theorem t_b (σ : Valuation τ sig (Elt Ideal)) : StableHlo.after hostOps1 σ (Proc.devRef .tc main_v8) = extf (F := Ideal) .f32 (σ (Proc.devRef .tc main_v4_2)) bitsLt_bf16_f32 := by
  entry_read
  rfl

abbrev Tail (b : Ref sig .tc) : Buf (Elt Ideal) ((c : Thread nD τ).loc b) := Pipeline.afterTail₀ cfgs (dats m) 0 (V0 m) [hostOps1] c b

theorem ra_at (w : FVec Ideal S1024x5640 .f32) (r : Fin 1024) (a : Fin 1536) : val_main_v0 (F := Ideal) w (ix2 r a) = w (ix2 r ⟨a.val, by omega⟩) := by
  pointwise [val_main_v0]
theorem rf_at (w : FVec Ideal S1024x5640 .f32) (r : Fin 1024) (a : Fin 8) : val_main_v1 (F := Ideal) w (ix2 r a) = w (ix2 r ⟨1536 + a.val, by omega⟩) := by
  pointwise [val_main_v1]
theorem rb_at (w : FVec Ideal S1024x5640 .f32) (r : Fin 1024) (a : Fin 4096) : val_main_v2 (F := Ideal) w (ix2 r a) = w (ix2 r ⟨1544 + a.val, by omega⟩) := by
  pointwise [val_main_v2]

theorem tail_a : Tail m c main_v5 = val_main_v0 (F := Ideal) (mw m c) := by
  refine (t_a (endV m c)).trans ((congrArg (fun a => extf (F := Ideal) .f32 a bitsLt_bf16_f32) ((end_a m c).trans (final_a m c))).trans (funext fun y => ?_))
  exact (ra_at (mw m c) (y 0) (y 1)).symm.trans (congrArg _ (ix2_eta y))
theorem slice_at (v : FVec Ideal S1024x128 .bf16) (r : Fin 1024) (b : Fin 8) :
    extf (F := Ideal) .f32 (extractStridedSlice S1024x8 ![0, 0] v slices_S1024x128_S1024x8_0_0) bitsLt_bf16_f32 (ix2 r b) = v (ix2 r ⟨b.val, by omega⟩) := by
  pointwise
theorem f_row (k : Fin 1024) (b : Fin 8) : fcol (row m c k) ⟨b.val, by omega⟩ = row m c k ⟨1536 + b.val, by omega⟩ := dif_pos b.isLt
theorem tail_f : Tail m c main_v7 = val_main_v1 (F := Ideal) (mw m c) := by
  refine (t_f (endV m c)).trans ((congrArg (fun a => extf (F := Ideal) .f32 (extractStridedSlice S1024x8 ![0, 0] a slices_S1024x128_S1024x8_0_0) bitsLt_bf16_f32)
    ((end_f m c).trans (final_f m c))).trans (funext fun y => ?_))
  refine ((congrArg _ (ix2_eta y).symm).trans ((slice_at _ (y 0) (y 1)).trans (f_row m c (y 0) (y 1)))).trans ?_
  exact (rf_at (mw m c) (y 0) (y 1)).symm.trans (congrArg _ (ix2_eta y))
theorem tail_b : Tail m c main_v8 = val_main_v2 (F := Ideal) (mw m c) := by
  refine (t_b (endV m c)).trans ((congrArg (fun a => extf (F := Ideal) .f32 a bitsLt_bf16_f32) ((end_b m c).trans (final_b m c))).trans (funext fun y => ?_))
  exact (rb_at (mw m c) (y 0) (y 1)).symm.trans (congrArg _ (ix2_eta y))

end Cert.PrepIdeal.Val

namespace Cert.PrepProof

open Idealize.ShloMosaic Idealize.ShloMosaic.TcCoe Idealize.SL.Sem

theorem frame : Cert.quiescent_Prep := fun m ρ _ => Cert.Prep.Gen.frame m ρ
theorem frame_ideal : Cert.quiescent_PrepIdeal := fun m ρ _ => Cert.PrepIdeal.Gen.frame m ρ
theorem frame_ref : Cert.quiescent_PrepRefIdeal := fun m ρ _ =>
  (θ_run Cert.PrepRefIdeal.defs _ _).mono (fun r h => ⟨fun c => (h c).2.2.2, sem_eq_zero_of_no_sems (by decide) r.2⟩)
    (Cert.PrepRefIdeal.Value.run (F := Ideal) m ρ)

open Cert.PrepIdeal Cert.PrepIdeal.Gen Cert.PrepIdeal.Val in
theorem run_results (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v5) = Tail m c main_v5 ∧ r.2.mem ((c.tc : Thread nD τ).loc main_v7) = Tail m c main_v7
      ∧ r.2.mem ((c.tc : Thread nD τ).loc main_v8) = Tail m c main_v8) := by
  refine θ_run_mono (Cert.PrepIdeal.Gen.run_main m g) ?_
  intro r h c
  exact ⟨(h c).2 main_v5 (by decide : main_v5 ∈ Pipeline.restRefs sig spec0), (h c).2 main_v7 (by decide : main_v7 ∈ Pipeline.restRefs sig spec0),
    (h c).2 main_v8 (by decide : main_v8 ∈ Pipeline.restRefs sig spec0)⟩

open Cert.PrepIdeal Cert.PrepIdeal.Gen Cert.PrepIdeal.Val in
theorem algebraic : Cert.algebraic_PrepIdeal_PrepRefIdeal := by
  intro m g m' g' hpre hagree
  refine ⟨fun c => Tail m c main_v5, fun c => Tail m c main_v7, fun c => Tail m c main_v8, ?_, ?_⟩
  · refine θ_run_mono (θ_run_and (run_results m g) (Cert.PrepIdeal.Gen.frame m g)) ?_
    intro r h c
    obtain ⟨h1, h2, h3⟩ := h.1 c
    exact ⟨h1, h2, h3, h.2.1 c⟩
  · refine θ_run_mono (Cert.PrepRefIdeal.Value.run (F := Ideal) m' g') ?_
    intro r h c
    obtain ⟨h1, h2, h3, h4⟩ := h c
    have a0 := hagree c
    refine ⟨(h1.trans (Cert.PrepRefIdeal.Read.val_main_v0_eq _)).trans ?_, (h2.trans (Cert.PrepRefIdeal.Read.val_main_v1_eq _)).trans ?_,
      (h3.trans (Cert.PrepRefIdeal.Read.val_main_v2_eq _)).trans ?_, h4⟩
    · rw [a0]; exact (tail_a m c).symm
    · rw [a0]; exact (tail_f m c).symm
    · rw [a0]; exact (tail_b m c).symm

end Cert.PrepProof

end
-- ==== Proof.lean ====
module

public import proofs.«01_k».proof.Defs
public import proofs.«01_k».proof.Proof.Loss
public import proofs.«01_k».proof.Proof.InProjMain
public import proofs.«01_k».proof.Proof.FfnMain
public import proofs.«01_k».proof.Proof.PostMain
public import proofs.«01_k».proof.Proof.Attn
public import proofs.«01_k».proof.Proof.FwdMain
public import Idealize.ShloMosaic.Adequacy
public import Idealize.ShloMosaic.Init
public import proofs.«01_k».proof.Proof.Gen.InFwd
public import proofs.«01_k».proof.Proof.Gen.InFwd.Frame
public import proofs.«01_k».proof.Proof.Gen.InFwdIdeal
public import proofs.«01_k».proof.Proof.Gen.InFwdIdeal.Frame
public import proofs.«01_k».proof.Proof.Gen.InFwdRefIdeal
public import proofs.«01_k».proof.Proof.Gen.InFwdRefIdeal.Run
public import proofs.«01_k».proof.Proof.Gen.InFwdRefIdeal.Read
public import proofs.«01_k».proof.Proof.Gen.FfnFwd
public import proofs.«01_k».proof.Proof.Gen.FfnFwd.Frame
public import proofs.«01_k».proof.Proof.Gen.FfnFwdIdeal
public import proofs.«01_k».proof.Proof.Gen.FfnFwdIdeal.Frame
public import proofs.«01_k».proof.Proof.Gen.FfnFwdRefIdeal
public import proofs.«01_k».proof.Proof.Gen.FfnFwdRefIdeal.Run
public import proofs.«01_k».proof.Proof.Gen.FfnFwdRefIdeal.Read
public import proofs.«01_k».proof.Proof.Gen.Adam
public import proofs.«01_k».proof.Proof.Gen.Adam.Frame
public import proofs.«01_k».proof.Proof.Gen.AdamIdeal
public import proofs.«01_k».proof.Proof.Gen.AdamIdeal.Frame
public import proofs.«01_k».proof.Proof.Gen.AdamRefIdeal
public import proofs.«01_k».proof.Proof.Gen.AdamRefIdeal.Run
public import proofs.«01_k».proof.Proof.Gen.AdamRefIdeal.Read
public import proofs.«01_k».proof.Proof.InFwdMain
public import proofs.«01_k».proof.Proof.FfnFwdMain
public import proofs.«01_k».proof.Proof.AdamMain
public import proofs.«01_k».proof.Proof.Gen.Wgrad
public import proofs.«01_k».proof.Proof.Gen.Wgrad.Frame
public import proofs.«01_k».proof.Proof.Gen.WgradIdeal
public import proofs.«01_k».proof.Proof.Gen.WgradIdeal.Frame
public import proofs.«01_k».proof.Proof.Gen.WgradRefIdeal
public import proofs.«01_k».proof.Proof.Gen.WgradRefIdeal.Run
public import proofs.«01_k».proof.Proof.Gen.WgradRefIdeal.Read
public import proofs.«01_k».proof.Proof.Gen.Total
public import proofs.«01_k».proof.Proof.Gen.Total.Frame
public import proofs.«01_k».proof.Proof.Gen.TotalIdeal
public import proofs.«01_k».proof.Proof.Gen.TotalIdeal.Frame
public import proofs.«01_k».proof.Proof.Gen.TotalRefIdeal
public import proofs.«01_k».proof.Proof.Gen.TotalRefIdeal.Run
public import proofs.«01_k».proof.Proof.Gen.TotalRefIdeal.Read
public import proofs.«01_k».proof.Proof.Gen.Prep
public import proofs.«01_k».proof.Proof.Gen.Prep.Frame
public import proofs.«01_k».proof.Proof.Gen.PrepIdeal
public import proofs.«01_k».proof.Proof.Gen.PrepIdeal.Frame
public import proofs.«01_k».proof.Proof.Gen.PrepRefIdeal
public import proofs.«01_k».proof.Proof.Gen.PrepRefIdeal.Run
public import proofs.«01_k».proof.Proof.Gen.PrepRefIdeal.Read
public import proofs.«01_k».proof.Proof.WgradMain
public import proofs.«01_k».proof.Proof.TotalMain
public import proofs.«01_k».proof.Proof.PrepMain

@[expose] public section

/-! The claims, from the modules that prove them. -/

namespace Cert.Proof

open Idealize.ShloMosaic Idealize.SL.Sem

theorem claim : Cert.Claim :=
  ⟨Cert.Loss.Gen.facts, Cert.LossIdeal.Gen.facts, Cert.LossRefIdeal.Gen.facts, Cert.Attn.Gen.facts, Cert.AttnIdeal.Gen.facts,
    Cert.AttnRefIdeal.Gen.facts, Cert.AttnFwd.Gen.facts, Cert.AttnFwdIdeal.Gen.facts, Cert.AttnFwdRefIdeal.Gen.facts, Cert.InProj.Gen.facts, Cert.InProjIdeal.Gen.facts, Cert.InProjRefIdeal.Gen.facts,
    Cert.Ffn.Gen.facts, Cert.FfnIdeal.Gen.facts, Cert.FfnRefIdeal.Gen.facts,
    Cert.Post.Gen.facts, Cert.PostIdeal.Gen.facts, Cert.PostRefIdeal.Gen.facts,
    Cert.InFwd.Gen.facts, Cert.InFwdIdeal.Gen.facts, Cert.InFwdRefIdeal.Gen.facts,
    Cert.FfnFwd.Gen.facts, Cert.FfnFwdIdeal.Gen.facts, Cert.FfnFwdRefIdeal.Gen.facts,
    Cert.Adam.Gen.facts, Cert.AdamIdeal.Gen.facts, Cert.AdamRefIdeal.Gen.facts,
    Cert.Wgrad.Gen.facts, Cert.WgradIdeal.Gen.facts, Cert.WgradRefIdeal.Gen.facts,
    Cert.Total.Gen.facts, Cert.TotalIdeal.Gen.facts, Cert.TotalRefIdeal.Gen.facts,
    Cert.Prep.Gen.facts, Cert.PrepIdeal.Gen.facts, Cert.PrepRefIdeal.Gen.facts,
    Cert.Pre_attn_finite.Gen.facts, Cert.Pre_forward_finite.Gen.facts, Cert.Pre_inproj_finite.Gen.facts, Cert.Pre_ffn_finite.Gen.facts, Cert.Pre_post_finite.Gen.facts,
    Cert.LossProof.frame, Cert.LossProof.frame_ideal, Cert.LossProof.frame_ref,
    Cert.AttnProof.frame, Cert.AttnProof.frame_ideal, Cert.AttnProof.frame_ideal_finite, Cert.AttnProof.frame_ref, Cert.AttnProof.frame_ref_finite,
    Cert.AttnFwdProof.frame, Cert.AttnFwdProof.frame_ideal, Cert.AttnFwdProof.frame_ideal_finite, Cert.AttnFwdProof.frame_ref, Cert.AttnFwdProof.frame_ref_finite,
    Cert.InProjProof.frame, Cert.InProjProof.frame_ideal, Cert.InProjProof.frame_ideal_finite, Cert.InProjProof.frame_ref, Cert.InProjProof.frame_ref_finite,
    Cert.FfnProof.frame, Cert.FfnProof.frame_ideal, Cert.FfnProof.frame_ideal_finite, Cert.FfnProof.frame_ref, Cert.FfnProof.frame_ref_finite,
    Cert.PostProof.frame, Cert.PostProof.frame_ideal, Cert.PostProof.frame_ideal_finite, Cert.PostProof.frame_ref, Cert.PostProof.frame_ref_finite,
    Cert.InFwdProof.frame, Cert.InFwdProof.frame_ideal, Cert.InFwdProof.frame_ref,
    Cert.FfnFwdProof.frame, Cert.FfnFwdProof.frame_ideal, Cert.FfnFwdProof.frame_ref,
    Cert.AdamProof.frame, Cert.AdamProof.frame_ideal, Cert.AdamProof.frame_ref,
    Cert.WgradProof.frame, Cert.WgradProof.frame_ideal, Cert.WgradProof.frame_ref,
    Cert.TotalProof.frame, Cert.TotalProof.frame_ideal, Cert.TotalProof.frame_ref,
    Cert.PrepProof.frame, Cert.PrepProof.frame_ideal, Cert.PrepProof.frame_ref,
    trivial, Cert.LossProof.algebraic, Cert.AttnProof.mask, Cert.AttnProof.algebraic, Cert.AttnFwdProof.constants, Cert.AttnFwdProof.algebraic, trivial, Cert.InProjProof.algebraic, trivial, Cert.FfnProof.algebraic,
    Cert.PostProof.ln2, Cert.PostProof.algebraic,
    trivial, Cert.InFwdProof.algebraic, trivial, Cert.FfnFwdProof.algebraic, trivial, Cert.AdamProof.algebraic,
    trivial, Cert.WgradProof.algebraic, trivial, Cert.TotalProof.algebraic, trivial, Cert.PrepProof.algebraic⟩

end Cert.Proof
